-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096x6 : Shape := ⟨3, ![512, 4096, 6]⟩
abbrev S6 : Shape := ⟨1, ![6]⟩
abbrev S_ : Shape := ⟨0, ![]⟩
abbrev S1 : Shape := ⟨1, ![1]⟩
abbrev S2 : Shape := ⟨1, ![2]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S1x1 : Shape := ⟨2, ![1, 1]⟩
abbrev S2x1 : Shape := ⟨2, ![2, 1]⟩
abbrev S2x2 : Shape := ⟨2, ![2, 2]⟩
abbrev S512x188 : Shape := ⟨2, ![512, 188]⟩
abbrev S512x376 : Shape := ⟨2, ![512, 376]⟩
abbrev S8x64x376 : Shape := ⟨3, ![8, 64, 376]⟩
abbrev S1x188 : Shape := ⟨2, ![1, 188]⟩
abbrev S1x376 : Shape := ⟨2, ![1, 376]⟩
abbrev S512x4096 : Shape := ⟨2, ![512, 4096]⟩
abbrev S16384x128 : Shape := ⟨2, ![16384, 128]⟩
abbrev S128x128 : Shape := ⟨2, ![128, 128]⟩
abbrev S32x32 : Shape := ⟨2, ![32, 32]⟩
abbrev S1x64x376 : Shape := ⟨3, ![1, 64, 376]⟩
abbrev S2048x128 : Shape := ⟨2, ![2048, 128]⟩
abbrev S64x376 : Shape := ⟨2, ![64, 376]⟩
abbrev S1x32x1 : Shape := ⟨3, ![1, 32, 1]⟩
abbrev S1x1x128 : Shape := ⟨3, ![1, 1, 128]⟩
abbrev S64x1x376 : Shape := ⟨3, ![64, 1, 376]⟩
abbrev S64x32x376 : Shape := ⟨3, ![64, 32, 376]⟩
abbrev S1x1x376 : Shape := ⟨3, ![1, 1, 376]⟩
abbrev S64x376x1 : Shape := ⟨3, ![64, 376, 1]⟩
abbrev S64x376x128 : Shape := ⟨3, ![64, 376, 128]⟩
abbrev S64x32x128 : Shape := ⟨3, ![64, 32, 128]⟩
abbrev S64x32 : Shape := ⟨2, ![64, 32]⟩
abbrev S64x32x1 : Shape := ⟨3, ![64, 32, 1]⟩
abbrev S64x1x1 : Shape := ⟨3, ![64, 1, 1]⟩
abbrev S64x128 : Shape := ⟨2, ![64, 128]⟩
abbrev S64 : Shape := ⟨1, ![64]⟩
abbrev S512x4096x1 : Shape := ⟨3, ![512, 4096, 1]⟩
abbrev S1x1x6 : Shape := ⟨3, ![1, 1, 6]⟩

abbrev nBuf : Space → Nat
  | .hbm => 2087
  | .vmem => 10
  | .smem => 0
  | _ => 0

abbrev hbmTy0_0 (i : Nat) : BufTy := match i % 128 with
  | 0 => ⟨S512x4096x6, .f32⟩
  | 1 => ⟨S6, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S3, .i64⟩
  | 17 => ⟨S_, .i64⟩
  | 18 => ⟨S3, .i64⟩
  | 19 => ⟨S3, .i64⟩
  | 20 => ⟨S_, .i64⟩
  | 21 => ⟨S3, .i64⟩
  | 22 => ⟨S3, .i64⟩
  | 23 => ⟨S3, .i32⟩
  | 24 => ⟨S3, .i32⟩
  | 25 => ⟨S_, .i32⟩
  | 26 => ⟨S_, .i32⟩
  | 27 => ⟨S_, .i32⟩
  | 28 => ⟨S3, .i32⟩
  | 29 => ⟨S3, .i32⟩
  | 30 => ⟨S3, .i32⟩
  | 31 => ⟨S3, .i32⟩
  | 32 => ⟨S3, .i32⟩
  | 33 => ⟨S_, .i32⟩
  | 34 => ⟨S3, .i32⟩
  | 35 => ⟨S3, .i32⟩
  | 36 => ⟨S_, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S_, .i32⟩
  | 46 => ⟨S3, .i32⟩
  | 47 => ⟨S3, .i32⟩
  | 48 => ⟨S3, .i32⟩
  | 49 => ⟨S3, .i32⟩
  | 50 => ⟨S3, .i32⟩
  | 51 => ⟨S_, .i32⟩
  | 52 => ⟨S3, .i32⟩
  | 53 => ⟨S3, .i32⟩
  | 54 => ⟨S_, .i32⟩
  | 55 => ⟨S3, .i32⟩
  | 56 => ⟨S3, .i32⟩
  | 57 => ⟨S3, .i32⟩
  | 58 => ⟨S3, .i32⟩
  | 59 => ⟨S3, .i32⟩
  | 60 => ⟨S_, .i32⟩
  | 61 => ⟨S3, .i32⟩
  | 62 => ⟨S3, .i32⟩
  | 63 => ⟨S_, .i32⟩
  | 64 => ⟨S3, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S_, .i32⟩
  | 89 => ⟨S3, .i32⟩
  | 90 => ⟨S3, .i32⟩
  | 91 => ⟨S3, .i32⟩
  | 92 => ⟨S3, .i32⟩
  | 93 => ⟨S3, .i32⟩
  | 94 => ⟨S_, .i32⟩
  | 95 => ⟨S3, .i32⟩
  | 96 => ⟨S3, .i32⟩
  | 97 => ⟨S_, .i32⟩
  | 98 => ⟨S3, .i32⟩
  | 99 => ⟨S3, .i32⟩
  | 100 => ⟨S3, .i32⟩
  | 101 => ⟨S3, .i32⟩
  | 102 => ⟨S3, .i32⟩
  | 103 => ⟨S_, .i32⟩
  | 104 => ⟨S3, .i32⟩
  | 105 => ⟨S3, .i32⟩
  | 106 => ⟨S_, .i32⟩
  | 107 => ⟨S3, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S3, .i32⟩
  | 119 => ⟨S_, .i32⟩
  | 120 => ⟨S3, .i32⟩
  | 121 => ⟨S3, .i32⟩
  | 122 => ⟨S_, .i32⟩
  | 123 => ⟨S3, .i32⟩
  | 124 => ⟨S3, .i32⟩
  | 125 => ⟨S3, .i32⟩
  | 126 => ⟨S3, .i32⟩
  | 127 => ⟨S3, .i32⟩
  | _ => ⟨S512x4096x6, .f32⟩

abbrev hbmTy0_1 (i : Nat) : BufTy := match i % 128 with
  | 0 => ⟨S_, .i32⟩
  | 1 => ⟨S3, .i32⟩
  | 2 => ⟨S3, .i32⟩
  | 3 => ⟨S_, .i32⟩
  | 4 => ⟨S3, .i32⟩
  | 5 => ⟨S3, .i32⟩
  | 6 => ⟨S3, .i32⟩
  | 7 => ⟨S3, .i32⟩
  | 8 => ⟨S3, .i32⟩
  | 9 => ⟨S_, .i32⟩
  | 10 => ⟨S3, .i32⟩
  | 11 => ⟨S3, .i32⟩
  | 12 => ⟨S_, .i32⟩
  | 13 => ⟨S3, .i32⟩
  | 14 => ⟨S3, .i32⟩
  | 15 => ⟨S3, .i32⟩
  | 16 => ⟨S3, .i32⟩
  | 17 => ⟨S3, .i32⟩
  | 18 => ⟨S_, .i32⟩
  | 19 => ⟨S3, .i32⟩
  | 20 => ⟨S3, .i32⟩
  | 21 => ⟨S_, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S3, .i32⟩
  | 34 => ⟨S_, .i32⟩
  | 35 => ⟨S3, .i32⟩
  | 36 => ⟨S3, .i32⟩
  | 37 => ⟨S_, .i32⟩
  | 38 => ⟨S3, .i32⟩
  | 39 => ⟨S3, .i32⟩
  | 40 => ⟨S3, .i32⟩
  | 41 => ⟨S3, .i32⟩
  | 42 => ⟨S3, .i32⟩
  | 43 => ⟨S_, .i32⟩
  | 44 => ⟨S3, .i32⟩
  | 45 => ⟨S3, .i32⟩
  | 46 => ⟨S_, .i32⟩
  | 47 => ⟨S3, .i32⟩
  | 48 => ⟨S3, .i32⟩
  | 49 => ⟨S3, .i32⟩
  | 50 => ⟨S3, .i32⟩
  | 51 => ⟨S3, .i32⟩
  | 52 => ⟨S_, .i32⟩
  | 53 => ⟨S3, .i32⟩
  | 54 => ⟨S3, .i32⟩
  | 55 => ⟨S_, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S3, .i32⟩
  | 63 => ⟨S3, .i32⟩
  | 64 => ⟨S_, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S3, .i32⟩
  | 77 => ⟨S_, .i32⟩
  | 78 => ⟨S3, .i32⟩
  | 79 => ⟨S3, .i32⟩
  | 80 => ⟨S_, .i32⟩
  | 81 => ⟨S3, .i32⟩
  | 82 => ⟨S3, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S_, .i32⟩
  | 90 => ⟨S3, .i32⟩
  | 91 => ⟨S3, .i32⟩
  | 92 => ⟨S3, .i32⟩
  | 93 => ⟨S3, .i32⟩
  | 94 => ⟨S3, .i32⟩
  | 95 => ⟨S_, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S_, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S3x1, .i32⟩
  | 120 => ⟨S3x1, .i32⟩
  | 121 => ⟨S3x2, .i32⟩
  | 122 => ⟨S1x2, .i32⟩
  | 123 => ⟨S2, .i32⟩
  | 124 => ⟨S1x2, .i32⟩
  | 125 => ⟨S2, .i32⟩
  | 126 => ⟨S1x2, .i32⟩
  | 127 => ⟨S2, .i32⟩
  | _ => ⟨S512x4096x6, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S1x1, .i32⟩
  | 19 => ⟨S1x1, .i32⟩
  | 20 => ⟨S1, .i32⟩
  | 21 => ⟨S_, .i32⟩
  | 22 => ⟨S1, .i32⟩
  | 23 => ⟨S_, .i32⟩
  | 24 => ⟨S2, .i64⟩
  | 25 => ⟨S_, .i64⟩
  | 26 => ⟨S2, .i64⟩
  | 27 => ⟨S2, .i64⟩
  | 28 => ⟨S_, .i64⟩
  | 29 => ⟨S2, .i64⟩
  | 30 => ⟨S2, .i64⟩
  | 31 => ⟨S2, .i32⟩
  | 32 => ⟨S2, .i32⟩
  | 33 => ⟨S_, .i32⟩
  | 34 => ⟨S_, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S_, .i32⟩
  | _ => ⟨S512x4096x6, .f32⟩

abbrev hbmTy0_3 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S2x1, .i32⟩
  | _ => ⟨S512x4096x6, .f32⟩

abbrev hbmTy0_4 (i : Nat) : BufTy := match i % 128 with
  | 0 => ⟨S2x1, .i32⟩
  | 1 => ⟨S2x2, .i32⟩
  | 2 => ⟨S1x2, .i32⟩
  | 3 => ⟨S2, .i32⟩
  | 4 => ⟨S1x2, .i32⟩
  | 5 => ⟨S2, .i32⟩
  | 6 => ⟨S1, .i32⟩
  | 7 => ⟨S_, .i32⟩
  | 8 => ⟨S1, .i32⟩
  | 9 => ⟨S_, .i32⟩
  | 10 => ⟨S512x188, .i64⟩
  | 11 => ⟨S512x188, .i64⟩
  | 12 => ⟨S_, .i64⟩
  | 13 => ⟨S512x188, .i64⟩
  | 14 => ⟨S512x188, .i64⟩
  | 15 => ⟨S_, .i64⟩
  | 16 => ⟨S512x188, .i64⟩
  | 17 => ⟨S512x188, .i64⟩
  | 18 => ⟨S512x188, .i64⟩
  | 19 => ⟨S_, .i64⟩
  | 20 => ⟨S512x188, .i64⟩
  | 21 => ⟨S512x188, .i64⟩
  | 22 => ⟨S512x188, .i32⟩
  | 23 => ⟨S512x188, .i32⟩
  | 24 => ⟨S_, .i32⟩
  | 25 => ⟨S_, .i32⟩
  | 26 => ⟨S_, .i32⟩
  | 27 => ⟨S512x188, .i32⟩
  | 28 => ⟨S512x188, .i32⟩
  | 29 => ⟨S512x188, .i32⟩
  | 30 => ⟨S512x188, .i32⟩
  | 31 => ⟨S512x188, .i32⟩
  | 32 => ⟨S_, .i32⟩
  | 33 => ⟨S512x188, .i32⟩
  | 34 => ⟨S512x188, .i32⟩
  | 35 => ⟨S_, .i32⟩
  | 36 => ⟨S512x188, .i32⟩
  | 37 => ⟨S512x188, .i32⟩
  | 38 => ⟨S512x188, .i32⟩
  | 39 => ⟨S512x188, .i32⟩
  | 40 => ⟨S512x188, .i32⟩
  | 41 => ⟨S_, .i32⟩
  | 42 => ⟨S512x188, .i32⟩
  | 43 => ⟨S512x188, .i32⟩
  | 44 => ⟨S_, .i32⟩
  | 45 => ⟨S512x188, .i32⟩
  | 46 => ⟨S512x188, .i32⟩
  | 47 => ⟨S512x188, .i32⟩
  | 48 => ⟨S512x188, .i32⟩
  | 49 => ⟨S512x188, .i32⟩
  | 50 => ⟨S_, .i32⟩
  | 51 => ⟨S512x188, .i32⟩
  | 52 => ⟨S512x188, .i32⟩
  | 53 => ⟨S_, .i32⟩
  | 54 => ⟨S512x188, .i32⟩
  | 55 => ⟨S512x188, .i32⟩
  | 56 => ⟨S512x188, .i32⟩
  | 57 => ⟨S512x188, .i32⟩
  | 58 => ⟨S512x188, .i32⟩
  | 59 => ⟨S_, .i32⟩
  | 60 => ⟨S512x188, .i32⟩
  | 61 => ⟨S512x188, .i32⟩
  | 62 => ⟨S_, .i32⟩
  | 63 => ⟨S512x188, .i32⟩
  | 64 => ⟨S512x188, .i32⟩
  | 65 => ⟨S512x188, .i32⟩
  | 66 => ⟨S512x188, .i32⟩
  | 67 => ⟨S512x188, .i32⟩
  | 68 => ⟨S512x188, .i32⟩
  | 69 => ⟨S512x188, .i32⟩
  | 70 => ⟨S512x188, .i32⟩
  | 71 => ⟨S_, .i32⟩
  | 72 => ⟨S512x188, .i32⟩
  | 73 => ⟨S512x188, .i32⟩
  | 74 => ⟨S512x188, .i32⟩
  | 75 => ⟨S_, .i32⟩
  | 76 => ⟨S512x188, .i32⟩
  | 77 => ⟨S512x188, .i32⟩
  | 78 => ⟨S_, .i32⟩
  | 79 => ⟨S512x188, .i32⟩
  | 80 => ⟨S512x188, .i32⟩
  | 81 => ⟨S512x188, .i32⟩
  | 82 => ⟨S512x188, .i32⟩
  | 83 => ⟨S512x188, .i32⟩
  | 84 => ⟨S_, .i32⟩
  | 85 => ⟨S512x188, .i32⟩
  | 86 => ⟨S512x188, .i32⟩
  | 87 => ⟨S_, .i32⟩
  | 88 => ⟨S512x188, .i32⟩
  | 89 => ⟨S512x188, .i32⟩
  | 90 => ⟨S512x188, .i32⟩
  | 91 => ⟨S512x188, .i32⟩
  | 92 => ⟨S512x188, .i32⟩
  | 93 => ⟨S_, .i32⟩
  | 94 => ⟨S512x188, .i32⟩
  | 95 => ⟨S512x188, .i32⟩
  | 96 => ⟨S_, .i32⟩
  | 97 => ⟨S512x188, .i32⟩
  | 98 => ⟨S512x188, .i32⟩
  | 99 => ⟨S512x188, .i32⟩
  | 100 => ⟨S512x188, .i32⟩
  | 101 => ⟨S512x188, .i32⟩
  | 102 => ⟨S_, .i32⟩
  | 103 => ⟨S512x188, .i32⟩
  | 104 => ⟨S512x188, .i32⟩
  | 105 => ⟨S_, .i32⟩
  | 106 => ⟨S512x188, .i32⟩
  | 107 => ⟨S512x188, .i32⟩
  | 108 => ⟨S512x188, .i32⟩
  | 109 => ⟨S512x188, .i32⟩
  | 110 => ⟨S512x188, .i32⟩
  | 111 => ⟨S512x188, .i32⟩
  | 112 => ⟨S512x188, .i32⟩
  | 113 => ⟨S512x188, .i32⟩
  | 114 => ⟨S_, .i32⟩
  | 115 => ⟨S512x188, .i32⟩
  | 116 => ⟨S512x188, .i32⟩
  | 117 => ⟨S512x188, .i32⟩
  | 118 => ⟨S_, .i32⟩
  | 119 => ⟨S512x188, .i32⟩
  | 120 => ⟨S512x188, .i32⟩
  | 121 => ⟨S_, .i32⟩
  | 122 => ⟨S512x188, .i32⟩
  | 123 => ⟨S512x188, .i32⟩
  | 124 => ⟨S512x188, .i32⟩
  | 125 => ⟨S512x188, .i32⟩
  | 126 => ⟨S512x188, .i32⟩
  | 127 => ⟨S_, .i32⟩
  | _ => ⟨S512x4096x6, .f32⟩

abbrev hbmTy0_5 (i : Nat) : BufTy := match i % 128 with
  | 0 => ⟨S512x188, .i32⟩
  | 1 => ⟨S512x188, .i32⟩
  | 2 => ⟨S_, .i32⟩
  | 3 => ⟨S512x188, .i32⟩
  | 4 => ⟨S512x188, .i32⟩
  | 5 => ⟨S512x188, .i32⟩
  | 6 => ⟨S512x188, .i32⟩
  | 7 => ⟨S512x188, .i32⟩
  | 8 => ⟨S_, .i32⟩
  | 9 => ⟨S512x188, .i32⟩
  | 10 => ⟨S512x188, .i32⟩
  | 11 => ⟨S_, .i32⟩
  | 12 => ⟨S512x188, .i32⟩
  | 13 => ⟨S512x188, .i32⟩
  | 14 => ⟨S512x188, .i32⟩
  | 15 => ⟨S512x188, .i32⟩
  | 16 => ⟨S512x188, .i32⟩
  | 17 => ⟨S_, .i32⟩
  | 18 => ⟨S512x188, .i32⟩
  | 19 => ⟨S512x188, .i32⟩
  | 20 => ⟨S_, .i32⟩
  | 21 => ⟨S512x188, .i32⟩
  | 22 => ⟨S512x188, .i32⟩
  | 23 => ⟨S512x188, .i32⟩
  | 24 => ⟨S512x188, .i32⟩
  | 25 => ⟨S512x188, .i32⟩
  | 26 => ⟨S512x188, .i32⟩
  | 27 => ⟨S512x188, .i32⟩
  | 28 => ⟨S512x188, .i32⟩
  | 29 => ⟨S_, .i32⟩
  | 30 => ⟨S512x188, .i32⟩
  | 31 => ⟨S512x188, .i32⟩
  | 32 => ⟨S512x188, .i32⟩
  | 33 => ⟨S_, .i32⟩
  | 34 => ⟨S512x188, .i32⟩
  | 35 => ⟨S512x188, .i32⟩
  | 36 => ⟨S_, .i32⟩
  | 37 => ⟨S512x188, .i32⟩
  | 38 => ⟨S512x188, .i32⟩
  | 39 => ⟨S512x188, .i32⟩
  | 40 => ⟨S512x188, .i32⟩
  | 41 => ⟨S512x188, .i32⟩
  | 42 => ⟨S_, .i32⟩
  | 43 => ⟨S512x188, .i32⟩
  | 44 => ⟨S512x188, .i32⟩
  | 45 => ⟨S_, .i32⟩
  | 46 => ⟨S512x188, .i32⟩
  | 47 => ⟨S512x188, .i32⟩
  | 48 => ⟨S512x188, .i32⟩
  | 49 => ⟨S512x188, .i32⟩
  | 50 => ⟨S512x188, .i32⟩
  | 51 => ⟨S_, .i32⟩
  | 52 => ⟨S512x188, .i32⟩
  | 53 => ⟨S512x188, .i32⟩
  | 54 => ⟨S_, .i32⟩
  | 55 => ⟨S512x188, .i32⟩
  | 56 => ⟨S512x188, .i32⟩
  | 57 => ⟨S512x188, .i32⟩
  | 58 => ⟨S512x188, .i32⟩
  | 59 => ⟨S512x188, .i32⟩
  | 60 => ⟨S_, .i32⟩
  | 61 => ⟨S512x188, .i32⟩
  | 62 => ⟨S512x188, .i32⟩
  | 63 => ⟨S_, .i32⟩
  | 64 => ⟨S512x188, .i32⟩
  | 65 => ⟨S512x188, .i32⟩
  | 66 => ⟨S512x188, .i32⟩
  | 67 => ⟨S512x188, .i32⟩
  | 68 => ⟨S512x188, .i32⟩
  | 69 => ⟨S512x188, .i32⟩
  | 70 => ⟨S512x188, .i32⟩
  | 71 => ⟨S512x188, .i32⟩
  | 72 => ⟨S_, .i32⟩
  | 73 => ⟨S512x188, .i32⟩
  | 74 => ⟨S512x188, .i32⟩
  | 75 => ⟨S512x188, .i32⟩
  | 76 => ⟨S_, .i32⟩
  | 77 => ⟨S512x188, .i32⟩
  | 78 => ⟨S512x188, .i32⟩
  | 79 => ⟨S_, .i32⟩
  | 80 => ⟨S512x188, .i32⟩
  | 81 => ⟨S512x188, .i32⟩
  | 82 => ⟨S512x188, .i32⟩
  | 83 => ⟨S512x188, .i32⟩
  | 84 => ⟨S512x188, .i32⟩
  | 85 => ⟨S_, .i32⟩
  | 86 => ⟨S512x188, .i32⟩
  | 87 => ⟨S512x188, .i32⟩
  | 88 => ⟨S_, .i32⟩
  | 89 => ⟨S512x188, .i32⟩
  | 90 => ⟨S512x188, .i32⟩
  | 91 => ⟨S512x188, .i32⟩
  | 92 => ⟨S512x188, .i32⟩
  | 93 => ⟨S512x188, .i32⟩
  | 94 => ⟨S_, .i32⟩
  | 95 => ⟨S512x188, .i32⟩
  | 96 => ⟨S512x188, .i32⟩
  | 97 => ⟨S_, .i32⟩
  | 98 => ⟨S512x188, .i32⟩
  | 99 => ⟨S512x188, .i32⟩
  | 100 => ⟨S512x188, .i32⟩
  | 101 => ⟨S512x188, .i32⟩
  | 102 => ⟨S512x188, .i32⟩
  | 103 => ⟨S_, .i32⟩
  | 104 => ⟨S512x188, .i32⟩
  | 105 => ⟨S512x188, .i32⟩
  | 106 => ⟨S_, .i32⟩
  | 107 => ⟨S512x188, .i32⟩
  | 108 => ⟨S512x188, .i32⟩
  | 109 => ⟨S512x188, .i32⟩
  | 110 => ⟨S512x188, .i32⟩
  | 111 => ⟨S512x188, .i32⟩
  | 112 => ⟨S512x188, .i32⟩
  | 113 => ⟨S512x188, .i32⟩
  | 114 => ⟨S512x188, .i32⟩
  | 115 => ⟨S_, .i32⟩
  | 116 => ⟨S512x188, .i32⟩
  | 117 => ⟨S512x188, .i32⟩
  | 118 => ⟨S512x188, .i32⟩
  | 119 => ⟨S1, .i32⟩
  | 120 => ⟨S_, .i32⟩
  | 121 => ⟨S1, .i32⟩
  | 122 => ⟨S_, .i32⟩
  | 123 => ⟨S512x188, .i64⟩
  | 124 => ⟨S512x188, .i64⟩
  | 125 => ⟨S_, .i64⟩
  | 126 => ⟨S512x188, .i64⟩
  | 127 => ⟨S512x188, .i64⟩
  | _ => ⟨S512x4096x6, .f32⟩

abbrev hbmTy0_6 (i : Nat) : BufTy := match i % 128 with
  | 0 => ⟨S_, .i64⟩
  | 1 => ⟨S512x188, .i64⟩
  | 2 => ⟨S512x188, .i64⟩
  | 3 => ⟨S512x188, .i64⟩
  | 4 => ⟨S_, .i64⟩
  | 5 => ⟨S512x188, .i64⟩
  | 6 => ⟨S512x188, .i64⟩
  | 7 => ⟨S512x188, .i32⟩
  | 8 => ⟨S512x188, .i32⟩
  | 9 => ⟨S_, .i32⟩
  | 10 => ⟨S_, .i32⟩
  | 11 => ⟨S_, .i32⟩
  | 12 => ⟨S512x188, .i32⟩
  | 13 => ⟨S512x188, .i32⟩
  | 14 => ⟨S512x188, .i32⟩
  | 15 => ⟨S512x188, .i32⟩
  | 16 => ⟨S512x188, .i32⟩
  | 17 => ⟨S_, .i32⟩
  | 18 => ⟨S512x188, .i32⟩
  | 19 => ⟨S512x188, .i32⟩
  | 20 => ⟨S_, .i32⟩
  | 21 => ⟨S512x188, .i32⟩
  | 22 => ⟨S512x188, .i32⟩
  | 23 => ⟨S512x188, .i32⟩
  | 24 => ⟨S512x188, .i32⟩
  | 25 => ⟨S512x188, .i32⟩
  | 26 => ⟨S_, .i32⟩
  | 27 => ⟨S512x188, .i32⟩
  | 28 => ⟨S512x188, .i32⟩
  | 29 => ⟨S_, .i32⟩
  | 30 => ⟨S512x188, .i32⟩
  | 31 => ⟨S512x188, .i32⟩
  | 32 => ⟨S512x188, .i32⟩
  | 33 => ⟨S512x188, .i32⟩
  | 34 => ⟨S512x188, .i32⟩
  | 35 => ⟨S_, .i32⟩
  | 36 => ⟨S512x188, .i32⟩
  | 37 => ⟨S512x188, .i32⟩
  | 38 => ⟨S_, .i32⟩
  | 39 => ⟨S512x188, .i32⟩
  | 40 => ⟨S512x188, .i32⟩
  | 41 => ⟨S512x188, .i32⟩
  | 42 => ⟨S512x188, .i32⟩
  | 43 => ⟨S512x188, .i32⟩
  | 44 => ⟨S_, .i32⟩
  | 45 => ⟨S512x188, .i32⟩
  | 46 => ⟨S512x188, .i32⟩
  | 47 => ⟨S_, .i32⟩
  | 48 => ⟨S512x188, .i32⟩
  | 49 => ⟨S512x188, .i32⟩
  | 50 => ⟨S512x188, .i32⟩
  | 51 => ⟨S512x188, .i32⟩
  | 52 => ⟨S512x188, .i32⟩
  | 53 => ⟨S512x188, .i32⟩
  | 54 => ⟨S512x188, .i32⟩
  | 55 => ⟨S512x188, .i32⟩
  | 56 => ⟨S_, .i32⟩
  | 57 => ⟨S512x188, .i32⟩
  | 58 => ⟨S512x188, .i32⟩
  | 59 => ⟨S512x188, .i32⟩
  | 60 => ⟨S_, .i32⟩
  | 61 => ⟨S512x188, .i32⟩
  | 62 => ⟨S512x188, .i32⟩
  | 63 => ⟨S_, .i32⟩
  | 64 => ⟨S512x188, .i32⟩
  | 65 => ⟨S512x188, .i32⟩
  | 66 => ⟨S512x188, .i32⟩
  | 67 => ⟨S512x188, .i32⟩
  | 68 => ⟨S512x188, .i32⟩
  | 69 => ⟨S_, .i32⟩
  | 70 => ⟨S512x188, .i32⟩
  | 71 => ⟨S512x188, .i32⟩
  | 72 => ⟨S_, .i32⟩
  | 73 => ⟨S512x188, .i32⟩
  | 74 => ⟨S512x188, .i32⟩
  | 75 => ⟨S512x188, .i32⟩
  | 76 => ⟨S512x188, .i32⟩
  | 77 => ⟨S512x188, .i32⟩
  | 78 => ⟨S_, .i32⟩
  | 79 => ⟨S512x188, .i32⟩
  | 80 => ⟨S512x188, .i32⟩
  | 81 => ⟨S_, .i32⟩
  | 82 => ⟨S512x188, .i32⟩
  | 83 => ⟨S512x188, .i32⟩
  | 84 => ⟨S512x188, .i32⟩
  | 85 => ⟨S512x188, .i32⟩
  | 86 => ⟨S512x188, .i32⟩
  | 87 => ⟨S_, .i32⟩
  | 88 => ⟨S512x188, .i32⟩
  | 89 => ⟨S512x188, .i32⟩
  | 90 => ⟨S_, .i32⟩
  | 91 => ⟨S512x188, .i32⟩
  | 92 => ⟨S512x188, .i32⟩
  | 93 => ⟨S512x188, .i32⟩
  | 94 => ⟨S512x188, .i32⟩
  | 95 => ⟨S512x188, .i32⟩
  | 96 => ⟨S512x188, .i32⟩
  | 97 => ⟨S512x188, .i32⟩
  | 98 => ⟨S512x188, .i32⟩
  | 99 => ⟨S_, .i32⟩
  | 100 => ⟨S512x188, .i32⟩
  | 101 => ⟨S512x188, .i32⟩
  | 102 => ⟨S512x188, .i32⟩
  | 103 => ⟨S_, .i32⟩
  | 104 => ⟨S512x188, .i32⟩
  | 105 => ⟨S512x188, .i32⟩
  | 106 => ⟨S_, .i32⟩
  | 107 => ⟨S512x188, .i32⟩
  | 108 => ⟨S512x188, .i32⟩
  | 109 => ⟨S512x188, .i32⟩
  | 110 => ⟨S512x188, .i32⟩
  | 111 => ⟨S512x188, .i32⟩
  | 112 => ⟨S_, .i32⟩
  | 113 => ⟨S512x188, .i32⟩
  | 114 => ⟨S512x188, .i32⟩
  | 115 => ⟨S_, .i32⟩
  | 116 => ⟨S512x188, .i32⟩
  | 117 => ⟨S512x188, .i32⟩
  | 118 => ⟨S512x188, .i32⟩
  | 119 => ⟨S512x188, .i32⟩
  | 120 => ⟨S512x188, .i32⟩
  | 121 => ⟨S_, .i32⟩
  | 122 => ⟨S512x188, .i32⟩
  | 123 => ⟨S512x188, .i32⟩
  | 124 => ⟨S_, .i32⟩
  | 125 => ⟨S512x188, .i32⟩
  | 126 => ⟨S512x188, .i32⟩
  | 127 => ⟨S512x188, .i32⟩
  | _ => ⟨S512x4096x6, .f32⟩

abbrev hbmTy0_7 (i : Nat) : BufTy := match i % 128 with
  | 0 => ⟨S512x188, .i32⟩
  | 1 => ⟨S512x188, .i32⟩
  | 2 => ⟨S_, .i32⟩
  | 3 => ⟨S512x188, .i32⟩
  | 4 => ⟨S512x188, .i32⟩
  | 5 => ⟨S_, .i32⟩
  | 6 => ⟨S512x188, .i32⟩
  | 7 => ⟨S512x188, .i32⟩
  | 8 => ⟨S512x188, .i32⟩
  | 9 => ⟨S512x188, .i32⟩
  | 10 => ⟨S512x188, .i32⟩
  | 11 => ⟨S512x188, .i32⟩
  | 12 => ⟨S512x188, .i32⟩
  | 13 => ⟨S512x188, .i32⟩
  | 14 => ⟨S_, .i32⟩
  | 15 => ⟨S512x188, .i32⟩
  | 16 => ⟨S512x188, .i32⟩
  | 17 => ⟨S512x188, .i32⟩
  | 18 => ⟨S_, .i32⟩
  | 19 => ⟨S512x188, .i32⟩
  | 20 => ⟨S512x188, .i32⟩
  | 21 => ⟨S_, .i32⟩
  | 22 => ⟨S512x188, .i32⟩
  | 23 => ⟨S512x188, .i32⟩
  | 24 => ⟨S512x188, .i32⟩
  | 25 => ⟨S512x188, .i32⟩
  | 26 => ⟨S512x188, .i32⟩
  | 27 => ⟨S_, .i32⟩
  | 28 => ⟨S512x188, .i32⟩
  | 29 => ⟨S512x188, .i32⟩
  | 30 => ⟨S_, .i32⟩
  | 31 => ⟨S512x188, .i32⟩
  | 32 => ⟨S512x188, .i32⟩
  | 33 => ⟨S512x188, .i32⟩
  | 34 => ⟨S512x188, .i32⟩
  | 35 => ⟨S512x188, .i32⟩
  | 36 => ⟨S_, .i32⟩
  | 37 => ⟨S512x188, .i32⟩
  | 38 => ⟨S512x188, .i32⟩
  | 39 => ⟨S_, .i32⟩
  | 40 => ⟨S512x188, .i32⟩
  | 41 => ⟨S512x188, .i32⟩
  | 42 => ⟨S512x188, .i32⟩
  | 43 => ⟨S512x188, .i32⟩
  | 44 => ⟨S512x188, .i32⟩
  | 45 => ⟨S_, .i32⟩
  | 46 => ⟨S512x188, .i32⟩
  | 47 => ⟨S512x188, .i32⟩
  | 48 => ⟨S_, .i32⟩
  | 49 => ⟨S512x188, .i32⟩
  | 50 => ⟨S512x188, .i32⟩
  | 51 => ⟨S512x188, .i32⟩
  | 52 => ⟨S512x188, .i32⟩
  | 53 => ⟨S512x188, .i32⟩
  | 54 => ⟨S512x188, .i32⟩
  | 55 => ⟨S512x188, .i32⟩
  | 56 => ⟨S512x188, .i32⟩
  | 57 => ⟨S_, .i32⟩
  | 58 => ⟨S512x188, .i32⟩
  | 59 => ⟨S512x188, .i32⟩
  | 60 => ⟨S512x188, .i32⟩
  | 61 => ⟨S_, .i32⟩
  | 62 => ⟨S512x188, .i32⟩
  | 63 => ⟨S512x188, .i32⟩
  | 64 => ⟨S_, .i32⟩
  | 65 => ⟨S512x188, .i32⟩
  | 66 => ⟨S512x188, .i32⟩
  | 67 => ⟨S512x188, .i32⟩
  | 68 => ⟨S512x188, .i32⟩
  | 69 => ⟨S512x188, .i32⟩
  | 70 => ⟨S_, .i32⟩
  | 71 => ⟨S512x188, .i32⟩
  | 72 => ⟨S512x188, .i32⟩
  | 73 => ⟨S_, .i32⟩
  | 74 => ⟨S512x188, .i32⟩
  | 75 => ⟨S512x188, .i32⟩
  | 76 => ⟨S512x188, .i32⟩
  | 77 => ⟨S512x188, .i32⟩
  | 78 => ⟨S512x188, .i32⟩
  | 79 => ⟨S_, .i32⟩
  | 80 => ⟨S512x188, .i32⟩
  | 81 => ⟨S512x188, .i32⟩
  | 82 => ⟨S_, .i32⟩
  | 83 => ⟨S512x188, .i32⟩
  | 84 => ⟨S512x188, .i32⟩
  | 85 => ⟨S512x188, .i32⟩
  | 86 => ⟨S512x188, .i32⟩
  | 87 => ⟨S512x188, .i32⟩
  | 88 => ⟨S_, .i32⟩
  | 89 => ⟨S512x188, .i32⟩
  | 90 => ⟨S512x188, .i32⟩
  | 91 => ⟨S_, .i32⟩
  | 92 => ⟨S512x188, .i32⟩
  | 93 => ⟨S512x188, .i32⟩
  | 94 => ⟨S512x188, .i32⟩
  | 95 => ⟨S512x188, .i32⟩
  | 96 => ⟨S512x188, .i32⟩
  | 97 => ⟨S512x188, .i32⟩
  | 98 => ⟨S512x188, .i32⟩
  | 99 => ⟨S512x188, .i32⟩
  | 100 => ⟨S_, .i32⟩
  | 101 => ⟨S512x188, .i32⟩
  | 102 => ⟨S512x188, .i32⟩
  | 103 => ⟨S512x188, .i32⟩
  | 104 => ⟨S1x1, .i32⟩
  | 105 => ⟨S1x1, .i32⟩
  | 106 => ⟨S1x1, .i1⟩
  | 107 => ⟨S_, .i32⟩
  | 108 => ⟨S1x1, .i32⟩
  | 109 => ⟨S1x1, .i32⟩
  | 110 => ⟨S1x1, .i1⟩
  | 111 => ⟨S1x1, .i1⟩
  | 112 => ⟨S1x1, .i1⟩
  | 113 => ⟨S_, .i32⟩
  | 114 => ⟨S1x1, .i32⟩
  | 115 => ⟨S1x1, .i32⟩
  | 116 => ⟨S1x1, .i32⟩
  | 117 => ⟨S_, .i32⟩
  | 118 => ⟨S1x1, .i32⟩
  | 119 => ⟨S1x1, .i32⟩
  | 120 => ⟨S1x1, .i32⟩
  | 121 => ⟨S1x1, .i32⟩
  | 122 => ⟨S512x188, .i32⟩
  | 123 => ⟨S512x188, .i32⟩
  | 124 => ⟨S512x188, .i32⟩
  | 125 => ⟨S512x188, .i32⟩
  | 126 => ⟨S512x188, .i32⟩
  | 127 => ⟨S512x188, .i32⟩
  | _ => ⟨S512x4096x6, .f32⟩

abbrev hbmTy0_8 (i : Nat) : BufTy := match i % 128 with
  | 0 => ⟨S512x188, .i32⟩
  | 1 => ⟨S512x188, .i32⟩
  | 2 => ⟨S512x188, .i32⟩
  | 3 => ⟨S512x188, .i32⟩
  | 4 => ⟨S512x188, .i32⟩
  | 5 => ⟨S512x188, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S1x1, .i32⟩
  | 25 => ⟨S1x1, .i32⟩
  | 26 => ⟨S1, .i32⟩
  | 27 => ⟨S_, .i32⟩
  | 28 => ⟨S1, .i32⟩
  | 29 => ⟨S_, .i32⟩
  | 30 => ⟨S2, .i64⟩
  | 31 => ⟨S_, .i64⟩
  | 32 => ⟨S2, .i64⟩
  | 33 => ⟨S2, .i64⟩
  | 34 => ⟨S_, .i64⟩
  | 35 => ⟨S2, .i64⟩
  | 36 => ⟨S2, .i64⟩
  | 37 => ⟨S2, .i32⟩
  | 38 => ⟨S2, .i32⟩
  | 39 => ⟨S_, .i32⟩
  | 40 => ⟨S_, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S512x4096x6, .f32⟩

abbrev hbmTy0_9 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S512x4096x6, .f32⟩

abbrev hbmTy0_10 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2x1, .i32⟩
  | 6 => ⟨S2x1, .i32⟩
  | 7 => ⟨S2x2, .i32⟩
  | 8 => ⟨S1x2, .i32⟩
  | 9 => ⟨S2, .i32⟩
  | 10 => ⟨S1x2, .i32⟩
  | 11 => ⟨S2, .i32⟩
  | 12 => ⟨S1, .i32⟩
  | 13 => ⟨S_, .i32⟩
  | 14 => ⟨S1, .i32⟩
  | 15 => ⟨S_, .i32⟩
  | 16 => ⟨S512x188, .i64⟩
  | 17 => ⟨S512x188, .i64⟩
  | 18 => ⟨S_, .i64⟩
  | 19 => ⟨S512x188, .i64⟩
  | 20 => ⟨S512x188, .i64⟩
  | 21 => ⟨S_, .i64⟩
  | 22 => ⟨S512x188, .i64⟩
  | 23 => ⟨S512x188, .i64⟩
  | 24 => ⟨S512x188, .i64⟩
  | 25 => ⟨S_, .i64⟩
  | 26 => ⟨S512x188, .i64⟩
  | 27 => ⟨S512x188, .i64⟩
  | 28 => ⟨S512x188, .i32⟩
  | 29 => ⟨S512x188, .i32⟩
  | 30 => ⟨S_, .i32⟩
  | 31 => ⟨S_, .i32⟩
  | 32 => ⟨S_, .i32⟩
  | 33 => ⟨S512x188, .i32⟩
  | 34 => ⟨S512x188, .i32⟩
  | 35 => ⟨S512x188, .i32⟩
  | 36 => ⟨S512x188, .i32⟩
  | 37 => ⟨S512x188, .i32⟩
  | 38 => ⟨S_, .i32⟩
  | 39 => ⟨S512x188, .i32⟩
  | 40 => ⟨S512x188, .i32⟩
  | 41 => ⟨S_, .i32⟩
  | 42 => ⟨S512x188, .i32⟩
  | 43 => ⟨S512x188, .i32⟩
  | 44 => ⟨S512x188, .i32⟩
  | 45 => ⟨S512x188, .i32⟩
  | 46 => ⟨S512x188, .i32⟩
  | 47 => ⟨S_, .i32⟩
  | 48 => ⟨S512x188, .i32⟩
  | 49 => ⟨S512x188, .i32⟩
  | 50 => ⟨S_, .i32⟩
  | 51 => ⟨S512x188, .i32⟩
  | 52 => ⟨S512x188, .i32⟩
  | 53 => ⟨S512x188, .i32⟩
  | 54 => ⟨S512x188, .i32⟩
  | 55 => ⟨S512x188, .i32⟩
  | 56 => ⟨S_, .i32⟩
  | 57 => ⟨S512x188, .i32⟩
  | 58 => ⟨S512x188, .i32⟩
  | 59 => ⟨S_, .i32⟩
  | 60 => ⟨S512x188, .i32⟩
  | 61 => ⟨S512x188, .i32⟩
  | 62 => ⟨S512x188, .i32⟩
  | 63 => ⟨S512x188, .i32⟩
  | 64 => ⟨S512x188, .i32⟩
  | 65 => ⟨S_, .i32⟩
  | 66 => ⟨S512x188, .i32⟩
  | 67 => ⟨S512x188, .i32⟩
  | 68 => ⟨S_, .i32⟩
  | 69 => ⟨S512x188, .i32⟩
  | 70 => ⟨S512x188, .i32⟩
  | 71 => ⟨S512x188, .i32⟩
  | 72 => ⟨S512x188, .i32⟩
  | 73 => ⟨S512x188, .i32⟩
  | 74 => ⟨S512x188, .i32⟩
  | 75 => ⟨S512x188, .i32⟩
  | 76 => ⟨S512x188, .i32⟩
  | 77 => ⟨S_, .i32⟩
  | 78 => ⟨S512x188, .i32⟩
  | 79 => ⟨S512x188, .i32⟩
  | 80 => ⟨S512x188, .i32⟩
  | 81 => ⟨S_, .i32⟩
  | 82 => ⟨S512x188, .i32⟩
  | 83 => ⟨S512x188, .i32⟩
  | 84 => ⟨S_, .i32⟩
  | 85 => ⟨S512x188, .i32⟩
  | 86 => ⟨S512x188, .i32⟩
  | 87 => ⟨S512x188, .i32⟩
  | 88 => ⟨S512x188, .i32⟩
  | 89 => ⟨S512x188, .i32⟩
  | 90 => ⟨S_, .i32⟩
  | 91 => ⟨S512x188, .i32⟩
  | 92 => ⟨S512x188, .i32⟩
  | 93 => ⟨S_, .i32⟩
  | 94 => ⟨S512x188, .i32⟩
  | 95 => ⟨S512x188, .i32⟩
  | 96 => ⟨S512x188, .i32⟩
  | 97 => ⟨S512x188, .i32⟩
  | 98 => ⟨S512x188, .i32⟩
  | 99 => ⟨S_, .i32⟩
  | 100 => ⟨S512x188, .i32⟩
  | 101 => ⟨S512x188, .i32⟩
  | 102 => ⟨S_, .i32⟩
  | 103 => ⟨S512x188, .i32⟩
  | 104 => ⟨S512x188, .i32⟩
  | 105 => ⟨S512x188, .i32⟩
  | 106 => ⟨S512x188, .i32⟩
  | 107 => ⟨S512x188, .i32⟩
  | 108 => ⟨S_, .i32⟩
  | 109 => ⟨S512x188, .i32⟩
  | 110 => ⟨S512x188, .i32⟩
  | 111 => ⟨S_, .i32⟩
  | 112 => ⟨S512x188, .i32⟩
  | 113 => ⟨S512x188, .i32⟩
  | 114 => ⟨S512x188, .i32⟩
  | 115 => ⟨S512x188, .i32⟩
  | 116 => ⟨S512x188, .i32⟩
  | 117 => ⟨S512x188, .i32⟩
  | 118 => ⟨S512x188, .i32⟩
  | 119 => ⟨S512x188, .i32⟩
  | 120 => ⟨S_, .i32⟩
  | 121 => ⟨S512x188, .i32⟩
  | 122 => ⟨S512x188, .i32⟩
  | 123 => ⟨S512x188, .i32⟩
  | 124 => ⟨S_, .i32⟩
  | 125 => ⟨S512x188, .i32⟩
  | 126 => ⟨S512x188, .i32⟩
  | 127 => ⟨S_, .i32⟩
  | _ => ⟨S512x4096x6, .f32⟩

abbrev hbmTy0_11 (i : Nat) : BufTy := match i % 128 with
  | 0 => ⟨S512x188, .i32⟩
  | 1 => ⟨S512x188, .i32⟩
  | 2 => ⟨S512x188, .i32⟩
  | 3 => ⟨S512x188, .i32⟩
  | 4 => ⟨S512x188, .i32⟩
  | 5 => ⟨S_, .i32⟩
  | 6 => ⟨S512x188, .i32⟩
  | 7 => ⟨S512x188, .i32⟩
  | 8 => ⟨S_, .i32⟩
  | 9 => ⟨S512x188, .i32⟩
  | 10 => ⟨S512x188, .i32⟩
  | 11 => ⟨S512x188, .i32⟩
  | 12 => ⟨S512x188, .i32⟩
  | 13 => ⟨S512x188, .i32⟩
  | 14 => ⟨S_, .i32⟩
  | 15 => ⟨S512x188, .i32⟩
  | 16 => ⟨S512x188, .i32⟩
  | 17 => ⟨S_, .i32⟩
  | 18 => ⟨S512x188, .i32⟩
  | 19 => ⟨S512x188, .i32⟩
  | 20 => ⟨S512x188, .i32⟩
  | 21 => ⟨S512x188, .i32⟩
  | 22 => ⟨S512x188, .i32⟩
  | 23 => ⟨S_, .i32⟩
  | 24 => ⟨S512x188, .i32⟩
  | 25 => ⟨S512x188, .i32⟩
  | 26 => ⟨S_, .i32⟩
  | 27 => ⟨S512x188, .i32⟩
  | 28 => ⟨S512x188, .i32⟩
  | 29 => ⟨S512x188, .i32⟩
  | 30 => ⟨S512x188, .i32⟩
  | 31 => ⟨S512x188, .i32⟩
  | 32 => ⟨S512x188, .i32⟩
  | 33 => ⟨S512x188, .i32⟩
  | 34 => ⟨S512x188, .i32⟩
  | 35 => ⟨S_, .i32⟩
  | 36 => ⟨S512x188, .i32⟩
  | 37 => ⟨S512x188, .i32⟩
  | 38 => ⟨S512x188, .i32⟩
  | 39 => ⟨S_, .i32⟩
  | 40 => ⟨S512x188, .i32⟩
  | 41 => ⟨S512x188, .i32⟩
  | 42 => ⟨S_, .i32⟩
  | 43 => ⟨S512x188, .i32⟩
  | 44 => ⟨S512x188, .i32⟩
  | 45 => ⟨S512x188, .i32⟩
  | 46 => ⟨S512x188, .i32⟩
  | 47 => ⟨S512x188, .i32⟩
  | 48 => ⟨S_, .i32⟩
  | 49 => ⟨S512x188, .i32⟩
  | 50 => ⟨S512x188, .i32⟩
  | 51 => ⟨S_, .i32⟩
  | 52 => ⟨S512x188, .i32⟩
  | 53 => ⟨S512x188, .i32⟩
  | 54 => ⟨S512x188, .i32⟩
  | 55 => ⟨S512x188, .i32⟩
  | 56 => ⟨S512x188, .i32⟩
  | 57 => ⟨S_, .i32⟩
  | 58 => ⟨S512x188, .i32⟩
  | 59 => ⟨S512x188, .i32⟩
  | 60 => ⟨S_, .i32⟩
  | 61 => ⟨S512x188, .i32⟩
  | 62 => ⟨S512x188, .i32⟩
  | 63 => ⟨S512x188, .i32⟩
  | 64 => ⟨S512x188, .i32⟩
  | 65 => ⟨S512x188, .i32⟩
  | 66 => ⟨S_, .i32⟩
  | 67 => ⟨S512x188, .i32⟩
  | 68 => ⟨S512x188, .i32⟩
  | 69 => ⟨S_, .i32⟩
  | 70 => ⟨S512x188, .i32⟩
  | 71 => ⟨S512x188, .i32⟩
  | 72 => ⟨S512x188, .i32⟩
  | 73 => ⟨S512x188, .i32⟩
  | 74 => ⟨S512x188, .i32⟩
  | 75 => ⟨S512x188, .i32⟩
  | 76 => ⟨S512x188, .i32⟩
  | 77 => ⟨S512x188, .i32⟩
  | 78 => ⟨S_, .i32⟩
  | 79 => ⟨S512x188, .i32⟩
  | 80 => ⟨S512x188, .i32⟩
  | 81 => ⟨S512x188, .i32⟩
  | 82 => ⟨S_, .i32⟩
  | 83 => ⟨S512x188, .i32⟩
  | 84 => ⟨S512x188, .i32⟩
  | 85 => ⟨S_, .i32⟩
  | 86 => ⟨S512x188, .i32⟩
  | 87 => ⟨S512x188, .i32⟩
  | 88 => ⟨S512x188, .i32⟩
  | 89 => ⟨S512x188, .i32⟩
  | 90 => ⟨S512x188, .i32⟩
  | 91 => ⟨S_, .i32⟩
  | 92 => ⟨S512x188, .i32⟩
  | 93 => ⟨S512x188, .i32⟩
  | 94 => ⟨S_, .i32⟩
  | 95 => ⟨S512x188, .i32⟩
  | 96 => ⟨S512x188, .i32⟩
  | 97 => ⟨S512x188, .i32⟩
  | 98 => ⟨S512x188, .i32⟩
  | 99 => ⟨S512x188, .i32⟩
  | 100 => ⟨S_, .i32⟩
  | 101 => ⟨S512x188, .i32⟩
  | 102 => ⟨S512x188, .i32⟩
  | 103 => ⟨S_, .i32⟩
  | 104 => ⟨S512x188, .i32⟩
  | 105 => ⟨S512x188, .i32⟩
  | 106 => ⟨S512x188, .i32⟩
  | 107 => ⟨S512x188, .i32⟩
  | 108 => ⟨S512x188, .i32⟩
  | 109 => ⟨S_, .i32⟩
  | 110 => ⟨S512x188, .i32⟩
  | 111 => ⟨S512x188, .i32⟩
  | 112 => ⟨S_, .i32⟩
  | 113 => ⟨S512x188, .i32⟩
  | 114 => ⟨S512x188, .i32⟩
  | 115 => ⟨S512x188, .i32⟩
  | 116 => ⟨S512x188, .i32⟩
  | 117 => ⟨S512x188, .i32⟩
  | 118 => ⟨S512x188, .i32⟩
  | 119 => ⟨S512x188, .i32⟩
  | 120 => ⟨S512x188, .i32⟩
  | 121 => ⟨S_, .i32⟩
  | 122 => ⟨S512x188, .i32⟩
  | 123 => ⟨S512x188, .i32⟩
  | 124 => ⟨S512x188, .i32⟩
  | 125 => ⟨S1, .i32⟩
  | 126 => ⟨S_, .i32⟩
  | 127 => ⟨S1, .i32⟩
  | _ => ⟨S512x4096x6, .f32⟩

abbrev hbmTy0_12 (i : Nat) : BufTy := match i % 128 with
  | 0 => ⟨S_, .i32⟩
  | 1 => ⟨S512x188, .i64⟩
  | 2 => ⟨S512x188, .i64⟩
  | 3 => ⟨S_, .i64⟩
  | 4 => ⟨S512x188, .i64⟩
  | 5 => ⟨S512x188, .i64⟩
  | 6 => ⟨S_, .i64⟩
  | 7 => ⟨S512x188, .i64⟩
  | 8 => ⟨S512x188, .i64⟩
  | 9 => ⟨S512x188, .i64⟩
  | 10 => ⟨S_, .i64⟩
  | 11 => ⟨S512x188, .i64⟩
  | 12 => ⟨S512x188, .i64⟩
  | 13 => ⟨S512x188, .i32⟩
  | 14 => ⟨S512x188, .i32⟩
  | 15 => ⟨S_, .i32⟩
  | 16 => ⟨S_, .i32⟩
  | 17 => ⟨S_, .i32⟩
  | 18 => ⟨S512x188, .i32⟩
  | 19 => ⟨S512x188, .i32⟩
  | 20 => ⟨S512x188, .i32⟩
  | 21 => ⟨S512x188, .i32⟩
  | 22 => ⟨S512x188, .i32⟩
  | 23 => ⟨S_, .i32⟩
  | 24 => ⟨S512x188, .i32⟩
  | 25 => ⟨S512x188, .i32⟩
  | 26 => ⟨S_, .i32⟩
  | 27 => ⟨S512x188, .i32⟩
  | 28 => ⟨S512x188, .i32⟩
  | 29 => ⟨S512x188, .i32⟩
  | 30 => ⟨S512x188, .i32⟩
  | 31 => ⟨S512x188, .i32⟩
  | 32 => ⟨S_, .i32⟩
  | 33 => ⟨S512x188, .i32⟩
  | 34 => ⟨S512x188, .i32⟩
  | 35 => ⟨S_, .i32⟩
  | 36 => ⟨S512x188, .i32⟩
  | 37 => ⟨S512x188, .i32⟩
  | 38 => ⟨S512x188, .i32⟩
  | 39 => ⟨S512x188, .i32⟩
  | 40 => ⟨S512x188, .i32⟩
  | 41 => ⟨S_, .i32⟩
  | 42 => ⟨S512x188, .i32⟩
  | 43 => ⟨S512x188, .i32⟩
  | 44 => ⟨S_, .i32⟩
  | 45 => ⟨S512x188, .i32⟩
  | 46 => ⟨S512x188, .i32⟩
  | 47 => ⟨S512x188, .i32⟩
  | 48 => ⟨S512x188, .i32⟩
  | 49 => ⟨S512x188, .i32⟩
  | 50 => ⟨S_, .i32⟩
  | 51 => ⟨S512x188, .i32⟩
  | 52 => ⟨S512x188, .i32⟩
  | 53 => ⟨S_, .i32⟩
  | 54 => ⟨S512x188, .i32⟩
  | 55 => ⟨S512x188, .i32⟩
  | 56 => ⟨S512x188, .i32⟩
  | 57 => ⟨S512x188, .i32⟩
  | 58 => ⟨S512x188, .i32⟩
  | 59 => ⟨S512x188, .i32⟩
  | 60 => ⟨S512x188, .i32⟩
  | 61 => ⟨S512x188, .i32⟩
  | 62 => ⟨S_, .i32⟩
  | 63 => ⟨S512x188, .i32⟩
  | 64 => ⟨S512x188, .i32⟩
  | 65 => ⟨S512x188, .i32⟩
  | 66 => ⟨S_, .i32⟩
  | 67 => ⟨S512x188, .i32⟩
  | 68 => ⟨S512x188, .i32⟩
  | 69 => ⟨S_, .i32⟩
  | 70 => ⟨S512x188, .i32⟩
  | 71 => ⟨S512x188, .i32⟩
  | 72 => ⟨S512x188, .i32⟩
  | 73 => ⟨S512x188, .i32⟩
  | 74 => ⟨S512x188, .i32⟩
  | 75 => ⟨S_, .i32⟩
  | 76 => ⟨S512x188, .i32⟩
  | 77 => ⟨S512x188, .i32⟩
  | 78 => ⟨S_, .i32⟩
  | 79 => ⟨S512x188, .i32⟩
  | 80 => ⟨S512x188, .i32⟩
  | 81 => ⟨S512x188, .i32⟩
  | 82 => ⟨S512x188, .i32⟩
  | 83 => ⟨S512x188, .i32⟩
  | 84 => ⟨S_, .i32⟩
  | 85 => ⟨S512x188, .i32⟩
  | 86 => ⟨S512x188, .i32⟩
  | 87 => ⟨S_, .i32⟩
  | 88 => ⟨S512x188, .i32⟩
  | 89 => ⟨S512x188, .i32⟩
  | 90 => ⟨S512x188, .i32⟩
  | 91 => ⟨S512x188, .i32⟩
  | 92 => ⟨S512x188, .i32⟩
  | 93 => ⟨S_, .i32⟩
  | 94 => ⟨S512x188, .i32⟩
  | 95 => ⟨S512x188, .i32⟩
  | 96 => ⟨S_, .i32⟩
  | 97 => ⟨S512x188, .i32⟩
  | 98 => ⟨S512x188, .i32⟩
  | 99 => ⟨S512x188, .i32⟩
  | 100 => ⟨S512x188, .i32⟩
  | 101 => ⟨S512x188, .i32⟩
  | 102 => ⟨S512x188, .i32⟩
  | 103 => ⟨S512x188, .i32⟩
  | 104 => ⟨S512x188, .i32⟩
  | 105 => ⟨S_, .i32⟩
  | 106 => ⟨S512x188, .i32⟩
  | 107 => ⟨S512x188, .i32⟩
  | 108 => ⟨S512x188, .i32⟩
  | 109 => ⟨S_, .i32⟩
  | 110 => ⟨S512x188, .i32⟩
  | 111 => ⟨S512x188, .i32⟩
  | 112 => ⟨S_, .i32⟩
  | 113 => ⟨S512x188, .i32⟩
  | 114 => ⟨S512x188, .i32⟩
  | 115 => ⟨S512x188, .i32⟩
  | 116 => ⟨S512x188, .i32⟩
  | 117 => ⟨S512x188, .i32⟩
  | 118 => ⟨S_, .i32⟩
  | 119 => ⟨S512x188, .i32⟩
  | 120 => ⟨S512x188, .i32⟩
  | 121 => ⟨S_, .i32⟩
  | 122 => ⟨S512x188, .i32⟩
  | 123 => ⟨S512x188, .i32⟩
  | 124 => ⟨S512x188, .i32⟩
  | 125 => ⟨S512x188, .i32⟩
  | 126 => ⟨S512x188, .i32⟩
  | 127 => ⟨S_, .i32⟩
  | _ => ⟨S512x4096x6, .f32⟩

abbrev hbmTy0_13 (i : Nat) : BufTy := match i % 128 with
  | 0 => ⟨S512x188, .i32⟩
  | 1 => ⟨S512x188, .i32⟩
  | 2 => ⟨S_, .i32⟩
  | 3 => ⟨S512x188, .i32⟩
  | 4 => ⟨S512x188, .i32⟩
  | 5 => ⟨S512x188, .i32⟩
  | 6 => ⟨S512x188, .i32⟩
  | 7 => ⟨S512x188, .i32⟩
  | 8 => ⟨S_, .i32⟩
  | 9 => ⟨S512x188, .i32⟩
  | 10 => ⟨S512x188, .i32⟩
  | 11 => ⟨S_, .i32⟩
  | 12 => ⟨S512x188, .i32⟩
  | 13 => ⟨S512x188, .i32⟩
  | 14 => ⟨S512x188, .i32⟩
  | 15 => ⟨S512x188, .i32⟩
  | 16 => ⟨S512x188, .i32⟩
  | 17 => ⟨S512x188, .i32⟩
  | 18 => ⟨S512x188, .i32⟩
  | 19 => ⟨S512x188, .i32⟩
  | 20 => ⟨S_, .i32⟩
  | 21 => ⟨S512x188, .i32⟩
  | 22 => ⟨S512x188, .i32⟩
  | 23 => ⟨S512x188, .i32⟩
  | 24 => ⟨S_, .i32⟩
  | 25 => ⟨S512x188, .i32⟩
  | 26 => ⟨S512x188, .i32⟩
  | 27 => ⟨S_, .i32⟩
  | 28 => ⟨S512x188, .i32⟩
  | 29 => ⟨S512x188, .i32⟩
  | 30 => ⟨S512x188, .i32⟩
  | 31 => ⟨S512x188, .i32⟩
  | 32 => ⟨S512x188, .i32⟩
  | 33 => ⟨S_, .i32⟩
  | 34 => ⟨S512x188, .i32⟩
  | 35 => ⟨S512x188, .i32⟩
  | 36 => ⟨S_, .i32⟩
  | 37 => ⟨S512x188, .i32⟩
  | 38 => ⟨S512x188, .i32⟩
  | 39 => ⟨S512x188, .i32⟩
  | 40 => ⟨S512x188, .i32⟩
  | 41 => ⟨S512x188, .i32⟩
  | 42 => ⟨S_, .i32⟩
  | 43 => ⟨S512x188, .i32⟩
  | 44 => ⟨S512x188, .i32⟩
  | 45 => ⟨S_, .i32⟩
  | 46 => ⟨S512x188, .i32⟩
  | 47 => ⟨S512x188, .i32⟩
  | 48 => ⟨S512x188, .i32⟩
  | 49 => ⟨S512x188, .i32⟩
  | 50 => ⟨S512x188, .i32⟩
  | 51 => ⟨S_, .i32⟩
  | 52 => ⟨S512x188, .i32⟩
  | 53 => ⟨S512x188, .i32⟩
  | 54 => ⟨S_, .i32⟩
  | 55 => ⟨S512x188, .i32⟩
  | 56 => ⟨S512x188, .i32⟩
  | 57 => ⟨S512x188, .i32⟩
  | 58 => ⟨S512x188, .i32⟩
  | 59 => ⟨S512x188, .i32⟩
  | 60 => ⟨S512x188, .i32⟩
  | 61 => ⟨S512x188, .i32⟩
  | 62 => ⟨S512x188, .i32⟩
  | 63 => ⟨S_, .i32⟩
  | 64 => ⟨S512x188, .i32⟩
  | 65 => ⟨S512x188, .i32⟩
  | 66 => ⟨S512x188, .i32⟩
  | 67 => ⟨S_, .i32⟩
  | 68 => ⟨S512x188, .i32⟩
  | 69 => ⟨S512x188, .i32⟩
  | 70 => ⟨S_, .i32⟩
  | 71 => ⟨S512x188, .i32⟩
  | 72 => ⟨S512x188, .i32⟩
  | 73 => ⟨S512x188, .i32⟩
  | 74 => ⟨S512x188, .i32⟩
  | 75 => ⟨S512x188, .i32⟩
  | 76 => ⟨S_, .i32⟩
  | 77 => ⟨S512x188, .i32⟩
  | 78 => ⟨S512x188, .i32⟩
  | 79 => ⟨S_, .i32⟩
  | 80 => ⟨S512x188, .i32⟩
  | 81 => ⟨S512x188, .i32⟩
  | 82 => ⟨S512x188, .i32⟩
  | 83 => ⟨S512x188, .i32⟩
  | 84 => ⟨S512x188, .i32⟩
  | 85 => ⟨S_, .i32⟩
  | 86 => ⟨S512x188, .i32⟩
  | 87 => ⟨S512x188, .i32⟩
  | 88 => ⟨S_, .i32⟩
  | 89 => ⟨S512x188, .i32⟩
  | 90 => ⟨S512x188, .i32⟩
  | 91 => ⟨S512x188, .i32⟩
  | 92 => ⟨S512x188, .i32⟩
  | 93 => ⟨S512x188, .i32⟩
  | 94 => ⟨S_, .i32⟩
  | 95 => ⟨S512x188, .i32⟩
  | 96 => ⟨S512x188, .i32⟩
  | 97 => ⟨S_, .i32⟩
  | 98 => ⟨S512x188, .i32⟩
  | 99 => ⟨S512x188, .i32⟩
  | 100 => ⟨S512x188, .i32⟩
  | 101 => ⟨S512x188, .i32⟩
  | 102 => ⟨S512x188, .i32⟩
  | 103 => ⟨S512x188, .i32⟩
  | 104 => ⟨S512x188, .i32⟩
  | 105 => ⟨S512x188, .i32⟩
  | 106 => ⟨S_, .i32⟩
  | 107 => ⟨S512x188, .i32⟩
  | 108 => ⟨S512x188, .i32⟩
  | 109 => ⟨S512x188, .i32⟩
  | 110 => ⟨S1x1, .i32⟩
  | 111 => ⟨S1x1, .i32⟩
  | 112 => ⟨S1x1, .i1⟩
  | 113 => ⟨S_, .i32⟩
  | 114 => ⟨S1x1, .i32⟩
  | 115 => ⟨S1x1, .i32⟩
  | 116 => ⟨S1x1, .i1⟩
  | 117 => ⟨S1x1, .i1⟩
  | 118 => ⟨S1x1, .i1⟩
  | 119 => ⟨S_, .i32⟩
  | 120 => ⟨S1x1, .i32⟩
  | 121 => ⟨S1x1, .i32⟩
  | 122 => ⟨S1x1, .i32⟩
  | 123 => ⟨S_, .i32⟩
  | 124 => ⟨S1x1, .i32⟩
  | 125 => ⟨S1x1, .i32⟩
  | 126 => ⟨S1x1, .i32⟩
  | 127 => ⟨S1x1, .i32⟩
  | _ => ⟨S512x4096x6, .f32⟩

abbrev hbmTy0_14 (i : Nat) : BufTy := match i % 128 with
  | 0 => ⟨S512x188, .i32⟩
  | 1 => ⟨S512x188, .i32⟩
  | 2 => ⟨S512x188, .i32⟩
  | 3 => ⟨S512x188, .i32⟩
  | 4 => ⟨S512x188, .i32⟩
  | 5 => ⟨S512x188, .i32⟩
  | 6 => ⟨S512x188, .i32⟩
  | 7 => ⟨S512x188, .i32⟩
  | 8 => ⟨S512x188, .i32⟩
  | 9 => ⟨S512x188, .i32⟩
  | 10 => ⟨S512x188, .i32⟩
  | 11 => ⟨S512x188, .i32⟩
  | 12 => ⟨S512x188, .i32⟩
  | 13 => ⟨S_, .i32⟩
  | 14 => ⟨S512x188, .i32⟩
  | 15 => ⟨S512x188, .i32⟩
  | 16 => ⟨S512x376, .i32⟩
  | 17 => ⟨S8x64x376, .i32⟩
  | 18 => ⟨S_, .f32⟩
  | 19 => ⟨S1x188, .f32⟩
  | 20 => ⟨S_, .f32⟩
  | 21 => ⟨S1x188, .f32⟩
  | 22 => ⟨S1x188, .f32⟩
  | 23 => ⟨S1x376, .f32⟩
  | 24 => ⟨S1, .i32⟩
  | 25 => ⟨S_, .i32⟩
  | 26 => ⟨S1, .i32⟩
  | 27 => ⟨S_, .i32⟩
  | 28 => ⟨S512x4096, .i64⟩
  | 29 => ⟨S512x4096, .i64⟩
  | 30 => ⟨S_, .i64⟩
  | 31 => ⟨S512x4096, .i64⟩
  | 32 => ⟨S512x4096, .i64⟩
  | 33 => ⟨S_, .i64⟩
  | 34 => ⟨S512x4096, .i64⟩
  | 35 => ⟨S512x4096, .i64⟩
  | 36 => ⟨S512x4096, .i64⟩
  | 37 => ⟨S_, .i64⟩
  | 38 => ⟨S512x4096, .i64⟩
  | 39 => ⟨S512x4096, .i64⟩
  | 40 => ⟨S512x4096, .i32⟩
  | 41 => ⟨S512x4096, .i32⟩
  | 42 => ⟨S_, .i32⟩
  | 43 => ⟨S_, .i32⟩
  | 44 => ⟨S_, .i32⟩
  | 45 => ⟨S512x4096, .i32⟩
  | 46 => ⟨S512x4096, .i32⟩
  | 47 => ⟨S512x4096, .i32⟩
  | 48 => ⟨S512x4096, .i32⟩
  | 49 => ⟨S512x4096, .i32⟩
  | 50 => ⟨S_, .i32⟩
  | 51 => ⟨S512x4096, .i32⟩
  | 52 => ⟨S512x4096, .i32⟩
  | 53 => ⟨S_, .i32⟩
  | 54 => ⟨S512x4096, .i32⟩
  | 55 => ⟨S512x4096, .i32⟩
  | 56 => ⟨S512x4096, .i32⟩
  | 57 => ⟨S512x4096, .i32⟩
  | 58 => ⟨S512x4096, .i32⟩
  | 59 => ⟨S_, .i32⟩
  | 60 => ⟨S512x4096, .i32⟩
  | 61 => ⟨S512x4096, .i32⟩
  | 62 => ⟨S_, .i32⟩
  | 63 => ⟨S512x4096, .i32⟩
  | 64 => ⟨S512x4096, .i32⟩
  | 65 => ⟨S512x4096, .i32⟩
  | 66 => ⟨S512x4096, .i32⟩
  | 67 => ⟨S512x4096, .i32⟩
  | 68 => ⟨S_, .i32⟩
  | 69 => ⟨S512x4096, .i32⟩
  | 70 => ⟨S512x4096, .i32⟩
  | 71 => ⟨S_, .i32⟩
  | 72 => ⟨S512x4096, .i32⟩
  | 73 => ⟨S512x4096, .i32⟩
  | 74 => ⟨S512x4096, .i32⟩
  | 75 => ⟨S512x4096, .i32⟩
  | 76 => ⟨S512x4096, .i32⟩
  | 77 => ⟨S_, .i32⟩
  | 78 => ⟨S512x4096, .i32⟩
  | 79 => ⟨S512x4096, .i32⟩
  | 80 => ⟨S_, .i32⟩
  | 81 => ⟨S512x4096, .i32⟩
  | 82 => ⟨S512x4096, .i32⟩
  | 83 => ⟨S512x4096, .i32⟩
  | 84 => ⟨S512x4096, .i32⟩
  | 85 => ⟨S512x4096, .i32⟩
  | 86 => ⟨S512x4096, .i32⟩
  | 87 => ⟨S512x4096, .i32⟩
  | 88 => ⟨S512x4096, .i32⟩
  | 89 => ⟨S_, .i32⟩
  | 90 => ⟨S512x4096, .i32⟩
  | 91 => ⟨S512x4096, .i32⟩
  | 92 => ⟨S512x4096, .i32⟩
  | 93 => ⟨S_, .i32⟩
  | 94 => ⟨S512x4096, .i32⟩
  | 95 => ⟨S512x4096, .i32⟩
  | 96 => ⟨S_, .i32⟩
  | 97 => ⟨S512x4096, .i32⟩
  | 98 => ⟨S512x4096, .i32⟩
  | 99 => ⟨S512x4096, .i32⟩
  | 100 => ⟨S512x4096, .i32⟩
  | 101 => ⟨S512x4096, .i32⟩
  | 102 => ⟨S_, .i32⟩
  | 103 => ⟨S512x4096, .i32⟩
  | 104 => ⟨S512x4096, .i32⟩
  | 105 => ⟨S_, .i32⟩
  | 106 => ⟨S512x4096, .i32⟩
  | 107 => ⟨S512x4096, .i32⟩
  | 108 => ⟨S512x4096, .i32⟩
  | 109 => ⟨S512x4096, .i32⟩
  | 110 => ⟨S512x4096, .i32⟩
  | 111 => ⟨S_, .i32⟩
  | 112 => ⟨S512x4096, .i32⟩
  | 113 => ⟨S512x4096, .i32⟩
  | 114 => ⟨S_, .i32⟩
  | 115 => ⟨S512x4096, .i32⟩
  | 116 => ⟨S512x4096, .i32⟩
  | 117 => ⟨S512x4096, .i32⟩
  | 118 => ⟨S512x4096, .i32⟩
  | 119 => ⟨S512x4096, .i32⟩
  | 120 => ⟨S_, .i32⟩
  | 121 => ⟨S512x4096, .i32⟩
  | 122 => ⟨S512x4096, .i32⟩
  | 123 => ⟨S_, .i32⟩
  | 124 => ⟨S512x4096, .i32⟩
  | 125 => ⟨S512x4096, .i32⟩
  | 126 => ⟨S512x4096, .i32⟩
  | 127 => ⟨S512x4096, .i32⟩
  | _ => ⟨S512x4096x6, .f32⟩

abbrev hbmTy0_15 (i : Nat) : BufTy := match i % 128 with
  | 0 => ⟨S512x4096, .i32⟩
  | 1 => ⟨S512x4096, .i32⟩
  | 2 => ⟨S512x4096, .i32⟩
  | 3 => ⟨S512x4096, .i32⟩
  | 4 => ⟨S_, .i32⟩
  | 5 => ⟨S512x4096, .i32⟩
  | 6 => ⟨S512x4096, .i32⟩
  | 7 => ⟨S512x4096, .i32⟩
  | 8 => ⟨S_, .i32⟩
  | 9 => ⟨S512x4096, .i32⟩
  | 10 => ⟨S512x4096, .i32⟩
  | 11 => ⟨S_, .i32⟩
  | 12 => ⟨S512x4096, .i32⟩
  | 13 => ⟨S512x4096, .i32⟩
  | 14 => ⟨S512x4096, .i32⟩
  | 15 => ⟨S512x4096, .i32⟩
  | 16 => ⟨S512x4096, .i32⟩
  | 17 => ⟨S_, .i32⟩
  | 18 => ⟨S512x4096, .i32⟩
  | 19 => ⟨S512x4096, .i32⟩
  | 20 => ⟨S_, .i32⟩
  | 21 => ⟨S512x4096, .i32⟩
  | 22 => ⟨S512x4096, .i32⟩
  | 23 => ⟨S512x4096, .i32⟩
  | 24 => ⟨S512x4096, .i32⟩
  | 25 => ⟨S512x4096, .i32⟩
  | 26 => ⟨S_, .i32⟩
  | 27 => ⟨S512x4096, .i32⟩
  | 28 => ⟨S512x4096, .i32⟩
  | 29 => ⟨S_, .i32⟩
  | 30 => ⟨S512x4096, .i32⟩
  | 31 => ⟨S512x4096, .i32⟩
  | 32 => ⟨S512x4096, .i32⟩
  | 33 => ⟨S512x4096, .i32⟩
  | 34 => ⟨S512x4096, .i32⟩
  | 35 => ⟨S_, .i32⟩
  | 36 => ⟨S512x4096, .i32⟩
  | 37 => ⟨S512x4096, .i32⟩
  | 38 => ⟨S_, .i32⟩
  | 39 => ⟨S512x4096, .i32⟩
  | 40 => ⟨S512x4096, .i32⟩
  | 41 => ⟨S512x4096, .i32⟩
  | 42 => ⟨S512x4096, .i32⟩
  | 43 => ⟨S512x4096, .i32⟩
  | 44 => ⟨S512x4096, .i32⟩
  | 45 => ⟨S512x4096, .i32⟩
  | 46 => ⟨S512x4096, .i32⟩
  | 47 => ⟨S_, .i32⟩
  | 48 => ⟨S512x4096, .i32⟩
  | 49 => ⟨S512x4096, .i32⟩
  | 50 => ⟨S512x4096, .i32⟩
  | 51 => ⟨S_, .i32⟩
  | 52 => ⟨S512x4096, .i32⟩
  | 53 => ⟨S512x4096, .i32⟩
  | 54 => ⟨S_, .i32⟩
  | 55 => ⟨S512x4096, .i32⟩
  | 56 => ⟨S512x4096, .i32⟩
  | 57 => ⟨S512x4096, .i32⟩
  | 58 => ⟨S512x4096, .i32⟩
  | 59 => ⟨S512x4096, .i32⟩
  | 60 => ⟨S_, .i32⟩
  | 61 => ⟨S512x4096, .i32⟩
  | 62 => ⟨S512x4096, .i32⟩
  | 63 => ⟨S_, .i32⟩
  | 64 => ⟨S512x4096, .i32⟩
  | 65 => ⟨S512x4096, .i32⟩
  | 66 => ⟨S512x4096, .i32⟩
  | 67 => ⟨S512x4096, .i32⟩
  | 68 => ⟨S512x4096, .i32⟩
  | 69 => ⟨S_, .i32⟩
  | 70 => ⟨S512x4096, .i32⟩
  | 71 => ⟨S512x4096, .i32⟩
  | 72 => ⟨S_, .i32⟩
  | 73 => ⟨S512x4096, .i32⟩
  | 74 => ⟨S512x4096, .i32⟩
  | 75 => ⟨S512x4096, .i32⟩
  | 76 => ⟨S512x4096, .i32⟩
  | 77 => ⟨S512x4096, .i32⟩
  | 78 => ⟨S_, .i32⟩
  | 79 => ⟨S512x4096, .i32⟩
  | 80 => ⟨S512x4096, .i32⟩
  | 81 => ⟨S_, .i32⟩
  | 82 => ⟨S512x4096, .i32⟩
  | 83 => ⟨S512x4096, .i32⟩
  | 84 => ⟨S512x4096, .i32⟩
  | 85 => ⟨S512x4096, .i32⟩
  | 86 => ⟨S512x4096, .i32⟩
  | 87 => ⟨S512x4096, .i32⟩
  | 88 => ⟨S512x4096, .i32⟩
  | 89 => ⟨S512x4096, .i32⟩
  | 90 => ⟨S_, .i32⟩
  | 91 => ⟨S512x4096, .i32⟩
  | 92 => ⟨S512x4096, .i32⟩
  | 93 => ⟨S512x4096, .i32⟩
  | 94 => ⟨S_, .i32⟩
  | 95 => ⟨S512x4096, .i32⟩
  | 96 => ⟨S512x4096, .i32⟩
  | 97 => ⟨S_, .i32⟩
  | 98 => ⟨S512x4096, .i32⟩
  | 99 => ⟨S512x4096, .i32⟩
  | 100 => ⟨S512x4096, .i32⟩
  | 101 => ⟨S512x4096, .i32⟩
  | 102 => ⟨S512x4096, .i32⟩
  | 103 => ⟨S_, .i32⟩
  | 104 => ⟨S512x4096, .i32⟩
  | 105 => ⟨S512x4096, .i32⟩
  | 106 => ⟨S_, .i32⟩
  | 107 => ⟨S512x4096, .i32⟩
  | 108 => ⟨S512x4096, .i32⟩
  | 109 => ⟨S512x4096, .i32⟩
  | 110 => ⟨S512x4096, .i32⟩
  | 111 => ⟨S512x4096, .i32⟩
  | 112 => ⟨S_, .i32⟩
  | 113 => ⟨S512x4096, .i32⟩
  | 114 => ⟨S512x4096, .i32⟩
  | 115 => ⟨S_, .i32⟩
  | 116 => ⟨S512x4096, .i32⟩
  | 117 => ⟨S512x4096, .i32⟩
  | 118 => ⟨S512x4096, .i32⟩
  | 119 => ⟨S512x4096, .i32⟩
  | 120 => ⟨S512x4096, .i32⟩
  | 121 => ⟨S_, .i32⟩
  | 122 => ⟨S512x4096, .i32⟩
  | 123 => ⟨S512x4096, .i32⟩
  | 124 => ⟨S_, .i32⟩
  | 125 => ⟨S512x4096, .i32⟩
  | 126 => ⟨S512x4096, .i32⟩
  | 127 => ⟨S512x4096, .i32⟩
  | _ => ⟨S512x4096x6, .f32⟩

abbrev hbmTy0_16 (i : Nat) : BufTy := match i % 128 with
  | 0 => ⟨S512x4096, .i32⟩
  | 1 => ⟨S512x4096, .i32⟩
  | 2 => ⟨S512x4096, .i32⟩
  | 3 => ⟨S512x4096, .i32⟩
  | 4 => ⟨S512x4096, .i32⟩
  | 5 => ⟨S_, .i32⟩
  | 6 => ⟨S512x4096, .i32⟩
  | 7 => ⟨S512x4096, .i32⟩
  | 8 => ⟨S512x4096, .i32⟩
  | 9 => ⟨S_, .i32⟩
  | 10 => ⟨S512x4096, .i32⟩
  | 11 => ⟨S512x4096, .i32⟩
  | 12 => ⟨S512x4096, .i32⟩
  | 13 => ⟨S16384x128, .i32⟩
  | 14 => ⟨S128x128, .i32⟩
  | 15 => ⟨S128x128, .i32⟩
  | 16 => ⟨S128x128, .i1⟩
  | 17 => ⟨S128x128, .f32⟩
  | 18 => ⟨S128x128, .i1⟩
  | 19 => ⟨S128x128, .f32⟩
  | 20 => ⟨S32x32, .i32⟩
  | 21 => ⟨S32x32, .i32⟩
  | 22 => ⟨S32x32, .i1⟩
  | 23 => ⟨S32x32, .f32⟩
  | 24 => ⟨S16384x128, .bf16⟩
  | 25 => ⟨S512x4096, .bf16⟩
  | 26 => ⟨S_, .bf16⟩
  | 27 => ⟨S512x4096, .bf16⟩
  | 28 => ⟨S512x4096, .i1⟩
  | 29 => ⟨S512x4096x1, .f32⟩
  | 30 => ⟨S512x4096, .f32⟩
  | 31 => ⟨S512x4096, .i1⟩
  | 32 => ⟨S512x4096, .i1⟩
  | 33 => ⟨S512x4096, .i1⟩
  | 34 => ⟨S512x4096x1, .i1⟩
  | 35 => ⟨S1x1x6, .f32⟩
  | 36 => ⟨S512x4096x6, .i1⟩
  | 37 => ⟨S512x4096x6, .f32⟩
  | 38 => ⟨S512x4096x6, .f32⟩
  | _ => ⟨S512x4096x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | _ => ⟨S512x4096x6, .f32⟩

abbrev bufTy : (tb : Table) → Fin (tcTables nBuf tb) → BufTy
  | .hbm, ⟨i, _⟩ => hbmTy i
  | .local _ .vmem, ⟨0, _⟩ => ⟨S1x64x376, .i32⟩
  | .local _ .vmem, ⟨1, _⟩ => ⟨S1x64x376, .i32⟩
  | .local _ .vmem, ⟨2, _⟩ => ⟨S1x376, .f32⟩
  | .local _ .vmem, ⟨3, _⟩ => ⟨S2048x128, .i32⟩
  | .local _ .vmem, ⟨4, _⟩ => ⟨S2048x128, .i32⟩
  | .local _ .vmem, ⟨5, _⟩ => ⟨S128x128, .f32⟩
  | .local _ .vmem, ⟨6, _⟩ => ⟨S128x128, .f32⟩
  | .local _ .vmem, ⟨7, _⟩ => ⟨S32x32, .f32⟩
  | .local _ .vmem, ⟨8, _⟩ => ⟨S2048x128, .bf16⟩
  | .local _ .vmem, ⟨9, _⟩ => ⟨S2048x128, .bf16⟩
  | _, _ => ⟨S512x4096x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_c_2 : Ref sig .tc := ⟨.hbm, 256, rfl⟩
abbrev main_c_3 : Ref sig .tc := ⟨.hbm, 257, rfl⟩
abbrev main_call1_c : Ref sig .tc := ⟨.hbm, 258, rfl⟩
abbrev main_call1_c_0 : Ref sig .tc := ⟨.hbm, 259, rfl⟩
abbrev main_call1_c_1 : Ref sig .tc := ⟨.hbm, 260, rfl⟩
abbrev main_call1_call0_v0 : Ref sig .tc := ⟨.hbm, 261, rfl⟩
abbrev main_call1_v0 : Ref sig .tc := ⟨.hbm, 262, rfl⟩
abbrev main_call1_v1 : Ref sig .tc := ⟨.hbm, 263, rfl⟩
abbrev main_call1_c_2 : Ref sig .tc := ⟨.hbm, 264, rfl⟩
abbrev main_call1_c_3 : Ref sig .tc := ⟨.hbm, 265, rfl⟩
abbrev main_call1_call1_v0 : Ref sig .tc := ⟨.hbm, 266, rfl⟩
abbrev main_call1_v2 : Ref sig .tc := ⟨.hbm, 267, rfl⟩
abbrev main_call1_v3 : Ref sig .tc := ⟨.hbm, 268, rfl⟩
abbrev main_call1_c_4 : Ref sig .tc := ⟨.hbm, 269, rfl⟩
abbrev main_call1_c_5 : Ref sig .tc := ⟨.hbm, 270, rfl⟩
abbrev main_call1_call2_v0 : Ref sig .tc := ⟨.hbm, 271, rfl⟩
abbrev main_call1_v4 : Ref sig .tc := ⟨.hbm, 272, rfl⟩
abbrev main_call1_v5 : Ref sig .tc := ⟨.hbm, 273, rfl⟩
abbrev main_call1_v6 : Ref sig .tc := ⟨.hbm, 274, rfl⟩
abbrev main_call1_v7 : Ref sig .tc := ⟨.hbm, 275, rfl⟩
abbrev main_call1_call3_v0 : Ref sig .tc := ⟨.hbm, 276, rfl⟩
abbrev main_call1_call3_v1 : Ref sig .tc := ⟨.hbm, 277, rfl⟩
abbrev main_call1_call3_v2 : Ref sig .tc := ⟨.hbm, 278, rfl⟩
abbrev main_call1_call3_v3 : Ref sig .tc := ⟨.hbm, 279, rfl⟩
abbrev main_call1_call3_v4 : Ref sig .tc := ⟨.hbm, 280, rfl⟩
abbrev main_call1_call3_c : Ref sig .tc := ⟨.hbm, 281, rfl⟩
abbrev main_call1_call3_v5 : Ref sig .tc := ⟨.hbm, 282, rfl⟩
abbrev main_call1_call3_v6 : Ref sig .tc := ⟨.hbm, 283, rfl⟩
abbrev main_call1_call3_c_0 : Ref sig .tc := ⟨.hbm, 284, rfl⟩
abbrev main_call1_call3_v7 : Ref sig .tc := ⟨.hbm, 285, rfl⟩
abbrev main_call1_call3_v8 : Ref sig .tc := ⟨.hbm, 286, rfl⟩
abbrev main_call1_call3_v9 : Ref sig .tc := ⟨.hbm, 287, rfl⟩
abbrev main_call1_call3_v10 : Ref sig .tc := ⟨.hbm, 288, rfl⟩
abbrev main_call1_call3_call0_v0 : Ref sig .tc := ⟨.hbm, 289, rfl⟩
abbrev main_call1_call3_call0_c : Ref sig .tc := ⟨.hbm, 290, rfl⟩
abbrev main_call1_call3_call0_v1 : Ref sig .tc := ⟨.hbm, 291, rfl⟩
abbrev main_call1_call3_call0_v2 : Ref sig .tc := ⟨.hbm, 292, rfl⟩
abbrev main_call1_call3_call0_v3 : Ref sig .tc := ⟨.hbm, 293, rfl⟩
abbrev main_call1_call3_call0_v4 : Ref sig .tc := ⟨.hbm, 294, rfl⟩
abbrev main_call1_call3_call0_v5 : Ref sig .tc := ⟨.hbm, 295, rfl⟩
abbrev main_call1_call3_call0_v6 : Ref sig .tc := ⟨.hbm, 296, rfl⟩
abbrev main_call1_call3_call0_c_0 : Ref sig .tc := ⟨.hbm, 297, rfl⟩
abbrev main_call1_call3_call0_v7 : Ref sig .tc := ⟨.hbm, 298, rfl⟩
abbrev main_call1_call3_call0_v8 : Ref sig .tc := ⟨.hbm, 299, rfl⟩
abbrev main_call1_call3_call0_c_1 : Ref sig .tc := ⟨.hbm, 300, rfl⟩
abbrev main_call1_call3_call0_v9 : Ref sig .tc := ⟨.hbm, 301, rfl⟩
abbrev main_call1_call3_call0_v10 : Ref sig .tc := ⟨.hbm, 302, rfl⟩
abbrev main_call1_call3_call0_v11 : Ref sig .tc := ⟨.hbm, 303, rfl⟩
abbrev main_call1_call3_call0_v12 : Ref sig .tc := ⟨.hbm, 304, rfl⟩
abbrev main_call1_call3_call0_v13 : Ref sig .tc := ⟨.hbm, 305, rfl⟩
abbrev main_call1_call3_call0_c_2 : Ref sig .tc := ⟨.hbm, 306, rfl⟩
abbrev main_call1_call3_call0_v14 : Ref sig .tc := ⟨.hbm, 307, rfl⟩
abbrev main_call1_call3_call0_v15 : Ref sig .tc := ⟨.hbm, 308, rfl⟩
abbrev main_call1_call3_call0_c_3 : Ref sig .tc := ⟨.hbm, 309, rfl⟩
abbrev main_call1_call3_call0_v16 : Ref sig .tc := ⟨.hbm, 310, rfl⟩
abbrev main_call1_call3_call0_v17 : Ref sig .tc := ⟨.hbm, 311, rfl⟩
abbrev main_call1_call3_call0_v18 : Ref sig .tc := ⟨.hbm, 312, rfl⟩
abbrev main_call1_call3_call0_v19 : Ref sig .tc := ⟨.hbm, 313, rfl⟩
abbrev main_call1_call3_call0_v20 : Ref sig .tc := ⟨.hbm, 314, rfl⟩
abbrev main_call1_call3_call0_c_4 : Ref sig .tc := ⟨.hbm, 315, rfl⟩
abbrev main_call1_call3_call0_v21 : Ref sig .tc := ⟨.hbm, 316, rfl⟩
abbrev main_call1_call3_call0_v22 : Ref sig .tc := ⟨.hbm, 317, rfl⟩
abbrev main_call1_call3_call0_c_5 : Ref sig .tc := ⟨.hbm, 318, rfl⟩
abbrev main_call1_call3_call0_v23 : Ref sig .tc := ⟨.hbm, 319, rfl⟩
abbrev main_call1_call3_call0_v24 : Ref sig .tc := ⟨.hbm, 320, rfl⟩
abbrev main_call1_call3_call0_v25 : Ref sig .tc := ⟨.hbm, 321, rfl⟩
abbrev main_call1_call3_call0_v26 : Ref sig .tc := ⟨.hbm, 322, rfl⟩
abbrev main_call1_call3_call0_v27 : Ref sig .tc := ⟨.hbm, 323, rfl⟩
abbrev main_call1_call3_call0_c_6 : Ref sig .tc := ⟨.hbm, 324, rfl⟩
abbrev main_call1_call3_call0_v28 : Ref sig .tc := ⟨.hbm, 325, rfl⟩
abbrev main_call1_call3_call0_v29 : Ref sig .tc := ⟨.hbm, 326, rfl⟩
abbrev main_call1_call3_call0_c_7 : Ref sig .tc := ⟨.hbm, 327, rfl⟩
abbrev main_call1_call3_call0_v30 : Ref sig .tc := ⟨.hbm, 328, rfl⟩
abbrev main_call1_call3_call0_v31 : Ref sig .tc := ⟨.hbm, 329, rfl⟩
abbrev main_call1_call3_call0_v32 : Ref sig .tc := ⟨.hbm, 330, rfl⟩
abbrev main_call1_call3_call0_v33 : Ref sig .tc := ⟨.hbm, 331, rfl⟩
abbrev main_call1_call3_call0_v34 : Ref sig .tc := ⟨.hbm, 332, rfl⟩
abbrev main_call1_call3_call0_v35 : Ref sig .tc := ⟨.hbm, 333, rfl⟩
abbrev main_call1_call3_call0_v36 : Ref sig .tc := ⟨.hbm, 334, rfl⟩
abbrev main_call1_call3_call0_v37 : Ref sig .tc := ⟨.hbm, 335, rfl⟩
abbrev main_call1_call3_call0_c_8 : Ref sig .tc := ⟨.hbm, 336, rfl⟩
abbrev main_call1_call3_call0_v38 : Ref sig .tc := ⟨.hbm, 337, rfl⟩
abbrev main_call1_call3_call0_v39 : Ref sig .tc := ⟨.hbm, 338, rfl⟩
abbrev main_call1_call3_call0_v40 : Ref sig .tc := ⟨.hbm, 339, rfl⟩
abbrev main_call1_call3_call0_c_9 : Ref sig .tc := ⟨.hbm, 340, rfl⟩
abbrev main_call1_call3_call0_v41 : Ref sig .tc := ⟨.hbm, 341, rfl⟩
abbrev main_call1_call3_call0_v42 : Ref sig .tc := ⟨.hbm, 342, rfl⟩
abbrev main_call1_call3_call0_c_10 : Ref sig .tc := ⟨.hbm, 343, rfl⟩
abbrev main_call1_call3_call0_v43 : Ref sig .tc := ⟨.hbm, 344, rfl⟩
abbrev main_call1_call3_call0_v44 : Ref sig .tc := ⟨.hbm, 345, rfl⟩
abbrev main_call1_call3_call0_v45 : Ref sig .tc := ⟨.hbm, 346, rfl⟩
abbrev main_call1_call3_call0_v46 : Ref sig .tc := ⟨.hbm, 347, rfl⟩
abbrev main_call1_call3_call0_v47 : Ref sig .tc := ⟨.hbm, 348, rfl⟩
abbrev main_call1_call3_call0_c_11 : Ref sig .tc := ⟨.hbm, 349, rfl⟩
abbrev main_call1_call3_call0_v48 : Ref sig .tc := ⟨.hbm, 350, rfl⟩
abbrev main_call1_call3_call0_v49 : Ref sig .tc := ⟨.hbm, 351, rfl⟩
abbrev main_call1_call3_call0_c_12 : Ref sig .tc := ⟨.hbm, 352, rfl⟩
abbrev main_call1_call3_call0_v50 : Ref sig .tc := ⟨.hbm, 353, rfl⟩
abbrev main_call1_call3_call0_v51 : Ref sig .tc := ⟨.hbm, 354, rfl⟩
abbrev main_call1_call3_call0_v52 : Ref sig .tc := ⟨.hbm, 355, rfl⟩
abbrev main_call1_call3_call0_v53 : Ref sig .tc := ⟨.hbm, 356, rfl⟩
abbrev main_call1_call3_call0_v54 : Ref sig .tc := ⟨.hbm, 357, rfl⟩
abbrev main_call1_call3_call0_c_13 : Ref sig .tc := ⟨.hbm, 358, rfl⟩
abbrev main_call1_call3_call0_v55 : Ref sig .tc := ⟨.hbm, 359, rfl⟩
abbrev main_call1_call3_call0_v56 : Ref sig .tc := ⟨.hbm, 360, rfl⟩
abbrev main_call1_call3_call0_c_14 : Ref sig .tc := ⟨.hbm, 361, rfl⟩
abbrev main_call1_call3_call0_v57 : Ref sig .tc := ⟨.hbm, 362, rfl⟩
abbrev main_call1_call3_call0_v58 : Ref sig .tc := ⟨.hbm, 363, rfl⟩
abbrev main_call1_call3_call0_v59 : Ref sig .tc := ⟨.hbm, 364, rfl⟩
abbrev main_call1_call3_call0_v60 : Ref sig .tc := ⟨.hbm, 365, rfl⟩
abbrev main_call1_call3_call0_v61 : Ref sig .tc := ⟨.hbm, 366, rfl⟩
abbrev main_call1_call3_call0_c_15 : Ref sig .tc := ⟨.hbm, 367, rfl⟩
abbrev main_call1_call3_call0_v62 : Ref sig .tc := ⟨.hbm, 368, rfl⟩
abbrev main_call1_call3_call0_v63 : Ref sig .tc := ⟨.hbm, 369, rfl⟩
abbrev main_call1_call3_call0_c_16 : Ref sig .tc := ⟨.hbm, 370, rfl⟩
abbrev main_call1_call3_call0_v64 : Ref sig .tc := ⟨.hbm, 371, rfl⟩
abbrev main_call1_call3_call0_v65 : Ref sig .tc := ⟨.hbm, 372, rfl⟩
abbrev main_call1_call3_call0_v66 : Ref sig .tc := ⟨.hbm, 373, rfl⟩
abbrev main_call1_call3_call0_v67 : Ref sig .tc := ⟨.hbm, 374, rfl⟩
abbrev main_call1_call3_call0_v68 : Ref sig .tc := ⟨.hbm, 375, rfl⟩
abbrev main_call1_call3_call0_v69 : Ref sig .tc := ⟨.hbm, 376, rfl⟩
abbrev main_call1_call3_call0_v70 : Ref sig .tc := ⟨.hbm, 377, rfl⟩
abbrev main_call1_call3_call0_v71 : Ref sig .tc := ⟨.hbm, 378, rfl⟩
abbrev main_call1_call3_call0_c_17 : Ref sig .tc := ⟨.hbm, 379, rfl⟩
abbrev main_call1_call3_call0_v72 : Ref sig .tc := ⟨.hbm, 380, rfl⟩
abbrev main_call1_call3_call0_v73 : Ref sig .tc := ⟨.hbm, 381, rfl⟩
abbrev main_call1_call3_call0_v74 : Ref sig .tc := ⟨.hbm, 382, rfl⟩
abbrev main_call1_call3_call0_c_18 : Ref sig .tc := ⟨.hbm, 383, rfl⟩
abbrev main_call1_call3_call0_v75 : Ref sig .tc := ⟨.hbm, 384, rfl⟩
abbrev main_call1_call3_call0_v76 : Ref sig .tc := ⟨.hbm, 385, rfl⟩
abbrev main_call1_call3_call0_c_19 : Ref sig .tc := ⟨.hbm, 386, rfl⟩
abbrev main_call1_call3_call0_v77 : Ref sig .tc := ⟨.hbm, 387, rfl⟩
abbrev main_call1_call3_call0_v78 : Ref sig .tc := ⟨.hbm, 388, rfl⟩
abbrev main_call1_call3_call0_v79 : Ref sig .tc := ⟨.hbm, 389, rfl⟩
abbrev main_call1_call3_call0_v80 : Ref sig .tc := ⟨.hbm, 390, rfl⟩
abbrev main_call1_call3_call0_v81 : Ref sig .tc := ⟨.hbm, 391, rfl⟩
abbrev main_call1_call3_call0_c_20 : Ref sig .tc := ⟨.hbm, 392, rfl⟩
abbrev main_call1_call3_call0_v82 : Ref sig .tc := ⟨.hbm, 393, rfl⟩
abbrev main_call1_call3_call0_v83 : Ref sig .tc := ⟨.hbm, 394, rfl⟩
abbrev main_call1_call3_call0_c_21 : Ref sig .tc := ⟨.hbm, 395, rfl⟩
abbrev main_call1_call3_call0_v84 : Ref sig .tc := ⟨.hbm, 396, rfl⟩
abbrev main_call1_call3_call0_v85 : Ref sig .tc := ⟨.hbm, 397, rfl⟩
abbrev main_call1_call3_call0_v86 : Ref sig .tc := ⟨.hbm, 398, rfl⟩
abbrev main_call1_call3_call0_v87 : Ref sig .tc := ⟨.hbm, 399, rfl⟩
abbrev main_call1_call3_call0_v88 : Ref sig .tc := ⟨.hbm, 400, rfl⟩
abbrev main_call1_call3_call0_c_22 : Ref sig .tc := ⟨.hbm, 401, rfl⟩
abbrev main_call1_call3_call0_v89 : Ref sig .tc := ⟨.hbm, 402, rfl⟩
abbrev main_call1_call3_call0_v90 : Ref sig .tc := ⟨.hbm, 403, rfl⟩
abbrev main_call1_call3_call0_c_23 : Ref sig .tc := ⟨.hbm, 404, rfl⟩
abbrev main_call1_call3_call0_v91 : Ref sig .tc := ⟨.hbm, 405, rfl⟩
abbrev main_call1_call3_call0_v92 : Ref sig .tc := ⟨.hbm, 406, rfl⟩
abbrev main_call1_call3_call0_v93 : Ref sig .tc := ⟨.hbm, 407, rfl⟩
abbrev main_call1_call3_call0_v94 : Ref sig .tc := ⟨.hbm, 408, rfl⟩
abbrev main_call1_call3_call0_v95 : Ref sig .tc := ⟨.hbm, 409, rfl⟩
abbrev main_call1_call3_call0_c_24 : Ref sig .tc := ⟨.hbm, 410, rfl⟩
abbrev main_call1_call3_call0_v96 : Ref sig .tc := ⟨.hbm, 411, rfl⟩
abbrev main_call1_call3_call0_v97 : Ref sig .tc := ⟨.hbm, 412, rfl⟩
abbrev main_call1_call3_call0_c_25 : Ref sig .tc := ⟨.hbm, 413, rfl⟩
abbrev main_call1_call3_call0_v98 : Ref sig .tc := ⟨.hbm, 414, rfl⟩
abbrev main_call1_call3_call0_v99 : Ref sig .tc := ⟨.hbm, 415, rfl⟩
abbrev main_call1_call3_call0_v100 : Ref sig .tc := ⟨.hbm, 416, rfl⟩
abbrev main_call1_call3_call0_v101 : Ref sig .tc := ⟨.hbm, 417, rfl⟩
abbrev main_call1_call3_call0_v102 : Ref sig .tc := ⟨.hbm, 418, rfl⟩
abbrev main_call1_call3_call0_v103 : Ref sig .tc := ⟨.hbm, 419, rfl⟩
abbrev main_call1_call3_call0_v104 : Ref sig .tc := ⟨.hbm, 420, rfl⟩
abbrev main_call1_call3_call0_v105 : Ref sig .tc := ⟨.hbm, 421, rfl⟩
abbrev main_call1_call3_call0_c_26 : Ref sig .tc := ⟨.hbm, 422, rfl⟩
abbrev main_call1_call3_call0_v106 : Ref sig .tc := ⟨.hbm, 423, rfl⟩
abbrev main_call1_call3_call0_v107 : Ref sig .tc := ⟨.hbm, 424, rfl⟩
abbrev main_call1_call3_call0_v108 : Ref sig .tc := ⟨.hbm, 425, rfl⟩
abbrev main_call1_call3_call0_c_27 : Ref sig .tc := ⟨.hbm, 426, rfl⟩
abbrev main_call1_call3_call0_v109 : Ref sig .tc := ⟨.hbm, 427, rfl⟩
abbrev main_call1_call3_call0_v110 : Ref sig .tc := ⟨.hbm, 428, rfl⟩
abbrev main_call1_call3_call0_c_28 : Ref sig .tc := ⟨.hbm, 429, rfl⟩
abbrev main_call1_call3_call0_v111 : Ref sig .tc := ⟨.hbm, 430, rfl⟩
abbrev main_call1_call3_call0_v112 : Ref sig .tc := ⟨.hbm, 431, rfl⟩
abbrev main_call1_call3_call0_v113 : Ref sig .tc := ⟨.hbm, 432, rfl⟩
abbrev main_call1_call3_call0_v114 : Ref sig .tc := ⟨.hbm, 433, rfl⟩
abbrev main_call1_call3_call0_v115 : Ref sig .tc := ⟨.hbm, 434, rfl⟩
abbrev main_call1_call3_call0_c_29 : Ref sig .tc := ⟨.hbm, 435, rfl⟩
abbrev main_call1_call3_call0_v116 : Ref sig .tc := ⟨.hbm, 436, rfl⟩
abbrev main_call1_call3_call0_v117 : Ref sig .tc := ⟨.hbm, 437, rfl⟩
abbrev main_call1_call3_call0_c_30 : Ref sig .tc := ⟨.hbm, 438, rfl⟩
abbrev main_call1_call3_call0_v118 : Ref sig .tc := ⟨.hbm, 439, rfl⟩
abbrev main_call1_call3_call0_v119 : Ref sig .tc := ⟨.hbm, 440, rfl⟩
abbrev main_call1_call3_call0_v120 : Ref sig .tc := ⟨.hbm, 441, rfl⟩
abbrev main_call1_call3_call0_v121 : Ref sig .tc := ⟨.hbm, 442, rfl⟩
abbrev main_call1_call3_call0_v122 : Ref sig .tc := ⟨.hbm, 443, rfl⟩
abbrev main_call1_call3_call0_c_31 : Ref sig .tc := ⟨.hbm, 444, rfl⟩
abbrev main_call1_call3_call0_v123 : Ref sig .tc := ⟨.hbm, 445, rfl⟩
abbrev main_call1_call3_call0_v124 : Ref sig .tc := ⟨.hbm, 446, rfl⟩
abbrev main_call1_call3_call0_c_32 : Ref sig .tc := ⟨.hbm, 447, rfl⟩
abbrev main_call1_call3_call0_v125 : Ref sig .tc := ⟨.hbm, 448, rfl⟩
abbrev main_call1_call3_call0_v126 : Ref sig .tc := ⟨.hbm, 449, rfl⟩
abbrev main_call1_call3_call0_v127 : Ref sig .tc := ⟨.hbm, 450, rfl⟩
abbrev main_call1_call3_call0_v128 : Ref sig .tc := ⟨.hbm, 451, rfl⟩
abbrev main_call1_call3_call0_v129 : Ref sig .tc := ⟨.hbm, 452, rfl⟩
abbrev main_call1_call3_call0_c_33 : Ref sig .tc := ⟨.hbm, 453, rfl⟩
abbrev main_call1_call3_call0_v130 : Ref sig .tc := ⟨.hbm, 454, rfl⟩
abbrev main_call1_call3_call0_v131 : Ref sig .tc := ⟨.hbm, 455, rfl⟩
abbrev main_call1_call3_call0_c_34 : Ref sig .tc := ⟨.hbm, 456, rfl⟩
abbrev main_call1_call3_call0_v132 : Ref sig .tc := ⟨.hbm, 457, rfl⟩
abbrev main_call1_call3_call0_v133 : Ref sig .tc := ⟨.hbm, 458, rfl⟩
abbrev main_call1_call3_call0_v134 : Ref sig .tc := ⟨.hbm, 459, rfl⟩
abbrev main_call1_call3_call0_v135 : Ref sig .tc := ⟨.hbm, 460, rfl⟩
abbrev main_call1_call3_call0_v136 : Ref sig .tc := ⟨.hbm, 461, rfl⟩
abbrev main_call1_call3_call0_v137 : Ref sig .tc := ⟨.hbm, 462, rfl⟩
abbrev main_call1_call3_call0_v138 : Ref sig .tc := ⟨.hbm, 463, rfl⟩
abbrev main_call1_call3_call0_v139 : Ref sig .tc := ⟨.hbm, 464, rfl⟩
abbrev main_call1_call3_call0_c_35 : Ref sig .tc := ⟨.hbm, 465, rfl⟩
abbrev main_call1_call3_call0_v140 : Ref sig .tc := ⟨.hbm, 466, rfl⟩
abbrev main_call1_call3_call0_v141 : Ref sig .tc := ⟨.hbm, 467, rfl⟩
abbrev main_call1_call3_call0_v142 : Ref sig .tc := ⟨.hbm, 468, rfl⟩
abbrev main_call1_call3_call0_c_36 : Ref sig .tc := ⟨.hbm, 469, rfl⟩
abbrev main_call1_call3_call0_v143 : Ref sig .tc := ⟨.hbm, 470, rfl⟩
abbrev main_call1_call3_call0_v144 : Ref sig .tc := ⟨.hbm, 471, rfl⟩
abbrev main_call1_call3_call0_c_37 : Ref sig .tc := ⟨.hbm, 472, rfl⟩
abbrev main_call1_call3_call0_v145 : Ref sig .tc := ⟨.hbm, 473, rfl⟩
abbrev main_call1_call3_call0_v146 : Ref sig .tc := ⟨.hbm, 474, rfl⟩
abbrev main_call1_call3_call0_v147 : Ref sig .tc := ⟨.hbm, 475, rfl⟩
abbrev main_call1_call3_call0_v148 : Ref sig .tc := ⟨.hbm, 476, rfl⟩
abbrev main_call1_call3_call0_v149 : Ref sig .tc := ⟨.hbm, 477, rfl⟩
abbrev main_call1_call3_call0_c_38 : Ref sig .tc := ⟨.hbm, 478, rfl⟩
abbrev main_call1_call3_call0_v150 : Ref sig .tc := ⟨.hbm, 479, rfl⟩
abbrev main_call1_call3_call0_v151 : Ref sig .tc := ⟨.hbm, 480, rfl⟩
abbrev main_call1_call3_call0_c_39 : Ref sig .tc := ⟨.hbm, 481, rfl⟩
abbrev main_call1_call3_call0_v152 : Ref sig .tc := ⟨.hbm, 482, rfl⟩
abbrev main_call1_call3_call0_v153 : Ref sig .tc := ⟨.hbm, 483, rfl⟩
abbrev main_call1_call3_call0_v154 : Ref sig .tc := ⟨.hbm, 484, rfl⟩
abbrev main_call1_call3_call0_v155 : Ref sig .tc := ⟨.hbm, 485, rfl⟩
abbrev main_call1_call3_call0_v156 : Ref sig .tc := ⟨.hbm, 486, rfl⟩
abbrev main_call1_call3_call0_c_40 : Ref sig .tc := ⟨.hbm, 487, rfl⟩
abbrev main_call1_call3_call0_v157 : Ref sig .tc := ⟨.hbm, 488, rfl⟩
abbrev main_call1_call3_call0_v158 : Ref sig .tc := ⟨.hbm, 489, rfl⟩
abbrev main_call1_call3_call0_c_41 : Ref sig .tc := ⟨.hbm, 490, rfl⟩
abbrev main_call1_call3_call0_v159 : Ref sig .tc := ⟨.hbm, 491, rfl⟩
abbrev main_call1_call3_call0_v160 : Ref sig .tc := ⟨.hbm, 492, rfl⟩
abbrev main_call1_call3_call0_v161 : Ref sig .tc := ⟨.hbm, 493, rfl⟩
abbrev main_call1_call3_call0_v162 : Ref sig .tc := ⟨.hbm, 494, rfl⟩
abbrev main_call1_call3_call0_v163 : Ref sig .tc := ⟨.hbm, 495, rfl⟩
abbrev main_call1_call3_call0_c_42 : Ref sig .tc := ⟨.hbm, 496, rfl⟩
abbrev main_call1_call3_call0_v164 : Ref sig .tc := ⟨.hbm, 497, rfl⟩
abbrev main_call1_call3_call0_v165 : Ref sig .tc := ⟨.hbm, 498, rfl⟩
abbrev main_call1_call3_call0_c_43 : Ref sig .tc := ⟨.hbm, 499, rfl⟩
abbrev main_call1_call3_call0_v166 : Ref sig .tc := ⟨.hbm, 500, rfl⟩
abbrev main_call1_call3_call0_v167 : Ref sig .tc := ⟨.hbm, 501, rfl⟩
abbrev main_call1_call3_call0_v168 : Ref sig .tc := ⟨.hbm, 502, rfl⟩
abbrev main_call1_call3_call0_v169 : Ref sig .tc := ⟨.hbm, 503, rfl⟩
abbrev main_call1_call3_call0_v170 : Ref sig .tc := ⟨.hbm, 504, rfl⟩
abbrev main_call1_call3_v11_0 : Ref sig .tc := ⟨.hbm, 505, rfl⟩
abbrev main_call1_call3_call0_v172 : Ref sig .tc := ⟨.hbm, 506, rfl⟩
abbrev main_call1_call3_call0_v173 : Ref sig .tc := ⟨.hbm, 507, rfl⟩
abbrev main_call1_call3_call0_c_44 : Ref sig .tc := ⟨.hbm, 508, rfl⟩
abbrev main_call1_call3_call0_v174 : Ref sig .tc := ⟨.hbm, 509, rfl⟩
abbrev main_call1_call3_v11_1 : Ref sig .tc := ⟨.hbm, 510, rfl⟩
abbrev main_call1_call3_v12 : Ref sig .tc := ⟨.hbm, 511, rfl⟩
abbrev main_call1_call3_v13 : Ref sig .tc := ⟨.hbm, 512, rfl⟩
abbrev main_call1_v8 : Ref sig .tc := ⟨.hbm, 513, rfl⟩
abbrev main_call1_v9 : Ref sig .tc := ⟨.hbm, 514, rfl⟩
abbrev main_call1_v10 : Ref sig .tc := ⟨.hbm, 515, rfl⟩
abbrev main_call1_v11 : Ref sig .tc := ⟨.hbm, 516, rfl⟩
abbrev main_call1_v12 : Ref sig .tc := ⟨.hbm, 517, rfl⟩
abbrev main_call1_v13 : Ref sig .tc := ⟨.hbm, 518, rfl⟩
abbrev main_call1_v14 : Ref sig .tc := ⟨.hbm, 519, rfl⟩
abbrev main_call1_v15 : Ref sig .tc := ⟨.hbm, 520, rfl⟩
abbrev main_call1_v16 : Ref sig .tc := ⟨.hbm, 521, rfl⟩
abbrev main_call1_v17 : Ref sig .tc := ⟨.hbm, 522, rfl⟩
abbrev main_call1_v18 : Ref sig .tc := ⟨.hbm, 523, rfl⟩
abbrev main_call1_c_6 : Ref sig .tc := ⟨.hbm, 524, rfl⟩
abbrev main_call1_v19 : Ref sig .tc := ⟨.hbm, 525, rfl⟩
abbrev main_call1_v20 : Ref sig .tc := ⟨.hbm, 526, rfl⟩
abbrev main_call1_c_7 : Ref sig .tc := ⟨.hbm, 527, rfl⟩
abbrev main_call1_v21 : Ref sig .tc := ⟨.hbm, 528, rfl⟩
abbrev main_call1_v22 : Ref sig .tc := ⟨.hbm, 529, rfl⟩
abbrev main_call1_v23 : Ref sig .tc := ⟨.hbm, 530, rfl⟩
abbrev main_call1_c_8 : Ref sig .tc := ⟨.hbm, 531, rfl⟩
abbrev main_call1_v24 : Ref sig .tc := ⟨.hbm, 532, rfl⟩
abbrev main_call1_v25 : Ref sig .tc := ⟨.hbm, 533, rfl⟩
abbrev main_call1_v26 : Ref sig .tc := ⟨.hbm, 534, rfl⟩
abbrev main_call1_v27 : Ref sig .tc := ⟨.hbm, 535, rfl⟩
abbrev main_call1_call4_v0 : Ref sig .tc := ⟨.hbm, 536, rfl⟩
abbrev main_call1_call4_c : Ref sig .tc := ⟨.hbm, 537, rfl⟩
abbrev main_call1_call4_v1 : Ref sig .tc := ⟨.hbm, 538, rfl⟩
abbrev main_call1_call4_v2 : Ref sig .tc := ⟨.hbm, 539, rfl⟩
abbrev main_call1_call4_v3 : Ref sig .tc := ⟨.hbm, 540, rfl⟩
abbrev main_call1_call4_v4 : Ref sig .tc := ⟨.hbm, 541, rfl⟩
abbrev main_call1_call4_v5 : Ref sig .tc := ⟨.hbm, 542, rfl⟩
abbrev main_call1_call4_v6 : Ref sig .tc := ⟨.hbm, 543, rfl⟩
abbrev main_call1_call4_c_0 : Ref sig .tc := ⟨.hbm, 544, rfl⟩
abbrev main_call1_call4_v7 : Ref sig .tc := ⟨.hbm, 545, rfl⟩
abbrev main_call1_call4_v8 : Ref sig .tc := ⟨.hbm, 546, rfl⟩
abbrev main_call1_call4_c_1 : Ref sig .tc := ⟨.hbm, 547, rfl⟩
abbrev main_call1_call4_v9 : Ref sig .tc := ⟨.hbm, 548, rfl⟩
abbrev main_call1_call4_v10 : Ref sig .tc := ⟨.hbm, 549, rfl⟩
abbrev main_call1_call4_v11 : Ref sig .tc := ⟨.hbm, 550, rfl⟩
abbrev main_call1_call4_v12 : Ref sig .tc := ⟨.hbm, 551, rfl⟩
abbrev main_call1_call4_v13 : Ref sig .tc := ⟨.hbm, 552, rfl⟩
abbrev main_call1_call4_c_2 : Ref sig .tc := ⟨.hbm, 553, rfl⟩
abbrev main_call1_call4_v14 : Ref sig .tc := ⟨.hbm, 554, rfl⟩
abbrev main_call1_call4_v15 : Ref sig .tc := ⟨.hbm, 555, rfl⟩
abbrev main_call1_call4_c_3 : Ref sig .tc := ⟨.hbm, 556, rfl⟩
abbrev main_call1_call4_v16 : Ref sig .tc := ⟨.hbm, 557, rfl⟩
abbrev main_call1_call4_v17 : Ref sig .tc := ⟨.hbm, 558, rfl⟩
abbrev main_call1_call4_v18 : Ref sig .tc := ⟨.hbm, 559, rfl⟩
abbrev main_call1_call4_v19 : Ref sig .tc := ⟨.hbm, 560, rfl⟩
abbrev main_call1_call4_v20 : Ref sig .tc := ⟨.hbm, 561, rfl⟩
abbrev main_call1_call4_c_4 : Ref sig .tc := ⟨.hbm, 562, rfl⟩
abbrev main_call1_call4_v21 : Ref sig .tc := ⟨.hbm, 563, rfl⟩
abbrev main_call1_call4_v22 : Ref sig .tc := ⟨.hbm, 564, rfl⟩
abbrev main_call1_call4_c_5 : Ref sig .tc := ⟨.hbm, 565, rfl⟩
abbrev main_call1_call4_v23 : Ref sig .tc := ⟨.hbm, 566, rfl⟩
abbrev main_call1_call4_v24 : Ref sig .tc := ⟨.hbm, 567, rfl⟩
abbrev main_call1_call4_v25 : Ref sig .tc := ⟨.hbm, 568, rfl⟩
abbrev main_call1_call4_v26 : Ref sig .tc := ⟨.hbm, 569, rfl⟩
abbrev main_call1_call4_v27 : Ref sig .tc := ⟨.hbm, 570, rfl⟩
abbrev main_call1_call4_c_6 : Ref sig .tc := ⟨.hbm, 571, rfl⟩
abbrev main_call1_call4_v28 : Ref sig .tc := ⟨.hbm, 572, rfl⟩
abbrev main_call1_call4_v29 : Ref sig .tc := ⟨.hbm, 573, rfl⟩
abbrev main_call1_call4_c_7 : Ref sig .tc := ⟨.hbm, 574, rfl⟩
abbrev main_call1_call4_v30 : Ref sig .tc := ⟨.hbm, 575, rfl⟩
abbrev main_call1_call4_v31 : Ref sig .tc := ⟨.hbm, 576, rfl⟩
abbrev main_call1_call4_v32 : Ref sig .tc := ⟨.hbm, 577, rfl⟩
abbrev main_call1_call4_v33 : Ref sig .tc := ⟨.hbm, 578, rfl⟩
abbrev main_call1_call4_v34 : Ref sig .tc := ⟨.hbm, 579, rfl⟩
abbrev main_call1_call4_v35 : Ref sig .tc := ⟨.hbm, 580, rfl⟩
abbrev main_call1_call4_v36 : Ref sig .tc := ⟨.hbm, 581, rfl⟩
abbrev main_call1_call4_v37 : Ref sig .tc := ⟨.hbm, 582, rfl⟩
abbrev main_call1_call4_c_8 : Ref sig .tc := ⟨.hbm, 583, rfl⟩
abbrev main_call1_call4_v38 : Ref sig .tc := ⟨.hbm, 584, rfl⟩
abbrev main_call1_call4_v39 : Ref sig .tc := ⟨.hbm, 585, rfl⟩
abbrev main_call1_call4_v40 : Ref sig .tc := ⟨.hbm, 586, rfl⟩
abbrev main_call1_call4_c_9 : Ref sig .tc := ⟨.hbm, 587, rfl⟩
abbrev main_call1_call4_v41 : Ref sig .tc := ⟨.hbm, 588, rfl⟩
abbrev main_call1_call4_v42 : Ref sig .tc := ⟨.hbm, 589, rfl⟩
abbrev main_call1_call4_c_10 : Ref sig .tc := ⟨.hbm, 590, rfl⟩
abbrev main_call1_call4_v43 : Ref sig .tc := ⟨.hbm, 591, rfl⟩
abbrev main_call1_call4_v44 : Ref sig .tc := ⟨.hbm, 592, rfl⟩
abbrev main_call1_call4_v45 : Ref sig .tc := ⟨.hbm, 593, rfl⟩
abbrev main_call1_call4_v46 : Ref sig .tc := ⟨.hbm, 594, rfl⟩
abbrev main_call1_call4_v47 : Ref sig .tc := ⟨.hbm, 595, rfl⟩
abbrev main_call1_call4_c_11 : Ref sig .tc := ⟨.hbm, 596, rfl⟩
abbrev main_call1_call4_v48 : Ref sig .tc := ⟨.hbm, 597, rfl⟩
abbrev main_call1_call4_v49 : Ref sig .tc := ⟨.hbm, 598, rfl⟩
abbrev main_call1_call4_c_12 : Ref sig .tc := ⟨.hbm, 599, rfl⟩
abbrev main_call1_call4_v50 : Ref sig .tc := ⟨.hbm, 600, rfl⟩
abbrev main_call1_call4_v51 : Ref sig .tc := ⟨.hbm, 601, rfl⟩
abbrev main_call1_call4_v52 : Ref sig .tc := ⟨.hbm, 602, rfl⟩
abbrev main_call1_call4_v53 : Ref sig .tc := ⟨.hbm, 603, rfl⟩
abbrev main_call1_call4_v54 : Ref sig .tc := ⟨.hbm, 604, rfl⟩
abbrev main_call1_call4_c_13 : Ref sig .tc := ⟨.hbm, 605, rfl⟩
abbrev main_call1_call4_v55 : Ref sig .tc := ⟨.hbm, 606, rfl⟩
abbrev main_call1_call4_v56 : Ref sig .tc := ⟨.hbm, 607, rfl⟩
abbrev main_call1_call4_c_14 : Ref sig .tc := ⟨.hbm, 608, rfl⟩
abbrev main_call1_call4_v57 : Ref sig .tc := ⟨.hbm, 609, rfl⟩
abbrev main_call1_call4_v58 : Ref sig .tc := ⟨.hbm, 610, rfl⟩
abbrev main_call1_call4_v59 : Ref sig .tc := ⟨.hbm, 611, rfl⟩
abbrev main_call1_call4_v60 : Ref sig .tc := ⟨.hbm, 612, rfl⟩
abbrev main_call1_call4_v61 : Ref sig .tc := ⟨.hbm, 613, rfl⟩
abbrev main_call1_call4_c_15 : Ref sig .tc := ⟨.hbm, 614, rfl⟩
abbrev main_call1_call4_v62 : Ref sig .tc := ⟨.hbm, 615, rfl⟩
abbrev main_call1_call4_v63 : Ref sig .tc := ⟨.hbm, 616, rfl⟩
abbrev main_call1_call4_c_16 : Ref sig .tc := ⟨.hbm, 617, rfl⟩
abbrev main_call1_call4_v64 : Ref sig .tc := ⟨.hbm, 618, rfl⟩
abbrev main_call1_call4_v65 : Ref sig .tc := ⟨.hbm, 619, rfl⟩
abbrev main_call1_call4_v66 : Ref sig .tc := ⟨.hbm, 620, rfl⟩
abbrev main_call1_call4_v67 : Ref sig .tc := ⟨.hbm, 621, rfl⟩
abbrev main_call1_call4_v68 : Ref sig .tc := ⟨.hbm, 622, rfl⟩
abbrev main_call1_call4_v69 : Ref sig .tc := ⟨.hbm, 623, rfl⟩
abbrev main_call1_call4_v70 : Ref sig .tc := ⟨.hbm, 624, rfl⟩
abbrev main_call1_call4_v71 : Ref sig .tc := ⟨.hbm, 625, rfl⟩
abbrev main_call1_call4_c_17 : Ref sig .tc := ⟨.hbm, 626, rfl⟩
abbrev main_call1_call4_v72 : Ref sig .tc := ⟨.hbm, 627, rfl⟩
abbrev main_call1_call4_v73 : Ref sig .tc := ⟨.hbm, 628, rfl⟩
abbrev main_call1_call4_v74 : Ref sig .tc := ⟨.hbm, 629, rfl⟩
abbrev main_call1_call4_c_18 : Ref sig .tc := ⟨.hbm, 630, rfl⟩
abbrev main_call1_call4_v75 : Ref sig .tc := ⟨.hbm, 631, rfl⟩
abbrev main_call1_call4_v76 : Ref sig .tc := ⟨.hbm, 632, rfl⟩
abbrev main_call1_call4_c_19 : Ref sig .tc := ⟨.hbm, 633, rfl⟩
abbrev main_call1_call4_v77 : Ref sig .tc := ⟨.hbm, 634, rfl⟩
abbrev main_call1_call4_v78 : Ref sig .tc := ⟨.hbm, 635, rfl⟩
abbrev main_call1_call4_v79 : Ref sig .tc := ⟨.hbm, 636, rfl⟩
abbrev main_call1_call4_v80 : Ref sig .tc := ⟨.hbm, 637, rfl⟩
abbrev main_call1_call4_v81 : Ref sig .tc := ⟨.hbm, 638, rfl⟩
abbrev main_call1_call4_c_20 : Ref sig .tc := ⟨.hbm, 639, rfl⟩
abbrev main_call1_call4_v82 : Ref sig .tc := ⟨.hbm, 640, rfl⟩
abbrev main_call1_call4_v83 : Ref sig .tc := ⟨.hbm, 641, rfl⟩
abbrev main_call1_call4_c_21 : Ref sig .tc := ⟨.hbm, 642, rfl⟩
abbrev main_call1_call4_v84 : Ref sig .tc := ⟨.hbm, 643, rfl⟩
abbrev main_call1_call4_v85 : Ref sig .tc := ⟨.hbm, 644, rfl⟩
abbrev main_call1_call4_v86 : Ref sig .tc := ⟨.hbm, 645, rfl⟩
abbrev main_call1_call4_v87 : Ref sig .tc := ⟨.hbm, 646, rfl⟩
abbrev main_call1_call4_v88 : Ref sig .tc := ⟨.hbm, 647, rfl⟩
abbrev main_call1_call4_c_22 : Ref sig .tc := ⟨.hbm, 648, rfl⟩
abbrev main_call1_call4_v89 : Ref sig .tc := ⟨.hbm, 649, rfl⟩
abbrev main_call1_call4_v90 : Ref sig .tc := ⟨.hbm, 650, rfl⟩
abbrev main_call1_call4_c_23 : Ref sig .tc := ⟨.hbm, 651, rfl⟩
abbrev main_call1_call4_v91 : Ref sig .tc := ⟨.hbm, 652, rfl⟩
abbrev main_call1_call4_v92 : Ref sig .tc := ⟨.hbm, 653, rfl⟩
abbrev main_call1_call4_v93 : Ref sig .tc := ⟨.hbm, 654, rfl⟩
abbrev main_call1_call4_v94 : Ref sig .tc := ⟨.hbm, 655, rfl⟩
abbrev main_call1_call4_v95 : Ref sig .tc := ⟨.hbm, 656, rfl⟩
abbrev main_call1_call4_c_24 : Ref sig .tc := ⟨.hbm, 657, rfl⟩
abbrev main_call1_call4_v96 : Ref sig .tc := ⟨.hbm, 658, rfl⟩
abbrev main_call1_call4_v97 : Ref sig .tc := ⟨.hbm, 659, rfl⟩
abbrev main_call1_call4_c_25 : Ref sig .tc := ⟨.hbm, 660, rfl⟩
abbrev main_call1_call4_v98 : Ref sig .tc := ⟨.hbm, 661, rfl⟩
abbrev main_call1_call4_v99 : Ref sig .tc := ⟨.hbm, 662, rfl⟩
abbrev main_call1_call4_v100 : Ref sig .tc := ⟨.hbm, 663, rfl⟩
abbrev main_call1_call4_v101 : Ref sig .tc := ⟨.hbm, 664, rfl⟩
abbrev main_call1_call4_v102 : Ref sig .tc := ⟨.hbm, 665, rfl⟩
abbrev main_call1_call4_v103 : Ref sig .tc := ⟨.hbm, 666, rfl⟩
abbrev main_call1_call4_v104 : Ref sig .tc := ⟨.hbm, 667, rfl⟩
abbrev main_call1_call4_v105 : Ref sig .tc := ⟨.hbm, 668, rfl⟩
abbrev main_call1_call4_c_26 : Ref sig .tc := ⟨.hbm, 669, rfl⟩
abbrev main_call1_call4_v106 : Ref sig .tc := ⟨.hbm, 670, rfl⟩
abbrev main_call1_call4_v107 : Ref sig .tc := ⟨.hbm, 671, rfl⟩
abbrev main_call1_call4_v108 : Ref sig .tc := ⟨.hbm, 672, rfl⟩
abbrev main_call1_call4_c_27 : Ref sig .tc := ⟨.hbm, 673, rfl⟩
abbrev main_call1_call4_v109 : Ref sig .tc := ⟨.hbm, 674, rfl⟩
abbrev main_call1_call4_v110 : Ref sig .tc := ⟨.hbm, 675, rfl⟩
abbrev main_call1_call4_c_28 : Ref sig .tc := ⟨.hbm, 676, rfl⟩
abbrev main_call1_call4_v111 : Ref sig .tc := ⟨.hbm, 677, rfl⟩
abbrev main_call1_call4_v112 : Ref sig .tc := ⟨.hbm, 678, rfl⟩
abbrev main_call1_call4_v113 : Ref sig .tc := ⟨.hbm, 679, rfl⟩
abbrev main_call1_call4_v114 : Ref sig .tc := ⟨.hbm, 680, rfl⟩
abbrev main_call1_call4_v115 : Ref sig .tc := ⟨.hbm, 681, rfl⟩
abbrev main_call1_call4_c_29 : Ref sig .tc := ⟨.hbm, 682, rfl⟩
abbrev main_call1_call4_v116 : Ref sig .tc := ⟨.hbm, 683, rfl⟩
abbrev main_call1_call4_v117 : Ref sig .tc := ⟨.hbm, 684, rfl⟩
abbrev main_call1_call4_c_30 : Ref sig .tc := ⟨.hbm, 685, rfl⟩
abbrev main_call1_call4_v118 : Ref sig .tc := ⟨.hbm, 686, rfl⟩
abbrev main_call1_call4_v119 : Ref sig .tc := ⟨.hbm, 687, rfl⟩
abbrev main_call1_call4_v120 : Ref sig .tc := ⟨.hbm, 688, rfl⟩
abbrev main_call1_call4_v121 : Ref sig .tc := ⟨.hbm, 689, rfl⟩
abbrev main_call1_call4_v122 : Ref sig .tc := ⟨.hbm, 690, rfl⟩
abbrev main_call1_call4_c_31 : Ref sig .tc := ⟨.hbm, 691, rfl⟩
abbrev main_call1_call4_v123 : Ref sig .tc := ⟨.hbm, 692, rfl⟩
abbrev main_call1_call4_v124 : Ref sig .tc := ⟨.hbm, 693, rfl⟩
abbrev main_call1_call4_c_32 : Ref sig .tc := ⟨.hbm, 694, rfl⟩
abbrev main_call1_call4_v125 : Ref sig .tc := ⟨.hbm, 695, rfl⟩
abbrev main_call1_call4_v126 : Ref sig .tc := ⟨.hbm, 696, rfl⟩
abbrev main_call1_call4_v127 : Ref sig .tc := ⟨.hbm, 697, rfl⟩
abbrev main_call1_call4_v128 : Ref sig .tc := ⟨.hbm, 698, rfl⟩
abbrev main_call1_call4_v129 : Ref sig .tc := ⟨.hbm, 699, rfl⟩
abbrev main_call1_call4_c_33 : Ref sig .tc := ⟨.hbm, 700, rfl⟩
abbrev main_call1_call4_v130 : Ref sig .tc := ⟨.hbm, 701, rfl⟩
abbrev main_call1_call4_v131 : Ref sig .tc := ⟨.hbm, 702, rfl⟩
abbrev main_call1_call4_c_34 : Ref sig .tc := ⟨.hbm, 703, rfl⟩
abbrev main_call1_call4_v132 : Ref sig .tc := ⟨.hbm, 704, rfl⟩
abbrev main_call1_call4_v133 : Ref sig .tc := ⟨.hbm, 705, rfl⟩
abbrev main_call1_call4_v134 : Ref sig .tc := ⟨.hbm, 706, rfl⟩
abbrev main_call1_call4_v135 : Ref sig .tc := ⟨.hbm, 707, rfl⟩
abbrev main_call1_call4_v136 : Ref sig .tc := ⟨.hbm, 708, rfl⟩
abbrev main_call1_call4_v137 : Ref sig .tc := ⟨.hbm, 709, rfl⟩
abbrev main_call1_call4_v138 : Ref sig .tc := ⟨.hbm, 710, rfl⟩
abbrev main_call1_call4_v139 : Ref sig .tc := ⟨.hbm, 711, rfl⟩
abbrev main_call1_call4_c_35 : Ref sig .tc := ⟨.hbm, 712, rfl⟩
abbrev main_call1_call4_v140 : Ref sig .tc := ⟨.hbm, 713, rfl⟩
abbrev main_call1_call4_v141 : Ref sig .tc := ⟨.hbm, 714, rfl⟩
abbrev main_call1_call4_v142 : Ref sig .tc := ⟨.hbm, 715, rfl⟩
abbrev main_call1_call4_c_36 : Ref sig .tc := ⟨.hbm, 716, rfl⟩
abbrev main_call1_call4_v143 : Ref sig .tc := ⟨.hbm, 717, rfl⟩
abbrev main_call1_call4_v144 : Ref sig .tc := ⟨.hbm, 718, rfl⟩
abbrev main_call1_call4_c_37 : Ref sig .tc := ⟨.hbm, 719, rfl⟩
abbrev main_call1_call4_v145 : Ref sig .tc := ⟨.hbm, 720, rfl⟩
abbrev main_call1_call4_v146 : Ref sig .tc := ⟨.hbm, 721, rfl⟩
abbrev main_call1_call4_v147 : Ref sig .tc := ⟨.hbm, 722, rfl⟩
abbrev main_call1_call4_v148 : Ref sig .tc := ⟨.hbm, 723, rfl⟩
abbrev main_call1_call4_v149 : Ref sig .tc := ⟨.hbm, 724, rfl⟩
abbrev main_call1_call4_c_38 : Ref sig .tc := ⟨.hbm, 725, rfl⟩
abbrev main_call1_call4_v150 : Ref sig .tc := ⟨.hbm, 726, rfl⟩
abbrev main_call1_call4_v151 : Ref sig .tc := ⟨.hbm, 727, rfl⟩
abbrev main_call1_call4_c_39 : Ref sig .tc := ⟨.hbm, 728, rfl⟩
abbrev main_call1_call4_v152 : Ref sig .tc := ⟨.hbm, 729, rfl⟩
abbrev main_call1_call4_v153 : Ref sig .tc := ⟨.hbm, 730, rfl⟩
abbrev main_call1_call4_v154 : Ref sig .tc := ⟨.hbm, 731, rfl⟩
abbrev main_call1_call4_v155 : Ref sig .tc := ⟨.hbm, 732, rfl⟩
abbrev main_call1_call4_v156 : Ref sig .tc := ⟨.hbm, 733, rfl⟩
abbrev main_call1_call4_c_40 : Ref sig .tc := ⟨.hbm, 734, rfl⟩
abbrev main_call1_call4_v157 : Ref sig .tc := ⟨.hbm, 735, rfl⟩
abbrev main_call1_call4_v158 : Ref sig .tc := ⟨.hbm, 736, rfl⟩
abbrev main_call1_call4_c_41 : Ref sig .tc := ⟨.hbm, 737, rfl⟩
abbrev main_call1_call4_v159 : Ref sig .tc := ⟨.hbm, 738, rfl⟩
abbrev main_call1_call4_v160 : Ref sig .tc := ⟨.hbm, 739, rfl⟩
abbrev main_call1_call4_v161 : Ref sig .tc := ⟨.hbm, 740, rfl⟩
abbrev main_call1_call4_v162 : Ref sig .tc := ⟨.hbm, 741, rfl⟩
abbrev main_call1_call4_v163 : Ref sig .tc := ⟨.hbm, 742, rfl⟩
abbrev main_call1_call4_c_42 : Ref sig .tc := ⟨.hbm, 743, rfl⟩
abbrev main_call1_call4_v164 : Ref sig .tc := ⟨.hbm, 744, rfl⟩
abbrev main_call1_call4_v165 : Ref sig .tc := ⟨.hbm, 745, rfl⟩
abbrev main_call1_call4_c_43 : Ref sig .tc := ⟨.hbm, 746, rfl⟩
abbrev main_call1_call4_v166 : Ref sig .tc := ⟨.hbm, 747, rfl⟩
abbrev main_call1_call4_v167 : Ref sig .tc := ⟨.hbm, 748, rfl⟩
abbrev main_call1_call4_v168 : Ref sig .tc := ⟨.hbm, 749, rfl⟩
abbrev main_call1_call4_v169 : Ref sig .tc := ⟨.hbm, 750, rfl⟩
abbrev main_call1_call4_v170 : Ref sig .tc := ⟨.hbm, 751, rfl⟩
abbrev main_call1_v28_0 : Ref sig .tc := ⟨.hbm, 752, rfl⟩
abbrev main_call1_call4_v172 : Ref sig .tc := ⟨.hbm, 753, rfl⟩
abbrev main_call1_call4_v173 : Ref sig .tc := ⟨.hbm, 754, rfl⟩
abbrev main_call1_call4_c_44 : Ref sig .tc := ⟨.hbm, 755, rfl⟩
abbrev main_call1_call4_v174 : Ref sig .tc := ⟨.hbm, 756, rfl⟩
abbrev main_call1_v28_1 : Ref sig .tc := ⟨.hbm, 757, rfl⟩
abbrev main_call1_v29 : Ref sig .tc := ⟨.hbm, 758, rfl⟩
abbrev main_call1_v30 : Ref sig .tc := ⟨.hbm, 759, rfl⟩
abbrev main_call1_v31 : Ref sig .tc := ⟨.hbm, 760, rfl⟩
abbrev main_call1_v32 : Ref sig .tc := ⟨.hbm, 761, rfl⟩
abbrev main_call1_v33 : Ref sig .tc := ⟨.hbm, 762, rfl⟩
abbrev main_call1_v34 : Ref sig .tc := ⟨.hbm, 763, rfl⟩
abbrev main_call1_v35 : Ref sig .tc := ⟨.hbm, 764, rfl⟩
abbrev main_call1_c_9 : Ref sig .tc := ⟨.hbm, 765, rfl⟩
abbrev main_call1_v36 : Ref sig .tc := ⟨.hbm, 766, rfl⟩
abbrev main_call1_v37 : Ref sig .tc := ⟨.hbm, 767, rfl⟩
abbrev main_call1_c_10 : Ref sig .tc := ⟨.hbm, 768, rfl⟩
abbrev main_call1_v38 : Ref sig .tc := ⟨.hbm, 769, rfl⟩
abbrev main_call1_v39 : Ref sig .tc := ⟨.hbm, 770, rfl⟩
abbrev main_call1_v40 : Ref sig .tc := ⟨.hbm, 771, rfl⟩
abbrev main_call1_c_11 : Ref sig .tc := ⟨.hbm, 772, rfl⟩
abbrev main_call1_v41 : Ref sig .tc := ⟨.hbm, 773, rfl⟩
abbrev main_call1_v42 : Ref sig .tc := ⟨.hbm, 774, rfl⟩
abbrev main_call1_v43 : Ref sig .tc := ⟨.hbm, 775, rfl⟩
abbrev main_call1_v44 : Ref sig .tc := ⟨.hbm, 776, rfl⟩
abbrev main_call1_call5_v0 : Ref sig .tc := ⟨.hbm, 777, rfl⟩
abbrev main_call1_call5_c : Ref sig .tc := ⟨.hbm, 778, rfl⟩
abbrev main_call1_call5_v1 : Ref sig .tc := ⟨.hbm, 779, rfl⟩
abbrev main_call1_call5_v2 : Ref sig .tc := ⟨.hbm, 780, rfl⟩
abbrev main_call1_call5_v3 : Ref sig .tc := ⟨.hbm, 781, rfl⟩
abbrev main_call1_call5_v4 : Ref sig .tc := ⟨.hbm, 782, rfl⟩
abbrev main_call1_call5_v5 : Ref sig .tc := ⟨.hbm, 783, rfl⟩
abbrev main_call1_call5_v6 : Ref sig .tc := ⟨.hbm, 784, rfl⟩
abbrev main_call1_call5_c_0 : Ref sig .tc := ⟨.hbm, 785, rfl⟩
abbrev main_call1_call5_v7 : Ref sig .tc := ⟨.hbm, 786, rfl⟩
abbrev main_call1_call5_v8 : Ref sig .tc := ⟨.hbm, 787, rfl⟩
abbrev main_call1_call5_c_1 : Ref sig .tc := ⟨.hbm, 788, rfl⟩
abbrev main_call1_call5_v9 : Ref sig .tc := ⟨.hbm, 789, rfl⟩
abbrev main_call1_call5_v10 : Ref sig .tc := ⟨.hbm, 790, rfl⟩
abbrev main_call1_call5_v11 : Ref sig .tc := ⟨.hbm, 791, rfl⟩
abbrev main_call1_call5_v12 : Ref sig .tc := ⟨.hbm, 792, rfl⟩
abbrev main_call1_call5_v13 : Ref sig .tc := ⟨.hbm, 793, rfl⟩
abbrev main_call1_call5_c_2 : Ref sig .tc := ⟨.hbm, 794, rfl⟩
abbrev main_call1_call5_v14 : Ref sig .tc := ⟨.hbm, 795, rfl⟩
abbrev main_call1_call5_v15 : Ref sig .tc := ⟨.hbm, 796, rfl⟩
abbrev main_call1_call5_c_3 : Ref sig .tc := ⟨.hbm, 797, rfl⟩
abbrev main_call1_call5_v16 : Ref sig .tc := ⟨.hbm, 798, rfl⟩
abbrev main_call1_call5_v17 : Ref sig .tc := ⟨.hbm, 799, rfl⟩
abbrev main_call1_call5_v18 : Ref sig .tc := ⟨.hbm, 800, rfl⟩
abbrev main_call1_call5_v19 : Ref sig .tc := ⟨.hbm, 801, rfl⟩
abbrev main_call1_call5_v20 : Ref sig .tc := ⟨.hbm, 802, rfl⟩
abbrev main_call1_call5_c_4 : Ref sig .tc := ⟨.hbm, 803, rfl⟩
abbrev main_call1_call5_v21 : Ref sig .tc := ⟨.hbm, 804, rfl⟩
abbrev main_call1_call5_v22 : Ref sig .tc := ⟨.hbm, 805, rfl⟩
abbrev main_call1_call5_c_5 : Ref sig .tc := ⟨.hbm, 806, rfl⟩
abbrev main_call1_call5_v23 : Ref sig .tc := ⟨.hbm, 807, rfl⟩
abbrev main_call1_call5_v24 : Ref sig .tc := ⟨.hbm, 808, rfl⟩
abbrev main_call1_call5_v25 : Ref sig .tc := ⟨.hbm, 809, rfl⟩
abbrev main_call1_call5_v26 : Ref sig .tc := ⟨.hbm, 810, rfl⟩
abbrev main_call1_call5_v27 : Ref sig .tc := ⟨.hbm, 811, rfl⟩
abbrev main_call1_call5_c_6 : Ref sig .tc := ⟨.hbm, 812, rfl⟩
abbrev main_call1_call5_v28 : Ref sig .tc := ⟨.hbm, 813, rfl⟩
abbrev main_call1_call5_v29 : Ref sig .tc := ⟨.hbm, 814, rfl⟩
abbrev main_call1_call5_c_7 : Ref sig .tc := ⟨.hbm, 815, rfl⟩
abbrev main_call1_call5_v30 : Ref sig .tc := ⟨.hbm, 816, rfl⟩
abbrev main_call1_call5_v31 : Ref sig .tc := ⟨.hbm, 817, rfl⟩
abbrev main_call1_call5_v32 : Ref sig .tc := ⟨.hbm, 818, rfl⟩
abbrev main_call1_call5_v33 : Ref sig .tc := ⟨.hbm, 819, rfl⟩
abbrev main_call1_call5_v34 : Ref sig .tc := ⟨.hbm, 820, rfl⟩
abbrev main_call1_call5_v35 : Ref sig .tc := ⟨.hbm, 821, rfl⟩
abbrev main_call1_call5_v36 : Ref sig .tc := ⟨.hbm, 822, rfl⟩
abbrev main_call1_call5_v37 : Ref sig .tc := ⟨.hbm, 823, rfl⟩
abbrev main_call1_call5_c_8 : Ref sig .tc := ⟨.hbm, 824, rfl⟩
abbrev main_call1_call5_v38 : Ref sig .tc := ⟨.hbm, 825, rfl⟩
abbrev main_call1_call5_v39 : Ref sig .tc := ⟨.hbm, 826, rfl⟩
abbrev main_call1_call5_v40 : Ref sig .tc := ⟨.hbm, 827, rfl⟩
abbrev main_call1_call5_c_9 : Ref sig .tc := ⟨.hbm, 828, rfl⟩
abbrev main_call1_call5_v41 : Ref sig .tc := ⟨.hbm, 829, rfl⟩
abbrev main_call1_call5_v42 : Ref sig .tc := ⟨.hbm, 830, rfl⟩
abbrev main_call1_call5_c_10 : Ref sig .tc := ⟨.hbm, 831, rfl⟩
abbrev main_call1_call5_v43 : Ref sig .tc := ⟨.hbm, 832, rfl⟩
abbrev main_call1_call5_v44 : Ref sig .tc := ⟨.hbm, 833, rfl⟩
abbrev main_call1_call5_v45 : Ref sig .tc := ⟨.hbm, 834, rfl⟩
abbrev main_call1_call5_v46 : Ref sig .tc := ⟨.hbm, 835, rfl⟩
abbrev main_call1_call5_v47 : Ref sig .tc := ⟨.hbm, 836, rfl⟩
abbrev main_call1_call5_c_11 : Ref sig .tc := ⟨.hbm, 837, rfl⟩
abbrev main_call1_call5_v48 : Ref sig .tc := ⟨.hbm, 838, rfl⟩
abbrev main_call1_call5_v49 : Ref sig .tc := ⟨.hbm, 839, rfl⟩
abbrev main_call1_call5_c_12 : Ref sig .tc := ⟨.hbm, 840, rfl⟩
abbrev main_call1_call5_v50 : Ref sig .tc := ⟨.hbm, 841, rfl⟩
abbrev main_call1_call5_v51 : Ref sig .tc := ⟨.hbm, 842, rfl⟩
abbrev main_call1_call5_v52 : Ref sig .tc := ⟨.hbm, 843, rfl⟩
abbrev main_call1_call5_v53 : Ref sig .tc := ⟨.hbm, 844, rfl⟩
abbrev main_call1_call5_v54 : Ref sig .tc := ⟨.hbm, 845, rfl⟩
abbrev main_call1_call5_c_13 : Ref sig .tc := ⟨.hbm, 846, rfl⟩
abbrev main_call1_call5_v55 : Ref sig .tc := ⟨.hbm, 847, rfl⟩
abbrev main_call1_call5_v56 : Ref sig .tc := ⟨.hbm, 848, rfl⟩
abbrev main_call1_call5_c_14 : Ref sig .tc := ⟨.hbm, 849, rfl⟩
abbrev main_call1_call5_v57 : Ref sig .tc := ⟨.hbm, 850, rfl⟩
abbrev main_call1_call5_v58 : Ref sig .tc := ⟨.hbm, 851, rfl⟩
abbrev main_call1_call5_v59 : Ref sig .tc := ⟨.hbm, 852, rfl⟩
abbrev main_call1_call5_v60 : Ref sig .tc := ⟨.hbm, 853, rfl⟩
abbrev main_call1_call5_v61 : Ref sig .tc := ⟨.hbm, 854, rfl⟩
abbrev main_call1_call5_c_15 : Ref sig .tc := ⟨.hbm, 855, rfl⟩
abbrev main_call1_call5_v62 : Ref sig .tc := ⟨.hbm, 856, rfl⟩
abbrev main_call1_call5_v63 : Ref sig .tc := ⟨.hbm, 857, rfl⟩
abbrev main_call1_call5_c_16 : Ref sig .tc := ⟨.hbm, 858, rfl⟩
abbrev main_call1_call5_v64 : Ref sig .tc := ⟨.hbm, 859, rfl⟩
abbrev main_call1_call5_v65 : Ref sig .tc := ⟨.hbm, 860, rfl⟩
abbrev main_call1_call5_v66 : Ref sig .tc := ⟨.hbm, 861, rfl⟩
abbrev main_call1_call5_v67 : Ref sig .tc := ⟨.hbm, 862, rfl⟩
abbrev main_call1_call5_v68 : Ref sig .tc := ⟨.hbm, 863, rfl⟩
abbrev main_call1_call5_v69 : Ref sig .tc := ⟨.hbm, 864, rfl⟩
abbrev main_call1_call5_v70 : Ref sig .tc := ⟨.hbm, 865, rfl⟩
abbrev main_call1_call5_v71 : Ref sig .tc := ⟨.hbm, 866, rfl⟩
abbrev main_call1_call5_c_17 : Ref sig .tc := ⟨.hbm, 867, rfl⟩
abbrev main_call1_call5_v72 : Ref sig .tc := ⟨.hbm, 868, rfl⟩
abbrev main_call1_call5_v73 : Ref sig .tc := ⟨.hbm, 869, rfl⟩
abbrev main_call1_call5_v74 : Ref sig .tc := ⟨.hbm, 870, rfl⟩
abbrev main_call1_call5_c_18 : Ref sig .tc := ⟨.hbm, 871, rfl⟩
abbrev main_call1_call5_v75 : Ref sig .tc := ⟨.hbm, 872, rfl⟩
abbrev main_call1_call5_v76 : Ref sig .tc := ⟨.hbm, 873, rfl⟩
abbrev main_call1_call5_c_19 : Ref sig .tc := ⟨.hbm, 874, rfl⟩
abbrev main_call1_call5_v77 : Ref sig .tc := ⟨.hbm, 875, rfl⟩
abbrev main_call1_call5_v78 : Ref sig .tc := ⟨.hbm, 876, rfl⟩
abbrev main_call1_call5_v79 : Ref sig .tc := ⟨.hbm, 877, rfl⟩
abbrev main_call1_call5_v80 : Ref sig .tc := ⟨.hbm, 878, rfl⟩
abbrev main_call1_call5_v81 : Ref sig .tc := ⟨.hbm, 879, rfl⟩
abbrev main_call1_call5_c_20 : Ref sig .tc := ⟨.hbm, 880, rfl⟩
abbrev main_call1_call5_v82 : Ref sig .tc := ⟨.hbm, 881, rfl⟩
abbrev main_call1_call5_v83 : Ref sig .tc := ⟨.hbm, 882, rfl⟩
abbrev main_call1_call5_c_21 : Ref sig .tc := ⟨.hbm, 883, rfl⟩
abbrev main_call1_call5_v84 : Ref sig .tc := ⟨.hbm, 884, rfl⟩
abbrev main_call1_call5_v85 : Ref sig .tc := ⟨.hbm, 885, rfl⟩
abbrev main_call1_call5_v86 : Ref sig .tc := ⟨.hbm, 886, rfl⟩
abbrev main_call1_call5_v87 : Ref sig .tc := ⟨.hbm, 887, rfl⟩
abbrev main_call1_call5_v88 : Ref sig .tc := ⟨.hbm, 888, rfl⟩
abbrev main_call1_call5_c_22 : Ref sig .tc := ⟨.hbm, 889, rfl⟩
abbrev main_call1_call5_v89 : Ref sig .tc := ⟨.hbm, 890, rfl⟩
abbrev main_call1_call5_v90 : Ref sig .tc := ⟨.hbm, 891, rfl⟩
abbrev main_call1_call5_c_23 : Ref sig .tc := ⟨.hbm, 892, rfl⟩
abbrev main_call1_call5_v91 : Ref sig .tc := ⟨.hbm, 893, rfl⟩
abbrev main_call1_call5_v92 : Ref sig .tc := ⟨.hbm, 894, rfl⟩
abbrev main_call1_call5_v93 : Ref sig .tc := ⟨.hbm, 895, rfl⟩
abbrev main_call1_call5_v94 : Ref sig .tc := ⟨.hbm, 896, rfl⟩
abbrev main_call1_call5_v95 : Ref sig .tc := ⟨.hbm, 897, rfl⟩
abbrev main_call1_call5_c_24 : Ref sig .tc := ⟨.hbm, 898, rfl⟩
abbrev main_call1_call5_v96 : Ref sig .tc := ⟨.hbm, 899, rfl⟩
abbrev main_call1_call5_v97 : Ref sig .tc := ⟨.hbm, 900, rfl⟩
abbrev main_call1_call5_c_25 : Ref sig .tc := ⟨.hbm, 901, rfl⟩
abbrev main_call1_call5_v98 : Ref sig .tc := ⟨.hbm, 902, rfl⟩
abbrev main_call1_call5_v99 : Ref sig .tc := ⟨.hbm, 903, rfl⟩
abbrev main_call1_call5_v100 : Ref sig .tc := ⟨.hbm, 904, rfl⟩
abbrev main_call1_call5_v101 : Ref sig .tc := ⟨.hbm, 905, rfl⟩
abbrev main_call1_call5_v102 : Ref sig .tc := ⟨.hbm, 906, rfl⟩
abbrev main_call1_call5_v103 : Ref sig .tc := ⟨.hbm, 907, rfl⟩
abbrev main_call1_call5_v104 : Ref sig .tc := ⟨.hbm, 908, rfl⟩
abbrev main_call1_call5_v105 : Ref sig .tc := ⟨.hbm, 909, rfl⟩
abbrev main_call1_call5_c_26 : Ref sig .tc := ⟨.hbm, 910, rfl⟩
abbrev main_call1_call5_v106 : Ref sig .tc := ⟨.hbm, 911, rfl⟩
abbrev main_call1_call5_v107 : Ref sig .tc := ⟨.hbm, 912, rfl⟩
abbrev main_call1_call5_v108 : Ref sig .tc := ⟨.hbm, 913, rfl⟩
abbrev main_call1_call5_c_27 : Ref sig .tc := ⟨.hbm, 914, rfl⟩
abbrev main_call1_call5_v109 : Ref sig .tc := ⟨.hbm, 915, rfl⟩
abbrev main_call1_call5_v110 : Ref sig .tc := ⟨.hbm, 916, rfl⟩
abbrev main_call1_call5_c_28 : Ref sig .tc := ⟨.hbm, 917, rfl⟩
abbrev main_call1_call5_v111 : Ref sig .tc := ⟨.hbm, 918, rfl⟩
abbrev main_call1_call5_v112 : Ref sig .tc := ⟨.hbm, 919, rfl⟩
abbrev main_call1_call5_v113 : Ref sig .tc := ⟨.hbm, 920, rfl⟩
abbrev main_call1_call5_v114 : Ref sig .tc := ⟨.hbm, 921, rfl⟩
abbrev main_call1_call5_v115 : Ref sig .tc := ⟨.hbm, 922, rfl⟩
abbrev main_call1_call5_c_29 : Ref sig .tc := ⟨.hbm, 923, rfl⟩
abbrev main_call1_call5_v116 : Ref sig .tc := ⟨.hbm, 924, rfl⟩
abbrev main_call1_call5_v117 : Ref sig .tc := ⟨.hbm, 925, rfl⟩
abbrev main_call1_call5_c_30 : Ref sig .tc := ⟨.hbm, 926, rfl⟩
abbrev main_call1_call5_v118 : Ref sig .tc := ⟨.hbm, 927, rfl⟩
abbrev main_call1_call5_v119 : Ref sig .tc := ⟨.hbm, 928, rfl⟩
abbrev main_call1_call5_v120 : Ref sig .tc := ⟨.hbm, 929, rfl⟩
abbrev main_call1_call5_v121 : Ref sig .tc := ⟨.hbm, 930, rfl⟩
abbrev main_call1_call5_v122 : Ref sig .tc := ⟨.hbm, 931, rfl⟩
abbrev main_call1_call5_c_31 : Ref sig .tc := ⟨.hbm, 932, rfl⟩
abbrev main_call1_call5_v123 : Ref sig .tc := ⟨.hbm, 933, rfl⟩
abbrev main_call1_call5_v124 : Ref sig .tc := ⟨.hbm, 934, rfl⟩
abbrev main_call1_call5_c_32 : Ref sig .tc := ⟨.hbm, 935, rfl⟩
abbrev main_call1_call5_v125 : Ref sig .tc := ⟨.hbm, 936, rfl⟩
abbrev main_call1_call5_v126 : Ref sig .tc := ⟨.hbm, 937, rfl⟩
abbrev main_call1_call5_v127 : Ref sig .tc := ⟨.hbm, 938, rfl⟩
abbrev main_call1_call5_v128 : Ref sig .tc := ⟨.hbm, 939, rfl⟩
abbrev main_call1_call5_v129 : Ref sig .tc := ⟨.hbm, 940, rfl⟩
abbrev main_call1_call5_c_33 : Ref sig .tc := ⟨.hbm, 941, rfl⟩
abbrev main_call1_call5_v130 : Ref sig .tc := ⟨.hbm, 942, rfl⟩
abbrev main_call1_call5_v131 : Ref sig .tc := ⟨.hbm, 943, rfl⟩
abbrev main_call1_call5_c_34 : Ref sig .tc := ⟨.hbm, 944, rfl⟩
abbrev main_call1_call5_v132 : Ref sig .tc := ⟨.hbm, 945, rfl⟩
abbrev main_call1_call5_v133 : Ref sig .tc := ⟨.hbm, 946, rfl⟩
abbrev main_call1_call5_v134 : Ref sig .tc := ⟨.hbm, 947, rfl⟩
abbrev main_call1_call5_v135 : Ref sig .tc := ⟨.hbm, 948, rfl⟩
abbrev main_call1_call5_v136 : Ref sig .tc := ⟨.hbm, 949, rfl⟩
abbrev main_call1_call5_v137 : Ref sig .tc := ⟨.hbm, 950, rfl⟩
abbrev main_call1_call5_v138 : Ref sig .tc := ⟨.hbm, 951, rfl⟩
abbrev main_call1_call5_v139 : Ref sig .tc := ⟨.hbm, 952, rfl⟩
abbrev main_call1_call5_c_35 : Ref sig .tc := ⟨.hbm, 953, rfl⟩
abbrev main_call1_call5_v140 : Ref sig .tc := ⟨.hbm, 954, rfl⟩
abbrev main_call1_call5_v141 : Ref sig .tc := ⟨.hbm, 955, rfl⟩
abbrev main_call1_call5_v142 : Ref sig .tc := ⟨.hbm, 956, rfl⟩
abbrev main_call1_call5_c_36 : Ref sig .tc := ⟨.hbm, 957, rfl⟩
abbrev main_call1_call5_v143 : Ref sig .tc := ⟨.hbm, 958, rfl⟩
abbrev main_call1_call5_v144 : Ref sig .tc := ⟨.hbm, 959, rfl⟩
abbrev main_call1_call5_c_37 : Ref sig .tc := ⟨.hbm, 960, rfl⟩
abbrev main_call1_call5_v145 : Ref sig .tc := ⟨.hbm, 961, rfl⟩
abbrev main_call1_call5_v146 : Ref sig .tc := ⟨.hbm, 962, rfl⟩
abbrev main_call1_call5_v147 : Ref sig .tc := ⟨.hbm, 963, rfl⟩
abbrev main_call1_call5_v148 : Ref sig .tc := ⟨.hbm, 964, rfl⟩
abbrev main_call1_call5_v149 : Ref sig .tc := ⟨.hbm, 965, rfl⟩
abbrev main_call1_call5_c_38 : Ref sig .tc := ⟨.hbm, 966, rfl⟩
abbrev main_call1_call5_v150 : Ref sig .tc := ⟨.hbm, 967, rfl⟩
abbrev main_call1_call5_v151 : Ref sig .tc := ⟨.hbm, 968, rfl⟩
abbrev main_call1_call5_c_39 : Ref sig .tc := ⟨.hbm, 969, rfl⟩
abbrev main_call1_call5_v152 : Ref sig .tc := ⟨.hbm, 970, rfl⟩
abbrev main_call1_call5_v153 : Ref sig .tc := ⟨.hbm, 971, rfl⟩
abbrev main_call1_call5_v154 : Ref sig .tc := ⟨.hbm, 972, rfl⟩
abbrev main_call1_call5_v155 : Ref sig .tc := ⟨.hbm, 973, rfl⟩
abbrev main_call1_call5_v156 : Ref sig .tc := ⟨.hbm, 974, rfl⟩
abbrev main_call1_call5_c_40 : Ref sig .tc := ⟨.hbm, 975, rfl⟩
abbrev main_call1_call5_v157 : Ref sig .tc := ⟨.hbm, 976, rfl⟩
abbrev main_call1_call5_v158 : Ref sig .tc := ⟨.hbm, 977, rfl⟩
abbrev main_call1_call5_c_41 : Ref sig .tc := ⟨.hbm, 978, rfl⟩
abbrev main_call1_call5_v159 : Ref sig .tc := ⟨.hbm, 979, rfl⟩
abbrev main_call1_call5_v160 : Ref sig .tc := ⟨.hbm, 980, rfl⟩
abbrev main_call1_call5_v161 : Ref sig .tc := ⟨.hbm, 981, rfl⟩
abbrev main_call1_call5_v162 : Ref sig .tc := ⟨.hbm, 982, rfl⟩
abbrev main_call1_call5_v163 : Ref sig .tc := ⟨.hbm, 983, rfl⟩
abbrev main_call1_call5_c_42 : Ref sig .tc := ⟨.hbm, 984, rfl⟩
abbrev main_call1_call5_v164 : Ref sig .tc := ⟨.hbm, 985, rfl⟩
abbrev main_call1_call5_v165 : Ref sig .tc := ⟨.hbm, 986, rfl⟩
abbrev main_call1_call5_c_43 : Ref sig .tc := ⟨.hbm, 987, rfl⟩
abbrev main_call1_call5_v166 : Ref sig .tc := ⟨.hbm, 988, rfl⟩
abbrev main_call1_call5_v167 : Ref sig .tc := ⟨.hbm, 989, rfl⟩
abbrev main_call1_call5_v168 : Ref sig .tc := ⟨.hbm, 990, rfl⟩
abbrev main_call1_call5_v169 : Ref sig .tc := ⟨.hbm, 991, rfl⟩
abbrev main_call1_call5_v170 : Ref sig .tc := ⟨.hbm, 992, rfl⟩
abbrev main_call1_v45_0 : Ref sig .tc := ⟨.hbm, 993, rfl⟩
abbrev main_call1_call5_v172 : Ref sig .tc := ⟨.hbm, 994, rfl⟩
abbrev main_call1_call5_v173 : Ref sig .tc := ⟨.hbm, 995, rfl⟩
abbrev main_call1_call5_c_44 : Ref sig .tc := ⟨.hbm, 996, rfl⟩
abbrev main_call1_call5_v174 : Ref sig .tc := ⟨.hbm, 997, rfl⟩
abbrev main_call1_v45_1 : Ref sig .tc := ⟨.hbm, 998, rfl⟩
abbrev main_call1_v46 : Ref sig .tc := ⟨.hbm, 999, rfl⟩
abbrev main_call1_v47 : Ref sig .tc := ⟨.hbm, 1000, rfl⟩
abbrev main_call1_v48 : Ref sig .tc := ⟨.hbm, 1001, rfl⟩
abbrev main_call1_v49 : Ref sig .tc := ⟨.hbm, 1002, rfl⟩
abbrev main_call1_c_12 : Ref sig .tc := ⟨.hbm, 1003, rfl⟩
abbrev main_call1_v50 : Ref sig .tc := ⟨.hbm, 1004, rfl⟩
abbrev main_call1_v51 : Ref sig .tc := ⟨.hbm, 1005, rfl⟩
abbrev main_call1_v52 : Ref sig .tc := ⟨.hbm, 1006, rfl⟩
abbrev main_call1_v53 : Ref sig .tc := ⟨.hbm, 1007, rfl⟩
abbrev main_call1_v54 : Ref sig .tc := ⟨.hbm, 1008, rfl⟩
abbrev main_call1_c_13 : Ref sig .tc := ⟨.hbm, 1009, rfl⟩
abbrev main_call1_v55 : Ref sig .tc := ⟨.hbm, 1010, rfl⟩
abbrev main_call1_v56 : Ref sig .tc := ⟨.hbm, 1011, rfl⟩
abbrev main_call1_v57 : Ref sig .tc := ⟨.hbm, 1012, rfl⟩
abbrev main_call1_c_14 : Ref sig .tc := ⟨.hbm, 1013, rfl⟩
abbrev main_call1_v58 : Ref sig .tc := ⟨.hbm, 1014, rfl⟩
abbrev main_call1_v59 : Ref sig .tc := ⟨.hbm, 1015, rfl⟩
abbrev main_call1_v60 : Ref sig .tc := ⟨.hbm, 1016, rfl⟩
abbrev main_call1_v61 : Ref sig .tc := ⟨.hbm, 1017, rfl⟩
abbrev main_call1_v62 : Ref sig .tc := ⟨.hbm, 1018, rfl⟩
abbrev main_call1_v63 : Ref sig .tc := ⟨.hbm, 1019, rfl⟩
abbrev main_call1_v64 : Ref sig .tc := ⟨.hbm, 1020, rfl⟩
abbrev main_call1_v65 : Ref sig .tc := ⟨.hbm, 1021, rfl⟩
abbrev main_call1_v66 : Ref sig .tc := ⟨.hbm, 1022, rfl⟩
abbrev main_call1_v67 : Ref sig .tc := ⟨.hbm, 1023, rfl⟩
abbrev main_call1_v68 : Ref sig .tc := ⟨.hbm, 1024, rfl⟩
abbrev main_call1_v69 : Ref sig .tc := ⟨.hbm, 1025, rfl⟩
abbrev main_call1_v70 : Ref sig .tc := ⟨.hbm, 1026, rfl⟩
abbrev main_call1_v71 : Ref sig .tc := ⟨.hbm, 1027, rfl⟩
abbrev main_call1_v72 : Ref sig .tc := ⟨.hbm, 1028, rfl⟩
abbrev main_v14 : Ref sig .tc := ⟨.hbm, 1029, rfl⟩
abbrev main_c_4 : Ref sig .tc := ⟨.hbm, 1030, rfl⟩
abbrev main_c_5 : Ref sig .tc := ⟨.hbm, 1031, rfl⟩
abbrev main_call2_c : Ref sig .tc := ⟨.hbm, 1032, rfl⟩
abbrev main_call2_c_0 : Ref sig .tc := ⟨.hbm, 1033, rfl⟩
abbrev main_call2_c_1 : Ref sig .tc := ⟨.hbm, 1034, rfl⟩
abbrev main_call2_call0_v0 : Ref sig .tc := ⟨.hbm, 1035, rfl⟩
abbrev main_call2_v0 : Ref sig .tc := ⟨.hbm, 1036, rfl⟩
abbrev main_call2_v1 : Ref sig .tc := ⟨.hbm, 1037, rfl⟩
abbrev main_call2_c_2 : Ref sig .tc := ⟨.hbm, 1038, rfl⟩
abbrev main_call2_c_3 : Ref sig .tc := ⟨.hbm, 1039, rfl⟩
abbrev main_call2_call1_v0 : Ref sig .tc := ⟨.hbm, 1040, rfl⟩
abbrev main_call2_v2 : Ref sig .tc := ⟨.hbm, 1041, rfl⟩
abbrev main_call2_v3 : Ref sig .tc := ⟨.hbm, 1042, rfl⟩
abbrev main_call2_c_4 : Ref sig .tc := ⟨.hbm, 1043, rfl⟩
abbrev main_call2_c_5 : Ref sig .tc := ⟨.hbm, 1044, rfl⟩
abbrev main_call2_call2_v0 : Ref sig .tc := ⟨.hbm, 1045, rfl⟩
abbrev main_call2_v4 : Ref sig .tc := ⟨.hbm, 1046, rfl⟩
abbrev main_call2_v5 : Ref sig .tc := ⟨.hbm, 1047, rfl⟩
abbrev main_call2_v6 : Ref sig .tc := ⟨.hbm, 1048, rfl⟩
abbrev main_call2_v7 : Ref sig .tc := ⟨.hbm, 1049, rfl⟩
abbrev main_call2_call3_v0 : Ref sig .tc := ⟨.hbm, 1050, rfl⟩
abbrev main_call2_call3_v1 : Ref sig .tc := ⟨.hbm, 1051, rfl⟩
abbrev main_call2_call3_v2 : Ref sig .tc := ⟨.hbm, 1052, rfl⟩
abbrev main_call2_call3_v3 : Ref sig .tc := ⟨.hbm, 1053, rfl⟩
abbrev main_call2_call3_v4 : Ref sig .tc := ⟨.hbm, 1054, rfl⟩
abbrev main_call2_call3_c : Ref sig .tc := ⟨.hbm, 1055, rfl⟩
abbrev main_call2_call3_v5 : Ref sig .tc := ⟨.hbm, 1056, rfl⟩
abbrev main_call2_call3_v6 : Ref sig .tc := ⟨.hbm, 1057, rfl⟩
abbrev main_call2_call3_c_0 : Ref sig .tc := ⟨.hbm, 1058, rfl⟩
abbrev main_call2_call3_v7 : Ref sig .tc := ⟨.hbm, 1059, rfl⟩
abbrev main_call2_call3_v8 : Ref sig .tc := ⟨.hbm, 1060, rfl⟩
abbrev main_call2_call3_v9 : Ref sig .tc := ⟨.hbm, 1061, rfl⟩
abbrev main_call2_call3_v10 : Ref sig .tc := ⟨.hbm, 1062, rfl⟩
abbrev main_call2_call3_call0_v0 : Ref sig .tc := ⟨.hbm, 1063, rfl⟩
abbrev main_call2_call3_call0_c : Ref sig .tc := ⟨.hbm, 1064, rfl⟩
abbrev main_call2_call3_call0_v1 : Ref sig .tc := ⟨.hbm, 1065, rfl⟩
abbrev main_call2_call3_call0_v2 : Ref sig .tc := ⟨.hbm, 1066, rfl⟩
abbrev main_call2_call3_call0_v3 : Ref sig .tc := ⟨.hbm, 1067, rfl⟩
abbrev main_call2_call3_call0_v4 : Ref sig .tc := ⟨.hbm, 1068, rfl⟩
abbrev main_call2_call3_call0_v5 : Ref sig .tc := ⟨.hbm, 1069, rfl⟩
abbrev main_call2_call3_call0_v6 : Ref sig .tc := ⟨.hbm, 1070, rfl⟩
abbrev main_call2_call3_call0_c_0 : Ref sig .tc := ⟨.hbm, 1071, rfl⟩
abbrev main_call2_call3_call0_v7 : Ref sig .tc := ⟨.hbm, 1072, rfl⟩
abbrev main_call2_call3_call0_v8 : Ref sig .tc := ⟨.hbm, 1073, rfl⟩
abbrev main_call2_call3_call0_c_1 : Ref sig .tc := ⟨.hbm, 1074, rfl⟩
abbrev main_call2_call3_call0_v9 : Ref sig .tc := ⟨.hbm, 1075, rfl⟩
abbrev main_call2_call3_call0_v10 : Ref sig .tc := ⟨.hbm, 1076, rfl⟩
abbrev main_call2_call3_call0_v11 : Ref sig .tc := ⟨.hbm, 1077, rfl⟩
abbrev main_call2_call3_call0_v12 : Ref sig .tc := ⟨.hbm, 1078, rfl⟩
abbrev main_call2_call3_call0_v13 : Ref sig .tc := ⟨.hbm, 1079, rfl⟩
abbrev main_call2_call3_call0_c_2 : Ref sig .tc := ⟨.hbm, 1080, rfl⟩
abbrev main_call2_call3_call0_v14 : Ref sig .tc := ⟨.hbm, 1081, rfl⟩
abbrev main_call2_call3_call0_v15 : Ref sig .tc := ⟨.hbm, 1082, rfl⟩
abbrev main_call2_call3_call0_c_3 : Ref sig .tc := ⟨.hbm, 1083, rfl⟩
abbrev main_call2_call3_call0_v16 : Ref sig .tc := ⟨.hbm, 1084, rfl⟩
abbrev main_call2_call3_call0_v17 : Ref sig .tc := ⟨.hbm, 1085, rfl⟩
abbrev main_call2_call3_call0_v18 : Ref sig .tc := ⟨.hbm, 1086, rfl⟩
abbrev main_call2_call3_call0_v19 : Ref sig .tc := ⟨.hbm, 1087, rfl⟩
abbrev main_call2_call3_call0_v20 : Ref sig .tc := ⟨.hbm, 1088, rfl⟩
abbrev main_call2_call3_call0_c_4 : Ref sig .tc := ⟨.hbm, 1089, rfl⟩
abbrev main_call2_call3_call0_v21 : Ref sig .tc := ⟨.hbm, 1090, rfl⟩
abbrev main_call2_call3_call0_v22 : Ref sig .tc := ⟨.hbm, 1091, rfl⟩
abbrev main_call2_call3_call0_c_5 : Ref sig .tc := ⟨.hbm, 1092, rfl⟩
abbrev main_call2_call3_call0_v23 : Ref sig .tc := ⟨.hbm, 1093, rfl⟩
abbrev main_call2_call3_call0_v24 : Ref sig .tc := ⟨.hbm, 1094, rfl⟩
abbrev main_call2_call3_call0_v25 : Ref sig .tc := ⟨.hbm, 1095, rfl⟩
abbrev main_call2_call3_call0_v26 : Ref sig .tc := ⟨.hbm, 1096, rfl⟩
abbrev main_call2_call3_call0_v27 : Ref sig .tc := ⟨.hbm, 1097, rfl⟩
abbrev main_call2_call3_call0_c_6 : Ref sig .tc := ⟨.hbm, 1098, rfl⟩
abbrev main_call2_call3_call0_v28 : Ref sig .tc := ⟨.hbm, 1099, rfl⟩
abbrev main_call2_call3_call0_v29 : Ref sig .tc := ⟨.hbm, 1100, rfl⟩
abbrev main_call2_call3_call0_c_7 : Ref sig .tc := ⟨.hbm, 1101, rfl⟩
abbrev main_call2_call3_call0_v30 : Ref sig .tc := ⟨.hbm, 1102, rfl⟩
abbrev main_call2_call3_call0_v31 : Ref sig .tc := ⟨.hbm, 1103, rfl⟩
abbrev main_call2_call3_call0_v32 : Ref sig .tc := ⟨.hbm, 1104, rfl⟩
abbrev main_call2_call3_call0_v33 : Ref sig .tc := ⟨.hbm, 1105, rfl⟩
abbrev main_call2_call3_call0_v34 : Ref sig .tc := ⟨.hbm, 1106, rfl⟩
abbrev main_call2_call3_call0_v35 : Ref sig .tc := ⟨.hbm, 1107, rfl⟩
abbrev main_call2_call3_call0_v36 : Ref sig .tc := ⟨.hbm, 1108, rfl⟩
abbrev main_call2_call3_call0_v37 : Ref sig .tc := ⟨.hbm, 1109, rfl⟩
abbrev main_call2_call3_call0_c_8 : Ref sig .tc := ⟨.hbm, 1110, rfl⟩
abbrev main_call2_call3_call0_v38 : Ref sig .tc := ⟨.hbm, 1111, rfl⟩
abbrev main_call2_call3_call0_v39 : Ref sig .tc := ⟨.hbm, 1112, rfl⟩
abbrev main_call2_call3_call0_v40 : Ref sig .tc := ⟨.hbm, 1113, rfl⟩
abbrev main_call2_call3_call0_c_9 : Ref sig .tc := ⟨.hbm, 1114, rfl⟩
abbrev main_call2_call3_call0_v41 : Ref sig .tc := ⟨.hbm, 1115, rfl⟩
abbrev main_call2_call3_call0_v42 : Ref sig .tc := ⟨.hbm, 1116, rfl⟩
abbrev main_call2_call3_call0_c_10 : Ref sig .tc := ⟨.hbm, 1117, rfl⟩
abbrev main_call2_call3_call0_v43 : Ref sig .tc := ⟨.hbm, 1118, rfl⟩
abbrev main_call2_call3_call0_v44 : Ref sig .tc := ⟨.hbm, 1119, rfl⟩
abbrev main_call2_call3_call0_v45 : Ref sig .tc := ⟨.hbm, 1120, rfl⟩
abbrev main_call2_call3_call0_v46 : Ref sig .tc := ⟨.hbm, 1121, rfl⟩
abbrev main_call2_call3_call0_v47 : Ref sig .tc := ⟨.hbm, 1122, rfl⟩
abbrev main_call2_call3_call0_c_11 : Ref sig .tc := ⟨.hbm, 1123, rfl⟩
abbrev main_call2_call3_call0_v48 : Ref sig .tc := ⟨.hbm, 1124, rfl⟩
abbrev main_call2_call3_call0_v49 : Ref sig .tc := ⟨.hbm, 1125, rfl⟩
abbrev main_call2_call3_call0_c_12 : Ref sig .tc := ⟨.hbm, 1126, rfl⟩
abbrev main_call2_call3_call0_v50 : Ref sig .tc := ⟨.hbm, 1127, rfl⟩
abbrev main_call2_call3_call0_v51 : Ref sig .tc := ⟨.hbm, 1128, rfl⟩
abbrev main_call2_call3_call0_v52 : Ref sig .tc := ⟨.hbm, 1129, rfl⟩
abbrev main_call2_call3_call0_v53 : Ref sig .tc := ⟨.hbm, 1130, rfl⟩
abbrev main_call2_call3_call0_v54 : Ref sig .tc := ⟨.hbm, 1131, rfl⟩
abbrev main_call2_call3_call0_c_13 : Ref sig .tc := ⟨.hbm, 1132, rfl⟩
abbrev main_call2_call3_call0_v55 : Ref sig .tc := ⟨.hbm, 1133, rfl⟩
abbrev main_call2_call3_call0_v56 : Ref sig .tc := ⟨.hbm, 1134, rfl⟩
abbrev main_call2_call3_call0_c_14 : Ref sig .tc := ⟨.hbm, 1135, rfl⟩
abbrev main_call2_call3_call0_v57 : Ref sig .tc := ⟨.hbm, 1136, rfl⟩
abbrev main_call2_call3_call0_v58 : Ref sig .tc := ⟨.hbm, 1137, rfl⟩
abbrev main_call2_call3_call0_v59 : Ref sig .tc := ⟨.hbm, 1138, rfl⟩
abbrev main_call2_call3_call0_v60 : Ref sig .tc := ⟨.hbm, 1139, rfl⟩
abbrev main_call2_call3_call0_v61 : Ref sig .tc := ⟨.hbm, 1140, rfl⟩
abbrev main_call2_call3_call0_c_15 : Ref sig .tc := ⟨.hbm, 1141, rfl⟩
abbrev main_call2_call3_call0_v62 : Ref sig .tc := ⟨.hbm, 1142, rfl⟩
abbrev main_call2_call3_call0_v63 : Ref sig .tc := ⟨.hbm, 1143, rfl⟩
abbrev main_call2_call3_call0_c_16 : Ref sig .tc := ⟨.hbm, 1144, rfl⟩
abbrev main_call2_call3_call0_v64 : Ref sig .tc := ⟨.hbm, 1145, rfl⟩
abbrev main_call2_call3_call0_v65 : Ref sig .tc := ⟨.hbm, 1146, rfl⟩
abbrev main_call2_call3_call0_v66 : Ref sig .tc := ⟨.hbm, 1147, rfl⟩
abbrev main_call2_call3_call0_v67 : Ref sig .tc := ⟨.hbm, 1148, rfl⟩
abbrev main_call2_call3_call0_v68 : Ref sig .tc := ⟨.hbm, 1149, rfl⟩
abbrev main_call2_call3_call0_v69 : Ref sig .tc := ⟨.hbm, 1150, rfl⟩
abbrev main_call2_call3_call0_v70 : Ref sig .tc := ⟨.hbm, 1151, rfl⟩
abbrev main_call2_call3_call0_v71 : Ref sig .tc := ⟨.hbm, 1152, rfl⟩
abbrev main_call2_call3_call0_c_17 : Ref sig .tc := ⟨.hbm, 1153, rfl⟩
abbrev main_call2_call3_call0_v72 : Ref sig .tc := ⟨.hbm, 1154, rfl⟩
abbrev main_call2_call3_call0_v73 : Ref sig .tc := ⟨.hbm, 1155, rfl⟩
abbrev main_call2_call3_call0_v74 : Ref sig .tc := ⟨.hbm, 1156, rfl⟩
abbrev main_call2_call3_call0_c_18 : Ref sig .tc := ⟨.hbm, 1157, rfl⟩
abbrev main_call2_call3_call0_v75 : Ref sig .tc := ⟨.hbm, 1158, rfl⟩
abbrev main_call2_call3_call0_v76 : Ref sig .tc := ⟨.hbm, 1159, rfl⟩
abbrev main_call2_call3_call0_c_19 : Ref sig .tc := ⟨.hbm, 1160, rfl⟩
abbrev main_call2_call3_call0_v77 : Ref sig .tc := ⟨.hbm, 1161, rfl⟩
abbrev main_call2_call3_call0_v78 : Ref sig .tc := ⟨.hbm, 1162, rfl⟩
abbrev main_call2_call3_call0_v79 : Ref sig .tc := ⟨.hbm, 1163, rfl⟩
abbrev main_call2_call3_call0_v80 : Ref sig .tc := ⟨.hbm, 1164, rfl⟩
abbrev main_call2_call3_call0_v81 : Ref sig .tc := ⟨.hbm, 1165, rfl⟩
abbrev main_call2_call3_call0_c_20 : Ref sig .tc := ⟨.hbm, 1166, rfl⟩
abbrev main_call2_call3_call0_v82 : Ref sig .tc := ⟨.hbm, 1167, rfl⟩
abbrev main_call2_call3_call0_v83 : Ref sig .tc := ⟨.hbm, 1168, rfl⟩
abbrev main_call2_call3_call0_c_21 : Ref sig .tc := ⟨.hbm, 1169, rfl⟩
abbrev main_call2_call3_call0_v84 : Ref sig .tc := ⟨.hbm, 1170, rfl⟩
abbrev main_call2_call3_call0_v85 : Ref sig .tc := ⟨.hbm, 1171, rfl⟩
abbrev main_call2_call3_call0_v86 : Ref sig .tc := ⟨.hbm, 1172, rfl⟩
abbrev main_call2_call3_call0_v87 : Ref sig .tc := ⟨.hbm, 1173, rfl⟩
abbrev main_call2_call3_call0_v88 : Ref sig .tc := ⟨.hbm, 1174, rfl⟩
abbrev main_call2_call3_call0_c_22 : Ref sig .tc := ⟨.hbm, 1175, rfl⟩
abbrev main_call2_call3_call0_v89 : Ref sig .tc := ⟨.hbm, 1176, rfl⟩
abbrev main_call2_call3_call0_v90 : Ref sig .tc := ⟨.hbm, 1177, rfl⟩
abbrev main_call2_call3_call0_c_23 : Ref sig .tc := ⟨.hbm, 1178, rfl⟩
abbrev main_call2_call3_call0_v91 : Ref sig .tc := ⟨.hbm, 1179, rfl⟩
abbrev main_call2_call3_call0_v92 : Ref sig .tc := ⟨.hbm, 1180, rfl⟩
abbrev main_call2_call3_call0_v93 : Ref sig .tc := ⟨.hbm, 1181, rfl⟩
abbrev main_call2_call3_call0_v94 : Ref sig .tc := ⟨.hbm, 1182, rfl⟩
abbrev main_call2_call3_call0_v95 : Ref sig .tc := ⟨.hbm, 1183, rfl⟩
abbrev main_call2_call3_call0_c_24 : Ref sig .tc := ⟨.hbm, 1184, rfl⟩
abbrev main_call2_call3_call0_v96 : Ref sig .tc := ⟨.hbm, 1185, rfl⟩
abbrev main_call2_call3_call0_v97 : Ref sig .tc := ⟨.hbm, 1186, rfl⟩
abbrev main_call2_call3_call0_c_25 : Ref sig .tc := ⟨.hbm, 1187, rfl⟩
abbrev main_call2_call3_call0_v98 : Ref sig .tc := ⟨.hbm, 1188, rfl⟩
abbrev main_call2_call3_call0_v99 : Ref sig .tc := ⟨.hbm, 1189, rfl⟩
abbrev main_call2_call3_call0_v100 : Ref sig .tc := ⟨.hbm, 1190, rfl⟩
abbrev main_call2_call3_call0_v101 : Ref sig .tc := ⟨.hbm, 1191, rfl⟩
abbrev main_call2_call3_call0_v102 : Ref sig .tc := ⟨.hbm, 1192, rfl⟩
abbrev main_call2_call3_call0_v103 : Ref sig .tc := ⟨.hbm, 1193, rfl⟩
abbrev main_call2_call3_call0_v104 : Ref sig .tc := ⟨.hbm, 1194, rfl⟩
abbrev main_call2_call3_call0_v105 : Ref sig .tc := ⟨.hbm, 1195, rfl⟩
abbrev main_call2_call3_call0_c_26 : Ref sig .tc := ⟨.hbm, 1196, rfl⟩
abbrev main_call2_call3_call0_v106 : Ref sig .tc := ⟨.hbm, 1197, rfl⟩
abbrev main_call2_call3_call0_v107 : Ref sig .tc := ⟨.hbm, 1198, rfl⟩
abbrev main_call2_call3_call0_v108 : Ref sig .tc := ⟨.hbm, 1199, rfl⟩
abbrev main_call2_call3_call0_c_27 : Ref sig .tc := ⟨.hbm, 1200, rfl⟩
abbrev main_call2_call3_call0_v109 : Ref sig .tc := ⟨.hbm, 1201, rfl⟩
abbrev main_call2_call3_call0_v110 : Ref sig .tc := ⟨.hbm, 1202, rfl⟩
abbrev main_call2_call3_call0_c_28 : Ref sig .tc := ⟨.hbm, 1203, rfl⟩
abbrev main_call2_call3_call0_v111 : Ref sig .tc := ⟨.hbm, 1204, rfl⟩
abbrev main_call2_call3_call0_v112 : Ref sig .tc := ⟨.hbm, 1205, rfl⟩
abbrev main_call2_call3_call0_v113 : Ref sig .tc := ⟨.hbm, 1206, rfl⟩
abbrev main_call2_call3_call0_v114 : Ref sig .tc := ⟨.hbm, 1207, rfl⟩
abbrev main_call2_call3_call0_v115 : Ref sig .tc := ⟨.hbm, 1208, rfl⟩
abbrev main_call2_call3_call0_c_29 : Ref sig .tc := ⟨.hbm, 1209, rfl⟩
abbrev main_call2_call3_call0_v116 : Ref sig .tc := ⟨.hbm, 1210, rfl⟩
abbrev main_call2_call3_call0_v117 : Ref sig .tc := ⟨.hbm, 1211, rfl⟩
abbrev main_call2_call3_call0_c_30 : Ref sig .tc := ⟨.hbm, 1212, rfl⟩
abbrev main_call2_call3_call0_v118 : Ref sig .tc := ⟨.hbm, 1213, rfl⟩
abbrev main_call2_call3_call0_v119 : Ref sig .tc := ⟨.hbm, 1214, rfl⟩
abbrev main_call2_call3_call0_v120 : Ref sig .tc := ⟨.hbm, 1215, rfl⟩
abbrev main_call2_call3_call0_v121 : Ref sig .tc := ⟨.hbm, 1216, rfl⟩
abbrev main_call2_call3_call0_v122 : Ref sig .tc := ⟨.hbm, 1217, rfl⟩
abbrev main_call2_call3_call0_c_31 : Ref sig .tc := ⟨.hbm, 1218, rfl⟩
abbrev main_call2_call3_call0_v123 : Ref sig .tc := ⟨.hbm, 1219, rfl⟩
abbrev main_call2_call3_call0_v124 : Ref sig .tc := ⟨.hbm, 1220, rfl⟩
abbrev main_call2_call3_call0_c_32 : Ref sig .tc := ⟨.hbm, 1221, rfl⟩
abbrev main_call2_call3_call0_v125 : Ref sig .tc := ⟨.hbm, 1222, rfl⟩
abbrev main_call2_call3_call0_v126 : Ref sig .tc := ⟨.hbm, 1223, rfl⟩
abbrev main_call2_call3_call0_v127 : Ref sig .tc := ⟨.hbm, 1224, rfl⟩
abbrev main_call2_call3_call0_v128 : Ref sig .tc := ⟨.hbm, 1225, rfl⟩
abbrev main_call2_call3_call0_v129 : Ref sig .tc := ⟨.hbm, 1226, rfl⟩
abbrev main_call2_call3_call0_c_33 : Ref sig .tc := ⟨.hbm, 1227, rfl⟩
abbrev main_call2_call3_call0_v130 : Ref sig .tc := ⟨.hbm, 1228, rfl⟩
abbrev main_call2_call3_call0_v131 : Ref sig .tc := ⟨.hbm, 1229, rfl⟩
abbrev main_call2_call3_call0_c_34 : Ref sig .tc := ⟨.hbm, 1230, rfl⟩
abbrev main_call2_call3_call0_v132 : Ref sig .tc := ⟨.hbm, 1231, rfl⟩
abbrev main_call2_call3_call0_v133 : Ref sig .tc := ⟨.hbm, 1232, rfl⟩
abbrev main_call2_call3_call0_v134 : Ref sig .tc := ⟨.hbm, 1233, rfl⟩
abbrev main_call2_call3_call0_v135 : Ref sig .tc := ⟨.hbm, 1234, rfl⟩
abbrev main_call2_call3_call0_v136 : Ref sig .tc := ⟨.hbm, 1235, rfl⟩
abbrev main_call2_call3_call0_v137 : Ref sig .tc := ⟨.hbm, 1236, rfl⟩
abbrev main_call2_call3_call0_v138 : Ref sig .tc := ⟨.hbm, 1237, rfl⟩
abbrev main_call2_call3_call0_v139 : Ref sig .tc := ⟨.hbm, 1238, rfl⟩
abbrev main_call2_call3_call0_c_35 : Ref sig .tc := ⟨.hbm, 1239, rfl⟩
abbrev main_call2_call3_call0_v140 : Ref sig .tc := ⟨.hbm, 1240, rfl⟩
abbrev main_call2_call3_call0_v141 : Ref sig .tc := ⟨.hbm, 1241, rfl⟩
abbrev main_call2_call3_call0_v142 : Ref sig .tc := ⟨.hbm, 1242, rfl⟩
abbrev main_call2_call3_call0_c_36 : Ref sig .tc := ⟨.hbm, 1243, rfl⟩
abbrev main_call2_call3_call0_v143 : Ref sig .tc := ⟨.hbm, 1244, rfl⟩
abbrev main_call2_call3_call0_v144 : Ref sig .tc := ⟨.hbm, 1245, rfl⟩
abbrev main_call2_call3_call0_c_37 : Ref sig .tc := ⟨.hbm, 1246, rfl⟩
abbrev main_call2_call3_call0_v145 : Ref sig .tc := ⟨.hbm, 1247, rfl⟩
abbrev main_call2_call3_call0_v146 : Ref sig .tc := ⟨.hbm, 1248, rfl⟩
abbrev main_call2_call3_call0_v147 : Ref sig .tc := ⟨.hbm, 1249, rfl⟩
abbrev main_call2_call3_call0_v148 : Ref sig .tc := ⟨.hbm, 1250, rfl⟩
abbrev main_call2_call3_call0_v149 : Ref sig .tc := ⟨.hbm, 1251, rfl⟩
abbrev main_call2_call3_call0_c_38 : Ref sig .tc := ⟨.hbm, 1252, rfl⟩
abbrev main_call2_call3_call0_v150 : Ref sig .tc := ⟨.hbm, 1253, rfl⟩
abbrev main_call2_call3_call0_v151 : Ref sig .tc := ⟨.hbm, 1254, rfl⟩
abbrev main_call2_call3_call0_c_39 : Ref sig .tc := ⟨.hbm, 1255, rfl⟩
abbrev main_call2_call3_call0_v152 : Ref sig .tc := ⟨.hbm, 1256, rfl⟩
abbrev main_call2_call3_call0_v153 : Ref sig .tc := ⟨.hbm, 1257, rfl⟩
abbrev main_call2_call3_call0_v154 : Ref sig .tc := ⟨.hbm, 1258, rfl⟩
abbrev main_call2_call3_call0_v155 : Ref sig .tc := ⟨.hbm, 1259, rfl⟩
abbrev main_call2_call3_call0_v156 : Ref sig .tc := ⟨.hbm, 1260, rfl⟩
abbrev main_call2_call3_call0_c_40 : Ref sig .tc := ⟨.hbm, 1261, rfl⟩
abbrev main_call2_call3_call0_v157 : Ref sig .tc := ⟨.hbm, 1262, rfl⟩
abbrev main_call2_call3_call0_v158 : Ref sig .tc := ⟨.hbm, 1263, rfl⟩
abbrev main_call2_call3_call0_c_41 : Ref sig .tc := ⟨.hbm, 1264, rfl⟩
abbrev main_call2_call3_call0_v159 : Ref sig .tc := ⟨.hbm, 1265, rfl⟩
abbrev main_call2_call3_call0_v160 : Ref sig .tc := ⟨.hbm, 1266, rfl⟩
abbrev main_call2_call3_call0_v161 : Ref sig .tc := ⟨.hbm, 1267, rfl⟩
abbrev main_call2_call3_call0_v162 : Ref sig .tc := ⟨.hbm, 1268, rfl⟩
abbrev main_call2_call3_call0_v163 : Ref sig .tc := ⟨.hbm, 1269, rfl⟩
abbrev main_call2_call3_call0_c_42 : Ref sig .tc := ⟨.hbm, 1270, rfl⟩
abbrev main_call2_call3_call0_v164 : Ref sig .tc := ⟨.hbm, 1271, rfl⟩
abbrev main_call2_call3_call0_v165 : Ref sig .tc := ⟨.hbm, 1272, rfl⟩
abbrev main_call2_call3_call0_c_43 : Ref sig .tc := ⟨.hbm, 1273, rfl⟩
abbrev main_call2_call3_call0_v166 : Ref sig .tc := ⟨.hbm, 1274, rfl⟩
abbrev main_call2_call3_call0_v167 : Ref sig .tc := ⟨.hbm, 1275, rfl⟩
abbrev main_call2_call3_call0_v168 : Ref sig .tc := ⟨.hbm, 1276, rfl⟩
abbrev main_call2_call3_call0_v169 : Ref sig .tc := ⟨.hbm, 1277, rfl⟩
abbrev main_call2_call3_call0_v170 : Ref sig .tc := ⟨.hbm, 1278, rfl⟩
abbrev main_call2_call3_v11_0 : Ref sig .tc := ⟨.hbm, 1279, rfl⟩
abbrev main_call2_call3_call0_v172 : Ref sig .tc := ⟨.hbm, 1280, rfl⟩
abbrev main_call2_call3_call0_v173 : Ref sig .tc := ⟨.hbm, 1281, rfl⟩
abbrev main_call2_call3_call0_c_44 : Ref sig .tc := ⟨.hbm, 1282, rfl⟩
abbrev main_call2_call3_call0_v174 : Ref sig .tc := ⟨.hbm, 1283, rfl⟩
abbrev main_call2_call3_v11_1 : Ref sig .tc := ⟨.hbm, 1284, rfl⟩
abbrev main_call2_call3_v12 : Ref sig .tc := ⟨.hbm, 1285, rfl⟩
abbrev main_call2_call3_v13 : Ref sig .tc := ⟨.hbm, 1286, rfl⟩
abbrev main_call2_v8 : Ref sig .tc := ⟨.hbm, 1287, rfl⟩
abbrev main_call2_v9 : Ref sig .tc := ⟨.hbm, 1288, rfl⟩
abbrev main_call2_v10 : Ref sig .tc := ⟨.hbm, 1289, rfl⟩
abbrev main_call2_v11 : Ref sig .tc := ⟨.hbm, 1290, rfl⟩
abbrev main_call2_v12 : Ref sig .tc := ⟨.hbm, 1291, rfl⟩
abbrev main_call2_v13 : Ref sig .tc := ⟨.hbm, 1292, rfl⟩
abbrev main_call2_v14 : Ref sig .tc := ⟨.hbm, 1293, rfl⟩
abbrev main_call2_v15 : Ref sig .tc := ⟨.hbm, 1294, rfl⟩
abbrev main_call2_v16 : Ref sig .tc := ⟨.hbm, 1295, rfl⟩
abbrev main_call2_v17 : Ref sig .tc := ⟨.hbm, 1296, rfl⟩
abbrev main_call2_v18 : Ref sig .tc := ⟨.hbm, 1297, rfl⟩
abbrev main_call2_c_6 : Ref sig .tc := ⟨.hbm, 1298, rfl⟩
abbrev main_call2_v19 : Ref sig .tc := ⟨.hbm, 1299, rfl⟩
abbrev main_call2_v20 : Ref sig .tc := ⟨.hbm, 1300, rfl⟩
abbrev main_call2_c_7 : Ref sig .tc := ⟨.hbm, 1301, rfl⟩
abbrev main_call2_v21 : Ref sig .tc := ⟨.hbm, 1302, rfl⟩
abbrev main_call2_v22 : Ref sig .tc := ⟨.hbm, 1303, rfl⟩
abbrev main_call2_v23 : Ref sig .tc := ⟨.hbm, 1304, rfl⟩
abbrev main_call2_c_8 : Ref sig .tc := ⟨.hbm, 1305, rfl⟩
abbrev main_call2_v24 : Ref sig .tc := ⟨.hbm, 1306, rfl⟩
abbrev main_call2_v25 : Ref sig .tc := ⟨.hbm, 1307, rfl⟩
abbrev main_call2_v26 : Ref sig .tc := ⟨.hbm, 1308, rfl⟩
abbrev main_call2_v27 : Ref sig .tc := ⟨.hbm, 1309, rfl⟩
abbrev main_call2_call4_v0 : Ref sig .tc := ⟨.hbm, 1310, rfl⟩
abbrev main_call2_call4_c : Ref sig .tc := ⟨.hbm, 1311, rfl⟩
abbrev main_call2_call4_v1 : Ref sig .tc := ⟨.hbm, 1312, rfl⟩
abbrev main_call2_call4_v2 : Ref sig .tc := ⟨.hbm, 1313, rfl⟩
abbrev main_call2_call4_v3 : Ref sig .tc := ⟨.hbm, 1314, rfl⟩
abbrev main_call2_call4_v4 : Ref sig .tc := ⟨.hbm, 1315, rfl⟩
abbrev main_call2_call4_v5 : Ref sig .tc := ⟨.hbm, 1316, rfl⟩
abbrev main_call2_call4_v6 : Ref sig .tc := ⟨.hbm, 1317, rfl⟩
abbrev main_call2_call4_c_0 : Ref sig .tc := ⟨.hbm, 1318, rfl⟩
abbrev main_call2_call4_v7 : Ref sig .tc := ⟨.hbm, 1319, rfl⟩
abbrev main_call2_call4_v8 : Ref sig .tc := ⟨.hbm, 1320, rfl⟩
abbrev main_call2_call4_c_1 : Ref sig .tc := ⟨.hbm, 1321, rfl⟩
abbrev main_call2_call4_v9 : Ref sig .tc := ⟨.hbm, 1322, rfl⟩
abbrev main_call2_call4_v10 : Ref sig .tc := ⟨.hbm, 1323, rfl⟩
abbrev main_call2_call4_v11 : Ref sig .tc := ⟨.hbm, 1324, rfl⟩
abbrev main_call2_call4_v12 : Ref sig .tc := ⟨.hbm, 1325, rfl⟩
abbrev main_call2_call4_v13 : Ref sig .tc := ⟨.hbm, 1326, rfl⟩
abbrev main_call2_call4_c_2 : Ref sig .tc := ⟨.hbm, 1327, rfl⟩
abbrev main_call2_call4_v14 : Ref sig .tc := ⟨.hbm, 1328, rfl⟩
abbrev main_call2_call4_v15 : Ref sig .tc := ⟨.hbm, 1329, rfl⟩
abbrev main_call2_call4_c_3 : Ref sig .tc := ⟨.hbm, 1330, rfl⟩
abbrev main_call2_call4_v16 : Ref sig .tc := ⟨.hbm, 1331, rfl⟩
abbrev main_call2_call4_v17 : Ref sig .tc := ⟨.hbm, 1332, rfl⟩
abbrev main_call2_call4_v18 : Ref sig .tc := ⟨.hbm, 1333, rfl⟩
abbrev main_call2_call4_v19 : Ref sig .tc := ⟨.hbm, 1334, rfl⟩
abbrev main_call2_call4_v20 : Ref sig .tc := ⟨.hbm, 1335, rfl⟩
abbrev main_call2_call4_c_4 : Ref sig .tc := ⟨.hbm, 1336, rfl⟩
abbrev main_call2_call4_v21 : Ref sig .tc := ⟨.hbm, 1337, rfl⟩
abbrev main_call2_call4_v22 : Ref sig .tc := ⟨.hbm, 1338, rfl⟩
abbrev main_call2_call4_c_5 : Ref sig .tc := ⟨.hbm, 1339, rfl⟩
abbrev main_call2_call4_v23 : Ref sig .tc := ⟨.hbm, 1340, rfl⟩
abbrev main_call2_call4_v24 : Ref sig .tc := ⟨.hbm, 1341, rfl⟩
abbrev main_call2_call4_v25 : Ref sig .tc := ⟨.hbm, 1342, rfl⟩
abbrev main_call2_call4_v26 : Ref sig .tc := ⟨.hbm, 1343, rfl⟩
abbrev main_call2_call4_v27 : Ref sig .tc := ⟨.hbm, 1344, rfl⟩
abbrev main_call2_call4_c_6 : Ref sig .tc := ⟨.hbm, 1345, rfl⟩
abbrev main_call2_call4_v28 : Ref sig .tc := ⟨.hbm, 1346, rfl⟩
abbrev main_call2_call4_v29 : Ref sig .tc := ⟨.hbm, 1347, rfl⟩
abbrev main_call2_call4_c_7 : Ref sig .tc := ⟨.hbm, 1348, rfl⟩
abbrev main_call2_call4_v30 : Ref sig .tc := ⟨.hbm, 1349, rfl⟩
abbrev main_call2_call4_v31 : Ref sig .tc := ⟨.hbm, 1350, rfl⟩
abbrev main_call2_call4_v32 : Ref sig .tc := ⟨.hbm, 1351, rfl⟩
abbrev main_call2_call4_v33 : Ref sig .tc := ⟨.hbm, 1352, rfl⟩
abbrev main_call2_call4_v34 : Ref sig .tc := ⟨.hbm, 1353, rfl⟩
abbrev main_call2_call4_v35 : Ref sig .tc := ⟨.hbm, 1354, rfl⟩
abbrev main_call2_call4_v36 : Ref sig .tc := ⟨.hbm, 1355, rfl⟩
abbrev main_call2_call4_v37 : Ref sig .tc := ⟨.hbm, 1356, rfl⟩
abbrev main_call2_call4_c_8 : Ref sig .tc := ⟨.hbm, 1357, rfl⟩
abbrev main_call2_call4_v38 : Ref sig .tc := ⟨.hbm, 1358, rfl⟩
abbrev main_call2_call4_v39 : Ref sig .tc := ⟨.hbm, 1359, rfl⟩
abbrev main_call2_call4_v40 : Ref sig .tc := ⟨.hbm, 1360, rfl⟩
abbrev main_call2_call4_c_9 : Ref sig .tc := ⟨.hbm, 1361, rfl⟩
abbrev main_call2_call4_v41 : Ref sig .tc := ⟨.hbm, 1362, rfl⟩
abbrev main_call2_call4_v42 : Ref sig .tc := ⟨.hbm, 1363, rfl⟩
abbrev main_call2_call4_c_10 : Ref sig .tc := ⟨.hbm, 1364, rfl⟩
abbrev main_call2_call4_v43 : Ref sig .tc := ⟨.hbm, 1365, rfl⟩
abbrev main_call2_call4_v44 : Ref sig .tc := ⟨.hbm, 1366, rfl⟩
abbrev main_call2_call4_v45 : Ref sig .tc := ⟨.hbm, 1367, rfl⟩
abbrev main_call2_call4_v46 : Ref sig .tc := ⟨.hbm, 1368, rfl⟩
abbrev main_call2_call4_v47 : Ref sig .tc := ⟨.hbm, 1369, rfl⟩
abbrev main_call2_call4_c_11 : Ref sig .tc := ⟨.hbm, 1370, rfl⟩
abbrev main_call2_call4_v48 : Ref sig .tc := ⟨.hbm, 1371, rfl⟩
abbrev main_call2_call4_v49 : Ref sig .tc := ⟨.hbm, 1372, rfl⟩
abbrev main_call2_call4_c_12 : Ref sig .tc := ⟨.hbm, 1373, rfl⟩
abbrev main_call2_call4_v50 : Ref sig .tc := ⟨.hbm, 1374, rfl⟩
abbrev main_call2_call4_v51 : Ref sig .tc := ⟨.hbm, 1375, rfl⟩
abbrev main_call2_call4_v52 : Ref sig .tc := ⟨.hbm, 1376, rfl⟩
abbrev main_call2_call4_v53 : Ref sig .tc := ⟨.hbm, 1377, rfl⟩
abbrev main_call2_call4_v54 : Ref sig .tc := ⟨.hbm, 1378, rfl⟩
abbrev main_call2_call4_c_13 : Ref sig .tc := ⟨.hbm, 1379, rfl⟩
abbrev main_call2_call4_v55 : Ref sig .tc := ⟨.hbm, 1380, rfl⟩
abbrev main_call2_call4_v56 : Ref sig .tc := ⟨.hbm, 1381, rfl⟩
abbrev main_call2_call4_c_14 : Ref sig .tc := ⟨.hbm, 1382, rfl⟩
abbrev main_call2_call4_v57 : Ref sig .tc := ⟨.hbm, 1383, rfl⟩
abbrev main_call2_call4_v58 : Ref sig .tc := ⟨.hbm, 1384, rfl⟩
abbrev main_call2_call4_v59 : Ref sig .tc := ⟨.hbm, 1385, rfl⟩
abbrev main_call2_call4_v60 : Ref sig .tc := ⟨.hbm, 1386, rfl⟩
abbrev main_call2_call4_v61 : Ref sig .tc := ⟨.hbm, 1387, rfl⟩
abbrev main_call2_call4_c_15 : Ref sig .tc := ⟨.hbm, 1388, rfl⟩
abbrev main_call2_call4_v62 : Ref sig .tc := ⟨.hbm, 1389, rfl⟩
abbrev main_call2_call4_v63 : Ref sig .tc := ⟨.hbm, 1390, rfl⟩
abbrev main_call2_call4_c_16 : Ref sig .tc := ⟨.hbm, 1391, rfl⟩
abbrev main_call2_call4_v64 : Ref sig .tc := ⟨.hbm, 1392, rfl⟩
abbrev main_call2_call4_v65 : Ref sig .tc := ⟨.hbm, 1393, rfl⟩
abbrev main_call2_call4_v66 : Ref sig .tc := ⟨.hbm, 1394, rfl⟩
abbrev main_call2_call4_v67 : Ref sig .tc := ⟨.hbm, 1395, rfl⟩
abbrev main_call2_call4_v68 : Ref sig .tc := ⟨.hbm, 1396, rfl⟩
abbrev main_call2_call4_v69 : Ref sig .tc := ⟨.hbm, 1397, rfl⟩
abbrev main_call2_call4_v70 : Ref sig .tc := ⟨.hbm, 1398, rfl⟩
abbrev main_call2_call4_v71 : Ref sig .tc := ⟨.hbm, 1399, rfl⟩
abbrev main_call2_call4_c_17 : Ref sig .tc := ⟨.hbm, 1400, rfl⟩
abbrev main_call2_call4_v72 : Ref sig .tc := ⟨.hbm, 1401, rfl⟩
abbrev main_call2_call4_v73 : Ref sig .tc := ⟨.hbm, 1402, rfl⟩
abbrev main_call2_call4_v74 : Ref sig .tc := ⟨.hbm, 1403, rfl⟩
abbrev main_call2_call4_c_18 : Ref sig .tc := ⟨.hbm, 1404, rfl⟩
abbrev main_call2_call4_v75 : Ref sig .tc := ⟨.hbm, 1405, rfl⟩
abbrev main_call2_call4_v76 : Ref sig .tc := ⟨.hbm, 1406, rfl⟩
abbrev main_call2_call4_c_19 : Ref sig .tc := ⟨.hbm, 1407, rfl⟩
abbrev main_call2_call4_v77 : Ref sig .tc := ⟨.hbm, 1408, rfl⟩
abbrev main_call2_call4_v78 : Ref sig .tc := ⟨.hbm, 1409, rfl⟩
abbrev main_call2_call4_v79 : Ref sig .tc := ⟨.hbm, 1410, rfl⟩
abbrev main_call2_call4_v80 : Ref sig .tc := ⟨.hbm, 1411, rfl⟩
abbrev main_call2_call4_v81 : Ref sig .tc := ⟨.hbm, 1412, rfl⟩
abbrev main_call2_call4_c_20 : Ref sig .tc := ⟨.hbm, 1413, rfl⟩
abbrev main_call2_call4_v82 : Ref sig .tc := ⟨.hbm, 1414, rfl⟩
abbrev main_call2_call4_v83 : Ref sig .tc := ⟨.hbm, 1415, rfl⟩
abbrev main_call2_call4_c_21 : Ref sig .tc := ⟨.hbm, 1416, rfl⟩
abbrev main_call2_call4_v84 : Ref sig .tc := ⟨.hbm, 1417, rfl⟩
abbrev main_call2_call4_v85 : Ref sig .tc := ⟨.hbm, 1418, rfl⟩
abbrev main_call2_call4_v86 : Ref sig .tc := ⟨.hbm, 1419, rfl⟩
abbrev main_call2_call4_v87 : Ref sig .tc := ⟨.hbm, 1420, rfl⟩
abbrev main_call2_call4_v88 : Ref sig .tc := ⟨.hbm, 1421, rfl⟩
abbrev main_call2_call4_c_22 : Ref sig .tc := ⟨.hbm, 1422, rfl⟩
abbrev main_call2_call4_v89 : Ref sig .tc := ⟨.hbm, 1423, rfl⟩
abbrev main_call2_call4_v90 : Ref sig .tc := ⟨.hbm, 1424, rfl⟩
abbrev main_call2_call4_c_23 : Ref sig .tc := ⟨.hbm, 1425, rfl⟩
abbrev main_call2_call4_v91 : Ref sig .tc := ⟨.hbm, 1426, rfl⟩
abbrev main_call2_call4_v92 : Ref sig .tc := ⟨.hbm, 1427, rfl⟩
abbrev main_call2_call4_v93 : Ref sig .tc := ⟨.hbm, 1428, rfl⟩
abbrev main_call2_call4_v94 : Ref sig .tc := ⟨.hbm, 1429, rfl⟩
abbrev main_call2_call4_v95 : Ref sig .tc := ⟨.hbm, 1430, rfl⟩
abbrev main_call2_call4_c_24 : Ref sig .tc := ⟨.hbm, 1431, rfl⟩
abbrev main_call2_call4_v96 : Ref sig .tc := ⟨.hbm, 1432, rfl⟩
abbrev main_call2_call4_v97 : Ref sig .tc := ⟨.hbm, 1433, rfl⟩
abbrev main_call2_call4_c_25 : Ref sig .tc := ⟨.hbm, 1434, rfl⟩
abbrev main_call2_call4_v98 : Ref sig .tc := ⟨.hbm, 1435, rfl⟩
abbrev main_call2_call4_v99 : Ref sig .tc := ⟨.hbm, 1436, rfl⟩
abbrev main_call2_call4_v100 : Ref sig .tc := ⟨.hbm, 1437, rfl⟩
abbrev main_call2_call4_v101 : Ref sig .tc := ⟨.hbm, 1438, rfl⟩
abbrev main_call2_call4_v102 : Ref sig .tc := ⟨.hbm, 1439, rfl⟩
abbrev main_call2_call4_v103 : Ref sig .tc := ⟨.hbm, 1440, rfl⟩
abbrev main_call2_call4_v104 : Ref sig .tc := ⟨.hbm, 1441, rfl⟩
abbrev main_call2_call4_v105 : Ref sig .tc := ⟨.hbm, 1442, rfl⟩
abbrev main_call2_call4_c_26 : Ref sig .tc := ⟨.hbm, 1443, rfl⟩
abbrev main_call2_call4_v106 : Ref sig .tc := ⟨.hbm, 1444, rfl⟩
abbrev main_call2_call4_v107 : Ref sig .tc := ⟨.hbm, 1445, rfl⟩
abbrev main_call2_call4_v108 : Ref sig .tc := ⟨.hbm, 1446, rfl⟩
abbrev main_call2_call4_c_27 : Ref sig .tc := ⟨.hbm, 1447, rfl⟩
abbrev main_call2_call4_v109 : Ref sig .tc := ⟨.hbm, 1448, rfl⟩
abbrev main_call2_call4_v110 : Ref sig .tc := ⟨.hbm, 1449, rfl⟩
abbrev main_call2_call4_c_28 : Ref sig .tc := ⟨.hbm, 1450, rfl⟩
abbrev main_call2_call4_v111 : Ref sig .tc := ⟨.hbm, 1451, rfl⟩
abbrev main_call2_call4_v112 : Ref sig .tc := ⟨.hbm, 1452, rfl⟩
abbrev main_call2_call4_v113 : Ref sig .tc := ⟨.hbm, 1453, rfl⟩
abbrev main_call2_call4_v114 : Ref sig .tc := ⟨.hbm, 1454, rfl⟩
abbrev main_call2_call4_v115 : Ref sig .tc := ⟨.hbm, 1455, rfl⟩
abbrev main_call2_call4_c_29 : Ref sig .tc := ⟨.hbm, 1456, rfl⟩
abbrev main_call2_call4_v116 : Ref sig .tc := ⟨.hbm, 1457, rfl⟩
abbrev main_call2_call4_v117 : Ref sig .tc := ⟨.hbm, 1458, rfl⟩
abbrev main_call2_call4_c_30 : Ref sig .tc := ⟨.hbm, 1459, rfl⟩
abbrev main_call2_call4_v118 : Ref sig .tc := ⟨.hbm, 1460, rfl⟩
abbrev main_call2_call4_v119 : Ref sig .tc := ⟨.hbm, 1461, rfl⟩
abbrev main_call2_call4_v120 : Ref sig .tc := ⟨.hbm, 1462, rfl⟩
abbrev main_call2_call4_v121 : Ref sig .tc := ⟨.hbm, 1463, rfl⟩
abbrev main_call2_call4_v122 : Ref sig .tc := ⟨.hbm, 1464, rfl⟩
abbrev main_call2_call4_c_31 : Ref sig .tc := ⟨.hbm, 1465, rfl⟩
abbrev main_call2_call4_v123 : Ref sig .tc := ⟨.hbm, 1466, rfl⟩
abbrev main_call2_call4_v124 : Ref sig .tc := ⟨.hbm, 1467, rfl⟩
abbrev main_call2_call4_c_32 : Ref sig .tc := ⟨.hbm, 1468, rfl⟩
abbrev main_call2_call4_v125 : Ref sig .tc := ⟨.hbm, 1469, rfl⟩
abbrev main_call2_call4_v126 : Ref sig .tc := ⟨.hbm, 1470, rfl⟩
abbrev main_call2_call4_v127 : Ref sig .tc := ⟨.hbm, 1471, rfl⟩
abbrev main_call2_call4_v128 : Ref sig .tc := ⟨.hbm, 1472, rfl⟩
abbrev main_call2_call4_v129 : Ref sig .tc := ⟨.hbm, 1473, rfl⟩
abbrev main_call2_call4_c_33 : Ref sig .tc := ⟨.hbm, 1474, rfl⟩
abbrev main_call2_call4_v130 : Ref sig .tc := ⟨.hbm, 1475, rfl⟩
abbrev main_call2_call4_v131 : Ref sig .tc := ⟨.hbm, 1476, rfl⟩
abbrev main_call2_call4_c_34 : Ref sig .tc := ⟨.hbm, 1477, rfl⟩
abbrev main_call2_call4_v132 : Ref sig .tc := ⟨.hbm, 1478, rfl⟩
abbrev main_call2_call4_v133 : Ref sig .tc := ⟨.hbm, 1479, rfl⟩
abbrev main_call2_call4_v134 : Ref sig .tc := ⟨.hbm, 1480, rfl⟩
abbrev main_call2_call4_v135 : Ref sig .tc := ⟨.hbm, 1481, rfl⟩
abbrev main_call2_call4_v136 : Ref sig .tc := ⟨.hbm, 1482, rfl⟩
abbrev main_call2_call4_v137 : Ref sig .tc := ⟨.hbm, 1483, rfl⟩
abbrev main_call2_call4_v138 : Ref sig .tc := ⟨.hbm, 1484, rfl⟩
abbrev main_call2_call4_v139 : Ref sig .tc := ⟨.hbm, 1485, rfl⟩
abbrev main_call2_call4_c_35 : Ref sig .tc := ⟨.hbm, 1486, rfl⟩
abbrev main_call2_call4_v140 : Ref sig .tc := ⟨.hbm, 1487, rfl⟩
abbrev main_call2_call4_v141 : Ref sig .tc := ⟨.hbm, 1488, rfl⟩
abbrev main_call2_call4_v142 : Ref sig .tc := ⟨.hbm, 1489, rfl⟩
abbrev main_call2_call4_c_36 : Ref sig .tc := ⟨.hbm, 1490, rfl⟩
abbrev main_call2_call4_v143 : Ref sig .tc := ⟨.hbm, 1491, rfl⟩
abbrev main_call2_call4_v144 : Ref sig .tc := ⟨.hbm, 1492, rfl⟩
abbrev main_call2_call4_c_37 : Ref sig .tc := ⟨.hbm, 1493, rfl⟩
abbrev main_call2_call4_v145 : Ref sig .tc := ⟨.hbm, 1494, rfl⟩
abbrev main_call2_call4_v146 : Ref sig .tc := ⟨.hbm, 1495, rfl⟩
abbrev main_call2_call4_v147 : Ref sig .tc := ⟨.hbm, 1496, rfl⟩
abbrev main_call2_call4_v148 : Ref sig .tc := ⟨.hbm, 1497, rfl⟩
abbrev main_call2_call4_v149 : Ref sig .tc := ⟨.hbm, 1498, rfl⟩
abbrev main_call2_call4_c_38 : Ref sig .tc := ⟨.hbm, 1499, rfl⟩
abbrev main_call2_call4_v150 : Ref sig .tc := ⟨.hbm, 1500, rfl⟩
abbrev main_call2_call4_v151 : Ref sig .tc := ⟨.hbm, 1501, rfl⟩
abbrev main_call2_call4_c_39 : Ref sig .tc := ⟨.hbm, 1502, rfl⟩
abbrev main_call2_call4_v152 : Ref sig .tc := ⟨.hbm, 1503, rfl⟩
abbrev main_call2_call4_v153 : Ref sig .tc := ⟨.hbm, 1504, rfl⟩
abbrev main_call2_call4_v154 : Ref sig .tc := ⟨.hbm, 1505, rfl⟩
abbrev main_call2_call4_v155 : Ref sig .tc := ⟨.hbm, 1506, rfl⟩
abbrev main_call2_call4_v156 : Ref sig .tc := ⟨.hbm, 1507, rfl⟩
abbrev main_call2_call4_c_40 : Ref sig .tc := ⟨.hbm, 1508, rfl⟩
abbrev main_call2_call4_v157 : Ref sig .tc := ⟨.hbm, 1509, rfl⟩
abbrev main_call2_call4_v158 : Ref sig .tc := ⟨.hbm, 1510, rfl⟩
abbrev main_call2_call4_c_41 : Ref sig .tc := ⟨.hbm, 1511, rfl⟩
abbrev main_call2_call4_v159 : Ref sig .tc := ⟨.hbm, 1512, rfl⟩
abbrev main_call2_call4_v160 : Ref sig .tc := ⟨.hbm, 1513, rfl⟩
abbrev main_call2_call4_v161 : Ref sig .tc := ⟨.hbm, 1514, rfl⟩
abbrev main_call2_call4_v162 : Ref sig .tc := ⟨.hbm, 1515, rfl⟩
abbrev main_call2_call4_v163 : Ref sig .tc := ⟨.hbm, 1516, rfl⟩
abbrev main_call2_call4_c_42 : Ref sig .tc := ⟨.hbm, 1517, rfl⟩
abbrev main_call2_call4_v164 : Ref sig .tc := ⟨.hbm, 1518, rfl⟩
abbrev main_call2_call4_v165 : Ref sig .tc := ⟨.hbm, 1519, rfl⟩
abbrev main_call2_call4_c_43 : Ref sig .tc := ⟨.hbm, 1520, rfl⟩
abbrev main_call2_call4_v166 : Ref sig .tc := ⟨.hbm, 1521, rfl⟩
abbrev main_call2_call4_v167 : Ref sig .tc := ⟨.hbm, 1522, rfl⟩
abbrev main_call2_call4_v168 : Ref sig .tc := ⟨.hbm, 1523, rfl⟩
abbrev main_call2_call4_v169 : Ref sig .tc := ⟨.hbm, 1524, rfl⟩
abbrev main_call2_call4_v170 : Ref sig .tc := ⟨.hbm, 1525, rfl⟩
abbrev main_call2_v28_0 : Ref sig .tc := ⟨.hbm, 1526, rfl⟩
abbrev main_call2_call4_v172 : Ref sig .tc := ⟨.hbm, 1527, rfl⟩
abbrev main_call2_call4_v173 : Ref sig .tc := ⟨.hbm, 1528, rfl⟩
abbrev main_call2_call4_c_44 : Ref sig .tc := ⟨.hbm, 1529, rfl⟩
abbrev main_call2_call4_v174 : Ref sig .tc := ⟨.hbm, 1530, rfl⟩
abbrev main_call2_v28_1 : Ref sig .tc := ⟨.hbm, 1531, rfl⟩
abbrev main_call2_v29 : Ref sig .tc := ⟨.hbm, 1532, rfl⟩
abbrev main_call2_v30 : Ref sig .tc := ⟨.hbm, 1533, rfl⟩
abbrev main_call2_v31 : Ref sig .tc := ⟨.hbm, 1534, rfl⟩
abbrev main_call2_v32 : Ref sig .tc := ⟨.hbm, 1535, rfl⟩
abbrev main_call2_v33 : Ref sig .tc := ⟨.hbm, 1536, rfl⟩
abbrev main_call2_v34 : Ref sig .tc := ⟨.hbm, 1537, rfl⟩
abbrev main_call2_v35 : Ref sig .tc := ⟨.hbm, 1538, rfl⟩
abbrev main_call2_c_9 : Ref sig .tc := ⟨.hbm, 1539, rfl⟩
abbrev main_call2_v36 : Ref sig .tc := ⟨.hbm, 1540, rfl⟩
abbrev main_call2_v37 : Ref sig .tc := ⟨.hbm, 1541, rfl⟩
abbrev main_call2_c_10 : Ref sig .tc := ⟨.hbm, 1542, rfl⟩
abbrev main_call2_v38 : Ref sig .tc := ⟨.hbm, 1543, rfl⟩
abbrev main_call2_v39 : Ref sig .tc := ⟨.hbm, 1544, rfl⟩
abbrev main_call2_v40 : Ref sig .tc := ⟨.hbm, 1545, rfl⟩
abbrev main_call2_c_11 : Ref sig .tc := ⟨.hbm, 1546, rfl⟩
abbrev main_call2_v41 : Ref sig .tc := ⟨.hbm, 1547, rfl⟩
abbrev main_call2_v42 : Ref sig .tc := ⟨.hbm, 1548, rfl⟩
abbrev main_call2_v43 : Ref sig .tc := ⟨.hbm, 1549, rfl⟩
abbrev main_call2_v44 : Ref sig .tc := ⟨.hbm, 1550, rfl⟩
abbrev main_call2_call5_v0 : Ref sig .tc := ⟨.hbm, 1551, rfl⟩
abbrev main_call2_call5_c : Ref sig .tc := ⟨.hbm, 1552, rfl⟩
abbrev main_call2_call5_v1 : Ref sig .tc := ⟨.hbm, 1553, rfl⟩
abbrev main_call2_call5_v2 : Ref sig .tc := ⟨.hbm, 1554, rfl⟩
abbrev main_call2_call5_v3 : Ref sig .tc := ⟨.hbm, 1555, rfl⟩
abbrev main_call2_call5_v4 : Ref sig .tc := ⟨.hbm, 1556, rfl⟩
abbrev main_call2_call5_v5 : Ref sig .tc := ⟨.hbm, 1557, rfl⟩
abbrev main_call2_call5_v6 : Ref sig .tc := ⟨.hbm, 1558, rfl⟩
abbrev main_call2_call5_c_0 : Ref sig .tc := ⟨.hbm, 1559, rfl⟩
abbrev main_call2_call5_v7 : Ref sig .tc := ⟨.hbm, 1560, rfl⟩
abbrev main_call2_call5_v8 : Ref sig .tc := ⟨.hbm, 1561, rfl⟩
abbrev main_call2_call5_c_1 : Ref sig .tc := ⟨.hbm, 1562, rfl⟩
abbrev main_call2_call5_v9 : Ref sig .tc := ⟨.hbm, 1563, rfl⟩
abbrev main_call2_call5_v10 : Ref sig .tc := ⟨.hbm, 1564, rfl⟩
abbrev main_call2_call5_v11 : Ref sig .tc := ⟨.hbm, 1565, rfl⟩
abbrev main_call2_call5_v12 : Ref sig .tc := ⟨.hbm, 1566, rfl⟩
abbrev main_call2_call5_v13 : Ref sig .tc := ⟨.hbm, 1567, rfl⟩
abbrev main_call2_call5_c_2 : Ref sig .tc := ⟨.hbm, 1568, rfl⟩
abbrev main_call2_call5_v14 : Ref sig .tc := ⟨.hbm, 1569, rfl⟩
abbrev main_call2_call5_v15 : Ref sig .tc := ⟨.hbm, 1570, rfl⟩
abbrev main_call2_call5_c_3 : Ref sig .tc := ⟨.hbm, 1571, rfl⟩
abbrev main_call2_call5_v16 : Ref sig .tc := ⟨.hbm, 1572, rfl⟩
abbrev main_call2_call5_v17 : Ref sig .tc := ⟨.hbm, 1573, rfl⟩
abbrev main_call2_call5_v18 : Ref sig .tc := ⟨.hbm, 1574, rfl⟩
abbrev main_call2_call5_v19 : Ref sig .tc := ⟨.hbm, 1575, rfl⟩
abbrev main_call2_call5_v20 : Ref sig .tc := ⟨.hbm, 1576, rfl⟩
abbrev main_call2_call5_c_4 : Ref sig .tc := ⟨.hbm, 1577, rfl⟩
abbrev main_call2_call5_v21 : Ref sig .tc := ⟨.hbm, 1578, rfl⟩
abbrev main_call2_call5_v22 : Ref sig .tc := ⟨.hbm, 1579, rfl⟩
abbrev main_call2_call5_c_5 : Ref sig .tc := ⟨.hbm, 1580, rfl⟩
abbrev main_call2_call5_v23 : Ref sig .tc := ⟨.hbm, 1581, rfl⟩
abbrev main_call2_call5_v24 : Ref sig .tc := ⟨.hbm, 1582, rfl⟩
abbrev main_call2_call5_v25 : Ref sig .tc := ⟨.hbm, 1583, rfl⟩
abbrev main_call2_call5_v26 : Ref sig .tc := ⟨.hbm, 1584, rfl⟩
abbrev main_call2_call5_v27 : Ref sig .tc := ⟨.hbm, 1585, rfl⟩
abbrev main_call2_call5_c_6 : Ref sig .tc := ⟨.hbm, 1586, rfl⟩
abbrev main_call2_call5_v28 : Ref sig .tc := ⟨.hbm, 1587, rfl⟩
abbrev main_call2_call5_v29 : Ref sig .tc := ⟨.hbm, 1588, rfl⟩
abbrev main_call2_call5_c_7 : Ref sig .tc := ⟨.hbm, 1589, rfl⟩
abbrev main_call2_call5_v30 : Ref sig .tc := ⟨.hbm, 1590, rfl⟩
abbrev main_call2_call5_v31 : Ref sig .tc := ⟨.hbm, 1591, rfl⟩
abbrev main_call2_call5_v32 : Ref sig .tc := ⟨.hbm, 1592, rfl⟩
abbrev main_call2_call5_v33 : Ref sig .tc := ⟨.hbm, 1593, rfl⟩
abbrev main_call2_call5_v34 : Ref sig .tc := ⟨.hbm, 1594, rfl⟩
abbrev main_call2_call5_v35 : Ref sig .tc := ⟨.hbm, 1595, rfl⟩
abbrev main_call2_call5_v36 : Ref sig .tc := ⟨.hbm, 1596, rfl⟩
abbrev main_call2_call5_v37 : Ref sig .tc := ⟨.hbm, 1597, rfl⟩
abbrev main_call2_call5_c_8 : Ref sig .tc := ⟨.hbm, 1598, rfl⟩
abbrev main_call2_call5_v38 : Ref sig .tc := ⟨.hbm, 1599, rfl⟩
abbrev main_call2_call5_v39 : Ref sig .tc := ⟨.hbm, 1600, rfl⟩
abbrev main_call2_call5_v40 : Ref sig .tc := ⟨.hbm, 1601, rfl⟩
abbrev main_call2_call5_c_9 : Ref sig .tc := ⟨.hbm, 1602, rfl⟩
abbrev main_call2_call5_v41 : Ref sig .tc := ⟨.hbm, 1603, rfl⟩
abbrev main_call2_call5_v42 : Ref sig .tc := ⟨.hbm, 1604, rfl⟩
abbrev main_call2_call5_c_10 : Ref sig .tc := ⟨.hbm, 1605, rfl⟩
abbrev main_call2_call5_v43 : Ref sig .tc := ⟨.hbm, 1606, rfl⟩
abbrev main_call2_call5_v44 : Ref sig .tc := ⟨.hbm, 1607, rfl⟩
abbrev main_call2_call5_v45 : Ref sig .tc := ⟨.hbm, 1608, rfl⟩
abbrev main_call2_call5_v46 : Ref sig .tc := ⟨.hbm, 1609, rfl⟩
abbrev main_call2_call5_v47 : Ref sig .tc := ⟨.hbm, 1610, rfl⟩
abbrev main_call2_call5_c_11 : Ref sig .tc := ⟨.hbm, 1611, rfl⟩
abbrev main_call2_call5_v48 : Ref sig .tc := ⟨.hbm, 1612, rfl⟩
abbrev main_call2_call5_v49 : Ref sig .tc := ⟨.hbm, 1613, rfl⟩
abbrev main_call2_call5_c_12 : Ref sig .tc := ⟨.hbm, 1614, rfl⟩
abbrev main_call2_call5_v50 : Ref sig .tc := ⟨.hbm, 1615, rfl⟩
abbrev main_call2_call5_v51 : Ref sig .tc := ⟨.hbm, 1616, rfl⟩
abbrev main_call2_call5_v52 : Ref sig .tc := ⟨.hbm, 1617, rfl⟩
abbrev main_call2_call5_v53 : Ref sig .tc := ⟨.hbm, 1618, rfl⟩
abbrev main_call2_call5_v54 : Ref sig .tc := ⟨.hbm, 1619, rfl⟩
abbrev main_call2_call5_c_13 : Ref sig .tc := ⟨.hbm, 1620, rfl⟩
abbrev main_call2_call5_v55 : Ref sig .tc := ⟨.hbm, 1621, rfl⟩
abbrev main_call2_call5_v56 : Ref sig .tc := ⟨.hbm, 1622, rfl⟩
abbrev main_call2_call5_c_14 : Ref sig .tc := ⟨.hbm, 1623, rfl⟩
abbrev main_call2_call5_v57 : Ref sig .tc := ⟨.hbm, 1624, rfl⟩
abbrev main_call2_call5_v58 : Ref sig .tc := ⟨.hbm, 1625, rfl⟩
abbrev main_call2_call5_v59 : Ref sig .tc := ⟨.hbm, 1626, rfl⟩
abbrev main_call2_call5_v60 : Ref sig .tc := ⟨.hbm, 1627, rfl⟩
abbrev main_call2_call5_v61 : Ref sig .tc := ⟨.hbm, 1628, rfl⟩
abbrev main_call2_call5_c_15 : Ref sig .tc := ⟨.hbm, 1629, rfl⟩
abbrev main_call2_call5_v62 : Ref sig .tc := ⟨.hbm, 1630, rfl⟩
abbrev main_call2_call5_v63 : Ref sig .tc := ⟨.hbm, 1631, rfl⟩
abbrev main_call2_call5_c_16 : Ref sig .tc := ⟨.hbm, 1632, rfl⟩
abbrev main_call2_call5_v64 : Ref sig .tc := ⟨.hbm, 1633, rfl⟩
abbrev main_call2_call5_v65 : Ref sig .tc := ⟨.hbm, 1634, rfl⟩
abbrev main_call2_call5_v66 : Ref sig .tc := ⟨.hbm, 1635, rfl⟩
abbrev main_call2_call5_v67 : Ref sig .tc := ⟨.hbm, 1636, rfl⟩
abbrev main_call2_call5_v68 : Ref sig .tc := ⟨.hbm, 1637, rfl⟩
abbrev main_call2_call5_v69 : Ref sig .tc := ⟨.hbm, 1638, rfl⟩
abbrev main_call2_call5_v70 : Ref sig .tc := ⟨.hbm, 1639, rfl⟩
abbrev main_call2_call5_v71 : Ref sig .tc := ⟨.hbm, 1640, rfl⟩
abbrev main_call2_call5_c_17 : Ref sig .tc := ⟨.hbm, 1641, rfl⟩
abbrev main_call2_call5_v72 : Ref sig .tc := ⟨.hbm, 1642, rfl⟩
abbrev main_call2_call5_v73 : Ref sig .tc := ⟨.hbm, 1643, rfl⟩
abbrev main_call2_call5_v74 : Ref sig .tc := ⟨.hbm, 1644, rfl⟩
abbrev main_call2_call5_c_18 : Ref sig .tc := ⟨.hbm, 1645, rfl⟩
abbrev main_call2_call5_v75 : Ref sig .tc := ⟨.hbm, 1646, rfl⟩
abbrev main_call2_call5_v76 : Ref sig .tc := ⟨.hbm, 1647, rfl⟩
abbrev main_call2_call5_c_19 : Ref sig .tc := ⟨.hbm, 1648, rfl⟩
abbrev main_call2_call5_v77 : Ref sig .tc := ⟨.hbm, 1649, rfl⟩
abbrev main_call2_call5_v78 : Ref sig .tc := ⟨.hbm, 1650, rfl⟩
abbrev main_call2_call5_v79 : Ref sig .tc := ⟨.hbm, 1651, rfl⟩
abbrev main_call2_call5_v80 : Ref sig .tc := ⟨.hbm, 1652, rfl⟩
abbrev main_call2_call5_v81 : Ref sig .tc := ⟨.hbm, 1653, rfl⟩
abbrev main_call2_call5_c_20 : Ref sig .tc := ⟨.hbm, 1654, rfl⟩
abbrev main_call2_call5_v82 : Ref sig .tc := ⟨.hbm, 1655, rfl⟩
abbrev main_call2_call5_v83 : Ref sig .tc := ⟨.hbm, 1656, rfl⟩
abbrev main_call2_call5_c_21 : Ref sig .tc := ⟨.hbm, 1657, rfl⟩
abbrev main_call2_call5_v84 : Ref sig .tc := ⟨.hbm, 1658, rfl⟩
abbrev main_call2_call5_v85 : Ref sig .tc := ⟨.hbm, 1659, rfl⟩
abbrev main_call2_call5_v86 : Ref sig .tc := ⟨.hbm, 1660, rfl⟩
abbrev main_call2_call5_v87 : Ref sig .tc := ⟨.hbm, 1661, rfl⟩
abbrev main_call2_call5_v88 : Ref sig .tc := ⟨.hbm, 1662, rfl⟩
abbrev main_call2_call5_c_22 : Ref sig .tc := ⟨.hbm, 1663, rfl⟩
abbrev main_call2_call5_v89 : Ref sig .tc := ⟨.hbm, 1664, rfl⟩
abbrev main_call2_call5_v90 : Ref sig .tc := ⟨.hbm, 1665, rfl⟩
abbrev main_call2_call5_c_23 : Ref sig .tc := ⟨.hbm, 1666, rfl⟩
abbrev main_call2_call5_v91 : Ref sig .tc := ⟨.hbm, 1667, rfl⟩
abbrev main_call2_call5_v92 : Ref sig .tc := ⟨.hbm, 1668, rfl⟩
abbrev main_call2_call5_v93 : Ref sig .tc := ⟨.hbm, 1669, rfl⟩
abbrev main_call2_call5_v94 : Ref sig .tc := ⟨.hbm, 1670, rfl⟩
abbrev main_call2_call5_v95 : Ref sig .tc := ⟨.hbm, 1671, rfl⟩
abbrev main_call2_call5_c_24 : Ref sig .tc := ⟨.hbm, 1672, rfl⟩
abbrev main_call2_call5_v96 : Ref sig .tc := ⟨.hbm, 1673, rfl⟩
abbrev main_call2_call5_v97 : Ref sig .tc := ⟨.hbm, 1674, rfl⟩
abbrev main_call2_call5_c_25 : Ref sig .tc := ⟨.hbm, 1675, rfl⟩
abbrev main_call2_call5_v98 : Ref sig .tc := ⟨.hbm, 1676, rfl⟩
abbrev main_call2_call5_v99 : Ref sig .tc := ⟨.hbm, 1677, rfl⟩
abbrev main_call2_call5_v100 : Ref sig .tc := ⟨.hbm, 1678, rfl⟩
abbrev main_call2_call5_v101 : Ref sig .tc := ⟨.hbm, 1679, rfl⟩
abbrev main_call2_call5_v102 : Ref sig .tc := ⟨.hbm, 1680, rfl⟩
abbrev main_call2_call5_v103 : Ref sig .tc := ⟨.hbm, 1681, rfl⟩
abbrev main_call2_call5_v104 : Ref sig .tc := ⟨.hbm, 1682, rfl⟩
abbrev main_call2_call5_v105 : Ref sig .tc := ⟨.hbm, 1683, rfl⟩
abbrev main_call2_call5_c_26 : Ref sig .tc := ⟨.hbm, 1684, rfl⟩
abbrev main_call2_call5_v106 : Ref sig .tc := ⟨.hbm, 1685, rfl⟩
abbrev main_call2_call5_v107 : Ref sig .tc := ⟨.hbm, 1686, rfl⟩
abbrev main_call2_call5_v108 : Ref sig .tc := ⟨.hbm, 1687, rfl⟩
abbrev main_call2_call5_c_27 : Ref sig .tc := ⟨.hbm, 1688, rfl⟩
abbrev main_call2_call5_v109 : Ref sig .tc := ⟨.hbm, 1689, rfl⟩
abbrev main_call2_call5_v110 : Ref sig .tc := ⟨.hbm, 1690, rfl⟩
abbrev main_call2_call5_c_28 : Ref sig .tc := ⟨.hbm, 1691, rfl⟩
abbrev main_call2_call5_v111 : Ref sig .tc := ⟨.hbm, 1692, rfl⟩
abbrev main_call2_call5_v112 : Ref sig .tc := ⟨.hbm, 1693, rfl⟩
abbrev main_call2_call5_v113 : Ref sig .tc := ⟨.hbm, 1694, rfl⟩
abbrev main_call2_call5_v114 : Ref sig .tc := ⟨.hbm, 1695, rfl⟩
abbrev main_call2_call5_v115 : Ref sig .tc := ⟨.hbm, 1696, rfl⟩
abbrev main_call2_call5_c_29 : Ref sig .tc := ⟨.hbm, 1697, rfl⟩
abbrev main_call2_call5_v116 : Ref sig .tc := ⟨.hbm, 1698, rfl⟩
abbrev main_call2_call5_v117 : Ref sig .tc := ⟨.hbm, 1699, rfl⟩
abbrev main_call2_call5_c_30 : Ref sig .tc := ⟨.hbm, 1700, rfl⟩
abbrev main_call2_call5_v118 : Ref sig .tc := ⟨.hbm, 1701, rfl⟩
abbrev main_call2_call5_v119 : Ref sig .tc := ⟨.hbm, 1702, rfl⟩
abbrev main_call2_call5_v120 : Ref sig .tc := ⟨.hbm, 1703, rfl⟩
abbrev main_call2_call5_v121 : Ref sig .tc := ⟨.hbm, 1704, rfl⟩
abbrev main_call2_call5_v122 : Ref sig .tc := ⟨.hbm, 1705, rfl⟩
abbrev main_call2_call5_c_31 : Ref sig .tc := ⟨.hbm, 1706, rfl⟩
abbrev main_call2_call5_v123 : Ref sig .tc := ⟨.hbm, 1707, rfl⟩
abbrev main_call2_call5_v124 : Ref sig .tc := ⟨.hbm, 1708, rfl⟩
abbrev main_call2_call5_c_32 : Ref sig .tc := ⟨.hbm, 1709, rfl⟩
abbrev main_call2_call5_v125 : Ref sig .tc := ⟨.hbm, 1710, rfl⟩
abbrev main_call2_call5_v126 : Ref sig .tc := ⟨.hbm, 1711, rfl⟩
abbrev main_call2_call5_v127 : Ref sig .tc := ⟨.hbm, 1712, rfl⟩
abbrev main_call2_call5_v128 : Ref sig .tc := ⟨.hbm, 1713, rfl⟩
abbrev main_call2_call5_v129 : Ref sig .tc := ⟨.hbm, 1714, rfl⟩
abbrev main_call2_call5_c_33 : Ref sig .tc := ⟨.hbm, 1715, rfl⟩
abbrev main_call2_call5_v130 : Ref sig .tc := ⟨.hbm, 1716, rfl⟩
abbrev main_call2_call5_v131 : Ref sig .tc := ⟨.hbm, 1717, rfl⟩
abbrev main_call2_call5_c_34 : Ref sig .tc := ⟨.hbm, 1718, rfl⟩
abbrev main_call2_call5_v132 : Ref sig .tc := ⟨.hbm, 1719, rfl⟩
abbrev main_call2_call5_v133 : Ref sig .tc := ⟨.hbm, 1720, rfl⟩
abbrev main_call2_call5_v134 : Ref sig .tc := ⟨.hbm, 1721, rfl⟩
abbrev main_call2_call5_v135 : Ref sig .tc := ⟨.hbm, 1722, rfl⟩
abbrev main_call2_call5_v136 : Ref sig .tc := ⟨.hbm, 1723, rfl⟩
abbrev main_call2_call5_v137 : Ref sig .tc := ⟨.hbm, 1724, rfl⟩
abbrev main_call2_call5_v138 : Ref sig .tc := ⟨.hbm, 1725, rfl⟩
abbrev main_call2_call5_v139 : Ref sig .tc := ⟨.hbm, 1726, rfl⟩
abbrev main_call2_call5_c_35 : Ref sig .tc := ⟨.hbm, 1727, rfl⟩
abbrev main_call2_call5_v140 : Ref sig .tc := ⟨.hbm, 1728, rfl⟩
abbrev main_call2_call5_v141 : Ref sig .tc := ⟨.hbm, 1729, rfl⟩
abbrev main_call2_call5_v142 : Ref sig .tc := ⟨.hbm, 1730, rfl⟩
abbrev main_call2_call5_c_36 : Ref sig .tc := ⟨.hbm, 1731, rfl⟩
abbrev main_call2_call5_v143 : Ref sig .tc := ⟨.hbm, 1732, rfl⟩
abbrev main_call2_call5_v144 : Ref sig .tc := ⟨.hbm, 1733, rfl⟩
abbrev main_call2_call5_c_37 : Ref sig .tc := ⟨.hbm, 1734, rfl⟩
abbrev main_call2_call5_v145 : Ref sig .tc := ⟨.hbm, 1735, rfl⟩
abbrev main_call2_call5_v146 : Ref sig .tc := ⟨.hbm, 1736, rfl⟩
abbrev main_call2_call5_v147 : Ref sig .tc := ⟨.hbm, 1737, rfl⟩
abbrev main_call2_call5_v148 : Ref sig .tc := ⟨.hbm, 1738, rfl⟩
abbrev main_call2_call5_v149 : Ref sig .tc := ⟨.hbm, 1739, rfl⟩
abbrev main_call2_call5_c_38 : Ref sig .tc := ⟨.hbm, 1740, rfl⟩
abbrev main_call2_call5_v150 : Ref sig .tc := ⟨.hbm, 1741, rfl⟩
abbrev main_call2_call5_v151 : Ref sig .tc := ⟨.hbm, 1742, rfl⟩
abbrev main_call2_call5_c_39 : Ref sig .tc := ⟨.hbm, 1743, rfl⟩
abbrev main_call2_call5_v152 : Ref sig .tc := ⟨.hbm, 1744, rfl⟩
abbrev main_call2_call5_v153 : Ref sig .tc := ⟨.hbm, 1745, rfl⟩
abbrev main_call2_call5_v154 : Ref sig .tc := ⟨.hbm, 1746, rfl⟩
abbrev main_call2_call5_v155 : Ref sig .tc := ⟨.hbm, 1747, rfl⟩
abbrev main_call2_call5_v156 : Ref sig .tc := ⟨.hbm, 1748, rfl⟩
abbrev main_call2_call5_c_40 : Ref sig .tc := ⟨.hbm, 1749, rfl⟩
abbrev main_call2_call5_v157 : Ref sig .tc := ⟨.hbm, 1750, rfl⟩
abbrev main_call2_call5_v158 : Ref sig .tc := ⟨.hbm, 1751, rfl⟩
abbrev main_call2_call5_c_41 : Ref sig .tc := ⟨.hbm, 1752, rfl⟩
abbrev main_call2_call5_v159 : Ref sig .tc := ⟨.hbm, 1753, rfl⟩
abbrev main_call2_call5_v160 : Ref sig .tc := ⟨.hbm, 1754, rfl⟩
abbrev main_call2_call5_v161 : Ref sig .tc := ⟨.hbm, 1755, rfl⟩
abbrev main_call2_call5_v162 : Ref sig .tc := ⟨.hbm, 1756, rfl⟩
abbrev main_call2_call5_v163 : Ref sig .tc := ⟨.hbm, 1757, rfl⟩
abbrev main_call2_call5_c_42 : Ref sig .tc := ⟨.hbm, 1758, rfl⟩
abbrev main_call2_call5_v164 : Ref sig .tc := ⟨.hbm, 1759, rfl⟩
abbrev main_call2_call5_v165 : Ref sig .tc := ⟨.hbm, 1760, rfl⟩
abbrev main_call2_call5_c_43 : Ref sig .tc := ⟨.hbm, 1761, rfl⟩
abbrev main_call2_call5_v166 : Ref sig .tc := ⟨.hbm, 1762, rfl⟩
abbrev main_call2_call5_v167 : Ref sig .tc := ⟨.hbm, 1763, rfl⟩
abbrev main_call2_call5_v168 : Ref sig .tc := ⟨.hbm, 1764, rfl⟩
abbrev main_call2_call5_v169 : Ref sig .tc := ⟨.hbm, 1765, rfl⟩
abbrev main_call2_call5_v170 : Ref sig .tc := ⟨.hbm, 1766, rfl⟩
abbrev main_call2_v45_0 : Ref sig .tc := ⟨.hbm, 1767, rfl⟩
abbrev main_call2_call5_v172 : Ref sig .tc := ⟨.hbm, 1768, rfl⟩
abbrev main_call2_call5_v173 : Ref sig .tc := ⟨.hbm, 1769, rfl⟩
abbrev main_call2_call5_c_44 : Ref sig .tc := ⟨.hbm, 1770, rfl⟩
abbrev main_call2_call5_v174 : Ref sig .tc := ⟨.hbm, 1771, rfl⟩
abbrev main_call2_v45_1 : Ref sig .tc := ⟨.hbm, 1772, rfl⟩
abbrev main_call2_v46 : Ref sig .tc := ⟨.hbm, 1773, rfl⟩
abbrev main_call2_v47 : Ref sig .tc := ⟨.hbm, 1774, rfl⟩
abbrev main_call2_v48 : Ref sig .tc := ⟨.hbm, 1775, rfl⟩
abbrev main_call2_v49 : Ref sig .tc := ⟨.hbm, 1776, rfl⟩
abbrev main_call2_c_12 : Ref sig .tc := ⟨.hbm, 1777, rfl⟩
abbrev main_call2_v50 : Ref sig .tc := ⟨.hbm, 1778, rfl⟩
abbrev main_call2_v51 : Ref sig .tc := ⟨.hbm, 1779, rfl⟩
abbrev main_call2_v52 : Ref sig .tc := ⟨.hbm, 1780, rfl⟩
abbrev main_call2_v53 : Ref sig .tc := ⟨.hbm, 1781, rfl⟩
abbrev main_call2_v54 : Ref sig .tc := ⟨.hbm, 1782, rfl⟩
abbrev main_call2_c_13 : Ref sig .tc := ⟨.hbm, 1783, rfl⟩
abbrev main_call2_v55 : Ref sig .tc := ⟨.hbm, 1784, rfl⟩
abbrev main_call2_v56 : Ref sig .tc := ⟨.hbm, 1785, rfl⟩
abbrev main_call2_v57 : Ref sig .tc := ⟨.hbm, 1786, rfl⟩
abbrev main_call2_c_14 : Ref sig .tc := ⟨.hbm, 1787, rfl⟩
abbrev main_call2_v58 : Ref sig .tc := ⟨.hbm, 1788, rfl⟩
abbrev main_call2_v59 : Ref sig .tc := ⟨.hbm, 1789, rfl⟩
abbrev main_call2_v60 : Ref sig .tc := ⟨.hbm, 1790, rfl⟩
abbrev main_call2_v61 : Ref sig .tc := ⟨.hbm, 1791, rfl⟩
abbrev main_call2_v62 : Ref sig .tc := ⟨.hbm, 1792, rfl⟩
abbrev main_call2_v63 : Ref sig .tc := ⟨.hbm, 1793, rfl⟩
abbrev main_call2_v64 : Ref sig .tc := ⟨.hbm, 1794, rfl⟩
abbrev main_call2_v65 : Ref sig .tc := ⟨.hbm, 1795, rfl⟩
abbrev main_call2_v66 : Ref sig .tc := ⟨.hbm, 1796, rfl⟩
abbrev main_call2_v67 : Ref sig .tc := ⟨.hbm, 1797, rfl⟩
abbrev main_call2_v68 : Ref sig .tc := ⟨.hbm, 1798, rfl⟩
abbrev main_call2_v69 : Ref sig .tc := ⟨.hbm, 1799, rfl⟩
abbrev main_call2_v70 : Ref sig .tc := ⟨.hbm, 1800, rfl⟩
abbrev main_call2_v71 : Ref sig .tc := ⟨.hbm, 1801, rfl⟩
abbrev main_call2_v72 : Ref sig .tc := ⟨.hbm, 1802, rfl⟩
abbrev main_v15 : Ref sig .tc := ⟨.hbm, 1803, rfl⟩
abbrev main_v16 : Ref sig .tc := ⟨.hbm, 1804, rfl⟩
abbrev main_c_6 : Ref sig .tc := ⟨.hbm, 1805, rfl⟩
abbrev main_v17 : Ref sig .tc := ⟨.hbm, 1806, rfl⟩
abbrev main_v18 : Ref sig .tc := ⟨.hbm, 1807, rfl⟩
abbrev main_v19 : Ref sig .tc := ⟨.hbm, 1808, rfl⟩
abbrev main_v20 : Ref sig .tc := ⟨.hbm, 1809, rfl⟩
abbrev main_cst : Ref sig .tc := ⟨.hbm, 1810, rfl⟩
abbrev main_v21 : Ref sig .tc := ⟨.hbm, 1811, rfl⟩
abbrev main_cst_7 : Ref sig .tc := ⟨.hbm, 1812, rfl⟩
abbrev main_v22 : Ref sig .tc := ⟨.hbm, 1813, rfl⟩
abbrev main_v23 : Ref sig .tc := ⟨.hbm, 1814, rfl⟩
abbrev main_v24 : Ref sig .tc := ⟨.hbm, 1815, rfl⟩
abbrev main_v25 : Ref sig .tc := ⟨.hbm, 1816, rfl⟩
abbrev main_v26 : Ref sig .tc := ⟨.hbm, 1817, rfl⟩
abbrev main_v27 : Ref sig .tc := ⟨.hbm, 1818, rfl⟩
abbrev main_v28 : Ref sig .tc := ⟨.hbm, 1819, rfl⟩
abbrev main_v29 : Ref sig .tc := ⟨.hbm, 1820, rfl⟩
abbrev main_v30 : Ref sig .tc := ⟨.hbm, 1821, rfl⟩
abbrev main_c_8 : Ref sig .tc := ⟨.hbm, 1822, rfl⟩
abbrev main_v31 : Ref sig .tc := ⟨.hbm, 1823, rfl⟩
abbrev main_v32 : Ref sig .tc := ⟨.hbm, 1824, rfl⟩
abbrev main_c_9 : Ref sig .tc := ⟨.hbm, 1825, rfl⟩
abbrev main_v33 : Ref sig .tc := ⟨.hbm, 1826, rfl⟩
abbrev main_v34 : Ref sig .tc := ⟨.hbm, 1827, rfl⟩
abbrev main_v35 : Ref sig .tc := ⟨.hbm, 1828, rfl⟩
abbrev main_c_10 : Ref sig .tc := ⟨.hbm, 1829, rfl⟩
abbrev main_v36 : Ref sig .tc := ⟨.hbm, 1830, rfl⟩
abbrev main_v37 : Ref sig .tc := ⟨.hbm, 1831, rfl⟩
abbrev main_v38 : Ref sig .tc := ⟨.hbm, 1832, rfl⟩
abbrev main_v39 : Ref sig .tc := ⟨.hbm, 1833, rfl⟩
abbrev main_call3_v0 : Ref sig .tc := ⟨.hbm, 1834, rfl⟩
abbrev main_call3_c : Ref sig .tc := ⟨.hbm, 1835, rfl⟩
abbrev main_call3_v1 : Ref sig .tc := ⟨.hbm, 1836, rfl⟩
abbrev main_call3_v2 : Ref sig .tc := ⟨.hbm, 1837, rfl⟩
abbrev main_call3_v3 : Ref sig .tc := ⟨.hbm, 1838, rfl⟩
abbrev main_call3_v4 : Ref sig .tc := ⟨.hbm, 1839, rfl⟩
abbrev main_call3_v5 : Ref sig .tc := ⟨.hbm, 1840, rfl⟩
abbrev main_call3_v6 : Ref sig .tc := ⟨.hbm, 1841, rfl⟩
abbrev main_call3_c_0 : Ref sig .tc := ⟨.hbm, 1842, rfl⟩
abbrev main_call3_v7 : Ref sig .tc := ⟨.hbm, 1843, rfl⟩
abbrev main_call3_v8 : Ref sig .tc := ⟨.hbm, 1844, rfl⟩
abbrev main_call3_c_1 : Ref sig .tc := ⟨.hbm, 1845, rfl⟩
abbrev main_call3_v9 : Ref sig .tc := ⟨.hbm, 1846, rfl⟩
abbrev main_call3_v10 : Ref sig .tc := ⟨.hbm, 1847, rfl⟩
abbrev main_call3_v11 : Ref sig .tc := ⟨.hbm, 1848, rfl⟩
abbrev main_call3_v12 : Ref sig .tc := ⟨.hbm, 1849, rfl⟩
abbrev main_call3_v13 : Ref sig .tc := ⟨.hbm, 1850, rfl⟩
abbrev main_call3_c_2 : Ref sig .tc := ⟨.hbm, 1851, rfl⟩
abbrev main_call3_v14 : Ref sig .tc := ⟨.hbm, 1852, rfl⟩
abbrev main_call3_v15 : Ref sig .tc := ⟨.hbm, 1853, rfl⟩
abbrev main_call3_c_3 : Ref sig .tc := ⟨.hbm, 1854, rfl⟩
abbrev main_call3_v16 : Ref sig .tc := ⟨.hbm, 1855, rfl⟩
abbrev main_call3_v17 : Ref sig .tc := ⟨.hbm, 1856, rfl⟩
abbrev main_call3_v18 : Ref sig .tc := ⟨.hbm, 1857, rfl⟩
abbrev main_call3_v19 : Ref sig .tc := ⟨.hbm, 1858, rfl⟩
abbrev main_call3_v20 : Ref sig .tc := ⟨.hbm, 1859, rfl⟩
abbrev main_call3_c_4 : Ref sig .tc := ⟨.hbm, 1860, rfl⟩
abbrev main_call3_v21 : Ref sig .tc := ⟨.hbm, 1861, rfl⟩
abbrev main_call3_v22 : Ref sig .tc := ⟨.hbm, 1862, rfl⟩
abbrev main_call3_c_5 : Ref sig .tc := ⟨.hbm, 1863, rfl⟩
abbrev main_call3_v23 : Ref sig .tc := ⟨.hbm, 1864, rfl⟩
abbrev main_call3_v24 : Ref sig .tc := ⟨.hbm, 1865, rfl⟩
abbrev main_call3_v25 : Ref sig .tc := ⟨.hbm, 1866, rfl⟩
abbrev main_call3_v26 : Ref sig .tc := ⟨.hbm, 1867, rfl⟩
abbrev main_call3_v27 : Ref sig .tc := ⟨.hbm, 1868, rfl⟩
abbrev main_call3_c_6 : Ref sig .tc := ⟨.hbm, 1869, rfl⟩
abbrev main_call3_v28 : Ref sig .tc := ⟨.hbm, 1870, rfl⟩
abbrev main_call3_v29 : Ref sig .tc := ⟨.hbm, 1871, rfl⟩
abbrev main_call3_c_7 : Ref sig .tc := ⟨.hbm, 1872, rfl⟩
abbrev main_call3_v30 : Ref sig .tc := ⟨.hbm, 1873, rfl⟩
abbrev main_call3_v31 : Ref sig .tc := ⟨.hbm, 1874, rfl⟩
abbrev main_call3_v32 : Ref sig .tc := ⟨.hbm, 1875, rfl⟩
abbrev main_call3_v33 : Ref sig .tc := ⟨.hbm, 1876, rfl⟩
abbrev main_call3_v34 : Ref sig .tc := ⟨.hbm, 1877, rfl⟩
abbrev main_call3_v35 : Ref sig .tc := ⟨.hbm, 1878, rfl⟩
abbrev main_call3_v36 : Ref sig .tc := ⟨.hbm, 1879, rfl⟩
abbrev main_call3_v37 : Ref sig .tc := ⟨.hbm, 1880, rfl⟩
abbrev main_call3_c_8 : Ref sig .tc := ⟨.hbm, 1881, rfl⟩
abbrev main_call3_v38 : Ref sig .tc := ⟨.hbm, 1882, rfl⟩
abbrev main_call3_v39 : Ref sig .tc := ⟨.hbm, 1883, rfl⟩
abbrev main_call3_v40 : Ref sig .tc := ⟨.hbm, 1884, rfl⟩
abbrev main_call3_c_9 : Ref sig .tc := ⟨.hbm, 1885, rfl⟩
abbrev main_call3_v41 : Ref sig .tc := ⟨.hbm, 1886, rfl⟩
abbrev main_call3_v42 : Ref sig .tc := ⟨.hbm, 1887, rfl⟩
abbrev main_call3_c_10 : Ref sig .tc := ⟨.hbm, 1888, rfl⟩
abbrev main_call3_v43 : Ref sig .tc := ⟨.hbm, 1889, rfl⟩
abbrev main_call3_v44 : Ref sig .tc := ⟨.hbm, 1890, rfl⟩
abbrev main_call3_v45 : Ref sig .tc := ⟨.hbm, 1891, rfl⟩
abbrev main_call3_v46 : Ref sig .tc := ⟨.hbm, 1892, rfl⟩
abbrev main_call3_v47 : Ref sig .tc := ⟨.hbm, 1893, rfl⟩
abbrev main_call3_c_11 : Ref sig .tc := ⟨.hbm, 1894, rfl⟩
abbrev main_call3_v48 : Ref sig .tc := ⟨.hbm, 1895, rfl⟩
abbrev main_call3_v49 : Ref sig .tc := ⟨.hbm, 1896, rfl⟩
abbrev main_call3_c_12 : Ref sig .tc := ⟨.hbm, 1897, rfl⟩
abbrev main_call3_v50 : Ref sig .tc := ⟨.hbm, 1898, rfl⟩
abbrev main_call3_v51 : Ref sig .tc := ⟨.hbm, 1899, rfl⟩
abbrev main_call3_v52 : Ref sig .tc := ⟨.hbm, 1900, rfl⟩
abbrev main_call3_v53 : Ref sig .tc := ⟨.hbm, 1901, rfl⟩
abbrev main_call3_v54 : Ref sig .tc := ⟨.hbm, 1902, rfl⟩
abbrev main_call3_c_13 : Ref sig .tc := ⟨.hbm, 1903, rfl⟩
abbrev main_call3_v55 : Ref sig .tc := ⟨.hbm, 1904, rfl⟩
abbrev main_call3_v56 : Ref sig .tc := ⟨.hbm, 1905, rfl⟩
abbrev main_call3_c_14 : Ref sig .tc := ⟨.hbm, 1906, rfl⟩
abbrev main_call3_v57 : Ref sig .tc := ⟨.hbm, 1907, rfl⟩
abbrev main_call3_v58 : Ref sig .tc := ⟨.hbm, 1908, rfl⟩
abbrev main_call3_v59 : Ref sig .tc := ⟨.hbm, 1909, rfl⟩
abbrev main_call3_v60 : Ref sig .tc := ⟨.hbm, 1910, rfl⟩
abbrev main_call3_v61 : Ref sig .tc := ⟨.hbm, 1911, rfl⟩
abbrev main_call3_c_15 : Ref sig .tc := ⟨.hbm, 1912, rfl⟩
abbrev main_call3_v62 : Ref sig .tc := ⟨.hbm, 1913, rfl⟩
abbrev main_call3_v63 : Ref sig .tc := ⟨.hbm, 1914, rfl⟩
abbrev main_call3_c_16 : Ref sig .tc := ⟨.hbm, 1915, rfl⟩
abbrev main_call3_v64 : Ref sig .tc := ⟨.hbm, 1916, rfl⟩
abbrev main_call3_v65 : Ref sig .tc := ⟨.hbm, 1917, rfl⟩
abbrev main_call3_v66 : Ref sig .tc := ⟨.hbm, 1918, rfl⟩
abbrev main_call3_v67 : Ref sig .tc := ⟨.hbm, 1919, rfl⟩
abbrev main_call3_v68 : Ref sig .tc := ⟨.hbm, 1920, rfl⟩
abbrev main_call3_v69 : Ref sig .tc := ⟨.hbm, 1921, rfl⟩
abbrev main_call3_v70 : Ref sig .tc := ⟨.hbm, 1922, rfl⟩
abbrev main_call3_v71 : Ref sig .tc := ⟨.hbm, 1923, rfl⟩
abbrev main_call3_c_17 : Ref sig .tc := ⟨.hbm, 1924, rfl⟩
abbrev main_call3_v72 : Ref sig .tc := ⟨.hbm, 1925, rfl⟩
abbrev main_call3_v73 : Ref sig .tc := ⟨.hbm, 1926, rfl⟩
abbrev main_call3_v74 : Ref sig .tc := ⟨.hbm, 1927, rfl⟩
abbrev main_call3_c_18 : Ref sig .tc := ⟨.hbm, 1928, rfl⟩
abbrev main_call3_v75 : Ref sig .tc := ⟨.hbm, 1929, rfl⟩
abbrev main_call3_v76 : Ref sig .tc := ⟨.hbm, 1930, rfl⟩
abbrev main_call3_c_19 : Ref sig .tc := ⟨.hbm, 1931, rfl⟩
abbrev main_call3_v77 : Ref sig .tc := ⟨.hbm, 1932, rfl⟩
abbrev main_call3_v78 : Ref sig .tc := ⟨.hbm, 1933, rfl⟩
abbrev main_call3_v79 : Ref sig .tc := ⟨.hbm, 1934, rfl⟩
abbrev main_call3_v80 : Ref sig .tc := ⟨.hbm, 1935, rfl⟩
abbrev main_call3_v81 : Ref sig .tc := ⟨.hbm, 1936, rfl⟩
abbrev main_call3_c_20 : Ref sig .tc := ⟨.hbm, 1937, rfl⟩
abbrev main_call3_v82 : Ref sig .tc := ⟨.hbm, 1938, rfl⟩
abbrev main_call3_v83 : Ref sig .tc := ⟨.hbm, 1939, rfl⟩
abbrev main_call3_c_21 : Ref sig .tc := ⟨.hbm, 1940, rfl⟩
abbrev main_call3_v84 : Ref sig .tc := ⟨.hbm, 1941, rfl⟩
abbrev main_call3_v85 : Ref sig .tc := ⟨.hbm, 1942, rfl⟩
abbrev main_call3_v86 : Ref sig .tc := ⟨.hbm, 1943, rfl⟩
abbrev main_call3_v87 : Ref sig .tc := ⟨.hbm, 1944, rfl⟩
abbrev main_call3_v88 : Ref sig .tc := ⟨.hbm, 1945, rfl⟩
abbrev main_call3_c_22 : Ref sig .tc := ⟨.hbm, 1946, rfl⟩
abbrev main_call3_v89 : Ref sig .tc := ⟨.hbm, 1947, rfl⟩
abbrev main_call3_v90 : Ref sig .tc := ⟨.hbm, 1948, rfl⟩
abbrev main_call3_c_23 : Ref sig .tc := ⟨.hbm, 1949, rfl⟩
abbrev main_call3_v91 : Ref sig .tc := ⟨.hbm, 1950, rfl⟩
abbrev main_call3_v92 : Ref sig .tc := ⟨.hbm, 1951, rfl⟩
abbrev main_call3_v93 : Ref sig .tc := ⟨.hbm, 1952, rfl⟩
abbrev main_call3_v94 : Ref sig .tc := ⟨.hbm, 1953, rfl⟩
abbrev main_call3_v95 : Ref sig .tc := ⟨.hbm, 1954, rfl⟩
abbrev main_call3_c_24 : Ref sig .tc := ⟨.hbm, 1955, rfl⟩
abbrev main_call3_v96 : Ref sig .tc := ⟨.hbm, 1956, rfl⟩
abbrev main_call3_v97 : Ref sig .tc := ⟨.hbm, 1957, rfl⟩
abbrev main_call3_c_25 : Ref sig .tc := ⟨.hbm, 1958, rfl⟩
abbrev main_call3_v98 : Ref sig .tc := ⟨.hbm, 1959, rfl⟩
abbrev main_call3_v99 : Ref sig .tc := ⟨.hbm, 1960, rfl⟩
abbrev main_call3_v100 : Ref sig .tc := ⟨.hbm, 1961, rfl⟩
abbrev main_call3_v101 : Ref sig .tc := ⟨.hbm, 1962, rfl⟩
abbrev main_call3_v102 : Ref sig .tc := ⟨.hbm, 1963, rfl⟩
abbrev main_call3_v103 : Ref sig .tc := ⟨.hbm, 1964, rfl⟩
abbrev main_call3_v104 : Ref sig .tc := ⟨.hbm, 1965, rfl⟩
abbrev main_call3_v105 : Ref sig .tc := ⟨.hbm, 1966, rfl⟩
abbrev main_call3_c_26 : Ref sig .tc := ⟨.hbm, 1967, rfl⟩
abbrev main_call3_v106 : Ref sig .tc := ⟨.hbm, 1968, rfl⟩
abbrev main_call3_v107 : Ref sig .tc := ⟨.hbm, 1969, rfl⟩
abbrev main_call3_v108 : Ref sig .tc := ⟨.hbm, 1970, rfl⟩
abbrev main_call3_c_27 : Ref sig .tc := ⟨.hbm, 1971, rfl⟩
abbrev main_call3_v109 : Ref sig .tc := ⟨.hbm, 1972, rfl⟩
abbrev main_call3_v110 : Ref sig .tc := ⟨.hbm, 1973, rfl⟩
abbrev main_call3_c_28 : Ref sig .tc := ⟨.hbm, 1974, rfl⟩
abbrev main_call3_v111 : Ref sig .tc := ⟨.hbm, 1975, rfl⟩
abbrev main_call3_v112 : Ref sig .tc := ⟨.hbm, 1976, rfl⟩
abbrev main_call3_v113 : Ref sig .tc := ⟨.hbm, 1977, rfl⟩
abbrev main_call3_v114 : Ref sig .tc := ⟨.hbm, 1978, rfl⟩
abbrev main_call3_v115 : Ref sig .tc := ⟨.hbm, 1979, rfl⟩
abbrev main_call3_c_29 : Ref sig .tc := ⟨.hbm, 1980, rfl⟩
abbrev main_call3_v116 : Ref sig .tc := ⟨.hbm, 1981, rfl⟩
abbrev main_call3_v117 : Ref sig .tc := ⟨.hbm, 1982, rfl⟩
abbrev main_call3_c_30 : Ref sig .tc := ⟨.hbm, 1983, rfl⟩
abbrev main_call3_v118 : Ref sig .tc := ⟨.hbm, 1984, rfl⟩
abbrev main_call3_v119 : Ref sig .tc := ⟨.hbm, 1985, rfl⟩
abbrev main_call3_v120 : Ref sig .tc := ⟨.hbm, 1986, rfl⟩
abbrev main_call3_v121 : Ref sig .tc := ⟨.hbm, 1987, rfl⟩
abbrev main_call3_v122 : Ref sig .tc := ⟨.hbm, 1988, rfl⟩
abbrev main_call3_c_31 : Ref sig .tc := ⟨.hbm, 1989, rfl⟩
abbrev main_call3_v123 : Ref sig .tc := ⟨.hbm, 1990, rfl⟩
abbrev main_call3_v124 : Ref sig .tc := ⟨.hbm, 1991, rfl⟩
abbrev main_call3_c_32 : Ref sig .tc := ⟨.hbm, 1992, rfl⟩
abbrev main_call3_v125 : Ref sig .tc := ⟨.hbm, 1993, rfl⟩
abbrev main_call3_v126 : Ref sig .tc := ⟨.hbm, 1994, rfl⟩
abbrev main_call3_v127 : Ref sig .tc := ⟨.hbm, 1995, rfl⟩
abbrev main_call3_v128 : Ref sig .tc := ⟨.hbm, 1996, rfl⟩
abbrev main_call3_v129 : Ref sig .tc := ⟨.hbm, 1997, rfl⟩
abbrev main_call3_c_33 : Ref sig .tc := ⟨.hbm, 1998, rfl⟩
abbrev main_call3_v130 : Ref sig .tc := ⟨.hbm, 1999, rfl⟩
abbrev main_call3_v131 : Ref sig .tc := ⟨.hbm, 2000, rfl⟩
abbrev main_call3_c_34 : Ref sig .tc := ⟨.hbm, 2001, rfl⟩
abbrev main_call3_v132 : Ref sig .tc := ⟨.hbm, 2002, rfl⟩
abbrev main_call3_v133 : Ref sig .tc := ⟨.hbm, 2003, rfl⟩
abbrev main_call3_v134 : Ref sig .tc := ⟨.hbm, 2004, rfl⟩
abbrev main_call3_v135 : Ref sig .tc := ⟨.hbm, 2005, rfl⟩
abbrev main_call3_v136 : Ref sig .tc := ⟨.hbm, 2006, rfl⟩
abbrev main_call3_v137 : Ref sig .tc := ⟨.hbm, 2007, rfl⟩
abbrev main_call3_v138 : Ref sig .tc := ⟨.hbm, 2008, rfl⟩
abbrev main_call3_v139 : Ref sig .tc := ⟨.hbm, 2009, rfl⟩
abbrev main_call3_c_35 : Ref sig .tc := ⟨.hbm, 2010, rfl⟩
abbrev main_call3_v140 : Ref sig .tc := ⟨.hbm, 2011, rfl⟩
abbrev main_call3_v141 : Ref sig .tc := ⟨.hbm, 2012, rfl⟩
abbrev main_call3_v142 : Ref sig .tc := ⟨.hbm, 2013, rfl⟩
abbrev main_call3_c_36 : Ref sig .tc := ⟨.hbm, 2014, rfl⟩
abbrev main_call3_v143 : Ref sig .tc := ⟨.hbm, 2015, rfl⟩
abbrev main_call3_v144 : Ref sig .tc := ⟨.hbm, 2016, rfl⟩
abbrev main_call3_c_37 : Ref sig .tc := ⟨.hbm, 2017, rfl⟩
abbrev main_call3_v145 : Ref sig .tc := ⟨.hbm, 2018, rfl⟩
abbrev main_call3_v146 : Ref sig .tc := ⟨.hbm, 2019, rfl⟩
abbrev main_call3_v147 : Ref sig .tc := ⟨.hbm, 2020, rfl⟩
abbrev main_call3_v148 : Ref sig .tc := ⟨.hbm, 2021, rfl⟩
abbrev main_call3_v149 : Ref sig .tc := ⟨.hbm, 2022, rfl⟩
abbrev main_call3_c_38 : Ref sig .tc := ⟨.hbm, 2023, rfl⟩
abbrev main_call3_v150 : Ref sig .tc := ⟨.hbm, 2024, rfl⟩
abbrev main_call3_v151 : Ref sig .tc := ⟨.hbm, 2025, rfl⟩
abbrev main_call3_c_39 : Ref sig .tc := ⟨.hbm, 2026, rfl⟩
abbrev main_call3_v152 : Ref sig .tc := ⟨.hbm, 2027, rfl⟩
abbrev main_call3_v153 : Ref sig .tc := ⟨.hbm, 2028, rfl⟩
abbrev main_call3_v154 : Ref sig .tc := ⟨.hbm, 2029, rfl⟩
abbrev main_call3_v155 : Ref sig .tc := ⟨.hbm, 2030, rfl⟩
abbrev main_call3_v156 : Ref sig .tc := ⟨.hbm, 2031, rfl⟩
abbrev main_call3_c_40 : Ref sig .tc := ⟨.hbm, 2032, rfl⟩
abbrev main_call3_v157 : Ref sig .tc := ⟨.hbm, 2033, rfl⟩
abbrev main_call3_v158 : Ref sig .tc := ⟨.hbm, 2034, rfl⟩
abbrev main_call3_c_41 : Ref sig .tc := ⟨.hbm, 2035, rfl⟩
abbrev main_call3_v159 : Ref sig .tc := ⟨.hbm, 2036, rfl⟩
abbrev main_call3_v160 : Ref sig .tc := ⟨.hbm, 2037, rfl⟩
abbrev main_call3_v161 : Ref sig .tc := ⟨.hbm, 2038, rfl⟩
abbrev main_call3_v162 : Ref sig .tc := ⟨.hbm, 2039, rfl⟩
abbrev main_call3_v163 : Ref sig .tc := ⟨.hbm, 2040, rfl⟩
abbrev main_call3_c_42 : Ref sig .tc := ⟨.hbm, 2041, rfl⟩
abbrev main_call3_v164 : Ref sig .tc := ⟨.hbm, 2042, rfl⟩
abbrev main_call3_v165 : Ref sig .tc := ⟨.hbm, 2043, rfl⟩
abbrev main_call3_c_43 : Ref sig .tc := ⟨.hbm, 2044, rfl⟩
abbrev main_call3_v166 : Ref sig .tc := ⟨.hbm, 2045, rfl⟩
abbrev main_call3_v167 : Ref sig .tc := ⟨.hbm, 2046, rfl⟩
abbrev main_call3_v168 : Ref sig .tc := ⟨.hbm, 2047, rfl⟩
abbrev main_call3_v169 : Ref sig .tc := ⟨.hbm, 2048, rfl⟩
abbrev main_call3_v170 : Ref sig .tc := ⟨.hbm, 2049, rfl⟩
abbrev main_v40_0 : Ref sig .tc := ⟨.hbm, 2050, rfl⟩
abbrev main_call3_v172 : Ref sig .tc := ⟨.hbm, 2051, rfl⟩
abbrev main_call3_v173 : Ref sig .tc := ⟨.hbm, 2052, rfl⟩
abbrev main_call3_c_44 : Ref sig .tc := ⟨.hbm, 2053, rfl⟩
abbrev main_call3_v174 : Ref sig .tc := ⟨.hbm, 2054, rfl⟩
abbrev main_v40_1 : Ref sig .tc := ⟨.hbm, 2055, rfl⟩
abbrev main_v41 : Ref sig .tc := ⟨.hbm, 2056, rfl⟩
abbrev main_c_11 : Ref sig .tc := ⟨.hbm, 2057, rfl⟩
abbrev main_v42 : Ref sig .tc := ⟨.hbm, 2058, rfl⟩
abbrev main_v43 : Ref sig .tc := ⟨.hbm, 2059, rfl⟩
abbrev main_v44 : Ref sig .tc := ⟨.hbm, 2060, rfl⟩
abbrev main_v45 : Ref sig .tc := ⟨.hbm, 2061, rfl⟩
abbrev main_v46 : Ref sig .tc := ⟨.hbm, 2062, rfl⟩
abbrev main_v47 : Ref sig .tc := ⟨.hbm, 2063, rfl⟩
abbrev main_v48 : Ref sig .tc := ⟨.hbm, 2064, rfl⟩
abbrev main_v49 : Ref sig .tc := ⟨.hbm, 2065, rfl⟩
abbrev main_v50 : Ref sig .tc := ⟨.hbm, 2066, rfl⟩
abbrev main_v51 : Ref sig .tc := ⟨.hbm, 2067, rfl⟩
abbrev main_v52 : Ref sig .tc := ⟨.hbm, 2068, rfl⟩
abbrev main_v53 : Ref sig .tc := ⟨.hbm, 2069, rfl⟩
abbrev main_v54 : Ref sig .tc := ⟨.hbm, 2070, rfl⟩
abbrev main_v55 : Ref sig .tc := ⟨.hbm, 2071, rfl⟩
abbrev main_v56 : Ref sig .tc := ⟨.hbm, 2072, rfl⟩
abbrev main_v57 : Ref sig .tc := ⟨.hbm, 2073, rfl⟩
abbrev main_cst_12 : Ref sig .tc := ⟨.hbm, 2074, rfl⟩
abbrev main_v58 : Ref sig .tc := ⟨.hbm, 2075, rfl⟩
abbrev main_v59 : Ref sig .tc := ⟨.hbm, 2076, rfl⟩
abbrev main_v60 : Ref sig .tc := ⟨.hbm, 2077, rfl⟩
abbrev main_v61 : Ref sig .tc := ⟨.hbm, 2078, rfl⟩
abbrev main_v62 : Ref sig .tc := ⟨.hbm, 2079, rfl⟩
abbrev main_v63 : Ref sig .tc := ⟨.hbm, 2080, rfl⟩
abbrev main_v64 : Ref sig .tc := ⟨.hbm, 2081, rfl⟩
abbrev main_v65 : Ref sig .tc := ⟨.hbm, 2082, rfl⟩
abbrev main_v66 : Ref sig .tc := ⟨.hbm, 2083, rfl⟩
abbrev main_call4_v0 : Ref sig .tc := ⟨.hbm, 2084, rfl⟩
abbrev main_call4_v1 : Ref sig .tc := ⟨.hbm, 2085, rfl⟩
abbrev main_v67 : Ref sig .tc := ⟨.hbm, 2086, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x376 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S512x4096x6 : Shape := ⟨3, ![512, 4096, 6]⟩
abbrev S6 : Shape := ⟨1, ![6]⟩
abbrev S_ : Shape := ⟨0, ![]⟩
abbrev S1 : Shape := ⟨1, ![1]⟩
abbrev S2 : Shape := ⟨1, ![2]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S1x1 : Shape := ⟨2, ![1, 1]⟩
abbrev S2x1 : Shape := ⟨2, ![2, 1]⟩
abbrev S2x2 : Shape := ⟨2, ![2, 2]⟩
abbrev S512x188 : Shape := ⟨2, ![512, 188]⟩
abbrev S512 : Shape := ⟨1, ![512]⟩
abbrev S512x1 : Shape := ⟨2, ![512, 1]⟩
abbrev S512x4097 : Shape := ⟨2, ![512, 4097]⟩
abbrev S512x188x1 : Shape := ⟨3, ![512, 188, 1]⟩
abbrev S512x188x2 : Shape := ⟨3, ![512, 188, 2]⟩
abbrev S512x4096 : Shape := ⟨2, ![512, 4096]⟩
abbrev S512x614 : Shape := ⟨2, ![512, 614]⟩
abbrev S512x614x1 : Shape := ⟨3, ![512, 614, 1]⟩
abbrev S512x614x2 : Shape := ⟨3, ![512, 614, 2]⟩
abbrev S512x4096x1 : Shape := ⟨3, ![512, 4096, 1]⟩
abbrev S1x1x6 : Shape := ⟨3, ![1, 1, 6]⟩

abbrev nBuf : Space → Nat
  | .hbm => 2163
  | .vmem => 0
  | .smem => 0
  | _ => 0

abbrev hbmTy0_0 (i : Nat) : BufTy := match i % 128 with
  | 0 => ⟨S512x4096x6, .f32⟩
  | 1 => ⟨S6, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S3, .i64⟩
  | 17 => ⟨S_, .i64⟩
  | 18 => ⟨S3, .i64⟩
  | 19 => ⟨S3, .i64⟩
  | 20 => ⟨S_, .i64⟩
  | 21 => ⟨S3, .i64⟩
  | 22 => ⟨S3, .i64⟩
  | 23 => ⟨S3, .i32⟩
  | 24 => ⟨S3, .i32⟩
  | 25 => ⟨S_, .i32⟩
  | 26 => ⟨S_, .i32⟩
  | 27 => ⟨S_, .i32⟩
  | 28 => ⟨S3, .i32⟩
  | 29 => ⟨S3, .i32⟩
  | 30 => ⟨S3, .i32⟩
  | 31 => ⟨S3, .i32⟩
  | 32 => ⟨S3, .i32⟩
  | 33 => ⟨S_, .i32⟩
  | 34 => ⟨S3, .i32⟩
  | 35 => ⟨S3, .i32⟩
  | 36 => ⟨S_, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S_, .i32⟩
  | 46 => ⟨S3, .i32⟩
  | 47 => ⟨S3, .i32⟩
  | 48 => ⟨S3, .i32⟩
  | 49 => ⟨S3, .i32⟩
  | 50 => ⟨S3, .i32⟩
  | 51 => ⟨S_, .i32⟩
  | 52 => ⟨S3, .i32⟩
  | 53 => ⟨S3, .i32⟩
  | 54 => ⟨S_, .i32⟩
  | 55 => ⟨S3, .i32⟩
  | 56 => ⟨S3, .i32⟩
  | 57 => ⟨S3, .i32⟩
  | 58 => ⟨S3, .i32⟩
  | 59 => ⟨S3, .i32⟩
  | 60 => ⟨S_, .i32⟩
  | 61 => ⟨S3, .i32⟩
  | 62 => ⟨S3, .i32⟩
  | 63 => ⟨S_, .i32⟩
  | 64 => ⟨S3, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S_, .i32⟩
  | 89 => ⟨S3, .i32⟩
  | 90 => ⟨S3, .i32⟩
  | 91 => ⟨S3, .i32⟩
  | 92 => ⟨S3, .i32⟩
  | 93 => ⟨S3, .i32⟩
  | 94 => ⟨S_, .i32⟩
  | 95 => ⟨S3, .i32⟩
  | 96 => ⟨S3, .i32⟩
  | 97 => ⟨S_, .i32⟩
  | 98 => ⟨S3, .i32⟩
  | 99 => ⟨S3, .i32⟩
  | 100 => ⟨S3, .i32⟩
  | 101 => ⟨S3, .i32⟩
  | 102 => ⟨S3, .i32⟩
  | 103 => ⟨S_, .i32⟩
  | 104 => ⟨S3, .i32⟩
  | 105 => ⟨S3, .i32⟩
  | 106 => ⟨S_, .i32⟩
  | 107 => ⟨S3, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S3, .i32⟩
  | 119 => ⟨S_, .i32⟩
  | 120 => ⟨S3, .i32⟩
  | 121 => ⟨S3, .i32⟩
  | 122 => ⟨S_, .i32⟩
  | 123 => ⟨S3, .i32⟩
  | 124 => ⟨S3, .i32⟩
  | 125 => ⟨S3, .i32⟩
  | 126 => ⟨S3, .i32⟩
  | 127 => ⟨S3, .i32⟩
  | _ => ⟨S512x4096x6, .f32⟩

abbrev hbmTy0_1 (i : Nat) : BufTy := match i % 128 with
  | 0 => ⟨S_, .i32⟩
  | 1 => ⟨S3, .i32⟩
  | 2 => ⟨S3, .i32⟩
  | 3 => ⟨S_, .i32⟩
  | 4 => ⟨S3, .i32⟩
  | 5 => ⟨S3, .i32⟩
  | 6 => ⟨S3, .i32⟩
  | 7 => ⟨S3, .i32⟩
  | 8 => ⟨S3, .i32⟩
  | 9 => ⟨S_, .i32⟩
  | 10 => ⟨S3, .i32⟩
  | 11 => ⟨S3, .i32⟩
  | 12 => ⟨S_, .i32⟩
  | 13 => ⟨S3, .i32⟩
  | 14 => ⟨S3, .i32⟩
  | 15 => ⟨S3, .i32⟩
  | 16 => ⟨S3, .i32⟩
  | 17 => ⟨S3, .i32⟩
  | 18 => ⟨S_, .i32⟩
  | 19 => ⟨S3, .i32⟩
  | 20 => ⟨S3, .i32⟩
  | 21 => ⟨S_, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S3, .i32⟩
  | 34 => ⟨S_, .i32⟩
  | 35 => ⟨S3, .i32⟩
  | 36 => ⟨S3, .i32⟩
  | 37 => ⟨S_, .i32⟩
  | 38 => ⟨S3, .i32⟩
  | 39 => ⟨S3, .i32⟩
  | 40 => ⟨S3, .i32⟩
  | 41 => ⟨S3, .i32⟩
  | 42 => ⟨S3, .i32⟩
  | 43 => ⟨S_, .i32⟩
  | 44 => ⟨S3, .i32⟩
  | 45 => ⟨S3, .i32⟩
  | 46 => ⟨S_, .i32⟩
  | 47 => ⟨S3, .i32⟩
  | 48 => ⟨S3, .i32⟩
  | 49 => ⟨S3, .i32⟩
  | 50 => ⟨S3, .i32⟩
  | 51 => ⟨S3, .i32⟩
  | 52 => ⟨S_, .i32⟩
  | 53 => ⟨S3, .i32⟩
  | 54 => ⟨S3, .i32⟩
  | 55 => ⟨S_, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S3, .i32⟩
  | 63 => ⟨S3, .i32⟩
  | 64 => ⟨S_, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S3, .i32⟩
  | 77 => ⟨S_, .i32⟩
  | 78 => ⟨S3, .i32⟩
  | 79 => ⟨S3, .i32⟩
  | 80 => ⟨S_, .i32⟩
  | 81 => ⟨S3, .i32⟩
  | 82 => ⟨S3, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S_, .i32⟩
  | 90 => ⟨S3, .i32⟩
  | 91 => ⟨S3, .i32⟩
  | 92 => ⟨S3, .i32⟩
  | 93 => ⟨S3, .i32⟩
  | 94 => ⟨S3, .i32⟩
  | 95 => ⟨S_, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S_, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S3x1, .i32⟩
  | 120 => ⟨S3x1, .i32⟩
  | 121 => ⟨S3x2, .i32⟩
  | 122 => ⟨S1x2, .i32⟩
  | 123 => ⟨S2, .i32⟩
  | 124 => ⟨S1x2, .i32⟩
  | 125 => ⟨S2, .i32⟩
  | 126 => ⟨S1x2, .i32⟩
  | 127 => ⟨S2, .i32⟩
  | _ => ⟨S512x4096x6, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S1x1, .i32⟩
  | 19 => ⟨S1x1, .i32⟩
  | 20 => ⟨S1, .i32⟩
  | 21 => ⟨S_, .i32⟩
  | 22 => ⟨S1, .i32⟩
  | 23 => ⟨S_, .i32⟩
  | 24 => ⟨S2, .i64⟩
  | 25 => ⟨S_, .i64⟩
  | 26 => ⟨S2, .i64⟩
  | 27 => ⟨S2, .i64⟩
  | 28 => ⟨S_, .i64⟩
  | 29 => ⟨S2, .i64⟩
  | 30 => ⟨S2, .i64⟩
  | 31 => ⟨S2, .i32⟩
  | 32 => ⟨S2, .i32⟩
  | 33 => ⟨S_, .i32⟩
  | 34 => ⟨S_, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S_, .i32⟩
  | _ => ⟨S512x4096x6, .f32⟩

abbrev hbmTy0_3 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S2x1, .i32⟩
  | _ => ⟨S512x4096x6, .f32⟩

abbrev hbmTy0_4 (i : Nat) : BufTy := match i % 128 with
  | 0 => ⟨S2x1, .i32⟩
  | 1 => ⟨S2x2, .i32⟩
  | 2 => ⟨S1x2, .i32⟩
  | 3 => ⟨S2, .i32⟩
  | 4 => ⟨S1x2, .i32⟩
  | 5 => ⟨S2, .i32⟩
  | 6 => ⟨S1, .i32⟩
  | 7 => ⟨S_, .i32⟩
  | 8 => ⟨S1, .i32⟩
  | 9 => ⟨S_, .i32⟩
  | 10 => ⟨S512x188, .i64⟩
  | 11 => ⟨S512x188, .i64⟩
  | 12 => ⟨S_, .i64⟩
  | 13 => ⟨S512x188, .i64⟩
  | 14 => ⟨S512x188, .i64⟩
  | 15 => ⟨S_, .i64⟩
  | 16 => ⟨S512x188, .i64⟩
  | 17 => ⟨S512x188, .i64⟩
  | 18 => ⟨S512x188, .i64⟩
  | 19 => ⟨S_, .i64⟩
  | 20 => ⟨S512x188, .i64⟩
  | 21 => ⟨S512x188, .i64⟩
  | 22 => ⟨S512x188, .i32⟩
  | 23 => ⟨S512x188, .i32⟩
  | 24 => ⟨S_, .i32⟩
  | 25 => ⟨S_, .i32⟩
  | 26 => ⟨S_, .i32⟩
  | 27 => ⟨S512x188, .i32⟩
  | 28 => ⟨S512x188, .i32⟩
  | 29 => ⟨S512x188, .i32⟩
  | 30 => ⟨S512x188, .i32⟩
  | 31 => ⟨S512x188, .i32⟩
  | 32 => ⟨S_, .i32⟩
  | 33 => ⟨S512x188, .i32⟩
  | 34 => ⟨S512x188, .i32⟩
  | 35 => ⟨S_, .i32⟩
  | 36 => ⟨S512x188, .i32⟩
  | 37 => ⟨S512x188, .i32⟩
  | 38 => ⟨S512x188, .i32⟩
  | 39 => ⟨S512x188, .i32⟩
  | 40 => ⟨S512x188, .i32⟩
  | 41 => ⟨S_, .i32⟩
  | 42 => ⟨S512x188, .i32⟩
  | 43 => ⟨S512x188, .i32⟩
  | 44 => ⟨S_, .i32⟩
  | 45 => ⟨S512x188, .i32⟩
  | 46 => ⟨S512x188, .i32⟩
  | 47 => ⟨S512x188, .i32⟩
  | 48 => ⟨S512x188, .i32⟩
  | 49 => ⟨S512x188, .i32⟩
  | 50 => ⟨S_, .i32⟩
  | 51 => ⟨S512x188, .i32⟩
  | 52 => ⟨S512x188, .i32⟩
  | 53 => ⟨S_, .i32⟩
  | 54 => ⟨S512x188, .i32⟩
  | 55 => ⟨S512x188, .i32⟩
  | 56 => ⟨S512x188, .i32⟩
  | 57 => ⟨S512x188, .i32⟩
  | 58 => ⟨S512x188, .i32⟩
  | 59 => ⟨S_, .i32⟩
  | 60 => ⟨S512x188, .i32⟩
  | 61 => ⟨S512x188, .i32⟩
  | 62 => ⟨S_, .i32⟩
  | 63 => ⟨S512x188, .i32⟩
  | 64 => ⟨S512x188, .i32⟩
  | 65 => ⟨S512x188, .i32⟩
  | 66 => ⟨S512x188, .i32⟩
  | 67 => ⟨S512x188, .i32⟩
  | 68 => ⟨S512x188, .i32⟩
  | 69 => ⟨S512x188, .i32⟩
  | 70 => ⟨S512x188, .i32⟩
  | 71 => ⟨S_, .i32⟩
  | 72 => ⟨S512x188, .i32⟩
  | 73 => ⟨S512x188, .i32⟩
  | 74 => ⟨S512x188, .i32⟩
  | 75 => ⟨S_, .i32⟩
  | 76 => ⟨S512x188, .i32⟩
  | 77 => ⟨S512x188, .i32⟩
  | 78 => ⟨S_, .i32⟩
  | 79 => ⟨S512x188, .i32⟩
  | 80 => ⟨S512x188, .i32⟩
  | 81 => ⟨S512x188, .i32⟩
  | 82 => ⟨S512x188, .i32⟩
  | 83 => ⟨S512x188, .i32⟩
  | 84 => ⟨S_, .i32⟩
  | 85 => ⟨S512x188, .i32⟩
  | 86 => ⟨S512x188, .i32⟩
  | 87 => ⟨S_, .i32⟩
  | 88 => ⟨S512x188, .i32⟩
  | 89 => ⟨S512x188, .i32⟩
  | 90 => ⟨S512x188, .i32⟩
  | 91 => ⟨S512x188, .i32⟩
  | 92 => ⟨S512x188, .i32⟩
  | 93 => ⟨S_, .i32⟩
  | 94 => ⟨S512x188, .i32⟩
  | 95 => ⟨S512x188, .i32⟩
  | 96 => ⟨S_, .i32⟩
  | 97 => ⟨S512x188, .i32⟩
  | 98 => ⟨S512x188, .i32⟩
  | 99 => ⟨S512x188, .i32⟩
  | 100 => ⟨S512x188, .i32⟩
  | 101 => ⟨S512x188, .i32⟩
  | 102 => ⟨S_, .i32⟩
  | 103 => ⟨S512x188, .i32⟩
  | 104 => ⟨S512x188, .i32⟩
  | 105 => ⟨S_, .i32⟩
  | 106 => ⟨S512x188, .i32⟩
  | 107 => ⟨S512x188, .i32⟩
  | 108 => ⟨S512x188, .i32⟩
  | 109 => ⟨S512x188, .i32⟩
  | 110 => ⟨S512x188, .i32⟩
  | 111 => ⟨S512x188, .i32⟩
  | 112 => ⟨S512x188, .i32⟩
  | 113 => ⟨S512x188, .i32⟩
  | 114 => ⟨S_, .i32⟩
  | 115 => ⟨S512x188, .i32⟩
  | 116 => ⟨S512x188, .i32⟩
  | 117 => ⟨S512x188, .i32⟩
  | 118 => ⟨S_, .i32⟩
  | 119 => ⟨S512x188, .i32⟩
  | 120 => ⟨S512x188, .i32⟩
  | 121 => ⟨S_, .i32⟩
  | 122 => ⟨S512x188, .i32⟩
  | 123 => ⟨S512x188, .i32⟩
  | 124 => ⟨S512x188, .i32⟩
  | 125 => ⟨S512x188, .i32⟩
  | 126 => ⟨S512x188, .i32⟩
  | 127 => ⟨S_, .i32⟩
  | _ => ⟨S512x4096x6, .f32⟩

abbrev hbmTy0_5 (i : Nat) : BufTy := match i % 128 with
  | 0 => ⟨S512x188, .i32⟩
  | 1 => ⟨S512x188, .i32⟩
  | 2 => ⟨S_, .i32⟩
  | 3 => ⟨S512x188, .i32⟩
  | 4 => ⟨S512x188, .i32⟩
  | 5 => ⟨S512x188, .i32⟩
  | 6 => ⟨S512x188, .i32⟩
  | 7 => ⟨S512x188, .i32⟩
  | 8 => ⟨S_, .i32⟩
  | 9 => ⟨S512x188, .i32⟩
  | 10 => ⟨S512x188, .i32⟩
  | 11 => ⟨S_, .i32⟩
  | 12 => ⟨S512x188, .i32⟩
  | 13 => ⟨S512x188, .i32⟩
  | 14 => ⟨S512x188, .i32⟩
  | 15 => ⟨S512x188, .i32⟩
  | 16 => ⟨S512x188, .i32⟩
  | 17 => ⟨S_, .i32⟩
  | 18 => ⟨S512x188, .i32⟩
  | 19 => ⟨S512x188, .i32⟩
  | 20 => ⟨S_, .i32⟩
  | 21 => ⟨S512x188, .i32⟩
  | 22 => ⟨S512x188, .i32⟩
  | 23 => ⟨S512x188, .i32⟩
  | 24 => ⟨S512x188, .i32⟩
  | 25 => ⟨S512x188, .i32⟩
  | 26 => ⟨S512x188, .i32⟩
  | 27 => ⟨S512x188, .i32⟩
  | 28 => ⟨S512x188, .i32⟩
  | 29 => ⟨S_, .i32⟩
  | 30 => ⟨S512x188, .i32⟩
  | 31 => ⟨S512x188, .i32⟩
  | 32 => ⟨S512x188, .i32⟩
  | 33 => ⟨S_, .i32⟩
  | 34 => ⟨S512x188, .i32⟩
  | 35 => ⟨S512x188, .i32⟩
  | 36 => ⟨S_, .i32⟩
  | 37 => ⟨S512x188, .i32⟩
  | 38 => ⟨S512x188, .i32⟩
  | 39 => ⟨S512x188, .i32⟩
  | 40 => ⟨S512x188, .i32⟩
  | 41 => ⟨S512x188, .i32⟩
  | 42 => ⟨S_, .i32⟩
  | 43 => ⟨S512x188, .i32⟩
  | 44 => ⟨S512x188, .i32⟩
  | 45 => ⟨S_, .i32⟩
  | 46 => ⟨S512x188, .i32⟩
  | 47 => ⟨S512x188, .i32⟩
  | 48 => ⟨S512x188, .i32⟩
  | 49 => ⟨S512x188, .i32⟩
  | 50 => ⟨S512x188, .i32⟩
  | 51 => ⟨S_, .i32⟩
  | 52 => ⟨S512x188, .i32⟩
  | 53 => ⟨S512x188, .i32⟩
  | 54 => ⟨S_, .i32⟩
  | 55 => ⟨S512x188, .i32⟩
  | 56 => ⟨S512x188, .i32⟩
  | 57 => ⟨S512x188, .i32⟩
  | 58 => ⟨S512x188, .i32⟩
  | 59 => ⟨S512x188, .i32⟩
  | 60 => ⟨S_, .i32⟩
  | 61 => ⟨S512x188, .i32⟩
  | 62 => ⟨S512x188, .i32⟩
  | 63 => ⟨S_, .i32⟩
  | 64 => ⟨S512x188, .i32⟩
  | 65 => ⟨S512x188, .i32⟩
  | 66 => ⟨S512x188, .i32⟩
  | 67 => ⟨S512x188, .i32⟩
  | 68 => ⟨S512x188, .i32⟩
  | 69 => ⟨S512x188, .i32⟩
  | 70 => ⟨S512x188, .i32⟩
  | 71 => ⟨S512x188, .i32⟩
  | 72 => ⟨S_, .i32⟩
  | 73 => ⟨S512x188, .i32⟩
  | 74 => ⟨S512x188, .i32⟩
  | 75 => ⟨S512x188, .i32⟩
  | 76 => ⟨S_, .i32⟩
  | 77 => ⟨S512x188, .i32⟩
  | 78 => ⟨S512x188, .i32⟩
  | 79 => ⟨S_, .i32⟩
  | 80 => ⟨S512x188, .i32⟩
  | 81 => ⟨S512x188, .i32⟩
  | 82 => ⟨S512x188, .i32⟩
  | 83 => ⟨S512x188, .i32⟩
  | 84 => ⟨S512x188, .i32⟩
  | 85 => ⟨S_, .i32⟩
  | 86 => ⟨S512x188, .i32⟩
  | 87 => ⟨S512x188, .i32⟩
  | 88 => ⟨S_, .i32⟩
  | 89 => ⟨S512x188, .i32⟩
  | 90 => ⟨S512x188, .i32⟩
  | 91 => ⟨S512x188, .i32⟩
  | 92 => ⟨S512x188, .i32⟩
  | 93 => ⟨S512x188, .i32⟩
  | 94 => ⟨S_, .i32⟩
  | 95 => ⟨S512x188, .i32⟩
  | 96 => ⟨S512x188, .i32⟩
  | 97 => ⟨S_, .i32⟩
  | 98 => ⟨S512x188, .i32⟩
  | 99 => ⟨S512x188, .i32⟩
  | 100 => ⟨S512x188, .i32⟩
  | 101 => ⟨S512x188, .i32⟩
  | 102 => ⟨S512x188, .i32⟩
  | 103 => ⟨S_, .i32⟩
  | 104 => ⟨S512x188, .i32⟩
  | 105 => ⟨S512x188, .i32⟩
  | 106 => ⟨S_, .i32⟩
  | 107 => ⟨S512x188, .i32⟩
  | 108 => ⟨S512x188, .i32⟩
  | 109 => ⟨S512x188, .i32⟩
  | 110 => ⟨S512x188, .i32⟩
  | 111 => ⟨S512x188, .i32⟩
  | 112 => ⟨S512x188, .i32⟩
  | 113 => ⟨S512x188, .i32⟩
  | 114 => ⟨S512x188, .i32⟩
  | 115 => ⟨S_, .i32⟩
  | 116 => ⟨S512x188, .i32⟩
  | 117 => ⟨S512x188, .i32⟩
  | 118 => ⟨S512x188, .i32⟩
  | 119 => ⟨S1, .i32⟩
  | 120 => ⟨S_, .i32⟩
  | 121 => ⟨S1, .i32⟩
  | 122 => ⟨S_, .i32⟩
  | 123 => ⟨S512x188, .i64⟩
  | 124 => ⟨S512x188, .i64⟩
  | 125 => ⟨S_, .i64⟩
  | 126 => ⟨S512x188, .i64⟩
  | 127 => ⟨S512x188, .i64⟩
  | _ => ⟨S512x4096x6, .f32⟩

abbrev hbmTy0_6 (i : Nat) : BufTy := match i % 128 with
  | 0 => ⟨S_, .i64⟩
  | 1 => ⟨S512x188, .i64⟩
  | 2 => ⟨S512x188, .i64⟩
  | 3 => ⟨S512x188, .i64⟩
  | 4 => ⟨S_, .i64⟩
  | 5 => ⟨S512x188, .i64⟩
  | 6 => ⟨S512x188, .i64⟩
  | 7 => ⟨S512x188, .i32⟩
  | 8 => ⟨S512x188, .i32⟩
  | 9 => ⟨S_, .i32⟩
  | 10 => ⟨S_, .i32⟩
  | 11 => ⟨S_, .i32⟩
  | 12 => ⟨S512x188, .i32⟩
  | 13 => ⟨S512x188, .i32⟩
  | 14 => ⟨S512x188, .i32⟩
  | 15 => ⟨S512x188, .i32⟩
  | 16 => ⟨S512x188, .i32⟩
  | 17 => ⟨S_, .i32⟩
  | 18 => ⟨S512x188, .i32⟩
  | 19 => ⟨S512x188, .i32⟩
  | 20 => ⟨S_, .i32⟩
  | 21 => ⟨S512x188, .i32⟩
  | 22 => ⟨S512x188, .i32⟩
  | 23 => ⟨S512x188, .i32⟩
  | 24 => ⟨S512x188, .i32⟩
  | 25 => ⟨S512x188, .i32⟩
  | 26 => ⟨S_, .i32⟩
  | 27 => ⟨S512x188, .i32⟩
  | 28 => ⟨S512x188, .i32⟩
  | 29 => ⟨S_, .i32⟩
  | 30 => ⟨S512x188, .i32⟩
  | 31 => ⟨S512x188, .i32⟩
  | 32 => ⟨S512x188, .i32⟩
  | 33 => ⟨S512x188, .i32⟩
  | 34 => ⟨S512x188, .i32⟩
  | 35 => ⟨S_, .i32⟩
  | 36 => ⟨S512x188, .i32⟩
  | 37 => ⟨S512x188, .i32⟩
  | 38 => ⟨S_, .i32⟩
  | 39 => ⟨S512x188, .i32⟩
  | 40 => ⟨S512x188, .i32⟩
  | 41 => ⟨S512x188, .i32⟩
  | 42 => ⟨S512x188, .i32⟩
  | 43 => ⟨S512x188, .i32⟩
  | 44 => ⟨S_, .i32⟩
  | 45 => ⟨S512x188, .i32⟩
  | 46 => ⟨S512x188, .i32⟩
  | 47 => ⟨S_, .i32⟩
  | 48 => ⟨S512x188, .i32⟩
  | 49 => ⟨S512x188, .i32⟩
  | 50 => ⟨S512x188, .i32⟩
  | 51 => ⟨S512x188, .i32⟩
  | 52 => ⟨S512x188, .i32⟩
  | 53 => ⟨S512x188, .i32⟩
  | 54 => ⟨S512x188, .i32⟩
  | 55 => ⟨S512x188, .i32⟩
  | 56 => ⟨S_, .i32⟩
  | 57 => ⟨S512x188, .i32⟩
  | 58 => ⟨S512x188, .i32⟩
  | 59 => ⟨S512x188, .i32⟩
  | 60 => ⟨S_, .i32⟩
  | 61 => ⟨S512x188, .i32⟩
  | 62 => ⟨S512x188, .i32⟩
  | 63 => ⟨S_, .i32⟩
  | 64 => ⟨S512x188, .i32⟩
  | 65 => ⟨S512x188, .i32⟩
  | 66 => ⟨S512x188, .i32⟩
  | 67 => ⟨S512x188, .i32⟩
  | 68 => ⟨S512x188, .i32⟩
  | 69 => ⟨S_, .i32⟩
  | 70 => ⟨S512x188, .i32⟩
  | 71 => ⟨S512x188, .i32⟩
  | 72 => ⟨S_, .i32⟩
  | 73 => ⟨S512x188, .i32⟩
  | 74 => ⟨S512x188, .i32⟩
  | 75 => ⟨S512x188, .i32⟩
  | 76 => ⟨S512x188, .i32⟩
  | 77 => ⟨S512x188, .i32⟩
  | 78 => ⟨S_, .i32⟩
  | 79 => ⟨S512x188, .i32⟩
  | 80 => ⟨S512x188, .i32⟩
  | 81 => ⟨S_, .i32⟩
  | 82 => ⟨S512x188, .i32⟩
  | 83 => ⟨S512x188, .i32⟩
  | 84 => ⟨S512x188, .i32⟩
  | 85 => ⟨S512x188, .i32⟩
  | 86 => ⟨S512x188, .i32⟩
  | 87 => ⟨S_, .i32⟩
  | 88 => ⟨S512x188, .i32⟩
  | 89 => ⟨S512x188, .i32⟩
  | 90 => ⟨S_, .i32⟩
  | 91 => ⟨S512x188, .i32⟩
  | 92 => ⟨S512x188, .i32⟩
  | 93 => ⟨S512x188, .i32⟩
  | 94 => ⟨S512x188, .i32⟩
  | 95 => ⟨S512x188, .i32⟩
  | 96 => ⟨S512x188, .i32⟩
  | 97 => ⟨S512x188, .i32⟩
  | 98 => ⟨S512x188, .i32⟩
  | 99 => ⟨S_, .i32⟩
  | 100 => ⟨S512x188, .i32⟩
  | 101 => ⟨S512x188, .i32⟩
  | 102 => ⟨S512x188, .i32⟩
  | 103 => ⟨S_, .i32⟩
  | 104 => ⟨S512x188, .i32⟩
  | 105 => ⟨S512x188, .i32⟩
  | 106 => ⟨S_, .i32⟩
  | 107 => ⟨S512x188, .i32⟩
  | 108 => ⟨S512x188, .i32⟩
  | 109 => ⟨S512x188, .i32⟩
  | 110 => ⟨S512x188, .i32⟩
  | 111 => ⟨S512x188, .i32⟩
  | 112 => ⟨S_, .i32⟩
  | 113 => ⟨S512x188, .i32⟩
  | 114 => ⟨S512x188, .i32⟩
  | 115 => ⟨S_, .i32⟩
  | 116 => ⟨S512x188, .i32⟩
  | 117 => ⟨S512x188, .i32⟩
  | 118 => ⟨S512x188, .i32⟩
  | 119 => ⟨S512x188, .i32⟩
  | 120 => ⟨S512x188, .i32⟩
  | 121 => ⟨S_, .i32⟩
  | 122 => ⟨S512x188, .i32⟩
  | 123 => ⟨S512x188, .i32⟩
  | 124 => ⟨S_, .i32⟩
  | 125 => ⟨S512x188, .i32⟩
  | 126 => ⟨S512x188, .i32⟩
  | 127 => ⟨S512x188, .i32⟩
  | _ => ⟨S512x4096x6, .f32⟩

abbrev hbmTy0_7 (i : Nat) : BufTy := match i % 128 with
  | 0 => ⟨S512x188, .i32⟩
  | 1 => ⟨S512x188, .i32⟩
  | 2 => ⟨S_, .i32⟩
  | 3 => ⟨S512x188, .i32⟩
  | 4 => ⟨S512x188, .i32⟩
  | 5 => ⟨S_, .i32⟩
  | 6 => ⟨S512x188, .i32⟩
  | 7 => ⟨S512x188, .i32⟩
  | 8 => ⟨S512x188, .i32⟩
  | 9 => ⟨S512x188, .i32⟩
  | 10 => ⟨S512x188, .i32⟩
  | 11 => ⟨S512x188, .i32⟩
  | 12 => ⟨S512x188, .i32⟩
  | 13 => ⟨S512x188, .i32⟩
  | 14 => ⟨S_, .i32⟩
  | 15 => ⟨S512x188, .i32⟩
  | 16 => ⟨S512x188, .i32⟩
  | 17 => ⟨S512x188, .i32⟩
  | 18 => ⟨S_, .i32⟩
  | 19 => ⟨S512x188, .i32⟩
  | 20 => ⟨S512x188, .i32⟩
  | 21 => ⟨S_, .i32⟩
  | 22 => ⟨S512x188, .i32⟩
  | 23 => ⟨S512x188, .i32⟩
  | 24 => ⟨S512x188, .i32⟩
  | 25 => ⟨S512x188, .i32⟩
  | 26 => ⟨S512x188, .i32⟩
  | 27 => ⟨S_, .i32⟩
  | 28 => ⟨S512x188, .i32⟩
  | 29 => ⟨S512x188, .i32⟩
  | 30 => ⟨S_, .i32⟩
  | 31 => ⟨S512x188, .i32⟩
  | 32 => ⟨S512x188, .i32⟩
  | 33 => ⟨S512x188, .i32⟩
  | 34 => ⟨S512x188, .i32⟩
  | 35 => ⟨S512x188, .i32⟩
  | 36 => ⟨S_, .i32⟩
  | 37 => ⟨S512x188, .i32⟩
  | 38 => ⟨S512x188, .i32⟩
  | 39 => ⟨S_, .i32⟩
  | 40 => ⟨S512x188, .i32⟩
  | 41 => ⟨S512x188, .i32⟩
  | 42 => ⟨S512x188, .i32⟩
  | 43 => ⟨S512x188, .i32⟩
  | 44 => ⟨S512x188, .i32⟩
  | 45 => ⟨S_, .i32⟩
  | 46 => ⟨S512x188, .i32⟩
  | 47 => ⟨S512x188, .i32⟩
  | 48 => ⟨S_, .i32⟩
  | 49 => ⟨S512x188, .i32⟩
  | 50 => ⟨S512x188, .i32⟩
  | 51 => ⟨S512x188, .i32⟩
  | 52 => ⟨S512x188, .i32⟩
  | 53 => ⟨S512x188, .i32⟩
  | 54 => ⟨S512x188, .i32⟩
  | 55 => ⟨S512x188, .i32⟩
  | 56 => ⟨S512x188, .i32⟩
  | 57 => ⟨S_, .i32⟩
  | 58 => ⟨S512x188, .i32⟩
  | 59 => ⟨S512x188, .i32⟩
  | 60 => ⟨S512x188, .i32⟩
  | 61 => ⟨S_, .i32⟩
  | 62 => ⟨S512x188, .i32⟩
  | 63 => ⟨S512x188, .i32⟩
  | 64 => ⟨S_, .i32⟩
  | 65 => ⟨S512x188, .i32⟩
  | 66 => ⟨S512x188, .i32⟩
  | 67 => ⟨S512x188, .i32⟩
  | 68 => ⟨S512x188, .i32⟩
  | 69 => ⟨S512x188, .i32⟩
  | 70 => ⟨S_, .i32⟩
  | 71 => ⟨S512x188, .i32⟩
  | 72 => ⟨S512x188, .i32⟩
  | 73 => ⟨S_, .i32⟩
  | 74 => ⟨S512x188, .i32⟩
  | 75 => ⟨S512x188, .i32⟩
  | 76 => ⟨S512x188, .i32⟩
  | 77 => ⟨S512x188, .i32⟩
  | 78 => ⟨S512x188, .i32⟩
  | 79 => ⟨S_, .i32⟩
  | 80 => ⟨S512x188, .i32⟩
  | 81 => ⟨S512x188, .i32⟩
  | 82 => ⟨S_, .i32⟩
  | 83 => ⟨S512x188, .i32⟩
  | 84 => ⟨S512x188, .i32⟩
  | 85 => ⟨S512x188, .i32⟩
  | 86 => ⟨S512x188, .i32⟩
  | 87 => ⟨S512x188, .i32⟩
  | 88 => ⟨S_, .i32⟩
  | 89 => ⟨S512x188, .i32⟩
  | 90 => ⟨S512x188, .i32⟩
  | 91 => ⟨S_, .i32⟩
  | 92 => ⟨S512x188, .i32⟩
  | 93 => ⟨S512x188, .i32⟩
  | 94 => ⟨S512x188, .i32⟩
  | 95 => ⟨S512x188, .i32⟩
  | 96 => ⟨S512x188, .i32⟩
  | 97 => ⟨S512x188, .i32⟩
  | 98 => ⟨S512x188, .i32⟩
  | 99 => ⟨S512x188, .i32⟩
  | 100 => ⟨S_, .i32⟩
  | 101 => ⟨S512x188, .i32⟩
  | 102 => ⟨S512x188, .i32⟩
  | 103 => ⟨S512x188, .i32⟩
  | 104 => ⟨S1x1, .i32⟩
  | 105 => ⟨S1x1, .i32⟩
  | 106 => ⟨S1x1, .i1⟩
  | 107 => ⟨S_, .i32⟩
  | 108 => ⟨S1x1, .i32⟩
  | 109 => ⟨S1x1, .i32⟩
  | 110 => ⟨S1x1, .i1⟩
  | 111 => ⟨S1x1, .i1⟩
  | 112 => ⟨S1x1, .i1⟩
  | 113 => ⟨S_, .i32⟩
  | 114 => ⟨S1x1, .i32⟩
  | 115 => ⟨S1x1, .i32⟩
  | 116 => ⟨S1x1, .i32⟩
  | 117 => ⟨S_, .i32⟩
  | 118 => ⟨S1x1, .i32⟩
  | 119 => ⟨S1x1, .i32⟩
  | 120 => ⟨S1x1, .i32⟩
  | 121 => ⟨S1x1, .i32⟩
  | 122 => ⟨S512x188, .i32⟩
  | 123 => ⟨S512x188, .i32⟩
  | 124 => ⟨S512x188, .i32⟩
  | 125 => ⟨S512x188, .i32⟩
  | 126 => ⟨S512x188, .i32⟩
  | 127 => ⟨S512x188, .i32⟩
  | _ => ⟨S512x4096x6, .f32⟩

abbrev hbmTy0_8 (i : Nat) : BufTy := match i % 128 with
  | 0 => ⟨S512x188, .i32⟩
  | 1 => ⟨S512x188, .i32⟩
  | 2 => ⟨S512x188, .i32⟩
  | 3 => ⟨S512x188, .i32⟩
  | 4 => ⟨S512x188, .i32⟩
  | 5 => ⟨S512x188, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S1x1, .i32⟩
  | 25 => ⟨S1x1, .i32⟩
  | 26 => ⟨S1, .i32⟩
  | 27 => ⟨S_, .i32⟩
  | 28 => ⟨S1, .i32⟩
  | 29 => ⟨S_, .i32⟩
  | 30 => ⟨S2, .i64⟩
  | 31 => ⟨S_, .i64⟩
  | 32 => ⟨S2, .i64⟩
  | 33 => ⟨S2, .i64⟩
  | 34 => ⟨S_, .i64⟩
  | 35 => ⟨S2, .i64⟩
  | 36 => ⟨S2, .i64⟩
  | 37 => ⟨S2, .i32⟩
  | 38 => ⟨S2, .i32⟩
  | 39 => ⟨S_, .i32⟩
  | 40 => ⟨S_, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S512x4096x6, .f32⟩

abbrev hbmTy0_9 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S512x4096x6, .f32⟩

abbrev hbmTy0_10 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2x1, .i32⟩
  | 6 => ⟨S2x1, .i32⟩
  | 7 => ⟨S2x2, .i32⟩
  | 8 => ⟨S1x2, .i32⟩
  | 9 => ⟨S2, .i32⟩
  | 10 => ⟨S1x2, .i32⟩
  | 11 => ⟨S2, .i32⟩
  | 12 => ⟨S1, .i32⟩
  | 13 => ⟨S_, .i32⟩
  | 14 => ⟨S1, .i32⟩
  | 15 => ⟨S_, .i32⟩
  | 16 => ⟨S512x188, .i64⟩
  | 17 => ⟨S512x188, .i64⟩
  | 18 => ⟨S_, .i64⟩
  | 19 => ⟨S512x188, .i64⟩
  | 20 => ⟨S512x188, .i64⟩
  | 21 => ⟨S_, .i64⟩
  | 22 => ⟨S512x188, .i64⟩
  | 23 => ⟨S512x188, .i64⟩
  | 24 => ⟨S512x188, .i64⟩
  | 25 => ⟨S_, .i64⟩
  | 26 => ⟨S512x188, .i64⟩
  | 27 => ⟨S512x188, .i64⟩
  | 28 => ⟨S512x188, .i32⟩
  | 29 => ⟨S512x188, .i32⟩
  | 30 => ⟨S_, .i32⟩
  | 31 => ⟨S_, .i32⟩
  | 32 => ⟨S_, .i32⟩
  | 33 => ⟨S512x188, .i32⟩
  | 34 => ⟨S512x188, .i32⟩
  | 35 => ⟨S512x188, .i32⟩
  | 36 => ⟨S512x188, .i32⟩
  | 37 => ⟨S512x188, .i32⟩
  | 38 => ⟨S_, .i32⟩
  | 39 => ⟨S512x188, .i32⟩
  | 40 => ⟨S512x188, .i32⟩
  | 41 => ⟨S_, .i32⟩
  | 42 => ⟨S512x188, .i32⟩
  | 43 => ⟨S512x188, .i32⟩
  | 44 => ⟨S512x188, .i32⟩
  | 45 => ⟨S512x188, .i32⟩
  | 46 => ⟨S512x188, .i32⟩
  | 47 => ⟨S_, .i32⟩
  | 48 => ⟨S512x188, .i32⟩
  | 49 => ⟨S512x188, .i32⟩
  | 50 => ⟨S_, .i32⟩
  | 51 => ⟨S512x188, .i32⟩
  | 52 => ⟨S512x188, .i32⟩
  | 53 => ⟨S512x188, .i32⟩
  | 54 => ⟨S512x188, .i32⟩
  | 55 => ⟨S512x188, .i32⟩
  | 56 => ⟨S_, .i32⟩
  | 57 => ⟨S512x188, .i32⟩
  | 58 => ⟨S512x188, .i32⟩
  | 59 => ⟨S_, .i32⟩
  | 60 => ⟨S512x188, .i32⟩
  | 61 => ⟨S512x188, .i32⟩
  | 62 => ⟨S512x188, .i32⟩
  | 63 => ⟨S512x188, .i32⟩
  | 64 => ⟨S512x188, .i32⟩
  | 65 => ⟨S_, .i32⟩
  | 66 => ⟨S512x188, .i32⟩
  | 67 => ⟨S512x188, .i32⟩
  | 68 => ⟨S_, .i32⟩
  | 69 => ⟨S512x188, .i32⟩
  | 70 => ⟨S512x188, .i32⟩
  | 71 => ⟨S512x188, .i32⟩
  | 72 => ⟨S512x188, .i32⟩
  | 73 => ⟨S512x188, .i32⟩
  | 74 => ⟨S512x188, .i32⟩
  | 75 => ⟨S512x188, .i32⟩
  | 76 => ⟨S512x188, .i32⟩
  | 77 => ⟨S_, .i32⟩
  | 78 => ⟨S512x188, .i32⟩
  | 79 => ⟨S512x188, .i32⟩
  | 80 => ⟨S512x188, .i32⟩
  | 81 => ⟨S_, .i32⟩
  | 82 => ⟨S512x188, .i32⟩
  | 83 => ⟨S512x188, .i32⟩
  | 84 => ⟨S_, .i32⟩
  | 85 => ⟨S512x188, .i32⟩
  | 86 => ⟨S512x188, .i32⟩
  | 87 => ⟨S512x188, .i32⟩
  | 88 => ⟨S512x188, .i32⟩
  | 89 => ⟨S512x188, .i32⟩
  | 90 => ⟨S_, .i32⟩
  | 91 => ⟨S512x188, .i32⟩
  | 92 => ⟨S512x188, .i32⟩
  | 93 => ⟨S_, .i32⟩
  | 94 => ⟨S512x188, .i32⟩
  | 95 => ⟨S512x188, .i32⟩
  | 96 => ⟨S512x188, .i32⟩
  | 97 => ⟨S512x188, .i32⟩
  | 98 => ⟨S512x188, .i32⟩
  | 99 => ⟨S_, .i32⟩
  | 100 => ⟨S512x188, .i32⟩
  | 101 => ⟨S512x188, .i32⟩
  | 102 => ⟨S_, .i32⟩
  | 103 => ⟨S512x188, .i32⟩
  | 104 => ⟨S512x188, .i32⟩
  | 105 => ⟨S512x188, .i32⟩
  | 106 => ⟨S512x188, .i32⟩
  | 107 => ⟨S512x188, .i32⟩
  | 108 => ⟨S_, .i32⟩
  | 109 => ⟨S512x188, .i32⟩
  | 110 => ⟨S512x188, .i32⟩
  | 111 => ⟨S_, .i32⟩
  | 112 => ⟨S512x188, .i32⟩
  | 113 => ⟨S512x188, .i32⟩
  | 114 => ⟨S512x188, .i32⟩
  | 115 => ⟨S512x188, .i32⟩
  | 116 => ⟨S512x188, .i32⟩
  | 117 => ⟨S512x188, .i32⟩
  | 118 => ⟨S512x188, .i32⟩
  | 119 => ⟨S512x188, .i32⟩
  | 120 => ⟨S_, .i32⟩
  | 121 => ⟨S512x188, .i32⟩
  | 122 => ⟨S512x188, .i32⟩
  | 123 => ⟨S512x188, .i32⟩
  | 124 => ⟨S_, .i32⟩
  | 125 => ⟨S512x188, .i32⟩
  | 126 => ⟨S512x188, .i32⟩
  | 127 => ⟨S_, .i32⟩
  | _ => ⟨S512x4096x6, .f32⟩

abbrev hbmTy0_11 (i : Nat) : BufTy := match i % 128 with
  | 0 => ⟨S512x188, .i32⟩
  | 1 => ⟨S512x188, .i32⟩
  | 2 => ⟨S512x188, .i32⟩
  | 3 => ⟨S512x188, .i32⟩
  | 4 => ⟨S512x188, .i32⟩
  | 5 => ⟨S_, .i32⟩
  | 6 => ⟨S512x188, .i32⟩
  | 7 => ⟨S512x188, .i32⟩
  | 8 => ⟨S_, .i32⟩
  | 9 => ⟨S512x188, .i32⟩
  | 10 => ⟨S512x188, .i32⟩
  | 11 => ⟨S512x188, .i32⟩
  | 12 => ⟨S512x188, .i32⟩
  | 13 => ⟨S512x188, .i32⟩
  | 14 => ⟨S_, .i32⟩
  | 15 => ⟨S512x188, .i32⟩
  | 16 => ⟨S512x188, .i32⟩
  | 17 => ⟨S_, .i32⟩
  | 18 => ⟨S512x188, .i32⟩
  | 19 => ⟨S512x188, .i32⟩
  | 20 => ⟨S512x188, .i32⟩
  | 21 => ⟨S512x188, .i32⟩
  | 22 => ⟨S512x188, .i32⟩
  | 23 => ⟨S_, .i32⟩
  | 24 => ⟨S512x188, .i32⟩
  | 25 => ⟨S512x188, .i32⟩
  | 26 => ⟨S_, .i32⟩
  | 27 => ⟨S512x188, .i32⟩
  | 28 => ⟨S512x188, .i32⟩
  | 29 => ⟨S512x188, .i32⟩
  | 30 => ⟨S512x188, .i32⟩
  | 31 => ⟨S512x188, .i32⟩
  | 32 => ⟨S512x188, .i32⟩
  | 33 => ⟨S512x188, .i32⟩
  | 34 => ⟨S512x188, .i32⟩
  | 35 => ⟨S_, .i32⟩
  | 36 => ⟨S512x188, .i32⟩
  | 37 => ⟨S512x188, .i32⟩
  | 38 => ⟨S512x188, .i32⟩
  | 39 => ⟨S_, .i32⟩
  | 40 => ⟨S512x188, .i32⟩
  | 41 => ⟨S512x188, .i32⟩
  | 42 => ⟨S_, .i32⟩
  | 43 => ⟨S512x188, .i32⟩
  | 44 => ⟨S512x188, .i32⟩
  | 45 => ⟨S512x188, .i32⟩
  | 46 => ⟨S512x188, .i32⟩
  | 47 => ⟨S512x188, .i32⟩
  | 48 => ⟨S_, .i32⟩
  | 49 => ⟨S512x188, .i32⟩
  | 50 => ⟨S512x188, .i32⟩
  | 51 => ⟨S_, .i32⟩
  | 52 => ⟨S512x188, .i32⟩
  | 53 => ⟨S512x188, .i32⟩
  | 54 => ⟨S512x188, .i32⟩
  | 55 => ⟨S512x188, .i32⟩
  | 56 => ⟨S512x188, .i32⟩
  | 57 => ⟨S_, .i32⟩
  | 58 => ⟨S512x188, .i32⟩
  | 59 => ⟨S512x188, .i32⟩
  | 60 => ⟨S_, .i32⟩
  | 61 => ⟨S512x188, .i32⟩
  | 62 => ⟨S512x188, .i32⟩
  | 63 => ⟨S512x188, .i32⟩
  | 64 => ⟨S512x188, .i32⟩
  | 65 => ⟨S512x188, .i32⟩
  | 66 => ⟨S_, .i32⟩
  | 67 => ⟨S512x188, .i32⟩
  | 68 => ⟨S512x188, .i32⟩
  | 69 => ⟨S_, .i32⟩
  | 70 => ⟨S512x188, .i32⟩
  | 71 => ⟨S512x188, .i32⟩
  | 72 => ⟨S512x188, .i32⟩
  | 73 => ⟨S512x188, .i32⟩
  | 74 => ⟨S512x188, .i32⟩
  | 75 => ⟨S512x188, .i32⟩
  | 76 => ⟨S512x188, .i32⟩
  | 77 => ⟨S512x188, .i32⟩
  | 78 => ⟨S_, .i32⟩
  | 79 => ⟨S512x188, .i32⟩
  | 80 => ⟨S512x188, .i32⟩
  | 81 => ⟨S512x188, .i32⟩
  | 82 => ⟨S_, .i32⟩
  | 83 => ⟨S512x188, .i32⟩
  | 84 => ⟨S512x188, .i32⟩
  | 85 => ⟨S_, .i32⟩
  | 86 => ⟨S512x188, .i32⟩
  | 87 => ⟨S512x188, .i32⟩
  | 88 => ⟨S512x188, .i32⟩
  | 89 => ⟨S512x188, .i32⟩
  | 90 => ⟨S512x188, .i32⟩
  | 91 => ⟨S_, .i32⟩
  | 92 => ⟨S512x188, .i32⟩
  | 93 => ⟨S512x188, .i32⟩
  | 94 => ⟨S_, .i32⟩
  | 95 => ⟨S512x188, .i32⟩
  | 96 => ⟨S512x188, .i32⟩
  | 97 => ⟨S512x188, .i32⟩
  | 98 => ⟨S512x188, .i32⟩
  | 99 => ⟨S512x188, .i32⟩
  | 100 => ⟨S_, .i32⟩
  | 101 => ⟨S512x188, .i32⟩
  | 102 => ⟨S512x188, .i32⟩
  | 103 => ⟨S_, .i32⟩
  | 104 => ⟨S512x188, .i32⟩
  | 105 => ⟨S512x188, .i32⟩
  | 106 => ⟨S512x188, .i32⟩
  | 107 => ⟨S512x188, .i32⟩
  | 108 => ⟨S512x188, .i32⟩
  | 109 => ⟨S_, .i32⟩
  | 110 => ⟨S512x188, .i32⟩
  | 111 => ⟨S512x188, .i32⟩
  | 112 => ⟨S_, .i32⟩
  | 113 => ⟨S512x188, .i32⟩
  | 114 => ⟨S512x188, .i32⟩
  | 115 => ⟨S512x188, .i32⟩
  | 116 => ⟨S512x188, .i32⟩
  | 117 => ⟨S512x188, .i32⟩
  | 118 => ⟨S512x188, .i32⟩
  | 119 => ⟨S512x188, .i32⟩
  | 120 => ⟨S512x188, .i32⟩
  | 121 => ⟨S_, .i32⟩
  | 122 => ⟨S512x188, .i32⟩
  | 123 => ⟨S512x188, .i32⟩
  | 124 => ⟨S512x188, .i32⟩
  | 125 => ⟨S1, .i32⟩
  | 126 => ⟨S_, .i32⟩
  | 127 => ⟨S1, .i32⟩
  | _ => ⟨S512x4096x6, .f32⟩

abbrev hbmTy0_12 (i : Nat) : BufTy := match i % 128 with
  | 0 => ⟨S_, .i32⟩
  | 1 => ⟨S512x188, .i64⟩
  | 2 => ⟨S512x188, .i64⟩
  | 3 => ⟨S_, .i64⟩
  | 4 => ⟨S512x188, .i64⟩
  | 5 => ⟨S512x188, .i64⟩
  | 6 => ⟨S_, .i64⟩
  | 7 => ⟨S512x188, .i64⟩
  | 8 => ⟨S512x188, .i64⟩
  | 9 => ⟨S512x188, .i64⟩
  | 10 => ⟨S_, .i64⟩
  | 11 => ⟨S512x188, .i64⟩
  | 12 => ⟨S512x188, .i64⟩
  | 13 => ⟨S512x188, .i32⟩
  | 14 => ⟨S512x188, .i32⟩
  | 15 => ⟨S_, .i32⟩
  | 16 => ⟨S_, .i32⟩
  | 17 => ⟨S_, .i32⟩
  | 18 => ⟨S512x188, .i32⟩
  | 19 => ⟨S512x188, .i32⟩
  | 20 => ⟨S512x188, .i32⟩
  | 21 => ⟨S512x188, .i32⟩
  | 22 => ⟨S512x188, .i32⟩
  | 23 => ⟨S_, .i32⟩
  | 24 => ⟨S512x188, .i32⟩
  | 25 => ⟨S512x188, .i32⟩
  | 26 => ⟨S_, .i32⟩
  | 27 => ⟨S512x188, .i32⟩
  | 28 => ⟨S512x188, .i32⟩
  | 29 => ⟨S512x188, .i32⟩
  | 30 => ⟨S512x188, .i32⟩
  | 31 => ⟨S512x188, .i32⟩
  | 32 => ⟨S_, .i32⟩
  | 33 => ⟨S512x188, .i32⟩
  | 34 => ⟨S512x188, .i32⟩
  | 35 => ⟨S_, .i32⟩
  | 36 => ⟨S512x188, .i32⟩
  | 37 => ⟨S512x188, .i32⟩
  | 38 => ⟨S512x188, .i32⟩
  | 39 => ⟨S512x188, .i32⟩
  | 40 => ⟨S512x188, .i32⟩
  | 41 => ⟨S_, .i32⟩
  | 42 => ⟨S512x188, .i32⟩
  | 43 => ⟨S512x188, .i32⟩
  | 44 => ⟨S_, .i32⟩
  | 45 => ⟨S512x188, .i32⟩
  | 46 => ⟨S512x188, .i32⟩
  | 47 => ⟨S512x188, .i32⟩
  | 48 => ⟨S512x188, .i32⟩
  | 49 => ⟨S512x188, .i32⟩
  | 50 => ⟨S_, .i32⟩
  | 51 => ⟨S512x188, .i32⟩
  | 52 => ⟨S512x188, .i32⟩
  | 53 => ⟨S_, .i32⟩
  | 54 => ⟨S512x188, .i32⟩
  | 55 => ⟨S512x188, .i32⟩
  | 56 => ⟨S512x188, .i32⟩
  | 57 => ⟨S512x188, .i32⟩
  | 58 => ⟨S512x188, .i32⟩
  | 59 => ⟨S512x188, .i32⟩
  | 60 => ⟨S512x188, .i32⟩
  | 61 => ⟨S512x188, .i32⟩
  | 62 => ⟨S_, .i32⟩
  | 63 => ⟨S512x188, .i32⟩
  | 64 => ⟨S512x188, .i32⟩
  | 65 => ⟨S512x188, .i32⟩
  | 66 => ⟨S_, .i32⟩
  | 67 => ⟨S512x188, .i32⟩
  | 68 => ⟨S512x188, .i32⟩
  | 69 => ⟨S_, .i32⟩
  | 70 => ⟨S512x188, .i32⟩
  | 71 => ⟨S512x188, .i32⟩
  | 72 => ⟨S512x188, .i32⟩
  | 73 => ⟨S512x188, .i32⟩
  | 74 => ⟨S512x188, .i32⟩
  | 75 => ⟨S_, .i32⟩
  | 76 => ⟨S512x188, .i32⟩
  | 77 => ⟨S512x188, .i32⟩
  | 78 => ⟨S_, .i32⟩
  | 79 => ⟨S512x188, .i32⟩
  | 80 => ⟨S512x188, .i32⟩
  | 81 => ⟨S512x188, .i32⟩
  | 82 => ⟨S512x188, .i32⟩
  | 83 => ⟨S512x188, .i32⟩
  | 84 => ⟨S_, .i32⟩
  | 85 => ⟨S512x188, .i32⟩
  | 86 => ⟨S512x188, .i32⟩
  | 87 => ⟨S_, .i32⟩
  | 88 => ⟨S512x188, .i32⟩
  | 89 => ⟨S512x188, .i32⟩
  | 90 => ⟨S512x188, .i32⟩
  | 91 => ⟨S512x188, .i32⟩
  | 92 => ⟨S512x188, .i32⟩
  | 93 => ⟨S_, .i32⟩
  | 94 => ⟨S512x188, .i32⟩
  | 95 => ⟨S512x188, .i32⟩
  | 96 => ⟨S_, .i32⟩
  | 97 => ⟨S512x188, .i32⟩
  | 98 => ⟨S512x188, .i32⟩
  | 99 => ⟨S512x188, .i32⟩
  | 100 => ⟨S512x188, .i32⟩
  | 101 => ⟨S512x188, .i32⟩
  | 102 => ⟨S512x188, .i32⟩
  | 103 => ⟨S512x188, .i32⟩
  | 104 => ⟨S512x188, .i32⟩
  | 105 => ⟨S_, .i32⟩
  | 106 => ⟨S512x188, .i32⟩
  | 107 => ⟨S512x188, .i32⟩
  | 108 => ⟨S512x188, .i32⟩
  | 109 => ⟨S_, .i32⟩
  | 110 => ⟨S512x188, .i32⟩
  | 111 => ⟨S512x188, .i32⟩
  | 112 => ⟨S_, .i32⟩
  | 113 => ⟨S512x188, .i32⟩
  | 114 => ⟨S512x188, .i32⟩
  | 115 => ⟨S512x188, .i32⟩
  | 116 => ⟨S512x188, .i32⟩
  | 117 => ⟨S512x188, .i32⟩
  | 118 => ⟨S_, .i32⟩
  | 119 => ⟨S512x188, .i32⟩
  | 120 => ⟨S512x188, .i32⟩
  | 121 => ⟨S_, .i32⟩
  | 122 => ⟨S512x188, .i32⟩
  | 123 => ⟨S512x188, .i32⟩
  | 124 => ⟨S512x188, .i32⟩
  | 125 => ⟨S512x188, .i32⟩
  | 126 => ⟨S512x188, .i32⟩
  | 127 => ⟨S_, .i32⟩
  | _ => ⟨S512x4096x6, .f32⟩

abbrev hbmTy0_13 (i : Nat) : BufTy := match i % 128 with
  | 0 => ⟨S512x188, .i32⟩
  | 1 => ⟨S512x188, .i32⟩
  | 2 => ⟨S_, .i32⟩
  | 3 => ⟨S512x188, .i32⟩
  | 4 => ⟨S512x188, .i32⟩
  | 5 => ⟨S512x188, .i32⟩
  | 6 => ⟨S512x188, .i32⟩
  | 7 => ⟨S512x188, .i32⟩
  | 8 => ⟨S_, .i32⟩
  | 9 => ⟨S512x188, .i32⟩
  | 10 => ⟨S512x188, .i32⟩
  | 11 => ⟨S_, .i32⟩
  | 12 => ⟨S512x188, .i32⟩
  | 13 => ⟨S512x188, .i32⟩
  | 14 => ⟨S512x188, .i32⟩
  | 15 => ⟨S512x188, .i32⟩
  | 16 => ⟨S512x188, .i32⟩
  | 17 => ⟨S512x188, .i32⟩
  | 18 => ⟨S512x188, .i32⟩
  | 19 => ⟨S512x188, .i32⟩
  | 20 => ⟨S_, .i32⟩
  | 21 => ⟨S512x188, .i32⟩
  | 22 => ⟨S512x188, .i32⟩
  | 23 => ⟨S512x188, .i32⟩
  | 24 => ⟨S_, .i32⟩
  | 25 => ⟨S512x188, .i32⟩
  | 26 => ⟨S512x188, .i32⟩
  | 27 => ⟨S_, .i32⟩
  | 28 => ⟨S512x188, .i32⟩
  | 29 => ⟨S512x188, .i32⟩
  | 30 => ⟨S512x188, .i32⟩
  | 31 => ⟨S512x188, .i32⟩
  | 32 => ⟨S512x188, .i32⟩
  | 33 => ⟨S_, .i32⟩
  | 34 => ⟨S512x188, .i32⟩
  | 35 => ⟨S512x188, .i32⟩
  | 36 => ⟨S_, .i32⟩
  | 37 => ⟨S512x188, .i32⟩
  | 38 => ⟨S512x188, .i32⟩
  | 39 => ⟨S512x188, .i32⟩
  | 40 => ⟨S512x188, .i32⟩
  | 41 => ⟨S512x188, .i32⟩
  | 42 => ⟨S_, .i32⟩
  | 43 => ⟨S512x188, .i32⟩
  | 44 => ⟨S512x188, .i32⟩
  | 45 => ⟨S_, .i32⟩
  | 46 => ⟨S512x188, .i32⟩
  | 47 => ⟨S512x188, .i32⟩
  | 48 => ⟨S512x188, .i32⟩
  | 49 => ⟨S512x188, .i32⟩
  | 50 => ⟨S512x188, .i32⟩
  | 51 => ⟨S_, .i32⟩
  | 52 => ⟨S512x188, .i32⟩
  | 53 => ⟨S512x188, .i32⟩
  | 54 => ⟨S_, .i32⟩
  | 55 => ⟨S512x188, .i32⟩
  | 56 => ⟨S512x188, .i32⟩
  | 57 => ⟨S512x188, .i32⟩
  | 58 => ⟨S512x188, .i32⟩
  | 59 => ⟨S512x188, .i32⟩
  | 60 => ⟨S512x188, .i32⟩
  | 61 => ⟨S512x188, .i32⟩
  | 62 => ⟨S512x188, .i32⟩
  | 63 => ⟨S_, .i32⟩
  | 64 => ⟨S512x188, .i32⟩
  | 65 => ⟨S512x188, .i32⟩
  | 66 => ⟨S512x188, .i32⟩
  | 67 => ⟨S_, .i32⟩
  | 68 => ⟨S512x188, .i32⟩
  | 69 => ⟨S512x188, .i32⟩
  | 70 => ⟨S_, .i32⟩
  | 71 => ⟨S512x188, .i32⟩
  | 72 => ⟨S512x188, .i32⟩
  | 73 => ⟨S512x188, .i32⟩
  | 74 => ⟨S512x188, .i32⟩
  | 75 => ⟨S512x188, .i32⟩
  | 76 => ⟨S_, .i32⟩
  | 77 => ⟨S512x188, .i32⟩
  | 78 => ⟨S512x188, .i32⟩
  | 79 => ⟨S_, .i32⟩
  | 80 => ⟨S512x188, .i32⟩
  | 81 => ⟨S512x188, .i32⟩
  | 82 => ⟨S512x188, .i32⟩
  | 83 => ⟨S512x188, .i32⟩
  | 84 => ⟨S512x188, .i32⟩
  | 85 => ⟨S_, .i32⟩
  | 86 => ⟨S512x188, .i32⟩
  | 87 => ⟨S512x188, .i32⟩
  | 88 => ⟨S_, .i32⟩
  | 89 => ⟨S512x188, .i32⟩
  | 90 => ⟨S512x188, .i32⟩
  | 91 => ⟨S512x188, .i32⟩
  | 92 => ⟨S512x188, .i32⟩
  | 93 => ⟨S512x188, .i32⟩
  | 94 => ⟨S_, .i32⟩
  | 95 => ⟨S512x188, .i32⟩
  | 96 => ⟨S512x188, .i32⟩
  | 97 => ⟨S_, .i32⟩
  | 98 => ⟨S512x188, .i32⟩
  | 99 => ⟨S512x188, .i32⟩
  | 100 => ⟨S512x188, .i32⟩
  | 101 => ⟨S512x188, .i32⟩
  | 102 => ⟨S512x188, .i32⟩
  | 103 => ⟨S512x188, .i32⟩
  | 104 => ⟨S512x188, .i32⟩
  | 105 => ⟨S512x188, .i32⟩
  | 106 => ⟨S_, .i32⟩
  | 107 => ⟨S512x188, .i32⟩
  | 108 => ⟨S512x188, .i32⟩
  | 109 => ⟨S512x188, .i32⟩
  | 110 => ⟨S1x1, .i32⟩
  | 111 => ⟨S1x1, .i32⟩
  | 112 => ⟨S1x1, .i1⟩
  | 113 => ⟨S_, .i32⟩
  | 114 => ⟨S1x1, .i32⟩
  | 115 => ⟨S1x1, .i32⟩
  | 116 => ⟨S1x1, .i1⟩
  | 117 => ⟨S1x1, .i1⟩
  | 118 => ⟨S1x1, .i1⟩
  | 119 => ⟨S_, .i32⟩
  | 120 => ⟨S1x1, .i32⟩
  | 121 => ⟨S1x1, .i32⟩
  | 122 => ⟨S1x1, .i32⟩
  | 123 => ⟨S_, .i32⟩
  | 124 => ⟨S1x1, .i32⟩
  | 125 => ⟨S1x1, .i32⟩
  | 126 => ⟨S1x1, .i32⟩
  | 127 => ⟨S1x1, .i32⟩
  | _ => ⟨S512x4096x6, .f32⟩

abbrev hbmTy0_14 (i : Nat) : BufTy := match i % 128 with
  | 0 => ⟨S512x188, .i32⟩
  | 1 => ⟨S512x188, .i32⟩
  | 2 => ⟨S512x188, .i32⟩
  | 3 => ⟨S512x188, .i32⟩
  | 4 => ⟨S512x188, .i32⟩
  | 5 => ⟨S512x188, .i32⟩
  | 6 => ⟨S512x188, .i32⟩
  | 7 => ⟨S512x188, .i32⟩
  | 8 => ⟨S512x188, .i32⟩
  | 9 => ⟨S512x188, .i32⟩
  | 10 => ⟨S512x188, .i32⟩
  | 11 => ⟨S512x188, .i32⟩
  | 12 => ⟨S512x188, .i32⟩
  | 13 => ⟨S_, .i32⟩
  | 14 => ⟨S512x188, .i32⟩
  | 15 => ⟨S512x188, .i32⟩
  | 16 => ⟨S512, .i32⟩
  | 17 => ⟨S512x1, .i32⟩
  | 18 => ⟨S512x188, .i32⟩
  | 19 => ⟨S_, .i32⟩
  | 20 => ⟨S512x4097, .i32⟩
  | 21 => ⟨S_, .i32⟩
  | 22 => ⟨S512x188, .i32⟩
  | 23 => ⟨S512x188, .i1⟩
  | 24 => ⟨S_, .i32⟩
  | 25 => ⟨S512x188, .i32⟩
  | 26 => ⟨S512x188, .i32⟩
  | 27 => ⟨S512x188, .i32⟩
  | 28 => ⟨S_, .i32⟩
  | 29 => ⟨S512x188, .i32⟩
  | 30 => ⟨S512x188, .i1⟩
  | 31 => ⟨S_, .i32⟩
  | 32 => ⟨S512x188, .i32⟩
  | 33 => ⟨S512x188, .i32⟩
  | 34 => ⟨S512x188, .i32⟩
  | 35 => ⟨S512x188x1, .i32⟩
  | 36 => ⟨S512x188x1, .i32⟩
  | 37 => ⟨S512x188x2, .i32⟩
  | 38 => ⟨S_, .i32⟩
  | 39 => ⟨S512x188, .i32⟩
  | 40 => ⟨S512x4097, .i32⟩
  | 41 => ⟨S_, .i32⟩
  | 42 => ⟨S512x188, .i32⟩
  | 43 => ⟨S512x188, .i1⟩
  | 44 => ⟨S_, .i32⟩
  | 45 => ⟨S512x188, .i32⟩
  | 46 => ⟨S512x188, .i32⟩
  | 47 => ⟨S512x188, .i32⟩
  | 48 => ⟨S_, .i32⟩
  | 49 => ⟨S512x188, .i32⟩
  | 50 => ⟨S512x188, .i1⟩
  | 51 => ⟨S_, .i32⟩
  | 52 => ⟨S512x188, .i32⟩
  | 53 => ⟨S512x188, .i32⟩
  | 54 => ⟨S512x188, .i32⟩
  | 55 => ⟨S512x188x1, .i32⟩
  | 56 => ⟨S512x188x1, .i32⟩
  | 57 => ⟨S512x188x2, .i32⟩
  | 58 => ⟨S_, .i32⟩
  | 59 => ⟨S512x188, .i32⟩
  | 60 => ⟨S512x4097, .i32⟩
  | 61 => ⟨S_, .i32⟩
  | 62 => ⟨S_, .i32⟩
  | 63 => ⟨S512x4097, .i32⟩
  | 64 => ⟨S512x4096, .i32⟩
  | 65 => ⟨S_, .i32⟩
  | 66 => ⟨S512x4096, .i32⟩
  | 67 => ⟨S512x4096, .i1⟩
  | 68 => ⟨S512x4096, .f32⟩
  | 69 => ⟨S_, .f32⟩
  | 70 => ⟨S_, .f32⟩
  | 71 => ⟨S_, .f32⟩
  | 72 => ⟨S_, .f32⟩
  | 73 => ⟨S1x1, .f32⟩
  | 74 => ⟨S1x1, .f32⟩
  | 75 => ⟨S1, .i32⟩
  | 76 => ⟨S_, .i32⟩
  | 77 => ⟨S1, .i32⟩
  | 78 => ⟨S_, .i32⟩
  | 79 => ⟨S512x4096, .i64⟩
  | 80 => ⟨S512x4096, .i64⟩
  | 81 => ⟨S_, .i64⟩
  | 82 => ⟨S512x4096, .i64⟩
  | 83 => ⟨S512x4096, .i64⟩
  | 84 => ⟨S_, .i64⟩
  | 85 => ⟨S512x4096, .i64⟩
  | 86 => ⟨S512x4096, .i64⟩
  | 87 => ⟨S512x4096, .i64⟩
  | 88 => ⟨S_, .i64⟩
  | 89 => ⟨S512x4096, .i64⟩
  | 90 => ⟨S512x4096, .i64⟩
  | 91 => ⟨S512x4096, .i32⟩
  | 92 => ⟨S512x4096, .i32⟩
  | 93 => ⟨S_, .i32⟩
  | 94 => ⟨S_, .i32⟩
  | 95 => ⟨S_, .i32⟩
  | 96 => ⟨S512x4096, .i32⟩
  | 97 => ⟨S512x4096, .i32⟩
  | 98 => ⟨S512x4096, .i32⟩
  | 99 => ⟨S512x4096, .i32⟩
  | 100 => ⟨S512x4096, .i32⟩
  | 101 => ⟨S_, .i32⟩
  | 102 => ⟨S512x4096, .i32⟩
  | 103 => ⟨S512x4096, .i32⟩
  | 104 => ⟨S_, .i32⟩
  | 105 => ⟨S512x4096, .i32⟩
  | 106 => ⟨S512x4096, .i32⟩
  | 107 => ⟨S512x4096, .i32⟩
  | 108 => ⟨S512x4096, .i32⟩
  | 109 => ⟨S512x4096, .i32⟩
  | 110 => ⟨S_, .i32⟩
  | 111 => ⟨S512x4096, .i32⟩
  | 112 => ⟨S512x4096, .i32⟩
  | 113 => ⟨S_, .i32⟩
  | 114 => ⟨S512x4096, .i32⟩
  | 115 => ⟨S512x4096, .i32⟩
  | 116 => ⟨S512x4096, .i32⟩
  | 117 => ⟨S512x4096, .i32⟩
  | 118 => ⟨S512x4096, .i32⟩
  | 119 => ⟨S_, .i32⟩
  | 120 => ⟨S512x4096, .i32⟩
  | 121 => ⟨S512x4096, .i32⟩
  | 122 => ⟨S_, .i32⟩
  | 123 => ⟨S512x4096, .i32⟩
  | 124 => ⟨S512x4096, .i32⟩
  | 125 => ⟨S512x4096, .i32⟩
  | 126 => ⟨S512x4096, .i32⟩
  | 127 => ⟨S512x4096, .i32⟩
  | _ => ⟨S512x4096x6, .f32⟩

abbrev hbmTy0_15 (i : Nat) : BufTy := match i % 128 with
  | 0 => ⟨S_, .i32⟩
  | 1 => ⟨S512x4096, .i32⟩
  | 2 => ⟨S512x4096, .i32⟩
  | 3 => ⟨S_, .i32⟩
  | 4 => ⟨S512x4096, .i32⟩
  | 5 => ⟨S512x4096, .i32⟩
  | 6 => ⟨S512x4096, .i32⟩
  | 7 => ⟨S512x4096, .i32⟩
  | 8 => ⟨S512x4096, .i32⟩
  | 9 => ⟨S512x4096, .i32⟩
  | 10 => ⟨S512x4096, .i32⟩
  | 11 => ⟨S512x4096, .i32⟩
  | 12 => ⟨S_, .i32⟩
  | 13 => ⟨S512x4096, .i32⟩
  | 14 => ⟨S512x4096, .i32⟩
  | 15 => ⟨S512x4096, .i32⟩
  | 16 => ⟨S_, .i32⟩
  | 17 => ⟨S512x4096, .i32⟩
  | 18 => ⟨S512x4096, .i32⟩
  | 19 => ⟨S_, .i32⟩
  | 20 => ⟨S512x4096, .i32⟩
  | 21 => ⟨S512x4096, .i32⟩
  | 22 => ⟨S512x4096, .i32⟩
  | 23 => ⟨S512x4096, .i32⟩
  | 24 => ⟨S512x4096, .i32⟩
  | 25 => ⟨S_, .i32⟩
  | 26 => ⟨S512x4096, .i32⟩
  | 27 => ⟨S512x4096, .i32⟩
  | 28 => ⟨S_, .i32⟩
  | 29 => ⟨S512x4096, .i32⟩
  | 30 => ⟨S512x4096, .i32⟩
  | 31 => ⟨S512x4096, .i32⟩
  | 32 => ⟨S512x4096, .i32⟩
  | 33 => ⟨S512x4096, .i32⟩
  | 34 => ⟨S_, .i32⟩
  | 35 => ⟨S512x4096, .i32⟩
  | 36 => ⟨S512x4096, .i32⟩
  | 37 => ⟨S_, .i32⟩
  | 38 => ⟨S512x4096, .i32⟩
  | 39 => ⟨S512x4096, .i32⟩
  | 40 => ⟨S512x4096, .i32⟩
  | 41 => ⟨S512x4096, .i32⟩
  | 42 => ⟨S512x4096, .i32⟩
  | 43 => ⟨S_, .i32⟩
  | 44 => ⟨S512x4096, .i32⟩
  | 45 => ⟨S512x4096, .i32⟩
  | 46 => ⟨S_, .i32⟩
  | 47 => ⟨S512x4096, .i32⟩
  | 48 => ⟨S512x4096, .i32⟩
  | 49 => ⟨S512x4096, .i32⟩
  | 50 => ⟨S512x4096, .i32⟩
  | 51 => ⟨S512x4096, .i32⟩
  | 52 => ⟨S512x4096, .i32⟩
  | 53 => ⟨S512x4096, .i32⟩
  | 54 => ⟨S512x4096, .i32⟩
  | 55 => ⟨S_, .i32⟩
  | 56 => ⟨S512x4096, .i32⟩
  | 57 => ⟨S512x4096, .i32⟩
  | 58 => ⟨S512x4096, .i32⟩
  | 59 => ⟨S_, .i32⟩
  | 60 => ⟨S512x4096, .i32⟩
  | 61 => ⟨S512x4096, .i32⟩
  | 62 => ⟨S_, .i32⟩
  | 63 => ⟨S512x4096, .i32⟩
  | 64 => ⟨S512x4096, .i32⟩
  | 65 => ⟨S512x4096, .i32⟩
  | 66 => ⟨S512x4096, .i32⟩
  | 67 => ⟨S512x4096, .i32⟩
  | 68 => ⟨S_, .i32⟩
  | 69 => ⟨S512x4096, .i32⟩
  | 70 => ⟨S512x4096, .i32⟩
  | 71 => ⟨S_, .i32⟩
  | 72 => ⟨S512x4096, .i32⟩
  | 73 => ⟨S512x4096, .i32⟩
  | 74 => ⟨S512x4096, .i32⟩
  | 75 => ⟨S512x4096, .i32⟩
  | 76 => ⟨S512x4096, .i32⟩
  | 77 => ⟨S_, .i32⟩
  | 78 => ⟨S512x4096, .i32⟩
  | 79 => ⟨S512x4096, .i32⟩
  | 80 => ⟨S_, .i32⟩
  | 81 => ⟨S512x4096, .i32⟩
  | 82 => ⟨S512x4096, .i32⟩
  | 83 => ⟨S512x4096, .i32⟩
  | 84 => ⟨S512x4096, .i32⟩
  | 85 => ⟨S512x4096, .i32⟩
  | 86 => ⟨S_, .i32⟩
  | 87 => ⟨S512x4096, .i32⟩
  | 88 => ⟨S512x4096, .i32⟩
  | 89 => ⟨S_, .i32⟩
  | 90 => ⟨S512x4096, .i32⟩
  | 91 => ⟨S512x4096, .i32⟩
  | 92 => ⟨S512x4096, .i32⟩
  | 93 => ⟨S512x4096, .i32⟩
  | 94 => ⟨S512x4096, .i32⟩
  | 95 => ⟨S512x4096, .i32⟩
  | 96 => ⟨S512x4096, .i32⟩
  | 97 => ⟨S512x4096, .i32⟩
  | 98 => ⟨S_, .i32⟩
  | 99 => ⟨S512x4096, .i32⟩
  | 100 => ⟨S512x4096, .i32⟩
  | 101 => ⟨S512x4096, .i32⟩
  | 102 => ⟨S_, .i32⟩
  | 103 => ⟨S512x4096, .i32⟩
  | 104 => ⟨S512x4096, .i32⟩
  | 105 => ⟨S_, .i32⟩
  | 106 => ⟨S512x4096, .i32⟩
  | 107 => ⟨S512x4096, .i32⟩
  | 108 => ⟨S512x4096, .i32⟩
  | 109 => ⟨S512x4096, .i32⟩
  | 110 => ⟨S512x4096, .i32⟩
  | 111 => ⟨S_, .i32⟩
  | 112 => ⟨S512x4096, .i32⟩
  | 113 => ⟨S512x4096, .i32⟩
  | 114 => ⟨S_, .i32⟩
  | 115 => ⟨S512x4096, .i32⟩
  | 116 => ⟨S512x4096, .i32⟩
  | 117 => ⟨S512x4096, .i32⟩
  | 118 => ⟨S512x4096, .i32⟩
  | 119 => ⟨S512x4096, .i32⟩
  | 120 => ⟨S_, .i32⟩
  | 121 => ⟨S512x4096, .i32⟩
  | 122 => ⟨S512x4096, .i32⟩
  | 123 => ⟨S_, .i32⟩
  | 124 => ⟨S512x4096, .i32⟩
  | 125 => ⟨S512x4096, .i32⟩
  | 126 => ⟨S512x4096, .i32⟩
  | 127 => ⟨S512x4096, .i32⟩
  | _ => ⟨S512x4096x6, .f32⟩

abbrev hbmTy0_16 (i : Nat) : BufTy := match i % 128 with
  | 0 => ⟨S512x4096, .i32⟩
  | 1 => ⟨S_, .i32⟩
  | 2 => ⟨S512x4096, .i32⟩
  | 3 => ⟨S512x4096, .i32⟩
  | 4 => ⟨S_, .i32⟩
  | 5 => ⟨S512x4096, .i32⟩
  | 6 => ⟨S512x4096, .i32⟩
  | 7 => ⟨S512x4096, .i32⟩
  | 8 => ⟨S512x4096, .i32⟩
  | 9 => ⟨S512x4096, .i32⟩
  | 10 => ⟨S512x4096, .i32⟩
  | 11 => ⟨S512x4096, .i32⟩
  | 12 => ⟨S512x4096, .i32⟩
  | 13 => ⟨S_, .i32⟩
  | 14 => ⟨S512x4096, .i32⟩
  | 15 => ⟨S512x4096, .i32⟩
  | 16 => ⟨S512x4096, .i32⟩
  | 17 => ⟨S_, .i32⟩
  | 18 => ⟨S512x4096, .i32⟩
  | 19 => ⟨S512x4096, .i32⟩
  | 20 => ⟨S_, .i32⟩
  | 21 => ⟨S512x4096, .i32⟩
  | 22 => ⟨S512x4096, .i32⟩
  | 23 => ⟨S512x4096, .i32⟩
  | 24 => ⟨S512x4096, .i32⟩
  | 25 => ⟨S512x4096, .i32⟩
  | 26 => ⟨S_, .i32⟩
  | 27 => ⟨S512x4096, .i32⟩
  | 28 => ⟨S512x4096, .i32⟩
  | 29 => ⟨S_, .i32⟩
  | 30 => ⟨S512x4096, .i32⟩
  | 31 => ⟨S512x4096, .i32⟩
  | 32 => ⟨S512x4096, .i32⟩
  | 33 => ⟨S512x4096, .i32⟩
  | 34 => ⟨S512x4096, .i32⟩
  | 35 => ⟨S_, .i32⟩
  | 36 => ⟨S512x4096, .i32⟩
  | 37 => ⟨S512x4096, .i32⟩
  | 38 => ⟨S_, .i32⟩
  | 39 => ⟨S512x4096, .i32⟩
  | 40 => ⟨S512x4096, .i32⟩
  | 41 => ⟨S512x4096, .i32⟩
  | 42 => ⟨S512x4096, .i32⟩
  | 43 => ⟨S512x4096, .i32⟩
  | 44 => ⟨S_, .i32⟩
  | 45 => ⟨S512x4096, .i32⟩
  | 46 => ⟨S512x4096, .i32⟩
  | 47 => ⟨S_, .i32⟩
  | 48 => ⟨S512x4096, .i32⟩
  | 49 => ⟨S512x4096, .i32⟩
  | 50 => ⟨S512x4096, .i32⟩
  | 51 => ⟨S512x4096, .i32⟩
  | 52 => ⟨S512x4096, .i32⟩
  | 53 => ⟨S512x4096, .i32⟩
  | 54 => ⟨S512x4096, .i32⟩
  | 55 => ⟨S512x4096, .i32⟩
  | 56 => ⟨S_, .i32⟩
  | 57 => ⟨S512x4096, .i32⟩
  | 58 => ⟨S512x4096, .i32⟩
  | 59 => ⟨S512x4096, .i32⟩
  | 60 => ⟨S_, .i32⟩
  | 61 => ⟨S512x4096, .i32⟩
  | 62 => ⟨S512x4096, .i32⟩
  | 63 => ⟨S_, .i32⟩
  | 64 => ⟨S512x4096, .i32⟩
  | 65 => ⟨S512x4096, .i32⟩
  | 66 => ⟨S512x4096, .f32⟩
  | 67 => ⟨S_, .f32⟩
  | 68 => ⟨S512x4096, .f32⟩
  | 69 => ⟨S512x4096, .f32⟩
  | 70 => ⟨S1x1, .f32⟩
  | 71 => ⟨S512x4096, .f32⟩
  | 72 => ⟨S512x4096, .f32⟩
  | 73 => ⟨S512x4096, .f32⟩
  | 74 => ⟨S512x4096, .f32⟩
  | 75 => ⟨S512x4096, .f32⟩
  | 76 => ⟨S512x4096, .f32⟩
  | 77 => ⟨S512x4096, .f32⟩
  | 78 => ⟨S512x614, .f32⟩
  | 79 => ⟨S512x614, .i32⟩
  | 80 => ⟨S_, .i1⟩
  | 81 => ⟨S512x4096, .i1⟩
  | 82 => ⟨S512, .i32⟩
  | 83 => ⟨S512x1, .i32⟩
  | 84 => ⟨S_, .i32⟩
  | 85 => ⟨S512x1, .i32⟩
  | 86 => ⟨S512x1, .i1⟩
  | 87 => ⟨S_, .i32⟩
  | 88 => ⟨S512x1, .i32⟩
  | 89 => ⟨S512x1, .i32⟩
  | 90 => ⟨S512x1, .i32⟩
  | 91 => ⟨S_, .i32⟩
  | 92 => ⟨S512x614, .i32⟩
  | 93 => ⟨S512x614, .i1⟩
  | 94 => ⟨S_, .i32⟩
  | 95 => ⟨S512x614, .i32⟩
  | 96 => ⟨S512x614, .i32⟩
  | 97 => ⟨S512x614, .i32⟩
  | 98 => ⟨S512x614, .i32⟩
  | 99 => ⟨S512x614x1, .i32⟩
  | 100 => ⟨S512x614x1, .i32⟩
  | 101 => ⟨S512x614x2, .i32⟩
  | 102 => ⟨S_, .i1⟩
  | 103 => ⟨S512x614, .i1⟩
  | 104 => ⟨S512x4096, .i1⟩
  | 105 => ⟨S512x4096x1, .f32⟩
  | 106 => ⟨S512x4096, .f32⟩
  | 107 => ⟨S512x4096, .i1⟩
  | 108 => ⟨S512x4096, .i1⟩
  | 109 => ⟨S512x4096, .i1⟩
  | 110 => ⟨S512x4096x1, .i1⟩
  | 111 => ⟨S1x1x6, .f32⟩
  | 112 => ⟨S512x4096x6, .f32⟩
  | 113 => ⟨S512x4096x6, .i1⟩
  | 114 => ⟨S512x4096x6, .f32⟩
  | _ => ⟨S512x4096x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | _ => ⟨S512x4096x6, .f32⟩

abbrev bufTy : (tb : Table) → Fin (tcTables nBuf tb) → BufTy
  | .hbm, ⟨i, _⟩ => hbmTy i
  | _, _ => ⟨S512x4096x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_c_2 : Ref sig .tc := ⟨.hbm, 256, rfl⟩
abbrev main_c_3 : Ref sig .tc := ⟨.hbm, 257, rfl⟩
abbrev main_call1_c : Ref sig .tc := ⟨.hbm, 258, rfl⟩
abbrev main_call1_c_0 : Ref sig .tc := ⟨.hbm, 259, rfl⟩
abbrev main_call1_c_1 : Ref sig .tc := ⟨.hbm, 260, rfl⟩
abbrev main_call1_call0_v0 : Ref sig .tc := ⟨.hbm, 261, rfl⟩
abbrev main_call1_v0 : Ref sig .tc := ⟨.hbm, 262, rfl⟩
abbrev main_call1_v1 : Ref sig .tc := ⟨.hbm, 263, rfl⟩
abbrev main_call1_c_2 : Ref sig .tc := ⟨.hbm, 264, rfl⟩
abbrev main_call1_c_3 : Ref sig .tc := ⟨.hbm, 265, rfl⟩
abbrev main_call1_call1_v0 : Ref sig .tc := ⟨.hbm, 266, rfl⟩
abbrev main_call1_v2 : Ref sig .tc := ⟨.hbm, 267, rfl⟩
abbrev main_call1_v3 : Ref sig .tc := ⟨.hbm, 268, rfl⟩
abbrev main_call1_c_4 : Ref sig .tc := ⟨.hbm, 269, rfl⟩
abbrev main_call1_c_5 : Ref sig .tc := ⟨.hbm, 270, rfl⟩
abbrev main_call1_call2_v0 : Ref sig .tc := ⟨.hbm, 271, rfl⟩
abbrev main_call1_v4 : Ref sig .tc := ⟨.hbm, 272, rfl⟩
abbrev main_call1_v5 : Ref sig .tc := ⟨.hbm, 273, rfl⟩
abbrev main_call1_v6 : Ref sig .tc := ⟨.hbm, 274, rfl⟩
abbrev main_call1_v7 : Ref sig .tc := ⟨.hbm, 275, rfl⟩
abbrev main_call1_call3_v0 : Ref sig .tc := ⟨.hbm, 276, rfl⟩
abbrev main_call1_call3_v1 : Ref sig .tc := ⟨.hbm, 277, rfl⟩
abbrev main_call1_call3_v2 : Ref sig .tc := ⟨.hbm, 278, rfl⟩
abbrev main_call1_call3_v3 : Ref sig .tc := ⟨.hbm, 279, rfl⟩
abbrev main_call1_call3_v4 : Ref sig .tc := ⟨.hbm, 280, rfl⟩
abbrev main_call1_call3_c : Ref sig .tc := ⟨.hbm, 281, rfl⟩
abbrev main_call1_call3_v5 : Ref sig .tc := ⟨.hbm, 282, rfl⟩
abbrev main_call1_call3_v6 : Ref sig .tc := ⟨.hbm, 283, rfl⟩
abbrev main_call1_call3_c_0 : Ref sig .tc := ⟨.hbm, 284, rfl⟩
abbrev main_call1_call3_v7 : Ref sig .tc := ⟨.hbm, 285, rfl⟩
abbrev main_call1_call3_v8 : Ref sig .tc := ⟨.hbm, 286, rfl⟩
abbrev main_call1_call3_v9 : Ref sig .tc := ⟨.hbm, 287, rfl⟩
abbrev main_call1_call3_v10 : Ref sig .tc := ⟨.hbm, 288, rfl⟩
abbrev main_call1_call3_call0_v0 : Ref sig .tc := ⟨.hbm, 289, rfl⟩
abbrev main_call1_call3_call0_c : Ref sig .tc := ⟨.hbm, 290, rfl⟩
abbrev main_call1_call3_call0_v1 : Ref sig .tc := ⟨.hbm, 291, rfl⟩
abbrev main_call1_call3_call0_v2 : Ref sig .tc := ⟨.hbm, 292, rfl⟩
abbrev main_call1_call3_call0_v3 : Ref sig .tc := ⟨.hbm, 293, rfl⟩
abbrev main_call1_call3_call0_v4 : Ref sig .tc := ⟨.hbm, 294, rfl⟩
abbrev main_call1_call3_call0_v5 : Ref sig .tc := ⟨.hbm, 295, rfl⟩
abbrev main_call1_call3_call0_v6 : Ref sig .tc := ⟨.hbm, 296, rfl⟩
abbrev main_call1_call3_call0_c_0 : Ref sig .tc := ⟨.hbm, 297, rfl⟩
abbrev main_call1_call3_call0_v7 : Ref sig .tc := ⟨.hbm, 298, rfl⟩
abbrev main_call1_call3_call0_v8 : Ref sig .tc := ⟨.hbm, 299, rfl⟩
abbrev main_call1_call3_call0_c_1 : Ref sig .tc := ⟨.hbm, 300, rfl⟩
abbrev main_call1_call3_call0_v9 : Ref sig .tc := ⟨.hbm, 301, rfl⟩
abbrev main_call1_call3_call0_v10 : Ref sig .tc := ⟨.hbm, 302, rfl⟩
abbrev main_call1_call3_call0_v11 : Ref sig .tc := ⟨.hbm, 303, rfl⟩
abbrev main_call1_call3_call0_v12 : Ref sig .tc := ⟨.hbm, 304, rfl⟩
abbrev main_call1_call3_call0_v13 : Ref sig .tc := ⟨.hbm, 305, rfl⟩
abbrev main_call1_call3_call0_c_2 : Ref sig .tc := ⟨.hbm, 306, rfl⟩
abbrev main_call1_call3_call0_v14 : Ref sig .tc := ⟨.hbm, 307, rfl⟩
abbrev main_call1_call3_call0_v15 : Ref sig .tc := ⟨.hbm, 308, rfl⟩
abbrev main_call1_call3_call0_c_3 : Ref sig .tc := ⟨.hbm, 309, rfl⟩
abbrev main_call1_call3_call0_v16 : Ref sig .tc := ⟨.hbm, 310, rfl⟩
abbrev main_call1_call3_call0_v17 : Ref sig .tc := ⟨.hbm, 311, rfl⟩
abbrev main_call1_call3_call0_v18 : Ref sig .tc := ⟨.hbm, 312, rfl⟩
abbrev main_call1_call3_call0_v19 : Ref sig .tc := ⟨.hbm, 313, rfl⟩
abbrev main_call1_call3_call0_v20 : Ref sig .tc := ⟨.hbm, 314, rfl⟩
abbrev main_call1_call3_call0_c_4 : Ref sig .tc := ⟨.hbm, 315, rfl⟩
abbrev main_call1_call3_call0_v21 : Ref sig .tc := ⟨.hbm, 316, rfl⟩
abbrev main_call1_call3_call0_v22 : Ref sig .tc := ⟨.hbm, 317, rfl⟩
abbrev main_call1_call3_call0_c_5 : Ref sig .tc := ⟨.hbm, 318, rfl⟩
abbrev main_call1_call3_call0_v23 : Ref sig .tc := ⟨.hbm, 319, rfl⟩
abbrev main_call1_call3_call0_v24 : Ref sig .tc := ⟨.hbm, 320, rfl⟩
abbrev main_call1_call3_call0_v25 : Ref sig .tc := ⟨.hbm, 321, rfl⟩
abbrev main_call1_call3_call0_v26 : Ref sig .tc := ⟨.hbm, 322, rfl⟩
abbrev main_call1_call3_call0_v27 : Ref sig .tc := ⟨.hbm, 323, rfl⟩
abbrev main_call1_call3_call0_c_6 : Ref sig .tc := ⟨.hbm, 324, rfl⟩
abbrev main_call1_call3_call0_v28 : Ref sig .tc := ⟨.hbm, 325, rfl⟩
abbrev main_call1_call3_call0_v29 : Ref sig .tc := ⟨.hbm, 326, rfl⟩
abbrev main_call1_call3_call0_c_7 : Ref sig .tc := ⟨.hbm, 327, rfl⟩
abbrev main_call1_call3_call0_v30 : Ref sig .tc := ⟨.hbm, 328, rfl⟩
abbrev main_call1_call3_call0_v31 : Ref sig .tc := ⟨.hbm, 329, rfl⟩
abbrev main_call1_call3_call0_v32 : Ref sig .tc := ⟨.hbm, 330, rfl⟩
abbrev main_call1_call3_call0_v33 : Ref sig .tc := ⟨.hbm, 331, rfl⟩
abbrev main_call1_call3_call0_v34 : Ref sig .tc := ⟨.hbm, 332, rfl⟩
abbrev main_call1_call3_call0_v35 : Ref sig .tc := ⟨.hbm, 333, rfl⟩
abbrev main_call1_call3_call0_v36 : Ref sig .tc := ⟨.hbm, 334, rfl⟩
abbrev main_call1_call3_call0_v37 : Ref sig .tc := ⟨.hbm, 335, rfl⟩
abbrev main_call1_call3_call0_c_8 : Ref sig .tc := ⟨.hbm, 336, rfl⟩
abbrev main_call1_call3_call0_v38 : Ref sig .tc := ⟨.hbm, 337, rfl⟩
abbrev main_call1_call3_call0_v39 : Ref sig .tc := ⟨.hbm, 338, rfl⟩
abbrev main_call1_call3_call0_v40 : Ref sig .tc := ⟨.hbm, 339, rfl⟩
abbrev main_call1_call3_call0_c_9 : Ref sig .tc := ⟨.hbm, 340, rfl⟩
abbrev main_call1_call3_call0_v41 : Ref sig .tc := ⟨.hbm, 341, rfl⟩
abbrev main_call1_call3_call0_v42 : Ref sig .tc := ⟨.hbm, 342, rfl⟩
abbrev main_call1_call3_call0_c_10 : Ref sig .tc := ⟨.hbm, 343, rfl⟩
abbrev main_call1_call3_call0_v43 : Ref sig .tc := ⟨.hbm, 344, rfl⟩
abbrev main_call1_call3_call0_v44 : Ref sig .tc := ⟨.hbm, 345, rfl⟩
abbrev main_call1_call3_call0_v45 : Ref sig .tc := ⟨.hbm, 346, rfl⟩
abbrev main_call1_call3_call0_v46 : Ref sig .tc := ⟨.hbm, 347, rfl⟩
abbrev main_call1_call3_call0_v47 : Ref sig .tc := ⟨.hbm, 348, rfl⟩
abbrev main_call1_call3_call0_c_11 : Ref sig .tc := ⟨.hbm, 349, rfl⟩
abbrev main_call1_call3_call0_v48 : Ref sig .tc := ⟨.hbm, 350, rfl⟩
abbrev main_call1_call3_call0_v49 : Ref sig .tc := ⟨.hbm, 351, rfl⟩
abbrev main_call1_call3_call0_c_12 : Ref sig .tc := ⟨.hbm, 352, rfl⟩
abbrev main_call1_call3_call0_v50 : Ref sig .tc := ⟨.hbm, 353, rfl⟩
abbrev main_call1_call3_call0_v51 : Ref sig .tc := ⟨.hbm, 354, rfl⟩
abbrev main_call1_call3_call0_v52 : Ref sig .tc := ⟨.hbm, 355, rfl⟩
abbrev main_call1_call3_call0_v53 : Ref sig .tc := ⟨.hbm, 356, rfl⟩
abbrev main_call1_call3_call0_v54 : Ref sig .tc := ⟨.hbm, 357, rfl⟩
abbrev main_call1_call3_call0_c_13 : Ref sig .tc := ⟨.hbm, 358, rfl⟩
abbrev main_call1_call3_call0_v55 : Ref sig .tc := ⟨.hbm, 359, rfl⟩
abbrev main_call1_call3_call0_v56 : Ref sig .tc := ⟨.hbm, 360, rfl⟩
abbrev main_call1_call3_call0_c_14 : Ref sig .tc := ⟨.hbm, 361, rfl⟩
abbrev main_call1_call3_call0_v57 : Ref sig .tc := ⟨.hbm, 362, rfl⟩
abbrev main_call1_call3_call0_v58 : Ref sig .tc := ⟨.hbm, 363, rfl⟩
abbrev main_call1_call3_call0_v59 : Ref sig .tc := ⟨.hbm, 364, rfl⟩
abbrev main_call1_call3_call0_v60 : Ref sig .tc := ⟨.hbm, 365, rfl⟩
abbrev main_call1_call3_call0_v61 : Ref sig .tc := ⟨.hbm, 366, rfl⟩
abbrev main_call1_call3_call0_c_15 : Ref sig .tc := ⟨.hbm, 367, rfl⟩
abbrev main_call1_call3_call0_v62 : Ref sig .tc := ⟨.hbm, 368, rfl⟩
abbrev main_call1_call3_call0_v63 : Ref sig .tc := ⟨.hbm, 369, rfl⟩
abbrev main_call1_call3_call0_c_16 : Ref sig .tc := ⟨.hbm, 370, rfl⟩
abbrev main_call1_call3_call0_v64 : Ref sig .tc := ⟨.hbm, 371, rfl⟩
abbrev main_call1_call3_call0_v65 : Ref sig .tc := ⟨.hbm, 372, rfl⟩
abbrev main_call1_call3_call0_v66 : Ref sig .tc := ⟨.hbm, 373, rfl⟩
abbrev main_call1_call3_call0_v67 : Ref sig .tc := ⟨.hbm, 374, rfl⟩
abbrev main_call1_call3_call0_v68 : Ref sig .tc := ⟨.hbm, 375, rfl⟩
abbrev main_call1_call3_call0_v69 : Ref sig .tc := ⟨.hbm, 376, rfl⟩
abbrev main_call1_call3_call0_v70 : Ref sig .tc := ⟨.hbm, 377, rfl⟩
abbrev main_call1_call3_call0_v71 : Ref sig .tc := ⟨.hbm, 378, rfl⟩
abbrev main_call1_call3_call0_c_17 : Ref sig .tc := ⟨.hbm, 379, rfl⟩
abbrev main_call1_call3_call0_v72 : Ref sig .tc := ⟨.hbm, 380, rfl⟩
abbrev main_call1_call3_call0_v73 : Ref sig .tc := ⟨.hbm, 381, rfl⟩
abbrev main_call1_call3_call0_v74 : Ref sig .tc := ⟨.hbm, 382, rfl⟩
abbrev main_call1_call3_call0_c_18 : Ref sig .tc := ⟨.hbm, 383, rfl⟩
abbrev main_call1_call3_call0_v75 : Ref sig .tc := ⟨.hbm, 384, rfl⟩
abbrev main_call1_call3_call0_v76 : Ref sig .tc := ⟨.hbm, 385, rfl⟩
abbrev main_call1_call3_call0_c_19 : Ref sig .tc := ⟨.hbm, 386, rfl⟩
abbrev main_call1_call3_call0_v77 : Ref sig .tc := ⟨.hbm, 387, rfl⟩
abbrev main_call1_call3_call0_v78 : Ref sig .tc := ⟨.hbm, 388, rfl⟩
abbrev main_call1_call3_call0_v79 : Ref sig .tc := ⟨.hbm, 389, rfl⟩
abbrev main_call1_call3_call0_v80 : Ref sig .tc := ⟨.hbm, 390, rfl⟩
abbrev main_call1_call3_call0_v81 : Ref sig .tc := ⟨.hbm, 391, rfl⟩
abbrev main_call1_call3_call0_c_20 : Ref sig .tc := ⟨.hbm, 392, rfl⟩
abbrev main_call1_call3_call0_v82 : Ref sig .tc := ⟨.hbm, 393, rfl⟩
abbrev main_call1_call3_call0_v83 : Ref sig .tc := ⟨.hbm, 394, rfl⟩
abbrev main_call1_call3_call0_c_21 : Ref sig .tc := ⟨.hbm, 395, rfl⟩
abbrev main_call1_call3_call0_v84 : Ref sig .tc := ⟨.hbm, 396, rfl⟩
abbrev main_call1_call3_call0_v85 : Ref sig .tc := ⟨.hbm, 397, rfl⟩
abbrev main_call1_call3_call0_v86 : Ref sig .tc := ⟨.hbm, 398, rfl⟩
abbrev main_call1_call3_call0_v87 : Ref sig .tc := ⟨.hbm, 399, rfl⟩
abbrev main_call1_call3_call0_v88 : Ref sig .tc := ⟨.hbm, 400, rfl⟩
abbrev main_call1_call3_call0_c_22 : Ref sig .tc := ⟨.hbm, 401, rfl⟩
abbrev main_call1_call3_call0_v89 : Ref sig .tc := ⟨.hbm, 402, rfl⟩
abbrev main_call1_call3_call0_v90 : Ref sig .tc := ⟨.hbm, 403, rfl⟩
abbrev main_call1_call3_call0_c_23 : Ref sig .tc := ⟨.hbm, 404, rfl⟩
abbrev main_call1_call3_call0_v91 : Ref sig .tc := ⟨.hbm, 405, rfl⟩
abbrev main_call1_call3_call0_v92 : Ref sig .tc := ⟨.hbm, 406, rfl⟩
abbrev main_call1_call3_call0_v93 : Ref sig .tc := ⟨.hbm, 407, rfl⟩
abbrev main_call1_call3_call0_v94 : Ref sig .tc := ⟨.hbm, 408, rfl⟩
abbrev main_call1_call3_call0_v95 : Ref sig .tc := ⟨.hbm, 409, rfl⟩
abbrev main_call1_call3_call0_c_24 : Ref sig .tc := ⟨.hbm, 410, rfl⟩
abbrev main_call1_call3_call0_v96 : Ref sig .tc := ⟨.hbm, 411, rfl⟩
abbrev main_call1_call3_call0_v97 : Ref sig .tc := ⟨.hbm, 412, rfl⟩
abbrev main_call1_call3_call0_c_25 : Ref sig .tc := ⟨.hbm, 413, rfl⟩
abbrev main_call1_call3_call0_v98 : Ref sig .tc := ⟨.hbm, 414, rfl⟩
abbrev main_call1_call3_call0_v99 : Ref sig .tc := ⟨.hbm, 415, rfl⟩
abbrev main_call1_call3_call0_v100 : Ref sig .tc := ⟨.hbm, 416, rfl⟩
abbrev main_call1_call3_call0_v101 : Ref sig .tc := ⟨.hbm, 417, rfl⟩
abbrev main_call1_call3_call0_v102 : Ref sig .tc := ⟨.hbm, 418, rfl⟩
abbrev main_call1_call3_call0_v103 : Ref sig .tc := ⟨.hbm, 419, rfl⟩
abbrev main_call1_call3_call0_v104 : Ref sig .tc := ⟨.hbm, 420, rfl⟩
abbrev main_call1_call3_call0_v105 : Ref sig .tc := ⟨.hbm, 421, rfl⟩
abbrev main_call1_call3_call0_c_26 : Ref sig .tc := ⟨.hbm, 422, rfl⟩
abbrev main_call1_call3_call0_v106 : Ref sig .tc := ⟨.hbm, 423, rfl⟩
abbrev main_call1_call3_call0_v107 : Ref sig .tc := ⟨.hbm, 424, rfl⟩
abbrev main_call1_call3_call0_v108 : Ref sig .tc := ⟨.hbm, 425, rfl⟩
abbrev main_call1_call3_call0_c_27 : Ref sig .tc := ⟨.hbm, 426, rfl⟩
abbrev main_call1_call3_call0_v109 : Ref sig .tc := ⟨.hbm, 427, rfl⟩
abbrev main_call1_call3_call0_v110 : Ref sig .tc := ⟨.hbm, 428, rfl⟩
abbrev main_call1_call3_call0_c_28 : Ref sig .tc := ⟨.hbm, 429, rfl⟩
abbrev main_call1_call3_call0_v111 : Ref sig .tc := ⟨.hbm, 430, rfl⟩
abbrev main_call1_call3_call0_v112 : Ref sig .tc := ⟨.hbm, 431, rfl⟩
abbrev main_call1_call3_call0_v113 : Ref sig .tc := ⟨.hbm, 432, rfl⟩
abbrev main_call1_call3_call0_v114 : Ref sig .tc := ⟨.hbm, 433, rfl⟩
abbrev main_call1_call3_call0_v115 : Ref sig .tc := ⟨.hbm, 434, rfl⟩
abbrev main_call1_call3_call0_c_29 : Ref sig .tc := ⟨.hbm, 435, rfl⟩
abbrev main_call1_call3_call0_v116 : Ref sig .tc := ⟨.hbm, 436, rfl⟩
abbrev main_call1_call3_call0_v117 : Ref sig .tc := ⟨.hbm, 437, rfl⟩
abbrev main_call1_call3_call0_c_30 : Ref sig .tc := ⟨.hbm, 438, rfl⟩
abbrev main_call1_call3_call0_v118 : Ref sig .tc := ⟨.hbm, 439, rfl⟩
abbrev main_call1_call3_call0_v119 : Ref sig .tc := ⟨.hbm, 440, rfl⟩
abbrev main_call1_call3_call0_v120 : Ref sig .tc := ⟨.hbm, 441, rfl⟩
abbrev main_call1_call3_call0_v121 : Ref sig .tc := ⟨.hbm, 442, rfl⟩
abbrev main_call1_call3_call0_v122 : Ref sig .tc := ⟨.hbm, 443, rfl⟩
abbrev main_call1_call3_call0_c_31 : Ref sig .tc := ⟨.hbm, 444, rfl⟩
abbrev main_call1_call3_call0_v123 : Ref sig .tc := ⟨.hbm, 445, rfl⟩
abbrev main_call1_call3_call0_v124 : Ref sig .tc := ⟨.hbm, 446, rfl⟩
abbrev main_call1_call3_call0_c_32 : Ref sig .tc := ⟨.hbm, 447, rfl⟩
abbrev main_call1_call3_call0_v125 : Ref sig .tc := ⟨.hbm, 448, rfl⟩
abbrev main_call1_call3_call0_v126 : Ref sig .tc := ⟨.hbm, 449, rfl⟩
abbrev main_call1_call3_call0_v127 : Ref sig .tc := ⟨.hbm, 450, rfl⟩
abbrev main_call1_call3_call0_v128 : Ref sig .tc := ⟨.hbm, 451, rfl⟩
abbrev main_call1_call3_call0_v129 : Ref sig .tc := ⟨.hbm, 452, rfl⟩
abbrev main_call1_call3_call0_c_33 : Ref sig .tc := ⟨.hbm, 453, rfl⟩
abbrev main_call1_call3_call0_v130 : Ref sig .tc := ⟨.hbm, 454, rfl⟩
abbrev main_call1_call3_call0_v131 : Ref sig .tc := ⟨.hbm, 455, rfl⟩
abbrev main_call1_call3_call0_c_34 : Ref sig .tc := ⟨.hbm, 456, rfl⟩
abbrev main_call1_call3_call0_v132 : Ref sig .tc := ⟨.hbm, 457, rfl⟩
abbrev main_call1_call3_call0_v133 : Ref sig .tc := ⟨.hbm, 458, rfl⟩
abbrev main_call1_call3_call0_v134 : Ref sig .tc := ⟨.hbm, 459, rfl⟩
abbrev main_call1_call3_call0_v135 : Ref sig .tc := ⟨.hbm, 460, rfl⟩
abbrev main_call1_call3_call0_v136 : Ref sig .tc := ⟨.hbm, 461, rfl⟩
abbrev main_call1_call3_call0_v137 : Ref sig .tc := ⟨.hbm, 462, rfl⟩
abbrev main_call1_call3_call0_v138 : Ref sig .tc := ⟨.hbm, 463, rfl⟩
abbrev main_call1_call3_call0_v139 : Ref sig .tc := ⟨.hbm, 464, rfl⟩
abbrev main_call1_call3_call0_c_35 : Ref sig .tc := ⟨.hbm, 465, rfl⟩
abbrev main_call1_call3_call0_v140 : Ref sig .tc := ⟨.hbm, 466, rfl⟩
abbrev main_call1_call3_call0_v141 : Ref sig .tc := ⟨.hbm, 467, rfl⟩
abbrev main_call1_call3_call0_v142 : Ref sig .tc := ⟨.hbm, 468, rfl⟩
abbrev main_call1_call3_call0_c_36 : Ref sig .tc := ⟨.hbm, 469, rfl⟩
abbrev main_call1_call3_call0_v143 : Ref sig .tc := ⟨.hbm, 470, rfl⟩
abbrev main_call1_call3_call0_v144 : Ref sig .tc := ⟨.hbm, 471, rfl⟩
abbrev main_call1_call3_call0_c_37 : Ref sig .tc := ⟨.hbm, 472, rfl⟩
abbrev main_call1_call3_call0_v145 : Ref sig .tc := ⟨.hbm, 473, rfl⟩
abbrev main_call1_call3_call0_v146 : Ref sig .tc := ⟨.hbm, 474, rfl⟩
abbrev main_call1_call3_call0_v147 : Ref sig .tc := ⟨.hbm, 475, rfl⟩
abbrev main_call1_call3_call0_v148 : Ref sig .tc := ⟨.hbm, 476, rfl⟩
abbrev main_call1_call3_call0_v149 : Ref sig .tc := ⟨.hbm, 477, rfl⟩
abbrev main_call1_call3_call0_c_38 : Ref sig .tc := ⟨.hbm, 478, rfl⟩
abbrev main_call1_call3_call0_v150 : Ref sig .tc := ⟨.hbm, 479, rfl⟩
abbrev main_call1_call3_call0_v151 : Ref sig .tc := ⟨.hbm, 480, rfl⟩
abbrev main_call1_call3_call0_c_39 : Ref sig .tc := ⟨.hbm, 481, rfl⟩
abbrev main_call1_call3_call0_v152 : Ref sig .tc := ⟨.hbm, 482, rfl⟩
abbrev main_call1_call3_call0_v153 : Ref sig .tc := ⟨.hbm, 483, rfl⟩
abbrev main_call1_call3_call0_v154 : Ref sig .tc := ⟨.hbm, 484, rfl⟩
abbrev main_call1_call3_call0_v155 : Ref sig .tc := ⟨.hbm, 485, rfl⟩
abbrev main_call1_call3_call0_v156 : Ref sig .tc := ⟨.hbm, 486, rfl⟩
abbrev main_call1_call3_call0_c_40 : Ref sig .tc := ⟨.hbm, 487, rfl⟩
abbrev main_call1_call3_call0_v157 : Ref sig .tc := ⟨.hbm, 488, rfl⟩
abbrev main_call1_call3_call0_v158 : Ref sig .tc := ⟨.hbm, 489, rfl⟩
abbrev main_call1_call3_call0_c_41 : Ref sig .tc := ⟨.hbm, 490, rfl⟩
abbrev main_call1_call3_call0_v159 : Ref sig .tc := ⟨.hbm, 491, rfl⟩
abbrev main_call1_call3_call0_v160 : Ref sig .tc := ⟨.hbm, 492, rfl⟩
abbrev main_call1_call3_call0_v161 : Ref sig .tc := ⟨.hbm, 493, rfl⟩
abbrev main_call1_call3_call0_v162 : Ref sig .tc := ⟨.hbm, 494, rfl⟩
abbrev main_call1_call3_call0_v163 : Ref sig .tc := ⟨.hbm, 495, rfl⟩
abbrev main_call1_call3_call0_c_42 : Ref sig .tc := ⟨.hbm, 496, rfl⟩
abbrev main_call1_call3_call0_v164 : Ref sig .tc := ⟨.hbm, 497, rfl⟩
abbrev main_call1_call3_call0_v165 : Ref sig .tc := ⟨.hbm, 498, rfl⟩
abbrev main_call1_call3_call0_c_43 : Ref sig .tc := ⟨.hbm, 499, rfl⟩
abbrev main_call1_call3_call0_v166 : Ref sig .tc := ⟨.hbm, 500, rfl⟩
abbrev main_call1_call3_call0_v167 : Ref sig .tc := ⟨.hbm, 501, rfl⟩
abbrev main_call1_call3_call0_v168 : Ref sig .tc := ⟨.hbm, 502, rfl⟩
abbrev main_call1_call3_call0_v169 : Ref sig .tc := ⟨.hbm, 503, rfl⟩
abbrev main_call1_call3_call0_v170 : Ref sig .tc := ⟨.hbm, 504, rfl⟩
abbrev main_call1_call3_v11_0 : Ref sig .tc := ⟨.hbm, 505, rfl⟩
abbrev main_call1_call3_call0_v172 : Ref sig .tc := ⟨.hbm, 506, rfl⟩
abbrev main_call1_call3_call0_v173 : Ref sig .tc := ⟨.hbm, 507, rfl⟩
abbrev main_call1_call3_call0_c_44 : Ref sig .tc := ⟨.hbm, 508, rfl⟩
abbrev main_call1_call3_call0_v174 : Ref sig .tc := ⟨.hbm, 509, rfl⟩
abbrev main_call1_call3_v11_1 : Ref sig .tc := ⟨.hbm, 510, rfl⟩
abbrev main_call1_call3_v12 : Ref sig .tc := ⟨.hbm, 511, rfl⟩
abbrev main_call1_call3_v13 : Ref sig .tc := ⟨.hbm, 512, rfl⟩
abbrev main_call1_v8 : Ref sig .tc := ⟨.hbm, 513, rfl⟩
abbrev main_call1_v9 : Ref sig .tc := ⟨.hbm, 514, rfl⟩
abbrev main_call1_v10 : Ref sig .tc := ⟨.hbm, 515, rfl⟩
abbrev main_call1_v11 : Ref sig .tc := ⟨.hbm, 516, rfl⟩
abbrev main_call1_v12 : Ref sig .tc := ⟨.hbm, 517, rfl⟩
abbrev main_call1_v13 : Ref sig .tc := ⟨.hbm, 518, rfl⟩
abbrev main_call1_v14 : Ref sig .tc := ⟨.hbm, 519, rfl⟩
abbrev main_call1_v15 : Ref sig .tc := ⟨.hbm, 520, rfl⟩
abbrev main_call1_v16 : Ref sig .tc := ⟨.hbm, 521, rfl⟩
abbrev main_call1_v17 : Ref sig .tc := ⟨.hbm, 522, rfl⟩
abbrev main_call1_v18 : Ref sig .tc := ⟨.hbm, 523, rfl⟩
abbrev main_call1_c_6 : Ref sig .tc := ⟨.hbm, 524, rfl⟩
abbrev main_call1_v19 : Ref sig .tc := ⟨.hbm, 525, rfl⟩
abbrev main_call1_v20 : Ref sig .tc := ⟨.hbm, 526, rfl⟩
abbrev main_call1_c_7 : Ref sig .tc := ⟨.hbm, 527, rfl⟩
abbrev main_call1_v21 : Ref sig .tc := ⟨.hbm, 528, rfl⟩
abbrev main_call1_v22 : Ref sig .tc := ⟨.hbm, 529, rfl⟩
abbrev main_call1_v23 : Ref sig .tc := ⟨.hbm, 530, rfl⟩
abbrev main_call1_c_8 : Ref sig .tc := ⟨.hbm, 531, rfl⟩
abbrev main_call1_v24 : Ref sig .tc := ⟨.hbm, 532, rfl⟩
abbrev main_call1_v25 : Ref sig .tc := ⟨.hbm, 533, rfl⟩
abbrev main_call1_v26 : Ref sig .tc := ⟨.hbm, 534, rfl⟩
abbrev main_call1_v27 : Ref sig .tc := ⟨.hbm, 535, rfl⟩
abbrev main_call1_call4_v0 : Ref sig .tc := ⟨.hbm, 536, rfl⟩
abbrev main_call1_call4_c : Ref sig .tc := ⟨.hbm, 537, rfl⟩
abbrev main_call1_call4_v1 : Ref sig .tc := ⟨.hbm, 538, rfl⟩
abbrev main_call1_call4_v2 : Ref sig .tc := ⟨.hbm, 539, rfl⟩
abbrev main_call1_call4_v3 : Ref sig .tc := ⟨.hbm, 540, rfl⟩
abbrev main_call1_call4_v4 : Ref sig .tc := ⟨.hbm, 541, rfl⟩
abbrev main_call1_call4_v5 : Ref sig .tc := ⟨.hbm, 542, rfl⟩
abbrev main_call1_call4_v6 : Ref sig .tc := ⟨.hbm, 543, rfl⟩
abbrev main_call1_call4_c_0 : Ref sig .tc := ⟨.hbm, 544, rfl⟩
abbrev main_call1_call4_v7 : Ref sig .tc := ⟨.hbm, 545, rfl⟩
abbrev main_call1_call4_v8 : Ref sig .tc := ⟨.hbm, 546, rfl⟩
abbrev main_call1_call4_c_1 : Ref sig .tc := ⟨.hbm, 547, rfl⟩
abbrev main_call1_call4_v9 : Ref sig .tc := ⟨.hbm, 548, rfl⟩
abbrev main_call1_call4_v10 : Ref sig .tc := ⟨.hbm, 549, rfl⟩
abbrev main_call1_call4_v11 : Ref sig .tc := ⟨.hbm, 550, rfl⟩
abbrev main_call1_call4_v12 : Ref sig .tc := ⟨.hbm, 551, rfl⟩
abbrev main_call1_call4_v13 : Ref sig .tc := ⟨.hbm, 552, rfl⟩
abbrev main_call1_call4_c_2 : Ref sig .tc := ⟨.hbm, 553, rfl⟩
abbrev main_call1_call4_v14 : Ref sig .tc := ⟨.hbm, 554, rfl⟩
abbrev main_call1_call4_v15 : Ref sig .tc := ⟨.hbm, 555, rfl⟩
abbrev main_call1_call4_c_3 : Ref sig .tc := ⟨.hbm, 556, rfl⟩
abbrev main_call1_call4_v16 : Ref sig .tc := ⟨.hbm, 557, rfl⟩
abbrev main_call1_call4_v17 : Ref sig .tc := ⟨.hbm, 558, rfl⟩
abbrev main_call1_call4_v18 : Ref sig .tc := ⟨.hbm, 559, rfl⟩
abbrev main_call1_call4_v19 : Ref sig .tc := ⟨.hbm, 560, rfl⟩
abbrev main_call1_call4_v20 : Ref sig .tc := ⟨.hbm, 561, rfl⟩
abbrev main_call1_call4_c_4 : Ref sig .tc := ⟨.hbm, 562, rfl⟩
abbrev main_call1_call4_v21 : Ref sig .tc := ⟨.hbm, 563, rfl⟩
abbrev main_call1_call4_v22 : Ref sig .tc := ⟨.hbm, 564, rfl⟩
abbrev main_call1_call4_c_5 : Ref sig .tc := ⟨.hbm, 565, rfl⟩
abbrev main_call1_call4_v23 : Ref sig .tc := ⟨.hbm, 566, rfl⟩
abbrev main_call1_call4_v24 : Ref sig .tc := ⟨.hbm, 567, rfl⟩
abbrev main_call1_call4_v25 : Ref sig .tc := ⟨.hbm, 568, rfl⟩
abbrev main_call1_call4_v26 : Ref sig .tc := ⟨.hbm, 569, rfl⟩
abbrev main_call1_call4_v27 : Ref sig .tc := ⟨.hbm, 570, rfl⟩
abbrev main_call1_call4_c_6 : Ref sig .tc := ⟨.hbm, 571, rfl⟩
abbrev main_call1_call4_v28 : Ref sig .tc := ⟨.hbm, 572, rfl⟩
abbrev main_call1_call4_v29 : Ref sig .tc := ⟨.hbm, 573, rfl⟩
abbrev main_call1_call4_c_7 : Ref sig .tc := ⟨.hbm, 574, rfl⟩
abbrev main_call1_call4_v30 : Ref sig .tc := ⟨.hbm, 575, rfl⟩
abbrev main_call1_call4_v31 : Ref sig .tc := ⟨.hbm, 576, rfl⟩
abbrev main_call1_call4_v32 : Ref sig .tc := ⟨.hbm, 577, rfl⟩
abbrev main_call1_call4_v33 : Ref sig .tc := ⟨.hbm, 578, rfl⟩
abbrev main_call1_call4_v34 : Ref sig .tc := ⟨.hbm, 579, rfl⟩
abbrev main_call1_call4_v35 : Ref sig .tc := ⟨.hbm, 580, rfl⟩
abbrev main_call1_call4_v36 : Ref sig .tc := ⟨.hbm, 581, rfl⟩
abbrev main_call1_call4_v37 : Ref sig .tc := ⟨.hbm, 582, rfl⟩
abbrev main_call1_call4_c_8 : Ref sig .tc := ⟨.hbm, 583, rfl⟩
abbrev main_call1_call4_v38 : Ref sig .tc := ⟨.hbm, 584, rfl⟩
abbrev main_call1_call4_v39 : Ref sig .tc := ⟨.hbm, 585, rfl⟩
abbrev main_call1_call4_v40 : Ref sig .tc := ⟨.hbm, 586, rfl⟩
abbrev main_call1_call4_c_9 : Ref sig .tc := ⟨.hbm, 587, rfl⟩
abbrev main_call1_call4_v41 : Ref sig .tc := ⟨.hbm, 588, rfl⟩
abbrev main_call1_call4_v42 : Ref sig .tc := ⟨.hbm, 589, rfl⟩
abbrev main_call1_call4_c_10 : Ref sig .tc := ⟨.hbm, 590, rfl⟩
abbrev main_call1_call4_v43 : Ref sig .tc := ⟨.hbm, 591, rfl⟩
abbrev main_call1_call4_v44 : Ref sig .tc := ⟨.hbm, 592, rfl⟩
abbrev main_call1_call4_v45 : Ref sig .tc := ⟨.hbm, 593, rfl⟩
abbrev main_call1_call4_v46 : Ref sig .tc := ⟨.hbm, 594, rfl⟩
abbrev main_call1_call4_v47 : Ref sig .tc := ⟨.hbm, 595, rfl⟩
abbrev main_call1_call4_c_11 : Ref sig .tc := ⟨.hbm, 596, rfl⟩
abbrev main_call1_call4_v48 : Ref sig .tc := ⟨.hbm, 597, rfl⟩
abbrev main_call1_call4_v49 : Ref sig .tc := ⟨.hbm, 598, rfl⟩
abbrev main_call1_call4_c_12 : Ref sig .tc := ⟨.hbm, 599, rfl⟩
abbrev main_call1_call4_v50 : Ref sig .tc := ⟨.hbm, 600, rfl⟩
abbrev main_call1_call4_v51 : Ref sig .tc := ⟨.hbm, 601, rfl⟩
abbrev main_call1_call4_v52 : Ref sig .tc := ⟨.hbm, 602, rfl⟩
abbrev main_call1_call4_v53 : Ref sig .tc := ⟨.hbm, 603, rfl⟩
abbrev main_call1_call4_v54 : Ref sig .tc := ⟨.hbm, 604, rfl⟩
abbrev main_call1_call4_c_13 : Ref sig .tc := ⟨.hbm, 605, rfl⟩
abbrev main_call1_call4_v55 : Ref sig .tc := ⟨.hbm, 606, rfl⟩
abbrev main_call1_call4_v56 : Ref sig .tc := ⟨.hbm, 607, rfl⟩
abbrev main_call1_call4_c_14 : Ref sig .tc := ⟨.hbm, 608, rfl⟩
abbrev main_call1_call4_v57 : Ref sig .tc := ⟨.hbm, 609, rfl⟩
abbrev main_call1_call4_v58 : Ref sig .tc := ⟨.hbm, 610, rfl⟩
abbrev main_call1_call4_v59 : Ref sig .tc := ⟨.hbm, 611, rfl⟩
abbrev main_call1_call4_v60 : Ref sig .tc := ⟨.hbm, 612, rfl⟩
abbrev main_call1_call4_v61 : Ref sig .tc := ⟨.hbm, 613, rfl⟩
abbrev main_call1_call4_c_15 : Ref sig .tc := ⟨.hbm, 614, rfl⟩
abbrev main_call1_call4_v62 : Ref sig .tc := ⟨.hbm, 615, rfl⟩
abbrev main_call1_call4_v63 : Ref sig .tc := ⟨.hbm, 616, rfl⟩
abbrev main_call1_call4_c_16 : Ref sig .tc := ⟨.hbm, 617, rfl⟩
abbrev main_call1_call4_v64 : Ref sig .tc := ⟨.hbm, 618, rfl⟩
abbrev main_call1_call4_v65 : Ref sig .tc := ⟨.hbm, 619, rfl⟩
abbrev main_call1_call4_v66 : Ref sig .tc := ⟨.hbm, 620, rfl⟩
abbrev main_call1_call4_v67 : Ref sig .tc := ⟨.hbm, 621, rfl⟩
abbrev main_call1_call4_v68 : Ref sig .tc := ⟨.hbm, 622, rfl⟩
abbrev main_call1_call4_v69 : Ref sig .tc := ⟨.hbm, 623, rfl⟩
abbrev main_call1_call4_v70 : Ref sig .tc := ⟨.hbm, 624, rfl⟩
abbrev main_call1_call4_v71 : Ref sig .tc := ⟨.hbm, 625, rfl⟩
abbrev main_call1_call4_c_17 : Ref sig .tc := ⟨.hbm, 626, rfl⟩
abbrev main_call1_call4_v72 : Ref sig .tc := ⟨.hbm, 627, rfl⟩
abbrev main_call1_call4_v73 : Ref sig .tc := ⟨.hbm, 628, rfl⟩
abbrev main_call1_call4_v74 : Ref sig .tc := ⟨.hbm, 629, rfl⟩
abbrev main_call1_call4_c_18 : Ref sig .tc := ⟨.hbm, 630, rfl⟩
abbrev main_call1_call4_v75 : Ref sig .tc := ⟨.hbm, 631, rfl⟩
abbrev main_call1_call4_v76 : Ref sig .tc := ⟨.hbm, 632, rfl⟩
abbrev main_call1_call4_c_19 : Ref sig .tc := ⟨.hbm, 633, rfl⟩
abbrev main_call1_call4_v77 : Ref sig .tc := ⟨.hbm, 634, rfl⟩
abbrev main_call1_call4_v78 : Ref sig .tc := ⟨.hbm, 635, rfl⟩
abbrev main_call1_call4_v79 : Ref sig .tc := ⟨.hbm, 636, rfl⟩
abbrev main_call1_call4_v80 : Ref sig .tc := ⟨.hbm, 637, rfl⟩
abbrev main_call1_call4_v81 : Ref sig .tc := ⟨.hbm, 638, rfl⟩
abbrev main_call1_call4_c_20 : Ref sig .tc := ⟨.hbm, 639, rfl⟩
abbrev main_call1_call4_v82 : Ref sig .tc := ⟨.hbm, 640, rfl⟩
abbrev main_call1_call4_v83 : Ref sig .tc := ⟨.hbm, 641, rfl⟩
abbrev main_call1_call4_c_21 : Ref sig .tc := ⟨.hbm, 642, rfl⟩
abbrev main_call1_call4_v84 : Ref sig .tc := ⟨.hbm, 643, rfl⟩
abbrev main_call1_call4_v85 : Ref sig .tc := ⟨.hbm, 644, rfl⟩
abbrev main_call1_call4_v86 : Ref sig .tc := ⟨.hbm, 645, rfl⟩
abbrev main_call1_call4_v87 : Ref sig .tc := ⟨.hbm, 646, rfl⟩
abbrev main_call1_call4_v88 : Ref sig .tc := ⟨.hbm, 647, rfl⟩
abbrev main_call1_call4_c_22 : Ref sig .tc := ⟨.hbm, 648, rfl⟩
abbrev main_call1_call4_v89 : Ref sig .tc := ⟨.hbm, 649, rfl⟩
abbrev main_call1_call4_v90 : Ref sig .tc := ⟨.hbm, 650, rfl⟩
abbrev main_call1_call4_c_23 : Ref sig .tc := ⟨.hbm, 651, rfl⟩
abbrev main_call1_call4_v91 : Ref sig .tc := ⟨.hbm, 652, rfl⟩
abbrev main_call1_call4_v92 : Ref sig .tc := ⟨.hbm, 653, rfl⟩
abbrev main_call1_call4_v93 : Ref sig .tc := ⟨.hbm, 654, rfl⟩
abbrev main_call1_call4_v94 : Ref sig .tc := ⟨.hbm, 655, rfl⟩
abbrev main_call1_call4_v95 : Ref sig .tc := ⟨.hbm, 656, rfl⟩
abbrev main_call1_call4_c_24 : Ref sig .tc := ⟨.hbm, 657, rfl⟩
abbrev main_call1_call4_v96 : Ref sig .tc := ⟨.hbm, 658, rfl⟩
abbrev main_call1_call4_v97 : Ref sig .tc := ⟨.hbm, 659, rfl⟩
abbrev main_call1_call4_c_25 : Ref sig .tc := ⟨.hbm, 660, rfl⟩
abbrev main_call1_call4_v98 : Ref sig .tc := ⟨.hbm, 661, rfl⟩
abbrev main_call1_call4_v99 : Ref sig .tc := ⟨.hbm, 662, rfl⟩
abbrev main_call1_call4_v100 : Ref sig .tc := ⟨.hbm, 663, rfl⟩
abbrev main_call1_call4_v101 : Ref sig .tc := ⟨.hbm, 664, rfl⟩
abbrev main_call1_call4_v102 : Ref sig .tc := ⟨.hbm, 665, rfl⟩
abbrev main_call1_call4_v103 : Ref sig .tc := ⟨.hbm, 666, rfl⟩
abbrev main_call1_call4_v104 : Ref sig .tc := ⟨.hbm, 667, rfl⟩
abbrev main_call1_call4_v105 : Ref sig .tc := ⟨.hbm, 668, rfl⟩
abbrev main_call1_call4_c_26 : Ref sig .tc := ⟨.hbm, 669, rfl⟩
abbrev main_call1_call4_v106 : Ref sig .tc := ⟨.hbm, 670, rfl⟩
abbrev main_call1_call4_v107 : Ref sig .tc := ⟨.hbm, 671, rfl⟩
abbrev main_call1_call4_v108 : Ref sig .tc := ⟨.hbm, 672, rfl⟩
abbrev main_call1_call4_c_27 : Ref sig .tc := ⟨.hbm, 673, rfl⟩
abbrev main_call1_call4_v109 : Ref sig .tc := ⟨.hbm, 674, rfl⟩
abbrev main_call1_call4_v110 : Ref sig .tc := ⟨.hbm, 675, rfl⟩
abbrev main_call1_call4_c_28 : Ref sig .tc := ⟨.hbm, 676, rfl⟩
abbrev main_call1_call4_v111 : Ref sig .tc := ⟨.hbm, 677, rfl⟩
abbrev main_call1_call4_v112 : Ref sig .tc := ⟨.hbm, 678, rfl⟩
abbrev main_call1_call4_v113 : Ref sig .tc := ⟨.hbm, 679, rfl⟩
abbrev main_call1_call4_v114 : Ref sig .tc := ⟨.hbm, 680, rfl⟩
abbrev main_call1_call4_v115 : Ref sig .tc := ⟨.hbm, 681, rfl⟩
abbrev main_call1_call4_c_29 : Ref sig .tc := ⟨.hbm, 682, rfl⟩
abbrev main_call1_call4_v116 : Ref sig .tc := ⟨.hbm, 683, rfl⟩
abbrev main_call1_call4_v117 : Ref sig .tc := ⟨.hbm, 684, rfl⟩
abbrev main_call1_call4_c_30 : Ref sig .tc := ⟨.hbm, 685, rfl⟩
abbrev main_call1_call4_v118 : Ref sig .tc := ⟨.hbm, 686, rfl⟩
abbrev main_call1_call4_v119 : Ref sig .tc := ⟨.hbm, 687, rfl⟩
abbrev main_call1_call4_v120 : Ref sig .tc := ⟨.hbm, 688, rfl⟩
abbrev main_call1_call4_v121 : Ref sig .tc := ⟨.hbm, 689, rfl⟩
abbrev main_call1_call4_v122 : Ref sig .tc := ⟨.hbm, 690, rfl⟩
abbrev main_call1_call4_c_31 : Ref sig .tc := ⟨.hbm, 691, rfl⟩
abbrev main_call1_call4_v123 : Ref sig .tc := ⟨.hbm, 692, rfl⟩
abbrev main_call1_call4_v124 : Ref sig .tc := ⟨.hbm, 693, rfl⟩
abbrev main_call1_call4_c_32 : Ref sig .tc := ⟨.hbm, 694, rfl⟩
abbrev main_call1_call4_v125 : Ref sig .tc := ⟨.hbm, 695, rfl⟩
abbrev main_call1_call4_v126 : Ref sig .tc := ⟨.hbm, 696, rfl⟩
abbrev main_call1_call4_v127 : Ref sig .tc := ⟨.hbm, 697, rfl⟩
abbrev main_call1_call4_v128 : Ref sig .tc := ⟨.hbm, 698, rfl⟩
abbrev main_call1_call4_v129 : Ref sig .tc := ⟨.hbm, 699, rfl⟩
abbrev main_call1_call4_c_33 : Ref sig .tc := ⟨.hbm, 700, rfl⟩
abbrev main_call1_call4_v130 : Ref sig .tc := ⟨.hbm, 701, rfl⟩
abbrev main_call1_call4_v131 : Ref sig .tc := ⟨.hbm, 702, rfl⟩
abbrev main_call1_call4_c_34 : Ref sig .tc := ⟨.hbm, 703, rfl⟩
abbrev main_call1_call4_v132 : Ref sig .tc := ⟨.hbm, 704, rfl⟩
abbrev main_call1_call4_v133 : Ref sig .tc := ⟨.hbm, 705, rfl⟩
abbrev main_call1_call4_v134 : Ref sig .tc := ⟨.hbm, 706, rfl⟩
abbrev main_call1_call4_v135 : Ref sig .tc := ⟨.hbm, 707, rfl⟩
abbrev main_call1_call4_v136 : Ref sig .tc := ⟨.hbm, 708, rfl⟩
abbrev main_call1_call4_v137 : Ref sig .tc := ⟨.hbm, 709, rfl⟩
abbrev main_call1_call4_v138 : Ref sig .tc := ⟨.hbm, 710, rfl⟩
abbrev main_call1_call4_v139 : Ref sig .tc := ⟨.hbm, 711, rfl⟩
abbrev main_call1_call4_c_35 : Ref sig .tc := ⟨.hbm, 712, rfl⟩
abbrev main_call1_call4_v140 : Ref sig .tc := ⟨.hbm, 713, rfl⟩
abbrev main_call1_call4_v141 : Ref sig .tc := ⟨.hbm, 714, rfl⟩
abbrev main_call1_call4_v142 : Ref sig .tc := ⟨.hbm, 715, rfl⟩
abbrev main_call1_call4_c_36 : Ref sig .tc := ⟨.hbm, 716, rfl⟩
abbrev main_call1_call4_v143 : Ref sig .tc := ⟨.hbm, 717, rfl⟩
abbrev main_call1_call4_v144 : Ref sig .tc := ⟨.hbm, 718, rfl⟩
abbrev main_call1_call4_c_37 : Ref sig .tc := ⟨.hbm, 719, rfl⟩
abbrev main_call1_call4_v145 : Ref sig .tc := ⟨.hbm, 720, rfl⟩
abbrev main_call1_call4_v146 : Ref sig .tc := ⟨.hbm, 721, rfl⟩
abbrev main_call1_call4_v147 : Ref sig .tc := ⟨.hbm, 722, rfl⟩
abbrev main_call1_call4_v148 : Ref sig .tc := ⟨.hbm, 723, rfl⟩
abbrev main_call1_call4_v149 : Ref sig .tc := ⟨.hbm, 724, rfl⟩
abbrev main_call1_call4_c_38 : Ref sig .tc := ⟨.hbm, 725, rfl⟩
abbrev main_call1_call4_v150 : Ref sig .tc := ⟨.hbm, 726, rfl⟩
abbrev main_call1_call4_v151 : Ref sig .tc := ⟨.hbm, 727, rfl⟩
abbrev main_call1_call4_c_39 : Ref sig .tc := ⟨.hbm, 728, rfl⟩
abbrev main_call1_call4_v152 : Ref sig .tc := ⟨.hbm, 729, rfl⟩
abbrev main_call1_call4_v153 : Ref sig .tc := ⟨.hbm, 730, rfl⟩
abbrev main_call1_call4_v154 : Ref sig .tc := ⟨.hbm, 731, rfl⟩
abbrev main_call1_call4_v155 : Ref sig .tc := ⟨.hbm, 732, rfl⟩
abbrev main_call1_call4_v156 : Ref sig .tc := ⟨.hbm, 733, rfl⟩
abbrev main_call1_call4_c_40 : Ref sig .tc := ⟨.hbm, 734, rfl⟩
abbrev main_call1_call4_v157 : Ref sig .tc := ⟨.hbm, 735, rfl⟩
abbrev main_call1_call4_v158 : Ref sig .tc := ⟨.hbm, 736, rfl⟩
abbrev main_call1_call4_c_41 : Ref sig .tc := ⟨.hbm, 737, rfl⟩
abbrev main_call1_call4_v159 : Ref sig .tc := ⟨.hbm, 738, rfl⟩
abbrev main_call1_call4_v160 : Ref sig .tc := ⟨.hbm, 739, rfl⟩
abbrev main_call1_call4_v161 : Ref sig .tc := ⟨.hbm, 740, rfl⟩
abbrev main_call1_call4_v162 : Ref sig .tc := ⟨.hbm, 741, rfl⟩
abbrev main_call1_call4_v163 : Ref sig .tc := ⟨.hbm, 742, rfl⟩
abbrev main_call1_call4_c_42 : Ref sig .tc := ⟨.hbm, 743, rfl⟩
abbrev main_call1_call4_v164 : Ref sig .tc := ⟨.hbm, 744, rfl⟩
abbrev main_call1_call4_v165 : Ref sig .tc := ⟨.hbm, 745, rfl⟩
abbrev main_call1_call4_c_43 : Ref sig .tc := ⟨.hbm, 746, rfl⟩
abbrev main_call1_call4_v166 : Ref sig .tc := ⟨.hbm, 747, rfl⟩
abbrev main_call1_call4_v167 : Ref sig .tc := ⟨.hbm, 748, rfl⟩
abbrev main_call1_call4_v168 : Ref sig .tc := ⟨.hbm, 749, rfl⟩
abbrev main_call1_call4_v169 : Ref sig .tc := ⟨.hbm, 750, rfl⟩
abbrev main_call1_call4_v170 : Ref sig .tc := ⟨.hbm, 751, rfl⟩
abbrev main_call1_v28_0 : Ref sig .tc := ⟨.hbm, 752, rfl⟩
abbrev main_call1_call4_v172 : Ref sig .tc := ⟨.hbm, 753, rfl⟩
abbrev main_call1_call4_v173 : Ref sig .tc := ⟨.hbm, 754, rfl⟩
abbrev main_call1_call4_c_44 : Ref sig .tc := ⟨.hbm, 755, rfl⟩
abbrev main_call1_call4_v174 : Ref sig .tc := ⟨.hbm, 756, rfl⟩
abbrev main_call1_v28_1 : Ref sig .tc := ⟨.hbm, 757, rfl⟩
abbrev main_call1_v29 : Ref sig .tc := ⟨.hbm, 758, rfl⟩
abbrev main_call1_v30 : Ref sig .tc := ⟨.hbm, 759, rfl⟩
abbrev main_call1_v31 : Ref sig .tc := ⟨.hbm, 760, rfl⟩
abbrev main_call1_v32 : Ref sig .tc := ⟨.hbm, 761, rfl⟩
abbrev main_call1_v33 : Ref sig .tc := ⟨.hbm, 762, rfl⟩
abbrev main_call1_v34 : Ref sig .tc := ⟨.hbm, 763, rfl⟩
abbrev main_call1_v35 : Ref sig .tc := ⟨.hbm, 764, rfl⟩
abbrev main_call1_c_9 : Ref sig .tc := ⟨.hbm, 765, rfl⟩
abbrev main_call1_v36 : Ref sig .tc := ⟨.hbm, 766, rfl⟩
abbrev main_call1_v37 : Ref sig .tc := ⟨.hbm, 767, rfl⟩
abbrev main_call1_c_10 : Ref sig .tc := ⟨.hbm, 768, rfl⟩
abbrev main_call1_v38 : Ref sig .tc := ⟨.hbm, 769, rfl⟩
abbrev main_call1_v39 : Ref sig .tc := ⟨.hbm, 770, rfl⟩
abbrev main_call1_v40 : Ref sig .tc := ⟨.hbm, 771, rfl⟩
abbrev main_call1_c_11 : Ref sig .tc := ⟨.hbm, 772, rfl⟩
abbrev main_call1_v41 : Ref sig .tc := ⟨.hbm, 773, rfl⟩
abbrev main_call1_v42 : Ref sig .tc := ⟨.hbm, 774, rfl⟩
abbrev main_call1_v43 : Ref sig .tc := ⟨.hbm, 775, rfl⟩
abbrev main_call1_v44 : Ref sig .tc := ⟨.hbm, 776, rfl⟩
abbrev main_call1_call5_v0 : Ref sig .tc := ⟨.hbm, 777, rfl⟩
abbrev main_call1_call5_c : Ref sig .tc := ⟨.hbm, 778, rfl⟩
abbrev main_call1_call5_v1 : Ref sig .tc := ⟨.hbm, 779, rfl⟩
abbrev main_call1_call5_v2 : Ref sig .tc := ⟨.hbm, 780, rfl⟩
abbrev main_call1_call5_v3 : Ref sig .tc := ⟨.hbm, 781, rfl⟩
abbrev main_call1_call5_v4 : Ref sig .tc := ⟨.hbm, 782, rfl⟩
abbrev main_call1_call5_v5 : Ref sig .tc := ⟨.hbm, 783, rfl⟩
abbrev main_call1_call5_v6 : Ref sig .tc := ⟨.hbm, 784, rfl⟩
abbrev main_call1_call5_c_0 : Ref sig .tc := ⟨.hbm, 785, rfl⟩
abbrev main_call1_call5_v7 : Ref sig .tc := ⟨.hbm, 786, rfl⟩
abbrev main_call1_call5_v8 : Ref sig .tc := ⟨.hbm, 787, rfl⟩
abbrev main_call1_call5_c_1 : Ref sig .tc := ⟨.hbm, 788, rfl⟩
abbrev main_call1_call5_v9 : Ref sig .tc := ⟨.hbm, 789, rfl⟩
abbrev main_call1_call5_v10 : Ref sig .tc := ⟨.hbm, 790, rfl⟩
abbrev main_call1_call5_v11 : Ref sig .tc := ⟨.hbm, 791, rfl⟩
abbrev main_call1_call5_v12 : Ref sig .tc := ⟨.hbm, 792, rfl⟩
abbrev main_call1_call5_v13 : Ref sig .tc := ⟨.hbm, 793, rfl⟩
abbrev main_call1_call5_c_2 : Ref sig .tc := ⟨.hbm, 794, rfl⟩
abbrev main_call1_call5_v14 : Ref sig .tc := ⟨.hbm, 795, rfl⟩
abbrev main_call1_call5_v15 : Ref sig .tc := ⟨.hbm, 796, rfl⟩
abbrev main_call1_call5_c_3 : Ref sig .tc := ⟨.hbm, 797, rfl⟩
abbrev main_call1_call5_v16 : Ref sig .tc := ⟨.hbm, 798, rfl⟩
abbrev main_call1_call5_v17 : Ref sig .tc := ⟨.hbm, 799, rfl⟩
abbrev main_call1_call5_v18 : Ref sig .tc := ⟨.hbm, 800, rfl⟩
abbrev main_call1_call5_v19 : Ref sig .tc := ⟨.hbm, 801, rfl⟩
abbrev main_call1_call5_v20 : Ref sig .tc := ⟨.hbm, 802, rfl⟩
abbrev main_call1_call5_c_4 : Ref sig .tc := ⟨.hbm, 803, rfl⟩
abbrev main_call1_call5_v21 : Ref sig .tc := ⟨.hbm, 804, rfl⟩
abbrev main_call1_call5_v22 : Ref sig .tc := ⟨.hbm, 805, rfl⟩
abbrev main_call1_call5_c_5 : Ref sig .tc := ⟨.hbm, 806, rfl⟩
abbrev main_call1_call5_v23 : Ref sig .tc := ⟨.hbm, 807, rfl⟩
abbrev main_call1_call5_v24 : Ref sig .tc := ⟨.hbm, 808, rfl⟩
abbrev main_call1_call5_v25 : Ref sig .tc := ⟨.hbm, 809, rfl⟩
abbrev main_call1_call5_v26 : Ref sig .tc := ⟨.hbm, 810, rfl⟩
abbrev main_call1_call5_v27 : Ref sig .tc := ⟨.hbm, 811, rfl⟩
abbrev main_call1_call5_c_6 : Ref sig .tc := ⟨.hbm, 812, rfl⟩
abbrev main_call1_call5_v28 : Ref sig .tc := ⟨.hbm, 813, rfl⟩
abbrev main_call1_call5_v29 : Ref sig .tc := ⟨.hbm, 814, rfl⟩
abbrev main_call1_call5_c_7 : Ref sig .tc := ⟨.hbm, 815, rfl⟩
abbrev main_call1_call5_v30 : Ref sig .tc := ⟨.hbm, 816, rfl⟩
abbrev main_call1_call5_v31 : Ref sig .tc := ⟨.hbm, 817, rfl⟩
abbrev main_call1_call5_v32 : Ref sig .tc := ⟨.hbm, 818, rfl⟩
abbrev main_call1_call5_v33 : Ref sig .tc := ⟨.hbm, 819, rfl⟩
abbrev main_call1_call5_v34 : Ref sig .tc := ⟨.hbm, 820, rfl⟩
abbrev main_call1_call5_v35 : Ref sig .tc := ⟨.hbm, 821, rfl⟩
abbrev main_call1_call5_v36 : Ref sig .tc := ⟨.hbm, 822, rfl⟩
abbrev main_call1_call5_v37 : Ref sig .tc := ⟨.hbm, 823, rfl⟩
abbrev main_call1_call5_c_8 : Ref sig .tc := ⟨.hbm, 824, rfl⟩
abbrev main_call1_call5_v38 : Ref sig .tc := ⟨.hbm, 825, rfl⟩
abbrev main_call1_call5_v39 : Ref sig .tc := ⟨.hbm, 826, rfl⟩
abbrev main_call1_call5_v40 : Ref sig .tc := ⟨.hbm, 827, rfl⟩
abbrev main_call1_call5_c_9 : Ref sig .tc := ⟨.hbm, 828, rfl⟩
abbrev main_call1_call5_v41 : Ref sig .tc := ⟨.hbm, 829, rfl⟩
abbrev main_call1_call5_v42 : Ref sig .tc := ⟨.hbm, 830, rfl⟩
abbrev main_call1_call5_c_10 : Ref sig .tc := ⟨.hbm, 831, rfl⟩
abbrev main_call1_call5_v43 : Ref sig .tc := ⟨.hbm, 832, rfl⟩
abbrev main_call1_call5_v44 : Ref sig .tc := ⟨.hbm, 833, rfl⟩
abbrev main_call1_call5_v45 : Ref sig .tc := ⟨.hbm, 834, rfl⟩
abbrev main_call1_call5_v46 : Ref sig .tc := ⟨.hbm, 835, rfl⟩
abbrev main_call1_call5_v47 : Ref sig .tc := ⟨.hbm, 836, rfl⟩
abbrev main_call1_call5_c_11 : Ref sig .tc := ⟨.hbm, 837, rfl⟩
abbrev main_call1_call5_v48 : Ref sig .tc := ⟨.hbm, 838, rfl⟩
abbrev main_call1_call5_v49 : Ref sig .tc := ⟨.hbm, 839, rfl⟩
abbrev main_call1_call5_c_12 : Ref sig .tc := ⟨.hbm, 840, rfl⟩
abbrev main_call1_call5_v50 : Ref sig .tc := ⟨.hbm, 841, rfl⟩
abbrev main_call1_call5_v51 : Ref sig .tc := ⟨.hbm, 842, rfl⟩
abbrev main_call1_call5_v52 : Ref sig .tc := ⟨.hbm, 843, rfl⟩
abbrev main_call1_call5_v53 : Ref sig .tc := ⟨.hbm, 844, rfl⟩
abbrev main_call1_call5_v54 : Ref sig .tc := ⟨.hbm, 845, rfl⟩
abbrev main_call1_call5_c_13 : Ref sig .tc := ⟨.hbm, 846, rfl⟩
abbrev main_call1_call5_v55 : Ref sig .tc := ⟨.hbm, 847, rfl⟩
abbrev main_call1_call5_v56 : Ref sig .tc := ⟨.hbm, 848, rfl⟩
abbrev main_call1_call5_c_14 : Ref sig .tc := ⟨.hbm, 849, rfl⟩
abbrev main_call1_call5_v57 : Ref sig .tc := ⟨.hbm, 850, rfl⟩
abbrev main_call1_call5_v58 : Ref sig .tc := ⟨.hbm, 851, rfl⟩
abbrev main_call1_call5_v59 : Ref sig .tc := ⟨.hbm, 852, rfl⟩
abbrev main_call1_call5_v60 : Ref sig .tc := ⟨.hbm, 853, rfl⟩
abbrev main_call1_call5_v61 : Ref sig .tc := ⟨.hbm, 854, rfl⟩
abbrev main_call1_call5_c_15 : Ref sig .tc := ⟨.hbm, 855, rfl⟩
abbrev main_call1_call5_v62 : Ref sig .tc := ⟨.hbm, 856, rfl⟩
abbrev main_call1_call5_v63 : Ref sig .tc := ⟨.hbm, 857, rfl⟩
abbrev main_call1_call5_c_16 : Ref sig .tc := ⟨.hbm, 858, rfl⟩
abbrev main_call1_call5_v64 : Ref sig .tc := ⟨.hbm, 859, rfl⟩
abbrev main_call1_call5_v65 : Ref sig .tc := ⟨.hbm, 860, rfl⟩
abbrev main_call1_call5_v66 : Ref sig .tc := ⟨.hbm, 861, rfl⟩
abbrev main_call1_call5_v67 : Ref sig .tc := ⟨.hbm, 862, rfl⟩
abbrev main_call1_call5_v68 : Ref sig .tc := ⟨.hbm, 863, rfl⟩
abbrev main_call1_call5_v69 : Ref sig .tc := ⟨.hbm, 864, rfl⟩
abbrev main_call1_call5_v70 : Ref sig .tc := ⟨.hbm, 865, rfl⟩
abbrev main_call1_call5_v71 : Ref sig .tc := ⟨.hbm, 866, rfl⟩
abbrev main_call1_call5_c_17 : Ref sig .tc := ⟨.hbm, 867, rfl⟩
abbrev main_call1_call5_v72 : Ref sig .tc := ⟨.hbm, 868, rfl⟩
abbrev main_call1_call5_v73 : Ref sig .tc := ⟨.hbm, 869, rfl⟩
abbrev main_call1_call5_v74 : Ref sig .tc := ⟨.hbm, 870, rfl⟩
abbrev main_call1_call5_c_18 : Ref sig .tc := ⟨.hbm, 871, rfl⟩
abbrev main_call1_call5_v75 : Ref sig .tc := ⟨.hbm, 872, rfl⟩
abbrev main_call1_call5_v76 : Ref sig .tc := ⟨.hbm, 873, rfl⟩
abbrev main_call1_call5_c_19 : Ref sig .tc := ⟨.hbm, 874, rfl⟩
abbrev main_call1_call5_v77 : Ref sig .tc := ⟨.hbm, 875, rfl⟩
abbrev main_call1_call5_v78 : Ref sig .tc := ⟨.hbm, 876, rfl⟩
abbrev main_call1_call5_v79 : Ref sig .tc := ⟨.hbm, 877, rfl⟩
abbrev main_call1_call5_v80 : Ref sig .tc := ⟨.hbm, 878, rfl⟩
abbrev main_call1_call5_v81 : Ref sig .tc := ⟨.hbm, 879, rfl⟩
abbrev main_call1_call5_c_20 : Ref sig .tc := ⟨.hbm, 880, rfl⟩
abbrev main_call1_call5_v82 : Ref sig .tc := ⟨.hbm, 881, rfl⟩
abbrev main_call1_call5_v83 : Ref sig .tc := ⟨.hbm, 882, rfl⟩
abbrev main_call1_call5_c_21 : Ref sig .tc := ⟨.hbm, 883, rfl⟩
abbrev main_call1_call5_v84 : Ref sig .tc := ⟨.hbm, 884, rfl⟩
abbrev main_call1_call5_v85 : Ref sig .tc := ⟨.hbm, 885, rfl⟩
abbrev main_call1_call5_v86 : Ref sig .tc := ⟨.hbm, 886, rfl⟩
abbrev main_call1_call5_v87 : Ref sig .tc := ⟨.hbm, 887, rfl⟩
abbrev main_call1_call5_v88 : Ref sig .tc := ⟨.hbm, 888, rfl⟩
abbrev main_call1_call5_c_22 : Ref sig .tc := ⟨.hbm, 889, rfl⟩
abbrev main_call1_call5_v89 : Ref sig .tc := ⟨.hbm, 890, rfl⟩
abbrev main_call1_call5_v90 : Ref sig .tc := ⟨.hbm, 891, rfl⟩
abbrev main_call1_call5_c_23 : Ref sig .tc := ⟨.hbm, 892, rfl⟩
abbrev main_call1_call5_v91 : Ref sig .tc := ⟨.hbm, 893, rfl⟩
abbrev main_call1_call5_v92 : Ref sig .tc := ⟨.hbm, 894, rfl⟩
abbrev main_call1_call5_v93 : Ref sig .tc := ⟨.hbm, 895, rfl⟩
abbrev main_call1_call5_v94 : Ref sig .tc := ⟨.hbm, 896, rfl⟩
abbrev main_call1_call5_v95 : Ref sig .tc := ⟨.hbm, 897, rfl⟩
abbrev main_call1_call5_c_24 : Ref sig .tc := ⟨.hbm, 898, rfl⟩
abbrev main_call1_call5_v96 : Ref sig .tc := ⟨.hbm, 899, rfl⟩
abbrev main_call1_call5_v97 : Ref sig .tc := ⟨.hbm, 900, rfl⟩
abbrev main_call1_call5_c_25 : Ref sig .tc := ⟨.hbm, 901, rfl⟩
abbrev main_call1_call5_v98 : Ref sig .tc := ⟨.hbm, 902, rfl⟩
abbrev main_call1_call5_v99 : Ref sig .tc := ⟨.hbm, 903, rfl⟩
abbrev main_call1_call5_v100 : Ref sig .tc := ⟨.hbm, 904, rfl⟩
abbrev main_call1_call5_v101 : Ref sig .tc := ⟨.hbm, 905, rfl⟩
abbrev main_call1_call5_v102 : Ref sig .tc := ⟨.hbm, 906, rfl⟩
abbrev main_call1_call5_v103 : Ref sig .tc := ⟨.hbm, 907, rfl⟩
abbrev main_call1_call5_v104 : Ref sig .tc := ⟨.hbm, 908, rfl⟩
abbrev main_call1_call5_v105 : Ref sig .tc := ⟨.hbm, 909, rfl⟩
abbrev main_call1_call5_c_26 : Ref sig .tc := ⟨.hbm, 910, rfl⟩
abbrev main_call1_call5_v106 : Ref sig .tc := ⟨.hbm, 911, rfl⟩
abbrev main_call1_call5_v107 : Ref sig .tc := ⟨.hbm, 912, rfl⟩
abbrev main_call1_call5_v108 : Ref sig .tc := ⟨.hbm, 913, rfl⟩
abbrev main_call1_call5_c_27 : Ref sig .tc := ⟨.hbm, 914, rfl⟩
abbrev main_call1_call5_v109 : Ref sig .tc := ⟨.hbm, 915, rfl⟩
abbrev main_call1_call5_v110 : Ref sig .tc := ⟨.hbm, 916, rfl⟩
abbrev main_call1_call5_c_28 : Ref sig .tc := ⟨.hbm, 917, rfl⟩
abbrev main_call1_call5_v111 : Ref sig .tc := ⟨.hbm, 918, rfl⟩
abbrev main_call1_call5_v112 : Ref sig .tc := ⟨.hbm, 919, rfl⟩
abbrev main_call1_call5_v113 : Ref sig .tc := ⟨.hbm, 920, rfl⟩
abbrev main_call1_call5_v114 : Ref sig .tc := ⟨.hbm, 921, rfl⟩
abbrev main_call1_call5_v115 : Ref sig .tc := ⟨.hbm, 922, rfl⟩
abbrev main_call1_call5_c_29 : Ref sig .tc := ⟨.hbm, 923, rfl⟩
abbrev main_call1_call5_v116 : Ref sig .tc := ⟨.hbm, 924, rfl⟩
abbrev main_call1_call5_v117 : Ref sig .tc := ⟨.hbm, 925, rfl⟩
abbrev main_call1_call5_c_30 : Ref sig .tc := ⟨.hbm, 926, rfl⟩
abbrev main_call1_call5_v118 : Ref sig .tc := ⟨.hbm, 927, rfl⟩
abbrev main_call1_call5_v119 : Ref sig .tc := ⟨.hbm, 928, rfl⟩
abbrev main_call1_call5_v120 : Ref sig .tc := ⟨.hbm, 929, rfl⟩
abbrev main_call1_call5_v121 : Ref sig .tc := ⟨.hbm, 930, rfl⟩
abbrev main_call1_call5_v122 : Ref sig .tc := ⟨.hbm, 931, rfl⟩
abbrev main_call1_call5_c_31 : Ref sig .tc := ⟨.hbm, 932, rfl⟩
abbrev main_call1_call5_v123 : Ref sig .tc := ⟨.hbm, 933, rfl⟩
abbrev main_call1_call5_v124 : Ref sig .tc := ⟨.hbm, 934, rfl⟩
abbrev main_call1_call5_c_32 : Ref sig .tc := ⟨.hbm, 935, rfl⟩
abbrev main_call1_call5_v125 : Ref sig .tc := ⟨.hbm, 936, rfl⟩
abbrev main_call1_call5_v126 : Ref sig .tc := ⟨.hbm, 937, rfl⟩
abbrev main_call1_call5_v127 : Ref sig .tc := ⟨.hbm, 938, rfl⟩
abbrev main_call1_call5_v128 : Ref sig .tc := ⟨.hbm, 939, rfl⟩
abbrev main_call1_call5_v129 : Ref sig .tc := ⟨.hbm, 940, rfl⟩
abbrev main_call1_call5_c_33 : Ref sig .tc := ⟨.hbm, 941, rfl⟩
abbrev main_call1_call5_v130 : Ref sig .tc := ⟨.hbm, 942, rfl⟩
abbrev main_call1_call5_v131 : Ref sig .tc := ⟨.hbm, 943, rfl⟩
abbrev main_call1_call5_c_34 : Ref sig .tc := ⟨.hbm, 944, rfl⟩
abbrev main_call1_call5_v132 : Ref sig .tc := ⟨.hbm, 945, rfl⟩
abbrev main_call1_call5_v133 : Ref sig .tc := ⟨.hbm, 946, rfl⟩
abbrev main_call1_call5_v134 : Ref sig .tc := ⟨.hbm, 947, rfl⟩
abbrev main_call1_call5_v135 : Ref sig .tc := ⟨.hbm, 948, rfl⟩
abbrev main_call1_call5_v136 : Ref sig .tc := ⟨.hbm, 949, rfl⟩
abbrev main_call1_call5_v137 : Ref sig .tc := ⟨.hbm, 950, rfl⟩
abbrev main_call1_call5_v138 : Ref sig .tc := ⟨.hbm, 951, rfl⟩
abbrev main_call1_call5_v139 : Ref sig .tc := ⟨.hbm, 952, rfl⟩
abbrev main_call1_call5_c_35 : Ref sig .tc := ⟨.hbm, 953, rfl⟩
abbrev main_call1_call5_v140 : Ref sig .tc := ⟨.hbm, 954, rfl⟩
abbrev main_call1_call5_v141 : Ref sig .tc := ⟨.hbm, 955, rfl⟩
abbrev main_call1_call5_v142 : Ref sig .tc := ⟨.hbm, 956, rfl⟩
abbrev main_call1_call5_c_36 : Ref sig .tc := ⟨.hbm, 957, rfl⟩
abbrev main_call1_call5_v143 : Ref sig .tc := ⟨.hbm, 958, rfl⟩
abbrev main_call1_call5_v144 : Ref sig .tc := ⟨.hbm, 959, rfl⟩
abbrev main_call1_call5_c_37 : Ref sig .tc := ⟨.hbm, 960, rfl⟩
abbrev main_call1_call5_v145 : Ref sig .tc := ⟨.hbm, 961, rfl⟩
abbrev main_call1_call5_v146 : Ref sig .tc := ⟨.hbm, 962, rfl⟩
abbrev main_call1_call5_v147 : Ref sig .tc := ⟨.hbm, 963, rfl⟩
abbrev main_call1_call5_v148 : Ref sig .tc := ⟨.hbm, 964, rfl⟩
abbrev main_call1_call5_v149 : Ref sig .tc := ⟨.hbm, 965, rfl⟩
abbrev main_call1_call5_c_38 : Ref sig .tc := ⟨.hbm, 966, rfl⟩
abbrev main_call1_call5_v150 : Ref sig .tc := ⟨.hbm, 967, rfl⟩
abbrev main_call1_call5_v151 : Ref sig .tc := ⟨.hbm, 968, rfl⟩
abbrev main_call1_call5_c_39 : Ref sig .tc := ⟨.hbm, 969, rfl⟩
abbrev main_call1_call5_v152 : Ref sig .tc := ⟨.hbm, 970, rfl⟩
abbrev main_call1_call5_v153 : Ref sig .tc := ⟨.hbm, 971, rfl⟩
abbrev main_call1_call5_v154 : Ref sig .tc := ⟨.hbm, 972, rfl⟩
abbrev main_call1_call5_v155 : Ref sig .tc := ⟨.hbm, 973, rfl⟩
abbrev main_call1_call5_v156 : Ref sig .tc := ⟨.hbm, 974, rfl⟩
abbrev main_call1_call5_c_40 : Ref sig .tc := ⟨.hbm, 975, rfl⟩
abbrev main_call1_call5_v157 : Ref sig .tc := ⟨.hbm, 976, rfl⟩
abbrev main_call1_call5_v158 : Ref sig .tc := ⟨.hbm, 977, rfl⟩
abbrev main_call1_call5_c_41 : Ref sig .tc := ⟨.hbm, 978, rfl⟩
abbrev main_call1_call5_v159 : Ref sig .tc := ⟨.hbm, 979, rfl⟩
abbrev main_call1_call5_v160 : Ref sig .tc := ⟨.hbm, 980, rfl⟩
abbrev main_call1_call5_v161 : Ref sig .tc := ⟨.hbm, 981, rfl⟩
abbrev main_call1_call5_v162 : Ref sig .tc := ⟨.hbm, 982, rfl⟩
abbrev main_call1_call5_v163 : Ref sig .tc := ⟨.hbm, 983, rfl⟩
abbrev main_call1_call5_c_42 : Ref sig .tc := ⟨.hbm, 984, rfl⟩
abbrev main_call1_call5_v164 : Ref sig .tc := ⟨.hbm, 985, rfl⟩
abbrev main_call1_call5_v165 : Ref sig .tc := ⟨.hbm, 986, rfl⟩
abbrev main_call1_call5_c_43 : Ref sig .tc := ⟨.hbm, 987, rfl⟩
abbrev main_call1_call5_v166 : Ref sig .tc := ⟨.hbm, 988, rfl⟩
abbrev main_call1_call5_v167 : Ref sig .tc := ⟨.hbm, 989, rfl⟩
abbrev main_call1_call5_v168 : Ref sig .tc := ⟨.hbm, 990, rfl⟩
abbrev main_call1_call5_v169 : Ref sig .tc := ⟨.hbm, 991, rfl⟩
abbrev main_call1_call5_v170 : Ref sig .tc := ⟨.hbm, 992, rfl⟩
abbrev main_call1_v45_0 : Ref sig .tc := ⟨.hbm, 993, rfl⟩
abbrev main_call1_call5_v172 : Ref sig .tc := ⟨.hbm, 994, rfl⟩
abbrev main_call1_call5_v173 : Ref sig .tc := ⟨.hbm, 995, rfl⟩
abbrev main_call1_call5_c_44 : Ref sig .tc := ⟨.hbm, 996, rfl⟩
abbrev main_call1_call5_v174 : Ref sig .tc := ⟨.hbm, 997, rfl⟩
abbrev main_call1_v45_1 : Ref sig .tc := ⟨.hbm, 998, rfl⟩
abbrev main_call1_v46 : Ref sig .tc := ⟨.hbm, 999, rfl⟩
abbrev main_call1_v47 : Ref sig .tc := ⟨.hbm, 1000, rfl⟩
abbrev main_call1_v48 : Ref sig .tc := ⟨.hbm, 1001, rfl⟩
abbrev main_call1_v49 : Ref sig .tc := ⟨.hbm, 1002, rfl⟩
abbrev main_call1_c_12 : Ref sig .tc := ⟨.hbm, 1003, rfl⟩
abbrev main_call1_v50 : Ref sig .tc := ⟨.hbm, 1004, rfl⟩
abbrev main_call1_v51 : Ref sig .tc := ⟨.hbm, 1005, rfl⟩
abbrev main_call1_v52 : Ref sig .tc := ⟨.hbm, 1006, rfl⟩
abbrev main_call1_v53 : Ref sig .tc := ⟨.hbm, 1007, rfl⟩
abbrev main_call1_v54 : Ref sig .tc := ⟨.hbm, 1008, rfl⟩
abbrev main_call1_c_13 : Ref sig .tc := ⟨.hbm, 1009, rfl⟩
abbrev main_call1_v55 : Ref sig .tc := ⟨.hbm, 1010, rfl⟩
abbrev main_call1_v56 : Ref sig .tc := ⟨.hbm, 1011, rfl⟩
abbrev main_call1_v57 : Ref sig .tc := ⟨.hbm, 1012, rfl⟩
abbrev main_call1_c_14 : Ref sig .tc := ⟨.hbm, 1013, rfl⟩
abbrev main_call1_v58 : Ref sig .tc := ⟨.hbm, 1014, rfl⟩
abbrev main_call1_v59 : Ref sig .tc := ⟨.hbm, 1015, rfl⟩
abbrev main_call1_v60 : Ref sig .tc := ⟨.hbm, 1016, rfl⟩
abbrev main_call1_v61 : Ref sig .tc := ⟨.hbm, 1017, rfl⟩
abbrev main_call1_v62 : Ref sig .tc := ⟨.hbm, 1018, rfl⟩
abbrev main_call1_v63 : Ref sig .tc := ⟨.hbm, 1019, rfl⟩
abbrev main_call1_v64 : Ref sig .tc := ⟨.hbm, 1020, rfl⟩
abbrev main_call1_v65 : Ref sig .tc := ⟨.hbm, 1021, rfl⟩
abbrev main_call1_v66 : Ref sig .tc := ⟨.hbm, 1022, rfl⟩
abbrev main_call1_v67 : Ref sig .tc := ⟨.hbm, 1023, rfl⟩
abbrev main_call1_v68 : Ref sig .tc := ⟨.hbm, 1024, rfl⟩
abbrev main_call1_v69 : Ref sig .tc := ⟨.hbm, 1025, rfl⟩
abbrev main_call1_v70 : Ref sig .tc := ⟨.hbm, 1026, rfl⟩
abbrev main_call1_v71 : Ref sig .tc := ⟨.hbm, 1027, rfl⟩
abbrev main_call1_v72 : Ref sig .tc := ⟨.hbm, 1028, rfl⟩
abbrev main_v14 : Ref sig .tc := ⟨.hbm, 1029, rfl⟩
abbrev main_c_4 : Ref sig .tc := ⟨.hbm, 1030, rfl⟩
abbrev main_c_5 : Ref sig .tc := ⟨.hbm, 1031, rfl⟩
abbrev main_call2_c : Ref sig .tc := ⟨.hbm, 1032, rfl⟩
abbrev main_call2_c_0 : Ref sig .tc := ⟨.hbm, 1033, rfl⟩
abbrev main_call2_c_1 : Ref sig .tc := ⟨.hbm, 1034, rfl⟩
abbrev main_call2_call0_v0 : Ref sig .tc := ⟨.hbm, 1035, rfl⟩
abbrev main_call2_v0 : Ref sig .tc := ⟨.hbm, 1036, rfl⟩
abbrev main_call2_v1 : Ref sig .tc := ⟨.hbm, 1037, rfl⟩
abbrev main_call2_c_2 : Ref sig .tc := ⟨.hbm, 1038, rfl⟩
abbrev main_call2_c_3 : Ref sig .tc := ⟨.hbm, 1039, rfl⟩
abbrev main_call2_call1_v0 : Ref sig .tc := ⟨.hbm, 1040, rfl⟩
abbrev main_call2_v2 : Ref sig .tc := ⟨.hbm, 1041, rfl⟩
abbrev main_call2_v3 : Ref sig .tc := ⟨.hbm, 1042, rfl⟩
abbrev main_call2_c_4 : Ref sig .tc := ⟨.hbm, 1043, rfl⟩
abbrev main_call2_c_5 : Ref sig .tc := ⟨.hbm, 1044, rfl⟩
abbrev main_call2_call2_v0 : Ref sig .tc := ⟨.hbm, 1045, rfl⟩
abbrev main_call2_v4 : Ref sig .tc := ⟨.hbm, 1046, rfl⟩
abbrev main_call2_v5 : Ref sig .tc := ⟨.hbm, 1047, rfl⟩
abbrev main_call2_v6 : Ref sig .tc := ⟨.hbm, 1048, rfl⟩
abbrev main_call2_v7 : Ref sig .tc := ⟨.hbm, 1049, rfl⟩
abbrev main_call2_call3_v0 : Ref sig .tc := ⟨.hbm, 1050, rfl⟩
abbrev main_call2_call3_v1 : Ref sig .tc := ⟨.hbm, 1051, rfl⟩
abbrev main_call2_call3_v2 : Ref sig .tc := ⟨.hbm, 1052, rfl⟩
abbrev main_call2_call3_v3 : Ref sig .tc := ⟨.hbm, 1053, rfl⟩
abbrev main_call2_call3_v4 : Ref sig .tc := ⟨.hbm, 1054, rfl⟩
abbrev main_call2_call3_c : Ref sig .tc := ⟨.hbm, 1055, rfl⟩
abbrev main_call2_call3_v5 : Ref sig .tc := ⟨.hbm, 1056, rfl⟩
abbrev main_call2_call3_v6 : Ref sig .tc := ⟨.hbm, 1057, rfl⟩
abbrev main_call2_call3_c_0 : Ref sig .tc := ⟨.hbm, 1058, rfl⟩
abbrev main_call2_call3_v7 : Ref sig .tc := ⟨.hbm, 1059, rfl⟩
abbrev main_call2_call3_v8 : Ref sig .tc := ⟨.hbm, 1060, rfl⟩
abbrev main_call2_call3_v9 : Ref sig .tc := ⟨.hbm, 1061, rfl⟩
abbrev main_call2_call3_v10 : Ref sig .tc := ⟨.hbm, 1062, rfl⟩
abbrev main_call2_call3_call0_v0 : Ref sig .tc := ⟨.hbm, 1063, rfl⟩
abbrev main_call2_call3_call0_c : Ref sig .tc := ⟨.hbm, 1064, rfl⟩
abbrev main_call2_call3_call0_v1 : Ref sig .tc := ⟨.hbm, 1065, rfl⟩
abbrev main_call2_call3_call0_v2 : Ref sig .tc := ⟨.hbm, 1066, rfl⟩
abbrev main_call2_call3_call0_v3 : Ref sig .tc := ⟨.hbm, 1067, rfl⟩
abbrev main_call2_call3_call0_v4 : Ref sig .tc := ⟨.hbm, 1068, rfl⟩
abbrev main_call2_call3_call0_v5 : Ref sig .tc := ⟨.hbm, 1069, rfl⟩
abbrev main_call2_call3_call0_v6 : Ref sig .tc := ⟨.hbm, 1070, rfl⟩
abbrev main_call2_call3_call0_c_0 : Ref sig .tc := ⟨.hbm, 1071, rfl⟩
abbrev main_call2_call3_call0_v7 : Ref sig .tc := ⟨.hbm, 1072, rfl⟩
abbrev main_call2_call3_call0_v8 : Ref sig .tc := ⟨.hbm, 1073, rfl⟩
abbrev main_call2_call3_call0_c_1 : Ref sig .tc := ⟨.hbm, 1074, rfl⟩
abbrev main_call2_call3_call0_v9 : Ref sig .tc := ⟨.hbm, 1075, rfl⟩
abbrev main_call2_call3_call0_v10 : Ref sig .tc := ⟨.hbm, 1076, rfl⟩
abbrev main_call2_call3_call0_v11 : Ref sig .tc := ⟨.hbm, 1077, rfl⟩
abbrev main_call2_call3_call0_v12 : Ref sig .tc := ⟨.hbm, 1078, rfl⟩
abbrev main_call2_call3_call0_v13 : Ref sig .tc := ⟨.hbm, 1079, rfl⟩
abbrev main_call2_call3_call0_c_2 : Ref sig .tc := ⟨.hbm, 1080, rfl⟩
abbrev main_call2_call3_call0_v14 : Ref sig .tc := ⟨.hbm, 1081, rfl⟩
abbrev main_call2_call3_call0_v15 : Ref sig .tc := ⟨.hbm, 1082, rfl⟩
abbrev main_call2_call3_call0_c_3 : Ref sig .tc := ⟨.hbm, 1083, rfl⟩
abbrev main_call2_call3_call0_v16 : Ref sig .tc := ⟨.hbm, 1084, rfl⟩
abbrev main_call2_call3_call0_v17 : Ref sig .tc := ⟨.hbm, 1085, rfl⟩
abbrev main_call2_call3_call0_v18 : Ref sig .tc := ⟨.hbm, 1086, rfl⟩
abbrev main_call2_call3_call0_v19 : Ref sig .tc := ⟨.hbm, 1087, rfl⟩
abbrev main_call2_call3_call0_v20 : Ref sig .tc := ⟨.hbm, 1088, rfl⟩
abbrev main_call2_call3_call0_c_4 : Ref sig .tc := ⟨.hbm, 1089, rfl⟩
abbrev main_call2_call3_call0_v21 : Ref sig .tc := ⟨.hbm, 1090, rfl⟩
abbrev main_call2_call3_call0_v22 : Ref sig .tc := ⟨.hbm, 1091, rfl⟩
abbrev main_call2_call3_call0_c_5 : Ref sig .tc := ⟨.hbm, 1092, rfl⟩
abbrev main_call2_call3_call0_v23 : Ref sig .tc := ⟨.hbm, 1093, rfl⟩
abbrev main_call2_call3_call0_v24 : Ref sig .tc := ⟨.hbm, 1094, rfl⟩
abbrev main_call2_call3_call0_v25 : Ref sig .tc := ⟨.hbm, 1095, rfl⟩
abbrev main_call2_call3_call0_v26 : Ref sig .tc := ⟨.hbm, 1096, rfl⟩
abbrev main_call2_call3_call0_v27 : Ref sig .tc := ⟨.hbm, 1097, rfl⟩
abbrev main_call2_call3_call0_c_6 : Ref sig .tc := ⟨.hbm, 1098, rfl⟩
abbrev main_call2_call3_call0_v28 : Ref sig .tc := ⟨.hbm, 1099, rfl⟩
abbrev main_call2_call3_call0_v29 : Ref sig .tc := ⟨.hbm, 1100, rfl⟩
abbrev main_call2_call3_call0_c_7 : Ref sig .tc := ⟨.hbm, 1101, rfl⟩
abbrev main_call2_call3_call0_v30 : Ref sig .tc := ⟨.hbm, 1102, rfl⟩
abbrev main_call2_call3_call0_v31 : Ref sig .tc := ⟨.hbm, 1103, rfl⟩
abbrev main_call2_call3_call0_v32 : Ref sig .tc := ⟨.hbm, 1104, rfl⟩
abbrev main_call2_call3_call0_v33 : Ref sig .tc := ⟨.hbm, 1105, rfl⟩
abbrev main_call2_call3_call0_v34 : Ref sig .tc := ⟨.hbm, 1106, rfl⟩
abbrev main_call2_call3_call0_v35 : Ref sig .tc := ⟨.hbm, 1107, rfl⟩
abbrev main_call2_call3_call0_v36 : Ref sig .tc := ⟨.hbm, 1108, rfl⟩
abbrev main_call2_call3_call0_v37 : Ref sig .tc := ⟨.hbm, 1109, rfl⟩
abbrev main_call2_call3_call0_c_8 : Ref sig .tc := ⟨.hbm, 1110, rfl⟩
abbrev main_call2_call3_call0_v38 : Ref sig .tc := ⟨.hbm, 1111, rfl⟩
abbrev main_call2_call3_call0_v39 : Ref sig .tc := ⟨.hbm, 1112, rfl⟩
abbrev main_call2_call3_call0_v40 : Ref sig .tc := ⟨.hbm, 1113, rfl⟩
abbrev main_call2_call3_call0_c_9 : Ref sig .tc := ⟨.hbm, 1114, rfl⟩
abbrev main_call2_call3_call0_v41 : Ref sig .tc := ⟨.hbm, 1115, rfl⟩
abbrev main_call2_call3_call0_v42 : Ref sig .tc := ⟨.hbm, 1116, rfl⟩
abbrev main_call2_call3_call0_c_10 : Ref sig .tc := ⟨.hbm, 1117, rfl⟩
abbrev main_call2_call3_call0_v43 : Ref sig .tc := ⟨.hbm, 1118, rfl⟩
abbrev main_call2_call3_call0_v44 : Ref sig .tc := ⟨.hbm, 1119, rfl⟩
abbrev main_call2_call3_call0_v45 : Ref sig .tc := ⟨.hbm, 1120, rfl⟩
abbrev main_call2_call3_call0_v46 : Ref sig .tc := ⟨.hbm, 1121, rfl⟩
abbrev main_call2_call3_call0_v47 : Ref sig .tc := ⟨.hbm, 1122, rfl⟩
abbrev main_call2_call3_call0_c_11 : Ref sig .tc := ⟨.hbm, 1123, rfl⟩
abbrev main_call2_call3_call0_v48 : Ref sig .tc := ⟨.hbm, 1124, rfl⟩
abbrev main_call2_call3_call0_v49 : Ref sig .tc := ⟨.hbm, 1125, rfl⟩
abbrev main_call2_call3_call0_c_12 : Ref sig .tc := ⟨.hbm, 1126, rfl⟩
abbrev main_call2_call3_call0_v50 : Ref sig .tc := ⟨.hbm, 1127, rfl⟩
abbrev main_call2_call3_call0_v51 : Ref sig .tc := ⟨.hbm, 1128, rfl⟩
abbrev main_call2_call3_call0_v52 : Ref sig .tc := ⟨.hbm, 1129, rfl⟩
abbrev main_call2_call3_call0_v53 : Ref sig .tc := ⟨.hbm, 1130, rfl⟩
abbrev main_call2_call3_call0_v54 : Ref sig .tc := ⟨.hbm, 1131, rfl⟩
abbrev main_call2_call3_call0_c_13 : Ref sig .tc := ⟨.hbm, 1132, rfl⟩
abbrev main_call2_call3_call0_v55 : Ref sig .tc := ⟨.hbm, 1133, rfl⟩
abbrev main_call2_call3_call0_v56 : Ref sig .tc := ⟨.hbm, 1134, rfl⟩
abbrev main_call2_call3_call0_c_14 : Ref sig .tc := ⟨.hbm, 1135, rfl⟩
abbrev main_call2_call3_call0_v57 : Ref sig .tc := ⟨.hbm, 1136, rfl⟩
abbrev main_call2_call3_call0_v58 : Ref sig .tc := ⟨.hbm, 1137, rfl⟩
abbrev main_call2_call3_call0_v59 : Ref sig .tc := ⟨.hbm, 1138, rfl⟩
abbrev main_call2_call3_call0_v60 : Ref sig .tc := ⟨.hbm, 1139, rfl⟩
abbrev main_call2_call3_call0_v61 : Ref sig .tc := ⟨.hbm, 1140, rfl⟩
abbrev main_call2_call3_call0_c_15 : Ref sig .tc := ⟨.hbm, 1141, rfl⟩
abbrev main_call2_call3_call0_v62 : Ref sig .tc := ⟨.hbm, 1142, rfl⟩
abbrev main_call2_call3_call0_v63 : Ref sig .tc := ⟨.hbm, 1143, rfl⟩
abbrev main_call2_call3_call0_c_16 : Ref sig .tc := ⟨.hbm, 1144, rfl⟩
abbrev main_call2_call3_call0_v64 : Ref sig .tc := ⟨.hbm, 1145, rfl⟩
abbrev main_call2_call3_call0_v65 : Ref sig .tc := ⟨.hbm, 1146, rfl⟩
abbrev main_call2_call3_call0_v66 : Ref sig .tc := ⟨.hbm, 1147, rfl⟩
abbrev main_call2_call3_call0_v67 : Ref sig .tc := ⟨.hbm, 1148, rfl⟩
abbrev main_call2_call3_call0_v68 : Ref sig .tc := ⟨.hbm, 1149, rfl⟩
abbrev main_call2_call3_call0_v69 : Ref sig .tc := ⟨.hbm, 1150, rfl⟩
abbrev main_call2_call3_call0_v70 : Ref sig .tc := ⟨.hbm, 1151, rfl⟩
abbrev main_call2_call3_call0_v71 : Ref sig .tc := ⟨.hbm, 1152, rfl⟩
abbrev main_call2_call3_call0_c_17 : Ref sig .tc := ⟨.hbm, 1153, rfl⟩
abbrev main_call2_call3_call0_v72 : Ref sig .tc := ⟨.hbm, 1154, rfl⟩
abbrev main_call2_call3_call0_v73 : Ref sig .tc := ⟨.hbm, 1155, rfl⟩
abbrev main_call2_call3_call0_v74 : Ref sig .tc := ⟨.hbm, 1156, rfl⟩
abbrev main_call2_call3_call0_c_18 : Ref sig .tc := ⟨.hbm, 1157, rfl⟩
abbrev main_call2_call3_call0_v75 : Ref sig .tc := ⟨.hbm, 1158, rfl⟩
abbrev main_call2_call3_call0_v76 : Ref sig .tc := ⟨.hbm, 1159, rfl⟩
abbrev main_call2_call3_call0_c_19 : Ref sig .tc := ⟨.hbm, 1160, rfl⟩
abbrev main_call2_call3_call0_v77 : Ref sig .tc := ⟨.hbm, 1161, rfl⟩
abbrev main_call2_call3_call0_v78 : Ref sig .tc := ⟨.hbm, 1162, rfl⟩
abbrev main_call2_call3_call0_v79 : Ref sig .tc := ⟨.hbm, 1163, rfl⟩
abbrev main_call2_call3_call0_v80 : Ref sig .tc := ⟨.hbm, 1164, rfl⟩
abbrev main_call2_call3_call0_v81 : Ref sig .tc := ⟨.hbm, 1165, rfl⟩
abbrev main_call2_call3_call0_c_20 : Ref sig .tc := ⟨.hbm, 1166, rfl⟩
abbrev main_call2_call3_call0_v82 : Ref sig .tc := ⟨.hbm, 1167, rfl⟩
abbrev main_call2_call3_call0_v83 : Ref sig .tc := ⟨.hbm, 1168, rfl⟩
abbrev main_call2_call3_call0_c_21 : Ref sig .tc := ⟨.hbm, 1169, rfl⟩
abbrev main_call2_call3_call0_v84 : Ref sig .tc := ⟨.hbm, 1170, rfl⟩
abbrev main_call2_call3_call0_v85 : Ref sig .tc := ⟨.hbm, 1171, rfl⟩
abbrev main_call2_call3_call0_v86 : Ref sig .tc := ⟨.hbm, 1172, rfl⟩
abbrev main_call2_call3_call0_v87 : Ref sig .tc := ⟨.hbm, 1173, rfl⟩
abbrev main_call2_call3_call0_v88 : Ref sig .tc := ⟨.hbm, 1174, rfl⟩
abbrev main_call2_call3_call0_c_22 : Ref sig .tc := ⟨.hbm, 1175, rfl⟩
abbrev main_call2_call3_call0_v89 : Ref sig .tc := ⟨.hbm, 1176, rfl⟩
abbrev main_call2_call3_call0_v90 : Ref sig .tc := ⟨.hbm, 1177, rfl⟩
abbrev main_call2_call3_call0_c_23 : Ref sig .tc := ⟨.hbm, 1178, rfl⟩
abbrev main_call2_call3_call0_v91 : Ref sig .tc := ⟨.hbm, 1179, rfl⟩
abbrev main_call2_call3_call0_v92 : Ref sig .tc := ⟨.hbm, 1180, rfl⟩
abbrev main_call2_call3_call0_v93 : Ref sig .tc := ⟨.hbm, 1181, rfl⟩
abbrev main_call2_call3_call0_v94 : Ref sig .tc := ⟨.hbm, 1182, rfl⟩
abbrev main_call2_call3_call0_v95 : Ref sig .tc := ⟨.hbm, 1183, rfl⟩
abbrev main_call2_call3_call0_c_24 : Ref sig .tc := ⟨.hbm, 1184, rfl⟩
abbrev main_call2_call3_call0_v96 : Ref sig .tc := ⟨.hbm, 1185, rfl⟩
abbrev main_call2_call3_call0_v97 : Ref sig .tc := ⟨.hbm, 1186, rfl⟩
abbrev main_call2_call3_call0_c_25 : Ref sig .tc := ⟨.hbm, 1187, rfl⟩
abbrev main_call2_call3_call0_v98 : Ref sig .tc := ⟨.hbm, 1188, rfl⟩
abbrev main_call2_call3_call0_v99 : Ref sig .tc := ⟨.hbm, 1189, rfl⟩
abbrev main_call2_call3_call0_v100 : Ref sig .tc := ⟨.hbm, 1190, rfl⟩
abbrev main_call2_call3_call0_v101 : Ref sig .tc := ⟨.hbm, 1191, rfl⟩
abbrev main_call2_call3_call0_v102 : Ref sig .tc := ⟨.hbm, 1192, rfl⟩
abbrev main_call2_call3_call0_v103 : Ref sig .tc := ⟨.hbm, 1193, rfl⟩
abbrev main_call2_call3_call0_v104 : Ref sig .tc := ⟨.hbm, 1194, rfl⟩
abbrev main_call2_call3_call0_v105 : Ref sig .tc := ⟨.hbm, 1195, rfl⟩
abbrev main_call2_call3_call0_c_26 : Ref sig .tc := ⟨.hbm, 1196, rfl⟩
abbrev main_call2_call3_call0_v106 : Ref sig .tc := ⟨.hbm, 1197, rfl⟩
abbrev main_call2_call3_call0_v107 : Ref sig .tc := ⟨.hbm, 1198, rfl⟩
abbrev main_call2_call3_call0_v108 : Ref sig .tc := ⟨.hbm, 1199, rfl⟩
abbrev main_call2_call3_call0_c_27 : Ref sig .tc := ⟨.hbm, 1200, rfl⟩
abbrev main_call2_call3_call0_v109 : Ref sig .tc := ⟨.hbm, 1201, rfl⟩
abbrev main_call2_call3_call0_v110 : Ref sig .tc := ⟨.hbm, 1202, rfl⟩
abbrev main_call2_call3_call0_c_28 : Ref sig .tc := ⟨.hbm, 1203, rfl⟩
abbrev main_call2_call3_call0_v111 : Ref sig .tc := ⟨.hbm, 1204, rfl⟩
abbrev main_call2_call3_call0_v112 : Ref sig .tc := ⟨.hbm, 1205, rfl⟩
abbrev main_call2_call3_call0_v113 : Ref sig .tc := ⟨.hbm, 1206, rfl⟩
abbrev main_call2_call3_call0_v114 : Ref sig .tc := ⟨.hbm, 1207, rfl⟩
abbrev main_call2_call3_call0_v115 : Ref sig .tc := ⟨.hbm, 1208, rfl⟩
abbrev main_call2_call3_call0_c_29 : Ref sig .tc := ⟨.hbm, 1209, rfl⟩
abbrev main_call2_call3_call0_v116 : Ref sig .tc := ⟨.hbm, 1210, rfl⟩
abbrev main_call2_call3_call0_v117 : Ref sig .tc := ⟨.hbm, 1211, rfl⟩
abbrev main_call2_call3_call0_c_30 : Ref sig .tc := ⟨.hbm, 1212, rfl⟩
abbrev main_call2_call3_call0_v118 : Ref sig .tc := ⟨.hbm, 1213, rfl⟩
abbrev main_call2_call3_call0_v119 : Ref sig .tc := ⟨.hbm, 1214, rfl⟩
abbrev main_call2_call3_call0_v120 : Ref sig .tc := ⟨.hbm, 1215, rfl⟩
abbrev main_call2_call3_call0_v121 : Ref sig .tc := ⟨.hbm, 1216, rfl⟩
abbrev main_call2_call3_call0_v122 : Ref sig .tc := ⟨.hbm, 1217, rfl⟩
abbrev main_call2_call3_call0_c_31 : Ref sig .tc := ⟨.hbm, 1218, rfl⟩
abbrev main_call2_call3_call0_v123 : Ref sig .tc := ⟨.hbm, 1219, rfl⟩
abbrev main_call2_call3_call0_v124 : Ref sig .tc := ⟨.hbm, 1220, rfl⟩
abbrev main_call2_call3_call0_c_32 : Ref sig .tc := ⟨.hbm, 1221, rfl⟩
abbrev main_call2_call3_call0_v125 : Ref sig .tc := ⟨.hbm, 1222, rfl⟩
abbrev main_call2_call3_call0_v126 : Ref sig .tc := ⟨.hbm, 1223, rfl⟩
abbrev main_call2_call3_call0_v127 : Ref sig .tc := ⟨.hbm, 1224, rfl⟩
abbrev main_call2_call3_call0_v128 : Ref sig .tc := ⟨.hbm, 1225, rfl⟩
abbrev main_call2_call3_call0_v129 : Ref sig .tc := ⟨.hbm, 1226, rfl⟩
abbrev main_call2_call3_call0_c_33 : Ref sig .tc := ⟨.hbm, 1227, rfl⟩
abbrev main_call2_call3_call0_v130 : Ref sig .tc := ⟨.hbm, 1228, rfl⟩
abbrev main_call2_call3_call0_v131 : Ref sig .tc := ⟨.hbm, 1229, rfl⟩
abbrev main_call2_call3_call0_c_34 : Ref sig .tc := ⟨.hbm, 1230, rfl⟩
abbrev main_call2_call3_call0_v132 : Ref sig .tc := ⟨.hbm, 1231, rfl⟩
abbrev main_call2_call3_call0_v133 : Ref sig .tc := ⟨.hbm, 1232, rfl⟩
abbrev main_call2_call3_call0_v134 : Ref sig .tc := ⟨.hbm, 1233, rfl⟩
abbrev main_call2_call3_call0_v135 : Ref sig .tc := ⟨.hbm, 1234, rfl⟩
abbrev main_call2_call3_call0_v136 : Ref sig .tc := ⟨.hbm, 1235, rfl⟩
abbrev main_call2_call3_call0_v137 : Ref sig .tc := ⟨.hbm, 1236, rfl⟩
abbrev main_call2_call3_call0_v138 : Ref sig .tc := ⟨.hbm, 1237, rfl⟩
abbrev main_call2_call3_call0_v139 : Ref sig .tc := ⟨.hbm, 1238, rfl⟩
abbrev main_call2_call3_call0_c_35 : Ref sig .tc := ⟨.hbm, 1239, rfl⟩
abbrev main_call2_call3_call0_v140 : Ref sig .tc := ⟨.hbm, 1240, rfl⟩
abbrev main_call2_call3_call0_v141 : Ref sig .tc := ⟨.hbm, 1241, rfl⟩
abbrev main_call2_call3_call0_v142 : Ref sig .tc := ⟨.hbm, 1242, rfl⟩
abbrev main_call2_call3_call0_c_36 : Ref sig .tc := ⟨.hbm, 1243, rfl⟩
abbrev main_call2_call3_call0_v143 : Ref sig .tc := ⟨.hbm, 1244, rfl⟩
abbrev main_call2_call3_call0_v144 : Ref sig .tc := ⟨.hbm, 1245, rfl⟩
abbrev main_call2_call3_call0_c_37 : Ref sig .tc := ⟨.hbm, 1246, rfl⟩
abbrev main_call2_call3_call0_v145 : Ref sig .tc := ⟨.hbm, 1247, rfl⟩
abbrev main_call2_call3_call0_v146 : Ref sig .tc := ⟨.hbm, 1248, rfl⟩
abbrev main_call2_call3_call0_v147 : Ref sig .tc := ⟨.hbm, 1249, rfl⟩
abbrev main_call2_call3_call0_v148 : Ref sig .tc := ⟨.hbm, 1250, rfl⟩
abbrev main_call2_call3_call0_v149 : Ref sig .tc := ⟨.hbm, 1251, rfl⟩
abbrev main_call2_call3_call0_c_38 : Ref sig .tc := ⟨.hbm, 1252, rfl⟩
abbrev main_call2_call3_call0_v150 : Ref sig .tc := ⟨.hbm, 1253, rfl⟩
abbrev main_call2_call3_call0_v151 : Ref sig .tc := ⟨.hbm, 1254, rfl⟩
abbrev main_call2_call3_call0_c_39 : Ref sig .tc := ⟨.hbm, 1255, rfl⟩
abbrev main_call2_call3_call0_v152 : Ref sig .tc := ⟨.hbm, 1256, rfl⟩
abbrev main_call2_call3_call0_v153 : Ref sig .tc := ⟨.hbm, 1257, rfl⟩
abbrev main_call2_call3_call0_v154 : Ref sig .tc := ⟨.hbm, 1258, rfl⟩
abbrev main_call2_call3_call0_v155 : Ref sig .tc := ⟨.hbm, 1259, rfl⟩
abbrev main_call2_call3_call0_v156 : Ref sig .tc := ⟨.hbm, 1260, rfl⟩
abbrev main_call2_call3_call0_c_40 : Ref sig .tc := ⟨.hbm, 1261, rfl⟩
abbrev main_call2_call3_call0_v157 : Ref sig .tc := ⟨.hbm, 1262, rfl⟩
abbrev main_call2_call3_call0_v158 : Ref sig .tc := ⟨.hbm, 1263, rfl⟩
abbrev main_call2_call3_call0_c_41 : Ref sig .tc := ⟨.hbm, 1264, rfl⟩
abbrev main_call2_call3_call0_v159 : Ref sig .tc := ⟨.hbm, 1265, rfl⟩
abbrev main_call2_call3_call0_v160 : Ref sig .tc := ⟨.hbm, 1266, rfl⟩
abbrev main_call2_call3_call0_v161 : Ref sig .tc := ⟨.hbm, 1267, rfl⟩
abbrev main_call2_call3_call0_v162 : Ref sig .tc := ⟨.hbm, 1268, rfl⟩
abbrev main_call2_call3_call0_v163 : Ref sig .tc := ⟨.hbm, 1269, rfl⟩
abbrev main_call2_call3_call0_c_42 : Ref sig .tc := ⟨.hbm, 1270, rfl⟩
abbrev main_call2_call3_call0_v164 : Ref sig .tc := ⟨.hbm, 1271, rfl⟩
abbrev main_call2_call3_call0_v165 : Ref sig .tc := ⟨.hbm, 1272, rfl⟩
abbrev main_call2_call3_call0_c_43 : Ref sig .tc := ⟨.hbm, 1273, rfl⟩
abbrev main_call2_call3_call0_v166 : Ref sig .tc := ⟨.hbm, 1274, rfl⟩
abbrev main_call2_call3_call0_v167 : Ref sig .tc := ⟨.hbm, 1275, rfl⟩
abbrev main_call2_call3_call0_v168 : Ref sig .tc := ⟨.hbm, 1276, rfl⟩
abbrev main_call2_call3_call0_v169 : Ref sig .tc := ⟨.hbm, 1277, rfl⟩
abbrev main_call2_call3_call0_v170 : Ref sig .tc := ⟨.hbm, 1278, rfl⟩
abbrev main_call2_call3_v11_0 : Ref sig .tc := ⟨.hbm, 1279, rfl⟩
abbrev main_call2_call3_call0_v172 : Ref sig .tc := ⟨.hbm, 1280, rfl⟩
abbrev main_call2_call3_call0_v173 : Ref sig .tc := ⟨.hbm, 1281, rfl⟩
abbrev main_call2_call3_call0_c_44 : Ref sig .tc := ⟨.hbm, 1282, rfl⟩
abbrev main_call2_call3_call0_v174 : Ref sig .tc := ⟨.hbm, 1283, rfl⟩
abbrev main_call2_call3_v11_1 : Ref sig .tc := ⟨.hbm, 1284, rfl⟩
abbrev main_call2_call3_v12 : Ref sig .tc := ⟨.hbm, 1285, rfl⟩
abbrev main_call2_call3_v13 : Ref sig .tc := ⟨.hbm, 1286, rfl⟩
abbrev main_call2_v8 : Ref sig .tc := ⟨.hbm, 1287, rfl⟩
abbrev main_call2_v9 : Ref sig .tc := ⟨.hbm, 1288, rfl⟩
abbrev main_call2_v10 : Ref sig .tc := ⟨.hbm, 1289, rfl⟩
abbrev main_call2_v11 : Ref sig .tc := ⟨.hbm, 1290, rfl⟩
abbrev main_call2_v12 : Ref sig .tc := ⟨.hbm, 1291, rfl⟩
abbrev main_call2_v13 : Ref sig .tc := ⟨.hbm, 1292, rfl⟩
abbrev main_call2_v14 : Ref sig .tc := ⟨.hbm, 1293, rfl⟩
abbrev main_call2_v15 : Ref sig .tc := ⟨.hbm, 1294, rfl⟩
abbrev main_call2_v16 : Ref sig .tc := ⟨.hbm, 1295, rfl⟩
abbrev main_call2_v17 : Ref sig .tc := ⟨.hbm, 1296, rfl⟩
abbrev main_call2_v18 : Ref sig .tc := ⟨.hbm, 1297, rfl⟩
abbrev main_call2_c_6 : Ref sig .tc := ⟨.hbm, 1298, rfl⟩
abbrev main_call2_v19 : Ref sig .tc := ⟨.hbm, 1299, rfl⟩
abbrev main_call2_v20 : Ref sig .tc := ⟨.hbm, 1300, rfl⟩
abbrev main_call2_c_7 : Ref sig .tc := ⟨.hbm, 1301, rfl⟩
abbrev main_call2_v21 : Ref sig .tc := ⟨.hbm, 1302, rfl⟩
abbrev main_call2_v22 : Ref sig .tc := ⟨.hbm, 1303, rfl⟩
abbrev main_call2_v23 : Ref sig .tc := ⟨.hbm, 1304, rfl⟩
abbrev main_call2_c_8 : Ref sig .tc := ⟨.hbm, 1305, rfl⟩
abbrev main_call2_v24 : Ref sig .tc := ⟨.hbm, 1306, rfl⟩
abbrev main_call2_v25 : Ref sig .tc := ⟨.hbm, 1307, rfl⟩
abbrev main_call2_v26 : Ref sig .tc := ⟨.hbm, 1308, rfl⟩
abbrev main_call2_v27 : Ref sig .tc := ⟨.hbm, 1309, rfl⟩
abbrev main_call2_call4_v0 : Ref sig .tc := ⟨.hbm, 1310, rfl⟩
abbrev main_call2_call4_c : Ref sig .tc := ⟨.hbm, 1311, rfl⟩
abbrev main_call2_call4_v1 : Ref sig .tc := ⟨.hbm, 1312, rfl⟩
abbrev main_call2_call4_v2 : Ref sig .tc := ⟨.hbm, 1313, rfl⟩
abbrev main_call2_call4_v3 : Ref sig .tc := ⟨.hbm, 1314, rfl⟩
abbrev main_call2_call4_v4 : Ref sig .tc := ⟨.hbm, 1315, rfl⟩
abbrev main_call2_call4_v5 : Ref sig .tc := ⟨.hbm, 1316, rfl⟩
abbrev main_call2_call4_v6 : Ref sig .tc := ⟨.hbm, 1317, rfl⟩
abbrev main_call2_call4_c_0 : Ref sig .tc := ⟨.hbm, 1318, rfl⟩
abbrev main_call2_call4_v7 : Ref sig .tc := ⟨.hbm, 1319, rfl⟩
abbrev main_call2_call4_v8 : Ref sig .tc := ⟨.hbm, 1320, rfl⟩
abbrev main_call2_call4_c_1 : Ref sig .tc := ⟨.hbm, 1321, rfl⟩
abbrev main_call2_call4_v9 : Ref sig .tc := ⟨.hbm, 1322, rfl⟩
abbrev main_call2_call4_v10 : Ref sig .tc := ⟨.hbm, 1323, rfl⟩
abbrev main_call2_call4_v11 : Ref sig .tc := ⟨.hbm, 1324, rfl⟩
abbrev main_call2_call4_v12 : Ref sig .tc := ⟨.hbm, 1325, rfl⟩
abbrev main_call2_call4_v13 : Ref sig .tc := ⟨.hbm, 1326, rfl⟩
abbrev main_call2_call4_c_2 : Ref sig .tc := ⟨.hbm, 1327, rfl⟩
abbrev main_call2_call4_v14 : Ref sig .tc := ⟨.hbm, 1328, rfl⟩
abbrev main_call2_call4_v15 : Ref sig .tc := ⟨.hbm, 1329, rfl⟩
abbrev main_call2_call4_c_3 : Ref sig .tc := ⟨.hbm, 1330, rfl⟩
abbrev main_call2_call4_v16 : Ref sig .tc := ⟨.hbm, 1331, rfl⟩
abbrev main_call2_call4_v17 : Ref sig .tc := ⟨.hbm, 1332, rfl⟩
abbrev main_call2_call4_v18 : Ref sig .tc := ⟨.hbm, 1333, rfl⟩
abbrev main_call2_call4_v19 : Ref sig .tc := ⟨.hbm, 1334, rfl⟩
abbrev main_call2_call4_v20 : Ref sig .tc := ⟨.hbm, 1335, rfl⟩
abbrev main_call2_call4_c_4 : Ref sig .tc := ⟨.hbm, 1336, rfl⟩
abbrev main_call2_call4_v21 : Ref sig .tc := ⟨.hbm, 1337, rfl⟩
abbrev main_call2_call4_v22 : Ref sig .tc := ⟨.hbm, 1338, rfl⟩
abbrev main_call2_call4_c_5 : Ref sig .tc := ⟨.hbm, 1339, rfl⟩
abbrev main_call2_call4_v23 : Ref sig .tc := ⟨.hbm, 1340, rfl⟩
abbrev main_call2_call4_v24 : Ref sig .tc := ⟨.hbm, 1341, rfl⟩
abbrev main_call2_call4_v25 : Ref sig .tc := ⟨.hbm, 1342, rfl⟩
abbrev main_call2_call4_v26 : Ref sig .tc := ⟨.hbm, 1343, rfl⟩
abbrev main_call2_call4_v27 : Ref sig .tc := ⟨.hbm, 1344, rfl⟩
abbrev main_call2_call4_c_6 : Ref sig .tc := ⟨.hbm, 1345, rfl⟩
abbrev main_call2_call4_v28 : Ref sig .tc := ⟨.hbm, 1346, rfl⟩
abbrev main_call2_call4_v29 : Ref sig .tc := ⟨.hbm, 1347, rfl⟩
abbrev main_call2_call4_c_7 : Ref sig .tc := ⟨.hbm, 1348, rfl⟩
abbrev main_call2_call4_v30 : Ref sig .tc := ⟨.hbm, 1349, rfl⟩
abbrev main_call2_call4_v31 : Ref sig .tc := ⟨.hbm, 1350, rfl⟩
abbrev main_call2_call4_v32 : Ref sig .tc := ⟨.hbm, 1351, rfl⟩
abbrev main_call2_call4_v33 : Ref sig .tc := ⟨.hbm, 1352, rfl⟩
abbrev main_call2_call4_v34 : Ref sig .tc := ⟨.hbm, 1353, rfl⟩
abbrev main_call2_call4_v35 : Ref sig .tc := ⟨.hbm, 1354, rfl⟩
abbrev main_call2_call4_v36 : Ref sig .tc := ⟨.hbm, 1355, rfl⟩
abbrev main_call2_call4_v37 : Ref sig .tc := ⟨.hbm, 1356, rfl⟩
abbrev main_call2_call4_c_8 : Ref sig .tc := ⟨.hbm, 1357, rfl⟩
abbrev main_call2_call4_v38 : Ref sig .tc := ⟨.hbm, 1358, rfl⟩
abbrev main_call2_call4_v39 : Ref sig .tc := ⟨.hbm, 1359, rfl⟩
abbrev main_call2_call4_v40 : Ref sig .tc := ⟨.hbm, 1360, rfl⟩
abbrev main_call2_call4_c_9 : Ref sig .tc := ⟨.hbm, 1361, rfl⟩
abbrev main_call2_call4_v41 : Ref sig .tc := ⟨.hbm, 1362, rfl⟩
abbrev main_call2_call4_v42 : Ref sig .tc := ⟨.hbm, 1363, rfl⟩
abbrev main_call2_call4_c_10 : Ref sig .tc := ⟨.hbm, 1364, rfl⟩
abbrev main_call2_call4_v43 : Ref sig .tc := ⟨.hbm, 1365, rfl⟩
abbrev main_call2_call4_v44 : Ref sig .tc := ⟨.hbm, 1366, rfl⟩
abbrev main_call2_call4_v45 : Ref sig .tc := ⟨.hbm, 1367, rfl⟩
abbrev main_call2_call4_v46 : Ref sig .tc := ⟨.hbm, 1368, rfl⟩
abbrev main_call2_call4_v47 : Ref sig .tc := ⟨.hbm, 1369, rfl⟩
abbrev main_call2_call4_c_11 : Ref sig .tc := ⟨.hbm, 1370, rfl⟩
abbrev main_call2_call4_v48 : Ref sig .tc := ⟨.hbm, 1371, rfl⟩
abbrev main_call2_call4_v49 : Ref sig .tc := ⟨.hbm, 1372, rfl⟩
abbrev main_call2_call4_c_12 : Ref sig .tc := ⟨.hbm, 1373, rfl⟩
abbrev main_call2_call4_v50 : Ref sig .tc := ⟨.hbm, 1374, rfl⟩
abbrev main_call2_call4_v51 : Ref sig .tc := ⟨.hbm, 1375, rfl⟩
abbrev main_call2_call4_v52 : Ref sig .tc := ⟨.hbm, 1376, rfl⟩
abbrev main_call2_call4_v53 : Ref sig .tc := ⟨.hbm, 1377, rfl⟩
abbrev main_call2_call4_v54 : Ref sig .tc := ⟨.hbm, 1378, rfl⟩
abbrev main_call2_call4_c_13 : Ref sig .tc := ⟨.hbm, 1379, rfl⟩
abbrev main_call2_call4_v55 : Ref sig .tc := ⟨.hbm, 1380, rfl⟩
abbrev main_call2_call4_v56 : Ref sig .tc := ⟨.hbm, 1381, rfl⟩
abbrev main_call2_call4_c_14 : Ref sig .tc := ⟨.hbm, 1382, rfl⟩
abbrev main_call2_call4_v57 : Ref sig .tc := ⟨.hbm, 1383, rfl⟩
abbrev main_call2_call4_v58 : Ref sig .tc := ⟨.hbm, 1384, rfl⟩
abbrev main_call2_call4_v59 : Ref sig .tc := ⟨.hbm, 1385, rfl⟩
abbrev main_call2_call4_v60 : Ref sig .tc := ⟨.hbm, 1386, rfl⟩
abbrev main_call2_call4_v61 : Ref sig .tc := ⟨.hbm, 1387, rfl⟩
abbrev main_call2_call4_c_15 : Ref sig .tc := ⟨.hbm, 1388, rfl⟩
abbrev main_call2_call4_v62 : Ref sig .tc := ⟨.hbm, 1389, rfl⟩
abbrev main_call2_call4_v63 : Ref sig .tc := ⟨.hbm, 1390, rfl⟩
abbrev main_call2_call4_c_16 : Ref sig .tc := ⟨.hbm, 1391, rfl⟩
abbrev main_call2_call4_v64 : Ref sig .tc := ⟨.hbm, 1392, rfl⟩
abbrev main_call2_call4_v65 : Ref sig .tc := ⟨.hbm, 1393, rfl⟩
abbrev main_call2_call4_v66 : Ref sig .tc := ⟨.hbm, 1394, rfl⟩
abbrev main_call2_call4_v67 : Ref sig .tc := ⟨.hbm, 1395, rfl⟩
abbrev main_call2_call4_v68 : Ref sig .tc := ⟨.hbm, 1396, rfl⟩
abbrev main_call2_call4_v69 : Ref sig .tc := ⟨.hbm, 1397, rfl⟩
abbrev main_call2_call4_v70 : Ref sig .tc := ⟨.hbm, 1398, rfl⟩
abbrev main_call2_call4_v71 : Ref sig .tc := ⟨.hbm, 1399, rfl⟩
abbrev main_call2_call4_c_17 : Ref sig .tc := ⟨.hbm, 1400, rfl⟩
abbrev main_call2_call4_v72 : Ref sig .tc := ⟨.hbm, 1401, rfl⟩
abbrev main_call2_call4_v73 : Ref sig .tc := ⟨.hbm, 1402, rfl⟩
abbrev main_call2_call4_v74 : Ref sig .tc := ⟨.hbm, 1403, rfl⟩
abbrev main_call2_call4_c_18 : Ref sig .tc := ⟨.hbm, 1404, rfl⟩
abbrev main_call2_call4_v75 : Ref sig .tc := ⟨.hbm, 1405, rfl⟩
abbrev main_call2_call4_v76 : Ref sig .tc := ⟨.hbm, 1406, rfl⟩
abbrev main_call2_call4_c_19 : Ref sig .tc := ⟨.hbm, 1407, rfl⟩
abbrev main_call2_call4_v77 : Ref sig .tc := ⟨.hbm, 1408, rfl⟩
abbrev main_call2_call4_v78 : Ref sig .tc := ⟨.hbm, 1409, rfl⟩
abbrev main_call2_call4_v79 : Ref sig .tc := ⟨.hbm, 1410, rfl⟩
abbrev main_call2_call4_v80 : Ref sig .tc := ⟨.hbm, 1411, rfl⟩
abbrev main_call2_call4_v81 : Ref sig .tc := ⟨.hbm, 1412, rfl⟩
abbrev main_call2_call4_c_20 : Ref sig .tc := ⟨.hbm, 1413, rfl⟩
abbrev main_call2_call4_v82 : Ref sig .tc := ⟨.hbm, 1414, rfl⟩
abbrev main_call2_call4_v83 : Ref sig .tc := ⟨.hbm, 1415, rfl⟩
abbrev main_call2_call4_c_21 : Ref sig .tc := ⟨.hbm, 1416, rfl⟩
abbrev main_call2_call4_v84 : Ref sig .tc := ⟨.hbm, 1417, rfl⟩
abbrev main_call2_call4_v85 : Ref sig .tc := ⟨.hbm, 1418, rfl⟩
abbrev main_call2_call4_v86 : Ref sig .tc := ⟨.hbm, 1419, rfl⟩
abbrev main_call2_call4_v87 : Ref sig .tc := ⟨.hbm, 1420, rfl⟩
abbrev main_call2_call4_v88 : Ref sig .tc := ⟨.hbm, 1421, rfl⟩
abbrev main_call2_call4_c_22 : Ref sig .tc := ⟨.hbm, 1422, rfl⟩
abbrev main_call2_call4_v89 : Ref sig .tc := ⟨.hbm, 1423, rfl⟩
abbrev main_call2_call4_v90 : Ref sig .tc := ⟨.hbm, 1424, rfl⟩
abbrev main_call2_call4_c_23 : Ref sig .tc := ⟨.hbm, 1425, rfl⟩
abbrev main_call2_call4_v91 : Ref sig .tc := ⟨.hbm, 1426, rfl⟩
abbrev main_call2_call4_v92 : Ref sig .tc := ⟨.hbm, 1427, rfl⟩
abbrev main_call2_call4_v93 : Ref sig .tc := ⟨.hbm, 1428, rfl⟩
abbrev main_call2_call4_v94 : Ref sig .tc := ⟨.hbm, 1429, rfl⟩
abbrev main_call2_call4_v95 : Ref sig .tc := ⟨.hbm, 1430, rfl⟩
abbrev main_call2_call4_c_24 : Ref sig .tc := ⟨.hbm, 1431, rfl⟩
abbrev main_call2_call4_v96 : Ref sig .tc := ⟨.hbm, 1432, rfl⟩
abbrev main_call2_call4_v97 : Ref sig .tc := ⟨.hbm, 1433, rfl⟩
abbrev main_call2_call4_c_25 : Ref sig .tc := ⟨.hbm, 1434, rfl⟩
abbrev main_call2_call4_v98 : Ref sig .tc := ⟨.hbm, 1435, rfl⟩
abbrev main_call2_call4_v99 : Ref sig .tc := ⟨.hbm, 1436, rfl⟩
abbrev main_call2_call4_v100 : Ref sig .tc := ⟨.hbm, 1437, rfl⟩
abbrev main_call2_call4_v101 : Ref sig .tc := ⟨.hbm, 1438, rfl⟩
abbrev main_call2_call4_v102 : Ref sig .tc := ⟨.hbm, 1439, rfl⟩
abbrev main_call2_call4_v103 : Ref sig .tc := ⟨.hbm, 1440, rfl⟩
abbrev main_call2_call4_v104 : Ref sig .tc := ⟨.hbm, 1441, rfl⟩
abbrev main_call2_call4_v105 : Ref sig .tc := ⟨.hbm, 1442, rfl⟩
abbrev main_call2_call4_c_26 : Ref sig .tc := ⟨.hbm, 1443, rfl⟩
abbrev main_call2_call4_v106 : Ref sig .tc := ⟨.hbm, 1444, rfl⟩
abbrev main_call2_call4_v107 : Ref sig .tc := ⟨.hbm, 1445, rfl⟩
abbrev main_call2_call4_v108 : Ref sig .tc := ⟨.hbm, 1446, rfl⟩
abbrev main_call2_call4_c_27 : Ref sig .tc := ⟨.hbm, 1447, rfl⟩
abbrev main_call2_call4_v109 : Ref sig .tc := ⟨.hbm, 1448, rfl⟩
abbrev main_call2_call4_v110 : Ref sig .tc := ⟨.hbm, 1449, rfl⟩
abbrev main_call2_call4_c_28 : Ref sig .tc := ⟨.hbm, 1450, rfl⟩
abbrev main_call2_call4_v111 : Ref sig .tc := ⟨.hbm, 1451, rfl⟩
abbrev main_call2_call4_v112 : Ref sig .tc := ⟨.hbm, 1452, rfl⟩
abbrev main_call2_call4_v113 : Ref sig .tc := ⟨.hbm, 1453, rfl⟩
abbrev main_call2_call4_v114 : Ref sig .tc := ⟨.hbm, 1454, rfl⟩
abbrev main_call2_call4_v115 : Ref sig .tc := ⟨.hbm, 1455, rfl⟩
abbrev main_call2_call4_c_29 : Ref sig .tc := ⟨.hbm, 1456, rfl⟩
abbrev main_call2_call4_v116 : Ref sig .tc := ⟨.hbm, 1457, rfl⟩
abbrev main_call2_call4_v117 : Ref sig .tc := ⟨.hbm, 1458, rfl⟩
abbrev main_call2_call4_c_30 : Ref sig .tc := ⟨.hbm, 1459, rfl⟩
abbrev main_call2_call4_v118 : Ref sig .tc := ⟨.hbm, 1460, rfl⟩
abbrev main_call2_call4_v119 : Ref sig .tc := ⟨.hbm, 1461, rfl⟩
abbrev main_call2_call4_v120 : Ref sig .tc := ⟨.hbm, 1462, rfl⟩
abbrev main_call2_call4_v121 : Ref sig .tc := ⟨.hbm, 1463, rfl⟩
abbrev main_call2_call4_v122 : Ref sig .tc := ⟨.hbm, 1464, rfl⟩
abbrev main_call2_call4_c_31 : Ref sig .tc := ⟨.hbm, 1465, rfl⟩
abbrev main_call2_call4_v123 : Ref sig .tc := ⟨.hbm, 1466, rfl⟩
abbrev main_call2_call4_v124 : Ref sig .tc := ⟨.hbm, 1467, rfl⟩
abbrev main_call2_call4_c_32 : Ref sig .tc := ⟨.hbm, 1468, rfl⟩
abbrev main_call2_call4_v125 : Ref sig .tc := ⟨.hbm, 1469, rfl⟩
abbrev main_call2_call4_v126 : Ref sig .tc := ⟨.hbm, 1470, rfl⟩
abbrev main_call2_call4_v127 : Ref sig .tc := ⟨.hbm, 1471, rfl⟩
abbrev main_call2_call4_v128 : Ref sig .tc := ⟨.hbm, 1472, rfl⟩
abbrev main_call2_call4_v129 : Ref sig .tc := ⟨.hbm, 1473, rfl⟩
abbrev main_call2_call4_c_33 : Ref sig .tc := ⟨.hbm, 1474, rfl⟩
abbrev main_call2_call4_v130 : Ref sig .tc := ⟨.hbm, 1475, rfl⟩
abbrev main_call2_call4_v131 : Ref sig .tc := ⟨.hbm, 1476, rfl⟩
abbrev main_call2_call4_c_34 : Ref sig .tc := ⟨.hbm, 1477, rfl⟩
abbrev main_call2_call4_v132 : Ref sig .tc := ⟨.hbm, 1478, rfl⟩
abbrev main_call2_call4_v133 : Ref sig .tc := ⟨.hbm, 1479, rfl⟩
abbrev main_call2_call4_v134 : Ref sig .tc := ⟨.hbm, 1480, rfl⟩
abbrev main_call2_call4_v135 : Ref sig .tc := ⟨.hbm, 1481, rfl⟩
abbrev main_call2_call4_v136 : Ref sig .tc := ⟨.hbm, 1482, rfl⟩
abbrev main_call2_call4_v137 : Ref sig .tc := ⟨.hbm, 1483, rfl⟩
abbrev main_call2_call4_v138 : Ref sig .tc := ⟨.hbm, 1484, rfl⟩
abbrev main_call2_call4_v139 : Ref sig .tc := ⟨.hbm, 1485, rfl⟩
abbrev main_call2_call4_c_35 : Ref sig .tc := ⟨.hbm, 1486, rfl⟩
abbrev main_call2_call4_v140 : Ref sig .tc := ⟨.hbm, 1487, rfl⟩
abbrev main_call2_call4_v141 : Ref sig .tc := ⟨.hbm, 1488, rfl⟩
abbrev main_call2_call4_v142 : Ref sig .tc := ⟨.hbm, 1489, rfl⟩
abbrev main_call2_call4_c_36 : Ref sig .tc := ⟨.hbm, 1490, rfl⟩
abbrev main_call2_call4_v143 : Ref sig .tc := ⟨.hbm, 1491, rfl⟩
abbrev main_call2_call4_v144 : Ref sig .tc := ⟨.hbm, 1492, rfl⟩
abbrev main_call2_call4_c_37 : Ref sig .tc := ⟨.hbm, 1493, rfl⟩
abbrev main_call2_call4_v145 : Ref sig .tc := ⟨.hbm, 1494, rfl⟩
abbrev main_call2_call4_v146 : Ref sig .tc := ⟨.hbm, 1495, rfl⟩
abbrev main_call2_call4_v147 : Ref sig .tc := ⟨.hbm, 1496, rfl⟩
abbrev main_call2_call4_v148 : Ref sig .tc := ⟨.hbm, 1497, rfl⟩
abbrev main_call2_call4_v149 : Ref sig .tc := ⟨.hbm, 1498, rfl⟩
abbrev main_call2_call4_c_38 : Ref sig .tc := ⟨.hbm, 1499, rfl⟩
abbrev main_call2_call4_v150 : Ref sig .tc := ⟨.hbm, 1500, rfl⟩
abbrev main_call2_call4_v151 : Ref sig .tc := ⟨.hbm, 1501, rfl⟩
abbrev main_call2_call4_c_39 : Ref sig .tc := ⟨.hbm, 1502, rfl⟩
abbrev main_call2_call4_v152 : Ref sig .tc := ⟨.hbm, 1503, rfl⟩
abbrev main_call2_call4_v153 : Ref sig .tc := ⟨.hbm, 1504, rfl⟩
abbrev main_call2_call4_v154 : Ref sig .tc := ⟨.hbm, 1505, rfl⟩
abbrev main_call2_call4_v155 : Ref sig .tc := ⟨.hbm, 1506, rfl⟩
abbrev main_call2_call4_v156 : Ref sig .tc := ⟨.hbm, 1507, rfl⟩
abbrev main_call2_call4_c_40 : Ref sig .tc := ⟨.hbm, 1508, rfl⟩
abbrev main_call2_call4_v157 : Ref sig .tc := ⟨.hbm, 1509, rfl⟩
abbrev main_call2_call4_v158 : Ref sig .tc := ⟨.hbm, 1510, rfl⟩
abbrev main_call2_call4_c_41 : Ref sig .tc := ⟨.hbm, 1511, rfl⟩
abbrev main_call2_call4_v159 : Ref sig .tc := ⟨.hbm, 1512, rfl⟩
abbrev main_call2_call4_v160 : Ref sig .tc := ⟨.hbm, 1513, rfl⟩
abbrev main_call2_call4_v161 : Ref sig .tc := ⟨.hbm, 1514, rfl⟩
abbrev main_call2_call4_v162 : Ref sig .tc := ⟨.hbm, 1515, rfl⟩
abbrev main_call2_call4_v163 : Ref sig .tc := ⟨.hbm, 1516, rfl⟩
abbrev main_call2_call4_c_42 : Ref sig .tc := ⟨.hbm, 1517, rfl⟩
abbrev main_call2_call4_v164 : Ref sig .tc := ⟨.hbm, 1518, rfl⟩
abbrev main_call2_call4_v165 : Ref sig .tc := ⟨.hbm, 1519, rfl⟩
abbrev main_call2_call4_c_43 : Ref sig .tc := ⟨.hbm, 1520, rfl⟩
abbrev main_call2_call4_v166 : Ref sig .tc := ⟨.hbm, 1521, rfl⟩
abbrev main_call2_call4_v167 : Ref sig .tc := ⟨.hbm, 1522, rfl⟩
abbrev main_call2_call4_v168 : Ref sig .tc := ⟨.hbm, 1523, rfl⟩
abbrev main_call2_call4_v169 : Ref sig .tc := ⟨.hbm, 1524, rfl⟩
abbrev main_call2_call4_v170 : Ref sig .tc := ⟨.hbm, 1525, rfl⟩
abbrev main_call2_v28_0 : Ref sig .tc := ⟨.hbm, 1526, rfl⟩
abbrev main_call2_call4_v172 : Ref sig .tc := ⟨.hbm, 1527, rfl⟩
abbrev main_call2_call4_v173 : Ref sig .tc := ⟨.hbm, 1528, rfl⟩
abbrev main_call2_call4_c_44 : Ref sig .tc := ⟨.hbm, 1529, rfl⟩
abbrev main_call2_call4_v174 : Ref sig .tc := ⟨.hbm, 1530, rfl⟩
abbrev main_call2_v28_1 : Ref sig .tc := ⟨.hbm, 1531, rfl⟩
abbrev main_call2_v29 : Ref sig .tc := ⟨.hbm, 1532, rfl⟩
abbrev main_call2_v30 : Ref sig .tc := ⟨.hbm, 1533, rfl⟩
abbrev main_call2_v31 : Ref sig .tc := ⟨.hbm, 1534, rfl⟩
abbrev main_call2_v32 : Ref sig .tc := ⟨.hbm, 1535, rfl⟩
abbrev main_call2_v33 : Ref sig .tc := ⟨.hbm, 1536, rfl⟩
abbrev main_call2_v34 : Ref sig .tc := ⟨.hbm, 1537, rfl⟩
abbrev main_call2_v35 : Ref sig .tc := ⟨.hbm, 1538, rfl⟩
abbrev main_call2_c_9 : Ref sig .tc := ⟨.hbm, 1539, rfl⟩
abbrev main_call2_v36 : Ref sig .tc := ⟨.hbm, 1540, rfl⟩
abbrev main_call2_v37 : Ref sig .tc := ⟨.hbm, 1541, rfl⟩
abbrev main_call2_c_10 : Ref sig .tc := ⟨.hbm, 1542, rfl⟩
abbrev main_call2_v38 : Ref sig .tc := ⟨.hbm, 1543, rfl⟩
abbrev main_call2_v39 : Ref sig .tc := ⟨.hbm, 1544, rfl⟩
abbrev main_call2_v40 : Ref sig .tc := ⟨.hbm, 1545, rfl⟩
abbrev main_call2_c_11 : Ref sig .tc := ⟨.hbm, 1546, rfl⟩
abbrev main_call2_v41 : Ref sig .tc := ⟨.hbm, 1547, rfl⟩
abbrev main_call2_v42 : Ref sig .tc := ⟨.hbm, 1548, rfl⟩
abbrev main_call2_v43 : Ref sig .tc := ⟨.hbm, 1549, rfl⟩
abbrev main_call2_v44 : Ref sig .tc := ⟨.hbm, 1550, rfl⟩
abbrev main_call2_call5_v0 : Ref sig .tc := ⟨.hbm, 1551, rfl⟩
abbrev main_call2_call5_c : Ref sig .tc := ⟨.hbm, 1552, rfl⟩
abbrev main_call2_call5_v1 : Ref sig .tc := ⟨.hbm, 1553, rfl⟩
abbrev main_call2_call5_v2 : Ref sig .tc := ⟨.hbm, 1554, rfl⟩
abbrev main_call2_call5_v3 : Ref sig .tc := ⟨.hbm, 1555, rfl⟩
abbrev main_call2_call5_v4 : Ref sig .tc := ⟨.hbm, 1556, rfl⟩
abbrev main_call2_call5_v5 : Ref sig .tc := ⟨.hbm, 1557, rfl⟩
abbrev main_call2_call5_v6 : Ref sig .tc := ⟨.hbm, 1558, rfl⟩
abbrev main_call2_call5_c_0 : Ref sig .tc := ⟨.hbm, 1559, rfl⟩
abbrev main_call2_call5_v7 : Ref sig .tc := ⟨.hbm, 1560, rfl⟩
abbrev main_call2_call5_v8 : Ref sig .tc := ⟨.hbm, 1561, rfl⟩
abbrev main_call2_call5_c_1 : Ref sig .tc := ⟨.hbm, 1562, rfl⟩
abbrev main_call2_call5_v9 : Ref sig .tc := ⟨.hbm, 1563, rfl⟩
abbrev main_call2_call5_v10 : Ref sig .tc := ⟨.hbm, 1564, rfl⟩
abbrev main_call2_call5_v11 : Ref sig .tc := ⟨.hbm, 1565, rfl⟩
abbrev main_call2_call5_v12 : Ref sig .tc := ⟨.hbm, 1566, rfl⟩
abbrev main_call2_call5_v13 : Ref sig .tc := ⟨.hbm, 1567, rfl⟩
abbrev main_call2_call5_c_2 : Ref sig .tc := ⟨.hbm, 1568, rfl⟩
abbrev main_call2_call5_v14 : Ref sig .tc := ⟨.hbm, 1569, rfl⟩
abbrev main_call2_call5_v15 : Ref sig .tc := ⟨.hbm, 1570, rfl⟩
abbrev main_call2_call5_c_3 : Ref sig .tc := ⟨.hbm, 1571, rfl⟩
abbrev main_call2_call5_v16 : Ref sig .tc := ⟨.hbm, 1572, rfl⟩
abbrev main_call2_call5_v17 : Ref sig .tc := ⟨.hbm, 1573, rfl⟩
abbrev main_call2_call5_v18 : Ref sig .tc := ⟨.hbm, 1574, rfl⟩
abbrev main_call2_call5_v19 : Ref sig .tc := ⟨.hbm, 1575, rfl⟩
abbrev main_call2_call5_v20 : Ref sig .tc := ⟨.hbm, 1576, rfl⟩
abbrev main_call2_call5_c_4 : Ref sig .tc := ⟨.hbm, 1577, rfl⟩
abbrev main_call2_call5_v21 : Ref sig .tc := ⟨.hbm, 1578, rfl⟩
abbrev main_call2_call5_v22 : Ref sig .tc := ⟨.hbm, 1579, rfl⟩
abbrev main_call2_call5_c_5 : Ref sig .tc := ⟨.hbm, 1580, rfl⟩
abbrev main_call2_call5_v23 : Ref sig .tc := ⟨.hbm, 1581, rfl⟩
abbrev main_call2_call5_v24 : Ref sig .tc := ⟨.hbm, 1582, rfl⟩
abbrev main_call2_call5_v25 : Ref sig .tc := ⟨.hbm, 1583, rfl⟩
abbrev main_call2_call5_v26 : Ref sig .tc := ⟨.hbm, 1584, rfl⟩
abbrev main_call2_call5_v27 : Ref sig .tc := ⟨.hbm, 1585, rfl⟩
abbrev main_call2_call5_c_6 : Ref sig .tc := ⟨.hbm, 1586, rfl⟩
abbrev main_call2_call5_v28 : Ref sig .tc := ⟨.hbm, 1587, rfl⟩
abbrev main_call2_call5_v29 : Ref sig .tc := ⟨.hbm, 1588, rfl⟩
abbrev main_call2_call5_c_7 : Ref sig .tc := ⟨.hbm, 1589, rfl⟩
abbrev main_call2_call5_v30 : Ref sig .tc := ⟨.hbm, 1590, rfl⟩
abbrev main_call2_call5_v31 : Ref sig .tc := ⟨.hbm, 1591, rfl⟩
abbrev main_call2_call5_v32 : Ref sig .tc := ⟨.hbm, 1592, rfl⟩
abbrev main_call2_call5_v33 : Ref sig .tc := ⟨.hbm, 1593, rfl⟩
abbrev main_call2_call5_v34 : Ref sig .tc := ⟨.hbm, 1594, rfl⟩
abbrev main_call2_call5_v35 : Ref sig .tc := ⟨.hbm, 1595, rfl⟩
abbrev main_call2_call5_v36 : Ref sig .tc := ⟨.hbm, 1596, rfl⟩
abbrev main_call2_call5_v37 : Ref sig .tc := ⟨.hbm, 1597, rfl⟩
abbrev main_call2_call5_c_8 : Ref sig .tc := ⟨.hbm, 1598, rfl⟩
abbrev main_call2_call5_v38 : Ref sig .tc := ⟨.hbm, 1599, rfl⟩
abbrev main_call2_call5_v39 : Ref sig .tc := ⟨.hbm, 1600, rfl⟩
abbrev main_call2_call5_v40 : Ref sig .tc := ⟨.hbm, 1601, rfl⟩
abbrev main_call2_call5_c_9 : Ref sig .tc := ⟨.hbm, 1602, rfl⟩
abbrev main_call2_call5_v41 : Ref sig .tc := ⟨.hbm, 1603, rfl⟩
abbrev main_call2_call5_v42 : Ref sig .tc := ⟨.hbm, 1604, rfl⟩
abbrev main_call2_call5_c_10 : Ref sig .tc := ⟨.hbm, 1605, rfl⟩
abbrev main_call2_call5_v43 : Ref sig .tc := ⟨.hbm, 1606, rfl⟩
abbrev main_call2_call5_v44 : Ref sig .tc := ⟨.hbm, 1607, rfl⟩
abbrev main_call2_call5_v45 : Ref sig .tc := ⟨.hbm, 1608, rfl⟩
abbrev main_call2_call5_v46 : Ref sig .tc := ⟨.hbm, 1609, rfl⟩
abbrev main_call2_call5_v47 : Ref sig .tc := ⟨.hbm, 1610, rfl⟩
abbrev main_call2_call5_c_11 : Ref sig .tc := ⟨.hbm, 1611, rfl⟩
abbrev main_call2_call5_v48 : Ref sig .tc := ⟨.hbm, 1612, rfl⟩
abbrev main_call2_call5_v49 : Ref sig .tc := ⟨.hbm, 1613, rfl⟩
abbrev main_call2_call5_c_12 : Ref sig .tc := ⟨.hbm, 1614, rfl⟩
abbrev main_call2_call5_v50 : Ref sig .tc := ⟨.hbm, 1615, rfl⟩
abbrev main_call2_call5_v51 : Ref sig .tc := ⟨.hbm, 1616, rfl⟩
abbrev main_call2_call5_v52 : Ref sig .tc := ⟨.hbm, 1617, rfl⟩
abbrev main_call2_call5_v53 : Ref sig .tc := ⟨.hbm, 1618, rfl⟩
abbrev main_call2_call5_v54 : Ref sig .tc := ⟨.hbm, 1619, rfl⟩
abbrev main_call2_call5_c_13 : Ref sig .tc := ⟨.hbm, 1620, rfl⟩
abbrev main_call2_call5_v55 : Ref sig .tc := ⟨.hbm, 1621, rfl⟩
abbrev main_call2_call5_v56 : Ref sig .tc := ⟨.hbm, 1622, rfl⟩
abbrev main_call2_call5_c_14 : Ref sig .tc := ⟨.hbm, 1623, rfl⟩
abbrev main_call2_call5_v57 : Ref sig .tc := ⟨.hbm, 1624, rfl⟩
abbrev main_call2_call5_v58 : Ref sig .tc := ⟨.hbm, 1625, rfl⟩
abbrev main_call2_call5_v59 : Ref sig .tc := ⟨.hbm, 1626, rfl⟩
abbrev main_call2_call5_v60 : Ref sig .tc := ⟨.hbm, 1627, rfl⟩
abbrev main_call2_call5_v61 : Ref sig .tc := ⟨.hbm, 1628, rfl⟩
abbrev main_call2_call5_c_15 : Ref sig .tc := ⟨.hbm, 1629, rfl⟩
abbrev main_call2_call5_v62 : Ref sig .tc := ⟨.hbm, 1630, rfl⟩
abbrev main_call2_call5_v63 : Ref sig .tc := ⟨.hbm, 1631, rfl⟩
abbrev main_call2_call5_c_16 : Ref sig .tc := ⟨.hbm, 1632, rfl⟩
abbrev main_call2_call5_v64 : Ref sig .tc := ⟨.hbm, 1633, rfl⟩
abbrev main_call2_call5_v65 : Ref sig .tc := ⟨.hbm, 1634, rfl⟩
abbrev main_call2_call5_v66 : Ref sig .tc := ⟨.hbm, 1635, rfl⟩
abbrev main_call2_call5_v67 : Ref sig .tc := ⟨.hbm, 1636, rfl⟩
abbrev main_call2_call5_v68 : Ref sig .tc := ⟨.hbm, 1637, rfl⟩
abbrev main_call2_call5_v69 : Ref sig .tc := ⟨.hbm, 1638, rfl⟩
abbrev main_call2_call5_v70 : Ref sig .tc := ⟨.hbm, 1639, rfl⟩
abbrev main_call2_call5_v71 : Ref sig .tc := ⟨.hbm, 1640, rfl⟩
abbrev main_call2_call5_c_17 : Ref sig .tc := ⟨.hbm, 1641, rfl⟩
abbrev main_call2_call5_v72 : Ref sig .tc := ⟨.hbm, 1642, rfl⟩
abbrev main_call2_call5_v73 : Ref sig .tc := ⟨.hbm, 1643, rfl⟩
abbrev main_call2_call5_v74 : Ref sig .tc := ⟨.hbm, 1644, rfl⟩
abbrev main_call2_call5_c_18 : Ref sig .tc := ⟨.hbm, 1645, rfl⟩
abbrev main_call2_call5_v75 : Ref sig .tc := ⟨.hbm, 1646, rfl⟩
abbrev main_call2_call5_v76 : Ref sig .tc := ⟨.hbm, 1647, rfl⟩
abbrev main_call2_call5_c_19 : Ref sig .tc := ⟨.hbm, 1648, rfl⟩
abbrev main_call2_call5_v77 : Ref sig .tc := ⟨.hbm, 1649, rfl⟩
abbrev main_call2_call5_v78 : Ref sig .tc := ⟨.hbm, 1650, rfl⟩
abbrev main_call2_call5_v79 : Ref sig .tc := ⟨.hbm, 1651, rfl⟩
abbrev main_call2_call5_v80 : Ref sig .tc := ⟨.hbm, 1652, rfl⟩
abbrev main_call2_call5_v81 : Ref sig .tc := ⟨.hbm, 1653, rfl⟩
abbrev main_call2_call5_c_20 : Ref sig .tc := ⟨.hbm, 1654, rfl⟩
abbrev main_call2_call5_v82 : Ref sig .tc := ⟨.hbm, 1655, rfl⟩
abbrev main_call2_call5_v83 : Ref sig .tc := ⟨.hbm, 1656, rfl⟩
abbrev main_call2_call5_c_21 : Ref sig .tc := ⟨.hbm, 1657, rfl⟩
abbrev main_call2_call5_v84 : Ref sig .tc := ⟨.hbm, 1658, rfl⟩
abbrev main_call2_call5_v85 : Ref sig .tc := ⟨.hbm, 1659, rfl⟩
abbrev main_call2_call5_v86 : Ref sig .tc := ⟨.hbm, 1660, rfl⟩
abbrev main_call2_call5_v87 : Ref sig .tc := ⟨.hbm, 1661, rfl⟩
abbrev main_call2_call5_v88 : Ref sig .tc := ⟨.hbm, 1662, rfl⟩
abbrev main_call2_call5_c_22 : Ref sig .tc := ⟨.hbm, 1663, rfl⟩
abbrev main_call2_call5_v89 : Ref sig .tc := ⟨.hbm, 1664, rfl⟩
abbrev main_call2_call5_v90 : Ref sig .tc := ⟨.hbm, 1665, rfl⟩
abbrev main_call2_call5_c_23 : Ref sig .tc := ⟨.hbm, 1666, rfl⟩
abbrev main_call2_call5_v91 : Ref sig .tc := ⟨.hbm, 1667, rfl⟩
abbrev main_call2_call5_v92 : Ref sig .tc := ⟨.hbm, 1668, rfl⟩
abbrev main_call2_call5_v93 : Ref sig .tc := ⟨.hbm, 1669, rfl⟩
abbrev main_call2_call5_v94 : Ref sig .tc := ⟨.hbm, 1670, rfl⟩
abbrev main_call2_call5_v95 : Ref sig .tc := ⟨.hbm, 1671, rfl⟩
abbrev main_call2_call5_c_24 : Ref sig .tc := ⟨.hbm, 1672, rfl⟩
abbrev main_call2_call5_v96 : Ref sig .tc := ⟨.hbm, 1673, rfl⟩
abbrev main_call2_call5_v97 : Ref sig .tc := ⟨.hbm, 1674, rfl⟩
abbrev main_call2_call5_c_25 : Ref sig .tc := ⟨.hbm, 1675, rfl⟩
abbrev main_call2_call5_v98 : Ref sig .tc := ⟨.hbm, 1676, rfl⟩
abbrev main_call2_call5_v99 : Ref sig .tc := ⟨.hbm, 1677, rfl⟩
abbrev main_call2_call5_v100 : Ref sig .tc := ⟨.hbm, 1678, rfl⟩
abbrev main_call2_call5_v101 : Ref sig .tc := ⟨.hbm, 1679, rfl⟩
abbrev main_call2_call5_v102 : Ref sig .tc := ⟨.hbm, 1680, rfl⟩
abbrev main_call2_call5_v103 : Ref sig .tc := ⟨.hbm, 1681, rfl⟩
abbrev main_call2_call5_v104 : Ref sig .tc := ⟨.hbm, 1682, rfl⟩
abbrev main_call2_call5_v105 : Ref sig .tc := ⟨.hbm, 1683, rfl⟩
abbrev main_call2_call5_c_26 : Ref sig .tc := ⟨.hbm, 1684, rfl⟩
abbrev main_call2_call5_v106 : Ref sig .tc := ⟨.hbm, 1685, rfl⟩
abbrev main_call2_call5_v107 : Ref sig .tc := ⟨.hbm, 1686, rfl⟩
abbrev main_call2_call5_v108 : Ref sig .tc := ⟨.hbm, 1687, rfl⟩
abbrev main_call2_call5_c_27 : Ref sig .tc := ⟨.hbm, 1688, rfl⟩
abbrev main_call2_call5_v109 : Ref sig .tc := ⟨.hbm, 1689, rfl⟩
abbrev main_call2_call5_v110 : Ref sig .tc := ⟨.hbm, 1690, rfl⟩
abbrev main_call2_call5_c_28 : Ref sig .tc := ⟨.hbm, 1691, rfl⟩
abbrev main_call2_call5_v111 : Ref sig .tc := ⟨.hbm, 1692, rfl⟩
abbrev main_call2_call5_v112 : Ref sig .tc := ⟨.hbm, 1693, rfl⟩
abbrev main_call2_call5_v113 : Ref sig .tc := ⟨.hbm, 1694, rfl⟩
abbrev main_call2_call5_v114 : Ref sig .tc := ⟨.hbm, 1695, rfl⟩
abbrev main_call2_call5_v115 : Ref sig .tc := ⟨.hbm, 1696, rfl⟩
abbrev main_call2_call5_c_29 : Ref sig .tc := ⟨.hbm, 1697, rfl⟩
abbrev main_call2_call5_v116 : Ref sig .tc := ⟨.hbm, 1698, rfl⟩
abbrev main_call2_call5_v117 : Ref sig .tc := ⟨.hbm, 1699, rfl⟩
abbrev main_call2_call5_c_30 : Ref sig .tc := ⟨.hbm, 1700, rfl⟩
abbrev main_call2_call5_v118 : Ref sig .tc := ⟨.hbm, 1701, rfl⟩
abbrev main_call2_call5_v119 : Ref sig .tc := ⟨.hbm, 1702, rfl⟩
abbrev main_call2_call5_v120 : Ref sig .tc := ⟨.hbm, 1703, rfl⟩
abbrev main_call2_call5_v121 : Ref sig .tc := ⟨.hbm, 1704, rfl⟩
abbrev main_call2_call5_v122 : Ref sig .tc := ⟨.hbm, 1705, rfl⟩
abbrev main_call2_call5_c_31 : Ref sig .tc := ⟨.hbm, 1706, rfl⟩
abbrev main_call2_call5_v123 : Ref sig .tc := ⟨.hbm, 1707, rfl⟩
abbrev main_call2_call5_v124 : Ref sig .tc := ⟨.hbm, 1708, rfl⟩
abbrev main_call2_call5_c_32 : Ref sig .tc := ⟨.hbm, 1709, rfl⟩
abbrev main_call2_call5_v125 : Ref sig .tc := ⟨.hbm, 1710, rfl⟩
abbrev main_call2_call5_v126 : Ref sig .tc := ⟨.hbm, 1711, rfl⟩
abbrev main_call2_call5_v127 : Ref sig .tc := ⟨.hbm, 1712, rfl⟩
abbrev main_call2_call5_v128 : Ref sig .tc := ⟨.hbm, 1713, rfl⟩
abbrev main_call2_call5_v129 : Ref sig .tc := ⟨.hbm, 1714, rfl⟩
abbrev main_call2_call5_c_33 : Ref sig .tc := ⟨.hbm, 1715, rfl⟩
abbrev main_call2_call5_v130 : Ref sig .tc := ⟨.hbm, 1716, rfl⟩
abbrev main_call2_call5_v131 : Ref sig .tc := ⟨.hbm, 1717, rfl⟩
abbrev main_call2_call5_c_34 : Ref sig .tc := ⟨.hbm, 1718, rfl⟩
abbrev main_call2_call5_v132 : Ref sig .tc := ⟨.hbm, 1719, rfl⟩
abbrev main_call2_call5_v133 : Ref sig .tc := ⟨.hbm, 1720, rfl⟩
abbrev main_call2_call5_v134 : Ref sig .tc := ⟨.hbm, 1721, rfl⟩
abbrev main_call2_call5_v135 : Ref sig .tc := ⟨.hbm, 1722, rfl⟩
abbrev main_call2_call5_v136 : Ref sig .tc := ⟨.hbm, 1723, rfl⟩
abbrev main_call2_call5_v137 : Ref sig .tc := ⟨.hbm, 1724, rfl⟩
abbrev main_call2_call5_v138 : Ref sig .tc := ⟨.hbm, 1725, rfl⟩
abbrev main_call2_call5_v139 : Ref sig .tc := ⟨.hbm, 1726, rfl⟩
abbrev main_call2_call5_c_35 : Ref sig .tc := ⟨.hbm, 1727, rfl⟩
abbrev main_call2_call5_v140 : Ref sig .tc := ⟨.hbm, 1728, rfl⟩
abbrev main_call2_call5_v141 : Ref sig .tc := ⟨.hbm, 1729, rfl⟩
abbrev main_call2_call5_v142 : Ref sig .tc := ⟨.hbm, 1730, rfl⟩
abbrev main_call2_call5_c_36 : Ref sig .tc := ⟨.hbm, 1731, rfl⟩
abbrev main_call2_call5_v143 : Ref sig .tc := ⟨.hbm, 1732, rfl⟩
abbrev main_call2_call5_v144 : Ref sig .tc := ⟨.hbm, 1733, rfl⟩
abbrev main_call2_call5_c_37 : Ref sig .tc := ⟨.hbm, 1734, rfl⟩
abbrev main_call2_call5_v145 : Ref sig .tc := ⟨.hbm, 1735, rfl⟩
abbrev main_call2_call5_v146 : Ref sig .tc := ⟨.hbm, 1736, rfl⟩
abbrev main_call2_call5_v147 : Ref sig .tc := ⟨.hbm, 1737, rfl⟩
abbrev main_call2_call5_v148 : Ref sig .tc := ⟨.hbm, 1738, rfl⟩
abbrev main_call2_call5_v149 : Ref sig .tc := ⟨.hbm, 1739, rfl⟩
abbrev main_call2_call5_c_38 : Ref sig .tc := ⟨.hbm, 1740, rfl⟩
abbrev main_call2_call5_v150 : Ref sig .tc := ⟨.hbm, 1741, rfl⟩
abbrev main_call2_call5_v151 : Ref sig .tc := ⟨.hbm, 1742, rfl⟩
abbrev main_call2_call5_c_39 : Ref sig .tc := ⟨.hbm, 1743, rfl⟩
abbrev main_call2_call5_v152 : Ref sig .tc := ⟨.hbm, 1744, rfl⟩
abbrev main_call2_call5_v153 : Ref sig .tc := ⟨.hbm, 1745, rfl⟩
abbrev main_call2_call5_v154 : Ref sig .tc := ⟨.hbm, 1746, rfl⟩
abbrev main_call2_call5_v155 : Ref sig .tc := ⟨.hbm, 1747, rfl⟩
abbrev main_call2_call5_v156 : Ref sig .tc := ⟨.hbm, 1748, rfl⟩
abbrev main_call2_call5_c_40 : Ref sig .tc := ⟨.hbm, 1749, rfl⟩
abbrev main_call2_call5_v157 : Ref sig .tc := ⟨.hbm, 1750, rfl⟩
abbrev main_call2_call5_v158 : Ref sig .tc := ⟨.hbm, 1751, rfl⟩
abbrev main_call2_call5_c_41 : Ref sig .tc := ⟨.hbm, 1752, rfl⟩
abbrev main_call2_call5_v159 : Ref sig .tc := ⟨.hbm, 1753, rfl⟩
abbrev main_call2_call5_v160 : Ref sig .tc := ⟨.hbm, 1754, rfl⟩
abbrev main_call2_call5_v161 : Ref sig .tc := ⟨.hbm, 1755, rfl⟩
abbrev main_call2_call5_v162 : Ref sig .tc := ⟨.hbm, 1756, rfl⟩
abbrev main_call2_call5_v163 : Ref sig .tc := ⟨.hbm, 1757, rfl⟩
abbrev main_call2_call5_c_42 : Ref sig .tc := ⟨.hbm, 1758, rfl⟩
abbrev main_call2_call5_v164 : Ref sig .tc := ⟨.hbm, 1759, rfl⟩
abbrev main_call2_call5_v165 : Ref sig .tc := ⟨.hbm, 1760, rfl⟩
abbrev main_call2_call5_c_43 : Ref sig .tc := ⟨.hbm, 1761, rfl⟩
abbrev main_call2_call5_v166 : Ref sig .tc := ⟨.hbm, 1762, rfl⟩
abbrev main_call2_call5_v167 : Ref sig .tc := ⟨.hbm, 1763, rfl⟩
abbrev main_call2_call5_v168 : Ref sig .tc := ⟨.hbm, 1764, rfl⟩
abbrev main_call2_call5_v169 : Ref sig .tc := ⟨.hbm, 1765, rfl⟩
abbrev main_call2_call5_v170 : Ref sig .tc := ⟨.hbm, 1766, rfl⟩
abbrev main_call2_v45_0 : Ref sig .tc := ⟨.hbm, 1767, rfl⟩
abbrev main_call2_call5_v172 : Ref sig .tc := ⟨.hbm, 1768, rfl⟩
abbrev main_call2_call5_v173 : Ref sig .tc := ⟨.hbm, 1769, rfl⟩
abbrev main_call2_call5_c_44 : Ref sig .tc := ⟨.hbm, 1770, rfl⟩
abbrev main_call2_call5_v174 : Ref sig .tc := ⟨.hbm, 1771, rfl⟩
abbrev main_call2_v45_1 : Ref sig .tc := ⟨.hbm, 1772, rfl⟩
abbrev main_call2_v46 : Ref sig .tc := ⟨.hbm, 1773, rfl⟩
abbrev main_call2_v47 : Ref sig .tc := ⟨.hbm, 1774, rfl⟩
abbrev main_call2_v48 : Ref sig .tc := ⟨.hbm, 1775, rfl⟩
abbrev main_call2_v49 : Ref sig .tc := ⟨.hbm, 1776, rfl⟩
abbrev main_call2_c_12 : Ref sig .tc := ⟨.hbm, 1777, rfl⟩
abbrev main_call2_v50 : Ref sig .tc := ⟨.hbm, 1778, rfl⟩
abbrev main_call2_v51 : Ref sig .tc := ⟨.hbm, 1779, rfl⟩
abbrev main_call2_v52 : Ref sig .tc := ⟨.hbm, 1780, rfl⟩
abbrev main_call2_v53 : Ref sig .tc := ⟨.hbm, 1781, rfl⟩
abbrev main_call2_v54 : Ref sig .tc := ⟨.hbm, 1782, rfl⟩
abbrev main_call2_c_13 : Ref sig .tc := ⟨.hbm, 1783, rfl⟩
abbrev main_call2_v55 : Ref sig .tc := ⟨.hbm, 1784, rfl⟩
abbrev main_call2_v56 : Ref sig .tc := ⟨.hbm, 1785, rfl⟩
abbrev main_call2_v57 : Ref sig .tc := ⟨.hbm, 1786, rfl⟩
abbrev main_call2_c_14 : Ref sig .tc := ⟨.hbm, 1787, rfl⟩
abbrev main_call2_v58 : Ref sig .tc := ⟨.hbm, 1788, rfl⟩
abbrev main_call2_v59 : Ref sig .tc := ⟨.hbm, 1789, rfl⟩
abbrev main_call2_v60 : Ref sig .tc := ⟨.hbm, 1790, rfl⟩
abbrev main_call2_v61 : Ref sig .tc := ⟨.hbm, 1791, rfl⟩
abbrev main_call2_v62 : Ref sig .tc := ⟨.hbm, 1792, rfl⟩
abbrev main_call2_v63 : Ref sig .tc := ⟨.hbm, 1793, rfl⟩
abbrev main_call2_v64 : Ref sig .tc := ⟨.hbm, 1794, rfl⟩
abbrev main_call2_v65 : Ref sig .tc := ⟨.hbm, 1795, rfl⟩
abbrev main_call2_v66 : Ref sig .tc := ⟨.hbm, 1796, rfl⟩
abbrev main_call2_v67 : Ref sig .tc := ⟨.hbm, 1797, rfl⟩
abbrev main_call2_v68 : Ref sig .tc := ⟨.hbm, 1798, rfl⟩
abbrev main_call2_v69 : Ref sig .tc := ⟨.hbm, 1799, rfl⟩
abbrev main_call2_v70 : Ref sig .tc := ⟨.hbm, 1800, rfl⟩
abbrev main_call2_v71 : Ref sig .tc := ⟨.hbm, 1801, rfl⟩
abbrev main_call2_v72 : Ref sig .tc := ⟨.hbm, 1802, rfl⟩
abbrev main_v15 : Ref sig .tc := ⟨.hbm, 1803, rfl⟩
abbrev main_v16 : Ref sig .tc := ⟨.hbm, 1804, rfl⟩
abbrev main_c_6 : Ref sig .tc := ⟨.hbm, 1805, rfl⟩
abbrev main_v17 : Ref sig .tc := ⟨.hbm, 1806, rfl⟩
abbrev main_v18 : Ref sig .tc := ⟨.hbm, 1807, rfl⟩
abbrev main_v19 : Ref sig .tc := ⟨.hbm, 1808, rfl⟩
abbrev main_v20 : Ref sig .tc := ⟨.hbm, 1809, rfl⟩
abbrev main_v21 : Ref sig .tc := ⟨.hbm, 1810, rfl⟩
abbrev main_c_7 : Ref sig .tc := ⟨.hbm, 1811, rfl⟩
abbrev main_v22 : Ref sig .tc := ⟨.hbm, 1812, rfl⟩
abbrev main_c_8 : Ref sig .tc := ⟨.hbm, 1813, rfl⟩
abbrev main_v23 : Ref sig .tc := ⟨.hbm, 1814, rfl⟩
abbrev main_v24 : Ref sig .tc := ⟨.hbm, 1815, rfl⟩
abbrev main_c_9 : Ref sig .tc := ⟨.hbm, 1816, rfl⟩
abbrev main_v25 : Ref sig .tc := ⟨.hbm, 1817, rfl⟩
abbrev main_v26 : Ref sig .tc := ⟨.hbm, 1818, rfl⟩
abbrev main_v27 : Ref sig .tc := ⟨.hbm, 1819, rfl⟩
abbrev main_c_10 : Ref sig .tc := ⟨.hbm, 1820, rfl⟩
abbrev main_v28 : Ref sig .tc := ⟨.hbm, 1821, rfl⟩
abbrev main_v29 : Ref sig .tc := ⟨.hbm, 1822, rfl⟩
abbrev main_c_11 : Ref sig .tc := ⟨.hbm, 1823, rfl⟩
abbrev main_v30 : Ref sig .tc := ⟨.hbm, 1824, rfl⟩
abbrev main_v31 : Ref sig .tc := ⟨.hbm, 1825, rfl⟩
abbrev main_v32 : Ref sig .tc := ⟨.hbm, 1826, rfl⟩
abbrev main_v33 : Ref sig .tc := ⟨.hbm, 1827, rfl⟩
abbrev main_v34 : Ref sig .tc := ⟨.hbm, 1828, rfl⟩
abbrev main_v35 : Ref sig .tc := ⟨.hbm, 1829, rfl⟩
abbrev main_c_12 : Ref sig .tc := ⟨.hbm, 1830, rfl⟩
abbrev main_v36 : Ref sig .tc := ⟨.hbm, 1831, rfl⟩
abbrev main_v37 : Ref sig .tc := ⟨.hbm, 1832, rfl⟩
abbrev main_c_13 : Ref sig .tc := ⟨.hbm, 1833, rfl⟩
abbrev main_v38 : Ref sig .tc := ⟨.hbm, 1834, rfl⟩
abbrev main_v39 : Ref sig .tc := ⟨.hbm, 1835, rfl⟩
abbrev main_c_14 : Ref sig .tc := ⟨.hbm, 1836, rfl⟩
abbrev main_v40 : Ref sig .tc := ⟨.hbm, 1837, rfl⟩
abbrev main_v41 : Ref sig .tc := ⟨.hbm, 1838, rfl⟩
abbrev main_v42 : Ref sig .tc := ⟨.hbm, 1839, rfl⟩
abbrev main_c_15 : Ref sig .tc := ⟨.hbm, 1840, rfl⟩
abbrev main_v43 : Ref sig .tc := ⟨.hbm, 1841, rfl⟩
abbrev main_v44 : Ref sig .tc := ⟨.hbm, 1842, rfl⟩
abbrev main_c_16 : Ref sig .tc := ⟨.hbm, 1843, rfl⟩
abbrev main_v45 : Ref sig .tc := ⟨.hbm, 1844, rfl⟩
abbrev main_v46 : Ref sig .tc := ⟨.hbm, 1845, rfl⟩
abbrev main_v47 : Ref sig .tc := ⟨.hbm, 1846, rfl⟩
abbrev main_v48 : Ref sig .tc := ⟨.hbm, 1847, rfl⟩
abbrev main_v49 : Ref sig .tc := ⟨.hbm, 1848, rfl⟩
abbrev main_v50 : Ref sig .tc := ⟨.hbm, 1849, rfl⟩
abbrev main_c_17 : Ref sig .tc := ⟨.hbm, 1850, rfl⟩
abbrev main_v51 : Ref sig .tc := ⟨.hbm, 1851, rfl⟩
abbrev main_v52 : Ref sig .tc := ⟨.hbm, 1852, rfl⟩
abbrev main_call3_call0_c : Ref sig .tc := ⟨.hbm, 1853, rfl⟩
abbrev main_call3_call0_v0 : Ref sig .tc := ⟨.hbm, 1854, rfl⟩
abbrev main_v53 : Ref sig .tc := ⟨.hbm, 1855, rfl⟩
abbrev main_v54 : Ref sig .tc := ⟨.hbm, 1856, rfl⟩
abbrev main_c_18 : Ref sig .tc := ⟨.hbm, 1857, rfl⟩
abbrev main_v55 : Ref sig .tc := ⟨.hbm, 1858, rfl⟩
abbrev main_v56 : Ref sig .tc := ⟨.hbm, 1859, rfl⟩
abbrev main_v57 : Ref sig .tc := ⟨.hbm, 1860, rfl⟩
abbrev main_cst : Ref sig .tc := ⟨.hbm, 1861, rfl⟩
abbrev main_cst_19 : Ref sig .tc := ⟨.hbm, 1862, rfl⟩
abbrev main_call4_v0 : Ref sig .tc := ⟨.hbm, 1863, rfl⟩
abbrev main_call4_v1 : Ref sig .tc := ⟨.hbm, 1864, rfl⟩
abbrev main_call4_v2 : Ref sig .tc := ⟨.hbm, 1865, rfl⟩
abbrev main_call4_v3 : Ref sig .tc := ⟨.hbm, 1866, rfl⟩
abbrev main_call4_v4 : Ref sig .tc := ⟨.hbm, 1867, rfl⟩
abbrev main_call4_v5 : Ref sig .tc := ⟨.hbm, 1868, rfl⟩
abbrev main_call4_v6 : Ref sig .tc := ⟨.hbm, 1869, rfl⟩
abbrev main_call4_v7 : Ref sig .tc := ⟨.hbm, 1870, rfl⟩
abbrev main_call4_v8 : Ref sig .tc := ⟨.hbm, 1871, rfl⟩
abbrev main_call4_v9 : Ref sig .tc := ⟨.hbm, 1872, rfl⟩
abbrev main_call4_c : Ref sig .tc := ⟨.hbm, 1873, rfl⟩
abbrev main_call4_v10 : Ref sig .tc := ⟨.hbm, 1874, rfl⟩
abbrev main_call4_v11 : Ref sig .tc := ⟨.hbm, 1875, rfl⟩
abbrev main_call4_c_0 : Ref sig .tc := ⟨.hbm, 1876, rfl⟩
abbrev main_call4_v12 : Ref sig .tc := ⟨.hbm, 1877, rfl⟩
abbrev main_call4_v13 : Ref sig .tc := ⟨.hbm, 1878, rfl⟩
abbrev main_call4_v14 : Ref sig .tc := ⟨.hbm, 1879, rfl⟩
abbrev main_call4_c_1 : Ref sig .tc := ⟨.hbm, 1880, rfl⟩
abbrev main_call4_v15 : Ref sig .tc := ⟨.hbm, 1881, rfl⟩
abbrev main_call4_v16 : Ref sig .tc := ⟨.hbm, 1882, rfl⟩
abbrev main_call4_v17 : Ref sig .tc := ⟨.hbm, 1883, rfl⟩
abbrev main_call4_v18 : Ref sig .tc := ⟨.hbm, 1884, rfl⟩
abbrev main_call4_call0_v0 : Ref sig .tc := ⟨.hbm, 1885, rfl⟩
abbrev main_call4_call0_c : Ref sig .tc := ⟨.hbm, 1886, rfl⟩
abbrev main_call4_call0_v1 : Ref sig .tc := ⟨.hbm, 1887, rfl⟩
abbrev main_call4_call0_v2 : Ref sig .tc := ⟨.hbm, 1888, rfl⟩
abbrev main_call4_call0_v3 : Ref sig .tc := ⟨.hbm, 1889, rfl⟩
abbrev main_call4_call0_v4 : Ref sig .tc := ⟨.hbm, 1890, rfl⟩
abbrev main_call4_call0_v5 : Ref sig .tc := ⟨.hbm, 1891, rfl⟩
abbrev main_call4_call0_v6 : Ref sig .tc := ⟨.hbm, 1892, rfl⟩
abbrev main_call4_call0_c_0 : Ref sig .tc := ⟨.hbm, 1893, rfl⟩
abbrev main_call4_call0_v7 : Ref sig .tc := ⟨.hbm, 1894, rfl⟩
abbrev main_call4_call0_v8 : Ref sig .tc := ⟨.hbm, 1895, rfl⟩
abbrev main_call4_call0_c_1 : Ref sig .tc := ⟨.hbm, 1896, rfl⟩
abbrev main_call4_call0_v9 : Ref sig .tc := ⟨.hbm, 1897, rfl⟩
abbrev main_call4_call0_v10 : Ref sig .tc := ⟨.hbm, 1898, rfl⟩
abbrev main_call4_call0_v11 : Ref sig .tc := ⟨.hbm, 1899, rfl⟩
abbrev main_call4_call0_v12 : Ref sig .tc := ⟨.hbm, 1900, rfl⟩
abbrev main_call4_call0_v13 : Ref sig .tc := ⟨.hbm, 1901, rfl⟩
abbrev main_call4_call0_c_2 : Ref sig .tc := ⟨.hbm, 1902, rfl⟩
abbrev main_call4_call0_v14 : Ref sig .tc := ⟨.hbm, 1903, rfl⟩
abbrev main_call4_call0_v15 : Ref sig .tc := ⟨.hbm, 1904, rfl⟩
abbrev main_call4_call0_c_3 : Ref sig .tc := ⟨.hbm, 1905, rfl⟩
abbrev main_call4_call0_v16 : Ref sig .tc := ⟨.hbm, 1906, rfl⟩
abbrev main_call4_call0_v17 : Ref sig .tc := ⟨.hbm, 1907, rfl⟩
abbrev main_call4_call0_v18 : Ref sig .tc := ⟨.hbm, 1908, rfl⟩
abbrev main_call4_call0_v19 : Ref sig .tc := ⟨.hbm, 1909, rfl⟩
abbrev main_call4_call0_v20 : Ref sig .tc := ⟨.hbm, 1910, rfl⟩
abbrev main_call4_call0_c_4 : Ref sig .tc := ⟨.hbm, 1911, rfl⟩
abbrev main_call4_call0_v21 : Ref sig .tc := ⟨.hbm, 1912, rfl⟩
abbrev main_call4_call0_v22 : Ref sig .tc := ⟨.hbm, 1913, rfl⟩
abbrev main_call4_call0_c_5 : Ref sig .tc := ⟨.hbm, 1914, rfl⟩
abbrev main_call4_call0_v23 : Ref sig .tc := ⟨.hbm, 1915, rfl⟩
abbrev main_call4_call0_v24 : Ref sig .tc := ⟨.hbm, 1916, rfl⟩
abbrev main_call4_call0_v25 : Ref sig .tc := ⟨.hbm, 1917, rfl⟩
abbrev main_call4_call0_v26 : Ref sig .tc := ⟨.hbm, 1918, rfl⟩
abbrev main_call4_call0_v27 : Ref sig .tc := ⟨.hbm, 1919, rfl⟩
abbrev main_call4_call0_c_6 : Ref sig .tc := ⟨.hbm, 1920, rfl⟩
abbrev main_call4_call0_v28 : Ref sig .tc := ⟨.hbm, 1921, rfl⟩
abbrev main_call4_call0_v29 : Ref sig .tc := ⟨.hbm, 1922, rfl⟩
abbrev main_call4_call0_c_7 : Ref sig .tc := ⟨.hbm, 1923, rfl⟩
abbrev main_call4_call0_v30 : Ref sig .tc := ⟨.hbm, 1924, rfl⟩
abbrev main_call4_call0_v31 : Ref sig .tc := ⟨.hbm, 1925, rfl⟩
abbrev main_call4_call0_v32 : Ref sig .tc := ⟨.hbm, 1926, rfl⟩
abbrev main_call4_call0_v33 : Ref sig .tc := ⟨.hbm, 1927, rfl⟩
abbrev main_call4_call0_v34 : Ref sig .tc := ⟨.hbm, 1928, rfl⟩
abbrev main_call4_call0_v35 : Ref sig .tc := ⟨.hbm, 1929, rfl⟩
abbrev main_call4_call0_v36 : Ref sig .tc := ⟨.hbm, 1930, rfl⟩
abbrev main_call4_call0_v37 : Ref sig .tc := ⟨.hbm, 1931, rfl⟩
abbrev main_call4_call0_c_8 : Ref sig .tc := ⟨.hbm, 1932, rfl⟩
abbrev main_call4_call0_v38 : Ref sig .tc := ⟨.hbm, 1933, rfl⟩
abbrev main_call4_call0_v39 : Ref sig .tc := ⟨.hbm, 1934, rfl⟩
abbrev main_call4_call0_v40 : Ref sig .tc := ⟨.hbm, 1935, rfl⟩
abbrev main_call4_call0_c_9 : Ref sig .tc := ⟨.hbm, 1936, rfl⟩
abbrev main_call4_call0_v41 : Ref sig .tc := ⟨.hbm, 1937, rfl⟩
abbrev main_call4_call0_v42 : Ref sig .tc := ⟨.hbm, 1938, rfl⟩
abbrev main_call4_call0_c_10 : Ref sig .tc := ⟨.hbm, 1939, rfl⟩
abbrev main_call4_call0_v43 : Ref sig .tc := ⟨.hbm, 1940, rfl⟩
abbrev main_call4_call0_v44 : Ref sig .tc := ⟨.hbm, 1941, rfl⟩
abbrev main_call4_call0_v45 : Ref sig .tc := ⟨.hbm, 1942, rfl⟩
abbrev main_call4_call0_v46 : Ref sig .tc := ⟨.hbm, 1943, rfl⟩
abbrev main_call4_call0_v47 : Ref sig .tc := ⟨.hbm, 1944, rfl⟩
abbrev main_call4_call0_c_11 : Ref sig .tc := ⟨.hbm, 1945, rfl⟩
abbrev main_call4_call0_v48 : Ref sig .tc := ⟨.hbm, 1946, rfl⟩
abbrev main_call4_call0_v49 : Ref sig .tc := ⟨.hbm, 1947, rfl⟩
abbrev main_call4_call0_c_12 : Ref sig .tc := ⟨.hbm, 1948, rfl⟩
abbrev main_call4_call0_v50 : Ref sig .tc := ⟨.hbm, 1949, rfl⟩
abbrev main_call4_call0_v51 : Ref sig .tc := ⟨.hbm, 1950, rfl⟩
abbrev main_call4_call0_v52 : Ref sig .tc := ⟨.hbm, 1951, rfl⟩
abbrev main_call4_call0_v53 : Ref sig .tc := ⟨.hbm, 1952, rfl⟩
abbrev main_call4_call0_v54 : Ref sig .tc := ⟨.hbm, 1953, rfl⟩
abbrev main_call4_call0_c_13 : Ref sig .tc := ⟨.hbm, 1954, rfl⟩
abbrev main_call4_call0_v55 : Ref sig .tc := ⟨.hbm, 1955, rfl⟩
abbrev main_call4_call0_v56 : Ref sig .tc := ⟨.hbm, 1956, rfl⟩
abbrev main_call4_call0_c_14 : Ref sig .tc := ⟨.hbm, 1957, rfl⟩
abbrev main_call4_call0_v57 : Ref sig .tc := ⟨.hbm, 1958, rfl⟩
abbrev main_call4_call0_v58 : Ref sig .tc := ⟨.hbm, 1959, rfl⟩
abbrev main_call4_call0_v59 : Ref sig .tc := ⟨.hbm, 1960, rfl⟩
abbrev main_call4_call0_v60 : Ref sig .tc := ⟨.hbm, 1961, rfl⟩
abbrev main_call4_call0_v61 : Ref sig .tc := ⟨.hbm, 1962, rfl⟩
abbrev main_call4_call0_c_15 : Ref sig .tc := ⟨.hbm, 1963, rfl⟩
abbrev main_call4_call0_v62 : Ref sig .tc := ⟨.hbm, 1964, rfl⟩
abbrev main_call4_call0_v63 : Ref sig .tc := ⟨.hbm, 1965, rfl⟩
abbrev main_call4_call0_c_16 : Ref sig .tc := ⟨.hbm, 1966, rfl⟩
abbrev main_call4_call0_v64 : Ref sig .tc := ⟨.hbm, 1967, rfl⟩
abbrev main_call4_call0_v65 : Ref sig .tc := ⟨.hbm, 1968, rfl⟩
abbrev main_call4_call0_v66 : Ref sig .tc := ⟨.hbm, 1969, rfl⟩
abbrev main_call4_call0_v67 : Ref sig .tc := ⟨.hbm, 1970, rfl⟩
abbrev main_call4_call0_v68 : Ref sig .tc := ⟨.hbm, 1971, rfl⟩
abbrev main_call4_call0_v69 : Ref sig .tc := ⟨.hbm, 1972, rfl⟩
abbrev main_call4_call0_v70 : Ref sig .tc := ⟨.hbm, 1973, rfl⟩
abbrev main_call4_call0_v71 : Ref sig .tc := ⟨.hbm, 1974, rfl⟩
abbrev main_call4_call0_c_17 : Ref sig .tc := ⟨.hbm, 1975, rfl⟩
abbrev main_call4_call0_v72 : Ref sig .tc := ⟨.hbm, 1976, rfl⟩
abbrev main_call4_call0_v73 : Ref sig .tc := ⟨.hbm, 1977, rfl⟩
abbrev main_call4_call0_v74 : Ref sig .tc := ⟨.hbm, 1978, rfl⟩
abbrev main_call4_call0_c_18 : Ref sig .tc := ⟨.hbm, 1979, rfl⟩
abbrev main_call4_call0_v75 : Ref sig .tc := ⟨.hbm, 1980, rfl⟩
abbrev main_call4_call0_v76 : Ref sig .tc := ⟨.hbm, 1981, rfl⟩
abbrev main_call4_call0_c_19 : Ref sig .tc := ⟨.hbm, 1982, rfl⟩
abbrev main_call4_call0_v77 : Ref sig .tc := ⟨.hbm, 1983, rfl⟩
abbrev main_call4_call0_v78 : Ref sig .tc := ⟨.hbm, 1984, rfl⟩
abbrev main_call4_call0_v79 : Ref sig .tc := ⟨.hbm, 1985, rfl⟩
abbrev main_call4_call0_v80 : Ref sig .tc := ⟨.hbm, 1986, rfl⟩
abbrev main_call4_call0_v81 : Ref sig .tc := ⟨.hbm, 1987, rfl⟩
abbrev main_call4_call0_c_20 : Ref sig .tc := ⟨.hbm, 1988, rfl⟩
abbrev main_call4_call0_v82 : Ref sig .tc := ⟨.hbm, 1989, rfl⟩
abbrev main_call4_call0_v83 : Ref sig .tc := ⟨.hbm, 1990, rfl⟩
abbrev main_call4_call0_c_21 : Ref sig .tc := ⟨.hbm, 1991, rfl⟩
abbrev main_call4_call0_v84 : Ref sig .tc := ⟨.hbm, 1992, rfl⟩
abbrev main_call4_call0_v85 : Ref sig .tc := ⟨.hbm, 1993, rfl⟩
abbrev main_call4_call0_v86 : Ref sig .tc := ⟨.hbm, 1994, rfl⟩
abbrev main_call4_call0_v87 : Ref sig .tc := ⟨.hbm, 1995, rfl⟩
abbrev main_call4_call0_v88 : Ref sig .tc := ⟨.hbm, 1996, rfl⟩
abbrev main_call4_call0_c_22 : Ref sig .tc := ⟨.hbm, 1997, rfl⟩
abbrev main_call4_call0_v89 : Ref sig .tc := ⟨.hbm, 1998, rfl⟩
abbrev main_call4_call0_v90 : Ref sig .tc := ⟨.hbm, 1999, rfl⟩
abbrev main_call4_call0_c_23 : Ref sig .tc := ⟨.hbm, 2000, rfl⟩
abbrev main_call4_call0_v91 : Ref sig .tc := ⟨.hbm, 2001, rfl⟩
abbrev main_call4_call0_v92 : Ref sig .tc := ⟨.hbm, 2002, rfl⟩
abbrev main_call4_call0_v93 : Ref sig .tc := ⟨.hbm, 2003, rfl⟩
abbrev main_call4_call0_v94 : Ref sig .tc := ⟨.hbm, 2004, rfl⟩
abbrev main_call4_call0_v95 : Ref sig .tc := ⟨.hbm, 2005, rfl⟩
abbrev main_call4_call0_c_24 : Ref sig .tc := ⟨.hbm, 2006, rfl⟩
abbrev main_call4_call0_v96 : Ref sig .tc := ⟨.hbm, 2007, rfl⟩
abbrev main_call4_call0_v97 : Ref sig .tc := ⟨.hbm, 2008, rfl⟩
abbrev main_call4_call0_c_25 : Ref sig .tc := ⟨.hbm, 2009, rfl⟩
abbrev main_call4_call0_v98 : Ref sig .tc := ⟨.hbm, 2010, rfl⟩
abbrev main_call4_call0_v99 : Ref sig .tc := ⟨.hbm, 2011, rfl⟩
abbrev main_call4_call0_v100 : Ref sig .tc := ⟨.hbm, 2012, rfl⟩
abbrev main_call4_call0_v101 : Ref sig .tc := ⟨.hbm, 2013, rfl⟩
abbrev main_call4_call0_v102 : Ref sig .tc := ⟨.hbm, 2014, rfl⟩
abbrev main_call4_call0_v103 : Ref sig .tc := ⟨.hbm, 2015, rfl⟩
abbrev main_call4_call0_v104 : Ref sig .tc := ⟨.hbm, 2016, rfl⟩
abbrev main_call4_call0_v105 : Ref sig .tc := ⟨.hbm, 2017, rfl⟩
abbrev main_call4_call0_c_26 : Ref sig .tc := ⟨.hbm, 2018, rfl⟩
abbrev main_call4_call0_v106 : Ref sig .tc := ⟨.hbm, 2019, rfl⟩
abbrev main_call4_call0_v107 : Ref sig .tc := ⟨.hbm, 2020, rfl⟩
abbrev main_call4_call0_v108 : Ref sig .tc := ⟨.hbm, 2021, rfl⟩
abbrev main_call4_call0_c_27 : Ref sig .tc := ⟨.hbm, 2022, rfl⟩
abbrev main_call4_call0_v109 : Ref sig .tc := ⟨.hbm, 2023, rfl⟩
abbrev main_call4_call0_v110 : Ref sig .tc := ⟨.hbm, 2024, rfl⟩
abbrev main_call4_call0_c_28 : Ref sig .tc := ⟨.hbm, 2025, rfl⟩
abbrev main_call4_call0_v111 : Ref sig .tc := ⟨.hbm, 2026, rfl⟩
abbrev main_call4_call0_v112 : Ref sig .tc := ⟨.hbm, 2027, rfl⟩
abbrev main_call4_call0_v113 : Ref sig .tc := ⟨.hbm, 2028, rfl⟩
abbrev main_call4_call0_v114 : Ref sig .tc := ⟨.hbm, 2029, rfl⟩
abbrev main_call4_call0_v115 : Ref sig .tc := ⟨.hbm, 2030, rfl⟩
abbrev main_call4_call0_c_29 : Ref sig .tc := ⟨.hbm, 2031, rfl⟩
abbrev main_call4_call0_v116 : Ref sig .tc := ⟨.hbm, 2032, rfl⟩
abbrev main_call4_call0_v117 : Ref sig .tc := ⟨.hbm, 2033, rfl⟩
abbrev main_call4_call0_c_30 : Ref sig .tc := ⟨.hbm, 2034, rfl⟩
abbrev main_call4_call0_v118 : Ref sig .tc := ⟨.hbm, 2035, rfl⟩
abbrev main_call4_call0_v119 : Ref sig .tc := ⟨.hbm, 2036, rfl⟩
abbrev main_call4_call0_v120 : Ref sig .tc := ⟨.hbm, 2037, rfl⟩
abbrev main_call4_call0_v121 : Ref sig .tc := ⟨.hbm, 2038, rfl⟩
abbrev main_call4_call0_v122 : Ref sig .tc := ⟨.hbm, 2039, rfl⟩
abbrev main_call4_call0_c_31 : Ref sig .tc := ⟨.hbm, 2040, rfl⟩
abbrev main_call4_call0_v123 : Ref sig .tc := ⟨.hbm, 2041, rfl⟩
abbrev main_call4_call0_v124 : Ref sig .tc := ⟨.hbm, 2042, rfl⟩
abbrev main_call4_call0_c_32 : Ref sig .tc := ⟨.hbm, 2043, rfl⟩
abbrev main_call4_call0_v125 : Ref sig .tc := ⟨.hbm, 2044, rfl⟩
abbrev main_call4_call0_v126 : Ref sig .tc := ⟨.hbm, 2045, rfl⟩
abbrev main_call4_call0_v127 : Ref sig .tc := ⟨.hbm, 2046, rfl⟩
abbrev main_call4_call0_v128 : Ref sig .tc := ⟨.hbm, 2047, rfl⟩
abbrev main_call4_call0_v129 : Ref sig .tc := ⟨.hbm, 2048, rfl⟩
abbrev main_call4_call0_c_33 : Ref sig .tc := ⟨.hbm, 2049, rfl⟩
abbrev main_call4_call0_v130 : Ref sig .tc := ⟨.hbm, 2050, rfl⟩
abbrev main_call4_call0_v131 : Ref sig .tc := ⟨.hbm, 2051, rfl⟩
abbrev main_call4_call0_c_34 : Ref sig .tc := ⟨.hbm, 2052, rfl⟩
abbrev main_call4_call0_v132 : Ref sig .tc := ⟨.hbm, 2053, rfl⟩
abbrev main_call4_call0_v133 : Ref sig .tc := ⟨.hbm, 2054, rfl⟩
abbrev main_call4_call0_v134 : Ref sig .tc := ⟨.hbm, 2055, rfl⟩
abbrev main_call4_call0_v135 : Ref sig .tc := ⟨.hbm, 2056, rfl⟩
abbrev main_call4_call0_v136 : Ref sig .tc := ⟨.hbm, 2057, rfl⟩
abbrev main_call4_call0_v137 : Ref sig .tc := ⟨.hbm, 2058, rfl⟩
abbrev main_call4_call0_v138 : Ref sig .tc := ⟨.hbm, 2059, rfl⟩
abbrev main_call4_call0_v139 : Ref sig .tc := ⟨.hbm, 2060, rfl⟩
abbrev main_call4_call0_c_35 : Ref sig .tc := ⟨.hbm, 2061, rfl⟩
abbrev main_call4_call0_v140 : Ref sig .tc := ⟨.hbm, 2062, rfl⟩
abbrev main_call4_call0_v141 : Ref sig .tc := ⟨.hbm, 2063, rfl⟩
abbrev main_call4_call0_v142 : Ref sig .tc := ⟨.hbm, 2064, rfl⟩
abbrev main_call4_call0_c_36 : Ref sig .tc := ⟨.hbm, 2065, rfl⟩
abbrev main_call4_call0_v143 : Ref sig .tc := ⟨.hbm, 2066, rfl⟩
abbrev main_call4_call0_v144 : Ref sig .tc := ⟨.hbm, 2067, rfl⟩
abbrev main_call4_call0_c_37 : Ref sig .tc := ⟨.hbm, 2068, rfl⟩
abbrev main_call4_call0_v145 : Ref sig .tc := ⟨.hbm, 2069, rfl⟩
abbrev main_call4_call0_v146 : Ref sig .tc := ⟨.hbm, 2070, rfl⟩
abbrev main_call4_call0_v147 : Ref sig .tc := ⟨.hbm, 2071, rfl⟩
abbrev main_call4_call0_v148 : Ref sig .tc := ⟨.hbm, 2072, rfl⟩
abbrev main_call4_call0_v149 : Ref sig .tc := ⟨.hbm, 2073, rfl⟩
abbrev main_call4_call0_c_38 : Ref sig .tc := ⟨.hbm, 2074, rfl⟩
abbrev main_call4_call0_v150 : Ref sig .tc := ⟨.hbm, 2075, rfl⟩
abbrev main_call4_call0_v151 : Ref sig .tc := ⟨.hbm, 2076, rfl⟩
abbrev main_call4_call0_c_39 : Ref sig .tc := ⟨.hbm, 2077, rfl⟩
abbrev main_call4_call0_v152 : Ref sig .tc := ⟨.hbm, 2078, rfl⟩
abbrev main_call4_call0_v153 : Ref sig .tc := ⟨.hbm, 2079, rfl⟩
abbrev main_call4_call0_v154 : Ref sig .tc := ⟨.hbm, 2080, rfl⟩
abbrev main_call4_call0_v155 : Ref sig .tc := ⟨.hbm, 2081, rfl⟩
abbrev main_call4_call0_v156 : Ref sig .tc := ⟨.hbm, 2082, rfl⟩
abbrev main_call4_call0_c_40 : Ref sig .tc := ⟨.hbm, 2083, rfl⟩
abbrev main_call4_call0_v157 : Ref sig .tc := ⟨.hbm, 2084, rfl⟩
abbrev main_call4_call0_v158 : Ref sig .tc := ⟨.hbm, 2085, rfl⟩
abbrev main_call4_call0_c_41 : Ref sig .tc := ⟨.hbm, 2086, rfl⟩
abbrev main_call4_call0_v159 : Ref sig .tc := ⟨.hbm, 2087, rfl⟩
abbrev main_call4_call0_v160 : Ref sig .tc := ⟨.hbm, 2088, rfl⟩
abbrev main_call4_call0_v161 : Ref sig .tc := ⟨.hbm, 2089, rfl⟩
abbrev main_call4_call0_v162 : Ref sig .tc := ⟨.hbm, 2090, rfl⟩
abbrev main_call4_call0_v163 : Ref sig .tc := ⟨.hbm, 2091, rfl⟩
abbrev main_call4_call0_c_42 : Ref sig .tc := ⟨.hbm, 2092, rfl⟩
abbrev main_call4_call0_v164 : Ref sig .tc := ⟨.hbm, 2093, rfl⟩
abbrev main_call4_call0_v165 : Ref sig .tc := ⟨.hbm, 2094, rfl⟩
abbrev main_call4_call0_c_43 : Ref sig .tc := ⟨.hbm, 2095, rfl⟩
abbrev main_call4_call0_v166 : Ref sig .tc := ⟨.hbm, 2096, rfl⟩
abbrev main_call4_call0_v167 : Ref sig .tc := ⟨.hbm, 2097, rfl⟩
abbrev main_call4_call0_v168 : Ref sig .tc := ⟨.hbm, 2098, rfl⟩
abbrev main_call4_call0_v169 : Ref sig .tc := ⟨.hbm, 2099, rfl⟩
abbrev main_call4_call0_v170 : Ref sig .tc := ⟨.hbm, 2100, rfl⟩
abbrev main_call4_v19_0 : Ref sig .tc := ⟨.hbm, 2101, rfl⟩
abbrev main_call4_call0_v172 : Ref sig .tc := ⟨.hbm, 2102, rfl⟩
abbrev main_call4_call0_v173 : Ref sig .tc := ⟨.hbm, 2103, rfl⟩
abbrev main_call4_call0_c_44 : Ref sig .tc := ⟨.hbm, 2104, rfl⟩
abbrev main_call4_call0_v174 : Ref sig .tc := ⟨.hbm, 2105, rfl⟩
abbrev main_call4_v19_1 : Ref sig .tc := ⟨.hbm, 2106, rfl⟩
abbrev main_call4_v20 : Ref sig .tc := ⟨.hbm, 2107, rfl⟩
abbrev main_call4_c_2 : Ref sig .tc := ⟨.hbm, 2108, rfl⟩
abbrev main_call4_v21 : Ref sig .tc := ⟨.hbm, 2109, rfl⟩
abbrev main_call4_v22 : Ref sig .tc := ⟨.hbm, 2110, rfl⟩
abbrev main_call4_c_3 : Ref sig .tc := ⟨.hbm, 2111, rfl⟩
abbrev main_call4_v23 : Ref sig .tc := ⟨.hbm, 2112, rfl⟩
abbrev main_call4_v24 : Ref sig .tc := ⟨.hbm, 2113, rfl⟩
abbrev main_call4_v25 : Ref sig .tc := ⟨.hbm, 2114, rfl⟩
abbrev main_call4_cst : Ref sig .tc := ⟨.hbm, 2115, rfl⟩
abbrev main_call4_v26 : Ref sig .tc := ⟨.hbm, 2116, rfl⟩
abbrev main_call4_v27 : Ref sig .tc := ⟨.hbm, 2117, rfl⟩
abbrev main_call4_v28 : Ref sig .tc := ⟨.hbm, 2118, rfl⟩
abbrev main_call4_v29 : Ref sig .tc := ⟨.hbm, 2119, rfl⟩
abbrev main_call4_v30 : Ref sig .tc := ⟨.hbm, 2120, rfl⟩
abbrev main_call4_v31 : Ref sig .tc := ⟨.hbm, 2121, rfl⟩
abbrev main_call4_v32 : Ref sig .tc := ⟨.hbm, 2122, rfl⟩
abbrev main_call4_v33 : Ref sig .tc := ⟨.hbm, 2123, rfl⟩
abbrev main_v58 : Ref sig .tc := ⟨.hbm, 2124, rfl⟩
abbrev main_v59 : Ref sig .tc := ⟨.hbm, 2125, rfl⟩
abbrev main_values : Ref sig .tc := ⟨.hbm, 2126, rfl⟩
abbrev main_indices : Ref sig .tc := ⟨.hbm, 2127, rfl⟩
abbrev main_c_20 : Ref sig .tc := ⟨.hbm, 2128, rfl⟩
abbrev main_v60 : Ref sig .tc := ⟨.hbm, 2129, rfl⟩
abbrev main_v61 : Ref sig .tc := ⟨.hbm, 2130, rfl⟩
abbrev main_v62 : Ref sig .tc := ⟨.hbm, 2131, rfl⟩
abbrev main_c_21 : Ref sig .tc := ⟨.hbm, 2132, rfl⟩
abbrev main_v63 : Ref sig .tc := ⟨.hbm, 2133, rfl⟩
abbrev main_v64 : Ref sig .tc := ⟨.hbm, 2134, rfl⟩
abbrev main_c_22 : Ref sig .tc := ⟨.hbm, 2135, rfl⟩
abbrev main_v65 : Ref sig .tc := ⟨.hbm, 2136, rfl⟩
abbrev main_v66 : Ref sig .tc := ⟨.hbm, 2137, rfl⟩
abbrev main_v67 : Ref sig .tc := ⟨.hbm, 2138, rfl⟩
abbrev main_c_23 : Ref sig .tc := ⟨.hbm, 2139, rfl⟩
abbrev main_v68 : Ref sig .tc := ⟨.hbm, 2140, rfl⟩
abbrev main_v69 : Ref sig .tc := ⟨.hbm, 2141, rfl⟩
abbrev main_c_24 : Ref sig .tc := ⟨.hbm, 2142, rfl⟩
abbrev main_v70 : Ref sig .tc := ⟨.hbm, 2143, rfl⟩
abbrev main_v71 : Ref sig .tc := ⟨.hbm, 2144, rfl⟩
abbrev main_v72 : Ref sig .tc := ⟨.hbm, 2145, rfl⟩
abbrev main_v73 : Ref sig .tc := ⟨.hbm, 2146, rfl⟩
abbrev main_v74 : Ref sig .tc := ⟨.hbm, 2147, rfl⟩
abbrev main_v75 : Ref sig .tc := ⟨.hbm, 2148, rfl⟩
abbrev main_v76 : Ref sig .tc := ⟨.hbm, 2149, rfl⟩
abbrev main_c_25 : Ref sig .tc := ⟨.hbm, 2150, rfl⟩
abbrev main_v77 : Ref sig .tc := ⟨.hbm, 2151, rfl⟩
abbrev main_v78 : Ref sig .tc := ⟨.hbm, 2152, rfl⟩
abbrev main_v79 : Ref sig .tc := ⟨.hbm, 2153, rfl⟩
abbrev main_v80 : Ref sig .tc := ⟨.hbm, 2154, rfl⟩
abbrev main_v81 : Ref sig .tc := ⟨.hbm, 2155, rfl⟩
abbrev main_v82 : Ref sig .tc := ⟨.hbm, 2156, rfl⟩
abbrev main_v83 : Ref sig .tc := ⟨.hbm, 2157, rfl⟩
abbrev main_v84 : Ref sig .tc := ⟨.hbm, 2158, rfl⟩
abbrev main_v85 : Ref sig .tc := ⟨.hbm, 2159, rfl⟩
abbrev main_v86 : Ref sig .tc := ⟨.hbm, 2160, rfl⟩
abbrev main_call5_v0 : Ref sig .tc := ⟨.hbm, 2161, rfl⟩
abbrev main_v87 : Ref sig .tc := ⟨.hbm, 2162, rfl⟩

abbrev nD : Nat := 1
abbrev τ : Topo := Topo.v7x

variable {F : FTy → Type} [FloatOps F]
-- ==== Proof.FrameI.lean ====
/-
  The kernel program's run around its one region: what each buffer holds when the region is entered, what the body leaves
  in the output window, and that the argument arrays end unchanged.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxHeartbeats 4000000
set_option maxRecDepth 65536

noncomputable section

namespace Cert.FrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1].map StableHlo.seq)) :=
  Pipeline.hmain_around cfgs 0 defs₀ 𝒱₀ m main [hostOps0, hostOps0_1, hostOps0_2, hostOps0_3, hostOps0_4, hostOps0_5, hostOps0_6, hostOps0_7, hostOps0_8] [hostOps1, hostOps1_1] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation before the region writes a buffer of index below two (checked by evaluation, buffer by buffer). -/
theorem prefix_keeps0 : ((List.flatten [hostOps0, hostOps0_1, hostOps0_2, hostOps0_3, hostOps0_4, hostOps0_5, hostOps0_6, hostOps0_7, hostOps0_8] : List (HloOp τ sig (Elt F))).all
    fun op => decide (Proc.devRef .tc main_arg0 ∉ op.writes)) = true := by rfl
theorem prefix_keeps1 : ((List.flatten [hostOps0, hostOps0_1, hostOps0_2, hostOps0_3, hostOps0_4, hostOps0_5, hostOps0_6, hostOps0_7, hostOps0_8] : List (HloOp τ sig (Elt F))).all
    fun op => decide (Proc.devRef .tc main_arg1 ∉ op.writes)) = true := by rfl

theorem V_main_arg0 (c : Dev nD) : V m c main_arg0 = m ((c : Thread nD τ).loc main_arg0) :=
  StableHlo.after_of_forall_not_mem (b := Proc.devRef .tc main_arg0) _ _
    fun op hop => of_decide_eq_true (List.all_eq_true.mp prefix_keeps0 op hop)
theorem V_main_arg1 (c : Dev nD) : V m c main_arg1 = m ((c : Thread nD τ).loc main_arg1) :=
  StableHlo.after_of_forall_not_mem (b := Proc.devRef .tc main_arg1) _ _
    fun op hop => of_decide_eq_true (List.all_eq_true.mp prefix_keeps1 op hop)

theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

abbrev r0_0 : Rect S1x64x376 := Rect.unit (s := S1x64x376) ![0, 0, 0] S1x64x376.size inb_S1x64x376_S1x64x376_0_0_0
abbrev r0_1 : Rect S1x376 := Rect.unit (s := S1x376) ![0, 0] S1x376.size inb_S1x376_S1x376_0_0
abbrev r0_2 : Rect S128x128 := Rect.unit (s := S128x128) ![0, 0] S128x128.size inb_S128x128_S128x128_0_0
abbrev r0_3 : Rect S32x32 := Rect.unit (s := S32x32) ![0, 0] S32x32.size inb_S32x32_S32x32_0_0
abbrev r0_4 : Rect S2048x128 := Rect.unit (s := S2048x128) ![0, 0] S2048x128.size inb_S2048x128_S2048x128_0_0

def k0_pay25 (x0 : Vec F S1x64x376 .i32) (x1 : Vec F S1x376 .f32) (x2 : Vec F S2048x128 .i32) (x3 : Vec F S128x128 .f32) (x4 : Vec F S128x128 .f32) (x5 : Vec F S32x32 .f32) : IVec S64x32x128 1 :=
  k0_pay3 (View.ld x0 r0_0) (View.ld x1 r0_1) (View.ld x3 r0_2) (View.ld x5 r0_3)
def k0_pay26 (x0 : Vec F S1x64x376 .i32) (x1 : Vec F S1x376 .f32) (x2 : Vec F S2048x128 .i32) (x3 : Vec F S128x128 .f32) (x4 : Vec F S128x128 .f32) (x5 : Vec F S32x32 .f32) : IVec S64x32x128 32 :=
  k0_pay4 (k0_pay25 x0 x1 x2 x3 x4 x5) (View.ld x2 r0_4)
def k0_pay27 (x0 : Vec F S1x64x376 .i32) (x1 : Vec F S1x376 .f32) (x2 : Vec F S2048x128 .i32) (x3 : Vec F S128x128 .f32) (x4 : Vec F S128x128 .f32) (x5 : Vec F S32x32 .f32) : IVec S64x1x1 32 :=
  k0_pay5 (k0_pay25 x0 x1 x2 x3 x4 x5) (View.ld x2 r0_4)
def k0_pay28 (x0 : Vec F S1x64x376 .i32) (x1 : Vec F S1x376 .f32) (x2 : Vec F S2048x128 .i32) (x3 : Vec F S128x128 .f32) (x4 : Vec F S128x128 .f32) (x5 : Vec F S32x32 .f32) : IVec S64x1x1 32 :=
  k0_pay6 (F := F) (k0_pay26 x0 x1 x2 x3 x4 x5) (k0_pay27 x0 x1 x2 x3 x4 x5) 1048576#32
def k0_pay29 (x0 : Vec F S1x64x376 .i32) (x1 : Vec F S1x376 .f32) (x2 : Vec F S2048x128 .i32) (x3 : Vec F S128x128 .f32) (x4 : Vec F S128x128 .f32) (x5 : Vec F S32x32 .f32) : IVec S64x1x1 32 :=
  k0_pay7 (F := F) (k0_pay26 x0 x1 x2 x3 x4 x5) (k0_pay27 x0 x1 x2 x3 x4 x5) 1048576#32
def k0_pay30 (x0 : Vec F S1x64x376 .i32) (x1 : Vec F S1x376 .f32) (x2 : Vec F S2048x128 .i32) (x3 : Vec F S128x128 .f32) (x4 : Vec F S128x128 .f32) (x5 : Vec F S32x32 .f32) : FVec F S64x1x1 .f32 :=
  k0_pay8 (F := F) (k0_pay26 x0 x1 x2 x3 x4 x5) (k0_pay27 x0 x1 x2 x3 x4 x5) 1048576#32
def k0_pay31 (x0 : Vec F S1x64x376 .i32) (x1 : Vec F S1x376 .f32) (x2 : Vec F S2048x128 .i32) (x3 : Vec F S128x128 .f32) (x4 : Vec F S128x128 .f32) (x5 : Vec F S32x32 .f32) : IVec S64x1x1 32 :=
  k0_pay9 (k0_pay26 x0 x1 x2 x3 x4 x5) (k0_pay28 x0 x1 x2 x3 x4 x5) (k0_pay29 x0 x1 x2 x3 x4 x5) (k0_pay30 x0 x1 x2 x3 x4 x5) (Scalar.ofBits .f32 0x44198000#32)
def k0_pay32 (x0 : Vec F S1x64x376 .i32) (x1 : Vec F S1x376 .f32) (x2 : Vec F S2048x128 .i32) (x3 : Vec F S128x128 .f32) (x4 : Vec F S128x128 .f32) (x5 : Vec F S32x32 .f32) : IVec S64x1x1 32 :=
  k0_pay10 (k0_pay26 x0 x1 x2 x3 x4 x5) (k0_pay28 x0 x1 x2 x3 x4 x5) (k0_pay29 x0 x1 x2 x3 x4 x5) (k0_pay30 x0 x1 x2 x3 x4 x5) (Scalar.ofBits .f32 0x44198000#32)
def k0_pay33 (x0 : Vec F S1x64x376 .i32) (x1 : Vec F S1x376 .f32) (x2 : Vec F S2048x128 .i32) (x3 : Vec F S128x128 .f32) (x4 : Vec F S128x128 .f32) (x5 : Vec F S32x32 .f32) : FVec F S64x128 .f32 :=
  k0_pay11 (k0_pay26 x0 x1 x2 x3 x4 x5) (k0_pay28 x0 x1 x2 x3 x4 x5) (k0_pay29 x0 x1 x2 x3 x4 x5) (k0_pay30 x0 x1 x2 x3 x4 x5) (Scalar.ofBits .f32 0x44198000#32)
def k0_pay34 (x0 : Vec F S1x64x376 .i32) (x1 : Vec F S1x376 .f32) (x2 : Vec F S2048x128 .i32) (x3 : Vec F S128x128 .f32) (x4 : Vec F S128x128 .f32) (x5 : Vec F S32x32 .f32) : IVec S64x1x1 32 :=
  k0_pay15 (F := F) (k0_pay26 x0 x1 x2 x3 x4 x5) (k0_pay12 (k0_pay26 x0 x1 x2 x3 x4 x5) (k0_pay31 x0 x1 x2 x3 x4 x5) (k0_pay32 x0 x1 x2 x3 x4 x5) (k0_pay33 x0 x1 x2 x3 x4 x5)) (k0_pay13 (k0_pay26 x0 x1 x2 x3 x4 x5) (k0_pay31 x0 x1 x2 x3 x4 x5) (k0_pay32 x0 x1 x2 x3 x4 x5) (k0_pay33 x0 x1 x2 x3 x4 x5)) (k0_pay14 (k0_pay26 x0 x1 x2 x3 x4 x5) (k0_pay31 x0 x1 x2 x3 x4 x5) (k0_pay32 x0 x1 x2 x3 x4 x5) (k0_pay33 x0 x1 x2 x3 x4 x5))
def k0_pay35 (x0 : Vec F S1x64x376 .i32) (x1 : Vec F S1x376 .f32) (x2 : Vec F S2048x128 .i32) (x3 : Vec F S128x128 .f32) (x4 : Vec F S128x128 .f32) (x5 : Vec F S32x32 .f32) : IVec S64x1x1 32 :=
  k0_pay16 (F := F) (k0_pay26 x0 x1 x2 x3 x4 x5) (k0_pay34 x0 x1 x2 x3 x4 x5) 32#32
def k0_pay36 (x0 : Vec F S1x64x376 .i32) (x1 : Vec F S1x376 .f32) (x2 : Vec F S2048x128 .i32) (x3 : Vec F S128x128 .f32) (x4 : Vec F S128x128 .f32) (x5 : Vec F S32x32 .f32) : IVec S64x1x1 32 :=
  k0_pay17 (F := F) (k0_pay26 x0 x1 x2 x3 x4 x5) (k0_pay34 x0 x1 x2 x3 x4 x5) 32#32
def k0_pay37 (x0 : Vec F S1x64x376 .i32) (x1 : Vec F S1x376 .f32) (x2 : Vec F S2048x128 .i32) (x3 : Vec F S128x128 .f32) (x4 : Vec F S128x128 .f32) (x5 : Vec F S32x32 .f32) : FVec F S64x1x1 .f32 :=
  k0_pay18 (F := F) (k0_pay26 x0 x1 x2 x3 x4 x5) (k0_pay34 x0 x1 x2 x3 x4 x5) 32#32

def out0_6 (x0 : Vec F S1x64x376 .i32) (x1 : Vec F S1x376 .f32) (x2 : Vec F S2048x128 .i32) (x3 : Vec F S128x128 .f32) (x4 : Vec F S128x128 .f32) (x5 : Vec F S32x32 .f32) : Vec F S2048x128 .bf16 :=
  View.canon [⟨r0_4, k0_pay1 (k0_pay20 (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32)) (k0_pay21 (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32)) (k0_pay22 (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32)) (k0_pay23 (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32) (View.ld x4 r0_2)) (k0_pay24 (k0_pay2 (View.ld x5 r0_3)) (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32))⟩]

theorem cover0_6 (p0 : Vec F S2048x128 .bf16) (y : S2048x128.Idx) :
    ∃ pc ∈ ([⟨r0_4, p0⟩] : List (View.Piece (Elt F) S2048x128 .bf16)), y ∈ pc.1.set :=
  View.cover_of_tiled [⟨r0_4, p0⟩] S2048x128.size (by rfl) y

set_option maxHeartbeats 6626750 in
theorem sound_kernel (c : Dev nD) (E : Set ℕ) (i : grid0.Coords) (arg1 : Memref sig .tc .vmem S1x64x376 .i32) (harg1 : arg1.IsWhole) (arg2 : Memref sig .tc .vmem S1x376 .f32) (harg2 : arg2.IsWhole) (arg3 : Memref sig .tc .vmem S2048x128 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S32x32 .f32) (harg6 : arg6.IsWhole) (arg7 : Memref sig .tc .vmem S2048x128 .bf16) (harg7 : arg7.IsWhole)
    (x0 : Vec F S1x64x376 .i32) (x1 : Vec F S1x376 .f32) (x2 : Vec F S2048x128 .i32) (x3 : Vec F S128x128 .f32) (x4 : Vec F S128x128 .f32) (x5 : Vec F S32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__maskgen_body i arg1 harg1 arg2 harg2 arg3 harg3 arg4 harg4 arg5 harg5 arg6 harg6 arg7 harg7) K := by
  simp only [cc0__maskgen_body_eq_skeleton]; unfold cc0__maskgen_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover0_6 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1, hostOps1_1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1, hostOps1_1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.FrameI

end
-- ==== Proof.Line.lean ====
/-
  Straight lines of host operations in which every operation writes a new buffer.

  A line is a list of typed operations (`TOp`). At the end of such a line each buffer still holds what its one
  operation gave it, computed from the FINAL contents of its operands (`sol_after`): the line is a system of equations
  that the final contents solve (`Sol`). Two programs whose lines match operation by operation have solutions that
  agree on matching buffers (`Agree` and the `Sim` rules), whatever the operations compute.
-/
module

public import Idealize.ShloMosaic.Lib.StableHlo.RunHlo
public import Idealize.ShloMosaic.Lib.Quiescent

@[expose] public section

set_option maxRecDepth 16384

noncomputable section

namespace Cert.Line

open Idealize.ShloMosaic Idealize.ShloMosaic.StableHlo Idealize.ShloMosaic.TcCoe
open Idealize.SL.Sem

variable {nD : Nat} {τ : Topo} {sig : RefSig} {Val : EltTy → Type} {Λ : Labels}

/-- A host operation on typed references: its operands, its result and the function it computes. -/
inductive TOp (sig : RefSig) (Val : EltTy → Type) where
  | nullary {Ty : BufTy} (y : TRef sig Ty) (v : Ty.Contents Val)
  | unary {Tx Ty : BufTy} (x : TRef sig Tx) (y : TRef sig Ty) (f : Tx.Contents Val → Ty.Contents Val)
  | binary {Ta Tb Ty : BufTy} (a : TRef sig Ta) (b : TRef sig Tb) (y : TRef sig Ty)
      (f : Ta.Contents Val → Tb.Contents Val → Ty.Contents Val)
  | ternary {Tc Ta Tb Ty : BufTy} (c : TRef sig Tc) (a : TRef sig Ta) (b : TRef sig Tb) (y : TRef sig Ty)
      (f : Tc.Contents Val → Ta.Contents Val → Tb.Contents Val → Ty.Contents Val)

namespace TOp

/-- The operation itself. -/
def op : TOp sig Val → HloOp τ sig Val
  | .nullary y v => TRef.nullary y v
  | .unary x y f => TRef.unary x y f
  | .binary a b y f => TRef.binary a b y f
  | .ternary c a b y f => TRef.ternary c a b y f

/-- The buffer it writes. -/
def out : TOp sig Val → Ref sig .tc
  | .nullary y _ => y.ref
  | .unary _ y _ => y.ref
  | .binary _ _ y _ => y.ref
  | .ternary _ _ _ y _ => y.ref

/-- The buffers it reads. -/
def ins : TOp sig Val → List (Ref sig .tc)
  | .nullary _ _ => []
  | .unary x _ _ => [x.ref]
  | .binary a b _ _ => [a.ref, b.ref]
  | .ternary c a b _ _ => [c.ref, a.ref, b.ref]

end TOp

/-- What a typed reference's buffer holds. -/
def val {T : BufTy} (x : TRef sig T) (V : Valuation τ sig Val) : T.Contents Val := x.ofBuf (V (Proc.devRef .tc x.ref))

/-- The equation an operation asserts of the contents `V`. -/
def TOp.Holds (V : Valuation τ sig Val) : TOp sig Val → Prop
  | .nullary y v => val y V = v
  | .unary x y f => val y V = f (val x V)
  | .binary a b y f => val y V = f (val a V) (val b V)
  | .ternary c a b y f => val y V = f (val c V) (val a V) (val b V)

/-- `V` solves the line's equations. -/
def Sol (V : Valuation τ sig Val) : List (TOp sig Val) → Prop
  | [] => True
  | t :: l => t.Holds V ∧ Sol V l

/-- A line in two stretches is solved when both are. -/
theorem sol_append {V : Valuation τ sig Val} {l₁ l₂ : List (TOp sig Val)} : Sol V (l₁ ++ l₂) ↔ Sol V l₁ ∧ Sol V l₂ := by
  induction l₁ with
  | nil => simp [Sol]
  | cons t l ih => simp [Sol, ih, and_assoc]

/-- The line writes buffers of rising index, from `n` on, each operation reading lower ones only. -/
def rising : Nat → List (TOp sig Val) → Bool
  | _, [] => true
  | n, t :: l => Nat.ble n t.out.idx.val && t.ins.all (fun r => Nat.blt r.idx.val t.out.idx.val) && rising (t.out.idx.val + 1) l

/-- The whole effect of a line. -/
abbrev run (l : List (TOp sig Val)) (V : Valuation τ sig Val) : Valuation τ sig Val := after (l.map (TOp.op (τ := τ))) V

/-- An operation writes its result's buffer alone. -/
theorem op_writes (t : TOp sig Val) : (t.op (τ := τ)).writes = {Proc.devRef .tc t.out} := by cases t <;> rfl

/-- An operation needs no new buffer. -/
theorem op_fresh (t : TOp sig Val) : (t.op (τ := τ)).fresh = ∅ := by cases t <;> rfl

/-- An operation touches buffers of its own core alone. -/
theorem op_bufs (t : TOp sig Val) : (t.op (τ := τ)).bufs ⊆ tcRefs τ sig := by
  cases t
  case nullary y v => exact nullary_bufs_sub _ _ y.dev
  case unary x y f => exact unary_bufs_sub _ _ (fun u => y.toBuf (f (x.ofBuf u))) x.dev y.dev
  case binary a b y f => exact binary_bufs_sub _ _ _ (fun u v => y.toBuf (f (a.ofBuf u) (b.ofBuf v))) a.dev b.dev y.dev
  case ternary c a b y f => exact ternary_bufs_sub _ _ _ _ (fun w u v => y.toBuf (f (c.ofBuf w) (a.ofBuf u) (b.ofBuf v))) c.dev a.dev b.dev y.dev

/-- A buffer below a rising line keeps its contents. -/
theorem run_below (l : List (TOp sig Val)) : ∀ (n : Nat) (V : Valuation τ sig Val), rising n l = true → ∀ r : Ref sig .tc, r.idx.val < n →
    run l V (Proc.devRef .tc r) = V (Proc.devRef .tc r) := by
  induction l with
  | nil => intros; rfl
  | cons t l ih =>
    intro n V h r hr
    simp only [rising, Bool.and_eq_true] at h
    have hn : n ≤ t.out.idx.val := Nat.le_of_ble_eq_true h.1.1
    show run l (t.op.result V) _ = _
    rw [ih _ _ h.2 r (by omega)]
    refine HloOp.result_of_not_mem _ _ ?_
    rw [op_writes, Finset.mem_singleton]
    refine devRef_ne_of_ne ?_
    rintro rfl
    omega

/-- Equal contents of a buffer are read alike. -/
theorem val_eq {T : BufTy} (x : TRef sig T) {V W : Valuation τ sig Val} (h : V (Proc.devRef .tc x.ref) = W (Proc.devRef .tc x.ref)) :
    val x V = val x W := by
  unfold val; rw [h]

/-- An operation's equation holds once its result is in place and its operands are as they were. -/
theorem holds_result (t : TOp sig Val) (V W : Valuation τ sig Val) (hout : W (Proc.devRef .tc t.out) = t.op.result V (Proc.devRef .tc t.out))
    (hins : ∀ r ∈ t.ins, W (Proc.devRef .tc r) = V (Proc.devRef .tc r)) : t.Holds W := by
  cases t with
  | nullary y v =>
    show val y W = v
    unfold val
    rw [show W (Proc.devRef .tc y.ref) = _ from hout]
    refine (congrArg y.ofBuf (nullary_result (τ := τ) y.ref (y.toBuf v) y.dev V)).trans (TRef.ofBuf_toBuf y _)
  | unary x y f =>
    show val y W = f (val x W)
    rw [val_eq x (hins x.ref (by simp [TOp.ins]))]
    unfold val
    rw [show W (Proc.devRef .tc y.ref) = _ from hout]
    refine (congrArg y.ofBuf (unary_result (τ := τ) x.ref y.ref (fun u => y.toBuf (f (x.ofBuf u))) x.dev y.dev V)).trans (TRef.ofBuf_toBuf y _)
  | binary a b y f =>
    show val y W = f (val a W) (val b W)
    rw [val_eq a (hins a.ref (by simp [TOp.ins])), val_eq b (hins b.ref (by simp [TOp.ins]))]
    unfold val
    rw [show W (Proc.devRef .tc y.ref) = _ from hout]
    refine (congrArg y.ofBuf (binary_result (τ := τ) a.ref b.ref y.ref (fun u v => y.toBuf (f (a.ofBuf u) (b.ofBuf v))) a.dev b.dev y.dev V)).trans (TRef.ofBuf_toBuf y _)
  | ternary c a b y f =>
    show val y W = f (val c W) (val a W) (val b W)
    rw [val_eq c (hins c.ref (by simp [TOp.ins])), val_eq a (hins a.ref (by simp [TOp.ins])), val_eq b (hins b.ref (by simp [TOp.ins]))]
    unfold val
    rw [show W (Proc.devRef .tc y.ref) = _ from hout]
    refine (congrArg y.ofBuf (ternary_result (τ := τ) c.ref a.ref b.ref y.ref (fun w u v => y.toBuf (f (c.ofBuf w) (a.ofBuf u) (b.ofBuf v))) c.dev a.dev b.dev y.dev V)).trans (TRef.ofBuf_toBuf y _)

/-- The final contents of a rising line solve its equations. -/
theorem sol_run (l : List (TOp sig Val)) : ∀ (n : Nat) (V : Valuation τ sig Val), rising n l = true → Sol (run l V) l := by
  induction l with
  | nil => intros; trivial
  | cons t l ih =>
    intro n V h
    have h' := h
    simp only [rising, Bool.and_eq_true] at h
    refine ⟨?_, ih _ _ h.2⟩
    refine holds_result t V _ (run_below l _ _ h.2 _ (Nat.lt_succ_self _)) fun r hr => ?_
    have hlt : r.idx.val < t.out.idx.val := Nat.le_of_ble_eq_true (List.all_eq_true.mp h.1.2 r hr)
    refine (run_below l _ _ h.2 r (by omega)).trans ?_
    refine HloOp.result_of_not_mem _ _ ?_
    rw [op_writes, Finset.mem_singleton]
    refine devRef_ne_of_ne ?_
    rintro rfl
    omega

/-! ## Reading a line off a program -/

/-- `p` is the straight line `l`. -/
structure IsLine (p : Prog (TpuEff nD τ sig Val Λ .tc) PUnit) (l : List (TOp sig Val)) : Prop where
  eq : p = seq (l.map TOp.op)

section Read

variable {k : Prog (TpuEff nD τ sig Val Λ .tc) PUnit} {l : List (TOp sig Val)} {T Tx Ta Tb Tc Ty : BufTy}

/-- The empty program is the empty line. -/
theorem IsLine.nil : IsLine (pure ⟨⟩ : Prog (TpuEff nD τ sig Val Λ .tc) PUnit) ([] : List (TOp sig Val)) := ⟨rfl⟩

/-- An operation before a line. -/
theorem IsLine.cons {t : TOp sig Val} (h : IsLine k l) :
    IsLine ((hlo rfl t.op fun _ => .ret (⟨⟩ : PUnit)) >>= fun _ => k) (t :: l) := by
  constructor; rw [h.eq]; rfl

/-- A single operation. -/
theorem IsLine.last (t : TOp sig Val) :
    IsLine (hlo rfl t.op fun _ => .ret (⟨⟩ : PUnit) : Prog (TpuEff nD τ sig Val Λ .tc) PUnit) [t] := by
  constructor
  show _ = ((hlo rfl t.op fun _ => .ret (⟨⟩ : PUnit)) >>= fun _ => (pure ⟨⟩ : Prog (TpuEff nD τ sig Val Λ .tc) PUnit))
  exact (bind_pure _).symm

/-- A line before a line. -/
theorem IsLine.append {p : Prog (TpuEff nD τ sig Val Λ .tc) PUnit} {l' : List (TOp sig Val)} (hp : IsLine p l) (h : IsLine k l') :
    IsLine (p >>= fun _ => k) (l ++ l') := by
  constructor
  rw [List.map_append, seq_append, hp.eq, h.eq]

/-- One step of a line, the operation's own form still to be found. -/
theorem IsLine.step {t : TOp sig Val} {op : HloOp τ sig Val} {hp} (ho : op = t.op) (h : IsLine k l) :
    IsLine ((hlo hp op fun _ => .ret (⟨⟩ : PUnit)) >>= fun _ => k) (t :: l) := by
  subst ho; exact h.cons

/-- The operation that ends its program, its own form still to be found. -/
theorem IsLine.final {t : TOp sig Val} {op : HloOp τ sig Val} {hp} (ho : op = t.op) :
    IsLine (hlo hp op fun _ => .ret (⟨⟩ : PUnit) : Prog (TpuEff nD τ sig Val Λ .tc) PUnit) [t] := by
  subst ho; exact IsLine.last t

/-- A constant as an operation of a line. -/
theorem nullary_op (y : TRef sig Ty) (v : Ty.Contents Val) : (TRef.nullary y v : HloOp τ sig Val) = (TOp.nullary y v).op := rfl

/-- An operation of one operand as one of a line. -/
theorem unary_op (x : TRef sig Tx) (y : TRef sig Ty) (f : Tx.Contents Val → Ty.Contents Val) :
    (TRef.unary x y f : HloOp τ sig Val) = (TOp.unary x y f).op := rfl

/-- An operation of two operands as one of a line. -/
theorem binary_op (a : TRef sig Ta) (b : TRef sig Tb) (y : TRef sig Ty) (f : Ta.Contents Val → Tb.Contents Val → Ty.Contents Val) :
    (TRef.binary a b y f : HloOp τ sig Val) = (TOp.binary a b y f).op := rfl

/-- An operation of three operands as one of a line. -/
theorem ternary_op (c : TRef sig Tc) (a : TRef sig Ta) (b : TRef sig Tb) (y : TRef sig Ty)
    (f : Tc.Contents Val → Ta.Contents Val → Tb.Contents Val → Ty.Contents Val) :
    (TRef.ternary c a b y f : HloOp τ sig Val) = (TOp.ternary c a b y f).op := rfl

/-- A reshape as a unary operation. -/
abbrev reshapeFn (he : Tx.elt = Ty.elt) (hn : Tx.shape.ShapeCasts Ty.shape) (v : Tx.Contents Val) : Ty.Contents Val :=
  fun i => he ▸ shapeCast Ty.shape v hn i

/-- A reshape is an operation of one operand. -/
theorem reshape_eq_unary (x : TRef sig Tx) (y : TRef sig Ty) (he : Tx.elt = Ty.elt) (hn : Tx.shape.ShapeCasts Ty.shape) :
    (TRef.reshape x y he hn : HloOp τ sig Val) = TRef.unary x y (reshapeFn he hn) := by
  obtain ⟨x, hx, hx', hx''⟩ := x
  obtain ⟨y, hy, hy', hy''⟩ := y
  subst hx hy
  rfl

/-- A reshape as an operation of a line. -/
theorem reshape_op (x : TRef sig Tx) (y : TRef sig Ty) (he : Tx.elt = Ty.elt) (hn : Tx.shape.ShapeCasts Ty.shape) :
    (TRef.reshape x y he hn : HloOp τ sig Val) = (TOp.unary x y (reshapeFn he hn)).op := reshape_eq_unary x y he hn

/-- A bare reference as a typed one. -/
abbrev bare (r : Ref sig .tc) (h : r.space ≠ .host ∧ (r : DevRef τ sig).isScoped = false) : TRef sig r.ty := ⟨r, rfl, h.1, h.2⟩

/-- The same for a constant on a plain reference. -/
theorem nullary_op' (y : Ref sig .tc) (v : y.ty.Contents Val) (hy : y.space ≠ .host ∧ (y : DevRef τ sig).isScoped = false) :
    StableHlo.nullary y v hy = (TOp.nullary (bare (τ := τ) y hy) v).op := rfl

/-- The same for one operand on plain references. -/
theorem unary_op' (x y : Ref sig .tc) (f : x.ty.Contents Val → y.ty.Contents Val) (hx : x.space ≠ .host ∧ (x : DevRef τ sig).isScoped = false)
    (hy : y.space ≠ .host ∧ (y : DevRef τ sig).isScoped = false) :
    StableHlo.unary x y f hx hy = (TOp.unary (bare (τ := τ) x hx) (bare (τ := τ) y hy) f).op := rfl

/-- The same for two operands on plain references. -/
theorem binary_op' (a b y : Ref sig .tc) (f : a.ty.Contents Val → b.ty.Contents Val → y.ty.Contents Val)
    (ha : a.space ≠ .host ∧ (a : DevRef τ sig).isScoped = false) (hb : b.space ≠ .host ∧ (b : DevRef τ sig).isScoped = false)
    (hy : y.space ≠ .host ∧ (y : DevRef τ sig).isScoped = false) :
    StableHlo.binary a b y f ha hb hy = (TOp.binary (bare (τ := τ) a ha) (bare (τ := τ) b hb) (bare (τ := τ) y hy) f).op := rfl

/-- The same for three operands on plain references. -/
theorem ternary_op' (c a b y : Ref sig .tc) (f : c.ty.Contents Val → a.ty.Contents Val → b.ty.Contents Val → y.ty.Contents Val)
    (hc : c.space ≠ .host ∧ (c : DevRef τ sig).isScoped = false)
    (ha : a.space ≠ .host ∧ (a : DevRef τ sig).isScoped = false) (hb : b.space ≠ .host ∧ (b : DevRef τ sig).isScoped = false)
    (hy : y.space ≠ .host ∧ (y : DevRef τ sig).isScoped = false) :
    StableHlo.ternary c a b y f hc ha hb hy
      = (TOp.ternary (bare (τ := τ) c hc) (bare (τ := τ) a ha) (bare (τ := τ) b hb) (bare (τ := τ) y hy) f).op := rfl

/-- The same for a reshape on plain references. -/
theorem reshape_op' (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false) :
    (StableHlo.reshape x y he hn hx hy : HloOp τ sig Val) = (TOp.unary (bare (τ := τ) x hx) (bare (τ := τ) y hy) (reshapeFn he hn)).op := rfl

end Read

/-- A program that is a rising line, on a signature with nothing scoped and no semaphores, ends at the line's effect. -/
theorem run_line (defs : Defs nD τ sig Val Λ) (main : Dev nD → Prog (TpuEff nD τ sig Val Λ .tc) PUnit)
    {l : List (TOp sig Val)} (hmain : ∀ d, IsLine (main d) l)
    (hR : (Finset.univ.filter fun b : Ref sig .tc => b.isScoped) = ∅) (hno : sig.nSem + sig.nDmaSem = 0)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      (∀ (d : Dev nD) (b : Ref sig .tc), r.2.mem ((d.tc : Thread nD τ).loc b) = run l (launchContents m d) (Proc.devRef .tc b))
      ∧ r.2.sem = fun _ => 0 := by
  refine θ_run_mono (run_seq hR hC defs main (fun _ => l.map TOp.op) (fun d => (hmain d).eq) (fun _ => ?_) m ρ (fun _ => ?_)) ?_
  · rw [List.forall_iff_forall_mem]
    intro op hop
    obtain ⟨t, -, rfl⟩ := List.mem_map.mp hop
    exact op_bufs t
  · intro op hop
    obtain ⟨t, -, rfl⟩ := List.mem_map.mp hop
    exact op_fresh t
  · exact fun r hr => ⟨hr, sem_eq_zero_of_no_sems hno _⟩

/-! ## Reading a line off a list of operations -/

/-- The list `ops` is the line `l`. -/
def IsList (ops : List (HloOp τ sig Val)) (l : List (TOp sig Val)) : Prop := ops = l.map TOp.op

/-- The empty list is the empty line. -/
theorem IsList.nil : IsList ([] : List (HloOp τ sig Val)) [] := rfl

/-- An operation before a list that is a line. -/
theorem IsList.step {t : TOp sig Val} {op : HloOp τ sig Val} {ops : List (HloOp τ sig Val)} {l : List (TOp sig Val)}
    (ho : op = t.op) (h : IsList ops l) : IsList (op :: ops) (t :: l) := by
  subst ho; exact congrArg _ h

/-! ## Two lines side by side -/

variable {τ' : Topo} {sig' : RefSig}

/-- A buffer of one program and a buffer of another hold the same. -/
structure Agree (V : Valuation τ sig Val) (V' : Valuation τ' sig' Val) {T : BufTy} (x : TRef sig T) (x' : TRef sig' T) : Prop where
  eq : val x V = val x' V'

/-- `G` follows once both lines' equations hold. -/
def Sim (V : Valuation τ sig Val) (V' : Valuation τ' sig' Val) (l : List (TOp sig Val)) (l' : List (TOp sig' Val)) (G : Prop) : Prop :=
  Sol V l → Sol V' l' → G

section Sim

variable {V : Valuation τ sig Val} {V' : Valuation τ' sig' Val} {l : List (TOp sig Val)} {l' : List (TOp sig' Val)} {G : Prop}
  {T Tx Ta Tb Tc Ty : BufTy}

/-- Nothing is left of either line. -/
theorem Sim.nil (h : G) : Sim V V' [] [] G := fun _ _ => h

/-- Both lines begin with the same constant. -/
theorem Sim.nullary {y : TRef sig Ty} {y' : TRef sig' Ty} {v : Ty.Contents Val} (h : Agree V V' y y' → Sim V V' l l' G) :
    Sim V V' (.nullary y v :: l) (.nullary y' v :: l') G :=
  fun s s' => h ⟨s.1.trans s'.1.symm⟩ s.2 s'.2

/-- Both lines begin with the same operation on agreeing operands. -/
theorem Sim.unary {x : TRef sig Tx} {x' : TRef sig' Tx} {y : TRef sig Ty} {y' : TRef sig' Ty} {f : Tx.Contents Val → Ty.Contents Val}
    (hx : Agree V V' x x') (h : Agree V V' y y' → Sim V V' l l' G) :
    Sim V V' (.unary x y f :: l) (.unary x' y' f :: l') G :=
  fun s s' => h ⟨by
    have e : val y V = f (val x V) := s.1
    have e' : val y' V' = f (val x' V') := s'.1
    rw [e, e', hx.eq]⟩ s.2 s'.2

/-- Both lines begin with the same operation on agreeing operands. -/
theorem Sim.binary {a : TRef sig Ta} {a' : TRef sig' Ta} {b : TRef sig Tb} {b' : TRef sig' Tb} {y : TRef sig Ty} {y' : TRef sig' Ty}
    {f : Ta.Contents Val → Tb.Contents Val → Ty.Contents Val}
    (ha : Agree V V' a a') (hb : Agree V V' b b') (h : Agree V V' y y' → Sim V V' l l' G) :
    Sim V V' (.binary a b y f :: l) (.binary a' b' y' f :: l') G :=
  fun s s' => h ⟨by
    have e : val y V = f (val a V) (val b V) := s.1
    have e' : val y' V' = f (val a' V') (val b' V') := s'.1
    rw [e, e', ha.eq, hb.eq]⟩ s.2 s'.2

/-- Both lines begin with the same operation on agreeing operands. -/
theorem Sim.ternary {c : TRef sig Tc} {c' : TRef sig' Tc} {a : TRef sig Ta} {a' : TRef sig' Ta} {b : TRef sig Tb} {b' : TRef sig' Tb}
    {y : TRef sig Ty} {y' : TRef sig' Ty} {f : Tc.Contents Val → Ta.Contents Val → Tb.Contents Val → Ty.Contents Val}
    (hc : Agree V V' c c') (ha : Agree V V' a a') (hb : Agree V V' b b') (h : Agree V V' y y' → Sim V V' l l' G) :
    Sim V V' (.ternary c a b y f :: l) (.ternary c' a' b' y' f :: l') G :=
  fun s s' => h ⟨by
    have e : val y V = f (val c V) (val a V) (val b V) := s.1
    have e' : val y' V' = f (val c' V') (val a' V') (val b' V') := s'.1
    rw [e, e', hc.eq, ha.eq, hb.eq]⟩ s.2 s'.2

/-- A pair of stretches whose effect is known: what it establishes (`H`) is used for the rest. -/
theorem Sim.call {l₁ : List (TOp sig Val)} {l₁' : List (TOp sig' Val)} {H : Prop} (hc : Sim V V' l₁ l₁' H) (h : H → Sim V V' l l' G) :
    Sim V V' (l₁ ++ l) (l₁' ++ l') G :=
  fun s s' => h (hc (sol_append.mp s).1 (sol_append.mp s').1) (sol_append.mp s).2 (sol_append.mp s').2

end Sim

end Cert.Line

end
-- ==== Proof.RefLine.lean ====
/-
  The host functions of `ReferenceIdeal` as straight lines of operations (Line.lean), read off their printed bodies.
-/
module

public import proofs.«01_k».proof.Proof.Line
public import proofs.«01_k».proof.Proof.Gen.ReferenceIdeal
public import Idealize.ShloMosaic.PureOps.Ideal

@[expose] public section

set_option maxRecDepth 16384
set_option maxHeartbeats 4000000

noncomputable section

namespace Cert.RefLine

open Idealize.ShloMosaic Idealize.ShloMosaic.StableHlo Idealize.ShloMosaic.TcCoe
open Idealize.SL.Sem Cert.Line Cert.ReferenceIdeal

/-- A line together with the proof that a program is that line. -/
abbrev Of (p : Prog (TpuEff nD τ sig (Elt Ideal) (Pipeline.Sig Λ₀ (Fin 0) fun p => (pcfgs (F := Ideal) p).Adm) .tc) PUnit) : Type :=
  {l : List (TOp sig (Elt Ideal)) // IsLine p l}

/-- `fn_threefry2x32`. -/
def threefry2x32 (a0 : TRef sig ⟨S_, .i32⟩) (a1 : TRef sig ⟨S_, .i32⟩) (a2 : TRef sig ⟨S3, .i32⟩) (a3 : TRef sig ⟨S3, .i32⟩) (φ : fn_threefry2x32.Bufs) : Of (fn_threefry2x32.body (F := Ideal) a0 a1 a2 a3 φ) := by
  apply Subtype.mk
  unfold fn_threefry2x32.body fn_threefry2x32.body_part0 fn_threefry2x32.body_part1 fn_threefry2x32.body_part2 fn_threefry2x32.body_part3
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry_split`. -/
def threefry_split (a0 : TRef sig ⟨S2, .i32⟩) (φ : fn_threefry_split.Bufs) : Of (fn_threefry_split.body (F := Ideal) a0 φ) := by
  apply Subtype.mk
  unfold fn_threefry_split.body
  repeat (first
    | with_reducible exact IsLine.nil
    | with_reducible exact (threefry2x32 _ _ _ _ _).2
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_clip`. -/
def clip (a0 : TRef sig ⟨S_, .i32⟩) (a1 : TRef sig ⟨S_, .i32⟩) (a2 : TRef sig ⟨S_, .i32⟩) (φ : fn_clip.Bufs) : Of (fn_clip.body (F := Ideal) a0 a1 a2 φ) := by
  apply Subtype.mk
  unfold fn_clip.body
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_clip_0`. -/
def clip_0 (a0 : TRef sig ⟨S_, .i32⟩) (a1 : TRef sig ⟨S_, .i32⟩) (a2 : TRef sig ⟨S_, .i32⟩) (φ : fn_clip_0.Bufs) : Of (fn_clip_0.body (F := Ideal) a0 a1 a2 φ) := by
  apply Subtype.mk
  unfold fn_clip_0.body
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry2x32_2`. -/
def threefry2x32_2 (a0 : TRef sig ⟨S_, .i32⟩) (a1 : TRef sig ⟨S_, .i32⟩) (a2 : TRef sig ⟨S2, .i32⟩) (a3 : TRef sig ⟨S2, .i32⟩) (φ : fn_threefry2x32_2.Bufs) : Of (fn_threefry2x32_2.body (F := Ideal) a0 a1 a2 a3 φ) := by
  apply Subtype.mk
  unfold fn_threefry2x32_2.body fn_threefry2x32_2.body_part0 fn_threefry2x32_2.body_part1 fn_threefry2x32_2.body_part2 fn_threefry2x32_2.body_part3
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry_split_1`. -/
def threefry_split_1 (a0 : TRef sig ⟨S2, .i32⟩) (φ : fn_threefry_split_1.Bufs) : Of (fn_threefry_split_1.body (F := Ideal) a0 φ) := by
  apply Subtype.mk
  unfold fn_threefry_split_1.body
  repeat (first
    | with_reducible exact IsLine.nil
    | with_reducible exact (threefry2x32_2 _ _ _ _ _).2
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry2x32_3`. -/
def threefry2x32_3 (a0 : TRef sig ⟨S_, .i32⟩) (a1 : TRef sig ⟨S_, .i32⟩) (a2 : TRef sig ⟨S512x188, .i32⟩) (a3 : TRef sig ⟨S512x188, .i32⟩) (φ : fn_threefry2x32_3.Bufs) : Of (fn_threefry2x32_3.body (F := Ideal) a0 a1 a2 a3 φ) := by
  apply Subtype.mk
  unfold fn_threefry2x32_3.body fn_threefry2x32_3.body_part0 fn_threefry2x32_3.body_part1 fn_threefry2x32_3.body_part2 fn_threefry2x32_3.body_part3
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_randint`. -/
def randint (a0 : TRef sig ⟨S2, .i32⟩) (a1 : TRef sig ⟨S_, .i32⟩) (a2 : TRef sig ⟨S_, .i32⟩) (φ : fn_randint.Bufs) : Of (fn_randint.body (F := Ideal) a0 a1 a2 φ) := by
  apply Subtype.mk
  unfold fn_randint.body fn_randint.body_part0 fn_randint.body_part1
  repeat (first
    | with_reducible exact IsLine.nil
    | with_reducible exact (threefry2x32_3 _ _ _ _ _).2
    | with_reducible exact (threefry_split_1 _ _).2
    | with_reducible exact (clip_0 _ _ _ _).2
    | with_reducible exact (clip _ _ _ _).2
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry2x32_5`. -/
def threefry2x32_5 (a0 : TRef sig ⟨S_, .i32⟩) (a1 : TRef sig ⟨S_, .i32⟩) (a2 : TRef sig ⟨S512x4096, .i32⟩) (a3 : TRef sig ⟨S512x4096, .i32⟩) (φ : fn_threefry2x32_5.Bufs) : Of (fn_threefry2x32_5.body (F := Ideal) a0 a1 a2 a3 φ) := by
  apply Subtype.mk
  unfold fn_threefry2x32_5.body fn_threefry2x32_5.body_part0 fn_threefry2x32_5.body_part1 fn_threefry2x32_5.body_part2 fn_threefry2x32_5.body_part3
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_cumsum_4`. -/
def cumsum_4 (a0 : TRef sig ⟨S512x4097, .i32⟩) (φ : fn_cumsum_4.Bufs) : Of (fn_cumsum_4.body (F := Ideal) a0 φ) := by
  apply Subtype.mk
  unfold fn_cumsum_4.body
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_cumsum`. -/
def cumsum (a0 : TRef sig ⟨S512x4097, .i32⟩) (φ : fn_cumsum.Bufs) : Of (fn_cumsum.body (F := Ideal) a0 φ) := by
  apply Subtype.mk
  unfold fn_cumsum.body
  repeat (first
    | with_reducible exact IsLine.nil
    | with_reducible exact (cumsum_4 _ _).2
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_uniform`. -/
def uniform (a0 : TRef sig ⟨S2, .i32⟩) (a1 : TRef sig ⟨S_, .f32⟩) (a2 : TRef sig ⟨S_, .f32⟩) (φ : fn_uniform.Bufs) : Of (fn_uniform.body (F := Ideal) a0 a1 a2 φ) := by
  apply Subtype.mk
  unfold fn_uniform.body
  repeat (first
    | with_reducible exact IsLine.nil
    | (apply IsLine.append
       with_reducible exact (threefry2x32_5 _ _ _ _ _).2)
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_where`. -/
def select_rows (a0 : TRef sig ⟨S512x4096x1, .i1⟩) (a1 : TRef sig ⟨S512x4096x6, .f32⟩) (a2 : TRef sig ⟨S512x4096x6, .f32⟩) (φ : fn_where.Bufs) : Of (fn_where.body (F := Ideal) a0 a1 a2 φ) := by
  apply Subtype.mk
  unfold fn_where.body
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- The main program. -/
def main_line : Of (main (F := Ideal) (⟨0, by decide⟩ : Dev nD)) := by
  apply Subtype.mk
  unfold main main_part0 main_part1
  apply IsLine.append
  all_goals
    repeat (first
      | with_reducible exact IsLine.nil
      | with_reducible exact (select_rows _ _ _ _).2
      | (apply IsLine.append
         with_reducible first
           | exact (threefry_split _ _).2 | exact (randint _ _ _ _).2 | exact (cumsum _ _).2 | exact (uniform _ _ _ _).2
           | exact (select_rows _ _ _ _).2)
      | (apply IsLine.step
         · with_reducible first
             | exact binary_op' _ _ _ _ _ _ _ | exact unary_op' _ _ _ _ _ | exact nullary_op' _ _ _
             | exact ternary_op' _ _ _ _ _ _ _ _ _ | exact reshape_op' _ _ _ _ _ _)
      | (apply IsLine.final
         with_reducible first
             | exact binary_op' _ _ _ _ _ _ _ | exact unary_op' _ _ _ _ _ | exact nullary_op' _ _ _
             | exact ternary_op' _ _ _ _ _ _ _ _ _ | exact reshape_op' _ _ _ _ _ _)
      | exact IsLine.nil)

end Cert.RefLine

end
-- ==== Proof.RefRun.lean ====
/-
  The reference's run: its line of operations applied to the launch contents, its arguments unchanged.
-/
module

public import proofs.«01_k».proof.Proof.RefLine

@[expose] public section

set_option maxRecDepth 65536
set_option maxHeartbeats 4000000

noncomputable section

namespace Cert.RefRun

open Idealize.ShloMosaic Idealize.ShloMosaic.StableHlo Idealize.ShloMosaic.TcCoe
open Idealize.SL.Sem Cert.Line Cert.ReferenceIdeal

/-- The reference's operations. -/
def line : List (TOp sig (Elt Ideal)) := RefLine.main_line.1

/-- Each operation writes a new buffer, and none writes an argument. -/
theorem line_rising : rising 2 line = true := by rfl

/-- The program is the line. -/
theorem main_isLine (d : Dev nD) : IsLine (main (F := Ideal) d) line := by
  have hd : d = ⟨0, by decide⟩ := Subsingleton.elim _ _
  subst hd
  exact RefLine.main_line.2

/-- Every run of the reference ends at the line's effect on the launch contents, all semaphores at zero. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD) (b : Ref sig .tc), r.2.mem ((d.tc : Thread nD τ).loc b) = run line (launchContents m d) (Proc.devRef .tc b))
      ∧ r.2.sem = fun _ => 0 :=
  run_line _ _ main_isLine (by rfl) (by rfl) (by rfl) m ρ

/-- The line leaves the arguments unchanged. -/
theorem run_arg (m : (ℓ : Loc nD τ sig) → Buf (Elt Ideal) ℓ) (d : Dev nD) (b : Ref sig .tc) (hb : b.idx.val < 2) :
    run line (launchContents m d) (Proc.devRef .tc b) = m ((d.tc : Thread nD τ).loc b) :=
  run_below line 2 _ line_rising b hb

/-- The reference's arguments end unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (run_ref m ρ) fun r hr => ⟨fun c => ⟨?_, ?_⟩, hr.2⟩
  · exact (hr.1 c main_arg0).trans (run_arg m c main_arg0 (by decide))
  · exact (hr.1 c main_arg1).trans (run_arg m c main_arg1 (by decide))

end Cert.RefRun

end
-- ==== Proof.KerLine.lean ====
/-
  The host functions of `KernelIdeal` as straight lines of operations (Line.lean), read off their printed bodies.
-/
module

public import proofs.«01_k».proof.Proof.Line
public import proofs.«01_k».proof.Proof.Gen.KernelIdeal
public import Idealize.ShloMosaic.PureOps.Ideal

@[expose] public section

set_option maxRecDepth 16384
set_option maxHeartbeats 4000000

noncomputable section

namespace Cert.KerLine

open Idealize.ShloMosaic Idealize.ShloMosaic.StableHlo Idealize.ShloMosaic.TcCoe
open Idealize.SL.Sem Cert.Line Cert.KernelIdeal

/-- A line together with the proof that a program is that line. -/
abbrev Of (p : Prog (TpuEff nD τ sig (Elt Ideal) (Pipeline.Sig Λ₀ (Fin 1) fun p => (pcfgs (F := Ideal) p).Adm) .tc) PUnit) : Type :=
  {l : List (TOp sig (Elt Ideal)) // IsLine p l}

/-- `fn_threefry2x32`. -/
def threefry2x32 (a0 : TRef sig ⟨S_, .i32⟩) (a1 : TRef sig ⟨S_, .i32⟩) (a2 : TRef sig ⟨S3, .i32⟩) (a3 : TRef sig ⟨S3, .i32⟩) (φ : fn_threefry2x32.Bufs) : Of (fn_threefry2x32.body (F := Ideal) a0 a1 a2 a3 φ) := by
  apply Subtype.mk
  unfold fn_threefry2x32.body fn_threefry2x32.body_part0 fn_threefry2x32.body_part1 fn_threefry2x32.body_part2 fn_threefry2x32.body_part3
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry_split`. -/
def threefry_split (a0 : TRef sig ⟨S2, .i32⟩) (φ : fn_threefry_split.Bufs) : Of (fn_threefry_split.body (F := Ideal) a0 φ) := by
  apply Subtype.mk
  unfold fn_threefry_split.body
  repeat (first
    | with_reducible exact IsLine.nil
    | with_reducible exact (threefry2x32 _ _ _ _ _).2
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_clip`. -/
def clip (a0 : TRef sig ⟨S_, .i32⟩) (a1 : TRef sig ⟨S_, .i32⟩) (a2 : TRef sig ⟨S_, .i32⟩) (φ : fn_clip.Bufs) : Of (fn_clip.body (F := Ideal) a0 a1 a2 φ) := by
  apply Subtype.mk
  unfold fn_clip.body
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_clip_0`. -/
def clip_0 (a0 : TRef sig ⟨S_, .i32⟩) (a1 : TRef sig ⟨S_, .i32⟩) (a2 : TRef sig ⟨S_, .i32⟩) (φ : fn_clip_0.Bufs) : Of (fn_clip_0.body (F := Ideal) a0 a1 a2 φ) := by
  apply Subtype.mk
  unfold fn_clip_0.body
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry2x32_2`. -/
def threefry2x32_2 (a0 : TRef sig ⟨S_, .i32⟩) (a1 : TRef sig ⟨S_, .i32⟩) (a2 : TRef sig ⟨S2, .i32⟩) (a3 : TRef sig ⟨S2, .i32⟩) (φ : fn_threefry2x32_2.Bufs) : Of (fn_threefry2x32_2.body (F := Ideal) a0 a1 a2 a3 φ) := by
  apply Subtype.mk
  unfold fn_threefry2x32_2.body fn_threefry2x32_2.body_part0 fn_threefry2x32_2.body_part1 fn_threefry2x32_2.body_part2 fn_threefry2x32_2.body_part3
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry_split_1`. -/
def threefry_split_1 (a0 : TRef sig ⟨S2, .i32⟩) (φ : fn_threefry_split_1.Bufs) : Of (fn_threefry_split_1.body (F := Ideal) a0 φ) := by
  apply Subtype.mk
  unfold fn_threefry_split_1.body
  repeat (first
    | with_reducible exact IsLine.nil
    | with_reducible exact (threefry2x32_2 _ _ _ _ _).2
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry2x32_3`. -/
def threefry2x32_3 (a0 : TRef sig ⟨S_, .i32⟩) (a1 : TRef sig ⟨S_, .i32⟩) (a2 : TRef sig ⟨S512x188, .i32⟩) (a3 : TRef sig ⟨S512x188, .i32⟩) (φ : fn_threefry2x32_3.Bufs) : Of (fn_threefry2x32_3.body (F := Ideal) a0 a1 a2 a3 φ) := by
  apply Subtype.mk
  unfold fn_threefry2x32_3.body fn_threefry2x32_3.body_part0 fn_threefry2x32_3.body_part1 fn_threefry2x32_3.body_part2 fn_threefry2x32_3.body_part3
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_randint`. -/
def randint (a0 : TRef sig ⟨S2, .i32⟩) (a1 : TRef sig ⟨S_, .i32⟩) (a2 : TRef sig ⟨S_, .i32⟩) (φ : fn_randint.Bufs) : Of (fn_randint.body (F := Ideal) a0 a1 a2 φ) := by
  apply Subtype.mk
  unfold fn_randint.body fn_randint.body_part0 fn_randint.body_part1
  repeat (first
    | with_reducible exact IsLine.nil
    | with_reducible exact (threefry2x32_3 _ _ _ _ _).2
    | with_reducible exact (threefry_split_1 _ _).2
    | with_reducible exact (clip_0 _ _ _ _).2
    | with_reducible exact (clip _ _ _ _).2
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

/-- `fn_threefry2x32_4`. -/
def threefry2x32_4 (a0 : TRef sig ⟨S_, .i32⟩) (a1 : TRef sig ⟨S_, .i32⟩) (a2 : TRef sig ⟨S512x4096, .i32⟩) (a3 : TRef sig ⟨S512x4096, .i32⟩) (φ : fn_threefry2x32_4.Bufs) : Of (fn_threefry2x32_4.body (F := Ideal) a0 a1 a2 a3 φ) := by
  apply Subtype.mk
  unfold fn_threefry2x32_4.body fn_threefry2x32_4.body_part0 fn_threefry2x32_4.body_part1 fn_threefry2x32_4.body_part2 fn_threefry2x32_4.body_part3
  repeat (first
    | with_reducible exact IsLine.nil
    | (apply IsLine.step
       · with_reducible first
           | exact binary_op _ _ _ _ | exact unary_op _ _ _ | exact nullary_op _ _
           | exact ternary_op _ _ _ _ _ | exact reshape_op _ _ _ _)
    | (apply IsLine.final
       with_reducible first
           | exact binary_op _ _ _ _ | exact unary_op _ _ _ | exact nullary_op _ _
           | exact ternary_op _ _ _ _ _ | exact reshape_op _ _ _ _)
    | apply IsLine.append)

end Cert.KerLine

end
-- ==== Proof.KHost.lean ====
/-
  The host operations of the kernel's program before its region, as one line (Line.lean).
-/
module

public import proofs.«01_k».proof.Proof.KerLine
public import proofs.«01_k».proof.Proof.FrameI

@[expose] public section

set_option maxRecDepth 65536
set_option maxHeartbeats 4000000

noncomputable section

namespace Cert.KHost

open Idealize.ShloMosaic Idealize.ShloMosaic.StableHlo Idealize.ShloMosaic.TcCoe
open Idealize.SL.Sem Cert.Line Cert.KernelIdeal Cert.KernelIdeal.Gen

/-- A line together with the proof that a list of operations is that line. -/
abbrev LOf (ops : List (HloOp τ sig (Elt Ideal))) : Type := {l : List (TOp sig (Elt Ideal)) // IsList ops l}

/-- A stretch of the operations before the region, as a line. -/
def part0 : LOf (hostOps0 (F := Ideal)) := by
  apply Subtype.mk
  repeat (first
    | exact IsList.nil
    | (apply IsList.step
       · with_reducible first
           | exact binary_op' _ _ _ _ _ _ _ | exact unary_op' _ _ _ _ _ | exact nullary_op' _ _ _
           | exact ternary_op' _ _ _ _ _ _ _ _ _ | exact reshape_op' _ _ _ _ _ _))

/-- A stretch of the operations before the region, as a line. -/
def part2 : LOf (hostOps0_2 (F := Ideal)) := by
  apply Subtype.mk
  repeat (first
    | exact IsList.nil
    | (apply IsList.step
       · with_reducible first
           | exact binary_op' _ _ _ _ _ _ _ | exact unary_op' _ _ _ _ _ | exact nullary_op' _ _ _
           | exact ternary_op' _ _ _ _ _ _ _ _ _ | exact reshape_op' _ _ _ _ _ _))

/-- A stretch of the operations before the region, as a line. -/
def part4 : LOf (hostOps0_4 (F := Ideal)) := by
  apply Subtype.mk
  repeat (first
    | exact IsList.nil
    | (apply IsList.step
       · with_reducible first
           | exact binary_op' _ _ _ _ _ _ _ | exact unary_op' _ _ _ _ _ | exact nullary_op' _ _ _
           | exact ternary_op' _ _ _ _ _ _ _ _ _ | exact reshape_op' _ _ _ _ _ _))

/-- A stretch of the operations before the region, as a line. -/
def part6 : LOf (hostOps0_6 (F := Ideal)) := by
  apply Subtype.mk
  repeat (first
    | exact IsList.nil
    | (apply IsList.step
       · with_reducible first
           | exact binary_op' _ _ _ _ _ _ _ | exact unary_op' _ _ _ _ _ | exact nullary_op' _ _ _
           | exact ternary_op' _ _ _ _ _ _ _ _ _ | exact reshape_op' _ _ _ _ _ _))

/-- A stretch of the operations before the region, as a line. -/
def part8 : LOf (hostOps0_8 (F := Ideal)) := by
  apply Subtype.mk
  repeat (first
    | exact IsList.nil
    | (apply IsList.step
       · with_reducible first
           | exact binary_op' _ _ _ _ _ _ _ | exact unary_op' _ _ _ _ _ | exact nullary_op' _ _ _
           | exact ternary_op' _ _ _ _ _ _ _ _ _ | exact reshape_op' _ _ _ _ _ _))

/-- The operations after the region, but for the last three, as a line. -/
def tail0 : LOf (hostOps1 (F := Ideal)) := by
  apply Subtype.mk
  repeat (first
    | exact IsList.nil
    | (apply IsList.step
       · with_reducible first
           | exact binary_op' _ _ _ _ _ _ _ | exact unary_op' _ _ _ _ _ | exact nullary_op' _ _ _
           | exact ternary_op' _ _ _ _ _ _ _ _ _ | exact reshape_op' _ _ _ _ _ _))

/-- The last three operations, as a line. -/
def tail1 : LOf (hostOps1_1 (F := Ideal)) := by
  apply Subtype.mk
  repeat (first
    | exact IsList.nil
    | (apply IsList.step
       · with_reducible first
           | exact binary_op _ _ _ _ | exact unary_op _ _ _ | exact nullary_op _ _
           | exact ternary_op _ _ _ _ _ | exact reshape_op _ _ _ _))

/-- The operations before the region. -/
def line : List (TOp sig (Elt Ideal)) :=
  part0.1 ++ ((KerLine.threefry_split (.of main_v6) main_call0).1 ++ (part2.1
    ++ ((KerLine.randint (.of main_v9) (.of main_c_2) (.of main_c_3) main_call1).1 ++ (part4.1
    ++ ((KerLine.randint (.of main_v11) (.of main_c_4) (.of main_c_5) main_call2).1 ++ (part6.1
    ++ ((KerLine.threefry2x32_4 (.of main_v26) (.of main_v28) (.of main_v39) (.of main_v38) main_call3).1 ++ part8.1)))))))

/-- Splitting the seed is this line. -/
theorem split_list : hostOps0_1 (F := Ideal) = (KerLine.threefry_split (.of main_v6) main_call0).1.map TOp.op := by rfl
/-- Drawing the lengths is this line. -/
theorem randint1_list : hostOps0_3 (F := Ideal) = (KerLine.randint (.of main_v9) (.of main_c_2) (.of main_c_3) main_call1).1.map TOp.op := by rfl
/-- Drawing the starts is this line. -/
theorem randint2_list : hostOps0_5 (F := Ideal) = (KerLine.randint (.of main_v11) (.of main_c_4) (.of main_c_5) main_call2).1.map TOp.op := by rfl
/-- Drawing the bits is this line. -/
theorem bits_list : hostOps0_7 (F := Ideal) = (KerLine.threefry2x32_4 (.of main_v26) (.of main_v28) (.of main_v39) (.of main_v38) main_call3).1.map TOp.op := by rfl

/-- The operations before the region are the line. -/
theorem line_ops : List.flatten [hostOps0, hostOps0_1, hostOps0_2, hostOps0_3, hostOps0_4, hostOps0_5, hostOps0_6, hostOps0_7, hostOps0_8]
    = line.map (TOp.op (τ := τ)) := by
  simp only [line, List.map_append, List.flatten_cons, List.flatten_nil, List.append_nil]
  rw [← split_list, ← randint1_list, ← randint2_list, ← bits_list, ← part0.2, ← part2.2, ← part4.2, ← part6.2, ← part8.2]

/-- Each operation writes a new buffer, and none writes an argument. -/
theorem line_rising : rising 2 line = true := by rfl

end Cert.KHost

end
-- ==== Proof.Pick.lean ====
/-
  One equation out of a line's (Line.lean).
-/
module

public import proofs.«01_k».proof.Proof.Line

@[expose] public section

noncomputable section

namespace Cert.Line

open Idealize.ShloMosaic Idealize.ShloMosaic.StableHlo

variable {τ : Topo} {sig : RefSig} {Val : EltTy → Type} {V : Valuation τ sig Val}

/-- The equation of the operation at place `k`. -/
theorem sol_get {l : List (TOp sig Val)} (h : Sol V l) : ∀ (k : ℕ) (o : TOp sig Val), l[k]? = some o → o.Holds V := by
  induction l with
  | nil => intro k o e; simp at e
  | cons t l ih =>
    intro k o e
    cases k with
    | zero => simp only [List.getElem?_cons_zero, Option.some.injEq] at e; exact e ▸ h.1
    | succ k => exact ih h.2 k o (by simpa using e)

end Cert.Line

end
-- ==== Proof.Rank.lean ====
/-
  Choosing the `K` largest keys of a row, ties taken from the left: by rank, and by a threshold found bit by bit.
-/
module

public import Idealize.ShloMosaic.PureOps.Ideal

@[expose] public section

namespace Cert.Rank

open Finset

variable {n : ℕ}

/-- How many keys are at least `t`. -/
def atLeast (key : Fin n → ℕ) (t : ℕ) : ℕ := #{c | t ≤ key c}

/-- How many keys come before `c`'s: the larger ones, and the equal ones to its left. -/
def rank (key : Fin n → ℕ) (c : Fin n) : ℕ := #{d | key c < key d ∨ (key d = key c ∧ d < c)}

/-- One step of the search: the bit `b` is kept if `K` keys still reach the threshold. -/
def keepBit (K : ℕ) (key : Fin n → ℕ) (t b : ℕ) : ℕ := if K ≤ atLeast key (t + b) then t + b else t

/-- The powers of two below `2 ^ m`, from the largest down. -/
def powers : ℕ → List ℕ
  | 0 => []
  | m + 1 => 2 ^ m :: powers m

/-- The search keeps the threshold between a number that enough keys reach and one that too few do. -/
theorem search_inv (K : ℕ) (key : Fin n → ℕ) (m : ℕ) : ∀ t, K ≤ atLeast key t → atLeast key (t + 2 ^ m) < K →
    K ≤ atLeast key ((powers m).foldl (keepBit K key) t) ∧ atLeast key ((powers m).foldl (keepBit K key) t + 1) < K := by
  induction m with
  | zero => intro t h h'; exact ⟨h, h'⟩
  | succ m ih =>
    intro t h h'
    simp only [powers, List.foldl_cons]
    unfold keepBit
    split
    · next hb =>
      refine ih _ hb ?_
      rwa [add_assoc, ← two_mul, ← pow_succ']
    · next hb => exact ih _ h (by omega)

/-- The threshold. -/
def threshold (K : ℕ) (key : Fin n → ℕ) : ℕ := (powers 24).foldl (keepBit K key) 0

/-- The search ends at the largest number that enough keys reach. -/
theorem threshold_spec (K : ℕ) (key : Fin n → ℕ) (hK : K ≤ n) (hpos : 0 < K) (hkey : ∀ c, key c < 2 ^ 24) :
    K ≤ atLeast key (threshold K key) ∧ atLeast key (threshold K key + 1) < K := by
  refine search_inv K key 24 0 ?_ ?_
  · unfold atLeast; simpa using hK
  · unfold atLeast
    rw [Finset.filter_eq_empty_iff.mpr (fun c _ => by have := hkey c; omega)]
    simpa using hpos

/-- Being among the `K` first is exceeding the threshold, or meeting it with few enough equal keys to the left. -/
theorem rank_lt_iff (K : ℕ) (key : Fin n → ℕ) (T : ℕ) (h : K ≤ atLeast key T) (h' : atLeast key (T + 1) < K) (c : Fin n) :
    rank key c < K ↔ T < key c ∨ (key c = T ∧ #{d | key d = T ∧ d < c} + atLeast key (T + 1) < K) := by
  rcases lt_trichotomy (key c) T with hc | hc | hc
  · have : atLeast key T ≤ rank key c := by
      refine Finset.card_le_card fun d hd => ?_
      simp only [mem_filter, mem_univ, true_and] at hd ⊢
      left; omega
    constructor
    · intro; omega
    · rintro (h1 | ⟨h1, -⟩) <;> omega
  · have : rank key c = #{d | key d = T ∧ d < c} + atLeast key (T + 1) := by
      unfold rank atLeast
      rw [← Finset.card_union_of_disjoint]
      · congr 1
        ext d
        simp only [mem_filter, mem_univ, true_and, mem_union]
        subst hc
        constructor
        · rintro (h1 | h1)
          · right; omega
          · left; exact h1
        · rintro (h1 | h1)
          · right; exact h1
          · left; omega
      · rw [Finset.disjoint_left]
        intro d hd hd'
        simp only [mem_filter, mem_univ, true_and] at hd hd'
        omega
    rw [this]
    constructor
    · intro h1; exact Or.inr ⟨hc, h1⟩
    · rintro (h1 | ⟨-, h1⟩)
      · omega
      · exact h1
  · have : rank key c ≤ atLeast key (T + 1) := by
      refine Finset.card_le_card fun d hd => ?_
      simp only [mem_filter, mem_univ, true_and] at hd ⊢
      omega
    constructor
    · intro; exact Or.inl hc
    · intro; omega

/-- The number of positions `c` covers: spans begun and not ended. -/
def painted {N : ℕ} (S E : Fin N → ℕ) (c : ℕ) : Prop := #{j | E j ≤ c} < #{j | S j ≤ c}

instance {N : ℕ} (S E : Fin N → ℕ) (c : ℕ) : Decidable (painted S E c) := inferInstanceAs (Decidable (_ < _))

/-- The key of position `c`: its random bits, above them whether it is painted. -/
def keyOf {N : ℕ} (S E : Fin N → ℕ) (B : Fin n → ℕ) (c : Fin n) : ℕ := B c + if painted S E c then 8388608 else 0

end Cert.Rank
-- ==== Proof.Num.lean ====
/-
  Small facts used on both sides: integers as extended reals, comparisons of small words, and sums over a row laid out in
  chunks of lanes.
-/
module

public import proofs.«01_k».proof.Proof.Rank
public import Idealize.ShloMosaic.Lib.Pointwise

@[expose] public section

set_option maxRecDepth 65536

noncomputable section

namespace Cert.Num

open Idealize.ShloMosaic Finset

/-! ## Integers as extended reals -/

/-- An integer as an extended real. -/
def ez (z : ℤ) : EReal := ((z : ℝ) : EReal)

/-- Zero. -/
theorem ez_zero : ez 0 = 0 := by simp [ez]
/-- One. -/
theorem ez_one : ez 1 = 1 := by simp [ez]
/-- The sum of two integers. -/
theorem ez_add (a b : ℤ) : ez a + ez b = ez (a + b) := by simp [ez]
/-- The difference of two integers. -/
theorem ez_sub (a b : ℤ) : ez a - ez b = ez (a - b) := by simp [ez]
/-- The product of two integers. -/
theorem ez_mul (a b : ℤ) : ez a * ez b = ez (a * b) := by simp [ez]
/-- The order of two integers. -/
theorem ez_lt (a b : ℤ) : ez a < ez b ↔ a < b := by simp [ez]
/-- The order of two integers. -/
theorem ez_le (a b : ℤ) : ez a ≤ ez b ↔ a ≤ b := by simp [ez]
/-- The sum of integers. -/
theorem ez_sum {ι : Type*} (s : Finset ι) (f : ι → ℤ) : ∑ i ∈ s, ez (f i) = ez (∑ i ∈ s, f i) := by
  classical
  induction s using Finset.induction_on with
  | empty => simp [ez_zero]
  | insert a s ha ih => rw [Finset.sum_insert ha, Finset.sum_insert ha, ih, ez_add]

/-- One half. -/
theorem half_eq : Ideal.ofBits .f32 1056964608#32 = ((1 / 2 : ℝ) : EReal) := by
  simp only [Ideal.ofBits, Ideal.ieee]
  simp
  rw [← EReal.coe_mul]
  norm_num

/-- An integer above one half is positive. -/
theorem half_lt (z : ℤ) : Ideal.ofBits .f32 1056964608#32 < ez z ↔ 0 < z := by
  rw [half_eq, ez, EReal.coe_lt_coe_iff]
  constructor
  · intro h
    by_contra hz
    have : (z : ℝ) ≤ 0 := by exact_mod_cast not_lt.mp hz
    linarith
  · intro h
    have : (1 : ℝ) ≤ z := by exact_mod_cast h
    linarith

/-- The number of positions to select. -/
theorem target_eq : Ideal.ofBits .f32 1142521856#32 = ez 614 := by
  simp only [Ideal.ofBits, Ideal.ieee, ez]
  simp
  rw [← EReal.coe_mul]
  norm_num

/-- The float of a bit. -/
theorem float_bit (p : Prop) [Decidable p] :
    FloatOps.sitofp (F := Ideal) .f32 (BitVec.setWidth 32 (BitVec.ofBool (decide p))) = ez (if p then 1 else 0) := by
  show (((BitVec.setWidth 32 (BitVec.ofBool (decide p))).toInt : ℝ) : EReal) = _
  by_cases h : p <;> simp [h, ez]

/-- A choice by a test's bit. -/
theorem select_bit {α : Type} (p : Prop) [Decidable p] (a b : α) : Scalar.select (BitVec.ofBool (decide p)) a b = if p then a else b := by
  by_cases h : p <;> simp [h, Scalar.select]

/-! ## Comparisons of small words -/

/-- A small word as an integer. -/
theorem toInt_small (a : ℕ) (h : a < 2 ^ 31) : (BitVec.ofNat 32 a).toInt = a := by
  rw [BitVec.toInt_eq_toNat_cond]
  simp only [BitVec.toNat_ofNat]
  rw [Nat.mod_eq_of_lt (by omega)]
  split <;> omega

/-- Equality of small words. -/
theorem eq_small (a b : ℕ) (ha : a < 2 ^ 31) (hb : b < 2 ^ 31) :
    IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      simp only [BitVec.toNat_ofNat] at this
      omega
    · rintro rfl; rfl
  simp only [IntOp.cmpi]
  congr 1
  rw [Bool.eq_iff_iff]
  simpa using this

/-- The order of small words. -/
theorem slt_small (a b : ℕ) (ha : a < 2 ^ 31) (hb : b < 2 ^ 31) :
    (BitVec.ofNat 32 a).slt (BitVec.ofNat 32 b) = decide (a < b) := by
  rw [BitVec.slt, toInt_small a ha, toInt_small b hb]
  simp

/-- The order of small words. -/
theorem sle_small (a b : ℕ) (ha : a < 2 ^ 31) (hb : b < 2 ^ 31) :
    (BitVec.ofNat 32 a).sle (BitVec.ofNat 32 b) = decide (a ≤ b) := by
  rw [BitVec.sle, toInt_small a ha, toInt_small b hb]
  simp

/-- The order of small words, as a comparison. -/
theorem sge_small (a b : ℕ) (ha : a < 2 ^ 31) (hb : b < 2 ^ 31) :
    IntOp.cmpi .sge (BitVec.ofNat 32 a) (BitVec.ofNat 32 b) = BitVec.ofBool (decide (b ≤ a)) := by
  simp only [IntOp.cmpi]; rw [sle_small b a hb ha]

/-- The order of small words, as a comparison. -/
theorem sgt_small (a b : ℕ) (ha : a < 2 ^ 31) (hb : b < 2 ^ 31) :
    IntOp.cmpi .sgt (BitVec.ofNat 32 a) (BitVec.ofNat 32 b) = BitVec.ofBool (decide (b < a)) := by
  simp only [IntOp.cmpi]; rw [slt_small b a hb ha]

/-- The order of small words, as a comparison. -/
theorem cmp_slt_small (a b : ℕ) (ha : a < 2 ^ 31) (hb : b < 2 ^ 31) :
    IntOp.cmpi .slt (BitVec.ofNat 32 a) (BitVec.ofNat 32 b) = BitVec.ofBool (decide (a < b)) := by
  simp only [IntOp.cmpi]; rw [slt_small a b ha hb]

/-- The order of small words, as a comparison. -/
theorem cmp_sle_small (a b : ℕ) (ha : a < 2 ^ 31) (hb : b < 2 ^ 31) :
    IntOp.cmpi .sle (BitVec.ofNat 32 a) (BitVec.ofNat 32 b) = BitVec.ofBool (decide (a ≤ b)) := by
  simp only [IntOp.cmpi]; rw [sle_small a b ha hb]

/-- The sum of words. -/
theorem add_small (a b : ℕ) : IntOp.addi (BitVec.ofNat 32 a) (BitVec.ofNat 32 b) = BitVec.ofNat 32 (a + b) := by
  simp [IntOp.addi, BitVec.ofNat_add]

/-- A position's chunk. -/
theorem chunk_small (e : ℕ) (he : e < 2 ^ 31) : IntOp.shrsi .vector (BitVec.ofNat 32 e) 7#32 = BitVec.ofNat 32 (e / 128) := by
  apply BitVec.eq_of_toInt_eq
  unfold IntOp.shrsi
  rw [if_pos (by decide)]
  show ((BitVec.ofNat 32 e).sshiftRight 7).toInt = _
  rw [BitVec.toInt_sshiftRight, toInt_small e he, toInt_small _ (by omega)]
  simp [Int.shiftRight_eq_div_pow]

/-- A position's lane. -/
theorem lane_small (e : ℕ) : IntOp.andi (BitVec.ofNat 32 e) 127#32 = BitVec.ofNat 32 (e % 128) := by
  apply BitVec.eq_of_toNat_eq
  simp only [IntOp.andi, BitVec.toNat_and, BitVec.toNat_ofNat]
  rw [show (127 % 2 ^ 32 : ℕ) = 2 ^ 7 - 1 by norm_num, Nat.and_two_pow_sub_one_eq_mod]
  omega

/-! ## Sums over a row in chunks of lanes -/

/-- A double sum over chunks and lanes as one sum over positions. -/
theorem sum_chunks {M : Type*} [AddCommMonoid M] (f : ℕ → M) : ∑ x : Fin 32, ∑ y : Fin 128, f (128 * x.val + y.val) = ∑ c : Fin 4096, f c.val := by
  rw [← Fintype.sum_prod_type' (f := fun (x : Fin 32) (y : Fin 128) => f (128 * x.val + y.val))]
  refine Fintype.sum_equiv (finProdFinEquiv (m := 32) (n := 128)) _ _ fun p => ?_
  simp [finProdFinEquiv, add_comm]

/-- A sum up to lane `l` of chunk `h`, taken as the lanes of that chunk and the whole chunks before it. -/
theorem sum_prefix (g : ℕ → ℤ) (h : Fin 32) (m : ℕ) (hm : m ≤ 128) :
    (∑ y : Fin 128, g (128 * h.val + y.val) * (if y.val < m then 1 else 0))
      + ∑ x : Fin 32, (∑ y : Fin 128, g (128 * x.val + y.val)) * (if x < h then 1 else 0)
    = ∑ c : Fin 4096, if c.val < 128 * h.val + m then g c.val else 0 := by
  rw [← sum_chunks (fun c => if c < 128 * h.val + m then g c else 0)]
  have hx : ∀ x : Fin 32, (∑ y : Fin 128, if 128 * x.val + y.val < 128 * h.val + m then g (128 * x.val + y.val) else 0)
      = (∑ y : Fin 128, g (128 * x.val + y.val)) * (if x < h then 1 else 0)
        + if x = h then (∑ y : Fin 128, g (128 * h.val + y.val) * (if y.val < m then 1 else 0)) else 0 := by
    intro x
    rcases lt_trichotomy x h with hlt | rfl | hgt
    · have h1 : x.val < h.val := hlt
      rw [if_pos hlt, if_neg (ne_of_lt hlt), mul_one, add_zero]
      exact Finset.sum_congr rfl fun y _ => if_pos (by omega)
    · rw [if_neg (lt_irrefl _), if_pos rfl, mul_zero, zero_add]
      refine Finset.sum_congr rfl fun y _ => ?_
      by_cases hy : y.val < m
      · rw [if_pos (by omega), if_pos hy, mul_one]
      · rw [if_neg (by omega), if_neg hy, mul_zero]
    · have h1 : h.val < x.val := hgt
      rw [if_neg (not_lt.mpr hgt.le), if_neg (ne_of_gt hgt), mul_zero, add_zero]
      exact Finset.sum_eq_zero fun y _ => if_neg (by omega)
  rw [Finset.sum_congr rfl fun x _ => hx x, Finset.sum_add_distrib, Finset.sum_ite_eq' univ h]
  simp [add_comm]

/-- Marks summed at their places and then up to a bound are the marks below the bound. -/
theorem sum_marks {N : ℕ} (e : Fin N → ℕ) (s : Fin N → ℤ) (b : ℕ) (hb : b ≤ 4096) :
    (∑ c : Fin 4096, if c.val < b then (∑ j, if e j = c.val then s j else 0) else 0) = ∑ j, if e j < b then s j else 0 := by
  have : ∀ c : Fin 4096, (if c.val < b then (∑ j, if e j = c.val then s j else 0) else 0)
      = ∑ j, if e j = c.val ∧ c.val < b then s j else 0 := by
    intro c
    split
    · next h => exact Finset.sum_congr rfl fun j _ => by simp [h]
    · next h => simp [h]
  rw [Finset.sum_congr rfl fun c _ => this c, Finset.sum_comm]
  refine Finset.sum_congr rfl fun j _ => ?_
  by_cases hj : e j < b
  · rw [if_pos hj, Finset.sum_eq_single (⟨e j, by omega⟩ : Fin 4096)]
    · simp [hj]
    · intro c _ hc
      refine if_neg fun h => hc (Fin.ext h.1.symm)
    · simp
  · rw [if_neg hj]
    exact Finset.sum_eq_zero fun c _ => if_neg fun h => hj (by omega)

/-- A sum of ones is a count. -/
theorem sum_card {n : ℕ} (p : Fin n → Prop) [DecidablePred p] : (∑ c, if p c then (1 : ℤ) else 0) = (#{c | p c} : ℕ) := by
  rw [Finset.sum_boole]

end Cert.Num

end
-- ==== Proof.KEqs.lean ====
/-
  What the kernel's region is given: the entries and signs of the painted spans, the bits and the matrices of comparisons,
  as the operations before the region compute them.
-/
module

public import proofs.«01_k».proof.Proof.KHost
public import proofs.«01_k».proof.Proof.Pick
public import proofs.«01_k».proof.Proof.Num
public import proofs.«01_k».proof.Proof.Rank

@[expose] public section

set_option maxRecDepth 65536
set_option maxHeartbeats 1000000

noncomputable section

namespace Cert.KEqs

open Idealize.ShloMosaic Idealize.ShloMosaic.StableHlo Cert.Line Cert.Num Cert.KernelIdeal Cert.KernelIdeal.Gen

variable {V : Valuation τ sig (Elt Ideal)}

/-! ## What is computed -/

/-- Where the spans end. -/
def ends (st ln : IVec S512x188 32) : IVec S512x188 32 :=
  minsi (addi st ln) (broadcastInDim S512x188 ![] bcast_S_S512x188 (constantI S_ 32 4096#32))

/-- The starts and the ends, block by block. -/
def entries (st ln : IVec S512x188 32) : IVec S8x64x376 32 :=
  shapeCast S8x64x376 (concatenate S512x376 1 [⟨S512x188, st⟩, ⟨S512x188, ends st ln⟩] concatenates_S512x188_S512x188_S512x376_d1) shapeCasts_S512x376_S8x64x376

/-- Ones. -/
def ones : FVec Ideal S1x188 .f32 := broadcastInDim S1x188 ![] bcast_S_S1x188 (constant S_ .f32 0x3F800000#32)

/-- One for each start, minus one for each end. -/
def signs : FVec Ideal S1x376 .f32 :=
  concatenate S1x376 1 [⟨S1x188, ones⟩, ⟨S1x188, Host.negf ones⟩] concatenates_S1x188_S1x188_S1x376_d1

/-- A matrix of comparisons. -/
def below128 (p : CmpIPredicate) : FVec Ideal S128x128 .f32 := uitofp .f32 (cmpi p (iotaInDim S128x128 32 0) (iotaInDim S128x128 32 1))

/-- A matrix of comparisons. -/
def below32 : FVec Ideal S32x32 .f32 := uitofp .f32 (cmpi .slt (iotaInDim S32x32 32 0) (iotaInDim S32x32 32 1))

/-! ## The equations -/

/-- The entries and the signs that the region is given. -/
theorem eqs6 (h : Sol V KHost.part6.1) :
    val (.of main_v20 : TRef sig ⟨S8x64x376, .i32⟩) V
      = entries (val (.of main_v15 : TRef sig ⟨S512x188, .i32⟩) V) (val (.of main_v14 : TRef sig ⟨S512x188, .i32⟩) V)
    ∧ val (.of main_v24 : TRef sig ⟨S1x376, .f32⟩) V = signs := by
  unfold KHost.part6 at h
  dsimp only at h
  simp only [Sol, TOp.Holds] at h
  obtain ⟨h0, h1, h2, h3, h4, h5, h6, h7, h8, h9, h10, h11, -⟩ := h
  refine ⟨h5.trans ?_, h11.trans ?_⟩
  · unfold entries
    refine congrArg (fun z => shapeCast S8x64x376 z shapeCasts_S512x376_S8x64x376) (h4.trans ?_)
    refine congrArg (fun z : IVec S512x188 32 => concatenate S512x376 1 [⟨S512x188, val (.of main_v15 : TRef sig ⟨S512x188, .i32⟩) V⟩, ⟨S512x188, z⟩] concatenates_S512x188_S512x188_S512x376_d1) (h3.trans ?_)
    rw [h0, h2, h1]
    rfl
  · unfold signs
    have e7 : val (.of main_v21 : TRef sig ⟨S1x188, .f32⟩) V = ones := by refine h7.trans ?_; rw [h6]; rfl
    have e10 : val (.of main_v23 : TRef sig ⟨S1x188, .f32⟩) V = Host.negf ones := by refine h10.trans ?_; rw [h9, h8]; rfl
    rw [← e10, ← e7]

/-- The bits and the matrices of comparisons that the region is given. -/
theorem eqs8 (h : Sol V KHost.part8.1) :
    val (.of main_v45 : TRef sig ⟨S16384x128, .i32⟩) V = shapeCast S16384x128 (val (.of main_v43 : TRef sig ⟨S512x4096, .i32⟩) V) shapeCasts_S512x4096_S16384x128
    ∧ val (.of main_v49 : TRef sig ⟨S128x128, .f32⟩) V = below128 .sle
    ∧ val (.of main_v51 : TRef sig ⟨S128x128, .f32⟩) V = below128 .slt
    ∧ val (.of main_v55 : TRef sig ⟨S32x32, .f32⟩) V = below32 := by
  unfold KHost.part8 at h
  dsimp only at h
  simp only [Sol, TOp.Holds] at h
  obtain ⟨h0, h1, h2, h3, h4, h5, h6, h7, h8, h9, h10, h11, h12, h13, h14, h15, -⟩ := h
  refine ⟨h5.trans ?_, h9.trans ?_, h11.trans ?_, h15.trans ?_⟩
  · rw [h4]; rfl
  · rw [h8, h6, h7]; rfl
  · rw [h10, h6, h7]; rfl
  · rw [h14, h12, h13]; rfl

/-! ## At an index -/

variable (st ln : IVec S512x188 32) (S E : Fin 512 → Fin 188 → ℕ)

/-- The entry's position: a start, or an end. -/
def entry (S E : Fin 188 → ℕ) (j : Fin 376) : ℕ := if h : j.val < 188 then S ⟨j.val, h⟩ else E ⟨j.val - 188, by omega⟩

/-- The entry's sign. -/
def sign (j : Fin 376) : ℤ := if j.val < 188 then 1 else -1

/-- The entry of a row at a place. -/
theorem entries_at (hst : ∀ r j, st (ix2 r j) = BitVec.ofNat 32 (S r j)) (hen : ∀ r j, ends st ln (ix2 r j) = BitVec.ofNat 32 (E r j))
    (t : Fin 8) (r : Fin 64) (j : Fin 376) :
    entries st ln (ix3 t r j) = BitVec.ofNat 32 (entry (S ⟨t.val * 64 + r.val, by omega⟩) (E ⟨t.val * 64 + r.val, by omega⟩) j) := by
  unfold entries
  generalize ends st ln = en at hen ⊢
  pointwise []
  unfold entry
  split
  · rw [hst]
  · rw [hen]

/-- The sign at a place. -/
theorem signs_at (j : Fin 376) : signs (ix2 0 j) = ez (sign j) := by
  unfold signs ones
  pointwise []
  unfold sign
  split <;> simp [ez]

/-- One on and above the diagonal, zero below it. -/
theorem below128_sle (a b : Fin 128) : below128 .sle (ix2 a b) = ez (if a ≤ b then 1 else 0) := by
  unfold below128
  pointwise []
  rw [cmp_sle_small _ _ (by omega) (by omega)]
  show (((BitVec.ofBool _).toNat : ℝ) : EReal) = _
  by_cases h : a.val ≤ b.val <;> simp [ez, h, Fin.le_def]

/-- One above the diagonal, zero elsewhere. -/
theorem below128_slt (a b : Fin 128) : below128 .slt (ix2 a b) = ez (if a < b then 1 else 0) := by
  unfold below128
  pointwise []
  rw [cmp_slt_small _ _ (by omega) (by omega)]
  show (((BitVec.ofBool _).toNat : ℝ) : EReal) = _
  by_cases h : a.val < b.val <;> simp [ez, h, Fin.lt_def]

/-- One above the diagonal, zero elsewhere. -/
theorem below32_at (a b : Fin 32) : below32 (ix2 a b) = ez (if a < b then 1 else 0) := by
  unfold below32
  pointwise []
  rw [cmp_slt_small _ _ (by omega) (by omega)]
  show (((BitVec.ofBool _).toNat : ℝ) : EReal) = _
  by_cases h : a.val < b.val <;> simp [ez, h, Fin.lt_def]

/-- The bits of a row, cut into 32 chunks of 128 lanes. -/
theorem words_at (m : IVec S512x4096 32) (q : Fin 16384) (l : Fin 128) :
    shapeCast S16384x128 m shapeCasts_S512x4096_S16384x128 (ix2 q l) = m (ix2 ⟨q.val / 32, by omega⟩ ⟨128 * (q.val % 32) + l.val, by omega⟩) := by
  pointwise []
  congr 3
  omega

/-- The entries' signs up to a position are positive in sum exactly where it is painted. -/
theorem painted_iff (S E : Fin 188 → ℕ) (c : ℕ) : 0 < (∑ j, if entry S E j ≤ c then sign j else 0) ↔ Rank.painted S E c := by
  rw [Fin.sum_univ_two_halves 188 188 rfl]
  have h1 : (∑ k : Fin 188, if entry S E ⟨k.val, by omega⟩ ≤ c then sign ⟨k.val, by omega⟩ else 0) = (Finset.card {j | S j ≤ c} : ℕ) := by
    rw [← sum_card]
    refine Finset.sum_congr rfl fun k _ => ?_
    simp [entry, sign]
  have h2 : (∑ k : Fin 188, if entry S E ⟨188 + k.val, by omega⟩ ≤ c then sign ⟨188 + k.val, by omega⟩ else 0) = -(Finset.card {j | E j ≤ c} : ℕ) := by
    rw [← sum_card, ← Finset.sum_neg_distrib]
    refine Finset.sum_congr rfl fun k _ => ?_
    simp [entry, sign]
    split <;> rfl
  rw [h1, h2]
  unfold Rank.painted
  omega

end Cert.KEqs

end
-- ==== Proof.KTail.lean ====
/-
  The kernel's program after its region: from the marks that the region leaves, the result at an index.
-/
module

public import proofs.«01_k».proof.Proof.KHost
public import proofs.«01_k».proof.Proof.Pick
public import proofs.«01_k».proof.Proof.Num

@[expose] public section

set_option maxRecDepth 65536
set_option maxHeartbeats 1000000

noncomputable section

namespace Cert.KTail

open Idealize.ShloMosaic Idealize.ShloMosaic.StableHlo Cert.Line Cert.Num Cert.KernelIdeal Cert.KernelIdeal.Gen

variable {V : Valuation τ sig (Elt Ideal)}

/-- The operations after the region. -/
def line : List (TOp sig (Elt Ideal)) := KHost.tail0.1 ++ KHost.tail1.1

/-- The operations after the region are the line. -/
theorem line_ops : List.flatten [hostOps1, hostOps1_1] = line.map (TOp.op (τ := τ)) := by
  simp only [line, List.map_append, List.flatten_cons, List.flatten_nil, List.append_nil]
  rw [← KHost.tail0.2, ← KHost.tail1.2]

/-- Each operation writes a buffer that comes after the region's result. -/
theorem line_rising : rising main_v57.idx.val line = true := by rfl

/-- The first features. -/
def lead (x : FVec Ideal S512x4096x6 .f32) : FVec Ideal S512x4096 .f32 :=
  shapeCast S512x4096 (extractStridedSlice S512x4096x1 ![0, 0, 0] x slices_S512x4096x6_S512x4096x1_0_0_0) shapeCasts_S512x4096x1_S512x4096

/-- The marked positions. -/
def marked (b : FVec Ideal S16384x128 .bf16) : IVec S512x4096 1 :=
  cmpf .ogt (shapeCast S512x4096 b shapeCasts_S16384x128_S512x4096 : FVec Ideal S512x4096 .bf16)
    (broadcastInDim S512x4096 ![] bcast_S_S512x4096 (constant S_ .bf16 0x3F00#16 : FVec Ideal S_ .bf16))

/-- The token at the marked positions whose first feature is a number, the features elsewhere. -/
def out (b : FVec Ideal S16384x128 .bf16) (x : FVec Ideal S512x4096x6 .f32) (t : FVec Ideal S6 .f32) : FVec Ideal S512x4096x6 .f32 :=
  select (broadcastInDim S512x4096x6 ![0, 1, 2] bcast_S512x4096x1_S512x4096x6_0_1_2
      (broadcastInDim S512x4096x1 ![0, 1] bcast_S512x4096_S512x4096x1_0_1 (andi (marked b) (noti (cmpf .une (lead x) (lead x))))))
    (broadcastInDim S512x4096x6 ![0, 1, 2] bcast_S1x1x6_S512x4096x6_0_1_2 (broadcastInDim S1x1x6 ![2] bcast_S6_S1x1x6_2 t)) x

/-- The result in terms of the marks and the arguments. -/
theorem eqs (h : Sol V line) : val (.of main_v67 : TRef sig ⟨S512x4096x6, .f32⟩) V
    = out (val (.of main_v56 : TRef sig ⟨S16384x128, .bf16⟩) V) (val (.of main_arg0 : TRef sig ⟨S512x4096x6, .f32⟩) V) (val (.of main_arg1 : TRef sig ⟨S6, .f32⟩) V) := by
  unfold line KHost.tail0 KHost.tail1 at h
  dsimp only at h
  simp only [List.cons_append, List.nil_append, Sol, TOp.Holds] at h
  obtain ⟨h0, h1, h2, h3, h4, h5, h6, h7, h8, h9, h10, g0, g1, g2, -⟩ := h
  have e1 : val (.of main_cst_12 : TRef sig ⟨S_, .bf16⟩) V = (constant S_ .bf16 0x3F00#16 : FVec Ideal S_ .bf16) := h1
  have e3 : val (.of main_v59 : TRef sig ⟨S512x4096, .i1⟩) V = marked (val (.of main_v56 : TRef sig ⟨S16384x128, .bf16⟩) V) := by
    refine h3.trans ?_
    rw [h0, h2, e1]
    rfl
  have e5 : val (.of main_v61 : TRef sig ⟨S512x4096, .f32⟩) V = lead (val (.of main_arg0 : TRef sig ⟨S512x4096x6, .f32⟩) V) := by
    refine h5.trans ?_
    rw [h4]
    rfl
  have e9 : val (.of main_v65 : TRef sig ⟨S512x4096x1, .i1⟩) V = broadcastInDim S512x4096x1 ![0, 1] bcast_S512x4096_S512x4096x1_0_1
      (andi (marked (val (.of main_v56 : TRef sig ⟨S16384x128, .bf16⟩) V)) (noti (cmpf .une (lead (val (.of main_arg0 : TRef sig ⟨S512x4096x6, .f32⟩) V)) (lead (val (.of main_arg0 : TRef sig ⟨S512x4096x6, .f32⟩) V))))) := by
    refine h9.trans ?_
    rw [h8, h7, h6, e5, e3]
  refine g2.trans ?_
  rw [g0, g1, h10]
  unfold out
  rw [← e9]

/-- The number that the marks are compared with is one half. -/
theorem half_eq : Ideal.ofBits .bf16 16128#16 = ((1 / 2 : ℝ) : EReal) := by
  simp only [Ideal.ofBits, Ideal.ieee]
  simp
  rw [← EReal.coe_mul]
  norm_num

/-- A position is marked where its mark is one. -/
theorem marked_at (b : FVec Ideal S16384x128 .bf16) (r : Fin 512) (c : Fin 4096) (p : Prop) [Decidable p]
    (hb : b (ix2 ⟨r.val * 32 + c.val / 128, by omega⟩ ⟨c.val % 128, by omega⟩) = ez (if p then 1 else 0)) :
    marked b (ix2 r c) = BitVec.ofBool (decide p) := by
  unfold marked
  pointwise []
  rw [hb]
  show BitVec.ofBool (decide (Ideal.ofBits .bf16 16128#16 < _)) = _
  congr 1
  rw [decide_eq_decide, half_eq, ez, EReal.coe_lt_coe_iff]
  by_cases h : p <;> simp [h] <;> norm_num

/-- The result at an index. -/
theorem out_at (b : FVec Ideal S16384x128 .bf16) (x : FVec Ideal S512x4096x6 .f32) (t : FVec Ideal S6 .f32) (r : Fin 512) (c : Fin 4096) (f : Fin 6) :
    out b x t (ix3 r c f)
      = Scalar.select (IntOp.andi (marked b (ix2 r c)) (~~~ FloatOps.cmpf (F := Ideal) (φ := .f32) .une (x (ix3 r c 0)) (x (ix3 r c 0)))) (t (ix1 f)) (x (ix3 r c f)) := by
  unfold out lead
  generalize marked b = sel
  pointwise []

/-- What the operations after the region leave in the result's buffer. -/
theorem run_v67 (W : Valuation τ sig (Elt Ideal)) (b : FVec Ideal S16384x128 .bf16) (x : FVec Ideal S512x4096x6 .f32) (t : FVec Ideal S6 .f32)
    (hb : W (Proc.devRef .tc main_v56) = b) (hx : W (Proc.devRef .tc main_arg0) = x) (ht : W (Proc.devRef .tc main_arg1) = t) :
    run line W (Proc.devRef .tc main_v67) = out b x t := by
  have hs : Sol (run line W) line := sol_run _ _ _ line_rising
  have kb := (run_below _ _ W line_rising main_v56 (by decide)).trans hb
  have kx := (run_below _ _ W line_rising main_arg0 (by decide)).trans hx
  have kt := (run_below _ _ W line_rising main_arg1 (by decide)).trans ht
  generalize run line W = T at hs kb kx kt ⊢
  subst kb kx kt
  exact eqs hs

end Cert.KTail

end
-- ==== Proof.Body.lean ====
/-
  The kernel's body at one block of rows, restated: the painted positions, the keys, the threshold search as a fold of one
  step, and the selection.
-/
module

public import proofs.«01_k».proof.Proof.FrameI
public import Idealize.ShloMosaic.PureOps.Ideal

@[expose] public section

set_option maxRecDepth 65536
set_option maxHeartbeats 4000000

noncomputable section

namespace Cert.Body

open Idealize.ShloMosaic Idealize.ShloMosaic.TcCoe Cert.KernelIdeal Cert.KernelIdeal.Gen

variable {F : FTy → Type} [FloatOps F]

/-- How many keys of each row are at least `t`. -/
def cnt (key : IVec S64x32x128 32) (t : IVec S64x1x1 32) : FVec F S64x1x1 .f32 :=
  shapeCast S64x1x1 (multiReduction .add [1] S64 (multiReduction .add [1] S64x128
    (sitofp .f32 (extui 32 (cmpi .sge key (broadcastTo S64x32x128 t broadcasts_S64x1x1_S64x32x128)) natLt_1_32))
    0x00000000#32 reduces_S64x32x128_S64x128 (.inl rfl) rfl) 0x00000000#32 reduces_S64x128_S64 (.inl rfl) rfl) shapeCasts_S64_S64x1x1

/-- One step of the search: the bit `b` is kept if the target count is still reached. -/
def step (key : IVec S64x32x128 32) (t : IVec S64x1x1 32) (b : BitVec 32) : IVec S64x1x1 32 :=
  select (cmpf .oge (cnt (F := F) key (addi t (broadcast S64x1x1 b))) (broadcast S64x1x1 (Scalar.ofBits .f32 0x44198000#32)))
    (addi t (broadcast S64x1x1 b)) t

/-- The steps for the bits from the `hi - 1`-st down to the `lo`-th. -/
abbrev steps (key : IVec S64x32x128 32) (bits : List (BitVec 32)) (t : IVec S64x1x1 32) : IVec S64x1x1 32 :=
  bits.foldl (step (F := F) key) t

/-- The next candidate of the search. -/
abbrev cand (t : IVec S64x1x1 32) (b : BitVec 32) : IVec S64x1x1 32 := addi t (broadcast S64x1x1 b)

/-- The counts of a candidate, summed over the chunks only. -/
abbrev part (key : IVec S64x32x128 32) (t : IVec S64x1x1 32) : FVec F S64x128 .f32 :=
  multiReduction .add [1] S64x128 (sitofp .f32 (extui 32 (cmpi .sge key (broadcastTo S64x32x128 t broadcasts_S64x1x1_S64x32x128)) natLt_1_32))
    0x00000000#32 reduces_S64x32x128_S64x128 (.inl rfl) rfl

section Stages

variable (key : IVec S64x32x128 32) (t : IVec S64x1x1 32)

/-- This stage of the unrolled body, in terms of the search step. -/
theorem stage5 (p : IVec S64x32x128 1) (v : Vec F S2048x128 .i32) :
    Gen.k0_pay5 p v = steps (F := F) (Gen.k0_pay4 p v) [8388608#32, 4194304#32, 2097152#32] (broadcast S64x1x1 0#32) := rfl

/-- This stage of the unrolled body, in terms of the search step. -/
theorem stage6 : Gen.k0_pay6 (F := F) key t 1048576#32 = steps (F := F) key [1048576#32, 524288#32, 262144#32] t := rfl

/-- This stage of the unrolled body, in terms of the search step. -/
theorem stage7 : Gen.k0_pay7 (F := F) key t 1048576#32 = cand (Gen.k0_pay6 (F := F) key t 1048576#32) 131072#32 := rfl

/-- This stage of the unrolled body, in terms of the search step. -/
theorem stage8 : Gen.k0_pay8 (F := F) key t 1048576#32 = cnt key (cand (Gen.k0_pay6 (F := F) key t 1048576#32) 131072#32) := rfl

/-- This stage of the unrolled body, in terms of the search step. -/
theorem stage9 : Gen.k0_pay9 (F := F) key t (cand t 131072#32) (cnt key (cand t 131072#32)) (Scalar.ofBits .f32 0x44198000#32)
    = steps (F := F) key [131072#32, 65536#32, 32768#32, 16384#32] t := rfl

/-- This stage of the unrolled body, in terms of the search step. -/
theorem stage10 (a b c) : Gen.k0_pay10 (F := F) key t a b c = cand (Gen.k0_pay9 (F := F) key t a b c) 8192#32 := rfl

/-- This stage of the unrolled body, in terms of the search step. -/
theorem stage11 (a b c) : Gen.k0_pay11 (F := F) key t a b c = part (F := F) key (cand (Gen.k0_pay9 (F := F) key t a b c) 8192#32) := rfl

/-- This stage of the unrolled body, in terms of the search step. -/
theorem stage12 : Gen.k0_pay12 (F := F) key t (cand t 8192#32) (part key (cand t 8192#32))
    = steps (F := F) key [8192#32, 4096#32, 2048#32, 1024#32] t := rfl

/-- This stage of the unrolled body, in terms of the search step. -/
theorem stage13 (a b) : Gen.k0_pay13 (F := F) key t a b = cand (Gen.k0_pay12 (F := F) key t a b) 512#32 := rfl

/-- This stage of the unrolled body, in terms of the search step. -/
theorem stage14 (a b) : Gen.k0_pay14 (F := F) key t a b
    = cmpi .sge key (broadcastTo S64x32x128 (cand (Gen.k0_pay12 (F := F) key t a b) 512#32) broadcasts_S64x1x1_S64x32x128) := rfl

/-- This stage of the unrolled body, in terms of the search step. -/
theorem stage15 : Gen.k0_pay15 (F := F) key t (cand t 512#32) (cmpi .sge key (broadcastTo S64x32x128 (cand t 512#32) broadcasts_S64x1x1_S64x32x128))
    = steps (F := F) key [512#32, 256#32, 128#32, 64#32] t := rfl

/-- This stage of the unrolled body, in terms of the search step. -/
theorem stage16 : Gen.k0_pay16 (F := F) key t 32#32 = steps (F := F) key [32#32, 16#32, 8#32] t := rfl

/-- This stage of the unrolled body, in terms of the search step. -/
theorem stage17 : Gen.k0_pay17 (F := F) key t 32#32 = cand (Gen.k0_pay16 (F := F) key t 32#32) 4#32 := rfl

/-- This stage of the unrolled body, in terms of the search step. -/
theorem stage18 : Gen.k0_pay18 (F := F) key t 32#32 = cnt key (cand (Gen.k0_pay16 (F := F) key t 32#32) 4#32) := rfl

/-- This stage of the unrolled body, in terms of the search step. -/
theorem stage19 : Gen.k0_pay19 (F := F) key t (cand t 4#32) (cnt key (cand t 4#32)) (Scalar.ofBits .f32 0x44198000#32)
    = steps (F := F) key [4#32, 2#32, 1#32] t := rfl

end Stages

end Cert.Body

end
-- ==== Proof.BodyVal.lean ====
/-
  What the kernel's body leaves at one row of a block, over the extended reals: a position is marked exactly when fewer than
  614 positions come before it in the order of the keys.
-/
module

public import proofs.«01_k».proof.Proof.Body
public import proofs.«01_k».proof.Proof.Num
public import Idealize.ShloMosaic.Lib.VecWindow

@[expose] public section

set_option maxRecDepth 65536
set_option maxHeartbeats 4000000

noncomputable section

namespace Cert.BodyVal

open Idealize.ShloMosaic Idealize.ShloMosaic.TcCoe Cert.KernelIdeal Cert.KernelIdeal.Gen Cert.Num Finset

/-- One marked position, as the body tests it. -/
theorem mark_eq (e h x : ℕ) (he : e ≤ 4096) (hh : h < 32) (hx : x < 128) (s : ℤ) :
    Scalar.select (IntOp.cmpi .eq (IntOp.shrsi ArithUnit.vector (BitVec.ofNat 32 e) 7#32) (BitVec.ofNat 32 h))
      (ez s * FloatOps.sitofp (F := Ideal) .f32 (BitVec.setWidth 32 (IntOp.cmpi .eq (IntOp.andi (BitVec.ofNat 32 e) 127#32) (BitVec.ofNat 32 x)))) 0
    = ez (if e = 128 * h + x then s else 0) := by
  rw [chunk_small e (by omega), lane_small, eq_small _ _ (by omega) (by omega), eq_small _ _ (by omega) (by omega), float_bit, select_bit, ez_mul]
  by_cases h1 : e / 128 = h
  · rw [if_pos h1]
    congr 1
    by_cases h2 : e % 128 = x
    · rw [if_pos h2, if_pos (by omega), mul_one]
    · rw [if_neg h2, if_neg (by omega), mul_zero]
  · rw [if_neg h1, if_neg (by omega), ez_zero]

variable (x0 : Vec Ideal S1x64x376 .i32) (x1 : Vec Ideal S1x376 .f32) (x3 x4 : Vec Ideal S128x128 .f32) (x5 : Vec Ideal S32x32 .f32)
  (e : Fin 64 → Fin 376 → ℕ) (s : Fin 376 → ℤ)

/-- The signs up to a position, summed by the body in chunks, are compared with one half: the comparison says whether the whole sum is positive. -/
theorem paint_eq (he : ∀ r j, e r j ≤ 4096) (h0 : ∀ r j, x0 (ix3 0 r j) = BitVec.ofNat 32 (e r j)) (h1 : ∀ j, x1 (ix2 0 j) = ez (s j))
    (h3 : ∀ a b, x3 (ix2 a b) = ez (if a ≤ b then 1 else 0)) (h5 : ∀ a b, x5 (ix2 a b) = ez (if a < b then 1 else 0))
    (r : Fin 64) (h : Fin 32) (l : Fin 128) :
    k0_pay3 x0 x1 x3 x5 (ix3 r h l) = BitVec.ofBool (decide (0 < ∑ j, if e r j ≤ 128 * h.val + l.val then s j else 0)) := by
  pointwise [k0_pay3, k0_pay2]
  simp only [h0, h1, h3, h5]
  have key : ∀ (a : Fin 32) (b : Fin 128) (j : Fin 376),
      Scalar.select (IntOp.cmpi .eq (IntOp.shrsi ArithUnit.vector (BitVec.ofNat 32 (e r j)) 7#32) (BitVec.ofNat 32 a.val))
        (ez (s j) * FloatOps.sitofp (F := Ideal) .f32 (BitVec.setWidth 32 (IntOp.cmpi .eq (IntOp.andi (BitVec.ofNat 32 (e r j)) 127#32) (BitVec.ofNat 32 b.val)))) 0
      = ez (if e r j = 128 * a.val + b.val then s j else 0) := fun a b j => mark_eq _ _ _ (he r j) a.isLt b.isLt _
  simp only [key, ez_sum, ez_mul, ez_add, half_lt]
  have hp := sum_prefix (fun c => ∑ j, if e r j = c then s j else 0) h (l.val + 1) (by omega)
  have hm := sum_marks (e r) s (128 * h.val + (l.val + 1)) (by omega)
  rw [hm] at hp
  simp only [Nat.lt_succ_iff, ← Nat.add_assoc, Fin.val_fin_le] at hp
  rw [hp]

/-- The words `key` at row `r` are the numbers `kn`, position by position. -/
def RowIs (key : IVec S64x32x128 32) (r : Fin 64) (kn : Fin 4096 → ℕ) : Prop :=
  ∀ (h : Fin 32) (l : Fin 128), key (ix3 r h l) = BitVec.ofNat 32 (kn ⟨128 * h.val + l.val, by omega⟩)

section Search

variable (key : IVec S64x32x128 32) (t : IVec S64x1x1 32) (kn : Fin 4096 → ℕ) (r : Fin 64)

/-- Numbers over a row, read chunk by chunk. -/
theorem sum_row (f : Fin 4096 → ℤ) : ∑ x : Fin 32, ∑ y : Fin 128, f ⟨128 * x.val + y.val, by omega⟩ = ∑ c, f c := by
  have := sum_chunks (fun c => if h : c < 4096 then f ⟨c, h⟩ else 0)
  simp only [Fin.is_lt, dite_true, Fin.eta] at this
  rw [← this]
  refine Finset.sum_congr rfl fun x _ => Finset.sum_congr rfl fun y _ => ?_
  rw [dif_pos (by omega)]

/-- The count of the keys at least a candidate. -/
theorem cnt_eq (tn : ℕ) (hk : RowIs key r kn) (hkn : ∀ c, kn c < 2 ^ 24) (htn : tn < 2 ^ 31) (ht : t (ix3 r 0 0) = BitVec.ofNat 32 tn) :
    Body.cnt (F := Ideal) key t (ix3 r 0 0) = ez (Rank.atLeast kn tn : ℕ) := by
  pointwise [Body.cnt]
  have h1 : ∀ (h : Fin 32) (l : Fin 128), FloatOps.sitofp (F := Ideal) .f32 (BitVec.setWidth 32 (IntOp.cmpi .sge (key (ix3 r h l)) (t (ix3 r 0 0))))
      = ez (if tn ≤ kn ⟨128 * h.val + l.val, by omega⟩ then 1 else 0) := fun h l => by
    rw [hk h l, ht, sge_small _ _ (lt_trans (hkn _) (by norm_num)) htn, float_bit]
  simp only [h1, ez_sum]
  rw [Finset.sum_comm, sum_row (fun c => if tn ≤ kn c then 1 else 0), sum_card]
  rfl

/-- A step of the search adds at most its bit. -/
theorem keepBit_le (K : ℕ) (tn b : ℕ) : Rank.keepBit K kn tn b ≤ tn + b := by
  unfold Rank.keepBit; split <;> omega

/-- A step of the body on words is a step of the search on numbers. -/
theorem step_eq (tn b : ℕ) (hk : RowIs key r kn) (hkn : ∀ c, kn c < 2 ^ 24) (htn : tn + b < 2 ^ 31) (ht : t (ix3 r 0 0) = BitVec.ofNat 32 tn) :
    Body.step (F := Ideal) key t (BitVec.ofNat 32 b) (ix3 r 0 0) = BitVec.ofNat 32 (Rank.keepBit 614 kn tn b) := by
  have hadd : addi t (broadcast S64x1x1 (BitVec.ofNat 32 b)) (ix3 r 0 0) = BitVec.ofNat 32 (tn + b) := by
    pointwise []
    rw [ht, add_small]
  have hc := cnt_eq key _ kn r (tn + b) hk hkn htn hadd
  unfold Body.step
  generalize Body.cnt (F := Ideal) key (addi t (broadcast S64x1x1 (BitVec.ofNat 32 b))) = C at hc ⊢
  generalize addi t (broadcast S64x1x1 (BitVec.ofNat 32 b)) = A at hadd ⊢
  pointwise []
  rw [hc, hadd, ht, target_eq]
  unfold Rank.keepBit
  by_cases h : 614 ≤ Rank.atLeast kn (tn + b)
  · rw [if_pos h, if_pos ((ez_le _ _).mpr (by exact_mod_cast h))]
  · rw [if_neg h, if_neg (fun h' => h (by exact_mod_cast (ez_le _ _).mp h'))]

/-- Several steps of the body are as many steps of the search. -/
theorem steps_eq (hk : RowIs key r kn) (hkn : ∀ c, kn c < 2 ^ 24) : ∀ (bits : List ℕ) (t : IVec S64x1x1 32) (tn : ℕ), tn + bits.sum < 2 ^ 31 →
    t (ix3 r 0 0) = BitVec.ofNat 32 tn →
    Body.steps (F := Ideal) key (bits.map (BitVec.ofNat 32)) t (ix3 r 0 0) = BitVec.ofNat 32 (bits.foldl (Rank.keepBit 614 kn) tn)
  | [], _, _, _, ht => ht
  | b :: bits, t, tn, hb, ht => by
      rw [List.sum_cons] at hb
      exact steps_eq hk hkn bits _ _ (lt_of_le_of_lt (Nat.add_le_add_right (keepBit_le kn 614 tn b) _) (by omega))
        (step_eq key t kn r tn b hk hkn (by omega) ht)

end Search

/-- The key that the body forms: the random bits, plus 2^23 where the position is painted. -/
theorem key_at (p : IVec S64x32x128 1) (x2 : Vec Ideal S2048x128 .i32) (P : Fin 4096 → Prop) [∀ c, Decidable (P c)]
    (B : Fin 4096 → ℕ) (r : Fin 64)
    (hp : ∀ (h : Fin 32) (l : Fin 128), p (ix3 r h l) = BitVec.ofBool (decide (P ⟨128 * h.val + l.val, by omega⟩)))
    (h2 : ∀ (h : Fin 32) (l : Fin 128), x2 (ix2 ⟨r.val * 32 + h.val, by omega⟩ l) = BitVec.ofNat 32 (B ⟨128 * h.val + l.val, by omega⟩)) :
    RowIs (k0_pay4 p x2) r (fun c => B c + if P c then 8388608 else 0) := by
  intro h l
  pointwise [k0_pay4]
  rw [h2, hp, select_bit]
  by_cases hP : P ⟨128 * h.val + l.val, by omega⟩
  · simp only [if_pos hP]; exact add_small _ _
  · simp only [if_neg hP]; exact add_small _ _

section Whole

variable (x0 : Vec Ideal S1x64x376 .i32) (x1 : Vec Ideal S1x376 .f32) (x2 : Vec Ideal S2048x128 .i32) (x3 x4 : Vec Ideal S128x128 .f32) (x5 : Vec Ideal S32x32 .f32)

open Cert.FrameI

/-- The threshold the body ends with. -/
abbrev thr : IVec S64x1x1 32 :=
  k0_pay19 (F := Ideal) (k0_pay26 x0 x1 x2 x3 x4 x5) (k0_pay35 x0 x1 x2 x3 x4 x5) (k0_pay36 x0 x1 x2 x3 x4 x5) (k0_pay37 x0 x1 x2 x3 x4 x5)
    (Scalar.ofBits .f32 0x44198000#32)

set_option maxHeartbeats 4000000 in
theorem thr_eq : thr x0 x1 x2 x3 x4 x5
    = Body.steps (F := Ideal) (k0_pay26 x0 x1 x2 x3 x4 x5) ((Rank.powers 24).map (BitVec.ofNat 32)) (broadcast S64x1x1 0#32) := by
  have hb : (Rank.powers 24).map (BitVec.ofNat 32) = [8388608#32, 4194304#32, 2097152#32] ++ ([1048576#32, 524288#32, 262144#32]
      ++ ([131072#32, 65536#32, 32768#32, 16384#32] ++ ([8192#32, 4096#32, 2048#32, 1024#32] ++ ([512#32, 256#32, 128#32, 64#32]
      ++ ([32#32, 16#32, 8#32] ++ [4#32, 2#32, 1#32]))))) := by decide
  have h27 : k0_pay27 x0 x1 x2 x3 x4 x5 = Body.steps (F := Ideal) (k0_pay26 x0 x1 x2 x3 x4 x5) [8388608#32, 4194304#32, 2097152#32]
      (broadcast S64x1x1 0#32) := Body.stage5 (F := Ideal) _ _
  have h28 : k0_pay28 x0 x1 x2 x3 x4 x5 = _ := Body.stage6 (F := Ideal) _ _
  have h31 : k0_pay31 x0 x1 x2 x3 x4 x5 = _ := Body.stage9 (F := Ideal) (k0_pay26 x0 x1 x2 x3 x4 x5) (k0_pay28 x0 x1 x2 x3 x4 x5)
  have h12 : k0_pay12 (k0_pay26 x0 x1 x2 x3 x4 x5) (k0_pay31 x0 x1 x2 x3 x4 x5) (k0_pay32 x0 x1 x2 x3 x4 x5) (k0_pay33 x0 x1 x2 x3 x4 x5) = _ :=
    Body.stage12 (F := Ideal) (k0_pay26 x0 x1 x2 x3 x4 x5) (k0_pay31 x0 x1 x2 x3 x4 x5)
  have h34 : k0_pay34 x0 x1 x2 x3 x4 x5 = _ := Body.stage15 (F := Ideal) (k0_pay26 x0 x1 x2 x3 x4 x5) (k0_pay12 (k0_pay26 x0 x1 x2 x3 x4 x5) (k0_pay31 x0 x1 x2 x3 x4 x5) (k0_pay32 x0 x1 x2 x3 x4 x5) (k0_pay33 x0 x1 x2 x3 x4 x5))
  have h35 : k0_pay35 x0 x1 x2 x3 x4 x5 = _ := Body.stage16 (F := Ideal) _ _
  have h19 : thr x0 x1 x2 x3 x4 x5 = _ := Body.stage19 (F := Ideal) (k0_pay26 x0 x1 x2 x3 x4 x5) (k0_pay35 x0 x1 x2 x3 x4 x5)
  rw [h19, h35, h34, h12, h31, h28, h27, hb]
  simp only [Body.steps, List.foldl_append]

/-- The threshold that the body finds is the one the search finds. -/
theorem thr_at (r : Fin 64) (kn : Fin 4096 → ℕ) (hk : RowIs (k0_pay26 x0 x1 x2 x3 x4 x5) r kn) (hkn : ∀ c, kn c < 2 ^ 24) :
    thr x0 x1 x2 x3 x4 x5 (ix3 r 0 0) = BitVec.ofNat 32 (Rank.threshold 614 kn) := by
  rw [thr_eq]
  exact steps_eq _ kn r hk hkn _ _ 0 (by decide) rfl

/-- What the body leaves, as its stages compute it. -/
theorem out_eq : out0_6 x0 x1 x2 x3 x4 x5 = k0_pay1 (k0_pay20 (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32)) (k0_pay21 (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32)) (k0_pay22 (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32)) (k0_pay23 (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32) (View.ld x4 r0_2)) (k0_pay24 (k0_pay2 (View.ld x5 r0_3)) (k0_pay26 x0 x1 x2 x3 x4 x5) (k0_pay35 x0 x1 x2 x3 x4 x5) (k0_pay36 x0 x1 x2 x3 x4 x5) (k0_pay37 x0 x1 x2 x3 x4 x5) (Scalar.ofBits .f32 0x44198000#32)) := by
  unfold out0_6
  funext y
  have hy : r0_4.emb y = y := Rect.emb_unit_full _ _
  conv_lhs => rw [← hy]
  exact View.canon_cons_emb r0_4 _ [] y

/-- Loading all of the block of entries. -/
theorem ld0 : View.ld x0 r0_0 = x0 := funext fun y => congrArg x0 (Rect.emb_unit_full _ y)
/-- Loading all of the signs. -/
theorem ld1 : View.ld x1 r0_1 = x1 := funext fun y => congrArg x1 (Rect.emb_unit_full _ y)
/-- Loading all of a matrix of comparisons of lanes. -/
theorem ld2 : View.ld x3 r0_2 = x3 := funext fun y => congrArg x3 (Rect.emb_unit_full _ y)
/-- Loading all of the matrix of comparisons of chunks. -/
theorem ld3 : View.ld x5 r0_3 = x5 := funext fun y => congrArg x5 (Rect.emb_unit_full _ y)
/-- Loading all of the block of random bits. -/
theorem ld4 : View.ld x2 r0_4 = x2 := funext fun y => congrArg x2 (Rect.emb_unit_full _ y)

/-- The conjunction of two tests, as bits. -/
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The disjunction of two tests, as bits. -/
theorem or_bits (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- The ties before a position, as the body counts them. -/
theorem ties_eq (kn : Fin 4096 → ℕ) (T : ℕ) (h : Fin 32) (l : Fin 128) :
    ((∑ x : Fin 128, (if kn ⟨128 * h.val + x.val, by omega⟩ = T then 1 else 0) * if x < l then 1 else 0)
      + ∑ x : Fin 32, (∑ y : Fin 128, if kn ⟨128 * x.val + y.val, by omega⟩ = T then 1 else 0) * if x < h then 1 else 0)
    = (#{d | kn d = T ∧ d < ⟨128 * h.val + l.val, by omega⟩} : ℤ) := by
  have hp := sum_prefix (fun c => if hc : c < 4096 then (if kn ⟨c, hc⟩ = T then 1 else 0) else 0) h l.val (by omega)
  have h1 : ∀ (x : Fin 32) (y : Fin 128), 128 * x.val + y.val < 4096 := fun x y => by omega
  simp only [h1, Fin.is_lt, dite_true, Fin.eta, Fin.val_fin_lt] at hp
  rw [hp, ← sum_card]
  refine Finset.sum_congr rfl fun c _ => ?_
  have h2 : c < ⟨128 * h.val + l.val, h1 h l⟩ ↔ c.val < 128 * h.val + l.val := Iff.rfl
  by_cases hc : c.val < 128 * h.val + l.val <;> simp [hc, h2]

/-- The selection, once the threshold is known. -/
theorem sel_eq (key : IVec S64x32x128 32) (a b : IVec S64x1x1 32) (c : FVec Ideal S64x1x1 .f32) (d : Ideal .f32) (r : Fin 64) (kn : Fin 4096 → ℕ) (T : ℕ)
    (hk : RowIs key r kn) (hkn : ∀ c, kn c < 2 ^ 24) (hT : T < 2 ^ 25) (ht : k0_pay19 (F := Ideal) key a b c d (ix3 r 0 0) = BitVec.ofNat 32 T)
    (h4 : ∀ a b, x4 (ix2 a b) = ez (if a < b then 1 else 0)) (h5 : ∀ a b, x5 (ix2 a b) = ez (if a < b then 1 else 0))
    (h : Fin 32) (l : Fin 128) :
    k0_pay1 (k0_pay20 key a b c d) (k0_pay21 key a b c d) (k0_pay22 key a b c d) (k0_pay23 key a b c d x4) (k0_pay24 (k0_pay2 x5) key a b c d)
      (ix2 ⟨r.val * 32 + h.val, by omega⟩ l)
    = ez (if T < kn ⟨128 * h.val + l.val, by omega⟩ ∨ (kn ⟨128 * h.val + l.val, by omega⟩ = T ∧
        #{d | kn d = T ∧ d < ⟨128 * h.val + l.val, by omega⟩} + Rank.atLeast kn (T + 1) < 614) then 1 else 0) := by
  have e20 : ∀ (h : Fin 32) (l : Fin 128), k0_pay20 (F := Ideal) key a b c d (ix3 r h l) = BitVec.ofBool (decide (T < kn ⟨128 * h.val + l.val, by omega⟩)) := by
    intro h l
    pointwise [k0_pay20]
    rw [hk, ht, sgt_small _ _ (lt_trans (hkn _) (by norm_num)) (by omega)]
  have e21 : k0_pay21 (F := Ideal) key a b c d (ix3 r 0 0) = ez (614 - Rank.atLeast kn (T + 1) : ℤ) := by
    pointwise [k0_pay21]
    simp only [e20, float_bit, ez_sum]
    rw [sum_row (fun c => if T < kn c then 1 else 0), sum_card, target_eq, ez_sub]
    rfl
  have e22 : ∀ (h : Fin 32) (l : Fin 128), k0_pay22 (F := Ideal) key a b c d (ix3 r h l) = ez (if kn ⟨128 * h.val + l.val, by omega⟩ = T then 1 else 0) := by
    intro h l
    pointwise [k0_pay22]
    rw [hk, ht, eq_small _ _ (lt_trans (hkn _) (by norm_num)) (by omega), float_bit]
  have e23 : ∀ (h : Fin 32) (l : Fin 128), k0_pay23 (F := Ideal) key a b c d x4 (ix3 r h l)
      = ez (∑ x : Fin 128, (if kn ⟨128 * h.val + x.val, by omega⟩ = T then 1 else 0) * if x < l then 1 else 0) := by
    intro h l
    pointwise [k0_pay23]
    simp only [e22, h4, ez_mul, ez_sum]
  have e24 : ∀ (h : Fin 32), k0_pay24 (F := Ideal) (k0_pay2 x5) key a b c d (ix3 r h 0)
      = ez (∑ x : Fin 32, (∑ y : Fin 128, if kn ⟨128 * x.val + y.val, by omega⟩ = T then 1 else 0) * if x < h then 1 else 0) := by
    intro h
    pointwise [k0_pay24, k0_pay2]
    simp only [e22, h5, ez_mul, ez_sum]
  generalize k0_pay20 (F := Ideal) key a b c d = p20 at *
  generalize k0_pay21 (F := Ideal) key a b c d = p21 at *
  generalize k0_pay22 (F := Ideal) key a b c d = p22 at *
  generalize k0_pay23 (F := Ideal) key a b c d x4 = p23 at *
  generalize k0_pay24 (F := Ideal) (k0_pay2 x5) key a b c d = p24 at *
  pointwise [k0_pay1]
  rw [e20, e21, e22, e23, e24, ez_add, ties_eq kn T h l]
  simp only [half_lt, ez_lt, or_bits, and_bits, float_bit]
  congr 1
  refine if_congr (or_congr Iff.rfl (and_congr ?_ ?_)) rfl rfl
  · split <;> simp_all
  · omega

variable (e : Fin 64 → Fin 376 → ℕ) (s : Fin 376 → ℤ)

/-- A position is marked exactly when fewer than 614 come before it. -/
theorem out_at (he : ∀ r j, e r j ≤ 4096) (h0 : ∀ r j, x0 (ix3 0 r j) = BitVec.ofNat 32 (e r j)) (h1 : ∀ j, x1 (ix2 0 j) = ez (s j))
    (h3 : ∀ a b, x3 (ix2 a b) = ez (if a ≤ b then 1 else 0)) (h4 : ∀ a b, x4 (ix2 a b) = ez (if a < b then 1 else 0))
    (h5 : ∀ a b, x5 (ix2 a b) = ez (if a < b then 1 else 0)) (B : Fin 4096 → ℕ) (r : Fin 64) (hB : ∀ c, B c < 2 ^ 23)
    (h2 : ∀ (h : Fin 32) (l : Fin 128), x2 (ix2 ⟨r.val * 32 + h.val, by omega⟩ l) = BitVec.ofNat 32 (B ⟨128 * h.val + l.val, by omega⟩))
    (h : Fin 32) (l : Fin 128) :
    out0_6 x0 x1 x2 x3 x4 x5 (ix2 ⟨r.val * 32 + h.val, by omega⟩ l)
      = ez (if Rank.rank (fun c : Fin 4096 => B c + if 0 < ∑ j, (if e r j ≤ c.val then s j else 0) then 8388608 else 0)
          ⟨128 * h.val + l.val, by omega⟩ < 614 then 1 else 0) := by
  set kn : Fin 4096 → ℕ := fun c => B c + if 0 < ∑ j, (if e r j ≤ c.val then s j else 0) then 8388608 else 0 with hkn
  have hk : RowIs (k0_pay26 x0 x1 x2 x3 x4 x5) r kn := by
    unfold k0_pay26 k0_pay25
    rw [ld0, ld1, ld2, ld3, ld4]
    exact key_at _ x2 (fun c => 0 < ∑ j, (if e r j ≤ c.val then s j else 0)) B r (fun h l => paint_eq x0 x1 x3 x5 e s he h0 h1 h3 h5 r h l) h2
  have hlt : ∀ c, kn c < 2 ^ 24 := by
    intro c
    have := hB c
    simp only [hkn]
    split <;> omega
  have hspec := Rank.threshold_spec 614 kn (by norm_num) (by norm_num) hlt
  have hT : Rank.threshold 614 kn < 2 ^ 25 := by
    by_contra hc
    have : Rank.atLeast kn (Rank.threshold 614 kn) = 0 := by
      unfold Rank.atLeast
      rw [Finset.card_eq_zero, Finset.filter_eq_empty_iff]
      intro c _
      have := hlt c
      omega
    omega
  rw [out_eq, ld2, ld3, sel_eq x4 x5 _ _ _ _ _ r kn _ hk hlt hT (thr_at x0 x1 x2 x3 x4 x5 r kn hk hlt) h4 h5 h l]
  exact congrArg ez (if_congr (Rank.rank_lt_iff 614 kn _ hspec.1 hspec.2 _).symm rfl rfl)

end Whole

end Cert.BodyVal

end
-- ==== Proof.RefEqs.lean ====
/-
  The reference's result as a function of its spans, its random bits and its arguments, read off its operations one by one.
-/
module

public import proofs.«01_k».proof.Proof.RefRun

@[expose] public section

set_option maxRecDepth 65536
set_option maxHeartbeats 8000000

noncomputable section

namespace Cert.RefEqs

open Idealize.ShloMosaic Idealize.ShloMosaic.StableHlo Idealize.ShloMosaic.TcCoe Cert.Line Cert.ReferenceIdeal Cert.ReferenceIdeal.Gen

variable {V : Valuation τ sig (Elt Ideal)}

/-! ## The functions -/

/-- One word over the spans. -/
def word188 (k : BitVec 32) : IVec S512x188 32 := broadcastInDim S512x188 ![] bcast_S_S512x188 (constantI S_ 32 k)

/-- The row of each span. -/
def rowIx : IVec S512x188 32 :=
  broadcastInDim S512x188 ![0, 1] bcast_S512x1_S512x188_0_1 (broadcastInDim S512x1 ![0] bcast_S512_S512x1_0 (iotaInDim S512 32 0))

/-- An index from the right when negative. -/
def wrap (n : BitVec 32) (x : IVec S512x188 32) : IVec S512x188 32 := select (cmpi .slt x (word188 0#32)) (addi x (word188 n)) x

/-- Two columns side by side. -/
def join188 (a b : IVec S512x188x1 32) : IVec S512x188x2 32 :=
  concatenate S512x188x2 2 [⟨S512x188x1, a⟩, ⟨S512x188x1, b⟩] concatenates_S512x188x1_S512x188x1_S512x188x2_d2

/-- The pairs of a row and a position. -/
def pairs (x : IVec S512x188 32) : IVec S512x188x2 32 :=
  join188 (broadcastInDim S512x188x1 ![0, 1] bcast_S512x188_S512x188x1_0_1 (wrap 512#32 rowIx))
    (broadcastInDim S512x188x1 ![0, 1] bcast_S512x188_S512x188x1_0_1 (wrap 4097#32 x))

/-- Where the spans end. -/
def ends (st ln : IVec S512x188 32) : IVec S512x188 32 := minsi (addi st ln) (word188 4096#32)

/-- The first marks. -/
def marks1 (st : IVec S512x188 32) : IVec S512x4097 32 :=
  Host.scatter scatter_S512x4097_S512x188x2_S512x188_n_01_01_2 IntOp.addi
    (broadcastInDim S512x4097 ![] bcast_S_S512x4097 (constantI S_ 32 0#32)) (pairs st) (word188 1#32)

/-- Both marks. -/
def marks (st ln : IVec S512x188 32) : IVec S512x4097 32 :=
  Host.scatter scatter_S512x4097_S512x188x2_S512x188_n_01_01_2 IntOp.addi (marks1 st) (pairs (ends st ln)) (word188 4294967295#32)

/-- Their running sums. -/
def sums (st ln : IVec S512x188 32) : IVec S512x4097 32 :=
  Host.reduceWindow IntOp.addi ![1, 4097] ![1, 1] ![0, 4096] ![0, 0] (marks st ln) (broadcastInDim S_ ![] bcast_S_S_ (constantI S_ 32 0#32))
    reduceWindows_S512x4097_S512x4097_w1s1p0_0_w4097s1p4096_0 h_S_

/-- One where painted. -/
def paint (st ln : IVec S512x188 32) : FVec Ideal S512x4096 .f32 :=
  uitofp .f32 (cmpi .sgt (extractStridedSlice S512x4096 ![0, 0] (sums st ln) slices_S512x4097_S512x4096_0_0)
    (broadcastInDim S512x4096 ![] bcast_S_S512x4096 (constantI S_ 32 0#32)))

/-- The bounds of the random numbers. -/
def bound (b : BitVec 32) : FVec Ideal S1x1 .f32 := broadcastInDim S1x1 ![] bcast_S_S1x1 (constant S_ .f32 b)

/-- The random numbers of the bits. -/
def unif (m : IVec S512x4096 32) : FVec Ideal S512x4096 .f32 :=
  maximumf (broadcastInDim S512x4096 ![0, 1] bcast_S1x1_S512x4096_0_1 (bound 0x00000000#32))
    (addf (mulf (subf (bitcastToFloat .f32 (ori m (broadcastInDim S512x4096 ![] bcast_S_S512x4096 (constantI S_ 32 0x3F800000#32))))
        (broadcastInDim S512x4096 ![] bcast_S_S512x4096 (constant S_ .f32 0x3F800000#32)))
      (broadcastInDim S512x4096 ![0, 1] bcast_S1x1_S512x4096_0_1 (subf (bound 0x3F800000#32) (bound 0x00000000#32))))
    (broadcastInDim S512x4096 ![0, 1] bcast_S1x1_S512x4096_0_1 (bound 0x00000000#32)))

/-- One word over the places. -/
def word614 (k : BitVec 32) : IVec S512x614 32 := broadcastInDim S512x614 ![] bcast_S_S512x614 (constantI S_ 32 k)

/-- The rows as a column. -/
def colIx : IVec S512x1 32 := broadcastInDim S512x1 ![0] bcast_S512_S512x1_0 (iotaInDim S512 32 0)

/-- The row of each place. -/
def rowAt : IVec S512x614 32 :=
  broadcastInDim S512x614 ![0, 1] bcast_S512x1_S512x614_0_1
    (select (cmpi .slt colIx (broadcastInDim S512x1 ![] bcast_S_S512x1 (constantI S_ 32 0#32)))
      (addi colIx (broadcastInDim S512x1 ![] bcast_S_S512x1 (constantI S_ 32 512#32))) colIx)

/-- The position of each place, from the right when negative. -/
def posAt (ix : IVec S512x614 32) : IVec S512x614 32 := select (cmpi .slt ix (word614 0#32)) (addi ix (word614 4096#32)) ix

/-- The positions of the greatest, in order. -/
def first (v : FVec Ideal S512x4096 .f32) : IVec S512x614 32 :=
  (Host.topK S512x614 1 (FloatOps.cmpfTotal .gt) v sliceFits_S512x4096_S512x614).2

/-- Two columns side by side. -/
def join614 (a b : IVec S512x614x1 32) : IVec S512x614x2 32 :=
  concatenate S512x614x2 2 [⟨S512x614x1, a⟩, ⟨S512x614x1, b⟩] concatenates_S512x614x1_S512x614x1_S512x614x2_d2

/-- The chosen positions. -/
def chosen (ix : IVec S512x614 32) : IVec S512x4096 1 :=
  Host.scatter scatter_S512x4096_S512x614x2_S512x614_n_01_01_2 (fun _ b => b) (broadcastInDim S512x4096 ![] bcast_S_S512x4096 (constantI S_ 1 0#1))
    (join614 (broadcastInDim S512x614x1 ![0, 1] bcast_S512x614_S512x614x1_0_1 rowAt)
      (broadcastInDim S512x614x1 ![0, 1] bcast_S512x614_S512x614x1_0_1 (posAt ix)))
    (broadcastInDim S512x614 ![] bcast_S_S512x614 (constantI S_ 1 1#1))

/-- A position's first feature. -/
def lead (x : FVec Ideal S512x4096x6 .f32) : FVec Ideal S512x4096 .f32 :=
  shapeCast S512x4096 (extractStridedSlice S512x4096x1 ![0, 0, 0] x slices_S512x4096x6_S512x4096x1_0_0_0) shapeCasts_S512x4096x1_S512x4096

/-- The token at the chosen positions whose first feature is a number, the features elsewhere. -/
def out (sel : IVec S512x4096 1) (x : FVec Ideal S512x4096x6 .f32) (t : FVec Ideal S6 .f32) : FVec Ideal S512x4096x6 .f32 :=
  select (broadcastInDim S512x4096x6 ![0, 1, 2] bcast_S512x4096x1_S512x4096x6_0_1_2
      (broadcastInDim S512x4096x1 ![0, 1] bcast_S512x4096_S512x4096x1_0_1 (andi sel (noti (cmpf .une (lead x) (lead x))))))
    (broadcastInDim S512x4096x6 ![0, 1, 2] bcast_S1x1x6_S512x4096x6_0_1_2 (broadcastInDim S1x1x6 ![2] bcast_S6_S1x1x6_2 t)) x

/-! ## The equations -/

/-- The contents of the reference's line, stage by stage. -/
theorem eqs (h : Sol V RefRun.line) :
    val (.of main_v59 : TRef sig ⟨S512x4096, .f32⟩) V
      = addf (paint (val (.of main_v15 : TRef sig ⟨S512x188, .i32⟩) V) (val (.of main_v14 : TRef sig ⟨S512x188, .i32⟩) V))
          (unif (val main_call4.v22 V))
    ∧ val (.of main_indices : TRef sig ⟨S512x614, .i32⟩) V
      = first (val (.of main_v59 : TRef sig ⟨S512x4096, .f32⟩) V)
    ∧ val (.of main_v78 : TRef sig ⟨S512x4096, .i1⟩) V = chosen (val (.of main_indices : TRef sig ⟨S512x614, .i32⟩) V)
    ∧ val (.of main_v87 : TRef sig ⟨S512x4096x6, .f32⟩) V
      = out (val (.of main_v78 : TRef sig ⟨S512x4096, .i1⟩) V) (val (.of main_arg0 : TRef sig ⟨S512x4096x6, .f32⟩) V) (val (.of main_arg1 : TRef sig ⟨S6, .f32⟩) V)
    ∧ (∃ x, val main_call4.v22 V = Host.shrui x (broadcastInDim S512x4096 ![] bcast_S_S512x4096 (constantI S_ 32 9#32)))
    ∧ Sol V (RefLine.randint (.of main_v9) (.of main_c_2) (.of main_c_3) main_call1).1
    ∧ Sol V (RefLine.randint (.of main_v11) (.of main_c_4) (.of main_c_5) main_call2).1
    ∧ (∀ i, val (.of main_c_2 : TRef sig ⟨S_, .i32⟩) V i = 3#32) ∧ (∀ i, val (.of main_c_3 : TRef sig ⟨S_, .i32⟩) V i = 11#32)
    ∧ (∀ i, val (.of main_c_4 : TRef sig ⟨S_, .i32⟩) V i = 0#32) ∧ (∀ i, val (.of main_c_5 : TRef sig ⟨S_, .i32⟩) V i = 4093#32) := by
  unfold RefRun.line RefLine.main_line at h
  dsimp only at h
  simp only [Sol, sol_append, List.cons_append, List.nil_append, List.append_assoc, TOp.Holds, and_assoc] at h
  obtain ⟨hc, hc0, hv0, hv1, hv2, hc1, hv3, hv4, hv5, hv6, hSPLIT, hv8, hv9, hv10, hv11, hv12, hv13, hc2, hc3, hR1, hc4, hc5, hR2, hv16, hc6, hv17, hv18, hv19, hv20, hv21, hc7, hv22, hc8, hv23, hv24, hc9, hv25, hv26, hv27, hc10, hv28, hv29, hc11, hv30, hv31, hv32, hv33, hv34, hv35, hc12, hv36, hv37, hc13, hv38, hv39, hc14, hv40, hv41, hv42, hc15, hv43, hv44, hc16, hv45, hv46, hv47, hv48, hv49, hv50, hc17, hv51, hv52, hCS, hv54, hc18, hv55, hv56, hv57, hcst, hcst19, hUN, hv59, hvalues, hindices, hc20, hv60, hv61, hv62, hc21, hv63, hv64, hc22, hv65, hv66, hv67, hc23, hv68, hv69, hc24, hv70, hv71, hv72, hv73, hv74, hv75, hv76, hc25, hv77, hv78, hv79, hv80, hv81, hv82, hv83, hv84, hv85, hv86, hWH⟩ := h
  clear hSPLIT
  unfold RefLine.uniform at hUN
  unfold RefLine.cumsum at hCS
  unfold RefLine.select_rows at hWH
  dsimp only at hUN hCS hWH
  simp only [Sol, sol_append, List.cons_append, List.nil_append, List.append_assoc, TOp.Holds, and_assoc] at hUN hCS hWH
  obtain ⟨u0, u1, u2, u3, -, -, -, -, -, -, -, -, -, -, -, -, -, -, -, -, -, -, -, -, u20c, u21, u22, u23c, u23, u24, u25, u26c, u26, u27, u28, u29, u30, u31, u32, u33, u34, -⟩ := hUN
  obtain ⟨s0, s1, s2, -⟩ := hCS
  obtain ⟨w0, w1, -⟩ := hWH
  clear hc hc0 hv0 hv1 hv2 hc1 hv3 hv4 hv5 hv6 hv8 hv9 hv10 hv11 hv12 hv13
  have j35 : val (bare main_v35 main_part0._proof_70) V = join188 (val (bare main_v33 main_part0._proof_68) V) (val (bare main_v34 main_part0._proof_69) V) := hv35
  have j50 : val (bare main_v50 main_part1._proof_9) V = join188 (val (bare main_v48 main_part1._proof_7) V) (val (bare main_v49 main_part1._proof_8) V) := hv50
  have j76 : val (bare main_v76 _) V = join614 (val (bare main_v74 _) V) (val (bare main_v75 _) V) := hv76
  have e37 : val (.of main_v37 : TRef sig ⟨S512x4097, .i32⟩) V = marks1 (val (.of main_v15 : TRef sig ⟨S512x188, .i32⟩) V) := by
    refine hv37.trans ?_
    simp only [hv22, hc7, j35, hv33, hv27, hv24, hv21, hv20, hv19, hv23, hc8, hv26, hv25, hc9, hv34, hv32, hv29, hv28, hc10, hv31, hv30, hc11, hv36, hc12]
    rfl
  have e52 : val (.of main_v52 : TRef sig ⟨S512x4097, .i32⟩) V = marks (val (.of main_v15 : TRef sig ⟨S512x188, .i32⟩) V) (val (.of main_v14 : TRef sig ⟨S512x188, .i32⟩) V) := by
    refine hv52.trans ?_
    unfold marks
    rw [← e37]
    simp only [j50, hv48, hv42, hv39, hv21, hv20, hv19, hv38, hc13, hv41, hv40, hc14, hv49, hv47, hv44, hv18, hv16, hv17, hc6, hv43, hc15, hv46, hv45, hc16, hv51, hc17]
    rfl
  have e53 : val (.of main_v53 : TRef sig ⟨S512x4097, .i32⟩) V = sums (val (.of main_v15 : TRef sig ⟨S512x188, .i32⟩) V) (val (.of main_v14 : TRef sig ⟨S512x188, .i32⟩) V) := by
    refine s2.trans ?_
    unfold sums
    rw [← e52]
    simp only [s1, s0]
  have e57 : val (.of main_v57 : TRef sig ⟨S512x4096, .f32⟩) V = paint (val (.of main_v15 : TRef sig ⟨S512x188, .i32⟩) V) (val (.of main_v14 : TRef sig ⟨S512x188, .i32⟩) V) := by
    refine hv57.trans ?_
    unfold paint
    rw [← e53]
    simp only [hv56, hv54, hv55, hc18]
    try rfl
  have e0 : val (.of main_cst : TRef sig ⟨S_, .f32⟩) V = (constant S_ .f32 0x00000000#32 : FVec Ideal S_ .f32) := hcst
  have e1 : val (.of main_cst_19 : TRef sig ⟨S_, .f32⟩) V = (constant S_ .f32 0x3F800000#32 : FVec Ideal S_ .f32) := hcst19
  have e58 : val (.of main_v58 : TRef sig ⟨S512x4096, .f32⟩) V = unif (val main_call4.v22 V) := by
    refine u34.trans ?_
    simp only [u33, u32, u31, u30, u29, u28, u27, u26, u26c, u25, u24, u23, u23c, u3, u2, u1, u0, e0, e1, id]
    rfl
  have e84 : val (.of main_v84 : TRef sig ⟨S512x4096x1, .i1⟩) V = broadcastInDim S512x4096x1 ![0, 1] bcast_S512x4096_S512x4096x1_0_1
      (andi (val (.of main_v78 : TRef sig ⟨S512x4096, .i1⟩) V) (noti (cmpf .une (lead (val (.of main_arg0 : TRef sig ⟨S512x4096x6, .f32⟩) V)) (lead (val (.of main_arg0 : TRef sig ⟨S512x4096x6, .f32⟩) V))))) := by
    refine hv84.trans ?_
    simp only [hv83, hv82, hv81, hv80, hv79]
    rfl
  have e86 : val (.of main_v86 : TRef sig ⟨S512x4096x6, .f32⟩) V = broadcastInDim S512x4096x6 ![0, 1, 2] bcast_S1x1x6_S512x4096x6_0_1_2
      (broadcastInDim S1x1x6 ![2] bcast_S6_S1x1x6_2 (val (.of main_arg1 : TRef sig ⟨S6, .f32⟩) V)) := by
    refine hv86.trans ?_
    simp only [hv85]
  have e22 : val main_call4.v22 V = Host.shrui (val main_call4.v20 V) (broadcastInDim S512x4096 ![] bcast_S_S512x4096 (constantI S_ 32 9#32)) := by
    refine u22.trans ?_
    rw [u21, u20c]
    try rfl
  refine ⟨?_, hindices, ?_, ?_, ⟨_, e22⟩, hR1, hR2, fun i => congrFun hc2 i, fun i => congrFun hc3 i, fun i => congrFun hc4 i, fun i => congrFun hc5 i⟩
  · rw [← e57, ← e58]
    exact hv59
  · refine hv78.trans ?_
    simp only [hv60, hc20, j76, hv74, hv73, hv67, hv64, hv62, hv61, hv63, hc21, hv66, hv65, hc22, hv75, hv72, hv69, hv68, hc23, hv71, hv70, hc24, hv77, hc25]
    rfl
  · refine w1.trans ?_
    unfold out
    rw [← e86, w0, e84]

end Cert.RefEqs

end
-- ==== Proof.Marks.lean ====
/-
  Marks counted per position, and their running sum: where the `j`-th mark of a row is `p j`, the sum up to position `c` counts the marks at most `c`.
-/
module

public import proofs.«01_k».proof.Proof.Rank
public import Idealize.ShloMosaic.Lib.Routing.OpsPair
public import Idealize.ShloMosaic.Lib.Routing.OpsSet
public import Idealize.ShloMosaic.Lib.Routing.Ops
public import Idealize.ShloMosaic.Lib.Pointwise

@[expose] public section

noncomputable section

namespace Cert.Marks

open Idealize.ShloMosaic Idealize.ShloMosaic.Routing Finset

/-- Adding one number at every hit of a list adds it as often as there are hits. -/
theorem fold_count {ι : Type} (l : List ι) (p : ι → Prop) [DecidablePred p] (v : ℕ) : ∀ z : ℕ,
    l.foldl (fun a k => if p k then IntOp.addi a (BitVec.ofNat 32 v) else a) (BitVec.ofNat 32 z) = BitVec.ofNat 32 (z + v * l.countP (fun k => decide (p k))) := by
  induction l with
  | nil => intro z; simp
  | cons k l ih =>
    intro z
    rw [List.foldl_cons]
    by_cases h : p k
    · rw [if_pos h, show IntOp.addi (BitVec.ofNat 32 z) (BitVec.ofNat 32 v) = BitVec.ofNat 32 (z + v) from (BitVec.ofNat_add z v).symm, ih,
        List.countP_cons_of_pos (by simpa using h), Nat.mul_succ]
      congr 1
      omega
    · rw [if_neg h, ih, List.countP_cons_of_neg (by simpa using h)]

/-- The hits of the list of all places are as many as the places that are hit. -/
theorem count_card {N : ℕ} (p : Fin N → Prop) [DecidablePred p] : (List.finRange N).countP (fun k => decide (p k)) = #{k | p k} := by
  rw [List.countP_eq_length_filter]
  rfl

/-- Which updates land at one element. -/
theorem lands {R C B : ℕ} (d : ScatterDims ⟨2, ![R, C]⟩ ⟨3, ![R, B, 2]⟩ ⟨2, ![R, B]⟩) (hiw : d.insertedWindowDims = [0, 1])
    (hsd : d.scatterDimsToOperandDims = [0, 1]) (hivd : d.indexVectorDim = 2) (idx : IVec ⟨3, ![R, B, 2]⟩ 32)
    (p : Fin R → Fin B → ℕ) (h0 : ∀ a b, (idx (ix3 a b 0)).toInt = (a.val : ℤ)) (h1 : ∀ a b, (idx (ix3 a b 1)).toInt = (p a b : ℤ)) (r : Fin R) (c : Fin C)
    (a : Fin R) (b : Fin B) : d.resultIdx? (ix2 a b) idx = some (ix2 r c) ↔ a = r ∧ p a b = c.val := by
  have := scatter_lands2 d hiw hsd hivd idx a b r c
  simp only [ix2_eq_valueIdx] at this ⊢
  refine this.trans ?_
  rw [show (idx (ValueIdx.ix3 a b 0)).toInt = _ from h0 a b, show (idx (ValueIdx.ix3 a b 1)).toInt = _ from h1 a b, Fin.ext_iff]
  omega

/-- Adding `v` at each row's marks adds `v` times their number. -/
theorem scatter_count {R C B : ℕ} (d : ScatterDims ⟨2, ![R, C]⟩ ⟨3, ![R, B, 2]⟩ ⟨2, ![R, B]⟩) (hiw : d.insertedWindowDims = [0, 1])
    (hsd : d.scatterDimsToOperandDims = [0, 1]) (hivd : d.indexVectorDim = 2) (x0 : IVec ⟨2, ![R, C]⟩ 32) (idx : IVec ⟨3, ![R, B, 2]⟩ 32) (upd : IVec ⟨2, ![R, B]⟩ 32)
    (v : ℕ) (hu : ∀ i, upd i = BitVec.ofNat 32 v) (p : Fin R → Fin B → ℕ) (h0 : ∀ a b, (idx (ix3 a b 0)).toInt = (a.val : ℤ))
    (h1 : ∀ a b, (idx (ix3 a b 1)).toInt = (p a b : ℤ)) (r : Fin R) (c : Fin C) (z : ℕ) (hz : x0 (ix2 r c) = BitVec.ofNat 32 z) :
    Host.scatter d IntOp.addi x0 idx upd (ix2 r c) = BitVec.ofNat 32 (z + v * #{j | p r j = c.val}) := by
  have hl := lands d hiw hsd hivd idx p h0 h1 r c
  rw [scatter_at]
  simp only [hu]
  rw [hz, fold_count, count_card]
  congr 3
  refine Finset.card_nbij' (fun n => (((⟨2, ![R, B]⟩ : Shape).rowMajor.symm n) 1 : Fin B)) (fun j => (⟨2, ![R, B]⟩ : Shape).rowMajor (ix2 r j)) ?_ ?_ ?_ ?_
  · intro n hn
    simp only [coe_filter, mem_univ, true_and, Set.mem_setOf_eq] at hn ⊢
    rw [eq_ix2 ((⟨2, ![R, B]⟩ : Shape).rowMajor.symm n)] at hn
    exact ((hl _ _).mp hn).1 ▸ ((hl _ _).mp hn).2
  · intro j hj
    simp only [coe_filter, mem_univ, true_and, Set.mem_setOf_eq] at hj ⊢
    rw [Equiv.symm_apply_apply]
    exact (hl _ _).mpr ⟨rfl, hj⟩
  · intro n hn
    simp only [coe_filter, mem_univ, true_and, Set.mem_setOf_eq] at hn
    rw [Equiv.apply_eq_iff_eq_symm_apply]
    rw [eq_ix2 ((⟨2, ![R, B]⟩ : Shape).rowMajor.symm n)] at hn ⊢
    rw [((hl _ _).mp hn).1]
  · intro j _
    dsimp only
    rw [Equiv.symm_apply_apply]
    rfl

/-- The running sum along the rows, as a window of the whole length reads it. -/
theorem window_sum {R N M : ℕ} (hN : M + 1 = N) (x : IVec ⟨2, ![R, N]⟩ 32) (f : Fin R → ℕ → ℕ) (hx : ∀ r (i : Fin N), x (ix2 r i) = BitVec.ofNat 32 (f r i.val))
    (init : IVec ⟨0, ![]⟩ 32) (hi : ∀ i, init i = 0#32) (h : (⟨2, ![R, N]⟩ : Shape).ReduceWindows (![1, N] : Fin 2 → ℕ) ![1, 1] ![0, M] ![0, 0] ⟨2, ![R, N]⟩)
    (hu : 0 < (⟨0, ![]⟩ : Shape).numel) (r : Fin R) (j : Fin N) :
    Host.reduceWindow IntOp.addi ![1, N] ![1, 1] ![0, M] ![0, 0] x init h hu (ix2 r j) = BitVec.ofNat 32 (∑ i : Fin N, if i ≤ j then f r i.val else 0) := by
  subst hN
  unfold Host.reduceWindow
  dsimp only
  rw [hi]
  refine (foldl_addi_ofNat _ _ (fun n => if M ≤ j.val + (((⟨2, ![1, M + 1]⟩ : Shape).rowMajor.symm n) 1).val then f r (j.val + (((⟨2, ![1, M + 1]⟩ : Shape).rowMajor.symm n) 1).val - M) else 0)
    (fun n _ => ?_) _ 0 rfl).trans ?_
  · have hw0 : ((⟨2, ![1, M + 1]⟩ : Shape).rowMajor.symm n 0).val = 0 := by
      have := ((⟨2, ![1, M + 1]⟩ : Shape).rowMajor.symm n 0).isLt
      change ((⟨2, ![1, M + 1]⟩ : Shape).rowMajor.symm n 0).val < 1 at this
      omega
    have hw1 : ((⟨2, ![1, M + 1]⟩ : Shape).rowMajor.symm n 1).val < M + 1 := ((⟨2, ![1, M + 1]⟩ : Shape).rowMajor.symm n 1).isLt
    split
    · next hin =>
      have h1 : M ≤ j.val * 1 + ((⟨2, ![1, M + 1]⟩ : Shape).rowMajor.symm n 1).val ∧ j.val * 1 + ((⟨2, ![1, M + 1]⟩ : Shape).rowMajor.symm n 1).val - M < M + 1 := hin 1
      rw [if_pos (by omega)]
      refine (congrArg x (funext fun a => Fin.ext ?_)).trans (hx r ⟨j.val + ((⟨2, ![1, M + 1]⟩ : Shape).rowMajor.symm n 1).val - M, by omega⟩)
      match a with
      | ⟨0, _⟩ =>
        show r.val * 1 + ((⟨2, ![1, M + 1]⟩ : Shape).rowMajor.symm n 0).val - 0 = r.val
        omega
      | ⟨1, _⟩ =>
        show j.val * 1 + ((⟨2, ![1, M + 1]⟩ : Shape).rowMajor.symm n 1).val - M = j.val + ((⟨2, ![1, M + 1]⟩ : Shape).rowMajor.symm n 1).val - M
        omega
    · next hin =>
      rw [if_neg fun hle => hin fun a => by
        have := r.isLt
        have := j.isLt
        match a with
        | ⟨0, _⟩ =>
          show 0 ≤ r.val * 1 + ((⟨2, ![1, M + 1]⟩ : Shape).rowMajor.symm n 0).val ∧ r.val * 1 + ((⟨2, ![1, M + 1]⟩ : Shape).rowMajor.symm n 0).val - 0 < R
          omega
        | ⟨1, _⟩ =>
          show M ≤ j.val * 1 + ((⟨2, ![1, M + 1]⟩ : Shape).rowMajor.symm n 1).val ∧ j.val * 1 + ((⟨2, ![1, M + 1]⟩ : Shape).rowMajor.symm n 1).val - M < M + 1
          omega]
  congr 1
  rw [Nat.zero_add]
  have hs : ∀ g : (⟨2, ![1, M + 1]⟩ : Shape).Idx → ℕ, ((List.finRange _).map fun n => g ((⟨2, ![1, M + 1]⟩ : Shape).rowMajor.symm n)).sum = ∑ w, g w := by
    intro g
    rw [← Equiv.sum_comp (⟨2, ![1, M + 1]⟩ : Shape).rowMajor.symm g]
    rfl
  rw [hs fun w => if M ≤ j.val + (w 1).val then f r (j.val + (w 1).val - M) else 0, ValueIdx.sum_idx2, Fin.sum_univ_one]
  rw [← sum_filter, ← sum_filter]
  have hj := j.isLt
  refine sum_nbij' (fun b => ⟨j.val + b.val - M, by have := b.isLt; omega⟩) (fun i => ⟨(i.val + M - j.val) % (M + 1), Nat.mod_lt _ (by omega)⟩) ?_ ?_ ?_ ?_ ?_
  · intro b hb
    rw [mem_filter] at hb ⊢
    have hb2 : M ≤ j.val + b.val := hb.2
    have := b.isLt
    exact ⟨mem_univ _, Fin.le_def.mpr (show j.val + b.val - M ≤ j.val by omega)⟩
  · intro i hi'
    rw [mem_filter] at hi' ⊢
    have := Fin.le_def.mp hi'.2
    refine ⟨mem_univ _, ?_⟩
    show M ≤ j.val + (i.val + M - j.val) % (M + 1)
    rw [Nat.mod_eq_of_lt (by omega)]; omega
  · intro b hb
    rw [mem_filter] at hb
    have hb2 : M ≤ j.val + b.val := hb.2
    have := b.isLt
    refine Fin.ext ?_
    show (j.val + b.val - M + M - j.val) % (M + 1) = b.val
    rw [Nat.mod_eq_of_lt (by omega)]; omega
  · intro i hi'
    rw [mem_filter] at hi'
    have := Fin.le_def.mp hi'.2
    refine Fin.ext ?_
    show j.val + (i.val + M - j.val) % (M + 1) - M = i.val
    rw [Nat.mod_eq_of_lt (by omega)]; omega
  · intro b _
    rfl

/-- The marks of a stretch of positions, counted position by position. -/
theorem sum_count {B N : ℕ} (p : Fin B → ℕ) (c : Fin N) : (∑ i : Fin N, if i ≤ c then #{j | p j = i.val} else 0) = #{j | p j ≤ c.val} := by
  have h : ∀ i : Fin N, (if i ≤ c then #{j | p j = i.val} else 0) = ∑ j, if p j = i.val ∧ i ≤ c then 1 else 0 := by
    intro i
    by_cases hi : i ≤ c
    · rw [if_pos hi, card_filter]; simp [hi]
    · rw [if_neg hi]; simp [hi]
  rw [sum_congr rfl fun i _ => h i, sum_comm, card_filter]
  refine sum_congr rfl fun j _ => ?_
  by_cases hj : p j ≤ c.val
  · rw [if_pos hj, sum_eq_single ⟨p j, lt_of_le_of_lt hj c.isLt⟩]
    · rw [if_pos ⟨rfl, hj⟩]
    · intro i _ hi
      exact if_neg fun h' => hi (Fin.ext h'.1.symm)
    · intro h'; exact absurd (mem_univ _) h'
  · rw [if_neg hj]
    refine sum_eq_zero fun i _ => if_neg fun h' => hj ?_
    rw [h'.1]; exact h'.2

/-- Setting at each row's marks: the value where a mark is, the operand elsewhere. -/
theorem scatter_set {α : Type} {R C B : ℕ} (d : ScatterDims ⟨2, ![R, C]⟩ ⟨3, ![R, B, 2]⟩ ⟨2, ![R, B]⟩) (hiw : d.insertedWindowDims = [0, 1])
    (hsd : d.scatterDimsToOperandDims = [0, 1]) (hivd : d.indexVectorDim = 2) (x0 : (⟨2, ![R, C]⟩ : Shape).Idx → α) (idx : IVec ⟨3, ![R, B, 2]⟩ 32) (upd : (⟨2, ![R, B]⟩ : Shape).Idx → α)
    (v : α) (hu : ∀ i, upd i = v) (p : Fin R → Fin B → ℕ) (h0 : ∀ a b, (idx (ix3 a b 0)).toInt = (a.val : ℤ))
    (h1 : ∀ a b, (idx (ix3 a b 1)).toInt = (p a b : ℤ)) (r : Fin R) (c : Fin C) [Decidable (∃ k, p r k = c.val)] :
    Host.scatter d (fun _ b => b) x0 idx upd (ix2 r c) = if ∃ k, p r k = c.val then v else x0 (ix2 r c) := by
  have hl : ∀ (a : Fin R) (b : Fin B), d.resultIdx? (ix2 a b) idx = some (ix2 r c) ↔ a = r ∧ p a b = c.val := lands d hiw hsd hivd idx p h0 h1 r c
  split
  · next hk =>
    obtain ⟨k, hk⟩ := hk
    exact scatter_set_hit d x0 idx upd _ _ (fun _ _ => hu _) (ix2 r k) ((hl _ _).mpr ⟨rfl, hk⟩)
  · next hk =>
    refine scatter_set_miss d x0 idx upd _ fun k hk' => hk ?_
    rw [eq_ix2 k] at hk'
    obtain ⟨h, h'⟩ := (hl _ _).mp hk'
    exact ⟨k 1, h ▸ h'⟩

end Cert.Marks

end
-- ==== Proof.Order.lean ====
/-
  A stable sort by decreasing key puts at place `k` the position that has `k` positions before it; the first `K` places of the sort
  are so the positions of rank below `K`.
-/
module

public import proofs.«01_k».proof.Proof.Rank
public import proofs.«01_k».proof.Proof.Num
public import Idealize.ShloMosaic.Lib.SortFacts
public import Idealize.ShloMosaic.Lib.Pointwise

@[expose] public section

noncomputable section

namespace Cert.Order

open Idealize.ShloMosaic Cert.Rank Finset

variable {n : ℕ}

/-- `a` comes before `b`: a larger key, or the same key further left. -/
def Before (key : Fin n → ℕ) (a b : Fin n) : Prop := key b < key a ∨ (key a = key b ∧ a < b)

/-- Inserting an element puts it where its key belongs. -/
theorem insert_before (key : Fin n → ℕ) (before : Fin n → Fin n → Bool) (hb : ∀ a b, before a b = true ↔ key b < key a) (a : Fin n) (l : List (Fin n))
    (hl : l.Pairwise (Before key)) (ha : ∀ b ∈ l, a < b) : (insertBefore before a l).Pairwise (Before key) := by
  induction l with
  | nil => exact List.pairwise_singleton _ _
  | cons b l ih =>
    rw [List.pairwise_cons] at hl
    unfold insertBefore
    split
    · next h =>
      rw [List.pairwise_cons]
      refine ⟨fun x hx => ?_, ih hl.2 fun c hc => ha c (List.mem_cons_of_mem _ hc)⟩
      rcases List.mem_cons.mp ((perm_insertBefore before a l).mem_iff.mp hx) with rfl | hx
      · exact Or.inl ((hb _ _).mp h)
      · exact hl.1 x hx
    · next h =>
      have hk : key b ≤ key a := by
        by_contra hc
        exact h ((hb _ _).mpr (not_le.mp hc))
      rw [List.pairwise_cons]
      refine ⟨fun x hx => ?_, List.pairwise_cons.mpr hl⟩
      have hax := ha x hx
      have hbx : key x ≤ key b := by
        rcases List.mem_cons.mp hx with rfl | hx
        · exact le_refl _
        · rcases hl.1 x hx with h' | h' <;> omega
      rcases lt_or_eq_of_le (hbx.trans hk) with h' | h'
      · exact Or.inl h'
      · exact Or.inr ⟨h'.symm, hax⟩

/-- Sorting puts the elements in the order of their keys, equal ones from left to right. -/
theorem sort_before (key : Fin n → ℕ) (before : Fin n → Fin n → Bool) (hb : ∀ a b, before a b = true ↔ key b < key a) (l : List (Fin n))
    (hl : l.Pairwise (· < ·)) : (stableSort before l).Pairwise (Before key) := by
  induction l with
  | nil => exact List.Pairwise.nil
  | cons a l ih =>
    rw [List.pairwise_cons] at hl
    unfold stableSort
    exact insert_before key before hb a _ (ih hl.2) fun b hb' => hl.1 b ((perm_stableSort before l).mem_iff.mp hb')

/-- An earlier place of the sort holds a position that comes before. -/
theorem sorted_before (key : Fin n → ℕ) (before : Fin n → Fin n → Bool) (hb : ∀ a b, before a b = true ↔ key b < key a) (i j : Fin n) (hij : i < j) :
    Before key (sortedFrom before i) (sortedFrom before j) := by
  have h := List.pairwise_iff_get.mp (sort_before key before hb (List.finRange n) (List.pairwise_lt_finRange n))
  exact h (i.cast (length_sortPositions n before).symm) (j.cast (length_sortPositions n before).symm) hij

/-- Of two positions at most one comes before the other. -/
theorem before_asymm (key : Fin n → ℕ) (a b : Fin n) (h : Before key a b) : ¬ Before key b a := by
  rintro (h' | ⟨h', h''⟩) <;> rcases h with h | ⟨h, h0⟩ <;> first | omega | exact absurd h'' (not_lt.mpr h0.le)

/-- The position at place `k` has rank `k`. -/
theorem rank_sorted (key : Fin n → ℕ) (before : Fin n → Fin n → Bool) (hb : ∀ a b, before a b = true ↔ key b < key a) (k : Fin n) :
    rank key (sortedFrom before k) = k.val := by
  have : ({d | key (sortedFrom before k) < key d ∨ (key d = key (sortedFrom before k) ∧ d < sortedFrom before k)} : Finset (Fin n))
      = (Finset.Iio k).image (sortedFrom before) := by
    ext d
    simp only [mem_filter, mem_univ, true_and, mem_image, mem_Iio]
    constructor
    · intro hd
      obtain ⟨i, rfl⟩ := sortedFrom_surjective before d
      refine ⟨i, ?_, rfl⟩
      by_contra hi
      rcases lt_or_eq_of_le (not_lt.mp hi) with h | rfl
      · exact before_asymm key _ _ (sorted_before key before hb k i h) hd
      · rcases hd with h | h
        · exact lt_irrefl _ h
        · exact lt_irrefl _ h.2
    · rintro ⟨i, hi, rfl⟩
      exact sorted_before key before hb i k hi
  unfold rank
  rw [this, card_image_of_injective _ (sortedFrom_injective before)]
  simp

/-- The first `K` places hold exactly the positions of rank below `K`. -/
theorem placed_iff (key : Fin n → ℕ) (before : Fin n → Fin n → Bool) (hb : ∀ a b, before a b = true ↔ key b < key a) (K : ℕ) (hK : K ≤ n) (c : Fin n) :
    (∃ k : Fin K, sortedFrom before (k.castLE hK) = c) ↔ rank key c < K := by
  constructor
  · rintro ⟨k, rfl⟩
    rw [rank_sorted key before hb]
    exact k.isLt
  · intro h
    obtain ⟨k, rfl⟩ := sortedFrom_surjective before c
    rw [rank_sorted key before hb] at h
    exact ⟨⟨k.val, h⟩, rfl⟩

/-- The places of the greatest of each row, read at one entry. -/
theorem topK_at {α : Type} {R N K : ℕ} (gt : α → α → BitVec 1) (x : (⟨2, ![R, N]⟩ : Shape).Idx → α) (h : (⟨2, ![R, N]⟩ : Shape).Slices (fun _ => 0) ⟨2, ![R, K]⟩)
    (hK : K ≤ N) (r : Fin R) (k : Fin K) :
    (Host.topK ⟨2, ![R, K]⟩ 1 gt x h).2 (ix2 r k)
      = BitVec.ofNat 32 (sortedFrom (fun a b => gt (x (ix2 r a)) (x (ix2 r b)) == 1#1) (k.castLE hK)).val := by
  have hal : ∀ (j : (⟨2, ![R, N]⟩ : Shape).Idx) (a : Fin N), (j 0).val = r.val → j.along 1 a = ix2 r a := by
    intro j a hj
    funext b
    match b with
    | ⟨0, _⟩ => exact Fin.ext hj
    | ⟨1, _⟩ => rfl
  unfold Host.topK Host.sort2
  dsimp only
  rw [dif_pos (show 1 < 2 by decide)]
  simp only [extractStridedSlice]
  rw [dif_pos (show 1 < 2 by decide)]
  have e : ∀ a, Shape.Idx.along (s := ⟨2, ![R, N]⟩) (fun a => ⟨0 + (ix2 r k (Fin.cast h.1.symm a)).val, by have := h.2 a; have := (ix2 r k (Fin.cast h.1.symm a)).isLt; omega⟩) 1 a = ix2 r a :=
    fun a => hal _ a (Nat.zero_add _)
  refine congrArg (BitVec.ofNat 32) (congrArg Fin.val ?_)
  refine (congrArg₂ sortedFrom (funext fun a => funext fun b => ?_) (Fin.ext (Nat.zero_add _)))
  exact congrArg₂ (fun y z => gt (x y) (x z) == 1#1) (e a) (e b)

end Cert.Order

end
-- ==== Proof.RefVal.lean ====
/-
  The reference's result at an index: the token where a position is among its row's 614 first by priority and its first
  feature is a number, the feature itself elsewhere.
-/
module

public import proofs.«01_k».proof.Proof.RefEqs
public import proofs.«01_k».proof.Proof.Marks
public import proofs.«01_k».proof.Proof.Order
public import proofs.«01_k».proof.Proof.Num

@[expose] public section

set_option maxRecDepth 65536
set_option maxHeartbeats 1000000

noncomputable section

namespace Cert.RefVal

open Idealize.ShloMosaic Finset Cert.Num Cert.RefEqs Cert.ReferenceIdeal Cert.ReferenceIdeal.Gen

/-- A number that is not negative is not wrapped around. -/
theorem keep_small (n : ℕ) (a : BitVec 32) (h : n < 2 ^ 31) :
    Scalar.select (IntOp.cmpi .slt (BitVec.ofNat 32 n) 0#32) a (BitVec.ofNat 32 n) = BitVec.ofNat 32 n := by
  refine Routing.wrap_of_lt _ _ ?_
  rw [BitVec.toNat_ofNat]
  omega

/-! ## Marks -/

/-- The row that a span is scattered to. -/
theorem pairs_row (x : IVec S512x188 32) (r : Fin 512) (j : Fin 188) : (pairs x (ix3 r j 0)).toInt = (r.val : ℤ) := by
  pointwise [pairs, join188, wrap, word188, rowIx]
  rw [keep_small _ _ (by omega), toInt_small _ (by omega)]

/-- The position that a span is scattered to. -/
theorem pairs_pos (x : IVec S512x188 32) (r : Fin 512) (j : Fin 188) (n : ℕ) (hx : x (ix2 r j) = BitVec.ofNat 32 n) (hn : n < 2 ^ 31) :
    (pairs x (ix3 r j 1)).toInt = (n : ℤ) := by
  pointwise [pairs, join188, wrap, word188]
  rw [hx, keep_small _ _ hn, toInt_small _ hn]

variable (st ln : IVec S512x188 32) (S L : Fin 512 → Fin 188 → ℕ)

/-- Where a span ends. -/
def fin (S L : Fin 512 → Fin 188 → ℕ) (r : Fin 512) (j : Fin 188) : ℕ := min (S r j + L r j) 4096

variable (hS : ∀ r j, S r j < 2 ^ 30) (hL : ∀ r j, L r j < 2 ^ 30) (hst : ∀ r j, st (ix2 r j) = BitVec.ofNat 32 (S r j)) (hln : ∀ r j, ln (ix2 r j) = BitVec.ofNat 32 (L r j))

include hS hL hst hln

/-- Where a span ends. -/
theorem ends_at (r : Fin 512) (j : Fin 188) : ends st ln (ix2 r j) = BitVec.ofNat 32 (fin S L r j) := by
  have h1 := hS r j
  have h2 := hL r j
  pointwise [ends, word188]
  rw [hst, hln, add_small]
  unfold IntOp.minsi fin
  rw [slt_small _ _ (by omega) (by omega)]
  by_cases h : S r j + L r j < 4096
  · rw [if_pos (by simpa using h), min_eq_left h.le]
  · rw [if_neg (by simpa using h), min_eq_right (by omega)]

/-- The difference array: starts minus ends at a position. -/
theorem marks_at (r : Fin 512) (c : Fin 4097) :
    marks st ln (ix2 r c) = BitVec.ofNat 32 (#{j | S r j = c.val} + 4294967295 * #{j | fin S L r j = c.val}) := by
  unfold marks
  refine Marks.scatter_count _ rfl rfl rfl _ _ _ 4294967295 (fun i => ?_) (fin S L) (fun r j => pairs_row _ r j)
    (fun r j => pairs_pos _ r j _ (ends_at st ln S L hS hL hst hln r j) (by unfold fin; omega)) r c _ ?_
  · rfl
  · unfold marks1
    refine (Marks.scatter_count _ rfl rfl rfl _ _ _ 1 (fun i => ?_) S (fun r j => pairs_row _ r j)
      (fun r j => pairs_pos _ r j _ (hst r j) (by have := hS r j; omega)) r c 0 ?_).trans ?_
    · rfl
    · rfl
    · rw [zero_add, one_mul]

/-- Its running sum: starts minus ends up to a position. -/
theorem sums_at (r : Fin 512) (c : Fin 4097) :
    sums st ln (ix2 r c) = BitVec.ofNat 32 (#{j | S r j ≤ c.val} + 4294967295 * #{j | fin S L r j ≤ c.val}) := by
  unfold sums
  refine (Marks.window_sum (by norm_num) _ (fun r i => #{j | S r j = i} + 4294967295 * #{j | fin S L r j = i})
    (fun r i => marks_at st ln S L hS hL hst hln r i) _ (fun i => rfl) _ _ r c).trans (congrArg _ ?_)
  rw [← Marks.sum_count (fun j => S r j), ← Marks.sum_count (fun j => fin S L r j), Finset.mul_sum, ← Finset.sum_add_distrib]
  refine Finset.sum_congr rfl fun i _ => ?_
  split <;> simp

omit hS hL hst hln in
theorem positive (a b : ℕ) (ha : a ≤ 188) (hb : b ≤ 188) :
    IntOp.cmpi .sgt (BitVec.ofNat 32 (a + 4294967295 * b)) 0#32 = BitVec.ofBool (decide (b < a)) := by
  have h : (BitVec.ofNat 32 (a + 4294967295 * b)).toInt = (a : ℤ) - b := by
    rw [BitVec.toInt_eq_toNat_cond, BitVec.toNat_ofNat]
    split <;> omega
  simp only [IntOp.cmpi]
  congr 1
  rw [BitVec.slt, h]
  rw [decide_eq_decide]
  simp

/-- The painted positions. -/
theorem paint_at (r : Fin 512) (c : Fin 4096) : paint st ln (ix2 r c) = ez (if Rank.painted (S r) (fin S L r) c.val then 1 else 0) := by
  unfold paint
  pointwise []
  have h := sums_at st ln S L hS hL hst hln r ⟨c.val, by omega⟩
  have hsub : ∀ q : ℕ → Prop, ∀ [DecidablePred q], ∀ f : Fin 188 → ℕ, #{j | q (f j)} ≤ 188 := fun q _ f =>
    (Finset.card_le_univ _).trans (by simp)
  refine (congrArg _ (congrArg (fun w => IntOp.cmpi .sgt w 0#32) h)).trans ?_
  rw [positive _ _ (hsub (· ≤ c.val) _) (hsub (· ≤ c.val) _)]
  show (((BitVec.ofBool _).toNat : ℝ) : EReal) = _
  by_cases hp : Rank.painted (S r) (fin S L r) c.val
  · rw [if_pos hp, decide_eq_true (show #{j | fin S L r j ≤ c.val} < #{j | S r j ≤ c.val} from hp)]
    simp [ez]
  · rw [if_neg hp, decide_eq_false (show ¬ #{j | fin S L r j ≤ c.val} < #{j | S r j ≤ c.val} from hp)]
    simp [ez]

omit hS hL hst hln

/-! ## Priorities -/

/-- The float made of 23 bits lies between one and two. -/
theorem mantissa (n : ℕ) (hn : n < 2 ^ 23) :
    Ideal.ofBits .f32 (IntOp.ori (BitVec.ofNat 32 n) 1065353216#32) = ((1 + n / 8388608 : ℝ) : EReal) := by
  have h : IntOp.ori (BitVec.ofNat 32 n) 1065353216#32 = BitVec.ofNat 32 (1065353216 + n) := by
    apply BitVec.eq_of_toNat_eq
    have := Nat.two_pow_add_eq_or_of_lt hn 127
    simp only [IntOp.ori, BitVec.toNat_or, BitVec.toNat_ofNat]
    rw [Nat.mod_eq_of_lt (by omega), Nat.mod_eq_of_lt (by omega), Nat.mod_eq_of_lt (by omega), Nat.or_comm]
    exact this.symm
  rw [h]
  simp only [Ideal.ofBits, Ideal.ieee]
  have hs : (BitVec.ofNat 32 (1065353216 + n)).extractLsb' 31 1 = 0#1 := by
    apply BitVec.eq_of_toNat_eq
    rw [BitVec.extractLsb'_toNat, BitVec.toNat_ofNat, Nat.shiftRight_eq_div_pow]
    show _ = 0
    omega
  have he : ((BitVec.ofNat 32 (1065353216 + n)).extractLsb' 23 8).toNat = 127 := by
    rw [BitVec.extractLsb'_toNat, BitVec.toNat_ofNat, Nat.shiftRight_eq_div_pow]
    omega
  have hf : ((BitVec.ofNat 32 (1065353216 + n)).extractLsb' 0 23).toNat = n := by
    rw [BitVec.extractLsb'_toNat, BitVec.toNat_ofNat, Nat.shiftRight_eq_div_pow]
    omega
  norm_num [hs, he, hf]
  have hn' : ((n : EReal)) = ((n : ℝ) : EReal) := rfl
  rw [hn', ← EReal.coe_add, ← EReal.coe_mul, ← EReal.coe_one, ← EReal.coe_add]
  congr 1
  ring

/-- Zero. -/
theorem zero_eq : Ideal.ofBits .f32 0#32 = 0 := by
  simp [Ideal.ofBits, Ideal.ieee]

/-- One. -/
theorem one_eq : Ideal.ofBits .f32 1065353216#32 = ((1 : ℝ) : EReal) := by
  simpa [IntOp.ori] using mantissa 0 (by norm_num)

/-- The random number of a position. -/
theorem unif_at (m : IVec S512x4096 32) (r : Fin 512) (c : Fin 4096) (n : ℕ) (hn : n < 2 ^ 23) (hm : m (ix2 r c) = BitVec.ofNat 32 n) :
    unif m (ix2 r c) = ((n / 8388608 : ℝ) : EReal) := by
  unfold unif bound
  pointwise []
  rw [hm, mantissa n hn, ← EReal.coe_one, ← EReal.coe_sub, ← EReal.coe_zero]
  rw [add_sub_cancel_left]
  exact max_eq_right (EReal.coe_le_coe_iff.mpr (by positivity))

/-! ## The choice -/

/-- The positions that are sorted first are those of small rank. -/
theorem first_at (v : FVec Ideal S512x4096 .f32) (r : Fin 512) (key : Fin 4096 → ℕ) (hv : ∀ c, v (ix2 r c) = ((key c / 8388608 : ℝ) : EReal)) (c : Fin 4096) :
    (∃ k : Fin 614, (first v (ix2 r k)).toInt = (c.val : ℤ)) ↔ Rank.rank key c < 614 := by
  rw [← Order.placed_iff key (fun a b => FloatOps.cmpfTotal (F := Ideal) (φ := .f32) .gt (v (ix2 r a)) (v (ix2 r b)) == 1#1) (fun a b => ?_) 614 (by norm_num) c]
  · refine exists_congr fun k => ?_
    unfold first
    rw [Order.topK_at _ _ _ (by norm_num), toInt_small _ (by omega)]
    rw [Nat.cast_inj, Fin.ext_iff]
  · rw [hv, hv]
    simp only [FloatOps.cmpfTotal, Ideal.cmpTotal]
    show ((BitVec.ofBool (decide (((key b / 8388608 : ℝ) : EReal) < ((key a / 8388608 : ℝ) : EReal))) == 1#1) = true) ↔ _
    have hlt : ((key b / 8388608 : ℝ) : EReal) < ((key a / 8388608 : ℝ) : EReal) ↔ key b < key a := by
      rw [EReal.coe_lt_coe_iff, div_lt_div_iff_of_pos_right (by norm_num), Nat.cast_lt]
    by_cases hk : key b < key a
    · rw [decide_eq_true (hlt.mpr hk)]; simp [hk]
    · rw [decide_eq_false (fun h => hk (hlt.mp h))]; simp [hk]

/-- The row that a chosen position is scattered to. -/
theorem chosen_row (r : Fin 512) (k : Fin 614) (x : IVec S512x614x1 32) :
    (join614 (broadcastInDim S512x614x1 ![0, 1] bcast_S512x614_S512x614x1_0_1 rowAt) x (ix3 r k 0)).toInt = (r.val : ℤ) := by
  pointwise [join614, rowAt, colIx]
  rw [keep_small _ _ (by omega), toInt_small _ (by omega)]

/-- A position is chosen if it is among the first. -/
theorem chosen_at (ix : IVec S512x614 32) (p : Fin 512 → Fin 614 → ℕ) (hp : ∀ r k, p r k < 2 ^ 31) (hix : ∀ r k, ix (ix2 r k) = BitVec.ofNat 32 (p r k))
    (r : Fin 512) (c : Fin 4096) [Decidable (∃ k, p r k = c.val)] : chosen ix (ix2 r c) = if ∃ k, p r k = c.val then 1#1 else 0#1 := by
  unfold chosen
  refine (Marks.scatter_set _ rfl rfl rfl _ _ _ 1#1 (fun i => rfl) p (fun r k => chosen_row r k _) (fun r k => ?_) r c).trans rfl
  pointwise [join614, posAt, word614]
  rw [hix, keep_small _ _ (hp r k), toInt_small _ (hp r k)]

/-- The result at an index. -/
theorem out_at (sel : IVec S512x4096 1) (x : FVec Ideal S512x4096x6 .f32) (t : FVec Ideal S6 .f32) (r : Fin 512) (c : Fin 4096) (f : Fin 6) :
    out sel x t (ix3 r c f)
      = Scalar.select (IntOp.andi (sel (ix2 r c)) (~~~ FloatOps.cmpf (F := Ideal) (φ := .f32) .une (x (ix3 r c 0)) (x (ix3 r c 0)))) (t (ix1 f)) (x (ix3 r c f)) := by
  unfold out lead
  pointwise []

end Cert.RefVal

end
-- ==== Proof.Bounds.lean ====
/-
  What the reference's random integers are bounded by: each lies between the lower bound and the upper one.
-/
module

public import proofs.«01_k».proof.Proof.RefEqs
public import proofs.«01_k».proof.Proof.Pick
public import proofs.«01_k».proof.Proof.Num

@[expose] public section

set_option maxRecDepth 65536
set_option maxHeartbeats 4000000

noncomputable section

namespace Cert.Bounds

open Idealize.ShloMosaic Idealize.ShloMosaic.StableHlo Cert.Line Cert.Num Cert.ReferenceIdeal Cert.ReferenceIdeal.Gen

variable {V : Valuation τ sig (Elt Ideal)}

/-- A word kept within the word's range. -/
def clipped (x : BitVec 32) : BitVec 32 := IntOp.minsi 2147483647#32 (IntOp.maxsi 2147483648#32 x)

/-- How many integers there are to draw from, at least one. -/
def base (lo hi : BitVec 32) : BitVec 32 :=
  Scalar.select (IntOp.cmpi .sle (clipped hi) (clipped lo)) 1#32 (IntOp.subi (clipped hi) (clipped lo))

/-- The number to draw from, one more when the upper bound is beyond the word's range. -/
def span (lo hi : BitVec 32) : BitVec 32 :=
  Scalar.select (IntOp.andi (IntOp.cmpi .sgt hi (clipped 2147483647#32)) (IntOp.cmpi .sgt (clipped hi) (clipped lo)))
    (IntOp.addi (base lo hi) 1#32) (base lo hi)

variable (a0 : TRef sig ⟨S2, .i32⟩) (a1 a2 : TRef sig ⟨S_, .i32⟩) (φ : fn_randint.Bufs)

/-- A drawn integer is the lower bound plus a remainder by the span. -/
theorem drawn (h : Sol V (RefLine.randint a0 a1 a2 φ).1) (lo hi : BitVec 32) (h1 : ∀ i, val a1 V i = lo) (h2 : ∀ i, val a2 V i = hi) :
    ∃ x : IVec S512x188 32, ∀ i, val φ.v73 V i = IntOp.addi (clipped lo) (Host.remui x (fun _ => span lo hi) i) := by
  have g : ∀ (k : ℕ) (o : TOp sig (Elt Ideal)), (RefLine.randint a0 a1 a2 φ).1[k]? = some o → o.Holds V := sol_get h
  have e0 : val φ.c V = constantI S_ 32 2147483647#32 := g 0 (.nullary φ.c _) rfl
  have e1 : val φ.c_0 V = constantI S_ 32 2147483648#32 := g 1 (.nullary φ.c_0 _) rfl
  have e2 : val φ.c_1 V = constantI S_ 32 2147483647#32 := g 2 (.nullary φ.c_1 _) rfl
  have e3 : val φ.call0.v0 V = maxsi (val φ.c_0 V) (val φ.c V) := g 3 (.binary φ.c_0 φ.c φ.call0.v0 maxsi) rfl
  have e4 : val φ.call0.v1 V = minsi (val φ.c_1 V) (val φ.call0.v0 V) := g 4 (.binary φ.c_1 φ.call0.v0 φ.call0.v1 minsi) rfl
  have e5 : val φ.v1 V = cmpi .sgt (val a2 V) (val φ.call0.v1 V) := g 5 (.binary a2 φ.call0.v1 φ.v1 (cmpi .sgt)) rfl
  have e6 : val φ.c_2 V = constantI S_ 32 2147483648#32 := g 6 (.nullary φ.c_2 _) rfl
  have e7 : val φ.c_3 V = constantI S_ 32 2147483647#32 := g 7 (.nullary φ.c_3 _) rfl
  have e8 : val φ.call1.v0 V = maxsi (val φ.c_2 V) (val a1 V) := g 8 (.binary φ.c_2 a1 φ.call1.v0 maxsi) rfl
  have e9 : val φ.call1.v1 V = minsi (val φ.c_3 V) (val φ.call1.v0 V) := g 9 (.binary φ.c_3 φ.call1.v0 φ.call1.v1 minsi) rfl
  have e10 : val φ.v3 V = val φ.call1.v1 V := g 10 (.unary φ.call1.v1 φ.v3 id) rfl
  have e11 : val φ.c_4 V = constantI S_ 32 2147483648#32 := g 11 (.nullary φ.c_4 _) rfl
  have e12 : val φ.c_5 V = constantI S_ 32 2147483647#32 := g 12 (.nullary φ.c_5 _) rfl
  have e13 : val φ.call2.v0 V = maxsi (val φ.c_4 V) (val a2 V) := g 13 (.binary φ.c_4 a2 φ.call2.v0 maxsi) rfl
  have e14 : val φ.call2.v1 V = minsi (val φ.c_5 V) (val φ.call2.v0 V) := g 14 (.binary φ.c_5 φ.call2.v0 φ.call2.v1 minsi) rfl
  have e15 : val φ.v5 V = val φ.call2.v1 V := g 15 (.unary φ.call2.v1 φ.v5 id) rfl
  have e16 : val φ.v6 V = broadcastInDim S1x1 ![] bcast_S_S1x1 (val φ.v3 V) := g 16 (.unary φ.v3 φ.v6 _) rfl
  have e17 : val φ.v7 V = broadcastInDim S1x1 ![] bcast_S_S1x1 (val φ.v5 V) := g 17 (.unary φ.v5 φ.v7 _) rfl
  have e47 : val φ.v47 V = subi (val φ.v7 V) (val φ.v6 V) := g 742 (.binary φ.v7 φ.v6 φ.v47 subi) rfl
  have e48 : val φ.v48 V = val φ.v47 V := g 743 (.unary φ.v47 φ.v48 id) rfl
  have e49 : val φ.v49 V = cmpi .sle (val φ.v7 V) (val φ.v6 V) := g 744 (.binary φ.v7 φ.v6 φ.v49 (cmpi .sle)) rfl
  have ec12 : val φ.c_12 V = constantI S_ 32 1#32 := g 745 (.nullary φ.c_12 _) rfl
  have e50 : val φ.v50 V = broadcastInDim S1x1 ![] bcast_S_S1x1 (val φ.c_12 V) := g 746 (.unary φ.c_12 φ.v50 _) rfl
  have e51 : val φ.v51 V = (select (val φ.v49 V) (val φ.v50 V) (val φ.v48 V) : IVec S1x1 32) := g 747 (.ternary φ.v49 φ.v50 φ.v48 φ.v51 select) rfl
  have e52 : val φ.v52 V = cmpi .sgt (val φ.v7 V) (val φ.v6 V) := g 748 (.binary φ.v7 φ.v6 φ.v52 (cmpi .sgt)) rfl
  have e53 : val φ.v53 V = broadcastInDim S1x1 ![] bcast_S_S1x1 (val φ.v1 V) := g 749 (.unary φ.v1 φ.v53 _) rfl
  have e54 : val φ.v54 V = andi (val φ.v53 V) (val φ.v52 V) := g 750 (.binary φ.v53 φ.v52 φ.v54 andi) rfl
  have ec13 : val φ.c_13 V = constantI S_ 32 1#32 := g 751 (.nullary φ.c_13 _) rfl
  have e55 : val φ.v55 V = broadcastInDim S1x1 ![] bcast_S_S1x1 (val φ.c_13 V) := g 752 (.unary φ.c_13 φ.v55 _) rfl
  have e56 : val φ.v56 V = addi (val φ.v51 V) (val φ.v55 V) := g 753 (.binary φ.v51 φ.v55 φ.v56 addi) rfl
  have e57 : val φ.v57 V = (select (val φ.v54 V) (val φ.v56 V) (val φ.v51 V) : IVec S1x1 32) := g 754 (.ternary φ.v54 φ.v56 φ.v51 φ.v57 select) rfl
  have e69 : val φ.v69 V = broadcastInDim S512x188 ![0, 1] bcast_S1x1_S512x188_0_1 (val φ.v57 V) := g 767 (.unary φ.v57 φ.v69 _) rfl
  have e70 : val φ.v70 V = Host.remui (val φ.v68 V) (val φ.v69 V) := g 768 (.binary φ.v68 φ.v69 φ.v70 Host.remui) rfl
  have e71 : val φ.v71 V = val φ.v70 V := g 769 (.unary φ.v70 φ.v71 id) rfl
  have e72 : val φ.v72 V = broadcastInDim S512x188 ![0, 1] bcast_S1x1_S512x188_0_1 (val φ.v6 V) := g 770 (.unary φ.v6 φ.v72 _) rfl
  have e73 : val φ.v73 V = addi (val φ.v72 V) (val φ.v71 V) := g 771 (.binary φ.v72 φ.v71 φ.v73 addi) rfl
  have k1 : val a1 V = constantI S_ 32 lo := funext h1
  have k2 : val a2 V = constantI S_ 32 hi := funext h2
  have k57 : val φ.v69 V = fun _ => span lo hi := by
    rw [e69, e57, e54, e56, e51, e49, e50, e48, e47, e52, e53, e55, ec13, ec12, e17, e16, e15, e14, e13, e12, e11, e10, e9, e8, e7, e6, e5, e4, e3, e2, e1, e0, k1, k2]
    rfl
  refine ⟨val φ.v68 V, fun i => ?_⟩
  rw [e73, e71, e70, k57, e72, e16, e10, e9, e8, e7, e6, k1]
  rfl

/-- A drawn integer is the lower bound plus a number below the span. -/
theorem drawn_small (h : Sol V (RefLine.randint a0 a1 a2 φ).1) (lo hi n s : ℕ) (h1 : ∀ i, val a1 V i = BitVec.ofNat 32 lo) (h2 : ∀ i, val a2 V i = BitVec.ofNat 32 hi)
    (hlo : clipped (BitVec.ofNat 32 lo) = BitVec.ofNat 32 n) (hs : span (BitVec.ofNat 32 lo) (BitVec.ofNat 32 hi) = BitVec.ofNat 32 s) (hs0 : 0 < s) (hs1 : s < 2 ^ 30) (i : S512x188.Idx) :
    ∃ k, k < s ∧ val φ.v73 V i = BitVec.ofNat 32 (n + k) := by
  obtain ⟨x, hx⟩ := drawn a0 a1 a2 φ h _ _ h1 h2
  refine ⟨(x i).toNat % s, Nat.mod_lt _ hs0, ?_⟩
  rw [hx, hlo, hs, ← add_small]
  congr 1
  show IntOp.remui .host (x i) (BitVec.ofNat 32 s) = _
  unfold IntOp.remui
  have hne : BitVec.ofNat 32 s ≠ 0 := by
    intro hz
    have := congrArg BitVec.toNat hz
    simp only [BitVec.toNat_ofNat, BitVec.ofNat_eq_ofNat] at this
    omega
  rw [if_neg hne]
  apply BitVec.eq_of_toNat_eq
  rw [BitVec.toNat_umod, BitVec.toNat_ofNat, BitVec.toNat_ofNat, Nat.mod_eq_of_lt (show s < 2 ^ 32 by omega),
    Nat.mod_eq_of_lt (show (x i).toNat % s < 2 ^ 32 from (Nat.mod_lt _ hs0).trans (by omega))]

/-- There are eight lengths to draw from. -/
theorem lengths_span : span 3#32 11#32 = 8#32 := by decide
/-- The smallest length. -/
theorem lengths_low : clipped 3#32 = 3#32 := by decide
/-- There are 4093 starts to draw from. -/
theorem starts_span : span 0#32 4093#32 = 4093#32 := by decide
/-- The smallest start. -/
theorem starts_low : clipped 0#32 = 0#32 := by decide

end Cert.Bounds

end
-- ==== Proof.RefFinal.lean ====
/-
  The reference's result from its random integers: starts, lengths and bits, small numbers all, and the selection they make.
-/
module

public import proofs.«01_k».proof.Proof.RefVal
public import proofs.«01_k».proof.Proof.Bounds

@[expose] public section

set_option maxRecDepth 65536
set_option maxHeartbeats 1000000

noncomputable section

namespace Cert.RefFinal

open Idealize.ShloMosaic Idealize.ShloMosaic.StableHlo Cert.Line Cert.Num Cert.RefVal Cert.ReferenceIdeal Cert.ReferenceIdeal.Gen

/-- Starts, lengths and bits as small numbers. -/
structure Draws (st ln : IVec S512x188 32) (bits : IVec S512x4096 32) where
  S : Fin 512 → Fin 188 → ℕ
  L : Fin 512 → Fin 188 → ℕ
  B : Fin 512 → Fin 4096 → ℕ
  hS : ∀ r j, S r j ≤ 4096
  hL : ∀ r j, L r j < 2 ^ 30
  hB : ∀ r c, B r c < 2 ^ 23
  hst : ∀ r j, st (ix2 r j) = BitVec.ofNat 32 (S r j)
  hln : ∀ r j, ln (ix2 r j) = BitVec.ofNat 32 (L r j)
  hbits : ∀ r c, bits (ix2 r c) = BitVec.ofNat 32 (B r c)

/-- Starts are small. -/
theorem Draws.hS30 {st ln : IVec S512x188 32} {bits : IVec S512x4096 32} (d : Draws st ln bits) (r : Fin 512) (j : Fin 188) : d.S r j < 2 ^ 30 := by
  have := d.hS r j
  omega

/-- The key of a position. -/
def Draws.key {st ln : IVec S512x188 32} {bits : IVec S512x4096 32} (d : Draws st ln bits) (r : Fin 512) : Fin 4096 → ℕ :=
  Rank.keyOf (d.S r) (fin d.S d.L r) (d.B r)

/-- Whether a position is selected. -/
def Draws.sel {st ln : IVec S512x188 32} {bits : IVec S512x4096 32} (d : Draws st ln bits) (r : Fin 512) (c : Fin 4096) : BitVec 1 :=
  BitVec.ofBool (decide (Rank.rank (d.key r) c < 614))

/-- A position's feature, replaced by the token's where the position is selected and its first feature is a number. -/
def replaced (s : BitVec 1) (x0 t x : Ideal .f32) : Ideal .f32 :=
  Scalar.select (IntOp.andi s (~~~ FloatOps.cmpf (F := Ideal) (φ := .f32) .une x0 x0)) t x

variable {V : Valuation τ sig (Elt Ideal)}

/-- A word shifted right by nine is below 2^23. -/
theorem shifted (x : BitVec 32) : ∃ n, n < 2 ^ 23 ∧ IntOp.shrui .host x 9#32 = BitVec.ofNat 32 n := by
  refine ⟨x.toNat / 2 ^ 9, by omega, ?_⟩
  apply BitVec.eq_of_toNat_eq
  unfold IntOp.shrui
  rw [if_pos (by decide), BitVec.toNat_ofNat, Nat.mod_eq_of_lt (by omega)]
  simp [Nat.shiftRight_eq_div_pow]

/-- The draws of the reference. -/
theorem draws (h : Sol V RefRun.line) : Nonempty (Draws (val (.of main_v15 : TRef sig ⟨S512x188, .i32⟩) V) (val (.of main_v14 : TRef sig ⟨S512x188, .i32⟩) V)
    (val main_call4.v22 V)) := by
  obtain ⟨-, -, -, -, ⟨x, hx⟩, h1, h2, c2, c3, c4, c5⟩ := RefEqs.eqs h
  have l := Bounds.drawn_small _ _ _ _ h1 3 11 3 8 c2 c3 Bounds.lengths_low Bounds.lengths_span (by norm_num) (by norm_num)
  have s := Bounds.drawn_small _ _ _ _ h2 0 4093 0 4093 c4 c5 Bounds.starts_low Bounds.starts_span (by norm_num) (by norm_num)
  have b : ∀ i, ∃ n, n < 2 ^ 23 ∧ val main_call4.v22 V i = BitVec.ofNat 32 n := fun i => by
    rw [hx]; exact shifted (x i)
  choose ln hln1 hln2 using l
  choose st hst1 hst2 using s
  choose bi hb1 hb2 using b
  exact ⟨{ S := fun r j => 0 + st (ix2 r j), L := fun r j => 3 + ln (ix2 r j), B := fun r c => bi (ix2 r c)
           hS := fun r j => by have := hst1 (ix2 r j); omega
           hL := fun r j => by have := hln1 (ix2 r j); omega
           hB := fun r c => hb1 _
           hst := fun r j => hst2 (ix2 r j)
           hln := fun r j => hln2 (ix2 r j)
           hbits := fun r c => hb2 _ }⟩

/-- The reference's result at an index. -/
theorem result_at (h : Sol V RefRun.line) (d : Draws (val (.of main_v15 : TRef sig ⟨S512x188, .i32⟩) V) (val (.of main_v14 : TRef sig ⟨S512x188, .i32⟩) V)
    (val main_call4.v22 V)) (r : Fin 512) (c : Fin 4096) (f : Fin 6) :
    val (.of main_v87 : TRef sig ⟨S512x4096x6, .f32⟩) V (ix3 r c f)
      = replaced (d.sel r c) (val (.of main_arg0 : TRef sig ⟨S512x4096x6, .f32⟩) V (ix3 r c 0)) (val (.of main_arg1 : TRef sig ⟨S6, .f32⟩) V (ix1 f))
          (val (.of main_arg0 : TRef sig ⟨S512x4096x6, .f32⟩) V (ix3 r c f)) := by
  obtain ⟨h59, hin, h78, h87, -⟩ := RefEqs.eqs h
  rw [h87, out_at]
  unfold replaced
  congr 2
  -- the priorities
  have hv : ∀ c, val (.of main_v59 : TRef sig ⟨S512x4096, .f32⟩) V (ix2 r c) = ((d.key r c / 8388608 : ℝ) : EReal) := by
    intro c
    rw [h59]
    show RefEqs.paint _ _ (ix2 r c) + RefEqs.unif _ (ix2 r c) = _
    rw [paint_at _ _ d.S d.L d.hS30 d.hL d.hst d.hln, unif_at _ r c (d.B r c) (d.hB r c) (d.hbits r c), ez, ← EReal.coe_add]
    congr 1
    unfold Draws.key Rank.keyOf
    split
    · push_cast; ring
    · push_cast; ring
  have hf := first_at _ r (d.key r) hv c
  rw [← hin] at hf
  -- the chosen positions are small numbers
  have hp : ∀ (r : Fin 512) (k : Fin 614), ∃ p, p < 2 ^ 31 ∧ val (.of main_indices : TRef sig ⟨S512x614, .i32⟩) V (ix2 r k) = BitVec.ofNat 32 p := by
    intro r k
    rw [hin]
    exact ⟨_, by omega, Order.topK_at _ _ _ (by norm_num) r k⟩
  choose p hp1 hp2 using hp
  classical
  rw [h78, chosen_at _ p hp1 hp2]
  have hiff : (∃ k, p r k = c.val) ↔ Rank.rank (d.key r) c < 614 := by
    rw [← hf]
    refine exists_congr fun k => ?_
    rw [hp2, toInt_small _ (hp1 r k), Nat.cast_inj]
  unfold Draws.sel
  by_cases hc : Rank.rank (d.key r) c < 614
  · rw [if_pos (hiff.mpr hc), decide_eq_true hc]; rfl
  · rw [if_neg (fun q => hc (hiff.mp q)), decide_eq_false hc]; rfl

end Cert.RefFinal

end
-- ==== Proof.KVal.lean ====
/-
  The marks that the kernel's region leaves, and the kernel's result from them: the same function of the random draws as
  the reference's (RefFinal.lean).
-/
module

public import proofs.«01_k».proof.Proof.KEqs
public import proofs.«01_k».proof.Proof.KTail
public import proofs.«01_k».proof.Proof.BodyVal
public import proofs.«01_k».proof.Proof.RefFinal

@[expose] public section

set_option maxRecDepth 65536
set_option maxHeartbeats 1000000

noncomputable section

namespace Cert.KVal

open Idealize.ShloMosaic Idealize.ShloMosaic.StableHlo Idealize.ShloMosaic.TcCoe Idealize.SL.Sem
open Cert.Line Cert.Num Cert.KEqs Cert.RefFinal Cert.KernelIdeal Cert.KernelIdeal.Gen Cert.FrameI

variable (m : (ℓ : Loc nD τ sig) → Buf (Elt Ideal) ℓ) (ρ : Dev nD → PrngReg) (c : Dev nD)

/-! ## What the region finds -/

/-- What the region finds is the line's effect on the launch contents. -/
theorem V0_eq : V0 m c = run KHost.line (fun b => m (c, b)) := by
  unfold V0
  rw [KHost.line_ops]

/-- What the region finds solves the line's equations. -/
theorem solved : Sol (V0 m c) KHost.line := by
  rw [V0_eq]
  exact sol_run _ 2 _ KHost.line_rising

/-- The starts, the lengths and the bits that the kernel's program draws. -/
abbrev st : IVec S512x188 32 := val (.of main_v15 : TRef sig ⟨S512x188, .i32⟩) (V0 m c)
/-- The lengths. -/
abbrev ln : IVec S512x188 32 := val (.of main_v14 : TRef sig ⟨S512x188, .i32⟩) (V0 m c)
/-- The bits. -/
abbrev bits : IVec S512x4096 32 := val (.of main_v43 : TRef sig ⟨S512x4096, .i32⟩) (V0 m c)

/-- So it solves the equations of the two stretches that compute the region's arrays. -/
theorem parts : Sol (V0 m c) KHost.part6.1 ∧ Sol (V0 m c) KHost.part8.1 := by
  have h := solved m c
  unfold KHost.line at h
  simp only [sol_append] at h
  exact ⟨h.2.2.2.2.2.2.1, h.2.2.2.2.2.2.2.2⟩

/-! ## The blocks -/

/-- The point's number. -/
def num (t : Fin cfg0.N) : Fin 8 := ⟨t.val, by have := t.isLt; have h : cfg0.N = 8 := N_0; omega⟩

/-- The block of entries at a point is the point's. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The signs are one block. -/
theorem index1 : ∀ t : Fin cfg0.N, win0_1.index t (0 : Fin 2) = 0 ∧ win0_1.index t (1 : Fin 2) = 0 :=
  (by decide +kernel : ∀ t : Fin grid0.N, _)
/-- The block of bits at a point is the point's. -/
theorem index2 : ∀ t : Fin cfg0.N, win0_2.index t (0 : Fin 2) = t.val ∧ win0_2.index t (1 : Fin 2) = 0 :=
  (by decide +kernel : ∀ t : Fin grid0.N, _)
/-- The matrix is one block. -/
theorem index3 : ∀ t : Fin cfg0.N, win0_3.index t (0 : Fin 2) = 0 ∧ win0_3.index t (1 : Fin 2) = 0 :=
  (by decide +kernel : ∀ t : Fin grid0.N, _)
/-- The matrix is one block. -/
theorem index4 : ∀ t : Fin cfg0.N, win0_4.index t (0 : Fin 2) = 0 ∧ win0_4.index t (1 : Fin 2) = 0 :=
  (by decide +kernel : ∀ t : Fin grid0.N, _)
/-- The matrix is one block. -/
theorem index5 : ∀ t : Fin cfg0.N, win0_5.index t (0 : Fin 2) = 0 ∧ win0_5.index t (1 : Fin 2) = 0 :=
  (by decide +kernel : ∀ t : Fin grid0.N, _)
/-- The block of marks at a point is the point's. -/
theorem index6 : ∀ t : Fin cfg0.N, win0_6.index t (0 : Fin 2) = t.val ∧ win0_6.index t (1 : Fin 2) = 0 :=
  (by decide +kernel : ∀ t : Fin grid0.N, _)

/-- Where an index of the block lies in the array. -/
theorem emb0 (t : Fin cfg0.N) (r : Fin 64) (j : Fin 376) : ((cfg0.win 0).blk t).view.emb (ix3 0 r j : S1x64x376.Idx) = (ix3 (num t) r j : S8x64x376.Idx) := by
  obtain ⟨e0, e1, e2⟩ := index0 t
  funext a; apply Fin.ext
  match a with
  | ⟨0, _⟩ => show win0_0.index t (0 : Fin 3) * 1 + 1 * 0 = t.val; omega
  | ⟨1, _⟩ => show win0_0.index t (1 : Fin 3) * 64 + 1 * r.val = r.val; omega
  | ⟨2, _⟩ => show win0_0.index t (2 : Fin 3) * 376 + 1 * j.val = j.val; omega

/-- Where an index of the block lies in the array. -/
theorem emb1 (t : Fin cfg0.N) (i : S1x376.Idx) : ((cfg0.win 1).blk t).view.emb i = i := by
  obtain ⟨e0, e1⟩ := index1 t
  funext a; apply Fin.ext
  match a with
  | ⟨0, _⟩ => show win0_1.index t (0 : Fin 2) * 1 + 1 * (i 0).val = (i 0).val; omega
  | ⟨1, _⟩ => show win0_1.index t (1 : Fin 2) * 376 + 1 * (i 1).val = (i 1).val; omega

/-- A row of a block, among all rows. -/
def row (t : Fin cfg0.N) (q : Fin 2048) : Fin 16384 := ⟨(num t).val * 2048 + q.val, by omega⟩

/-- Where an index of the block lies in the array. -/
theorem emb2 (t : Fin cfg0.N) (q : Fin 2048) (l : Fin 128) : ((cfg0.win 2).blk t).view.emb (ix2 q l : S2048x128.Idx) = (ix2 (row t q) l : S16384x128.Idx) := by
  obtain ⟨e0, e1⟩ := index2 t
  funext a; apply Fin.ext
  match a with
  | ⟨0, _⟩ => show win0_2.index t (0 : Fin 2) * 2048 + 1 * q.val = t.val * 2048 + q.val; omega
  | ⟨1, _⟩ => show win0_2.index t (1 : Fin 2) * 128 + 1 * l.val = l.val; omega

/-- Where an index of the block lies in the array. -/
theorem emb3 (t : Fin cfg0.N) (i : S128x128.Idx) : ((cfg0.win 3).blk t).view.emb i = i := by
  obtain ⟨e0, e1⟩ := index3 t
  funext a; apply Fin.ext
  match a with
  | ⟨0, _⟩ => show win0_3.index t (0 : Fin 2) * 128 + 1 * (i 0).val = (i 0).val; omega
  | ⟨1, _⟩ => show win0_3.index t (1 : Fin 2) * 128 + 1 * (i 1).val = (i 1).val; omega

/-- Where an index of the block lies in the array. -/
theorem emb4 (t : Fin cfg0.N) (i : S128x128.Idx) : ((cfg0.win 4).blk t).view.emb i = i := by
  obtain ⟨e0, e1⟩ := index4 t
  funext a; apply Fin.ext
  match a with
  | ⟨0, _⟩ => show win0_4.index t (0 : Fin 2) * 128 + 1 * (i 0).val = (i 0).val; omega
  | ⟨1, _⟩ => show win0_4.index t (1 : Fin 2) * 128 + 1 * (i 1).val = (i 1).val; omega

/-- Where an index of the block lies in the array. -/
theorem emb5 (t : Fin cfg0.N) (i : S32x32.Idx) : ((cfg0.win 5).blk t).view.emb i = i := by
  obtain ⟨e0, e1⟩ := index5 t
  funext a; apply Fin.ext
  match a with
  | ⟨0, _⟩ => show win0_5.index t (0 : Fin 2) * 32 + 1 * (i 0).val = (i 0).val; omega
  | ⟨1, _⟩ => show win0_5.index t (1 : Fin 2) * 32 + 1 * (i 1).val = (i 1).val; omega

/-- Where an index of the block lies in the array. -/
theorem emb6 (t : Fin cfg0.N) (q : Fin 2048) (l : Fin 128) : ((cfg0.win 6).blk t).view.emb (ix2 q l : S2048x128.Idx) = (ix2 (row t q) l : S16384x128.Idx) := by
  obtain ⟨e0, e1⟩ := index6 t
  funext a; apply Fin.ext
  match a with
  | ⟨0, _⟩ => show win0_6.index t (0 : Fin 2) * 2048 + 1 * q.val = t.val * 2048 + q.val; omega
  | ⟨1, _⟩ => show win0_6.index t (1 : Fin 2) * 128 + 1 * l.val = l.val; omega

variable (d : Draws (st m c) (ln m c) (bits m c))

/-- The block of entries, at an index. -/
theorem block0 (t : Fin cfg0.N) (r : Fin 64) (j : Fin 376) : (iblk m c 0 t : Vec Ideal S1x64x376 .i32) (ix3 0 r j)
    = BitVec.ofNat 32 (entry (d.S ⟨(num t).val * 64 + r.val, by omega⟩) (RefVal.fin d.S d.L ⟨(num t).val * 64 + r.val, by omega⟩) j) := by
  show val (.of main_v20 : TRef sig ⟨S8x64x376, .i32⟩) (V0 m c) (((cfg0.win 0).blk t).view.emb (ix3 0 r j : S1x64x376.Idx)) = _
  rw [emb0, (eqs6 (parts m c).1).1]
  exact entries_at _ _ d.S (RefVal.fin d.S d.L) d.hst (fun r j => RefVal.ends_at _ _ d.S d.L d.hS30 d.hL d.hst d.hln r j) (num t) r j

/-- The signs, at an index. -/
theorem block1 (t : Fin cfg0.N) (j : Fin 376) : (iblk m c 1 t : Vec Ideal S1x376 .f32) (ix2 0 j) = ez (sign j) := by
  show val (.of main_v24 : TRef sig ⟨S1x376, .f32⟩) (V0 m c) (((cfg0.win 1).blk t).view.emb (ix2 0 j : S1x376.Idx)) = _
  rw [emb1, (eqs6 (parts m c).1).2]
  exact signs_at j

/-- The block of bits, at an index. -/
theorem block2 (t : Fin cfg0.N) (q : Fin 2048) (l : Fin 128) : (iblk m c 2 t : Vec Ideal S2048x128 .i32) (ix2 q l)
    = BitVec.ofNat 32 (d.B ⟨(row t q).val / 32, by omega⟩ ⟨128 * ((row t q).val % 32) + l.val, by omega⟩) := by
  show val (.of main_v45 : TRef sig ⟨S16384x128, .i32⟩) (V0 m c) (((cfg0.win 2).blk t).view.emb (ix2 q l : S2048x128.Idx)) = _
  rw [emb2, (eqs8 (parts m c).2).1, words_at]
  exact d.hbits _ _

/-- The first matrix of comparisons of lanes, at an index. -/
theorem block3 (t : Fin cfg0.N) (a b : Fin 128) : (iblk m c 3 t : Vec Ideal S128x128 .f32) (ix2 a b) = ez (if a ≤ b then 1 else 0) := by
  show val (.of main_v49 : TRef sig ⟨S128x128, .f32⟩) (V0 m c) (((cfg0.win 3).blk t).view.emb (ix2 a b : S128x128.Idx)) = _
  rw [emb3, (eqs8 (parts m c).2).2.1]
  exact below128_sle a b

/-- The second matrix of comparisons of lanes, at an index. -/
theorem block4 (t : Fin cfg0.N) (a b : Fin 128) : (iblk m c 4 t : Vec Ideal S128x128 .f32) (ix2 a b) = ez (if a < b then 1 else 0) := by
  show val (.of main_v51 : TRef sig ⟨S128x128, .f32⟩) (V0 m c) (((cfg0.win 4).blk t).view.emb (ix2 a b : S128x128.Idx)) = _
  rw [emb4, (eqs8 (parts m c).2).2.2.1]
  exact below128_slt a b

/-- The matrix of comparisons of chunks, at an index. -/
theorem block5 (t : Fin cfg0.N) (a b : Fin 32) : (iblk m c 5 t : Vec Ideal S32x32 .f32) (ix2 a b) = ez (if a < b then 1 else 0) := by
  show val (.of main_v55 : TRef sig ⟨S32x32, .f32⟩) (V0 m c) (((cfg0.win 5).blk t).view.emb (ix2 a b : S32x32.Idx)) = _
  rw [emb5, (eqs8 (parts m c).2).2.2.2]
  exact below32_at a b

/-! ## The marks -/

/-- The mark of a row and lane: whether the position is selected. -/
def mark (q : Fin 16384) (l : Fin 128) : Ideal .bf16 :=
  ez (if Rank.rank (d.key ⟨q.val / 32, by omega⟩) ⟨128 * (q.val % 32) + l.val, by omega⟩ < 614 then 1 else 0)

/-- All marks. -/
def marks : FVec Ideal S16384x128 .bf16 := fun i => mark m c d (i 0) (i 1)

/-- What a point writes back is its block of the marks. -/
theorem flushed6 (t : Fin cfg0.N) : (dats m 0 c).flushed 6 t = ((cfg0.win 6).blk t).view.read (Elt Ideal) (marks m c d) := by
  show (cfg0.win 6).cut (grid0.coords t) ((dats m 0 c).after 6 t) = _
  rw [after0_6]
  funext i
  obtain ⟨q, l, rfl⟩ : ∃ (q : Fin 2048) (l : Fin 128), i = (ix2 q l : S2048x128.Idx) := ⟨i 0, i 1, eq_ix2 i⟩
  show out0_6 (iblk m c 0 t) (iblk m c 1 t) (iblk m c 2 t) (iblk m c 3 t) (iblk m c 4 t) (iblk m c 5 t) (ix2 q l)
    = marks m c d (((cfg0.win 6).blk t).view.emb (ix2 q l : S2048x128.Idx))
  rw [emb6]
  obtain ⟨r, h, rfl⟩ : ∃ (r : Fin 64) (h : Fin 32), q = ⟨r.val * 32 + h.val, by omega⟩ :=
    ⟨⟨q.val / 32, by omega⟩, ⟨q.val % 32, by omega⟩, Fin.ext (by show q.val = q.val / 32 * 32 + q.val % 32; omega)⟩
  have hrow : ∀ h : Fin 32, (⟨(row t ⟨r.val * 32 + h.val, by omega⟩).val / 32, by omega⟩ : Fin 512) = ⟨(num t).val * 64 + r.val, by omega⟩ := fun h =>
    Fin.ext (by show ((num t).val * 2048 + (r.val * 32 + h.val)) / 32 = (num t).val * 64 + r.val; omega)
  have hcol : ∀ (h : Fin 32) (l : Fin 128), (⟨128 * ((row t ⟨r.val * 32 + h.val, by omega⟩).val % 32) + l.val, by omega⟩ : Fin 4096) = ⟨128 * h.val + l.val, by omega⟩ := fun h l =>
    Fin.ext (by show 128 * (((num t).val * 2048 + (r.val * 32 + h.val)) % 32) + l.val = 128 * h.val + l.val; omega)
  rw [BodyVal.out_at (iblk m c 0 t) (iblk m c 1 t) (iblk m c 2 t) (iblk m c 3 t) (iblk m c 4 t) (iblk m c 5 t)
    (fun r j => entry (d.S ⟨(num t).val * 64 + r.val, by omega⟩) (RefVal.fin d.S d.L ⟨(num t).val * 64 + r.val, by omega⟩) j) sign
    (fun r j => by
      unfold entry
      split
      · exact d.hS _ _
      · exact min_le_right _ _)
    (block0 m c d t) (block1 m c t) (block3 m c t) (block4 m c t) (block5 m c t) (d.B ⟨(num t).val * 64 + r.val, by omega⟩) r (d.hB _)
    (fun h l => by rw [block2, hrow, hcol]) h l]
  show _ = mark m c d (row t ⟨r.val * 32 + h.val, by omega⟩) l
  unfold mark
  rw [hrow, hcol]
  have hkey : (fun c : Fin 4096 => d.B ⟨(num t).val * 64 + r.val, by omega⟩ c
      + if 0 < ∑ j, (if entry (d.S ⟨(num t).val * 64 + r.val, by omega⟩) (RefVal.fin d.S d.L ⟨(num t).val * 64 + r.val, by omega⟩) j ≤ c.val then sign j else 0) then 8388608 else 0)
      = d.key ⟨(num t).val * 64 + r.val, by omega⟩ := by
    funext c
    unfold Draws.key Rank.keyOf
    simp only [painted_iff]
  rw [hkey]

/-- The points' blocks cover the array of marks. -/
theorem covered6 (i : S16384x128.Idx) : ∃ t : Fin cfg0.N, (cfg0.win 6).flush t = true ∧ i ∈ ((cfg0.win 6).blk t).view.set := by
  have hN : cfg0.N = 8 := N_0
  obtain ⟨q, l, rfl⟩ : ∃ (q : Fin 16384) (l : Fin 128), i = (ix2 q l : S16384x128.Idx) := ⟨i 0, i 1, eq_ix2 i⟩
  refine ⟨⟨q.val / 2048, by omega⟩, flush0_6 _, ?_⟩
  have h := ((cfg0.win 6).blk (⟨q.val / 2048, by omega⟩ : Fin cfg0.N)).view.emb_mem_set (ix2 ⟨q.val % 2048, by omega⟩ l : S2048x128.Idx)
  have e : row ⟨q.val / 2048, by omega⟩ ⟨q.val % 2048, by omega⟩ = q := Fin.ext (by show q.val / 2048 * 2048 + q.val % 2048 = q.val; omega)
  have e' := emb6 ⟨q.val / 2048, by omega⟩ ⟨q.val % 2048, by omega⟩ l
  rw [e] at e'
  exact e' ▸ h

/-- The array of marks after the region. -/
theorem final6 : (dats m 0 c).arrAt 6 cfg0.N = marks m c d :=
  (dats m 0 c).arrAt_eq_of_cover 6 (marks m c d) (fun t _ => flushed6 m c d t) covered6

/-! ## The result -/

/-- The contents the operations after the region find. -/
abbrev W : Valuation τ sig (Elt Ideal) := Pipeline.withArrays (cfgs 0).spec c (V0 m c) fun w => (dats m 0 c).arrAt w (cfgs 0).N

/-- The operations after the region find the marks, -/
theorem W_v56 : W m c (Proc.devRef .tc main_v56) = marks m c d :=
  (Pipeline.withArrays_arr (cfgs 0).spec launch0.win.arr_inj c (V0 m c) (fun w => (dats m 0 c).arrAt w (cfgs 0).N) 6).trans (final6 m c d)

/-- the features as launched, -/
theorem W_arg0 : W m c (Proc.devRef .tc main_arg0) = m ((c : Thread nD τ).loc main_arg0) := by
  unfold W
  rw [Pipeline.withArrays_of_ne _ c (V0 m c) _ main_arg0 (by exact (by decide : ∀ w, Pipeline.arrRef spec0 w ≠ main_arg0)), V0_eq]
  exact run_below _ 2 _ KHost.line_rising main_arg0 (by decide)

/-- and the token as launched. -/
theorem W_arg1 : W m c (Proc.devRef .tc main_arg1) = m ((c : Thread nD τ).loc main_arg1) := by
  unfold W
  rw [Pipeline.withArrays_of_ne _ c (V0 m c) _ main_arg1 (by exact (by decide : ∀ w, Pipeline.arrRef spec0 w ≠ main_arg1)), V0_eq]
  exact run_below _ 2 _ KHost.line_rising main_arg1 (by decide)

/-- The kernel's result at an index. -/
theorem result_at (r : Fin 512) (k : Fin 4096) (f : Fin 6) :
    (Pipeline.afterTail₀ cfgs (dats m) 0 (V0 m) [hostOps1, hostOps1_1] c main_v67 : FVec Ideal S512x4096x6 .f32) (ix3 r k f)
      = replaced (d.sel r k) ((m ((c : Thread nD τ).loc main_arg0) : FVec Ideal S512x4096x6 .f32) (ix3 r k 0)) ((m ((c : Thread nD τ).loc main_arg1) : FVec Ideal S6 .f32) (ix1 f))
          ((m ((c : Thread nD τ).loc main_arg0) : FVec Ideal S512x4096x6 .f32) (ix3 r k f)) := by
  have h0 : Pipeline.afterTail₀ cfgs (dats m) 0 (V0 m) [hostOps1, hostOps1_1] c main_v67 = run KTail.line (W m c) (Proc.devRef .tc main_v67) := by
    unfold Pipeline.afterTail₀
    rw [KTail.line_ops]
  have h1 := h0.trans (KTail.run_v67 (W m c) (marks m c d) _ _ (W_v56 m c d) (W_arg0 m c) (W_arg1 m c))
  refine (congrFun h1 (ix3 r k f)).trans ?_
  rw [KTail.out_at, KTail.marked_at (marks m c d) r k (Rank.rank (d.key r) k < 614) ?_]
  · rfl
  · show mark m c d ⟨r.val * 32 + k.val / 128, by omega⟩ ⟨k.val % 128, by omega⟩ = _
    unfold mark
    have e1 : (⟨(r.val * 32 + k.val / 128) / 32, by omega⟩ : Fin 512) = r := Fin.ext (by show (r.val * 32 + k.val / 128) / 32 = r.val; omega)
    have e2 : (⟨128 * ((r.val * 32 + k.val / 128) % 32) + k.val % 128, by omega⟩ : Fin 4096) = k :=
      Fin.ext (by show 128 * ((r.val * 32 + k.val / 128) % 32) + k.val % 128 = k.val; omega)
    rw [e1, e2]

end Cert.KVal

end
-- ==== Proof.Same.lean ====
/-
  The random bits of the two programs agree: both draw them by the same functions, one printed per program, and each pair of
  functions takes equal arguments to equal results. Every statement is about any contents that solve both lines' equations.
-/
module

public import proofs.«01_k».proof.Proof.RefLine
public import proofs.«01_k».proof.Proof.KerLine

@[expose] public section

set_option maxRecDepth 65536
set_option maxHeartbeats 4000000

noncomputable section

namespace Cert.Same

open Idealize.ShloMosaic Idealize.ShloMosaic.StableHlo Idealize.ShloMosaic.TcCoe Cert.Line

variable {V : Valuation Cert.KernelIdeal.τ Cert.KernelIdeal.sig (Elt Ideal)} {V' : Valuation Cert.ReferenceIdeal.τ Cert.ReferenceIdeal.sig (Elt Ideal)}

local notation "KRef" => TRef Cert.KernelIdeal.sig
local notation "RRef" => TRef Cert.ReferenceIdeal.sig

/-- Two runs of the generator on agreeing operands agree. -/
theorem threefry2x32 {a0 : KRef ⟨Cert.KernelIdeal.S_, .i32⟩} {b0 : RRef ⟨Cert.KernelIdeal.S_, .i32⟩} {a1 : KRef ⟨Cert.KernelIdeal.S_, .i32⟩} {b1 : RRef ⟨Cert.KernelIdeal.S_, .i32⟩} {a2 : KRef ⟨Cert.KernelIdeal.S3, .i32⟩} {b2 : RRef ⟨Cert.KernelIdeal.S3, .i32⟩} {a3 : KRef ⟨Cert.KernelIdeal.S3, .i32⟩} {b3 : RRef ⟨Cert.KernelIdeal.S3, .i32⟩} {φ : Cert.KernelIdeal.fn_threefry2x32.Bufs} {ψ : Cert.ReferenceIdeal.fn_threefry2x32.Bufs} (h0 : Agree V V' a0 b0) (h1 : Agree V V' a1 b1) (h2 : Agree V V' a2 b2) (h3 : Agree V V' a3 b3) :
    Sim V V' (KerLine.threefry2x32 a0 a1 a2 a3 φ).1 (RefLine.threefry2x32 b0 b1 b2 b3 ψ).1 (Agree V V' φ.v171 ψ.v171 ∧ Agree V V' φ.v175 ψ.v175) := by
  unfold KerLine.threefry2x32 RefLine.threefry2x32
  dsimp only
  repeat (first
    | exact Sim.nil ⟨by assumption, by assumption⟩
    | refine Sim.binary (by assumption) (by assumption) fun h => ?_
    | refine Sim.unary (by assumption) fun h => ?_
    | refine Sim.nullary fun h => ?_
    | refine Sim.ternary (by assumption) (by assumption) (by assumption) fun h => ?_)

/-- Two splits of agreeing seeds agree. -/
theorem threefry_split {a0 : KRef ⟨Cert.KernelIdeal.S2, .i32⟩} {b0 : RRef ⟨Cert.KernelIdeal.S2, .i32⟩} {φ : Cert.KernelIdeal.fn_threefry_split.Bufs} {ψ : Cert.ReferenceIdeal.fn_threefry_split.Bufs} (h0 : Agree V V' a0 b0) :
    Sim V V' (KerLine.threefry_split a0 φ).1 (RefLine.threefry_split b0 ψ).1 (Agree V V' φ.v14 ψ.v14) := by
  unfold KerLine.threefry_split RefLine.threefry_split
  dsimp only
  repeat (first
    | exact Sim.nil (by assumption)
    | refine Sim.call (threefry2x32 (by assumption) (by assumption) (by assumption) (by assumption)) fun ⟨h, h'⟩ => ?_
    | refine Sim.binary (by assumption) (by assumption) fun h => ?_
    | refine Sim.unary (by assumption) fun h => ?_
    | refine Sim.nullary fun h => ?_
    | refine Sim.ternary (by assumption) (by assumption) (by assumption) fun h => ?_)

/-- Two clips of agreeing operands agree. -/
theorem clip {a0 : KRef ⟨Cert.KernelIdeal.S_, .i32⟩} {b0 : RRef ⟨Cert.KernelIdeal.S_, .i32⟩} {a1 : KRef ⟨Cert.KernelIdeal.S_, .i32⟩} {b1 : RRef ⟨Cert.KernelIdeal.S_, .i32⟩} {a2 : KRef ⟨Cert.KernelIdeal.S_, .i32⟩} {b2 : RRef ⟨Cert.KernelIdeal.S_, .i32⟩} {φ : Cert.KernelIdeal.fn_clip.Bufs} {ψ : Cert.ReferenceIdeal.fn_clip.Bufs} (h0 : Agree V V' a0 b0) (h1 : Agree V V' a1 b1) (h2 : Agree V V' a2 b2) :
    Sim V V' (KerLine.clip a0 a1 a2 φ).1 (RefLine.clip b0 b1 b2 ψ).1 (Agree V V' φ.v1 ψ.v1) := by
  unfold KerLine.clip RefLine.clip
  dsimp only
  repeat (first
    | exact Sim.nil (by assumption)
    | refine Sim.binary (by assumption) (by assumption) fun h => ?_
    | refine Sim.unary (by assumption) fun h => ?_
    | refine Sim.nullary fun h => ?_
    | refine Sim.ternary (by assumption) (by assumption) (by assumption) fun h => ?_)

/-- Two clips of agreeing operands agree. -/
theorem clip_0 {a0 : KRef ⟨Cert.KernelIdeal.S_, .i32⟩} {b0 : RRef ⟨Cert.KernelIdeal.S_, .i32⟩} {a1 : KRef ⟨Cert.KernelIdeal.S_, .i32⟩} {b1 : RRef ⟨Cert.KernelIdeal.S_, .i32⟩} {a2 : KRef ⟨Cert.KernelIdeal.S_, .i32⟩} {b2 : RRef ⟨Cert.KernelIdeal.S_, .i32⟩} {φ : Cert.KernelIdeal.fn_clip_0.Bufs} {ψ : Cert.ReferenceIdeal.fn_clip_0.Bufs} (h0 : Agree V V' a0 b0) (h1 : Agree V V' a1 b1) (h2 : Agree V V' a2 b2) :
    Sim V V' (KerLine.clip_0 a0 a1 a2 φ).1 (RefLine.clip_0 b0 b1 b2 ψ).1 (Agree V V' φ.v1 ψ.v1) := by
  unfold KerLine.clip_0 RefLine.clip_0
  dsimp only
  repeat (first
    | exact Sim.nil (by assumption)
    | refine Sim.binary (by assumption) (by assumption) fun h => ?_
    | refine Sim.unary (by assumption) fun h => ?_
    | refine Sim.nullary fun h => ?_
    | refine Sim.ternary (by assumption) (by assumption) (by assumption) fun h => ?_)

/-- Two runs of the generator on agreeing operands agree. -/
theorem threefry2x32_2 {a0 : KRef ⟨Cert.KernelIdeal.S_, .i32⟩} {b0 : RRef ⟨Cert.KernelIdeal.S_, .i32⟩} {a1 : KRef ⟨Cert.KernelIdeal.S_, .i32⟩} {b1 : RRef ⟨Cert.KernelIdeal.S_, .i32⟩} {a2 : KRef ⟨Cert.KernelIdeal.S2, .i32⟩} {b2 : RRef ⟨Cert.KernelIdeal.S2, .i32⟩} {a3 : KRef ⟨Cert.KernelIdeal.S2, .i32⟩} {b3 : RRef ⟨Cert.KernelIdeal.S2, .i32⟩} {φ : Cert.KernelIdeal.fn_threefry2x32_2.Bufs} {ψ : Cert.ReferenceIdeal.fn_threefry2x32_2.Bufs} (h0 : Agree V V' a0 b0) (h1 : Agree V V' a1 b1) (h2 : Agree V V' a2 b2) (h3 : Agree V V' a3 b3) :
    Sim V V' (KerLine.threefry2x32_2 a0 a1 a2 a3 φ).1 (RefLine.threefry2x32_2 b0 b1 b2 b3 ψ).1 (Agree V V' φ.v171 ψ.v171 ∧ Agree V V' φ.v175 ψ.v175) := by
  unfold KerLine.threefry2x32_2 RefLine.threefry2x32_2
  dsimp only
  repeat (first
    | exact Sim.nil ⟨by assumption, by assumption⟩
    | refine Sim.binary (by assumption) (by assumption) fun h => ?_
    | refine Sim.unary (by assumption) fun h => ?_
    | refine Sim.nullary fun h => ?_
    | refine Sim.ternary (by assumption) (by assumption) (by assumption) fun h => ?_)

/-- Two splits of agreeing seeds agree. -/
theorem threefry_split_1 {a0 : KRef ⟨Cert.KernelIdeal.S2, .i32⟩} {b0 : RRef ⟨Cert.KernelIdeal.S2, .i32⟩} {φ : Cert.KernelIdeal.fn_threefry_split_1.Bufs} {ψ : Cert.ReferenceIdeal.fn_threefry_split_1.Bufs} (h0 : Agree V V' a0 b0) :
    Sim V V' (KerLine.threefry_split_1 a0 φ).1 (RefLine.threefry_split_1 b0 ψ).1 (Agree V V' φ.v14 ψ.v14) := by
  unfold KerLine.threefry_split_1 RefLine.threefry_split_1
  dsimp only
  repeat (first
    | exact Sim.nil (by assumption)
    | refine Sim.call (threefry2x32_2 (by assumption) (by assumption) (by assumption) (by assumption)) fun ⟨h, h'⟩ => ?_
    | refine Sim.binary (by assumption) (by assumption) fun h => ?_
    | refine Sim.unary (by assumption) fun h => ?_
    | refine Sim.nullary fun h => ?_
    | refine Sim.ternary (by assumption) (by assumption) (by assumption) fun h => ?_)

/-- Two runs of the generator on agreeing operands agree. -/
theorem threefry2x32_3 {a0 : KRef ⟨Cert.KernelIdeal.S_, .i32⟩} {b0 : RRef ⟨Cert.KernelIdeal.S_, .i32⟩} {a1 : KRef ⟨Cert.KernelIdeal.S_, .i32⟩} {b1 : RRef ⟨Cert.KernelIdeal.S_, .i32⟩} {a2 : KRef ⟨Cert.KernelIdeal.S512x188, .i32⟩} {b2 : RRef ⟨Cert.KernelIdeal.S512x188, .i32⟩} {a3 : KRef ⟨Cert.KernelIdeal.S512x188, .i32⟩} {b3 : RRef ⟨Cert.KernelIdeal.S512x188, .i32⟩} {φ : Cert.KernelIdeal.fn_threefry2x32_3.Bufs} {ψ : Cert.ReferenceIdeal.fn_threefry2x32_3.Bufs} (h0 : Agree V V' a0 b0) (h1 : Agree V V' a1 b1) (h2 : Agree V V' a2 b2) (h3 : Agree V V' a3 b3) :
    Sim V V' (KerLine.threefry2x32_3 a0 a1 a2 a3 φ).1 (RefLine.threefry2x32_3 b0 b1 b2 b3 ψ).1 (Agree V V' φ.v171 ψ.v171 ∧ Agree V V' φ.v175 ψ.v175) := by
  unfold KerLine.threefry2x32_3 RefLine.threefry2x32_3
  dsimp only
  repeat (first
    | exact Sim.nil ⟨by assumption, by assumption⟩
    | refine Sim.binary (by assumption) (by assumption) fun h => ?_
    | refine Sim.unary (by assumption) fun h => ?_
    | refine Sim.nullary fun h => ?_
    | refine Sim.ternary (by assumption) (by assumption) (by assumption) fun h => ?_)

/-- Two draws of integers from agreeing seeds agree. -/
theorem randint {a0 : KRef ⟨Cert.KernelIdeal.S2, .i32⟩} {b0 : RRef ⟨Cert.KernelIdeal.S2, .i32⟩} {a1 : KRef ⟨Cert.KernelIdeal.S_, .i32⟩} {b1 : RRef ⟨Cert.KernelIdeal.S_, .i32⟩} {a2 : KRef ⟨Cert.KernelIdeal.S_, .i32⟩} {b2 : RRef ⟨Cert.KernelIdeal.S_, .i32⟩} {φ : Cert.KernelIdeal.fn_randint.Bufs} {ψ : Cert.ReferenceIdeal.fn_randint.Bufs} (h0 : Agree V V' a0 b0) (h1 : Agree V V' a1 b1) (h2 : Agree V V' a2 b2) :
    Sim V V' (KerLine.randint a0 a1 a2 φ).1 (RefLine.randint b0 b1 b2 ψ).1 (Agree V V' φ.v73 ψ.v73) := by
  unfold KerLine.randint RefLine.randint
  dsimp only
  repeat (first
    | exact Sim.nil (by assumption)
    | refine Sim.call (clip (by assumption) (by assumption) (by assumption)) fun h => ?_
    | refine Sim.call (clip_0 (by assumption) (by assumption) (by assumption)) fun h => ?_
    | refine Sim.call (threefry_split_1 (by assumption)) fun h => ?_
    | refine Sim.call (threefry2x32_3 (by assumption) (by assumption) (by assumption) (by assumption)) fun ⟨h, h'⟩ => ?_
    | refine Sim.binary (by assumption) (by assumption) fun h => ?_
    | refine Sim.unary (by assumption) fun h => ?_
    | refine Sim.nullary fun h => ?_
    | refine Sim.ternary (by assumption) (by assumption) (by assumption) fun h => ?_)

/-- Two runs of the generator on agreeing operands agree. -/
theorem threefry2x32_4 {a0 : KRef ⟨Cert.KernelIdeal.S_, .i32⟩} {b0 : RRef ⟨Cert.KernelIdeal.S_, .i32⟩} {a1 : KRef ⟨Cert.KernelIdeal.S_, .i32⟩} {b1 : RRef ⟨Cert.KernelIdeal.S_, .i32⟩} {a2 : KRef ⟨Cert.KernelIdeal.S512x4096, .i32⟩} {b2 : RRef ⟨Cert.KernelIdeal.S512x4096, .i32⟩} {a3 : KRef ⟨Cert.KernelIdeal.S512x4096, .i32⟩} {b3 : RRef ⟨Cert.KernelIdeal.S512x4096, .i32⟩} {φ : Cert.KernelIdeal.fn_threefry2x32_4.Bufs} {ψ : Cert.ReferenceIdeal.fn_threefry2x32_5.Bufs} (h0 : Agree V V' a0 b0) (h1 : Agree V V' a1 b1) (h2 : Agree V V' a2 b2) (h3 : Agree V V' a3 b3) :
    Sim V V' (KerLine.threefry2x32_4 a0 a1 a2 a3 φ).1 (RefLine.threefry2x32_5 b0 b1 b2 b3 ψ).1 (Agree V V' φ.v171 ψ.v171 ∧ Agree V V' φ.v175 ψ.v175) := by
  unfold KerLine.threefry2x32_4 RefLine.threefry2x32_5
  dsimp only
  repeat (first
    | exact Sim.nil ⟨by assumption, by assumption⟩
    | refine Sim.binary (by assumption) (by assumption) fun h => ?_
    | refine Sim.unary (by assumption) fun h => ?_
    | refine Sim.nullary fun h => ?_
    | refine Sim.ternary (by assumption) (by assumption) (by assumption) fun h => ?_)

end Cert.Same

end
-- ==== Proof.MainSim.lean ====
/-
  The two programs draw the same spans and the same random bits.
-/
module

public import proofs.«01_k».proof.Proof.Same
public import proofs.«01_k».proof.Proof.KHost
public import proofs.«01_k».proof.Proof.RefRun

@[expose] public section

set_option maxRecDepth 65536
set_option maxHeartbeats 8000000

noncomputable section

namespace Cert.MainSim

open Idealize.ShloMosaic Idealize.ShloMosaic.StableHlo Idealize.ShloMosaic.TcCoe Cert.Line

variable {V : Valuation Cert.KernelIdeal.τ Cert.KernelIdeal.sig (Elt Ideal)} {V' : Valuation Cert.ReferenceIdeal.τ Cert.ReferenceIdeal.sig (Elt Ideal)}
variable {τ : Topo} {sig : RefSig} {τ' : Topo} {sig' : RefSig} {Val : EltTy → Type} {W : Valuation τ sig Val} {W' : Valuation τ' sig' Val}
  {l : List (TOp sig Val)} {l' : List (TOp sig' Val)} {G : Prop}

/-- What is known already needs no more of either line. -/
theorem done (h : G) : Sim W W' l l' G := fun _ _ => h

/-- An operation of the first line alone. -/
theorem skipL {t : TOp sig Val} (h : Sim W W' l l' G) : Sim W W' (t :: l) l' G := fun s s' => h s.2 s'

/-- An operation of the second line alone. -/
theorem skipR {t : TOp sig' Val} (h : Sim W W' l l' G) : Sim W W' l (t :: l') G := fun s s' => h s s'.2

/-- A stretch of the second line alone. -/
theorem skipCallR {l₁ : List (TOp sig' Val)} (h : Sim W W' l l' G) : Sim W W' l (l₁ ++ l') G := fun s s' => h s (sol_append.mp s').2

/-- The two programs' lengths, starts and random bits agree. -/
theorem main_sim : Sim V V' KHost.line RefRun.line
    (Agree V V' (.of Cert.KernelIdeal.main_v14 : TRef Cert.KernelIdeal.sig ⟨Cert.KernelIdeal.S512x188, .i32⟩) (.of Cert.ReferenceIdeal.main_v14)
      ∧ Agree V V' (.of Cert.KernelIdeal.main_v15 : TRef Cert.KernelIdeal.sig ⟨Cert.KernelIdeal.S512x188, .i32⟩) (.of Cert.ReferenceIdeal.main_v15)
      ∧ Agree V V' (.of Cert.KernelIdeal.main_v43 : TRef Cert.KernelIdeal.sig ⟨Cert.KernelIdeal.S512x4096, .i32⟩) Cert.ReferenceIdeal.main_call4.v22) := by
  unfold KHost.line KHost.part0 KHost.part2 KHost.part4 KHost.part6 KHost.part8 RefRun.line RefLine.main_line
  dsimp only
  simp only [List.cons_append, List.nil_append, List.append_assoc]
  repeat (first
    | refine Sim.call (Same.threefry_split (by assumption)) fun h => ?_
    | refine Sim.call (Same.randint (by assumption) (by assumption) (by assumption)) fun h => ?_
    | with_reducible refine Sim.binary (by assumption) (by assumption) fun h => ?_
    | with_reducible refine Sim.unary (by assumption) fun h => ?_
    | with_reducible refine Sim.nullary fun h => ?_
    | with_reducible refine Sim.ternary (by assumption) (by assumption) (by assumption) fun h => ?_
    | refine Sim.unary (by assumption) fun h => ?_)
  -- the wraps, the marks and their running sums on the one side; the entries and their signs on the other
  repeat with_reducible apply skipR
  with_reducible apply skipCallR
  repeat with_reducible apply skipR
  iterate 8 with_reducible apply skipL
  unfold RefLine.uniform
  dsimp only
  simp only [List.cons_append, List.nil_append, List.append_assoc]
  iterate 4 with_reducible apply skipR
  repeat (first
    | refine Sim.call (Same.threefry2x32_4 (by assumption) (by assumption) (by assumption) (by assumption)) fun ⟨h, h'⟩ => ?_
    | with_reducible refine Sim.binary (by assumption) (by assumption) fun h => ?_
    | with_reducible refine Sim.unary (by assumption) fun h => ?_
    | with_reducible refine Sim.nullary fun h => ?_
    | with_reducible refine Sim.ternary (by assumption) (by assumption) (by assumption) fun h => ?_
    | refine Sim.unary (by assumption) fun h => ?_)
  exact done ⟨by assumption, by assumption, by assumption⟩

end Cert.MainSim

end
-- ==== Proof.Value.lean ====
/-
  The kernel and the reference compute the same: at every index both results are the same function of the same draws and
  the same arguments.
-/
module

public import proofs.«01_k».proof.Proof.KVal
public import proofs.«01_k».proof.Proof.MainSim

@[expose] public section

set_option maxRecDepth 65536
set_option maxHeartbeats 1000000

noncomputable section

namespace Cert.Value

open Idealize.ShloMosaic Idealize.ShloMosaic.StableHlo Idealize.ShloMosaic.TcCoe Idealize.SL.Sem Cert.Line Cert.RefFinal

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (ρ' : Dev ReferenceIdeal.nD → PrngReg)

/-- What the kernel's run leaves in the result's buffer. -/
abbrev result (c : Dev KernelIdeal.nD) : FVec Ideal KernelIdeal.S512x4096x6 .f32 :=
  Pipeline.afterTail₀ KernelIdeal.cfgs (FrameI.dats m) 0 (FrameI.V0 m) [KernelIdeal.Gen.hostOps1, KernelIdeal.Gen.hostOps1_1] c KernelIdeal.main_v67

/-- The kernel's run: its result and its arguments. -/
theorem run_kernel : θ_run (KernelIdeal.defs (F := Ideal)) (onTc (τ := KernelIdeal.τ) (KernelIdeal.main (F := Ideal))) ⟨m, fun _ => 0, ρ⟩ fun r =>
    ∀ c : Dev KernelIdeal.nD, r.2.mem ((c.tc : Thread KernelIdeal.nD KernelIdeal.τ).loc KernelIdeal.main_v67) = result m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1) :=
  θ_run_mono (θ_run_and (FrameI.run_main m ρ) (FrameI.frame m ρ)) fun _ h c =>
    ⟨(h.1 c).2 KernelIdeal.main_v67 (Pipeline.mem_restRefs_of KernelIdeal.main_v67 (by decide) (by decide)), h.2.1 c⟩

variable (h0 : ∀ c : Dev KernelIdeal.nD, m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1))

include h0 in
/-- The reference's result is the kernel's. -/
theorem same (c : Dev KernelIdeal.nD) :
    run RefRun.line (launchContents m' c) (Proc.devRef .tc ReferenceIdeal.main_v87) = result m c := by
  have hs : Sol (run RefRun.line (launchContents m' c)) RefRun.line := sol_run _ 2 _ RefRun.line_rising
  have k0 := (RefRun.run_arg m' c ReferenceIdeal.main_arg0 (by decide)).trans (h0 c).1
  have k1 := (RefRun.run_arg m' c ReferenceIdeal.main_arg1 (by decide)).trans (h0 c).2
  generalize run RefRun.line (launchContents m' c) = V' at hs k0 k1 ⊢
  obtain ⟨e14, e15, e22⟩ := MainSim.main_sim (KVal.solved m c) hs
  obtain ⟨d⟩ := draws hs
  have kd : ∃ d' : Draws (KVal.st m c) (KVal.ln m c) (KVal.bits m c), d'.S = d.S ∧ d'.L = d.L ∧ d'.B = d.B := by
    have e15' : val (.of ReferenceIdeal.main_v15 : TRef ReferenceIdeal.sig ⟨ReferenceIdeal.S512x188, .i32⟩) V' = KVal.st m c := e15.eq.symm
    have e14' : val (.of ReferenceIdeal.main_v14 : TRef ReferenceIdeal.sig ⟨ReferenceIdeal.S512x188, .i32⟩) V' = KVal.ln m c := e14.eq.symm
    have e22' : val ReferenceIdeal.main_call4.v22 V' = KVal.bits m c := e22.eq.symm
    exact ⟨⟨d.S, d.L, d.B, d.hS, d.hL, d.hB, fun r j => (congrFun e15' _).symm.trans (d.hst r j), fun r j => (congrFun e14' _).symm.trans (d.hln r j),
      fun r j => (congrFun e22' _).symm.trans (d.hbits r j)⟩, rfl, rfl, rfl⟩
  obtain ⟨d', hS, hL, hB⟩ := kd
  funext i
  obtain ⟨r, k, f, rfl⟩ : ∃ (r : Fin 512) (k : Fin 4096) (f : Fin 6), i = (ix3 r k f : ReferenceIdeal.S512x4096x6.Idx) := ⟨i 0, i 1, i 2, eq_ix3 i⟩
  have hr := RefFinal.result_at hs d r k f
  have hk := KVal.result_at m c d' r k f
  have hsel : d'.sel r k = d.sel r k := by
    unfold Draws.sel Draws.key
    rw [hS, hL, hB]
  refine hr.trans (Eq.trans ?_ hk.symm)
  rw [hsel, ← k0, ← k1]
  rfl

include h0 in
theorem run_reference : θ_run (ReferenceIdeal.defs (F := Ideal)) (onTc (τ := ReferenceIdeal.τ) (ReferenceIdeal.main (F := Ideal))) ⟨m', fun _ => 0, ρ'⟩ fun r =>
    ∀ c : Dev ReferenceIdeal.nD, r.2.mem ((c.tc : Thread ReferenceIdeal.nD ReferenceIdeal.τ).loc ReferenceIdeal.main_v87) = result m c
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1) :=
  θ_run_mono (θ_run_and (RefRun.run_ref m' ρ') (RefRun.frame m' ρ')) fun _ h c =>
    ⟨(h.1.1 c ReferenceIdeal.main_v87).trans (same m m' h0 c), h.2.1 c⟩

end Cert.Value

end
-- ==== Proof.lean ====
/-
  The proof of `Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.FrameK
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.FrameI
public import proofs.«01_k».proof.Proof.Gen.ReferenceIdeal
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.FrameK.frame m ρ,
  fun m ρ _ => Cert.FrameI.frame m ρ,
  fun m ρ _ => Cert.RefRun.frame m ρ,
  trivial,
  fun m g m' g' _ h => ⟨Cert.Value.result m, Cert.Value.run_kernel m g, Cert.Value.run_reference m m' g' h⟩⟩

end Cert.Proof

end
